-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_KernelDx (m : (ℓ : Loc Cert.KernelDx.nD Cert.KernelDx.τ Cert.KernelDx.sig) → Buf (Elt Bits) ℓ) : Prop :=
  True

def Pre_KernelDxIdeal (m : (ℓ : Loc Cert.KernelDxIdeal.nD Cert.KernelDxIdeal.τ Cert.KernelDxIdeal.sig) → Buf (Elt Ideal) ℓ) : Prop :=
  True

def Pre_ReferenceDxIdeal (m : (ℓ : Loc Cert.ReferenceDxIdeal.nD Cert.ReferenceDxIdeal.τ Cert.ReferenceDxIdeal.sig) → Buf (Elt Ideal) ℓ) : Prop :=
  True

def Pre_KernelDw (m : (ℓ : Loc Cert.KernelDw.nD Cert.KernelDw.τ Cert.KernelDw.sig) → Buf (Elt Bits) ℓ) : Prop :=
  True

def Pre_KernelDwIdeal (m : (ℓ : Loc Cert.KernelDwIdeal.nD Cert.KernelDwIdeal.τ Cert.KernelDwIdeal.sig) → Buf (Elt Ideal) ℓ) : Prop :=
  True

def Pre_ReferenceDwIdeal (m : (ℓ : Loc Cert.ReferenceDwIdeal.nD Cert.ReferenceDwIdeal.τ Cert.ReferenceDwIdeal.sig) → Buf (Elt Ideal) ℓ) : Prop :=
  True

def Pre_KernelDy (m : (ℓ : Loc Cert.KernelDy.nD Cert.KernelDy.τ Cert.KernelDy.sig) → Buf (Elt Bits) ℓ) : Prop :=
  True

def Pre_KernelDyIdeal (m : (ℓ : Loc Cert.KernelDyIdeal.nD Cert.KernelDyIdeal.τ Cert.KernelDyIdeal.sig) → Buf (Elt Ideal) ℓ) : Prop :=
  True

def Pre_ReferenceDyIdeal (m : (ℓ : Loc Cert.ReferenceDyIdeal.nD Cert.ReferenceDyIdeal.τ Cert.ReferenceDyIdeal.sig) → Buf (Elt Ideal) ℓ) : Prop :=
  True

def Pre_KernelDwo (m : (ℓ : Loc Cert.KernelDwo.nD Cert.KernelDwo.τ Cert.KernelDwo.sig) → Buf (Elt Bits) ℓ) : Prop :=
  True

def Pre_KernelDwoIdeal (m : (ℓ : Loc Cert.KernelDwoIdeal.nD Cert.KernelDwoIdeal.τ Cert.KernelDwoIdeal.sig) → Buf (Elt Ideal) ℓ) : Prop :=
  True

def Pre_ReferenceDwoIdeal (m : (ℓ : Loc Cert.ReferenceDwoIdeal.nD Cert.ReferenceDwoIdeal.τ Cert.ReferenceDwoIdeal.sig) → Buf (Elt Ideal) ℓ) : Prop :=
  True

def Pre_KernelDwf (m : (ℓ : Loc Cert.KernelDwf.nD Cert.KernelDwf.τ Cert.KernelDwf.sig) → Buf (Elt Bits) ℓ) : Prop :=
  True

def Pre_KernelDwfIdeal (m : (ℓ : Loc Cert.KernelDwfIdeal.nD Cert.KernelDwfIdeal.τ Cert.KernelDwfIdeal.sig) → Buf (Elt Ideal) ℓ) : Prop :=
  True

def Pre_ReferenceDwfIdeal (m : (ℓ : Loc Cert.ReferenceDwfIdeal.nD Cert.ReferenceDwfIdeal.τ Cert.ReferenceDwfIdeal.sig) → Buf (Elt Ideal) ℓ) : Prop :=
  True

def Pre_KernelMain (m : (ℓ : Loc Cert.KernelMain.nD Cert.KernelMain.τ Cert.KernelMain.sig) → Buf (Elt Bits) ℓ) : Prop :=
  True

def Pre_KernelMainIdeal (m : (ℓ : Loc Cert.KernelMainIdeal.nD Cert.KernelMainIdeal.τ Cert.KernelMainIdeal.sig) → Buf (Elt Ideal) ℓ) : Prop :=
  True

def Pre_ReferenceMainIdeal (m : (ℓ : Loc Cert.ReferenceMainIdeal.nD Cert.ReferenceMainIdeal.τ Cert.ReferenceMainIdeal.sig) → Buf (Elt Ideal) ℓ) : Prop :=
  True

def Pre_KernelFg (m : (ℓ : Loc Cert.KernelFg.nD Cert.KernelFg.τ Cert.KernelFg.sig) → Buf (Elt Bits) ℓ) : Prop :=
  True

def Pre_KernelFgIdeal (m : (ℓ : Loc Cert.KernelFgIdeal.nD Cert.KernelFgIdeal.τ Cert.KernelFgIdeal.sig) → Buf (Elt Ideal) ℓ) : Prop :=
  True

def Pre_ReferenceFgIdeal (m : (ℓ : Loc Cert.ReferenceFgIdeal.nD Cert.ReferenceFgIdeal.τ Cert.ReferenceFgIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelLn (m : (ℓ : Loc Cert.KernelLn.nD Cert.KernelLn.τ Cert.KernelLn.sig) → Buf (Elt Bits) ℓ) : Prop :=
  True

def Pre_KernelLnIdeal (m : (ℓ : Loc Cert.KernelLnIdeal.nD Cert.KernelLnIdeal.τ Cert.KernelLnIdeal.sig) → Buf (Elt Ideal) ℓ) : Prop :=
  True

def Pre_KernelLnIdeal_finite_ln [hPre_finite_ln : Cert.Pre_finite_ln.Facts] (m : (ℓ : Loc Cert.KernelLnIdeal.nD Cert.KernelLnIdeal.τ Cert.KernelLnIdeal.sig) → Buf (Elt Ideal) ℓ) : Prop :=
  ∀ c : Dev Cert.KernelLnIdeal.nD,
    (Cert.Pre_finite_ln.fn (F := Ideal) (m ((c.tc : Thread Cert.KernelLnIdeal.nD Cert.KernelLnIdeal.τ).loc Cert.KernelLnIdeal.main_arg0)) (m ((c.tc : Thread Cert.KernelLnIdeal.nD Cert.KernelLnIdeal.τ).loc Cert.KernelLnIdeal.main_arg1)) (m ((c.tc : Thread Cert.KernelLnIdeal.nD Cert.KernelLnIdeal.τ).loc Cert.KernelLnIdeal.main_arg2))).1 = (fun _ => 1#1)
    ∧ (Cert.Pre_finite_ln.fn (F := Ideal) (m ((c.tc : Thread Cert.KernelLnIdeal.nD Cert.KernelLnIdeal.τ).loc Cert.KernelLnIdeal.main_arg0)) (m ((c.tc : Thread Cert.KernelLnIdeal.nD Cert.KernelLnIdeal.τ).loc Cert.KernelLnIdeal.main_arg1)) (m ((c.tc : Thread Cert.KernelLnIdeal.nD Cert.KernelLnIdeal.τ).loc Cert.KernelLnIdeal.main_arg2))).2.1 = (fun _ => 1#1)
    ∧ (Cert.Pre_finite_ln.fn (F := Ideal) (m ((c.tc : Thread Cert.KernelLnIdeal.nD Cert.KernelLnIdeal.τ).loc Cert.KernelLnIdeal.main_arg0)) (m ((c.tc : Thread Cert.KernelLnIdeal.nD Cert.KernelLnIdeal.τ).loc Cert.KernelLnIdeal.main_arg1)) (m ((c.tc : Thread Cert.KernelLnIdeal.nD Cert.KernelLnIdeal.τ).loc Cert.KernelLnIdeal.main_arg2))).2.2 = (fun _ => 1#1)

def Pre_ReferenceLnIdeal (m : (ℓ : Loc Cert.ReferenceLnIdeal.nD Cert.ReferenceLnIdeal.τ Cert.ReferenceLnIdeal.sig) → Buf (Elt Ideal) ℓ) : Prop :=
  True

def Pre_ReferenceLnIdeal_finite_ln [hPre_finite_ln : Cert.Pre_finite_ln.Facts] (m : (ℓ : Loc Cert.ReferenceLnIdeal.nD Cert.ReferenceLnIdeal.τ Cert.ReferenceLnIdeal.sig) → Buf (Elt Ideal) ℓ) : Prop :=
  ∀ c : Dev Cert.ReferenceLnIdeal.nD,
    (Cert.Pre_finite_ln.fn (F := Ideal) (m ((c.tc : Thread Cert.ReferenceLnIdeal.nD Cert.ReferenceLnIdeal.τ).loc Cert.ReferenceLnIdeal.main_arg0)) (m ((c.tc : Thread Cert.ReferenceLnIdeal.nD Cert.ReferenceLnIdeal.τ).loc Cert.ReferenceLnIdeal.main_arg1)) (m ((c.tc : Thread Cert.ReferenceLnIdeal.nD Cert.ReferenceLnIdeal.τ).loc Cert.ReferenceLnIdeal.main_arg2))).1 = (fun _ => 1#1)
    ∧ (Cert.Pre_finite_ln.fn (F := Ideal) (m ((c.tc : Thread Cert.ReferenceLnIdeal.nD Cert.ReferenceLnIdeal.τ).loc Cert.ReferenceLnIdeal.main_arg0)) (m ((c.tc : Thread Cert.ReferenceLnIdeal.nD Cert.ReferenceLnIdeal.τ).loc Cert.ReferenceLnIdeal.main_arg1)) (m ((c.tc : Thread Cert.ReferenceLnIdeal.nD Cert.ReferenceLnIdeal.τ).loc Cert.ReferenceLnIdeal.main_arg2))).2.1 = (fun _ => 1#1)
    ∧ (Cert.Pre_finite_ln.fn (F := Ideal) (m ((c.tc : Thread Cert.ReferenceLnIdeal.nD Cert.ReferenceLnIdeal.τ).loc Cert.ReferenceLnIdeal.main_arg0)) (m ((c.tc : Thread Cert.ReferenceLnIdeal.nD Cert.ReferenceLnIdeal.τ).loc Cert.ReferenceLnIdeal.main_arg1)) (m ((c.tc : Thread Cert.ReferenceLnIdeal.nD Cert.ReferenceLnIdeal.τ).loc Cert.ReferenceLnIdeal.main_arg2))).2.2 = (fun _ => 1#1)

def Pre_KernelFwd (m : (ℓ : Loc Cert.KernelFwd.nD Cert.KernelFwd.τ Cert.KernelFwd.sig) → Buf (Elt Bits) ℓ) : Prop :=
  True

def Pre_KernelFwdIdeal (m : (ℓ : Loc Cert.KernelFwdIdeal.nD Cert.KernelFwdIdeal.τ Cert.KernelFwdIdeal.sig) → Buf (Elt Ideal) ℓ) : Prop :=
  True

def Pre_KernelFwdIdeal_finite_fwd [hPre_finite_fwd : Cert.Pre_finite_fwd.Facts] (m : (ℓ : Loc Cert.KernelFwdIdeal.nD Cert.KernelFwdIdeal.τ Cert.KernelFwdIdeal.sig) → Buf (Elt Ideal) ℓ) : Prop :=
  ∀ c : Dev Cert.KernelFwdIdeal.nD,
    (Cert.Pre_finite_fwd.fn (F := Ideal) (m ((c.tc : Thread Cert.KernelFwdIdeal.nD Cert.KernelFwdIdeal.τ).loc Cert.KernelFwdIdeal.main_arg0)) (m ((c.tc : Thread Cert.KernelFwdIdeal.nD Cert.KernelFwdIdeal.τ).loc Cert.KernelFwdIdeal.main_arg1))).1 = (fun _ => 1#1)
    ∧ (Cert.Pre_finite_fwd.fn (F := Ideal) (m ((c.tc : Thread Cert.KernelFwdIdeal.nD Cert.KernelFwdIdeal.τ).loc Cert.KernelFwdIdeal.main_arg0)) (m ((c.tc : Thread Cert.KernelFwdIdeal.nD Cert.KernelFwdIdeal.τ).loc Cert.KernelFwdIdeal.main_arg1))).2 = (fun _ => 1#1)

def Pre_ReferenceFwdIdeal (m : (ℓ : Loc Cert.ReferenceFwdIdeal.nD Cert.ReferenceFwdIdeal.τ Cert.ReferenceFwdIdeal.sig) → Buf (Elt Ideal) ℓ) : Prop :=
  True

def Pre_ReferenceFwdIdeal_finite_fwd [hPre_finite_fwd : Cert.Pre_finite_fwd.Facts] (m : (ℓ : Loc Cert.ReferenceFwdIdeal.nD Cert.ReferenceFwdIdeal.τ Cert.ReferenceFwdIdeal.sig) → Buf (Elt Ideal) ℓ) : Prop :=
  ∀ c : Dev Cert.ReferenceFwdIdeal.nD,
    (Cert.Pre_finite_fwd.fn (F := Ideal) (m ((c.tc : Thread Cert.ReferenceFwdIdeal.nD Cert.ReferenceFwdIdeal.τ).loc Cert.ReferenceFwdIdeal.main_arg0)) (m ((c.tc : Thread Cert.ReferenceFwdIdeal.nD Cert.ReferenceFwdIdeal.τ).loc Cert.ReferenceFwdIdeal.main_arg1))).1 = (fun _ => 1#1)
    ∧ (Cert.Pre_finite_fwd.fn (F := Ideal) (m ((c.tc : Thread Cert.ReferenceFwdIdeal.nD Cert.ReferenceFwdIdeal.τ).loc Cert.ReferenceFwdIdeal.main_arg0)) (m ((c.tc : Thread Cert.ReferenceFwdIdeal.nD Cert.ReferenceFwdIdeal.τ).loc Cert.ReferenceFwdIdeal.main_arg1))).2 = (fun _ => 1#1)

def Pre_KernelAdamOut (m : (ℓ : Loc Cert.KernelAdamOut.nD Cert.KernelAdamOut.τ Cert.KernelAdamOut.sig) → Buf (Elt Bits) ℓ) : Prop :=
  True

def Pre_KernelAdamOutIdeal (m : (ℓ : Loc Cert.KernelAdamOutIdeal.nD Cert.KernelAdamOutIdeal.τ Cert.KernelAdamOutIdeal.sig) → Buf (Elt Ideal) ℓ) : Prop :=
  True

def Pre_ReferenceAdamOutIdeal (m : (ℓ : Loc Cert.ReferenceAdamOutIdeal.nD Cert.ReferenceAdamOutIdeal.τ Cert.ReferenceAdamOutIdeal.sig) → Buf (Elt Ideal) ℓ) : Prop :=
  True

def Pre_KernelAdamIn (m : (ℓ : Loc Cert.KernelAdamIn.nD Cert.KernelAdamIn.τ Cert.KernelAdamIn.sig) → Buf (Elt Bits) ℓ) : Prop :=
  True

def Pre_KernelAdamInIdeal (m : (ℓ : Loc Cert.KernelAdamInIdeal.nD Cert.KernelAdamInIdeal.τ Cert.KernelAdamInIdeal.sig) → Buf (Elt Ideal) ℓ) : Prop :=
  True

def Pre_ReferenceAdamInIdeal (m : (ℓ : Loc Cert.ReferenceAdamInIdeal.nD Cert.ReferenceAdamInIdeal.τ Cert.ReferenceAdamInIdeal.sig) → Buf (Elt Ideal) ℓ) : Prop :=
  True

def Pre_KernelAdamSmall (m : (ℓ : Loc Cert.KernelAdamSmall.nD Cert.KernelAdamSmall.τ Cert.KernelAdamSmall.sig) → Buf (Elt Bits) ℓ) : Prop :=
  True

def Pre_KernelAdamSmallIdeal (m : (ℓ : Loc Cert.KernelAdamSmallIdeal.nD Cert.KernelAdamSmallIdeal.τ Cert.KernelAdamSmallIdeal.sig) → Buf (Elt Ideal) ℓ) : Prop :=
  True

def Pre_ReferenceAdamSmallIdeal (m : (ℓ : Loc Cert.ReferenceAdamSmallIdeal.nD Cert.ReferenceAdamSmallIdeal.τ Cert.ReferenceAdamSmallIdeal.sig) → Buf (Elt Ideal) ℓ) : Prop :=
  True

def Pre_KernelSums (m : (ℓ : Loc Cert.KernelSums.nD Cert.KernelSums.τ Cert.KernelSums.sig) → Buf (Elt Bits) ℓ) : Prop :=
  True

def Pre_KernelSumsIdeal (m : (ℓ : Loc Cert.KernelSumsIdeal.nD Cert.KernelSumsIdeal.τ Cert.KernelSumsIdeal.sig) → Buf (Elt Ideal) ℓ) : Prop :=
  True

def Pre_ReferenceSumsIdeal (m : (ℓ : Loc Cert.ReferenceSumsIdeal.nD Cert.ReferenceSumsIdeal.τ Cert.ReferenceSumsIdeal.sig) → Buf (Elt Ideal) ℓ) : Prop :=
  True

def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_ReferenceLossIdeal (m : (ℓ : Loc Cert.ReferenceLossIdeal.nD Cert.ReferenceLossIdeal.τ Cert.ReferenceLossIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_KernelDx [hKernelDx : Cert.KernelDx.Facts] : Prop :=
  ∀ (m : (ℓ : Loc Cert.KernelDx.nD Cert.KernelDx.τ Cert.KernelDx.sig) → Buf (Elt Bits) ℓ) (g : Dev Cert.KernelDx.nD → PrngReg), Pre_KernelDx m →
    θ_run (Cert.KernelDx.defs (F := Bits)) (onTc (τ := Cert.KernelDx.τ) (Cert.KernelDx.main (F := Bits))) ⟨m, fun _ => 0, g⟩ (fun r => (∀ c : Dev Cert.KernelDx.nD,
      r.2.mem ((c.tc : Thread Cert.KernelDx.nD Cert.KernelDx.τ).loc Cert.KernelDx.main_arg0) = m ((c.tc : Thread Cert.KernelDx.nD Cert.KernelDx.τ).loc Cert.KernelDx.main_arg0)
      ∧ r.2.mem ((c.tc : Thread Cert.KernelDx.nD Cert.KernelDx.τ).loc Cert.KernelDx.main_arg1) = m ((c.tc : Thread Cert.KernelDx.nD Cert.KernelDx.τ).loc Cert.KernelDx.main_arg1)
      ∧ r.2.mem ((c.tc : Thread Cert.KernelDx.nD Cert.KernelDx.τ).loc Cert.KernelDx.main_arg2) = m ((c.tc : Thread Cert.KernelDx.nD Cert.KernelDx.τ).loc Cert.KernelDx.main_arg2))
      ∧ r.2.sem = fun _ => 0)

def quiescent_KernelDxIdeal [hKernelDxIdeal : Cert.KernelDxIdeal.Facts] : Prop :=
  ∀ (m : (ℓ : Loc Cert.KernelDxIdeal.nD Cert.KernelDxIdeal.τ Cert.KernelDxIdeal.sig) → Buf (Elt Ideal) ℓ) (g : Dev Cert.KernelDxIdeal.nD → PrngReg), Pre_KernelDxIdeal m →
    θ_run (Cert.KernelDxIdeal.defs (F := Ideal)) (onTc (τ := Cert.KernelDxIdeal.τ) (Cert.KernelDxIdeal.main (F := Ideal))) ⟨m, fun _ => 0, g⟩ (fun r => (∀ c : Dev Cert.KernelDxIdeal.nD,
      r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
      ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1)
      ∧ r.2.mem ((c.tc : Thread Cert.KernelDxIdeal.nD Cert.KernelDxIdeal.τ).loc Cert.KernelDxIdeal.main_arg2) = m ((c.tc : Thread Cert.KernelDxIdeal.nD Cert.KernelDxIdeal.τ).loc Cert.KernelDxIdeal.main_arg2))
      ∧ r.2.sem = fun _ => 0)

def quiescent_ReferenceDxIdeal [hReferenceDxIdeal : Cert.ReferenceDxIdeal.Facts] : Prop :=
  ∀ (m : (ℓ : Loc Cert.ReferenceDxIdeal.nD Cert.ReferenceDxIdeal.τ Cert.ReferenceDxIdeal.sig) → Buf (Elt Ideal) ℓ) (g : Dev Cert.ReferenceDxIdeal.nD → PrngReg), Pre_ReferenceDxIdeal m →
    θ_run (Cert.ReferenceDxIdeal.defs (F := Ideal)) (onTc (τ := Cert.ReferenceDxIdeal.τ) (Cert.ReferenceDxIdeal.main (F := Ideal))) ⟨m, fun _ => 0, g⟩ (fun r => (∀ c : Dev Cert.ReferenceDxIdeal.nD,
      r.2.mem ((c.tc : Thread Cert.ReferenceDxIdeal.nD Cert.ReferenceDxIdeal.τ).loc Cert.ReferenceDxIdeal.main_arg0) = m ((c.tc : Thread Cert.ReferenceDxIdeal.nD Cert.ReferenceDxIdeal.τ).loc Cert.ReferenceDxIdeal.main_arg0)
      ∧ r.2.mem ((c.tc : Thread Cert.ReferenceDxIdeal.nD Cert.ReferenceDxIdeal.τ).loc Cert.ReferenceDxIdeal.main_arg1) = m ((c.tc : Thread Cert.ReferenceDxIdeal.nD Cert.ReferenceDxIdeal.τ).loc Cert.ReferenceDxIdeal.main_arg1)
      ∧ r.2.mem ((c.tc : Thread Cert.ReferenceDxIdeal.nD Cert.ReferenceDxIdeal.τ).loc Cert.ReferenceDxIdeal.main_arg2) = m ((c.tc : Thread Cert.ReferenceDxIdeal.nD Cert.ReferenceDxIdeal.τ).loc Cert.ReferenceDxIdeal.main_arg2))
      ∧ r.2.sem = fun _ => 0)

def quiescent_KernelDw [hKernelDw : Cert.KernelDw.Facts] : Prop :=
  ∀ (m : (ℓ : Loc Cert.KernelDw.nD Cert.KernelDw.τ Cert.KernelDw.sig) → Buf (Elt Bits) ℓ) (g : Dev Cert.KernelDw.nD → PrngReg), Pre_KernelDw m →
    θ_run (Cert.KernelDw.defs (F := Bits)) (onTc (τ := Cert.KernelDw.τ) (Cert.KernelDw.main (F := Bits))) ⟨m, fun _ => 0, g⟩ (fun r => (∀ c : Dev Cert.KernelDw.nD,
      r.2.mem ((c.tc : Thread Cert.KernelDw.nD Cert.KernelDw.τ).loc Cert.KernelDw.main_arg0) = m ((c.tc : Thread Cert.KernelDw.nD Cert.KernelDw.τ).loc Cert.KernelDw.main_arg0)
      ∧ r.2.mem ((c.tc : Thread Cert.KernelDw.nD Cert.KernelDw.τ).loc Cert.KernelDw.main_arg1) = m ((c.tc : Thread Cert.KernelDw.nD Cert.KernelDw.τ).loc Cert.KernelDw.main_arg1))
      ∧ r.2.sem = fun _ => 0)

def quiescent_KernelDwIdeal [hKernelDwIdeal : Cert.KernelDwIdeal.Facts] : Prop :=
  ∀ (m : (ℓ : Loc Cert.KernelDwIdeal.nD Cert.KernelDwIdeal.τ Cert.KernelDwIdeal.sig) → Buf (Elt Ideal) ℓ) (g : Dev Cert.KernelDwIdeal.nD → PrngReg), Pre_KernelDwIdeal m →
    θ_run (Cert.KernelDwIdeal.defs (F := Ideal)) (onTc (τ := Cert.KernelDwIdeal.τ) (Cert.KernelDwIdeal.main (F := Ideal))) ⟨m, fun _ => 0, g⟩ (fun r => (∀ c : Dev Cert.KernelDwIdeal.nD,
      r.2.mem ((c.tc : Thread Cert.KernelDwIdeal.nD Cert.KernelDwIdeal.τ).loc Cert.KernelDwIdeal.main_arg0) = m ((c.tc : Thread Cert.KernelDwIdeal.nD Cert.KernelDwIdeal.τ).loc Cert.KernelDwIdeal.main_arg0)
      ∧ r.2.mem ((c.tc : Thread Cert.KernelDwIdeal.nD Cert.KernelDwIdeal.τ).loc Cert.KernelDwIdeal.main_arg1) = m ((c.tc : Thread Cert.KernelDwIdeal.nD Cert.KernelDwIdeal.τ).loc Cert.KernelDwIdeal.main_arg1))
      ∧ r.2.sem = fun _ => 0)

def quiescent_ReferenceDwIdeal [hReferenceDwIdeal : Cert.ReferenceDwIdeal.Facts] : Prop :=
  ∀ (m : (ℓ : Loc Cert.ReferenceDwIdeal.nD Cert.ReferenceDwIdeal.τ Cert.ReferenceDwIdeal.sig) → Buf (Elt Ideal) ℓ) (g : Dev Cert.ReferenceDwIdeal.nD → PrngReg), Pre_ReferenceDwIdeal m →
    θ_run (Cert.ReferenceDwIdeal.defs (F := Ideal)) (onTc (τ := Cert.ReferenceDwIdeal.τ) (Cert.ReferenceDwIdeal.main (F := Ideal))) ⟨m, fun _ => 0, g⟩ (fun r => (∀ c : Dev Cert.ReferenceDwIdeal.nD,
      r.2.mem ((c.tc : Thread Cert.ReferenceDwIdeal.nD Cert.ReferenceDwIdeal.τ).loc Cert.ReferenceDwIdeal.main_arg0) = m ((c.tc : Thread Cert.ReferenceDwIdeal.nD Cert.ReferenceDwIdeal.τ).loc Cert.ReferenceDwIdeal.main_arg0)
      ∧ r.2.mem ((c.tc : Thread Cert.ReferenceDwIdeal.nD Cert.ReferenceDwIdeal.τ).loc Cert.ReferenceDwIdeal.main_arg1) = m ((c.tc : Thread Cert.ReferenceDwIdeal.nD Cert.ReferenceDwIdeal.τ).loc Cert.ReferenceDwIdeal.main_arg1))
      ∧ r.2.sem = fun _ => 0)

def quiescent_KernelDy [hKernelDy : Cert.KernelDy.Facts] : Prop :=
  ∀ (m : (ℓ : Loc Cert.KernelDy.nD Cert.KernelDy.τ Cert.KernelDy.sig) → Buf (Elt Bits) ℓ) (g : Dev Cert.KernelDy.nD → PrngReg), Pre_KernelDy m →
    θ_run (Cert.KernelDy.defs (F := Bits)) (onTc (τ := Cert.KernelDy.τ) (Cert.KernelDy.main (F := Bits))) ⟨m, fun _ => 0, g⟩ (fun r => (∀ c : Dev Cert.KernelDy.nD,
      r.2.mem ((c.tc : Thread Cert.KernelDy.nD Cert.KernelDy.τ).loc Cert.KernelDy.main_arg0) = m ((c.tc : Thread Cert.KernelDy.nD Cert.KernelDy.τ).loc Cert.KernelDy.main_arg0)
      ∧ r.2.mem ((c.tc : Thread Cert.KernelDy.nD Cert.KernelDy.τ).loc Cert.KernelDy.main_arg1) = m ((c.tc : Thread Cert.KernelDy.nD Cert.KernelDy.τ).loc Cert.KernelDy.main_arg1))
      ∧ r.2.sem = fun _ => 0)

def quiescent_KernelDyIdeal [hKernelDyIdeal : Cert.KernelDyIdeal.Facts] : Prop :=
  ∀ (m : (ℓ : Loc Cert.KernelDyIdeal.nD Cert.KernelDyIdeal.τ Cert.KernelDyIdeal.sig) → Buf (Elt Ideal) ℓ) (g : Dev Cert.KernelDyIdeal.nD → PrngReg), Pre_KernelDyIdeal m →
    θ_run (Cert.KernelDyIdeal.defs (F := Ideal)) (onTc (τ := Cert.KernelDyIdeal.τ) (Cert.KernelDyIdeal.main (F := Ideal))) ⟨m, fun _ => 0, g⟩ (fun r => (∀ c : Dev Cert.KernelDyIdeal.nD,
      r.2.mem ((c.tc : Thread Cert.KernelDyIdeal.nD Cert.KernelDyIdeal.τ).loc Cert.KernelDyIdeal.main_arg0) = m ((c.tc : Thread Cert.KernelDyIdeal.nD Cert.KernelDyIdeal.τ).loc Cert.KernelDyIdeal.main_arg0)
      ∧ r.2.mem ((c.tc : Thread Cert.KernelDyIdeal.nD Cert.KernelDyIdeal.τ).loc Cert.KernelDyIdeal.main_arg1) = m ((c.tc : Thread Cert.KernelDyIdeal.nD Cert.KernelDyIdeal.τ).loc Cert.KernelDyIdeal.main_arg1))
      ∧ r.2.sem = fun _ => 0)

def quiescent_ReferenceDyIdeal [hReferenceDyIdeal : Cert.ReferenceDyIdeal.Facts] : Prop :=
  ∀ (m : (ℓ : Loc Cert.ReferenceDyIdeal.nD Cert.ReferenceDyIdeal.τ Cert.ReferenceDyIdeal.sig) → Buf (Elt Ideal) ℓ) (g : Dev Cert.ReferenceDyIdeal.nD → PrngReg), Pre_ReferenceDyIdeal m →
    θ_run (Cert.ReferenceDyIdeal.defs (F := Ideal)) (onTc (τ := Cert.ReferenceDyIdeal.τ) (Cert.ReferenceDyIdeal.main (F := Ideal))) ⟨m, fun _ => 0, g⟩ (fun r => (∀ c : Dev Cert.ReferenceDyIdeal.nD,
      r.2.mem ((c.tc : Thread Cert.ReferenceDyIdeal.nD Cert.ReferenceDyIdeal.τ).loc Cert.ReferenceDyIdeal.main_arg0) = m ((c.tc : Thread Cert.ReferenceDyIdeal.nD Cert.ReferenceDyIdeal.τ).loc Cert.ReferenceDyIdeal.main_arg0)
      ∧ r.2.mem ((c.tc : Thread Cert.ReferenceDyIdeal.nD Cert.ReferenceDyIdeal.τ).loc Cert.ReferenceDyIdeal.main_arg1) = m ((c.tc : Thread Cert.ReferenceDyIdeal.nD Cert.ReferenceDyIdeal.τ).loc Cert.ReferenceDyIdeal.main_arg1))
      ∧ r.2.sem = fun _ => 0)

def quiescent_KernelDwo [hKernelDwo : Cert.KernelDwo.Facts] : Prop :=
  ∀ (m : (ℓ : Loc Cert.KernelDwo.nD Cert.KernelDwo.τ Cert.KernelDwo.sig) → Buf (Elt Bits) ℓ) (g : Dev Cert.KernelDwo.nD → PrngReg), Pre_KernelDwo m →
    θ_run (Cert.KernelDwo.defs (F := Bits)) (onTc (τ := Cert.KernelDwo.τ) (Cert.KernelDwo.main (F := Bits))) ⟨m, fun _ => 0, g⟩ (fun r => (∀ c : Dev Cert.KernelDwo.nD,
      r.2.mem ((c.tc : Thread Cert.KernelDwo.nD Cert.KernelDwo.τ).loc Cert.KernelDwo.main_arg0) = m ((c.tc : Thread Cert.KernelDwo.nD Cert.KernelDwo.τ).loc Cert.KernelDwo.main_arg0)
      ∧ r.2.mem ((c.tc : Thread Cert.KernelDwo.nD Cert.KernelDwo.τ).loc Cert.KernelDwo.main_arg1) = m ((c.tc : Thread Cert.KernelDwo.nD Cert.KernelDwo.τ).loc Cert.KernelDwo.main_arg1))
      ∧ r.2.sem = fun _ => 0)

def quiescent_KernelDwoIdeal [hKernelDwoIdeal : Cert.KernelDwoIdeal.Facts] : Prop :=
  ∀ (m : (ℓ : Loc Cert.KernelDwoIdeal.nD Cert.KernelDwoIdeal.τ Cert.KernelDwoIdeal.sig) → Buf (Elt Ideal) ℓ) (g : Dev Cert.KernelDwoIdeal.nD → PrngReg), Pre_KernelDwoIdeal m →
    θ_run (Cert.KernelDwoIdeal.defs (F := Ideal)) (onTc (τ := Cert.KernelDwoIdeal.τ) (Cert.KernelDwoIdeal.main (F := Ideal))) ⟨m, fun _ => 0, g⟩ (fun r => (∀ c : Dev Cert.KernelDwoIdeal.nD,
      r.2.mem ((c.tc : Thread Cert.KernelDwoIdeal.nD Cert.KernelDwoIdeal.τ).loc Cert.KernelDwoIdeal.main_arg0) = m ((c.tc : Thread Cert.KernelDwoIdeal.nD Cert.KernelDwoIdeal.τ).loc Cert.KernelDwoIdeal.main_arg0)
      ∧ r.2.mem ((c.tc : Thread Cert.KernelDwoIdeal.nD Cert.KernelDwoIdeal.τ).loc Cert.KernelDwoIdeal.main_arg1) = m ((c.tc : Thread Cert.KernelDwoIdeal.nD Cert.KernelDwoIdeal.τ).loc Cert.KernelDwoIdeal.main_arg1))
      ∧ r.2.sem = fun _ => 0)

def quiescent_ReferenceDwoIdeal [hReferenceDwoIdeal : Cert.ReferenceDwoIdeal.Facts] : Prop :=
  ∀ (m : (ℓ : Loc Cert.ReferenceDwoIdeal.nD Cert.ReferenceDwoIdeal.τ Cert.ReferenceDwoIdeal.sig) → Buf (Elt Ideal) ℓ) (g : Dev Cert.ReferenceDwoIdeal.nD → PrngReg), Pre_ReferenceDwoIdeal m →
    θ_run (Cert.ReferenceDwoIdeal.defs (F := Ideal)) (onTc (τ := Cert.ReferenceDwoIdeal.τ) (Cert.ReferenceDwoIdeal.main (F := Ideal))) ⟨m, fun _ => 0, g⟩ (fun r => (∀ c : Dev Cert.ReferenceDwoIdeal.nD,
      r.2.mem ((c.tc : Thread Cert.ReferenceDwoIdeal.nD Cert.ReferenceDwoIdeal.τ).loc Cert.ReferenceDwoIdeal.main_arg0) = m ((c.tc : Thread Cert.ReferenceDwoIdeal.nD Cert.ReferenceDwoIdeal.τ).loc Cert.ReferenceDwoIdeal.main_arg0)
      ∧ r.2.mem ((c.tc : Thread Cert.ReferenceDwoIdeal.nD Cert.ReferenceDwoIdeal.τ).loc Cert.ReferenceDwoIdeal.main_arg1) = m ((c.tc : Thread Cert.ReferenceDwoIdeal.nD Cert.ReferenceDwoIdeal.τ).loc Cert.ReferenceDwoIdeal.main_arg1))
      ∧ r.2.sem = fun _ => 0)

def quiescent_KernelDwf [hKernelDwf : Cert.KernelDwf.Facts] : Prop :=
  ∀ (m : (ℓ : Loc Cert.KernelDwf.nD Cert.KernelDwf.τ Cert.KernelDwf.sig) → Buf (Elt Bits) ℓ) (g : Dev Cert.KernelDwf.nD → PrngReg), Pre_KernelDwf m →
    θ_run (Cert.KernelDwf.defs (F := Bits)) (onTc (τ := Cert.KernelDwf.τ) (Cert.KernelDwf.main (F := Bits))) ⟨m, fun _ => 0, g⟩ (fun r => (∀ c : Dev Cert.KernelDwf.nD,
      r.2.mem ((c.tc : Thread Cert.KernelDwf.nD Cert.KernelDwf.τ).loc Cert.KernelDwf.main_arg0) = m ((c.tc : Thread Cert.KernelDwf.nD Cert.KernelDwf.τ).loc Cert.KernelDwf.main_arg0)
      ∧ r.2.mem ((c.tc : Thread Cert.KernelDwf.nD Cert.KernelDwf.τ).loc Cert.KernelDwf.main_arg1) = m ((c.tc : Thread Cert.KernelDwf.nD Cert.KernelDwf.τ).loc Cert.KernelDwf.main_arg1))
      ∧ r.2.sem = fun _ => 0)

def quiescent_KernelDwfIdeal [hKernelDwfIdeal : Cert.KernelDwfIdeal.Facts] : Prop :=
  ∀ (m : (ℓ : Loc Cert.KernelDwfIdeal.nD Cert.KernelDwfIdeal.τ Cert.KernelDwfIdeal.sig) → Buf (Elt Ideal) ℓ) (g : Dev Cert.KernelDwfIdeal.nD → PrngReg), Pre_KernelDwfIdeal m →
    θ_run (Cert.KernelDwfIdeal.defs (F := Ideal)) (onTc (τ := Cert.KernelDwfIdeal.τ) (Cert.KernelDwfIdeal.main (F := Ideal))) ⟨m, fun _ => 0, g⟩ (fun r => (∀ c : Dev Cert.KernelDwfIdeal.nD,
      r.2.mem ((c.tc : Thread Cert.KernelDwfIdeal.nD Cert.KernelDwfIdeal.τ).loc Cert.KernelDwfIdeal.main_arg0) = m ((c.tc : Thread Cert.KernelDwfIdeal.nD Cert.KernelDwfIdeal.τ).loc Cert.KernelDwfIdeal.main_arg0)
      ∧ r.2.mem ((c.tc : Thread Cert.KernelDwfIdeal.nD Cert.KernelDwfIdeal.τ).loc Cert.KernelDwfIdeal.main_arg1) = m ((c.tc : Thread Cert.KernelDwfIdeal.nD Cert.KernelDwfIdeal.τ).loc Cert.KernelDwfIdeal.main_arg1))
      ∧ r.2.sem = fun _ => 0)

def quiescent_ReferenceDwfIdeal [hReferenceDwfIdeal : Cert.ReferenceDwfIdeal.Facts] : Prop :=
  ∀ (m : (ℓ : Loc Cert.ReferenceDwfIdeal.nD Cert.ReferenceDwfIdeal.τ Cert.ReferenceDwfIdeal.sig) → Buf (Elt Ideal) ℓ) (g : Dev Cert.ReferenceDwfIdeal.nD → PrngReg), Pre_ReferenceDwfIdeal m →
    θ_run (Cert.ReferenceDwfIdeal.defs (F := Ideal)) (onTc (τ := Cert.ReferenceDwfIdeal.τ) (Cert.ReferenceDwfIdeal.main (F := Ideal))) ⟨m, fun _ => 0, g⟩ (fun r => (∀ c : Dev Cert.ReferenceDwfIdeal.nD,
      r.2.mem ((c.tc : Thread Cert.ReferenceDwfIdeal.nD Cert.ReferenceDwfIdeal.τ).loc Cert.ReferenceDwfIdeal.main_arg0) = m ((c.tc : Thread Cert.ReferenceDwfIdeal.nD Cert.ReferenceDwfIdeal.τ).loc Cert.ReferenceDwfIdeal.main_arg0)
      ∧ r.2.mem ((c.tc : Thread Cert.ReferenceDwfIdeal.nD Cert.ReferenceDwfIdeal.τ).loc Cert.ReferenceDwfIdeal.main_arg1) = m ((c.tc : Thread Cert.ReferenceDwfIdeal.nD Cert.ReferenceDwfIdeal.τ).loc Cert.ReferenceDwfIdeal.main_arg1))
      ∧ r.2.sem = fun _ => 0)

def quiescent_KernelMain [hKernelMain : Cert.KernelMain.Facts] : Prop :=
  ∀ (m : (ℓ : Loc Cert.KernelMain.nD Cert.KernelMain.τ Cert.KernelMain.sig) → Buf (Elt Bits) ℓ) (g : Dev Cert.KernelMain.nD → PrngReg), Pre_KernelMain m →
    θ_run (Cert.KernelMain.defs (F := Bits)) (onTc (τ := Cert.KernelMain.τ) (Cert.KernelMain.main (F := Bits))) ⟨m, fun _ => 0, g⟩ (fun r => (∀ c : Dev Cert.KernelMain.nD,
      r.2.mem ((c.tc : Thread Cert.KernelMain.nD Cert.KernelMain.τ).loc Cert.KernelMain.main_arg0) = m ((c.tc : Thread Cert.KernelMain.nD Cert.KernelMain.τ).loc Cert.KernelMain.main_arg0)
      ∧ r.2.mem ((c.tc : Thread Cert.KernelMain.nD Cert.KernelMain.τ).loc Cert.KernelMain.main_arg1) = m ((c.tc : Thread Cert.KernelMain.nD Cert.KernelMain.τ).loc Cert.KernelMain.main_arg1))
      ∧ r.2.sem = fun _ => 0)

def quiescent_KernelMainIdeal [hKernelMainIdeal : Cert.KernelMainIdeal.Facts] : Prop :=
  ∀ (m : (ℓ : Loc Cert.KernelMainIdeal.nD Cert.KernelMainIdeal.τ Cert.KernelMainIdeal.sig) → Buf (Elt Ideal) ℓ) (g : Dev Cert.KernelMainIdeal.nD → PrngReg), Pre_KernelMainIdeal m →
    θ_run (Cert.KernelMainIdeal.defs (F := Ideal)) (onTc (τ := Cert.KernelMainIdeal.τ) (Cert.KernelMainIdeal.main (F := Ideal))) ⟨m, fun _ => 0, g⟩ (fun r => (∀ c : Dev Cert.KernelMainIdeal.nD,
      r.2.mem ((c.tc : Thread Cert.KernelMainIdeal.nD Cert.KernelMainIdeal.τ).loc Cert.KernelMainIdeal.main_arg0) = m ((c.tc : Thread Cert.KernelMainIdeal.nD Cert.KernelMainIdeal.τ).loc Cert.KernelMainIdeal.main_arg0)
      ∧ r.2.mem ((c.tc : Thread Cert.KernelMainIdeal.nD Cert.KernelMainIdeal.τ).loc Cert.KernelMainIdeal.main_arg1) = m ((c.tc : Thread Cert.KernelMainIdeal.nD Cert.KernelMainIdeal.τ).loc Cert.KernelMainIdeal.main_arg1))
      ∧ r.2.sem = fun _ => 0)

def quiescent_ReferenceMainIdeal [hReferenceMainIdeal : Cert.ReferenceMainIdeal.Facts] : Prop :=
  ∀ (m : (ℓ : Loc Cert.ReferenceMainIdeal.nD Cert.ReferenceMainIdeal.τ Cert.ReferenceMainIdeal.sig) → Buf (Elt Ideal) ℓ) (g : Dev Cert.ReferenceMainIdeal.nD → PrngReg), Pre_ReferenceMainIdeal m →
    θ_run (Cert.ReferenceMainIdeal.defs (F := Ideal)) (onTc (τ := Cert.ReferenceMainIdeal.τ) (Cert.ReferenceMainIdeal.main (F := Ideal))) ⟨m, fun _ => 0, g⟩ (fun r => (∀ c : Dev Cert.ReferenceMainIdeal.nD,
      r.2.mem ((c.tc : Thread Cert.ReferenceMainIdeal.nD Cert.ReferenceMainIdeal.τ).loc Cert.ReferenceMainIdeal.main_arg0) = m ((c.tc : Thread Cert.ReferenceMainIdeal.nD Cert.ReferenceMainIdeal.τ).loc Cert.ReferenceMainIdeal.main_arg0)
      ∧ r.2.mem ((c.tc : Thread Cert.ReferenceMainIdeal.nD Cert.ReferenceMainIdeal.τ).loc Cert.ReferenceMainIdeal.main_arg1) = m ((c.tc : Thread Cert.ReferenceMainIdeal.nD Cert.ReferenceMainIdeal.τ).loc Cert.ReferenceMainIdeal.main_arg1))
      ∧ r.2.sem = fun _ => 0)

def quiescent_KernelFg [hKernelFg : Cert.KernelFg.Facts] : Prop :=
  ∀ (m : (ℓ : Loc Cert.KernelFg.nD Cert.KernelFg.τ Cert.KernelFg.sig) → Buf (Elt Bits) ℓ) (g : Dev Cert.KernelFg.nD → PrngReg), Pre_KernelFg m →
    θ_run (Cert.KernelFg.defs (F := Bits)) (onTc (τ := Cert.KernelFg.τ) (Cert.KernelFg.main (F := Bits))) ⟨m, fun _ => 0, g⟩ (fun r => (∀ c : Dev Cert.KernelFg.nD,
      r.2.mem ((c.tc : Thread Cert.KernelFg.nD Cert.KernelFg.τ).loc Cert.KernelFg.main_arg0) = m ((c.tc : Thread Cert.KernelFg.nD Cert.KernelFg.τ).loc Cert.KernelFg.main_arg0)
      ∧ r.2.mem ((c.tc : Thread Cert.KernelFg.nD Cert.KernelFg.τ).loc Cert.KernelFg.main_arg1) = m ((c.tc : Thread Cert.KernelFg.nD Cert.KernelFg.τ).loc Cert.KernelFg.main_arg1))
      ∧ r.2.sem = fun _ => 0)

def quiescent_KernelFgIdeal [hKernelFgIdeal : Cert.KernelFgIdeal.Facts] : Prop :=
  ∀ (m : (ℓ : Loc Cert.KernelFgIdeal.nD Cert.KernelFgIdeal.τ Cert.KernelFgIdeal.sig) → Buf (Elt Ideal) ℓ) (g : Dev Cert.KernelFgIdeal.nD → PrngReg), Pre_KernelFgIdeal m →
    θ_run (Cert.KernelFgIdeal.defs (F := Ideal)) (onTc (τ := Cert.KernelFgIdeal.τ) (Cert.KernelFgIdeal.main (F := Ideal))) ⟨m, fun _ => 0, g⟩ (fun r => (∀ c : Dev Cert.KernelFgIdeal.nD,
      r.2.mem ((c.tc : Thread Cert.KernelFgIdeal.nD Cert.KernelFgIdeal.τ).loc Cert.KernelFgIdeal.main_arg0) = m ((c.tc : Thread Cert.KernelFgIdeal.nD Cert.KernelFgIdeal.τ).loc Cert.KernelFgIdeal.main_arg0)
      ∧ r.2.mem ((c.tc : Thread Cert.KernelFgIdeal.nD Cert.KernelFgIdeal.τ).loc Cert.KernelFgIdeal.main_arg1) = m ((c.tc : Thread Cert.KernelFgIdeal.nD Cert.KernelFgIdeal.τ).loc Cert.KernelFgIdeal.main_arg1))
      ∧ r.2.sem = fun _ => 0)

def quiescent_ReferenceFgIdeal [hReferenceFgIdeal : Cert.ReferenceFgIdeal.Facts] : Prop :=
  ∀ (m : (ℓ : Loc Cert.ReferenceFgIdeal.nD Cert.ReferenceFgIdeal.τ Cert.ReferenceFgIdeal.sig) → Buf (Elt Ideal) ℓ) (g : Dev Cert.ReferenceFgIdeal.nD → PrngReg), Pre_ReferenceFgIdeal m →
    θ_run (Cert.ReferenceFgIdeal.defs (F := Ideal)) (onTc (τ := Cert.ReferenceFgIdeal.τ) (Cert.ReferenceFgIdeal.main (F := Ideal))) ⟨m, fun _ => 0, g⟩ (fun r => (∀ c : Dev Cert.ReferenceFgIdeal.nD,
      r.2.mem ((c.tc : Thread Cert.ReferenceFgIdeal.nD Cert.ReferenceFgIdeal.τ).loc Cert.ReferenceFgIdeal.main_arg0) = m ((c.tc : Thread Cert.ReferenceFgIdeal.nD Cert.ReferenceFgIdeal.τ).loc Cert.ReferenceFgIdeal.main_arg0)
      ∧ r.2.mem ((c.tc : Thread Cert.ReferenceFgIdeal.nD Cert.ReferenceFgIdeal.τ).loc Cert.ReferenceFgIdeal.main_arg1) = m ((c.tc : Thread Cert.ReferenceFgIdeal.nD Cert.ReferenceFgIdeal.τ).loc Cert.ReferenceFgIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4))
      ∧ r.2.sem = fun _ => 0)

def quiescent_KernelLn [hKernelLn : Cert.KernelLn.Facts] : Prop :=
  ∀ (m : (ℓ : Loc Cert.KernelLn.nD Cert.KernelLn.τ Cert.KernelLn.sig) → Buf (Elt Bits) ℓ) (g : Dev Cert.KernelLn.nD → PrngReg), Pre_KernelLn m →
    θ_run (Cert.KernelLn.defs (F := Bits)) (onTc (τ := Cert.KernelLn.τ) (Cert.KernelLn.main (F := Bits))) ⟨m, fun _ => 0, g⟩ (fun r => (∀ c : Dev Cert.KernelLn.nD,
      r.2.mem ((c.tc : Thread Cert.KernelLn.nD Cert.KernelLn.τ).loc Cert.KernelLn.main_arg0) = m ((c.tc : Thread Cert.KernelLn.nD Cert.KernelLn.τ).loc Cert.KernelLn.main_arg0)
      ∧ r.2.mem ((c.tc : Thread Cert.KernelLn.nD Cert.KernelLn.τ).loc Cert.KernelLn.main_arg1) = m ((c.tc : Thread Cert.KernelLn.nD Cert.KernelLn.τ).loc Cert.KernelLn.main_arg1)
      ∧ r.2.mem ((c.tc : Thread Cert.KernelLn.nD Cert.KernelLn.τ).loc Cert.KernelLn.main_arg2) = m ((c.tc : Thread Cert.KernelLn.nD Cert.KernelLn.τ).loc Cert.KernelLn.main_arg2))
      ∧ r.2.sem = fun _ => 0)

def quiescent_KernelLnIdeal [hKernelLnIdeal : Cert.KernelLnIdeal.Facts] : Prop :=
  ∀ (m : (ℓ : Loc Cert.KernelLnIdeal.nD Cert.KernelLnIdeal.τ Cert.KernelLnIdeal.sig) → Buf (Elt Ideal) ℓ) (g : Dev Cert.KernelLnIdeal.nD → PrngReg), Pre_KernelLnIdeal m →
    θ_run (Cert.KernelLnIdeal.defs (F := Ideal)) (onTc (τ := Cert.KernelLnIdeal.τ) (Cert.KernelLnIdeal.main (F := Ideal))) ⟨m, fun _ => 0, g⟩ (fun r => (∀ c : Dev Cert.KernelLnIdeal.nD,
      r.2.mem ((c.tc : Thread Cert.KernelLnIdeal.nD Cert.KernelLnIdeal.τ).loc Cert.KernelLnIdeal.main_arg0) = m ((c.tc : Thread Cert.KernelLnIdeal.nD Cert.KernelLnIdeal.τ).loc Cert.KernelLnIdeal.main_arg0)
      ∧ r.2.mem ((c.tc : Thread Cert.KernelLnIdeal.nD Cert.KernelLnIdeal.τ).loc Cert.KernelLnIdeal.main_arg1) = m ((c.tc : Thread Cert.KernelLnIdeal.nD Cert.KernelLnIdeal.τ).loc Cert.KernelLnIdeal.main_arg1)
      ∧ r.2.mem ((c.tc : Thread Cert.KernelLnIdeal.nD Cert.KernelLnIdeal.τ).loc Cert.KernelLnIdeal.main_arg2) = m ((c.tc : Thread Cert.KernelLnIdeal.nD Cert.KernelLnIdeal.τ).loc Cert.KernelLnIdeal.main_arg2))
      ∧ r.2.sem = fun _ => 0)

def quiescent_KernelLnIdeal_pre_finite_ln [hKernelLnIdeal : Cert.KernelLnIdeal.Facts] [hPre_finite_ln : Cert.Pre_finite_ln.Facts] : Prop :=
  ∀ (m : (ℓ : Loc Cert.KernelLnIdeal.nD Cert.KernelLnIdeal.τ Cert.KernelLnIdeal.sig) → Buf (Elt Ideal) ℓ) (g : Dev Cert.KernelLnIdeal.nD → PrngReg), Pre_KernelLnIdeal_finite_ln m →
    θ_run (Cert.KernelLnIdeal.defs (F := Ideal)) (onTc (τ := Cert.KernelLnIdeal.τ) (Cert.KernelLnIdeal.main (F := Ideal))) ⟨m, fun _ => 0, g⟩ (fun r => (∀ c : Dev Cert.KernelLnIdeal.nD,
      r.2.mem ((c.tc : Thread Cert.KernelLnIdeal.nD Cert.KernelLnIdeal.τ).loc Cert.KernelLnIdeal.main_arg0) = m ((c.tc : Thread Cert.KernelLnIdeal.nD Cert.KernelLnIdeal.τ).loc Cert.KernelLnIdeal.main_arg0)
      ∧ r.2.mem ((c.tc : Thread Cert.KernelLnIdeal.nD Cert.KernelLnIdeal.τ).loc Cert.KernelLnIdeal.main_arg1) = m ((c.tc : Thread Cert.KernelLnIdeal.nD Cert.KernelLnIdeal.τ).loc Cert.KernelLnIdeal.main_arg1)
      ∧ r.2.mem ((c.tc : Thread Cert.KernelLnIdeal.nD Cert.KernelLnIdeal.τ).loc Cert.KernelLnIdeal.main_arg2) = m ((c.tc : Thread Cert.KernelLnIdeal.nD Cert.KernelLnIdeal.τ).loc Cert.KernelLnIdeal.main_arg2))
      ∧ r.2.sem = fun _ => 0)

def quiescent_ReferenceLnIdeal [hReferenceLnIdeal : Cert.ReferenceLnIdeal.Facts] : Prop :=
  ∀ (m : (ℓ : Loc Cert.ReferenceLnIdeal.nD Cert.ReferenceLnIdeal.τ Cert.ReferenceLnIdeal.sig) → Buf (Elt Ideal) ℓ) (g : Dev Cert.ReferenceLnIdeal.nD → PrngReg), Pre_ReferenceLnIdeal m →
    θ_run (Cert.ReferenceLnIdeal.defs (F := Ideal)) (onTc (τ := Cert.ReferenceLnIdeal.τ) (Cert.ReferenceLnIdeal.main (F := Ideal))) ⟨m, fun _ => 0, g⟩ (fun r => (∀ c : Dev Cert.ReferenceLnIdeal.nD,
      r.2.mem ((c.tc : Thread Cert.ReferenceLnIdeal.nD Cert.ReferenceLnIdeal.τ).loc Cert.ReferenceLnIdeal.main_arg0) = m ((c.tc : Thread Cert.ReferenceLnIdeal.nD Cert.ReferenceLnIdeal.τ).loc Cert.ReferenceLnIdeal.main_arg0)
      ∧ r.2.mem ((c.tc : Thread Cert.ReferenceLnIdeal.nD Cert.ReferenceLnIdeal.τ).loc Cert.ReferenceLnIdeal.main_arg1) = m ((c.tc : Thread Cert.ReferenceLnIdeal.nD Cert.ReferenceLnIdeal.τ).loc Cert.ReferenceLnIdeal.main_arg1)
      ∧ r.2.mem ((c.tc : Thread Cert.ReferenceLnIdeal.nD Cert.ReferenceLnIdeal.τ).loc Cert.ReferenceLnIdeal.main_arg2) = m ((c.tc : Thread Cert.ReferenceLnIdeal.nD Cert.ReferenceLnIdeal.τ).loc Cert.ReferenceLnIdeal.main_arg2))
      ∧ r.2.sem = fun _ => 0)

def quiescent_ReferenceLnIdeal_pre_finite_ln [hReferenceLnIdeal : Cert.ReferenceLnIdeal.Facts] [hPre_finite_ln : Cert.Pre_finite_ln.Facts] : Prop :=
  ∀ (m : (ℓ : Loc Cert.ReferenceLnIdeal.nD Cert.ReferenceLnIdeal.τ Cert.ReferenceLnIdeal.sig) → Buf (Elt Ideal) ℓ) (g : Dev Cert.ReferenceLnIdeal.nD → PrngReg), Pre_ReferenceLnIdeal_finite_ln m →
    θ_run (Cert.ReferenceLnIdeal.defs (F := Ideal)) (onTc (τ := Cert.ReferenceLnIdeal.τ) (Cert.ReferenceLnIdeal.main (F := Ideal))) ⟨m, fun _ => 0, g⟩ (fun r => (∀ c : Dev Cert.ReferenceLnIdeal.nD,
      r.2.mem ((c.tc : Thread Cert.ReferenceLnIdeal.nD Cert.ReferenceLnIdeal.τ).loc Cert.ReferenceLnIdeal.main_arg0) = m ((c.tc : Thread Cert.ReferenceLnIdeal.nD Cert.ReferenceLnIdeal.τ).loc Cert.ReferenceLnIdeal.main_arg0)
      ∧ r.2.mem ((c.tc : Thread Cert.ReferenceLnIdeal.nD Cert.ReferenceLnIdeal.τ).loc Cert.ReferenceLnIdeal.main_arg1) = m ((c.tc : Thread Cert.ReferenceLnIdeal.nD Cert.ReferenceLnIdeal.τ).loc Cert.ReferenceLnIdeal.main_arg1)
      ∧ r.2.mem ((c.tc : Thread Cert.ReferenceLnIdeal.nD Cert.ReferenceLnIdeal.τ).loc Cert.ReferenceLnIdeal.main_arg2) = m ((c.tc : Thread Cert.ReferenceLnIdeal.nD Cert.ReferenceLnIdeal.τ).loc Cert.ReferenceLnIdeal.main_arg2))
      ∧ r.2.sem = fun _ => 0)

def quiescent_KernelFwd [hKernelFwd : Cert.KernelFwd.Facts] : Prop :=
  ∀ (m : (ℓ : Loc Cert.KernelFwd.nD Cert.KernelFwd.τ Cert.KernelFwd.sig) → Buf (Elt Bits) ℓ) (g : Dev Cert.KernelFwd.nD → PrngReg), Pre_KernelFwd m →
    θ_run (Cert.KernelFwd.defs (F := Bits)) (onTc (τ := Cert.KernelFwd.τ) (Cert.KernelFwd.main (F := Bits))) ⟨m, fun _ => 0, g⟩ (fun r => (∀ c : Dev Cert.KernelFwd.nD,
      r.2.mem ((c.tc : Thread Cert.KernelFwd.nD Cert.KernelFwd.τ).loc Cert.KernelFwd.main_arg0) = m ((c.tc : Thread Cert.KernelFwd.nD Cert.KernelFwd.τ).loc Cert.KernelFwd.main_arg0)
      ∧ r.2.mem ((c.tc : Thread Cert.KernelFwd.nD Cert.KernelFwd.τ).loc Cert.KernelFwd.main_arg1) = m ((c.tc : Thread Cert.KernelFwd.nD Cert.KernelFwd.τ).loc Cert.KernelFwd.main_arg1))
      ∧ r.2.sem = fun _ => 0)

def quiescent_KernelFwdIdeal [hKernelFwdIdeal : Cert.KernelFwdIdeal.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg), Pre_KernelFwdIdeal m →
    θ_run (Cert.KernelFwdIdeal.defs (F := Ideal)) (onTc (τ := Cert.KernelFwdIdeal.τ) (Cert.KernelFwdIdeal.main (F := Ideal))) ⟨m, fun _ => 0, g⟩ (fun r => (∀ c : Dev Cert.KernelFwdIdeal.nD,
      r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
      ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1))
      ∧ r.2.sem = fun _ => 0)

def quiescent_KernelFwdIdeal_pre_finite_fwd [hKernelFwdIdeal : Cert.KernelFwdIdeal.Facts] [hPre_finite_fwd : Cert.Pre_finite_fwd.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg), Pre_KernelFwdIdeal_finite_fwd m →
    θ_run (Cert.KernelFwdIdeal.defs (F := Ideal)) (onTc (τ := Cert.KernelFwdIdeal.τ) (Cert.KernelFwdIdeal.main (F := Ideal))) ⟨m, fun _ => 0, g⟩ (fun r => (∀ c : Dev Cert.KernelFwdIdeal.nD,
      r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
      ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1))
      ∧ r.2.sem = fun _ => 0)

def quiescent_ReferenceFwdIdeal [hReferenceFwdIdeal : Cert.ReferenceFwdIdeal.Facts] : Prop :=
  ∀ (m : (ℓ : Loc Cert.ReferenceFwdIdeal.nD Cert.ReferenceFwdIdeal.τ Cert.ReferenceFwdIdeal.sig) → Buf (Elt Ideal) ℓ) (g : Dev Cert.ReferenceFwdIdeal.nD → PrngReg), Pre_ReferenceFwdIdeal m →
    θ_run (Cert.ReferenceFwdIdeal.defs (F := Ideal)) (onTc (τ := Cert.ReferenceFwdIdeal.τ) (Cert.ReferenceFwdIdeal.main (F := Ideal))) ⟨m, fun _ => 0, g⟩ (fun r => (∀ c : Dev Cert.ReferenceFwdIdeal.nD,
      r.2.mem ((c.tc : Thread Cert.ReferenceFwdIdeal.nD Cert.ReferenceFwdIdeal.τ).loc Cert.ReferenceFwdIdeal.main_arg0) = m ((c.tc : Thread Cert.ReferenceFwdIdeal.nD Cert.ReferenceFwdIdeal.τ).loc Cert.ReferenceFwdIdeal.main_arg0)
      ∧ r.2.mem ((c.tc : Thread Cert.ReferenceFwdIdeal.nD Cert.ReferenceFwdIdeal.τ).loc Cert.ReferenceFwdIdeal.main_arg1) = m ((c.tc : Thread Cert.ReferenceFwdIdeal.nD Cert.ReferenceFwdIdeal.τ).loc Cert.ReferenceFwdIdeal.main_arg1))
      ∧ r.2.sem = fun _ => 0)

def quiescent_ReferenceFwdIdeal_pre_finite_fwd [hReferenceFwdIdeal : Cert.ReferenceFwdIdeal.Facts] [hPre_finite_fwd : Cert.Pre_finite_fwd.Facts] : Prop :=
  ∀ (m : (ℓ : Loc Cert.ReferenceFwdIdeal.nD Cert.ReferenceFwdIdeal.τ Cert.ReferenceFwdIdeal.sig) → Buf (Elt Ideal) ℓ) (g : Dev Cert.ReferenceFwdIdeal.nD → PrngReg), Pre_ReferenceFwdIdeal_finite_fwd m →
    θ_run (Cert.ReferenceFwdIdeal.defs (F := Ideal)) (onTc (τ := Cert.ReferenceFwdIdeal.τ) (Cert.ReferenceFwdIdeal.main (F := Ideal))) ⟨m, fun _ => 0, g⟩ (fun r => (∀ c : Dev Cert.ReferenceFwdIdeal.nD,
      r.2.mem ((c.tc : Thread Cert.ReferenceFwdIdeal.nD Cert.ReferenceFwdIdeal.τ).loc Cert.ReferenceFwdIdeal.main_arg0) = m ((c.tc : Thread Cert.ReferenceFwdIdeal.nD Cert.ReferenceFwdIdeal.τ).loc Cert.ReferenceFwdIdeal.main_arg0)
      ∧ r.2.mem ((c.tc : Thread Cert.ReferenceFwdIdeal.nD Cert.ReferenceFwdIdeal.τ).loc Cert.ReferenceFwdIdeal.main_arg1) = m ((c.tc : Thread Cert.ReferenceFwdIdeal.nD Cert.ReferenceFwdIdeal.τ).loc Cert.ReferenceFwdIdeal.main_arg1))
      ∧ r.2.sem = fun _ => 0)

def quiescent_KernelAdamOut [hKernelAdamOut : Cert.KernelAdamOut.Facts] : Prop :=
  ∀ (m : (ℓ : Loc Cert.KernelAdamOut.nD Cert.KernelAdamOut.τ Cert.KernelAdamOut.sig) → Buf (Elt Bits) ℓ) (g : Dev Cert.KernelAdamOut.nD → PrngReg), Pre_KernelAdamOut m →
    θ_run (Cert.KernelAdamOut.defs (F := Bits)) (onTc (τ := Cert.KernelAdamOut.τ) (Cert.KernelAdamOut.main (F := Bits))) ⟨m, fun _ => 0, g⟩ (fun r => (∀ c : Dev Cert.KernelAdamOut.nD,
      r.2.mem ((c.tc : Thread Cert.KernelAdamOut.nD Cert.KernelAdamOut.τ).loc Cert.KernelAdamOut.main_arg0) = m ((c.tc : Thread Cert.KernelAdamOut.nD Cert.KernelAdamOut.τ).loc Cert.KernelAdamOut.main_arg0)
      ∧ r.2.mem ((c.tc : Thread Cert.KernelAdamOut.nD Cert.KernelAdamOut.τ).loc Cert.KernelAdamOut.main_arg1) = m ((c.tc : Thread Cert.KernelAdamOut.nD Cert.KernelAdamOut.τ).loc Cert.KernelAdamOut.main_arg1)
      ∧ r.2.mem ((c.tc : Thread Cert.KernelAdamOut.nD Cert.KernelAdamOut.τ).loc Cert.KernelAdamOut.main_arg2) = m ((c.tc : Thread Cert.KernelAdamOut.nD Cert.KernelAdamOut.τ).loc Cert.KernelAdamOut.main_arg2)
      ∧ r.2.mem ((c.tc : Thread Cert.KernelAdamOut.nD Cert.KernelAdamOut.τ).loc Cert.KernelAdamOut.main_arg3) = m ((c.tc : Thread Cert.KernelAdamOut.nD Cert.KernelAdamOut.τ).loc Cert.KernelAdamOut.main_arg3))
      ∧ r.2.sem = fun _ => 0)

def quiescent_KernelAdamOutIdeal [hKernelAdamOutIdeal : Cert.KernelAdamOutIdeal.Facts] : Prop :=
  ∀ (m : (ℓ : Loc Cert.KernelAdamOutIdeal.nD Cert.KernelAdamOutIdeal.τ Cert.KernelAdamOutIdeal.sig) → Buf (Elt Ideal) ℓ) (g : Dev Cert.KernelAdamOutIdeal.nD → PrngReg), Pre_KernelAdamOutIdeal m →
    θ_run (Cert.KernelAdamOutIdeal.defs (F := Ideal)) (onTc (τ := Cert.KernelAdamOutIdeal.τ) (Cert.KernelAdamOutIdeal.main (F := Ideal))) ⟨m, fun _ => 0, g⟩ (fun r => (∀ c : Dev Cert.KernelAdamOutIdeal.nD,
      r.2.mem ((c.tc : Thread Cert.KernelAdamOutIdeal.nD Cert.KernelAdamOutIdeal.τ).loc Cert.KernelAdamOutIdeal.main_arg0) = m ((c.tc : Thread Cert.KernelAdamOutIdeal.nD Cert.KernelAdamOutIdeal.τ).loc Cert.KernelAdamOutIdeal.main_arg0)
      ∧ r.2.mem ((c.tc : Thread Cert.KernelAdamOutIdeal.nD Cert.KernelAdamOutIdeal.τ).loc Cert.KernelAdamOutIdeal.main_arg1) = m ((c.tc : Thread Cert.KernelAdamOutIdeal.nD Cert.KernelAdamOutIdeal.τ).loc Cert.KernelAdamOutIdeal.main_arg1)
      ∧ r.2.mem ((c.tc : Thread Cert.KernelAdamOutIdeal.nD Cert.KernelAdamOutIdeal.τ).loc Cert.KernelAdamOutIdeal.main_arg2) = m ((c.tc : Thread Cert.KernelAdamOutIdeal.nD Cert.KernelAdamOutIdeal.τ).loc Cert.KernelAdamOutIdeal.main_arg2)
      ∧ r.2.mem ((c.tc : Thread Cert.KernelAdamOutIdeal.nD Cert.KernelAdamOutIdeal.τ).loc Cert.KernelAdamOutIdeal.main_arg3) = m ((c.tc : Thread Cert.KernelAdamOutIdeal.nD Cert.KernelAdamOutIdeal.τ).loc Cert.KernelAdamOutIdeal.main_arg3))
      ∧ r.2.sem = fun _ => 0)

def quiescent_ReferenceAdamOutIdeal [hReferenceAdamOutIdeal : Cert.ReferenceAdamOutIdeal.Facts] : Prop :=
  ∀ (m : (ℓ : Loc Cert.ReferenceAdamOutIdeal.nD Cert.ReferenceAdamOutIdeal.τ Cert.ReferenceAdamOutIdeal.sig) → Buf (Elt Ideal) ℓ) (g : Dev Cert.ReferenceAdamOutIdeal.nD → PrngReg), Pre_ReferenceAdamOutIdeal m →
    θ_run (Cert.ReferenceAdamOutIdeal.defs (F := Ideal)) (onTc (τ := Cert.ReferenceAdamOutIdeal.τ) (Cert.ReferenceAdamOutIdeal.main (F := Ideal))) ⟨m, fun _ => 0, g⟩ (fun r => (∀ c : Dev Cert.ReferenceAdamOutIdeal.nD,
      r.2.mem ((c.tc : Thread Cert.ReferenceAdamOutIdeal.nD Cert.ReferenceAdamOutIdeal.τ).loc Cert.ReferenceAdamOutIdeal.main_arg0) = m ((c.tc : Thread Cert.ReferenceAdamOutIdeal.nD Cert.ReferenceAdamOutIdeal.τ).loc Cert.ReferenceAdamOutIdeal.main_arg0)
      ∧ r.2.mem ((c.tc : Thread Cert.ReferenceAdamOutIdeal.nD Cert.ReferenceAdamOutIdeal.τ).loc Cert.ReferenceAdamOutIdeal.main_arg1) = m ((c.tc : Thread Cert.ReferenceAdamOutIdeal.nD Cert.ReferenceAdamOutIdeal.τ).loc Cert.ReferenceAdamOutIdeal.main_arg1)
      ∧ r.2.mem ((c.tc : Thread Cert.ReferenceAdamOutIdeal.nD Cert.ReferenceAdamOutIdeal.τ).loc Cert.ReferenceAdamOutIdeal.main_arg2) = m ((c.tc : Thread Cert.ReferenceAdamOutIdeal.nD Cert.ReferenceAdamOutIdeal.τ).loc Cert.ReferenceAdamOutIdeal.main_arg2)
      ∧ r.2.mem ((c.tc : Thread Cert.ReferenceAdamOutIdeal.nD Cert.ReferenceAdamOutIdeal.τ).loc Cert.ReferenceAdamOutIdeal.main_arg3) = m ((c.tc : Thread Cert.ReferenceAdamOutIdeal.nD Cert.ReferenceAdamOutIdeal.τ).loc Cert.ReferenceAdamOutIdeal.main_arg3))
      ∧ r.2.sem = fun _ => 0)

def quiescent_KernelAdamIn [hKernelAdamIn : Cert.KernelAdamIn.Facts] : Prop :=
  ∀ (m : (ℓ : Loc Cert.KernelAdamIn.nD Cert.KernelAdamIn.τ Cert.KernelAdamIn.sig) → Buf (Elt Bits) ℓ) (g : Dev Cert.KernelAdamIn.nD → PrngReg), Pre_KernelAdamIn m →
    θ_run (Cert.KernelAdamIn.defs (F := Bits)) (onTc (τ := Cert.KernelAdamIn.τ) (Cert.KernelAdamIn.main (F := Bits))) ⟨m, fun _ => 0, g⟩ (fun r => (∀ c : Dev Cert.KernelAdamIn.nD,
      r.2.mem ((c.tc : Thread Cert.KernelAdamIn.nD Cert.KernelAdamIn.τ).loc Cert.KernelAdamIn.main_arg0) = m ((c.tc : Thread Cert.KernelAdamIn.nD Cert.KernelAdamIn.τ).loc Cert.KernelAdamIn.main_arg0)
      ∧ r.2.mem ((c.tc : Thread Cert.KernelAdamIn.nD Cert.KernelAdamIn.τ).loc Cert.KernelAdamIn.main_arg1) = m ((c.tc : Thread Cert.KernelAdamIn.nD Cert.KernelAdamIn.τ).loc Cert.KernelAdamIn.main_arg1)
      ∧ r.2.mem ((c.tc : Thread Cert.KernelAdamIn.nD Cert.KernelAdamIn.τ).loc Cert.KernelAdamIn.main_arg2) = m ((c.tc : Thread Cert.KernelAdamIn.nD Cert.KernelAdamIn.τ).loc Cert.KernelAdamIn.main_arg2)
      ∧ r.2.mem ((c.tc : Thread Cert.KernelAdamIn.nD Cert.KernelAdamIn.τ).loc Cert.KernelAdamIn.main_arg3) = m ((c.tc : Thread Cert.KernelAdamIn.nD Cert.KernelAdamIn.τ).loc Cert.KernelAdamIn.main_arg3))
      ∧ r.2.sem = fun _ => 0)

def quiescent_KernelAdamInIdeal [hKernelAdamInIdeal : Cert.KernelAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg), Pre_KernelAdamInIdeal m →
    θ_run (Cert.KernelAdamInIdeal.defs (F := Ideal)) (onTc (τ := Cert.KernelAdamInIdeal.τ) (Cert.KernelAdamInIdeal.main (F := Ideal))) ⟨m, fun _ => 0, g⟩ (fun r => (∀ c : Dev Cert.KernelAdamInIdeal.nD,
      r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
      ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
      ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
      ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3))
      ∧ r.2.sem = fun _ => 0)

def quiescent_ReferenceAdamInIdeal [hReferenceAdamInIdeal : Cert.ReferenceAdamInIdeal.Facts] : Prop :=
  ∀ (m : (ℓ : Loc Cert.ReferenceAdamInIdeal.nD Cert.ReferenceAdamInIdeal.τ Cert.ReferenceAdamInIdeal.sig) → Buf (Elt Ideal) ℓ) (g : Dev Cert.ReferenceAdamInIdeal.nD → PrngReg), Pre_ReferenceAdamInIdeal m →
    θ_run (Cert.ReferenceAdamInIdeal.defs (F := Ideal)) (onTc (τ := Cert.ReferenceAdamInIdeal.τ) (Cert.ReferenceAdamInIdeal.main (F := Ideal))) ⟨m, fun _ => 0, g⟩ (fun r => (∀ c : Dev Cert.ReferenceAdamInIdeal.nD,
      r.2.mem ((c.tc : Thread Cert.ReferenceAdamInIdeal.nD Cert.ReferenceAdamInIdeal.τ).loc Cert.ReferenceAdamInIdeal.main_arg0) = m ((c.tc : Thread Cert.ReferenceAdamInIdeal.nD Cert.ReferenceAdamInIdeal.τ).loc Cert.ReferenceAdamInIdeal.main_arg0)
      ∧ r.2.mem ((c.tc : Thread Cert.ReferenceAdamInIdeal.nD Cert.ReferenceAdamInIdeal.τ).loc Cert.ReferenceAdamInIdeal.main_arg1) = m ((c.tc : Thread Cert.ReferenceAdamInIdeal.nD Cert.ReferenceAdamInIdeal.τ).loc Cert.ReferenceAdamInIdeal.main_arg1)
      ∧ r.2.mem ((c.tc : Thread Cert.ReferenceAdamInIdeal.nD Cert.ReferenceAdamInIdeal.τ).loc Cert.ReferenceAdamInIdeal.main_arg2) = m ((c.tc : Thread Cert.ReferenceAdamInIdeal.nD Cert.ReferenceAdamInIdeal.τ).loc Cert.ReferenceAdamInIdeal.main_arg2)
      ∧ r.2.mem ((c.tc : Thread Cert.ReferenceAdamInIdeal.nD Cert.ReferenceAdamInIdeal.τ).loc Cert.ReferenceAdamInIdeal.main_arg3) = m ((c.tc : Thread Cert.ReferenceAdamInIdeal.nD Cert.ReferenceAdamInIdeal.τ).loc Cert.ReferenceAdamInIdeal.main_arg3))
      ∧ r.2.sem = fun _ => 0)

def quiescent_KernelAdamSmall [hKernelAdamSmall : Cert.KernelAdamSmall.Facts] : Prop :=
  ∀ (m : (ℓ : Loc Cert.KernelAdamSmall.nD Cert.KernelAdamSmall.τ Cert.KernelAdamSmall.sig) → Buf (Elt Bits) ℓ) (g : Dev Cert.KernelAdamSmall.nD → PrngReg), Pre_KernelAdamSmall m →
    θ_run (Cert.KernelAdamSmall.defs (F := Bits)) (onTc (τ := Cert.KernelAdamSmall.τ) (Cert.KernelAdamSmall.main (F := Bits))) ⟨m, fun _ => 0, g⟩ (fun r => (∀ c : Dev Cert.KernelAdamSmall.nD,
      r.2.mem ((c.tc : Thread Cert.KernelAdamSmall.nD Cert.KernelAdamSmall.τ).loc Cert.KernelAdamSmall.main_arg0) = m ((c.tc : Thread Cert.KernelAdamSmall.nD Cert.KernelAdamSmall.τ).loc Cert.KernelAdamSmall.main_arg0)
      ∧ r.2.mem ((c.tc : Thread Cert.KernelAdamSmall.nD Cert.KernelAdamSmall.τ).loc Cert.KernelAdamSmall.main_arg1) = m ((c.tc : Thread Cert.KernelAdamSmall.nD Cert.KernelAdamSmall.τ).loc Cert.KernelAdamSmall.main_arg1)
      ∧ r.2.mem ((c.tc : Thread Cert.KernelAdamSmall.nD Cert.KernelAdamSmall.τ).loc Cert.KernelAdamSmall.main_arg2) = m ((c.tc : Thread Cert.KernelAdamSmall.nD Cert.KernelAdamSmall.τ).loc Cert.KernelAdamSmall.main_arg2)
      ∧ r.2.mem ((c.tc : Thread Cert.KernelAdamSmall.nD Cert.KernelAdamSmall.τ).loc Cert.KernelAdamSmall.main_arg3) = m ((c.tc : Thread Cert.KernelAdamSmall.nD Cert.KernelAdamSmall.τ).loc Cert.KernelAdamSmall.main_arg3)
      ∧ r.2.mem ((c.tc : Thread Cert.KernelAdamSmall.nD Cert.KernelAdamSmall.τ).loc Cert.KernelAdamSmall.main_arg4) = m ((c.tc : Thread Cert.KernelAdamSmall.nD Cert.KernelAdamSmall.τ).loc Cert.KernelAdamSmall.main_arg4)
      ∧ r.2.mem ((c.tc : Thread Cert.KernelAdamSmall.nD Cert.KernelAdamSmall.τ).loc Cert.KernelAdamSmall.main_arg5) = m ((c.tc : Thread Cert.KernelAdamSmall.nD Cert.KernelAdamSmall.τ).loc Cert.KernelAdamSmall.main_arg5)
      ∧ r.2.mem ((c.tc : Thread Cert.KernelAdamSmall.nD Cert.KernelAdamSmall.τ).loc Cert.KernelAdamSmall.main_arg6) = m ((c.tc : Thread Cert.KernelAdamSmall.nD Cert.KernelAdamSmall.τ).loc Cert.KernelAdamSmall.main_arg6)
      ∧ r.2.mem ((c.tc : Thread Cert.KernelAdamSmall.nD Cert.KernelAdamSmall.τ).loc Cert.KernelAdamSmall.main_arg7) = m ((c.tc : Thread Cert.KernelAdamSmall.nD Cert.KernelAdamSmall.τ).loc Cert.KernelAdamSmall.main_arg7)
      ∧ r.2.mem ((c.tc : Thread Cert.KernelAdamSmall.nD Cert.KernelAdamSmall.τ).loc Cert.KernelAdamSmall.main_arg8) = m ((c.tc : Thread Cert.KernelAdamSmall.nD Cert.KernelAdamSmall.τ).loc Cert.KernelAdamSmall.main_arg8)
      ∧ r.2.mem ((c.tc : Thread Cert.KernelAdamSmall.nD Cert.KernelAdamSmall.τ).loc Cert.KernelAdamSmall.main_arg9) = m ((c.tc : Thread Cert.KernelAdamSmall.nD Cert.KernelAdamSmall.τ).loc Cert.KernelAdamSmall.main_arg9)
      ∧ r.2.mem ((c.tc : Thread Cert.KernelAdamSmall.nD Cert.KernelAdamSmall.τ).loc Cert.KernelAdamSmall.main_arg10) = m ((c.tc : Thread Cert.KernelAdamSmall.nD Cert.KernelAdamSmall.τ).loc Cert.KernelAdamSmall.main_arg10)
      ∧ r.2.mem ((c.tc : Thread Cert.KernelAdamSmall.nD Cert.KernelAdamSmall.τ).loc Cert.KernelAdamSmall.main_arg11) = m ((c.tc : Thread Cert.KernelAdamSmall.nD Cert.KernelAdamSmall.τ).loc Cert.KernelAdamSmall.main_arg11)
      ∧ r.2.mem ((c.tc : Thread Cert.KernelAdamSmall.nD Cert.KernelAdamSmall.τ).loc Cert.KernelAdamSmall.main_arg12) = m ((c.tc : Thread Cert.KernelAdamSmall.nD Cert.KernelAdamSmall.τ).loc Cert.KernelAdamSmall.main_arg12)
      ∧ r.2.mem ((c.tc : Thread Cert.KernelAdamSmall.nD Cert.KernelAdamSmall.τ).loc Cert.KernelAdamSmall.main_arg13) = m ((c.tc : Thread Cert.KernelAdamSmall.nD Cert.KernelAdamSmall.τ).loc Cert.KernelAdamSmall.main_arg13)
      ∧ r.2.mem ((c.tc : Thread Cert.KernelAdamSmall.nD Cert.KernelAdamSmall.τ).loc Cert.KernelAdamSmall.main_arg14) = m ((c.tc : Thread Cert.KernelAdamSmall.nD Cert.KernelAdamSmall.τ).loc Cert.KernelAdamSmall.main_arg14)
      ∧ r.2.mem ((c.tc : Thread Cert.KernelAdamSmall.nD Cert.KernelAdamSmall.τ).loc Cert.KernelAdamSmall.main_arg15) = m ((c.tc : Thread Cert.KernelAdamSmall.nD Cert.KernelAdamSmall.τ).loc Cert.KernelAdamSmall.main_arg15)
      ∧ r.2.mem ((c.tc : Thread Cert.KernelAdamSmall.nD Cert.KernelAdamSmall.τ).loc Cert.KernelAdamSmall.main_arg16) = m ((c.tc : Thread Cert.KernelAdamSmall.nD Cert.KernelAdamSmall.τ).loc Cert.KernelAdamSmall.main_arg16)
      ∧ r.2.mem ((c.tc : Thread Cert.KernelAdamSmall.nD Cert.KernelAdamSmall.τ).loc Cert.KernelAdamSmall.main_arg17) = m ((c.tc : Thread Cert.KernelAdamSmall.nD Cert.KernelAdamSmall.τ).loc Cert.KernelAdamSmall.main_arg17)
      ∧ r.2.mem ((c.tc : Thread Cert.KernelAdamSmall.nD Cert.KernelAdamSmall.τ).loc Cert.KernelAdamSmall.main_arg18) = m ((c.tc : Thread Cert.KernelAdamSmall.nD Cert.KernelAdamSmall.τ).loc Cert.KernelAdamSmall.main_arg18)
      ∧ r.2.mem ((c.tc : Thread Cert.KernelAdamSmall.nD Cert.KernelAdamSmall.τ).loc Cert.KernelAdamSmall.main_arg19) = m ((c.tc : Thread Cert.KernelAdamSmall.nD Cert.KernelAdamSmall.τ).loc Cert.KernelAdamSmall.main_arg19)
      ∧ r.2.mem ((c.tc : Thread Cert.KernelAdamSmall.nD Cert.KernelAdamSmall.τ).loc Cert.KernelAdamSmall.main_arg20) = m ((c.tc : Thread Cert.KernelAdamSmall.nD Cert.KernelAdamSmall.τ).loc Cert.KernelAdamSmall.main_arg20)
      ∧ r.2.mem ((c.tc : Thread Cert.KernelAdamSmall.nD Cert.KernelAdamSmall.τ).loc Cert.KernelAdamSmall.main_arg21) = m ((c.tc : Thread Cert.KernelAdamSmall.nD Cert.KernelAdamSmall.τ).loc Cert.KernelAdamSmall.main_arg21)
      ∧ r.2.mem ((c.tc : Thread Cert.KernelAdamSmall.nD Cert.KernelAdamSmall.τ).loc Cert.KernelAdamSmall.main_arg22) = m ((c.tc : Thread Cert.KernelAdamSmall.nD Cert.KernelAdamSmall.τ).loc Cert.KernelAdamSmall.main_arg22)
      ∧ r.2.mem ((c.tc : Thread Cert.KernelAdamSmall.nD Cert.KernelAdamSmall.τ).loc Cert.KernelAdamSmall.main_arg23) = m ((c.tc : Thread Cert.KernelAdamSmall.nD Cert.KernelAdamSmall.τ).loc Cert.KernelAdamSmall.main_arg23))
      ∧ r.2.sem = fun _ => 0)

def quiescent_KernelAdamSmallIdeal [hKernelAdamSmallIdeal : Cert.KernelAdamSmallIdeal.Facts] : Prop :=
  ∀ (m : (ℓ : Loc Cert.KernelAdamSmallIdeal.nD Cert.KernelAdamSmallIdeal.τ Cert.KernelAdamSmallIdeal.sig) → Buf (Elt Ideal) ℓ) (g : Dev Cert.KernelAdamSmallIdeal.nD → PrngReg), Pre_KernelAdamSmallIdeal m →
    θ_run (Cert.KernelAdamSmallIdeal.defs (F := Ideal)) (onTc (τ := Cert.KernelAdamSmallIdeal.τ) (Cert.KernelAdamSmallIdeal.main (F := Ideal))) ⟨m, fun _ => 0, g⟩ (fun r => (∀ c : Dev Cert.KernelAdamSmallIdeal.nD,
      r.2.mem ((c.tc : Thread Cert.KernelAdamSmallIdeal.nD Cert.KernelAdamSmallIdeal.τ).loc Cert.KernelAdamSmallIdeal.main_arg0) = m ((c.tc : Thread Cert.KernelAdamSmallIdeal.nD Cert.KernelAdamSmallIdeal.τ).loc Cert.KernelAdamSmallIdeal.main_arg0)
      ∧ r.2.mem ((c.tc : Thread Cert.KernelAdamSmallIdeal.nD Cert.KernelAdamSmallIdeal.τ).loc Cert.KernelAdamSmallIdeal.main_arg1) = m ((c.tc : Thread Cert.KernelAdamSmallIdeal.nD Cert.KernelAdamSmallIdeal.τ).loc Cert.KernelAdamSmallIdeal.main_arg1)
      ∧ r.2.mem ((c.tc : Thread Cert.KernelAdamSmallIdeal.nD Cert.KernelAdamSmallIdeal.τ).loc Cert.KernelAdamSmallIdeal.main_arg2) = m ((c.tc : Thread Cert.KernelAdamSmallIdeal.nD Cert.KernelAdamSmallIdeal.τ).loc Cert.KernelAdamSmallIdeal.main_arg2)
      ∧ r.2.mem ((c.tc : Thread Cert.KernelAdamSmallIdeal.nD Cert.KernelAdamSmallIdeal.τ).loc Cert.KernelAdamSmallIdeal.main_arg3) = m ((c.tc : Thread Cert.KernelAdamSmallIdeal.nD Cert.KernelAdamSmallIdeal.τ).loc Cert.KernelAdamSmallIdeal.main_arg3)
      ∧ r.2.mem ((c.tc : Thread Cert.KernelAdamSmallIdeal.nD Cert.KernelAdamSmallIdeal.τ).loc Cert.KernelAdamSmallIdeal.main_arg4) = m ((c.tc : Thread Cert.KernelAdamSmallIdeal.nD Cert.KernelAdamSmallIdeal.τ).loc Cert.KernelAdamSmallIdeal.main_arg4)
      ∧ r.2.mem ((c.tc : Thread Cert.KernelAdamSmallIdeal.nD Cert.KernelAdamSmallIdeal.τ).loc Cert.KernelAdamSmallIdeal.main_arg5) = m ((c.tc : Thread Cert.KernelAdamSmallIdeal.nD Cert.KernelAdamSmallIdeal.τ).loc Cert.KernelAdamSmallIdeal.main_arg5)
      ∧ r.2.mem ((c.tc : Thread Cert.KernelAdamSmallIdeal.nD Cert.KernelAdamSmallIdeal.τ).loc Cert.KernelAdamSmallIdeal.main_arg6) = m ((c.tc : Thread Cert.KernelAdamSmallIdeal.nD Cert.KernelAdamSmallIdeal.τ).loc Cert.KernelAdamSmallIdeal.main_arg6)
      ∧ r.2.mem ((c.tc : Thread Cert.KernelAdamSmallIdeal.nD Cert.KernelAdamSmallIdeal.τ).loc Cert.KernelAdamSmallIdeal.main_arg7) = m ((c.tc : Thread Cert.KernelAdamSmallIdeal.nD Cert.KernelAdamSmallIdeal.τ).loc Cert.KernelAdamSmallIdeal.main_arg7)
      ∧ r.2.mem ((c.tc : Thread Cert.KernelAdamSmallIdeal.nD Cert.KernelAdamSmallIdeal.τ).loc Cert.KernelAdamSmallIdeal.main_arg8) = m ((c.tc : Thread Cert.KernelAdamSmallIdeal.nD Cert.KernelAdamSmallIdeal.τ).loc Cert.KernelAdamSmallIdeal.main_arg8)
      ∧ r.2.mem ((c.tc : Thread Cert.KernelAdamSmallIdeal.nD Cert.KernelAdamSmallIdeal.τ).loc Cert.KernelAdamSmallIdeal.main_arg9) = m ((c.tc : Thread Cert.KernelAdamSmallIdeal.nD Cert.KernelAdamSmallIdeal.τ).loc Cert.KernelAdamSmallIdeal.main_arg9)
      ∧ r.2.mem ((c.tc : Thread Cert.KernelAdamSmallIdeal.nD Cert.KernelAdamSmallIdeal.τ).loc Cert.KernelAdamSmallIdeal.main_arg10) = m ((c.tc : Thread Cert.KernelAdamSmallIdeal.nD Cert.KernelAdamSmallIdeal.τ).loc Cert.KernelAdamSmallIdeal.main_arg10)
      ∧ r.2.mem ((c.tc : Thread Cert.KernelAdamSmallIdeal.nD Cert.KernelAdamSmallIdeal.τ).loc Cert.KernelAdamSmallIdeal.main_arg11) = m ((c.tc : Thread Cert.KernelAdamSmallIdeal.nD Cert.KernelAdamSmallIdeal.τ).loc Cert.KernelAdamSmallIdeal.main_arg11)
      ∧ r.2.mem ((c.tc : Thread Cert.KernelAdamSmallIdeal.nD Cert.KernelAdamSmallIdeal.τ).loc Cert.KernelAdamSmallIdeal.main_arg12) = m ((c.tc : Thread Cert.KernelAdamSmallIdeal.nD Cert.KernelAdamSmallIdeal.τ).loc Cert.KernelAdamSmallIdeal.main_arg12)
      ∧ r.2.mem ((c.tc : Thread Cert.KernelAdamSmallIdeal.nD Cert.KernelAdamSmallIdeal.τ).loc Cert.KernelAdamSmallIdeal.main_arg13) = m ((c.tc : Thread Cert.KernelAdamSmallIdeal.nD Cert.KernelAdamSmallIdeal.τ).loc Cert.KernelAdamSmallIdeal.main_arg13)
      ∧ r.2.mem ((c.tc : Thread Cert.KernelAdamSmallIdeal.nD Cert.KernelAdamSmallIdeal.τ).loc Cert.KernelAdamSmallIdeal.main_arg14) = m ((c.tc : Thread Cert.KernelAdamSmallIdeal.nD Cert.KernelAdamSmallIdeal.τ).loc Cert.KernelAdamSmallIdeal.main_arg14)
      ∧ r.2.mem ((c.tc : Thread Cert.KernelAdamSmallIdeal.nD Cert.KernelAdamSmallIdeal.τ).loc Cert.KernelAdamSmallIdeal.main_arg15) = m ((c.tc : Thread Cert.KernelAdamSmallIdeal.nD Cert.KernelAdamSmallIdeal.τ).loc Cert.KernelAdamSmallIdeal.main_arg15)
      ∧ r.2.mem ((c.tc : Thread Cert.KernelAdamSmallIdeal.nD Cert.KernelAdamSmallIdeal.τ).loc Cert.KernelAdamSmallIdeal.main_arg16) = m ((c.tc : Thread Cert.KernelAdamSmallIdeal.nD Cert.KernelAdamSmallIdeal.τ).loc Cert.KernelAdamSmallIdeal.main_arg16)
      ∧ r.2.mem ((c.tc : Thread Cert.KernelAdamSmallIdeal.nD Cert.KernelAdamSmallIdeal.τ).loc Cert.KernelAdamSmallIdeal.main_arg17) = m ((c.tc : Thread Cert.KernelAdamSmallIdeal.nD Cert.KernelAdamSmallIdeal.τ).loc Cert.KernelAdamSmallIdeal.main_arg17)
      ∧ r.2.mem ((c.tc : Thread Cert.KernelAdamSmallIdeal.nD Cert.KernelAdamSmallIdeal.τ).loc Cert.KernelAdamSmallIdeal.main_arg18) = m ((c.tc : Thread Cert.KernelAdamSmallIdeal.nD Cert.KernelAdamSmallIdeal.τ).loc Cert.KernelAdamSmallIdeal.main_arg18)
      ∧ r.2.mem ((c.tc : Thread Cert.KernelAdamSmallIdeal.nD Cert.KernelAdamSmallIdeal.τ).loc Cert.KernelAdamSmallIdeal.main_arg19) = m ((c.tc : Thread Cert.KernelAdamSmallIdeal.nD Cert.KernelAdamSmallIdeal.τ).loc Cert.KernelAdamSmallIdeal.main_arg19)
      ∧ r.2.mem ((c.tc : Thread Cert.KernelAdamSmallIdeal.nD Cert.KernelAdamSmallIdeal.τ).loc Cert.KernelAdamSmallIdeal.main_arg20) = m ((c.tc : Thread Cert.KernelAdamSmallIdeal.nD Cert.KernelAdamSmallIdeal.τ).loc Cert.KernelAdamSmallIdeal.main_arg20)
      ∧ r.2.mem ((c.tc : Thread Cert.KernelAdamSmallIdeal.nD Cert.KernelAdamSmallIdeal.τ).loc Cert.KernelAdamSmallIdeal.main_arg21) = m ((c.tc : Thread Cert.KernelAdamSmallIdeal.nD Cert.KernelAdamSmallIdeal.τ).loc Cert.KernelAdamSmallIdeal.main_arg21)
      ∧ r.2.mem ((c.tc : Thread Cert.KernelAdamSmallIdeal.nD Cert.KernelAdamSmallIdeal.τ).loc Cert.KernelAdamSmallIdeal.main_arg22) = m ((c.tc : Thread Cert.KernelAdamSmallIdeal.nD Cert.KernelAdamSmallIdeal.τ).loc Cert.KernelAdamSmallIdeal.main_arg22)
      ∧ r.2.mem ((c.tc : Thread Cert.KernelAdamSmallIdeal.nD Cert.KernelAdamSmallIdeal.τ).loc Cert.KernelAdamSmallIdeal.main_arg23) = m ((c.tc : Thread Cert.KernelAdamSmallIdeal.nD Cert.KernelAdamSmallIdeal.τ).loc Cert.KernelAdamSmallIdeal.main_arg23))
      ∧ r.2.sem = fun _ => 0)

def quiescent_ReferenceAdamSmallIdeal [hReferenceAdamSmallIdeal : Cert.ReferenceAdamSmallIdeal.Facts] : Prop :=
  ∀ (m : (ℓ : Loc Cert.ReferenceAdamSmallIdeal.nD Cert.ReferenceAdamSmallIdeal.τ Cert.ReferenceAdamSmallIdeal.sig) → Buf (Elt Ideal) ℓ) (g : Dev Cert.ReferenceAdamSmallIdeal.nD → PrngReg), Pre_ReferenceAdamSmallIdeal m →
    θ_run (Cert.ReferenceAdamSmallIdeal.defs (F := Ideal)) (onTc (τ := Cert.ReferenceAdamSmallIdeal.τ) (Cert.ReferenceAdamSmallIdeal.main (F := Ideal))) ⟨m, fun _ => 0, g⟩ (fun r => (∀ c : Dev Cert.ReferenceAdamSmallIdeal.nD,
      r.2.mem ((c.tc : Thread Cert.ReferenceAdamSmallIdeal.nD Cert.ReferenceAdamSmallIdeal.τ).loc Cert.ReferenceAdamSmallIdeal.main_arg0) = m ((c.tc : Thread Cert.ReferenceAdamSmallIdeal.nD Cert.ReferenceAdamSmallIdeal.τ).loc Cert.ReferenceAdamSmallIdeal.main_arg0)
      ∧ r.2.mem ((c.tc : Thread Cert.ReferenceAdamSmallIdeal.nD Cert.ReferenceAdamSmallIdeal.τ).loc Cert.ReferenceAdamSmallIdeal.main_arg1) = m ((c.tc : Thread Cert.ReferenceAdamSmallIdeal.nD Cert.ReferenceAdamSmallIdeal.τ).loc Cert.ReferenceAdamSmallIdeal.main_arg1)
      ∧ r.2.mem ((c.tc : Thread Cert.ReferenceAdamSmallIdeal.nD Cert.ReferenceAdamSmallIdeal.τ).loc Cert.ReferenceAdamSmallIdeal.main_arg2) = m ((c.tc : Thread Cert.ReferenceAdamSmallIdeal.nD Cert.ReferenceAdamSmallIdeal.τ).loc Cert.ReferenceAdamSmallIdeal.main_arg2)
      ∧ r.2.mem ((c.tc : Thread Cert.ReferenceAdamSmallIdeal.nD Cert.ReferenceAdamSmallIdeal.τ).loc Cert.ReferenceAdamSmallIdeal.main_arg3) = m ((c.tc : Thread Cert.ReferenceAdamSmallIdeal.nD Cert.ReferenceAdamSmallIdeal.τ).loc Cert.ReferenceAdamSmallIdeal.main_arg3)
      ∧ r.2.mem ((c.tc : Thread Cert.ReferenceAdamSmallIdeal.nD Cert.ReferenceAdamSmallIdeal.τ).loc Cert.ReferenceAdamSmallIdeal.main_arg4) = m ((c.tc : Thread Cert.ReferenceAdamSmallIdeal.nD Cert.ReferenceAdamSmallIdeal.τ).loc Cert.ReferenceAdamSmallIdeal.main_arg4)
      ∧ r.2.mem ((c.tc : Thread Cert.ReferenceAdamSmallIdeal.nD Cert.ReferenceAdamSmallIdeal.τ).loc Cert.ReferenceAdamSmallIdeal.main_arg5) = m ((c.tc : Thread Cert.ReferenceAdamSmallIdeal.nD Cert.ReferenceAdamSmallIdeal.τ).loc Cert.ReferenceAdamSmallIdeal.main_arg5)
      ∧ r.2.mem ((c.tc : Thread Cert.ReferenceAdamSmallIdeal.nD Cert.ReferenceAdamSmallIdeal.τ).loc Cert.ReferenceAdamSmallIdeal.main_arg6) = m ((c.tc : Thread Cert.ReferenceAdamSmallIdeal.nD Cert.ReferenceAdamSmallIdeal.τ).loc Cert.ReferenceAdamSmallIdeal.main_arg6)
      ∧ r.2.mem ((c.tc : Thread Cert.ReferenceAdamSmallIdeal.nD Cert.ReferenceAdamSmallIdeal.τ).loc Cert.ReferenceAdamSmallIdeal.main_arg7) = m ((c.tc : Thread Cert.ReferenceAdamSmallIdeal.nD Cert.ReferenceAdamSmallIdeal.τ).loc Cert.ReferenceAdamSmallIdeal.main_arg7)
      ∧ r.2.mem ((c.tc : Thread Cert.ReferenceAdamSmallIdeal.nD Cert.ReferenceAdamSmallIdeal.τ).loc Cert.ReferenceAdamSmallIdeal.main_arg8) = m ((c.tc : Thread Cert.ReferenceAdamSmallIdeal.nD Cert.ReferenceAdamSmallIdeal.τ).loc Cert.ReferenceAdamSmallIdeal.main_arg8)
      ∧ r.2.mem ((c.tc : Thread Cert.ReferenceAdamSmallIdeal.nD Cert.ReferenceAdamSmallIdeal.τ).loc Cert.ReferenceAdamSmallIdeal.main_arg9) = m ((c.tc : Thread Cert.ReferenceAdamSmallIdeal.nD Cert.ReferenceAdamSmallIdeal.τ).loc Cert.ReferenceAdamSmallIdeal.main_arg9)
      ∧ r.2.mem ((c.tc : Thread Cert.ReferenceAdamSmallIdeal.nD Cert.ReferenceAdamSmallIdeal.τ).loc Cert.ReferenceAdamSmallIdeal.main_arg10) = m ((c.tc : Thread Cert.ReferenceAdamSmallIdeal.nD Cert.ReferenceAdamSmallIdeal.τ).loc Cert.ReferenceAdamSmallIdeal.main_arg10)
      ∧ r.2.mem ((c.tc : Thread Cert.ReferenceAdamSmallIdeal.nD Cert.ReferenceAdamSmallIdeal.τ).loc Cert.ReferenceAdamSmallIdeal.main_arg11) = m ((c.tc : Thread Cert.ReferenceAdamSmallIdeal.nD Cert.ReferenceAdamSmallIdeal.τ).loc Cert.ReferenceAdamSmallIdeal.main_arg11)
      ∧ r.2.mem ((c.tc : Thread Cert.ReferenceAdamSmallIdeal.nD Cert.ReferenceAdamSmallIdeal.τ).loc Cert.ReferenceAdamSmallIdeal.main_arg12) = m ((c.tc : Thread Cert.ReferenceAdamSmallIdeal.nD Cert.ReferenceAdamSmallIdeal.τ).loc Cert.ReferenceAdamSmallIdeal.main_arg12)
      ∧ r.2.mem ((c.tc : Thread Cert.ReferenceAdamSmallIdeal.nD Cert.ReferenceAdamSmallIdeal.τ).loc Cert.ReferenceAdamSmallIdeal.main_arg13) = m ((c.tc : Thread Cert.ReferenceAdamSmallIdeal.nD Cert.ReferenceAdamSmallIdeal.τ).loc Cert.ReferenceAdamSmallIdeal.main_arg13)
      ∧ r.2.mem ((c.tc : Thread Cert.ReferenceAdamSmallIdeal.nD Cert.ReferenceAdamSmallIdeal.τ).loc Cert.ReferenceAdamSmallIdeal.main_arg14) = m ((c.tc : Thread Cert.ReferenceAdamSmallIdeal.nD Cert.ReferenceAdamSmallIdeal.τ).loc Cert.ReferenceAdamSmallIdeal.main_arg14)
      ∧ r.2.mem ((c.tc : Thread Cert.ReferenceAdamSmallIdeal.nD Cert.ReferenceAdamSmallIdeal.τ).loc Cert.ReferenceAdamSmallIdeal.main_arg15) = m ((c.tc : Thread Cert.ReferenceAdamSmallIdeal.nD Cert.ReferenceAdamSmallIdeal.τ).loc Cert.ReferenceAdamSmallIdeal.main_arg15)
      ∧ r.2.mem ((c.tc : Thread Cert.ReferenceAdamSmallIdeal.nD Cert.ReferenceAdamSmallIdeal.τ).loc Cert.ReferenceAdamSmallIdeal.main_arg16) = m ((c.tc : Thread Cert.ReferenceAdamSmallIdeal.nD Cert.ReferenceAdamSmallIdeal.τ).loc Cert.ReferenceAdamSmallIdeal.main_arg16)
      ∧ r.2.mem ((c.tc : Thread Cert.ReferenceAdamSmallIdeal.nD Cert.ReferenceAdamSmallIdeal.τ).loc Cert.ReferenceAdamSmallIdeal.main_arg17) = m ((c.tc : Thread Cert.ReferenceAdamSmallIdeal.nD Cert.ReferenceAdamSmallIdeal.τ).loc Cert.ReferenceAdamSmallIdeal.main_arg17)
      ∧ r.2.mem ((c.tc : Thread Cert.ReferenceAdamSmallIdeal.nD Cert.ReferenceAdamSmallIdeal.τ).loc Cert.ReferenceAdamSmallIdeal.main_arg18) = m ((c.tc : Thread Cert.ReferenceAdamSmallIdeal.nD Cert.ReferenceAdamSmallIdeal.τ).loc Cert.ReferenceAdamSmallIdeal.main_arg18)
      ∧ r.2.mem ((c.tc : Thread Cert.ReferenceAdamSmallIdeal.nD Cert.ReferenceAdamSmallIdeal.τ).loc Cert.ReferenceAdamSmallIdeal.main_arg19) = m ((c.tc : Thread Cert.ReferenceAdamSmallIdeal.nD Cert.ReferenceAdamSmallIdeal.τ).loc Cert.ReferenceAdamSmallIdeal.main_arg19)
      ∧ r.2.mem ((c.tc : Thread Cert.ReferenceAdamSmallIdeal.nD Cert.ReferenceAdamSmallIdeal.τ).loc Cert.ReferenceAdamSmallIdeal.main_arg20) = m ((c.tc : Thread Cert.ReferenceAdamSmallIdeal.nD Cert.ReferenceAdamSmallIdeal.τ).loc Cert.ReferenceAdamSmallIdeal.main_arg20)
      ∧ r.2.mem ((c.tc : Thread Cert.ReferenceAdamSmallIdeal.nD Cert.ReferenceAdamSmallIdeal.τ).loc Cert.ReferenceAdamSmallIdeal.main_arg21) = m ((c.tc : Thread Cert.ReferenceAdamSmallIdeal.nD Cert.ReferenceAdamSmallIdeal.τ).loc Cert.ReferenceAdamSmallIdeal.main_arg21)
      ∧ r.2.mem ((c.tc : Thread Cert.ReferenceAdamSmallIdeal.nD Cert.ReferenceAdamSmallIdeal.τ).loc Cert.ReferenceAdamSmallIdeal.main_arg22) = m ((c.tc : Thread Cert.ReferenceAdamSmallIdeal.nD Cert.ReferenceAdamSmallIdeal.τ).loc Cert.ReferenceAdamSmallIdeal.main_arg22)
      ∧ r.2.mem ((c.tc : Thread Cert.ReferenceAdamSmallIdeal.nD Cert.ReferenceAdamSmallIdeal.τ).loc Cert.ReferenceAdamSmallIdeal.main_arg23) = m ((c.tc : Thread Cert.ReferenceAdamSmallIdeal.nD Cert.ReferenceAdamSmallIdeal.τ).loc Cert.ReferenceAdamSmallIdeal.main_arg23))
      ∧ r.2.sem = fun _ => 0)

def quiescent_KernelSums [hKernelSums : Cert.KernelSums.Facts] : Prop :=
  ∀ (m : (ℓ : Loc Cert.KernelSums.nD Cert.KernelSums.τ Cert.KernelSums.sig) → Buf (Elt Bits) ℓ) (g : Dev Cert.KernelSums.nD → PrngReg), Pre_KernelSums m →
    θ_run (Cert.KernelSums.defs (F := Bits)) (onTc (τ := Cert.KernelSums.τ) (Cert.KernelSums.main (F := Bits))) ⟨m, fun _ => 0, g⟩ (fun r => (∀ c : Dev Cert.KernelSums.nD,
      r.2.mem ((c.tc : Thread Cert.KernelSums.nD Cert.KernelSums.τ).loc Cert.KernelSums.main_arg0) = m ((c.tc : Thread Cert.KernelSums.nD Cert.KernelSums.τ).loc Cert.KernelSums.main_arg0)
      ∧ r.2.mem ((c.tc : Thread Cert.KernelSums.nD Cert.KernelSums.τ).loc Cert.KernelSums.main_arg1) = m ((c.tc : Thread Cert.KernelSums.nD Cert.KernelSums.τ).loc Cert.KernelSums.main_arg1)
      ∧ r.2.mem ((c.tc : Thread Cert.KernelSums.nD Cert.KernelSums.τ).loc Cert.KernelSums.main_arg2) = m ((c.tc : Thread Cert.KernelSums.nD Cert.KernelSums.τ).loc Cert.KernelSums.main_arg2)
      ∧ r.2.mem ((c.tc : Thread Cert.KernelSums.nD Cert.KernelSums.τ).loc Cert.KernelSums.main_arg3) = m ((c.tc : Thread Cert.KernelSums.nD Cert.KernelSums.τ).loc Cert.KernelSums.main_arg3)
      ∧ r.2.mem ((c.tc : Thread Cert.KernelSums.nD Cert.KernelSums.τ).loc Cert.KernelSums.main_arg4) = m ((c.tc : Thread Cert.KernelSums.nD Cert.KernelSums.τ).loc Cert.KernelSums.main_arg4)
      ∧ r.2.mem ((c.tc : Thread Cert.KernelSums.nD Cert.KernelSums.τ).loc Cert.KernelSums.main_arg5) = m ((c.tc : Thread Cert.KernelSums.nD Cert.KernelSums.τ).loc Cert.KernelSums.main_arg5)
      ∧ r.2.mem ((c.tc : Thread Cert.KernelSums.nD Cert.KernelSums.τ).loc Cert.KernelSums.main_arg6) = m ((c.tc : Thread Cert.KernelSums.nD Cert.KernelSums.τ).loc Cert.KernelSums.main_arg6)
      ∧ r.2.mem ((c.tc : Thread Cert.KernelSums.nD Cert.KernelSums.τ).loc Cert.KernelSums.main_arg7) = m ((c.tc : Thread Cert.KernelSums.nD Cert.KernelSums.τ).loc Cert.KernelSums.main_arg7)
      ∧ r.2.mem ((c.tc : Thread Cert.KernelSums.nD Cert.KernelSums.τ).loc Cert.KernelSums.main_arg8) = m ((c.tc : Thread Cert.KernelSums.nD Cert.KernelSums.τ).loc Cert.KernelSums.main_arg8))
      ∧ r.2.sem = fun _ => 0)

def quiescent_KernelSumsIdeal [hKernelSumsIdeal : Cert.KernelSumsIdeal.Facts] : Prop :=
  ∀ (m : (ℓ : Loc Cert.KernelSumsIdeal.nD Cert.KernelSumsIdeal.τ Cert.KernelSumsIdeal.sig) → Buf (Elt Ideal) ℓ) (g : Dev Cert.KernelSumsIdeal.nD → PrngReg), Pre_KernelSumsIdeal m →
    θ_run (Cert.KernelSumsIdeal.defs (F := Ideal)) (onTc (τ := Cert.KernelSumsIdeal.τ) (Cert.KernelSumsIdeal.main (F := Ideal))) ⟨m, fun _ => 0, g⟩ (fun r => (∀ c : Dev Cert.KernelSumsIdeal.nD,
      r.2.mem ((c.tc : Thread Cert.KernelSumsIdeal.nD Cert.KernelSumsIdeal.τ).loc Cert.KernelSumsIdeal.main_arg0) = m ((c.tc : Thread Cert.KernelSumsIdeal.nD Cert.KernelSumsIdeal.τ).loc Cert.KernelSumsIdeal.main_arg0)
      ∧ r.2.mem ((c.tc : Thread Cert.KernelSumsIdeal.nD Cert.KernelSumsIdeal.τ).loc Cert.KernelSumsIdeal.main_arg1) = m ((c.tc : Thread Cert.KernelSumsIdeal.nD Cert.KernelSumsIdeal.τ).loc Cert.KernelSumsIdeal.main_arg1)
      ∧ r.2.mem ((c.tc : Thread Cert.KernelSumsIdeal.nD Cert.KernelSumsIdeal.τ).loc Cert.KernelSumsIdeal.main_arg2) = m ((c.tc : Thread Cert.KernelSumsIdeal.nD Cert.KernelSumsIdeal.τ).loc Cert.KernelSumsIdeal.main_arg2)
      ∧ r.2.mem ((c.tc : Thread Cert.KernelSumsIdeal.nD Cert.KernelSumsIdeal.τ).loc Cert.KernelSumsIdeal.main_arg3) = m ((c.tc : Thread Cert.KernelSumsIdeal.nD Cert.KernelSumsIdeal.τ).loc Cert.KernelSumsIdeal.main_arg3)
      ∧ r.2.mem ((c.tc : Thread Cert.KernelSumsIdeal.nD Cert.KernelSumsIdeal.τ).loc Cert.KernelSumsIdeal.main_arg4) = m ((c.tc : Thread Cert.KernelSumsIdeal.nD Cert.KernelSumsIdeal.τ).loc Cert.KernelSumsIdeal.main_arg4)
      ∧ r.2.mem ((c.tc : Thread Cert.KernelSumsIdeal.nD Cert.KernelSumsIdeal.τ).loc Cert.KernelSumsIdeal.main_arg5) = m ((c.tc : Thread Cert.KernelSumsIdeal.nD Cert.KernelSumsIdeal.τ).loc Cert.KernelSumsIdeal.main_arg5)
      ∧ r.2.mem ((c.tc : Thread Cert.KernelSumsIdeal.nD Cert.KernelSumsIdeal.τ).loc Cert.KernelSumsIdeal.main_arg6) = m ((c.tc : Thread Cert.KernelSumsIdeal.nD Cert.KernelSumsIdeal.τ).loc Cert.KernelSumsIdeal.main_arg6)
      ∧ r.2.mem ((c.tc : Thread Cert.KernelSumsIdeal.nD Cert.KernelSumsIdeal.τ).loc Cert.KernelSumsIdeal.main_arg7) = m ((c.tc : Thread Cert.KernelSumsIdeal.nD Cert.KernelSumsIdeal.τ).loc Cert.KernelSumsIdeal.main_arg7)
      ∧ r.2.mem ((c.tc : Thread Cert.KernelSumsIdeal.nD Cert.KernelSumsIdeal.τ).loc Cert.KernelSumsIdeal.main_arg8) = m ((c.tc : Thread Cert.KernelSumsIdeal.nD Cert.KernelSumsIdeal.τ).loc Cert.KernelSumsIdeal.main_arg8))
      ∧ r.2.sem = fun _ => 0)

def quiescent_ReferenceSumsIdeal [hReferenceSumsIdeal : Cert.ReferenceSumsIdeal.Facts] : Prop :=
  ∀ (m : (ℓ : Loc Cert.ReferenceSumsIdeal.nD Cert.ReferenceSumsIdeal.τ Cert.ReferenceSumsIdeal.sig) → Buf (Elt Ideal) ℓ) (g : Dev Cert.ReferenceSumsIdeal.nD → PrngReg), Pre_ReferenceSumsIdeal m →
    θ_run (Cert.ReferenceSumsIdeal.defs (F := Ideal)) (onTc (τ := Cert.ReferenceSumsIdeal.τ) (Cert.ReferenceSumsIdeal.main (F := Ideal))) ⟨m, fun _ => 0, g⟩ (fun r => (∀ c : Dev Cert.ReferenceSumsIdeal.nD,
      r.2.mem ((c.tc : Thread Cert.ReferenceSumsIdeal.nD Cert.ReferenceSumsIdeal.τ).loc Cert.ReferenceSumsIdeal.main_arg0) = m ((c.tc : Thread Cert.ReferenceSumsIdeal.nD Cert.ReferenceSumsIdeal.τ).loc Cert.ReferenceSumsIdeal.main_arg0)
      ∧ r.2.mem ((c.tc : Thread Cert.ReferenceSumsIdeal.nD Cert.ReferenceSumsIdeal.τ).loc Cert.ReferenceSumsIdeal.main_arg1) = m ((c.tc : Thread Cert.ReferenceSumsIdeal.nD Cert.ReferenceSumsIdeal.τ).loc Cert.ReferenceSumsIdeal.main_arg1)
      ∧ r.2.mem ((c.tc : Thread Cert.ReferenceSumsIdeal.nD Cert.ReferenceSumsIdeal.τ).loc Cert.ReferenceSumsIdeal.main_arg2) = m ((c.tc : Thread Cert.ReferenceSumsIdeal.nD Cert.ReferenceSumsIdeal.τ).loc Cert.ReferenceSumsIdeal.main_arg2)
      ∧ r.2.mem ((c.tc : Thread Cert.ReferenceSumsIdeal.nD Cert.ReferenceSumsIdeal.τ).loc Cert.ReferenceSumsIdeal.main_arg3) = m ((c.tc : Thread Cert.ReferenceSumsIdeal.nD Cert.ReferenceSumsIdeal.τ).loc Cert.ReferenceSumsIdeal.main_arg3)
      ∧ r.2.mem ((c.tc : Thread Cert.ReferenceSumsIdeal.nD Cert.ReferenceSumsIdeal.τ).loc Cert.ReferenceSumsIdeal.main_arg4) = m ((c.tc : Thread Cert.ReferenceSumsIdeal.nD Cert.ReferenceSumsIdeal.τ).loc Cert.ReferenceSumsIdeal.main_arg4)
      ∧ r.2.mem ((c.tc : Thread Cert.ReferenceSumsIdeal.nD Cert.ReferenceSumsIdeal.τ).loc Cert.ReferenceSumsIdeal.main_arg5) = m ((c.tc : Thread Cert.ReferenceSumsIdeal.nD Cert.ReferenceSumsIdeal.τ).loc Cert.ReferenceSumsIdeal.main_arg5)
      ∧ r.2.mem ((c.tc : Thread Cert.ReferenceSumsIdeal.nD Cert.ReferenceSumsIdeal.τ).loc Cert.ReferenceSumsIdeal.main_arg6) = m ((c.tc : Thread Cert.ReferenceSumsIdeal.nD Cert.ReferenceSumsIdeal.τ).loc Cert.ReferenceSumsIdeal.main_arg6)
      ∧ r.2.mem ((c.tc : Thread Cert.ReferenceSumsIdeal.nD Cert.ReferenceSumsIdeal.τ).loc Cert.ReferenceSumsIdeal.main_arg7) = m ((c.tc : Thread Cert.ReferenceSumsIdeal.nD Cert.ReferenceSumsIdeal.τ).loc Cert.ReferenceSumsIdeal.main_arg7)
      ∧ r.2.mem ((c.tc : Thread Cert.ReferenceSumsIdeal.nD Cert.ReferenceSumsIdeal.τ).loc Cert.ReferenceSumsIdeal.main_arg8) = m ((c.tc : Thread Cert.ReferenceSumsIdeal.nD Cert.ReferenceSumsIdeal.τ).loc Cert.ReferenceSumsIdeal.main_arg8))
      ∧ r.2.sem = fun _ => 0)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1))
      ∧ r.2.sem = fun _ => 0)

def preserves_Kernel_KernelIdeal : Prop :=
  IdealRules.named_const.Statement Cert.KernelIdeal.κ "log2_e" .f32 0x3FB8AA3B#32 (((Real.log 2)⁻¹ : ℝ) : EReal)
  ∧ IdealRules.named_const.Statement Cert.KernelIdeal.κ "scale_log2_e" .f32 0x3E0293EE#32 (((11863283 / 134217728) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v52_0)) (v1 : (c : Dev Cert.KernelIdeal.nD) → Buf (Elt Ideal) ((c.tc : Thread Cert.KernelIdeal.nD Cert.KernelIdeal.τ).loc Cert.KernelIdeal.main_v52_1)) (v2 : (c : Dev Cert.KernelIdeal.nD) → Buf (Elt Ideal) ((c.tc : Thread Cert.KernelIdeal.nD Cert.KernelIdeal.τ).loc Cert.KernelIdeal.main_v52_2)) (v3 : (c : Dev Cert.KernelIdeal.nD) → Buf (Elt Ideal) ((c.tc : Thread Cert.KernelIdeal.nD Cert.KernelIdeal.τ).loc Cert.KernelIdeal.main_v52_3)) (v4 : (c : Dev Cert.KernelIdeal.nD) → Buf (Elt Ideal) ((c.tc : Thread Cert.KernelIdeal.nD Cert.KernelIdeal.τ).loc Cert.KernelIdeal.main_v52_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52_0) = v0 c
          ∧ r.2.mem ((c.tc : Thread Cert.KernelIdeal.nD Cert.KernelIdeal.τ).loc Cert.KernelIdeal.main_v52_1) = v1 c
          ∧ r.2.mem ((c.tc : Thread Cert.KernelIdeal.nD Cert.KernelIdeal.τ).loc Cert.KernelIdeal.main_v52_2) = v2 c
          ∧ r.2.mem ((c.tc : Thread Cert.KernelIdeal.nD Cert.KernelIdeal.τ).loc Cert.KernelIdeal.main_v52_3) = v3 c
          ∧ r.2.mem ((c.tc : Thread Cert.KernelIdeal.nD Cert.KernelIdeal.τ).loc Cert.KernelIdeal.main_v52_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v100) = v1 c
          ∧ r.2.mem ((c.tc : Thread Cert.ReferenceIdeal.nD Cert.ReferenceIdeal.τ).loc Cert.ReferenceIdeal.main_v102) = v2 c
          ∧ r.2.mem ((c.tc : Thread Cert.ReferenceIdeal.nD Cert.ReferenceIdeal.τ).loc Cert.ReferenceIdeal.main_v104) = v3 c
          ∧ r.2.mem ((c.tc : Thread Cert.ReferenceIdeal.nD Cert.ReferenceIdeal.τ).loc Cert.ReferenceIdeal.main_v107) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_KernelDx_KernelDxIdeal : Prop :=
  True

def algebraic_KernelDxIdeal_ReferenceDxIdeal [hKernelDxIdeal : Cert.KernelDxIdeal.Facts] [hReferenceDxIdeal : Cert.ReferenceDxIdeal.Facts] : Prop :=
  ∀ (m : (ℓ : Loc Cert.KernelDxIdeal.nD Cert.KernelDxIdeal.τ Cert.KernelDxIdeal.sig) → Buf (Elt Ideal) ℓ) (g : Dev Cert.KernelDxIdeal.nD → PrngReg)
    (m' : (ℓ : Loc Cert.ReferenceDxIdeal.nD Cert.ReferenceDxIdeal.τ Cert.ReferenceDxIdeal.sig) → Buf (Elt Ideal) ℓ) (g' : Dev Cert.ReferenceDxIdeal.nD → PrngReg), Pre_KernelDxIdeal m →
    (∀ c : Dev Cert.KernelDxIdeal.nD,
      m' ((c.tc : Thread Cert.ReferenceDxIdeal.nD Cert.ReferenceDxIdeal.τ).loc Cert.ReferenceDxIdeal.main_arg0) = m ((c.tc : Thread Cert.KernelDxIdeal.nD Cert.KernelDxIdeal.τ).loc Cert.KernelDxIdeal.main_arg0)
      ∧ m' ((c.tc : Thread Cert.ReferenceDxIdeal.nD Cert.ReferenceDxIdeal.τ).loc Cert.ReferenceDxIdeal.main_arg1) = m ((c.tc : Thread Cert.KernelDxIdeal.nD Cert.KernelDxIdeal.τ).loc Cert.KernelDxIdeal.main_arg1)
      ∧ m' ((c.tc : Thread Cert.ReferenceDxIdeal.nD Cert.ReferenceDxIdeal.τ).loc Cert.ReferenceDxIdeal.main_arg2) = m ((c.tc : Thread Cert.KernelDxIdeal.nD Cert.KernelDxIdeal.τ).loc Cert.KernelDxIdeal.main_arg2)) →
    ∃ (v0 : (c : Dev Cert.KernelDxIdeal.nD) → Buf (Elt Ideal) ((c.tc : Thread Cert.KernelDxIdeal.nD Cert.KernelDxIdeal.τ).loc Cert.KernelDxIdeal.main_v0)),
      θ_run (Cert.KernelDxIdeal.defs (F := Ideal)) (onTc (τ := Cert.KernelDxIdeal.τ) (Cert.KernelDxIdeal.main (F := Ideal))) ⟨m, fun _ => 0, g⟩ (fun r => ∀ c : Dev Cert.KernelDxIdeal.nD,
          r.2.mem ((c.tc : Thread Cert.KernelDxIdeal.nD Cert.KernelDxIdeal.τ).loc Cert.KernelDxIdeal.main_v0) = v0 c
          ∧ r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
          ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1)
          ∧ r.2.mem ((c.tc : Thread Cert.KernelDxIdeal.nD Cert.KernelDxIdeal.τ).loc Cert.KernelDxIdeal.main_arg2) = m ((c.tc : Thread Cert.KernelDxIdeal.nD Cert.KernelDxIdeal.τ).loc Cert.KernelDxIdeal.main_arg2))
      ∧ θ_run (Cert.ReferenceDxIdeal.defs (F := Ideal)) (onTc (τ := Cert.ReferenceDxIdeal.τ) (Cert.ReferenceDxIdeal.main (F := Ideal))) ⟨m', fun _ => 0, g'⟩ (fun r => ∀ c : Dev Cert.ReferenceDxIdeal.nD,
          r.2.mem ((c.tc : Thread Cert.ReferenceDxIdeal.nD Cert.ReferenceDxIdeal.τ).loc Cert.ReferenceDxIdeal.main_v9) = v0 c
          ∧ r.2.mem ((c.tc : Thread Cert.ReferenceDxIdeal.nD Cert.ReferenceDxIdeal.τ).loc Cert.ReferenceDxIdeal.main_arg0) = m' ((c.tc : Thread Cert.ReferenceDxIdeal.nD Cert.ReferenceDxIdeal.τ).loc Cert.ReferenceDxIdeal.main_arg0)
          ∧ r.2.mem ((c.tc : Thread Cert.ReferenceDxIdeal.nD Cert.ReferenceDxIdeal.τ).loc Cert.ReferenceDxIdeal.main_arg1) = m' ((c.tc : Thread Cert.ReferenceDxIdeal.nD Cert.ReferenceDxIdeal.τ).loc Cert.ReferenceDxIdeal.main_arg1)
          ∧ r.2.mem ((c.tc : Thread Cert.ReferenceDxIdeal.nD Cert.ReferenceDxIdeal.τ).loc Cert.ReferenceDxIdeal.main_arg2) = m' ((c.tc : Thread Cert.ReferenceDxIdeal.nD Cert.ReferenceDxIdeal.τ).loc Cert.ReferenceDxIdeal.main_arg2))

def preserves_KernelDw_KernelDwIdeal : Prop :=
  True

def algebraic_KernelDwIdeal_ReferenceDwIdeal [hKernelDwIdeal : Cert.KernelDwIdeal.Facts] [hReferenceDwIdeal : Cert.ReferenceDwIdeal.Facts] : Prop :=
  ∀ (m : (ℓ : Loc Cert.KernelDwIdeal.nD Cert.KernelDwIdeal.τ Cert.KernelDwIdeal.sig) → Buf (Elt Ideal) ℓ) (g : Dev Cert.KernelDwIdeal.nD → PrngReg)
    (m' : (ℓ : Loc Cert.ReferenceDwIdeal.nD Cert.ReferenceDwIdeal.τ Cert.ReferenceDwIdeal.sig) → Buf (Elt Ideal) ℓ) (g' : Dev Cert.ReferenceDwIdeal.nD → PrngReg), Pre_KernelDwIdeal m →
    (∀ c : Dev Cert.KernelDwIdeal.nD,
      m' ((c.tc : Thread Cert.ReferenceDwIdeal.nD Cert.ReferenceDwIdeal.τ).loc Cert.ReferenceDwIdeal.main_arg0) = m ((c.tc : Thread Cert.KernelDwIdeal.nD Cert.KernelDwIdeal.τ).loc Cert.KernelDwIdeal.main_arg0)
      ∧ m' ((c.tc : Thread Cert.ReferenceDwIdeal.nD Cert.ReferenceDwIdeal.τ).loc Cert.ReferenceDwIdeal.main_arg1) = m ((c.tc : Thread Cert.KernelDwIdeal.nD Cert.KernelDwIdeal.τ).loc Cert.KernelDwIdeal.main_arg1)) →
    ∃ (v0 : (c : Dev Cert.KernelDwIdeal.nD) → Buf (Elt Ideal) ((c.tc : Thread Cert.KernelDwIdeal.nD Cert.KernelDwIdeal.τ).loc Cert.KernelDwIdeal.main_v0)),
      θ_run (Cert.KernelDwIdeal.defs (F := Ideal)) (onTc (τ := Cert.KernelDwIdeal.τ) (Cert.KernelDwIdeal.main (F := Ideal))) ⟨m, fun _ => 0, g⟩ (fun r => ∀ c : Dev Cert.KernelDwIdeal.nD,
          r.2.mem ((c.tc : Thread Cert.KernelDwIdeal.nD Cert.KernelDwIdeal.τ).loc Cert.KernelDwIdeal.main_v0) = v0 c
          ∧ r.2.mem ((c.tc : Thread Cert.KernelDwIdeal.nD Cert.KernelDwIdeal.τ).loc Cert.KernelDwIdeal.main_arg0) = m ((c.tc : Thread Cert.KernelDwIdeal.nD Cert.KernelDwIdeal.τ).loc Cert.KernelDwIdeal.main_arg0)
          ∧ r.2.mem ((c.tc : Thread Cert.KernelDwIdeal.nD Cert.KernelDwIdeal.τ).loc Cert.KernelDwIdeal.main_arg1) = m ((c.tc : Thread Cert.KernelDwIdeal.nD Cert.KernelDwIdeal.τ).loc Cert.KernelDwIdeal.main_arg1))
      ∧ θ_run (Cert.ReferenceDwIdeal.defs (F := Ideal)) (onTc (τ := Cert.ReferenceDwIdeal.τ) (Cert.ReferenceDwIdeal.main (F := Ideal))) ⟨m', fun _ => 0, g'⟩ (fun r => ∀ c : Dev Cert.ReferenceDwIdeal.nD,
          r.2.mem ((c.tc : Thread Cert.ReferenceDwIdeal.nD Cert.ReferenceDwIdeal.τ).loc Cert.ReferenceDwIdeal.main_v6) = v0 c
          ∧ r.2.mem ((c.tc : Thread Cert.ReferenceDwIdeal.nD Cert.ReferenceDwIdeal.τ).loc Cert.ReferenceDwIdeal.main_arg0) = m' ((c.tc : Thread Cert.ReferenceDwIdeal.nD Cert.ReferenceDwIdeal.τ).loc Cert.ReferenceDwIdeal.main_arg0)
          ∧ r.2.mem ((c.tc : Thread Cert.ReferenceDwIdeal.nD Cert.ReferenceDwIdeal.τ).loc Cert.ReferenceDwIdeal.main_arg1) = m' ((c.tc : Thread Cert.ReferenceDwIdeal.nD Cert.ReferenceDwIdeal.τ).loc Cert.ReferenceDwIdeal.main_arg1))

def preserves_KernelDy_KernelDyIdeal : Prop :=
  True

def algebraic_KernelDyIdeal_ReferenceDyIdeal [hKernelDyIdeal : Cert.KernelDyIdeal.Facts] [hReferenceDyIdeal : Cert.ReferenceDyIdeal.Facts] : Prop :=
  ∀ (m : (ℓ : Loc Cert.KernelDyIdeal.nD Cert.KernelDyIdeal.τ Cert.KernelDyIdeal.sig) → Buf (Elt Ideal) ℓ) (g : Dev Cert.KernelDyIdeal.nD → PrngReg)
    (m' : (ℓ : Loc Cert.ReferenceDyIdeal.nD Cert.ReferenceDyIdeal.τ Cert.ReferenceDyIdeal.sig) → Buf (Elt Ideal) ℓ) (g' : Dev Cert.ReferenceDyIdeal.nD → PrngReg), Pre_KernelDyIdeal m →
    (∀ c : Dev Cert.KernelDyIdeal.nD,
      m' ((c.tc : Thread Cert.ReferenceDyIdeal.nD Cert.ReferenceDyIdeal.τ).loc Cert.ReferenceDyIdeal.main_arg0) = m ((c.tc : Thread Cert.KernelDyIdeal.nD Cert.KernelDyIdeal.τ).loc Cert.KernelDyIdeal.main_arg0)
      ∧ m' ((c.tc : Thread Cert.ReferenceDyIdeal.nD Cert.ReferenceDyIdeal.τ).loc Cert.ReferenceDyIdeal.main_arg1) = m ((c.tc : Thread Cert.KernelDyIdeal.nD Cert.KernelDyIdeal.τ).loc Cert.KernelDyIdeal.main_arg1)) →
    ∃ (v0 : (c : Dev Cert.KernelDyIdeal.nD) → Buf (Elt Ideal) ((c.tc : Thread Cert.KernelDyIdeal.nD Cert.KernelDyIdeal.τ).loc Cert.KernelDyIdeal.main_v0)),
      θ_run (Cert.KernelDyIdeal.defs (F := Ideal)) (onTc (τ := Cert.KernelDyIdeal.τ) (Cert.KernelDyIdeal.main (F := Ideal))) ⟨m, fun _ => 0, g⟩ (fun r => ∀ c : Dev Cert.KernelDyIdeal.nD,
          r.2.mem ((c.tc : Thread Cert.KernelDyIdeal.nD Cert.KernelDyIdeal.τ).loc Cert.KernelDyIdeal.main_v0) = v0 c
          ∧ r.2.mem ((c.tc : Thread Cert.KernelDyIdeal.nD Cert.KernelDyIdeal.τ).loc Cert.KernelDyIdeal.main_arg0) = m ((c.tc : Thread Cert.KernelDyIdeal.nD Cert.KernelDyIdeal.τ).loc Cert.KernelDyIdeal.main_arg0)
          ∧ r.2.mem ((c.tc : Thread Cert.KernelDyIdeal.nD Cert.KernelDyIdeal.τ).loc Cert.KernelDyIdeal.main_arg1) = m ((c.tc : Thread Cert.KernelDyIdeal.nD Cert.KernelDyIdeal.τ).loc Cert.KernelDyIdeal.main_arg1))
      ∧ θ_run (Cert.ReferenceDyIdeal.defs (F := Ideal)) (onTc (τ := Cert.ReferenceDyIdeal.τ) (Cert.ReferenceDyIdeal.main (F := Ideal))) ⟨m', fun _ => 0, g'⟩ (fun r => ∀ c : Dev Cert.ReferenceDyIdeal.nD,
          r.2.mem ((c.tc : Thread Cert.ReferenceDyIdeal.nD Cert.ReferenceDyIdeal.τ).loc Cert.ReferenceDyIdeal.main_v5) = v0 c
          ∧ r.2.mem ((c.tc : Thread Cert.ReferenceDyIdeal.nD Cert.ReferenceDyIdeal.τ).loc Cert.ReferenceDyIdeal.main_arg0) = m' ((c.tc : Thread Cert.ReferenceDyIdeal.nD Cert.ReferenceDyIdeal.τ).loc Cert.ReferenceDyIdeal.main_arg0)
          ∧ r.2.mem ((c.tc : Thread Cert.ReferenceDyIdeal.nD Cert.ReferenceDyIdeal.τ).loc Cert.ReferenceDyIdeal.main_arg1) = m' ((c.tc : Thread Cert.ReferenceDyIdeal.nD Cert.ReferenceDyIdeal.τ).loc Cert.ReferenceDyIdeal.main_arg1))

def preserves_KernelDwo_KernelDwoIdeal : Prop :=
  True

def algebraic_KernelDwoIdeal_ReferenceDwoIdeal [hKernelDwoIdeal : Cert.KernelDwoIdeal.Facts] [hReferenceDwoIdeal : Cert.ReferenceDwoIdeal.Facts] : Prop :=
  ∀ (m : (ℓ : Loc Cert.KernelDwoIdeal.nD Cert.KernelDwoIdeal.τ Cert.KernelDwoIdeal.sig) → Buf (Elt Ideal) ℓ) (g : Dev Cert.KernelDwoIdeal.nD → PrngReg)
    (m' : (ℓ : Loc Cert.ReferenceDwoIdeal.nD Cert.ReferenceDwoIdeal.τ Cert.ReferenceDwoIdeal.sig) → Buf (Elt Ideal) ℓ) (g' : Dev Cert.ReferenceDwoIdeal.nD → PrngReg), Pre_KernelDwoIdeal m →
    (∀ c : Dev Cert.KernelDwoIdeal.nD,
      m' ((c.tc : Thread Cert.ReferenceDwoIdeal.nD Cert.ReferenceDwoIdeal.τ).loc Cert.ReferenceDwoIdeal.main_arg0) = m ((c.tc : Thread Cert.KernelDwoIdeal.nD Cert.KernelDwoIdeal.τ).loc Cert.KernelDwoIdeal.main_arg0)
      ∧ m' ((c.tc : Thread Cert.ReferenceDwoIdeal.nD Cert.ReferenceDwoIdeal.τ).loc Cert.ReferenceDwoIdeal.main_arg1) = m ((c.tc : Thread Cert.KernelDwoIdeal.nD Cert.KernelDwoIdeal.τ).loc Cert.KernelDwoIdeal.main_arg1)) →
    ∃ (v0 : (c : Dev Cert.KernelDwoIdeal.nD) → Buf (Elt Ideal) ((c.tc : Thread Cert.KernelDwoIdeal.nD Cert.KernelDwoIdeal.τ).loc Cert.KernelDwoIdeal.main_v0)),
      θ_run (Cert.KernelDwoIdeal.defs (F := Ideal)) (onTc (τ := Cert.KernelDwoIdeal.τ) (Cert.KernelDwoIdeal.main (F := Ideal))) ⟨m, fun _ => 0, g⟩ (fun r => ∀ c : Dev Cert.KernelDwoIdeal.nD,
          r.2.mem ((c.tc : Thread Cert.KernelDwoIdeal.nD Cert.KernelDwoIdeal.τ).loc Cert.KernelDwoIdeal.main_v0) = v0 c
          ∧ r.2.mem ((c.tc : Thread Cert.KernelDwoIdeal.nD Cert.KernelDwoIdeal.τ).loc Cert.KernelDwoIdeal.main_arg0) = m ((c.tc : Thread Cert.KernelDwoIdeal.nD Cert.KernelDwoIdeal.τ).loc Cert.KernelDwoIdeal.main_arg0)
          ∧ r.2.mem ((c.tc : Thread Cert.KernelDwoIdeal.nD Cert.KernelDwoIdeal.τ).loc Cert.KernelDwoIdeal.main_arg1) = m ((c.tc : Thread Cert.KernelDwoIdeal.nD Cert.KernelDwoIdeal.τ).loc Cert.KernelDwoIdeal.main_arg1))
      ∧ θ_run (Cert.ReferenceDwoIdeal.defs (F := Ideal)) (onTc (τ := Cert.ReferenceDwoIdeal.τ) (Cert.ReferenceDwoIdeal.main (F := Ideal))) ⟨m', fun _ => 0, g'⟩ (fun r => ∀ c : Dev Cert.ReferenceDwoIdeal.nD,
          r.2.mem ((c.tc : Thread Cert.ReferenceDwoIdeal.nD Cert.ReferenceDwoIdeal.τ).loc Cert.ReferenceDwoIdeal.main_v6) = v0 c
          ∧ r.2.mem ((c.tc : Thread Cert.ReferenceDwoIdeal.nD Cert.ReferenceDwoIdeal.τ).loc Cert.ReferenceDwoIdeal.main_arg0) = m' ((c.tc : Thread Cert.ReferenceDwoIdeal.nD Cert.ReferenceDwoIdeal.τ).loc Cert.ReferenceDwoIdeal.main_arg0)
          ∧ r.2.mem ((c.tc : Thread Cert.ReferenceDwoIdeal.nD Cert.ReferenceDwoIdeal.τ).loc Cert.ReferenceDwoIdeal.main_arg1) = m' ((c.tc : Thread Cert.ReferenceDwoIdeal.nD Cert.ReferenceDwoIdeal.τ).loc Cert.ReferenceDwoIdeal.main_arg1))

def preserves_KernelDwf_KernelDwfIdeal : Prop :=
  True

def algebraic_KernelDwfIdeal_ReferenceDwfIdeal [hKernelDwfIdeal : Cert.KernelDwfIdeal.Facts] [hReferenceDwfIdeal : Cert.ReferenceDwfIdeal.Facts] : Prop :=
  ∀ (m : (ℓ : Loc Cert.KernelDwfIdeal.nD Cert.KernelDwfIdeal.τ Cert.KernelDwfIdeal.sig) → Buf (Elt Ideal) ℓ) (g : Dev Cert.KernelDwfIdeal.nD → PrngReg)
    (m' : (ℓ : Loc Cert.ReferenceDwfIdeal.nD Cert.ReferenceDwfIdeal.τ Cert.ReferenceDwfIdeal.sig) → Buf (Elt Ideal) ℓ) (g' : Dev Cert.ReferenceDwfIdeal.nD → PrngReg), Pre_KernelDwfIdeal m →
    (∀ c : Dev Cert.KernelDwfIdeal.nD,
      m' ((c.tc : Thread Cert.ReferenceDwfIdeal.nD Cert.ReferenceDwfIdeal.τ).loc Cert.ReferenceDwfIdeal.main_arg0) = m ((c.tc : Thread Cert.KernelDwfIdeal.nD Cert.KernelDwfIdeal.τ).loc Cert.KernelDwfIdeal.main_arg0)
      ∧ m' ((c.tc : Thread Cert.ReferenceDwfIdeal.nD Cert.ReferenceDwfIdeal.τ).loc Cert.ReferenceDwfIdeal.main_arg1) = m ((c.tc : Thread Cert.KernelDwfIdeal.nD Cert.KernelDwfIdeal.τ).loc Cert.KernelDwfIdeal.main_arg1)) →
    ∃ (v0 : (c : Dev Cert.KernelDwfIdeal.nD) → Buf (Elt Ideal) ((c.tc : Thread Cert.KernelDwfIdeal.nD Cert.KernelDwfIdeal.τ).loc Cert.KernelDwfIdeal.main_v0)),
      θ_run (Cert.KernelDwfIdeal.defs (F := Ideal)) (onTc (τ := Cert.KernelDwfIdeal.τ) (Cert.KernelDwfIdeal.main (F := Ideal))) ⟨m, fun _ => 0, g⟩ (fun r => ∀ c : Dev Cert.KernelDwfIdeal.nD,
          r.2.mem ((c.tc : Thread Cert.KernelDwfIdeal.nD Cert.KernelDwfIdeal.τ).loc Cert.KernelDwfIdeal.main_v0) = v0 c
          ∧ r.2.mem ((c.tc : Thread Cert.KernelDwfIdeal.nD Cert.KernelDwfIdeal.τ).loc Cert.KernelDwfIdeal.main_arg0) = m ((c.tc : Thread Cert.KernelDwfIdeal.nD Cert.KernelDwfIdeal.τ).loc Cert.KernelDwfIdeal.main_arg0)
          ∧ r.2.mem ((c.tc : Thread Cert.KernelDwfIdeal.nD Cert.KernelDwfIdeal.τ).loc Cert.KernelDwfIdeal.main_arg1) = m ((c.tc : Thread Cert.KernelDwfIdeal.nD Cert.KernelDwfIdeal.τ).loc Cert.KernelDwfIdeal.main_arg1))
      ∧ θ_run (Cert.ReferenceDwfIdeal.defs (F := Ideal)) (onTc (τ := Cert.ReferenceDwfIdeal.τ) (Cert.ReferenceDwfIdeal.main (F := Ideal))) ⟨m', fun _ => 0, g'⟩ (fun r => ∀ c : Dev Cert.ReferenceDwfIdeal.nD,
          r.2.mem ((c.tc : Thread Cert.ReferenceDwfIdeal.nD Cert.ReferenceDwfIdeal.τ).loc Cert.ReferenceDwfIdeal.main_v4) = v0 c
          ∧ r.2.mem ((c.tc : Thread Cert.ReferenceDwfIdeal.nD Cert.ReferenceDwfIdeal.τ).loc Cert.ReferenceDwfIdeal.main_arg0) = m' ((c.tc : Thread Cert.ReferenceDwfIdeal.nD Cert.ReferenceDwfIdeal.τ).loc Cert.ReferenceDwfIdeal.main_arg0)
          ∧ r.2.mem ((c.tc : Thread Cert.ReferenceDwfIdeal.nD Cert.ReferenceDwfIdeal.τ).loc Cert.ReferenceDwfIdeal.main_arg1) = m' ((c.tc : Thread Cert.ReferenceDwfIdeal.nD Cert.ReferenceDwfIdeal.τ).loc Cert.ReferenceDwfIdeal.main_arg1))

def preserves_KernelMain_KernelMainIdeal : Prop :=
  True

def algebraic_KernelMainIdeal_ReferenceMainIdeal [hKernelMainIdeal : Cert.KernelMainIdeal.Facts] [hReferenceMainIdeal : Cert.ReferenceMainIdeal.Facts] : Prop :=
  ∀ (m : (ℓ : Loc Cert.KernelMainIdeal.nD Cert.KernelMainIdeal.τ Cert.KernelMainIdeal.sig) → Buf (Elt Ideal) ℓ) (g : Dev Cert.KernelMainIdeal.nD → PrngReg)
    (m' : (ℓ : Loc Cert.ReferenceMainIdeal.nD Cert.ReferenceMainIdeal.τ Cert.ReferenceMainIdeal.sig) → Buf (Elt Ideal) ℓ) (g' : Dev Cert.ReferenceMainIdeal.nD → PrngReg), Pre_KernelMainIdeal m →
    (∀ c : Dev Cert.KernelMainIdeal.nD,
      m' ((c.tc : Thread Cert.ReferenceMainIdeal.nD Cert.ReferenceMainIdeal.τ).loc Cert.ReferenceMainIdeal.main_arg0) = m ((c.tc : Thread Cert.KernelMainIdeal.nD Cert.KernelMainIdeal.τ).loc Cert.KernelMainIdeal.main_arg0)
      ∧ m' ((c.tc : Thread Cert.ReferenceMainIdeal.nD Cert.ReferenceMainIdeal.τ).loc Cert.ReferenceMainIdeal.main_arg1) = m ((c.tc : Thread Cert.KernelMainIdeal.nD Cert.KernelMainIdeal.τ).loc Cert.KernelMainIdeal.main_arg1)) →
    ∃ (v0 : (c : Dev Cert.KernelMainIdeal.nD) → Buf (Elt Ideal) ((c.tc : Thread Cert.KernelMainIdeal.nD Cert.KernelMainIdeal.τ).loc Cert.KernelMainIdeal.main_v0)),
      θ_run (Cert.KernelMainIdeal.defs (F := Ideal)) (onTc (τ := Cert.KernelMainIdeal.τ) (Cert.KernelMainIdeal.main (F := Ideal))) ⟨m, fun _ => 0, g⟩ (fun r => ∀ c : Dev Cert.KernelMainIdeal.nD,
          r.2.mem ((c.tc : Thread Cert.KernelMainIdeal.nD Cert.KernelMainIdeal.τ).loc Cert.KernelMainIdeal.main_v0) = v0 c
          ∧ r.2.mem ((c.tc : Thread Cert.KernelMainIdeal.nD Cert.KernelMainIdeal.τ).loc Cert.KernelMainIdeal.main_arg0) = m ((c.tc : Thread Cert.KernelMainIdeal.nD Cert.KernelMainIdeal.τ).loc Cert.KernelMainIdeal.main_arg0)
          ∧ r.2.mem ((c.tc : Thread Cert.KernelMainIdeal.nD Cert.KernelMainIdeal.τ).loc Cert.KernelMainIdeal.main_arg1) = m ((c.tc : Thread Cert.KernelMainIdeal.nD Cert.KernelMainIdeal.τ).loc Cert.KernelMainIdeal.main_arg1))
      ∧ θ_run (Cert.ReferenceMainIdeal.defs (F := Ideal)) (onTc (τ := Cert.ReferenceMainIdeal.τ) (Cert.ReferenceMainIdeal.main (F := Ideal))) ⟨m', fun _ => 0, g'⟩ (fun r => ∀ c : Dev Cert.ReferenceMainIdeal.nD,
          r.2.mem ((c.tc : Thread Cert.ReferenceMainIdeal.nD Cert.ReferenceMainIdeal.τ).loc Cert.ReferenceMainIdeal.main_v4) = v0 c
          ∧ r.2.mem ((c.tc : Thread Cert.ReferenceMainIdeal.nD Cert.ReferenceMainIdeal.τ).loc Cert.ReferenceMainIdeal.main_arg0) = m' ((c.tc : Thread Cert.ReferenceMainIdeal.nD Cert.ReferenceMainIdeal.τ).loc Cert.ReferenceMainIdeal.main_arg0)
          ∧ r.2.mem ((c.tc : Thread Cert.ReferenceMainIdeal.nD Cert.ReferenceMainIdeal.τ).loc Cert.ReferenceMainIdeal.main_arg1) = m' ((c.tc : Thread Cert.ReferenceMainIdeal.nD Cert.ReferenceMainIdeal.τ).loc Cert.ReferenceMainIdeal.main_arg1))

def preserves_KernelFg_KernelFgIdeal : Prop :=
  True

def algebraic_KernelFgIdeal_ReferenceFgIdeal [hKernelFgIdeal : Cert.KernelFgIdeal.Facts] [hReferenceFgIdeal : Cert.ReferenceFgIdeal.Facts] : Prop :=
  ∀ (m : (ℓ : Loc Cert.KernelFgIdeal.nD Cert.KernelFgIdeal.τ Cert.KernelFgIdeal.sig) → Buf (Elt Ideal) ℓ) (g : Dev Cert.KernelFgIdeal.nD → PrngReg)
    (m' : (ℓ : Loc Cert.ReferenceFgIdeal.nD Cert.ReferenceFgIdeal.τ Cert.ReferenceFgIdeal.sig) → Buf (Elt Ideal) ℓ) (g' : Dev Cert.ReferenceFgIdeal.nD → PrngReg), Pre_KernelFgIdeal m →
    (∀ c : Dev Cert.KernelFgIdeal.nD,
      m' ((c.tc : Thread Cert.ReferenceFgIdeal.nD Cert.ReferenceFgIdeal.τ).loc Cert.ReferenceFgIdeal.main_arg0) = m ((c.tc : Thread Cert.KernelFgIdeal.nD Cert.KernelFgIdeal.τ).loc Cert.KernelFgIdeal.main_arg0)
      ∧ m' ((c.tc : Thread Cert.ReferenceFgIdeal.nD Cert.ReferenceFgIdeal.τ).loc Cert.ReferenceFgIdeal.main_arg1) = m ((c.tc : Thread Cert.KernelFgIdeal.nD Cert.KernelFgIdeal.τ).loc Cert.KernelFgIdeal.main_arg1)) →
    ∃ (v0 : (c : Dev Cert.KernelFgIdeal.nD) → Buf (Elt Ideal) ((c.tc : Thread Cert.KernelFgIdeal.nD Cert.KernelFgIdeal.τ).loc Cert.KernelFgIdeal.main_v0)),
      θ_run (Cert.KernelFgIdeal.defs (F := Ideal)) (onTc (τ := Cert.KernelFgIdeal.τ) (Cert.KernelFgIdeal.main (F := Ideal))) ⟨m, fun _ => 0, g⟩ (fun r => ∀ c : Dev Cert.KernelFgIdeal.nD,
          r.2.mem ((c.tc : Thread Cert.KernelFgIdeal.nD Cert.KernelFgIdeal.τ).loc Cert.KernelFgIdeal.main_v0) = v0 c
          ∧ r.2.mem ((c.tc : Thread Cert.KernelFgIdeal.nD Cert.KernelFgIdeal.τ).loc Cert.KernelFgIdeal.main_arg0) = m ((c.tc : Thread Cert.KernelFgIdeal.nD Cert.KernelFgIdeal.τ).loc Cert.KernelFgIdeal.main_arg0)
          ∧ r.2.mem ((c.tc : Thread Cert.KernelFgIdeal.nD Cert.KernelFgIdeal.τ).loc Cert.KernelFgIdeal.main_arg1) = m ((c.tc : Thread Cert.KernelFgIdeal.nD Cert.KernelFgIdeal.τ).loc Cert.KernelFgIdeal.main_arg1))
      ∧ θ_run (Cert.ReferenceFgIdeal.defs (F := Ideal)) (onTc (τ := Cert.ReferenceFgIdeal.τ) (Cert.ReferenceFgIdeal.main (F := Ideal))) ⟨m', fun _ => 0, g'⟩ (fun r => ∀ c : Dev Cert.ReferenceFgIdeal.nD,
          r.2.mem ((c.tc : Thread Cert.ReferenceFgIdeal.nD Cert.ReferenceFgIdeal.τ).loc Cert.ReferenceFgIdeal.main_v2) = v0 c
          ∧ r.2.mem ((c.tc : Thread Cert.ReferenceFgIdeal.nD Cert.ReferenceFgIdeal.τ).loc Cert.ReferenceFgIdeal.main_arg0) = m' ((c.tc : Thread Cert.ReferenceFgIdeal.nD Cert.ReferenceFgIdeal.τ).loc Cert.ReferenceFgIdeal.main_arg0)
          ∧ r.2.mem ((c.tc : Thread Cert.ReferenceFgIdeal.nD Cert.ReferenceFgIdeal.τ).loc Cert.ReferenceFgIdeal.main_arg1) = m' ((c.tc : Thread Cert.ReferenceFgIdeal.nD Cert.ReferenceFgIdeal.τ).loc Cert.ReferenceFgIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)) →
    ∃ (v0 : (c : Dev Cert.KernelOutIdeal.nD) → Buf (Elt Ideal) ((c.tc : Thread Cert.KernelOutIdeal.nD Cert.KernelOutIdeal.τ).loc Cert.KernelOutIdeal.main_v0_0)) (v1 : (c : Dev Cert.KernelOutIdeal.nD) → Buf (Elt Ideal) ((c.tc : Thread Cert.KernelOutIdeal.nD Cert.KernelOutIdeal.τ).loc Cert.KernelOutIdeal.main_v0_1)) (v2 : (c : Dev Cert.KernelOutIdeal.nD) → Buf (Elt Ideal) ((c.tc : Thread Cert.KernelOutIdeal.nD Cert.KernelOutIdeal.τ).loc Cert.KernelOutIdeal.main_v0_2)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v0_0) = v0 c
          ∧ r.2.mem ((c.tc : Thread Cert.KernelOutIdeal.nD Cert.KernelOutIdeal.τ).loc Cert.KernelOutIdeal.main_v0_1) = v1 c
          ∧ r.2.mem ((c.tc : Thread Cert.KernelOutIdeal.nD Cert.KernelOutIdeal.τ).loc Cert.KernelOutIdeal.main_v0_2) = v2 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v31) = v0 c
          ∧ r.2.mem ((c.tc : Thread Cert.ReferenceOutIdeal.nD Cert.ReferenceOutIdeal.τ).loc Cert.ReferenceOutIdeal.main_v32) = v1 c
          ∧ r.2.mem ((c.tc : Thread Cert.ReferenceOutIdeal.nD Cert.ReferenceOutIdeal.τ).loc Cert.ReferenceOutIdeal.main_v5) = v2 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4))

def preserves_KernelLn_KernelLnIdeal : Prop :=
  True

def algebraic_KernelLnIdeal_ReferenceLnIdeal_pre_finite_ln [hKernelLnIdeal : Cert.KernelLnIdeal.Facts] [hReferenceLnIdeal : Cert.ReferenceLnIdeal.Facts] [hPre_finite_ln : Cert.Pre_finite_ln.Facts] : Prop :=
  ∀ (m : (ℓ : Loc Cert.KernelLnIdeal.nD Cert.KernelLnIdeal.τ Cert.KernelLnIdeal.sig) → Buf (Elt Ideal) ℓ) (g : Dev Cert.KernelLnIdeal.nD → PrngReg)
    (m' : (ℓ : Loc Cert.ReferenceLnIdeal.nD Cert.ReferenceLnIdeal.τ Cert.ReferenceLnIdeal.sig) → Buf (Elt Ideal) ℓ) (g' : Dev Cert.ReferenceLnIdeal.nD → PrngReg), Pre_KernelLnIdeal_finite_ln m →
    (∀ c : Dev Cert.KernelLnIdeal.nD,
      m' ((c.tc : Thread Cert.ReferenceLnIdeal.nD Cert.ReferenceLnIdeal.τ).loc Cert.ReferenceLnIdeal.main_arg0) = m ((c.tc : Thread Cert.KernelLnIdeal.nD Cert.KernelLnIdeal.τ).loc Cert.KernelLnIdeal.main_arg0)
      ∧ m' ((c.tc : Thread Cert.ReferenceLnIdeal.nD Cert.ReferenceLnIdeal.τ).loc Cert.ReferenceLnIdeal.main_arg1) = m ((c.tc : Thread Cert.KernelLnIdeal.nD Cert.KernelLnIdeal.τ).loc Cert.KernelLnIdeal.main_arg1)
      ∧ m' ((c.tc : Thread Cert.ReferenceLnIdeal.nD Cert.ReferenceLnIdeal.τ).loc Cert.ReferenceLnIdeal.main_arg2) = m ((c.tc : Thread Cert.KernelLnIdeal.nD Cert.KernelLnIdeal.τ).loc Cert.KernelLnIdeal.main_arg2)) →
    ∃ (v0 : (c : Dev Cert.KernelLnIdeal.nD) → Buf (Elt Ideal) ((c.tc : Thread Cert.KernelLnIdeal.nD Cert.KernelLnIdeal.τ).loc Cert.KernelLnIdeal.main_v0_0)) (v1 : (c : Dev Cert.KernelLnIdeal.nD) → Buf (Elt Ideal) ((c.tc : Thread Cert.KernelLnIdeal.nD Cert.KernelLnIdeal.τ).loc Cert.KernelLnIdeal.main_v0_1)) (v2 : (c : Dev Cert.KernelLnIdeal.nD) → Buf (Elt Ideal) ((c.tc : Thread Cert.KernelLnIdeal.nD Cert.KernelLnIdeal.τ).loc Cert.KernelLnIdeal.main_v0_2)),
      θ_run (Cert.KernelLnIdeal.defs (F := Ideal)) (onTc (τ := Cert.KernelLnIdeal.τ) (Cert.KernelLnIdeal.main (F := Ideal))) ⟨m, fun _ => 0, g⟩ (fun r => ∀ c : Dev Cert.KernelLnIdeal.nD,
          r.2.mem ((c.tc : Thread Cert.KernelLnIdeal.nD Cert.KernelLnIdeal.τ).loc Cert.KernelLnIdeal.main_v0_0) = v0 c
          ∧ r.2.mem ((c.tc : Thread Cert.KernelLnIdeal.nD Cert.KernelLnIdeal.τ).loc Cert.KernelLnIdeal.main_v0_1) = v1 c
          ∧ r.2.mem ((c.tc : Thread Cert.KernelLnIdeal.nD Cert.KernelLnIdeal.τ).loc Cert.KernelLnIdeal.main_v0_2) = v2 c
          ∧ r.2.mem ((c.tc : Thread Cert.KernelLnIdeal.nD Cert.KernelLnIdeal.τ).loc Cert.KernelLnIdeal.main_arg0) = m ((c.tc : Thread Cert.KernelLnIdeal.nD Cert.KernelLnIdeal.τ).loc Cert.KernelLnIdeal.main_arg0)
          ∧ r.2.mem ((c.tc : Thread Cert.KernelLnIdeal.nD Cert.KernelLnIdeal.τ).loc Cert.KernelLnIdeal.main_arg1) = m ((c.tc : Thread Cert.KernelLnIdeal.nD Cert.KernelLnIdeal.τ).loc Cert.KernelLnIdeal.main_arg1)
          ∧ r.2.mem ((c.tc : Thread Cert.KernelLnIdeal.nD Cert.KernelLnIdeal.τ).loc Cert.KernelLnIdeal.main_arg2) = m ((c.tc : Thread Cert.KernelLnIdeal.nD Cert.KernelLnIdeal.τ).loc Cert.KernelLnIdeal.main_arg2))
      ∧ θ_run (Cert.ReferenceLnIdeal.defs (F := Ideal)) (onTc (τ := Cert.ReferenceLnIdeal.τ) (Cert.ReferenceLnIdeal.main (F := Ideal))) ⟨m', fun _ => 0, g'⟩ (fun r => ∀ c : Dev Cert.ReferenceLnIdeal.nD,
          r.2.mem ((c.tc : Thread Cert.ReferenceLnIdeal.nD Cert.ReferenceLnIdeal.τ).loc Cert.ReferenceLnIdeal.main_v64) = v0 c
          ∧ r.2.mem ((c.tc : Thread Cert.ReferenceLnIdeal.nD Cert.ReferenceLnIdeal.τ).loc Cert.ReferenceLnIdeal.main_v65) = v1 c
          ∧ r.2.mem ((c.tc : Thread Cert.ReferenceLnIdeal.nD Cert.ReferenceLnIdeal.τ).loc Cert.ReferenceLnIdeal.main_v69) = v2 c
          ∧ r.2.mem ((c.tc : Thread Cert.ReferenceLnIdeal.nD Cert.ReferenceLnIdeal.τ).loc Cert.ReferenceLnIdeal.main_arg0) = m' ((c.tc : Thread Cert.ReferenceLnIdeal.nD Cert.ReferenceLnIdeal.τ).loc Cert.ReferenceLnIdeal.main_arg0)
          ∧ r.2.mem ((c.tc : Thread Cert.ReferenceLnIdeal.nD Cert.ReferenceLnIdeal.τ).loc Cert.ReferenceLnIdeal.main_arg1) = m' ((c.tc : Thread Cert.ReferenceLnIdeal.nD Cert.ReferenceLnIdeal.τ).loc Cert.ReferenceLnIdeal.main_arg1)
          ∧ r.2.mem ((c.tc : Thread Cert.ReferenceLnIdeal.nD Cert.ReferenceLnIdeal.τ).loc Cert.ReferenceLnIdeal.main_arg2) = m' ((c.tc : Thread Cert.ReferenceLnIdeal.nD Cert.ReferenceLnIdeal.τ).loc Cert.ReferenceLnIdeal.main_arg2))

def preserves_KernelFwd_KernelFwdIdeal : Prop :=
  IdealRules.named_const.Statement Cert.KernelFwdIdeal.κ "scale_log2_e" .f32 0x3E0293EE#32 (((11863283 / 134217728) * (Real.log 2)⁻¹ : ℝ) : EReal)
  ∧ IdealRules.named_const.Statement Cert.KernelFwdIdeal.κ "log2_e" .f32 0x3FB8AA3B#32 (((Real.log 2)⁻¹ : ℝ) : EReal)

def algebraic_KernelFwdIdeal_ReferenceFwdIdeal_pre_finite_fwd [hKernelFwdIdeal : Cert.KernelFwdIdeal.Facts] [hReferenceFwdIdeal : Cert.ReferenceFwdIdeal.Facts] [hPre_finite_fwd : Cert.Pre_finite_fwd.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg)
    (m' : (ℓ : Loc Cert.ReferenceFwdIdeal.nD Cert.ReferenceFwdIdeal.τ Cert.ReferenceFwdIdeal.sig) → Buf (Elt Ideal) ℓ) (g' : Dev Cert.ReferenceFwdIdeal.nD → PrngReg), Pre_KernelFwdIdeal_finite_fwd m →
    (∀ c : Dev Cert.KernelFwdIdeal.nD,
      m' ((c.tc : Thread Cert.ReferenceFwdIdeal.nD Cert.ReferenceFwdIdeal.τ).loc Cert.ReferenceFwdIdeal.main_arg0) = m ((c.tc : Thread Cert.KernelFwdIdeal.nD Cert.KernelFwdIdeal.τ).loc Cert.KernelFwdIdeal.main_arg0)
      ∧ m' ((c.tc : Thread Cert.ReferenceFwdIdeal.nD Cert.ReferenceFwdIdeal.τ).loc Cert.ReferenceFwdIdeal.main_arg1) = m ((c.tc : Thread Cert.KernelFwdIdeal.nD Cert.KernelFwdIdeal.τ).loc Cert.KernelFwdIdeal.main_arg1)) →
    ∃ (v0 : (c : Dev Cert.KernelFwdIdeal.nD) → Buf (Elt Ideal) ((c.tc : Thread Cert.KernelFwdIdeal.nD Cert.KernelFwdIdeal.τ).loc Cert.KernelFwdIdeal.main_v1_0)) (v1 : (c : Dev Cert.KernelFwdIdeal.nD) → Buf (Elt Ideal) ((c.tc : Thread Cert.KernelFwdIdeal.nD Cert.KernelFwdIdeal.τ).loc Cert.KernelFwdIdeal.main_v1_1)),
      θ_run (Cert.KernelFwdIdeal.defs (F := Ideal)) (onTc (τ := Cert.KernelFwdIdeal.τ) (Cert.KernelFwdIdeal.main (F := Ideal))) ⟨m, fun _ => 0, g⟩ (fun r => ∀ c : Dev Cert.KernelFwdIdeal.nD,
          r.2.mem ((c.tc : Thread Cert.KernelFwdIdeal.nD Cert.KernelFwdIdeal.τ).loc Cert.KernelFwdIdeal.main_v1_0) = v0 c
          ∧ r.2.mem ((c.tc : Thread Cert.KernelFwdIdeal.nD Cert.KernelFwdIdeal.τ).loc Cert.KernelFwdIdeal.main_v1_1) = v1 c
          ∧ r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
          ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1))
      ∧ θ_run (Cert.ReferenceFwdIdeal.defs (F := Ideal)) (onTc (τ := Cert.ReferenceFwdIdeal.τ) (Cert.ReferenceFwdIdeal.main (F := Ideal))) ⟨m', fun _ => 0, g'⟩ (fun r => ∀ c : Dev Cert.ReferenceFwdIdeal.nD,
          r.2.mem ((c.tc : Thread Cert.ReferenceFwdIdeal.nD Cert.ReferenceFwdIdeal.τ).loc Cert.ReferenceFwdIdeal.main_v74) = v0 c
          ∧ r.2.mem ((c.tc : Thread Cert.ReferenceFwdIdeal.nD Cert.ReferenceFwdIdeal.τ).loc Cert.ReferenceFwdIdeal.main_v75) = v1 c
          ∧ r.2.mem ((c.tc : Thread Cert.ReferenceFwdIdeal.nD Cert.ReferenceFwdIdeal.τ).loc Cert.ReferenceFwdIdeal.main_arg0) = m' ((c.tc : Thread Cert.ReferenceFwdIdeal.nD Cert.ReferenceFwdIdeal.τ).loc Cert.ReferenceFwdIdeal.main_arg0)
          ∧ r.2.mem ((c.tc : Thread Cert.ReferenceFwdIdeal.nD Cert.ReferenceFwdIdeal.τ).loc Cert.ReferenceFwdIdeal.main_arg1) = m' ((c.tc : Thread Cert.ReferenceFwdIdeal.nD Cert.ReferenceFwdIdeal.τ).loc Cert.ReferenceFwdIdeal.main_arg1))

def preserves_KernelAdamOut_KernelAdamOutIdeal : Prop :=
  True

def algebraic_KernelAdamOutIdeal_ReferenceAdamOutIdeal [hKernelAdamOutIdeal : Cert.KernelAdamOutIdeal.Facts] [hReferenceAdamOutIdeal : Cert.ReferenceAdamOutIdeal.Facts] : Prop :=
  ∀ (m : (ℓ : Loc Cert.KernelAdamOutIdeal.nD Cert.KernelAdamOutIdeal.τ Cert.KernelAdamOutIdeal.sig) → Buf (Elt Ideal) ℓ) (g : Dev Cert.KernelAdamOutIdeal.nD → PrngReg)
    (m' : (ℓ : Loc Cert.ReferenceAdamOutIdeal.nD Cert.ReferenceAdamOutIdeal.τ Cert.ReferenceAdamOutIdeal.sig) → Buf (Elt Ideal) ℓ) (g' : Dev Cert.ReferenceAdamOutIdeal.nD → PrngReg), Pre_KernelAdamOutIdeal m →
    (∀ c : Dev Cert.KernelAdamOutIdeal.nD,
      m' ((c.tc : Thread Cert.ReferenceAdamOutIdeal.nD Cert.ReferenceAdamOutIdeal.τ).loc Cert.ReferenceAdamOutIdeal.main_arg0) = m ((c.tc : Thread Cert.KernelAdamOutIdeal.nD Cert.KernelAdamOutIdeal.τ).loc Cert.KernelAdamOutIdeal.main_arg0)
      ∧ m' ((c.tc : Thread Cert.ReferenceAdamOutIdeal.nD Cert.ReferenceAdamOutIdeal.τ).loc Cert.ReferenceAdamOutIdeal.main_arg1) = m ((c.tc : Thread Cert.KernelAdamOutIdeal.nD Cert.KernelAdamOutIdeal.τ).loc Cert.KernelAdamOutIdeal.main_arg1)
      ∧ m' ((c.tc : Thread Cert.ReferenceAdamOutIdeal.nD Cert.ReferenceAdamOutIdeal.τ).loc Cert.ReferenceAdamOutIdeal.main_arg2) = m ((c.tc : Thread Cert.KernelAdamOutIdeal.nD Cert.KernelAdamOutIdeal.τ).loc Cert.KernelAdamOutIdeal.main_arg2)
      ∧ m' ((c.tc : Thread Cert.ReferenceAdamOutIdeal.nD Cert.ReferenceAdamOutIdeal.τ).loc Cert.ReferenceAdamOutIdeal.main_arg3) = m ((c.tc : Thread Cert.KernelAdamOutIdeal.nD Cert.KernelAdamOutIdeal.τ).loc Cert.KernelAdamOutIdeal.main_arg3)) →
    ∃ (v0 : (c : Dev Cert.KernelAdamOutIdeal.nD) → Buf (Elt Ideal) ((c.tc : Thread Cert.KernelAdamOutIdeal.nD Cert.KernelAdamOutIdeal.τ).loc Cert.KernelAdamOutIdeal.main_v0_0)) (v1 : (c : Dev Cert.KernelAdamOutIdeal.nD) → Buf (Elt Ideal) ((c.tc : Thread Cert.KernelAdamOutIdeal.nD Cert.KernelAdamOutIdeal.τ).loc Cert.KernelAdamOutIdeal.main_v0_1)) (v2 : (c : Dev Cert.KernelAdamOutIdeal.nD) → Buf (Elt Ideal) ((c.tc : Thread Cert.KernelAdamOutIdeal.nD Cert.KernelAdamOutIdeal.τ).loc Cert.KernelAdamOutIdeal.main_v0_2)),
      θ_run (Cert.KernelAdamOutIdeal.defs (F := Ideal)) (onTc (τ := Cert.KernelAdamOutIdeal.τ) (Cert.KernelAdamOutIdeal.main (F := Ideal))) ⟨m, fun _ => 0, g⟩ (fun r => ∀ c : Dev Cert.KernelAdamOutIdeal.nD,
          r.2.mem ((c.tc : Thread Cert.KernelAdamOutIdeal.nD Cert.KernelAdamOutIdeal.τ).loc Cert.KernelAdamOutIdeal.main_v0_0) = v0 c
          ∧ r.2.mem ((c.tc : Thread Cert.KernelAdamOutIdeal.nD Cert.KernelAdamOutIdeal.τ).loc Cert.KernelAdamOutIdeal.main_v0_1) = v1 c
          ∧ r.2.mem ((c.tc : Thread Cert.KernelAdamOutIdeal.nD Cert.KernelAdamOutIdeal.τ).loc Cert.KernelAdamOutIdeal.main_v0_2) = v2 c
          ∧ r.2.mem ((c.tc : Thread Cert.KernelAdamOutIdeal.nD Cert.KernelAdamOutIdeal.τ).loc Cert.KernelAdamOutIdeal.main_arg0) = m ((c.tc : Thread Cert.KernelAdamOutIdeal.nD Cert.KernelAdamOutIdeal.τ).loc Cert.KernelAdamOutIdeal.main_arg0)
          ∧ r.2.mem ((c.tc : Thread Cert.KernelAdamOutIdeal.nD Cert.KernelAdamOutIdeal.τ).loc Cert.KernelAdamOutIdeal.main_arg1) = m ((c.tc : Thread Cert.KernelAdamOutIdeal.nD Cert.KernelAdamOutIdeal.τ).loc Cert.KernelAdamOutIdeal.main_arg1)
          ∧ r.2.mem ((c.tc : Thread Cert.KernelAdamOutIdeal.nD Cert.KernelAdamOutIdeal.τ).loc Cert.KernelAdamOutIdeal.main_arg2) = m ((c.tc : Thread Cert.KernelAdamOutIdeal.nD Cert.KernelAdamOutIdeal.τ).loc Cert.KernelAdamOutIdeal.main_arg2)
          ∧ r.2.mem ((c.tc : Thread Cert.KernelAdamOutIdeal.nD Cert.KernelAdamOutIdeal.τ).loc Cert.KernelAdamOutIdeal.main_arg3) = m ((c.tc : Thread Cert.KernelAdamOutIdeal.nD Cert.KernelAdamOutIdeal.τ).loc Cert.KernelAdamOutIdeal.main_arg3))
      ∧ θ_run (Cert.ReferenceAdamOutIdeal.defs (F := Ideal)) (onTc (τ := Cert.ReferenceAdamOutIdeal.τ) (Cert.ReferenceAdamOutIdeal.main (F := Ideal))) ⟨m', fun _ => 0, g'⟩ (fun r => ∀ c : Dev Cert.ReferenceAdamOutIdeal.nD,
          r.2.mem ((c.tc : Thread Cert.ReferenceAdamOutIdeal.nD Cert.ReferenceAdamOutIdeal.τ).loc Cert.ReferenceAdamOutIdeal.main_v23) = v0 c
          ∧ r.2.mem ((c.tc : Thread Cert.ReferenceAdamOutIdeal.nD Cert.ReferenceAdamOutIdeal.τ).loc Cert.ReferenceAdamOutIdeal.main_v4) = v1 c
          ∧ r.2.mem ((c.tc : Thread Cert.ReferenceAdamOutIdeal.nD Cert.ReferenceAdamOutIdeal.τ).loc Cert.ReferenceAdamOutIdeal.main_v10) = v2 c
          ∧ r.2.mem ((c.tc : Thread Cert.ReferenceAdamOutIdeal.nD Cert.ReferenceAdamOutIdeal.τ).loc Cert.ReferenceAdamOutIdeal.main_arg0) = m' ((c.tc : Thread Cert.ReferenceAdamOutIdeal.nD Cert.ReferenceAdamOutIdeal.τ).loc Cert.ReferenceAdamOutIdeal.main_arg0)
          ∧ r.2.mem ((c.tc : Thread Cert.ReferenceAdamOutIdeal.nD Cert.ReferenceAdamOutIdeal.τ).loc Cert.ReferenceAdamOutIdeal.main_arg1) = m' ((c.tc : Thread Cert.ReferenceAdamOutIdeal.nD Cert.ReferenceAdamOutIdeal.τ).loc Cert.ReferenceAdamOutIdeal.main_arg1)
          ∧ r.2.mem ((c.tc : Thread Cert.ReferenceAdamOutIdeal.nD Cert.ReferenceAdamOutIdeal.τ).loc Cert.ReferenceAdamOutIdeal.main_arg2) = m' ((c.tc : Thread Cert.ReferenceAdamOutIdeal.nD Cert.ReferenceAdamOutIdeal.τ).loc Cert.ReferenceAdamOutIdeal.main_arg2)
          ∧ r.2.mem ((c.tc : Thread Cert.ReferenceAdamOutIdeal.nD Cert.ReferenceAdamOutIdeal.τ).loc Cert.ReferenceAdamOutIdeal.main_arg3) = m' ((c.tc : Thread Cert.ReferenceAdamOutIdeal.nD Cert.ReferenceAdamOutIdeal.τ).loc Cert.ReferenceAdamOutIdeal.main_arg3))

def preserves_KernelAdamIn_KernelAdamInIdeal : Prop :=
  True

def algebraic_KernelAdamInIdeal_ReferenceAdamInIdeal [hKernelAdamInIdeal : Cert.KernelAdamInIdeal.Facts] [hReferenceAdamInIdeal : Cert.ReferenceAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg)
    (m' : (ℓ : Loc Cert.ReferenceAdamInIdeal.nD Cert.ReferenceAdamInIdeal.τ Cert.ReferenceAdamInIdeal.sig) → Buf (Elt Ideal) ℓ) (g' : Dev Cert.ReferenceAdamInIdeal.nD → PrngReg), Pre_KernelAdamInIdeal m →
    (∀ c : Dev Cert.KernelAdamInIdeal.nD,
      m' ((c.tc : Thread Cert.ReferenceAdamInIdeal.nD Cert.ReferenceAdamInIdeal.τ).loc Cert.ReferenceAdamInIdeal.main_arg0) = m ((c.tc : Thread Cert.KernelAdamInIdeal.nD Cert.KernelAdamInIdeal.τ).loc Cert.KernelAdamInIdeal.main_arg0)
      ∧ m' ((c.tc : Thread Cert.ReferenceAdamInIdeal.nD Cert.ReferenceAdamInIdeal.τ).loc Cert.ReferenceAdamInIdeal.main_arg1) = m ((c.tc : Thread Cert.KernelAdamInIdeal.nD Cert.KernelAdamInIdeal.τ).loc Cert.KernelAdamInIdeal.main_arg1)
      ∧ m' ((c.tc : Thread Cert.ReferenceAdamInIdeal.nD Cert.ReferenceAdamInIdeal.τ).loc Cert.ReferenceAdamInIdeal.main_arg2) = m ((c.tc : Thread Cert.KernelAdamInIdeal.nD Cert.KernelAdamInIdeal.τ).loc Cert.KernelAdamInIdeal.main_arg2)
      ∧ m' ((c.tc : Thread Cert.ReferenceAdamInIdeal.nD Cert.ReferenceAdamInIdeal.τ).loc Cert.ReferenceAdamInIdeal.main_arg3) = m ((c.tc : Thread Cert.KernelAdamInIdeal.nD Cert.KernelAdamInIdeal.τ).loc Cert.KernelAdamInIdeal.main_arg3)) →
    ∃ (v0 : (c : Dev Cert.KernelAdamInIdeal.nD) → Buf (Elt Ideal) ((c.tc : Thread Cert.KernelAdamInIdeal.nD Cert.KernelAdamInIdeal.τ).loc Cert.KernelAdamInIdeal.main_v4)) (v1 : (c : Dev Cert.KernelAdamInIdeal.nD) → Buf (Elt Ideal) ((c.tc : Thread Cert.KernelAdamInIdeal.nD Cert.KernelAdamInIdeal.τ).loc Cert.KernelAdamInIdeal.main_v5)) (v2 : (c : Dev Cert.KernelAdamInIdeal.nD) → Buf (Elt Ideal) ((c.tc : Thread Cert.KernelAdamInIdeal.nD Cert.KernelAdamInIdeal.τ).loc Cert.KernelAdamInIdeal.main_v6)) (v3 : (c : Dev Cert.KernelAdamInIdeal.nD) → Buf (Elt Ideal) ((c.tc : Thread Cert.KernelAdamInIdeal.nD Cert.KernelAdamInIdeal.τ).loc Cert.KernelAdamInIdeal.main_v7)),
      θ_run (Cert.KernelAdamInIdeal.defs (F := Ideal)) (onTc (τ := Cert.KernelAdamInIdeal.τ) (Cert.KernelAdamInIdeal.main (F := Ideal))) ⟨m, fun _ => 0, g⟩ (fun r => ∀ c : Dev Cert.KernelAdamInIdeal.nD,
          r.2.mem ((c.tc : Thread Cert.KernelAdamInIdeal.nD Cert.KernelAdamInIdeal.τ).loc Cert.KernelAdamInIdeal.main_v4) = v0 c
          ∧ r.2.mem ((c.tc : Thread Cert.KernelAdamInIdeal.nD Cert.KernelAdamInIdeal.τ).loc Cert.KernelAdamInIdeal.main_v5) = v1 c
          ∧ r.2.mem ((c.tc : Thread Cert.KernelAdamInIdeal.nD Cert.KernelAdamInIdeal.τ).loc Cert.KernelAdamInIdeal.main_v6) = v2 c
          ∧ r.2.mem ((c.tc : Thread Cert.KernelAdamInIdeal.nD Cert.KernelAdamInIdeal.τ).loc Cert.KernelAdamInIdeal.main_v7) = v3 c
          ∧ r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
          ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
          ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
          ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3))
      ∧ θ_run (Cert.ReferenceAdamInIdeal.defs (F := Ideal)) (onTc (τ := Cert.ReferenceAdamInIdeal.τ) (Cert.ReferenceAdamInIdeal.main (F := Ideal))) ⟨m', fun _ => 0, g'⟩ (fun r => ∀ c : Dev Cert.ReferenceAdamInIdeal.nD,
          r.2.mem ((c.tc : Thread Cert.ReferenceAdamInIdeal.nD Cert.ReferenceAdamInIdeal.τ).loc Cert.ReferenceAdamInIdeal.main_v24) = v0 c
          ∧ r.2.mem ((c.tc : Thread Cert.ReferenceAdamInIdeal.nD Cert.ReferenceAdamInIdeal.τ).loc Cert.ReferenceAdamInIdeal.main_v5) = v1 c
          ∧ r.2.mem ((c.tc : Thread Cert.ReferenceAdamInIdeal.nD Cert.ReferenceAdamInIdeal.τ).loc Cert.ReferenceAdamInIdeal.main_v11) = v2 c
          ∧ r.2.mem ((c.tc : Thread Cert.ReferenceAdamInIdeal.nD Cert.ReferenceAdamInIdeal.τ).loc Cert.ReferenceAdamInIdeal.main_v0) = v3 c
          ∧ r.2.mem ((c.tc : Thread Cert.ReferenceAdamInIdeal.nD Cert.ReferenceAdamInIdeal.τ).loc Cert.ReferenceAdamInIdeal.main_arg0) = m' ((c.tc : Thread Cert.ReferenceAdamInIdeal.nD Cert.ReferenceAdamInIdeal.τ).loc Cert.ReferenceAdamInIdeal.main_arg0)
          ∧ r.2.mem ((c.tc : Thread Cert.ReferenceAdamInIdeal.nD Cert.ReferenceAdamInIdeal.τ).loc Cert.ReferenceAdamInIdeal.main_arg1) = m' ((c.tc : Thread Cert.ReferenceAdamInIdeal.nD Cert.ReferenceAdamInIdeal.τ).loc Cert.ReferenceAdamInIdeal.main_arg1)
          ∧ r.2.mem ((c.tc : Thread Cert.ReferenceAdamInIdeal.nD Cert.ReferenceAdamInIdeal.τ).loc Cert.ReferenceAdamInIdeal.main_arg2) = m' ((c.tc : Thread Cert.ReferenceAdamInIdeal.nD Cert.ReferenceAdamInIdeal.τ).loc Cert.ReferenceAdamInIdeal.main_arg2)
          ∧ r.2.mem ((c.tc : Thread Cert.ReferenceAdamInIdeal.nD Cert.ReferenceAdamInIdeal.τ).loc Cert.ReferenceAdamInIdeal.main_arg3) = m' ((c.tc : Thread Cert.ReferenceAdamInIdeal.nD Cert.ReferenceAdamInIdeal.τ).loc Cert.ReferenceAdamInIdeal.main_arg3))

def preserves_KernelAdamSmall_KernelAdamSmallIdeal : Prop :=
  True

def algebraic_KernelAdamSmallIdeal_ReferenceAdamSmallIdeal [hKernelAdamSmallIdeal : Cert.KernelAdamSmallIdeal.Facts] [hReferenceAdamSmallIdeal : Cert.ReferenceAdamSmallIdeal.Facts] : Prop :=
  ∀ (m : (ℓ : Loc Cert.KernelAdamSmallIdeal.nD Cert.KernelAdamSmallIdeal.τ Cert.KernelAdamSmallIdeal.sig) → Buf (Elt Ideal) ℓ) (g : Dev Cert.KernelAdamSmallIdeal.nD → PrngReg)
    (m' : (ℓ : Loc Cert.ReferenceAdamSmallIdeal.nD Cert.ReferenceAdamSmallIdeal.τ Cert.ReferenceAdamSmallIdeal.sig) → Buf (Elt Ideal) ℓ) (g' : Dev Cert.ReferenceAdamSmallIdeal.nD → PrngReg), Pre_KernelAdamSmallIdeal m →
    (∀ c : Dev Cert.KernelAdamSmallIdeal.nD,
      m' ((c.tc : Thread Cert.ReferenceAdamSmallIdeal.nD Cert.ReferenceAdamSmallIdeal.τ).loc Cert.ReferenceAdamSmallIdeal.main_arg0) = m ((c.tc : Thread Cert.KernelAdamSmallIdeal.nD Cert.KernelAdamSmallIdeal.τ).loc Cert.KernelAdamSmallIdeal.main_arg0)
      ∧ m' ((c.tc : Thread Cert.ReferenceAdamSmallIdeal.nD Cert.ReferenceAdamSmallIdeal.τ).loc Cert.ReferenceAdamSmallIdeal.main_arg1) = m ((c.tc : Thread Cert.KernelAdamSmallIdeal.nD Cert.KernelAdamSmallIdeal.τ).loc Cert.KernelAdamSmallIdeal.main_arg1)
      ∧ m' ((c.tc : Thread Cert.ReferenceAdamSmallIdeal.nD Cert.ReferenceAdamSmallIdeal.τ).loc Cert.ReferenceAdamSmallIdeal.main_arg2) = m ((c.tc : Thread Cert.KernelAdamSmallIdeal.nD Cert.KernelAdamSmallIdeal.τ).loc Cert.KernelAdamSmallIdeal.main_arg2)
      ∧ m' ((c.tc : Thread Cert.ReferenceAdamSmallIdeal.nD Cert.ReferenceAdamSmallIdeal.τ).loc Cert.ReferenceAdamSmallIdeal.main_arg3) = m ((c.tc : Thread Cert.KernelAdamSmallIdeal.nD Cert.KernelAdamSmallIdeal.τ).loc Cert.KernelAdamSmallIdeal.main_arg3)
      ∧ m' ((c.tc : Thread Cert.ReferenceAdamSmallIdeal.nD Cert.ReferenceAdamSmallIdeal.τ).loc Cert.ReferenceAdamSmallIdeal.main_arg4) = m ((c.tc : Thread Cert.KernelAdamSmallIdeal.nD Cert.KernelAdamSmallIdeal.τ).loc Cert.KernelAdamSmallIdeal.main_arg4)
      ∧ m' ((c.tc : Thread Cert.ReferenceAdamSmallIdeal.nD Cert.ReferenceAdamSmallIdeal.τ).loc Cert.ReferenceAdamSmallIdeal.main_arg5) = m ((c.tc : Thread Cert.KernelAdamSmallIdeal.nD Cert.KernelAdamSmallIdeal.τ).loc Cert.KernelAdamSmallIdeal.main_arg5)
      ∧ m' ((c.tc : Thread Cert.ReferenceAdamSmallIdeal.nD Cert.ReferenceAdamSmallIdeal.τ).loc Cert.ReferenceAdamSmallIdeal.main_arg6) = m ((c.tc : Thread Cert.KernelAdamSmallIdeal.nD Cert.KernelAdamSmallIdeal.τ).loc Cert.KernelAdamSmallIdeal.main_arg6)
      ∧ m' ((c.tc : Thread Cert.ReferenceAdamSmallIdeal.nD Cert.ReferenceAdamSmallIdeal.τ).loc Cert.ReferenceAdamSmallIdeal.main_arg7) = m ((c.tc : Thread Cert.KernelAdamSmallIdeal.nD Cert.KernelAdamSmallIdeal.τ).loc Cert.KernelAdamSmallIdeal.main_arg7)
      ∧ m' ((c.tc : Thread Cert.ReferenceAdamSmallIdeal.nD Cert.ReferenceAdamSmallIdeal.τ).loc Cert.ReferenceAdamSmallIdeal.main_arg8) = m ((c.tc : Thread Cert.KernelAdamSmallIdeal.nD Cert.KernelAdamSmallIdeal.τ).loc Cert.KernelAdamSmallIdeal.main_arg8)
      ∧ m' ((c.tc : Thread Cert.ReferenceAdamSmallIdeal.nD Cert.ReferenceAdamSmallIdeal.τ).loc Cert.ReferenceAdamSmallIdeal.main_arg9) = m ((c.tc : Thread Cert.KernelAdamSmallIdeal.nD Cert.KernelAdamSmallIdeal.τ).loc Cert.KernelAdamSmallIdeal.main_arg9)
      ∧ m' ((c.tc : Thread Cert.ReferenceAdamSmallIdeal.nD Cert.ReferenceAdamSmallIdeal.τ).loc Cert.ReferenceAdamSmallIdeal.main_arg10) = m ((c.tc : Thread Cert.KernelAdamSmallIdeal.nD Cert.KernelAdamSmallIdeal.τ).loc Cert.KernelAdamSmallIdeal.main_arg10)
      ∧ m' ((c.tc : Thread Cert.ReferenceAdamSmallIdeal.nD Cert.ReferenceAdamSmallIdeal.τ).loc Cert.ReferenceAdamSmallIdeal.main_arg11) = m ((c.tc : Thread Cert.KernelAdamSmallIdeal.nD Cert.KernelAdamSmallIdeal.τ).loc Cert.KernelAdamSmallIdeal.main_arg11)
      ∧ m' ((c.tc : Thread Cert.ReferenceAdamSmallIdeal.nD Cert.ReferenceAdamSmallIdeal.τ).loc Cert.ReferenceAdamSmallIdeal.main_arg12) = m ((c.tc : Thread Cert.KernelAdamSmallIdeal.nD Cert.KernelAdamSmallIdeal.τ).loc Cert.KernelAdamSmallIdeal.main_arg12)
      ∧ m' ((c.tc : Thread Cert.ReferenceAdamSmallIdeal.nD Cert.ReferenceAdamSmallIdeal.τ).loc Cert.ReferenceAdamSmallIdeal.main_arg13) = m ((c.tc : Thread Cert.KernelAdamSmallIdeal.nD Cert.KernelAdamSmallIdeal.τ).loc Cert.KernelAdamSmallIdeal.main_arg13)
      ∧ m' ((c.tc : Thread Cert.ReferenceAdamSmallIdeal.nD Cert.ReferenceAdamSmallIdeal.τ).loc Cert.ReferenceAdamSmallIdeal.main_arg14) = m ((c.tc : Thread Cert.KernelAdamSmallIdeal.nD Cert.KernelAdamSmallIdeal.τ).loc Cert.KernelAdamSmallIdeal.main_arg14)
      ∧ m' ((c.tc : Thread Cert.ReferenceAdamSmallIdeal.nD Cert.ReferenceAdamSmallIdeal.τ).loc Cert.ReferenceAdamSmallIdeal.main_arg15) = m ((c.tc : Thread Cert.KernelAdamSmallIdeal.nD Cert.KernelAdamSmallIdeal.τ).loc Cert.KernelAdamSmallIdeal.main_arg15)
      ∧ m' ((c.tc : Thread Cert.ReferenceAdamSmallIdeal.nD Cert.ReferenceAdamSmallIdeal.τ).loc Cert.ReferenceAdamSmallIdeal.main_arg16) = m ((c.tc : Thread Cert.KernelAdamSmallIdeal.nD Cert.KernelAdamSmallIdeal.τ).loc Cert.KernelAdamSmallIdeal.main_arg16)
      ∧ m' ((c.tc : Thread Cert.ReferenceAdamSmallIdeal.nD Cert.ReferenceAdamSmallIdeal.τ).loc Cert.ReferenceAdamSmallIdeal.main_arg17) = m ((c.tc : Thread Cert.KernelAdamSmallIdeal.nD Cert.KernelAdamSmallIdeal.τ).loc Cert.KernelAdamSmallIdeal.main_arg17)
      ∧ m' ((c.tc : Thread Cert.ReferenceAdamSmallIdeal.nD Cert.ReferenceAdamSmallIdeal.τ).loc Cert.ReferenceAdamSmallIdeal.main_arg18) = m ((c.tc : Thread Cert.KernelAdamSmallIdeal.nD Cert.KernelAdamSmallIdeal.τ).loc Cert.KernelAdamSmallIdeal.main_arg18)
      ∧ m' ((c.tc : Thread Cert.ReferenceAdamSmallIdeal.nD Cert.ReferenceAdamSmallIdeal.τ).loc Cert.ReferenceAdamSmallIdeal.main_arg19) = m ((c.tc : Thread Cert.KernelAdamSmallIdeal.nD Cert.KernelAdamSmallIdeal.τ).loc Cert.KernelAdamSmallIdeal.main_arg19)
      ∧ m' ((c.tc : Thread Cert.ReferenceAdamSmallIdeal.nD Cert.ReferenceAdamSmallIdeal.τ).loc Cert.ReferenceAdamSmallIdeal.main_arg20) = m ((c.tc : Thread Cert.KernelAdamSmallIdeal.nD Cert.KernelAdamSmallIdeal.τ).loc Cert.KernelAdamSmallIdeal.main_arg20)
      ∧ m' ((c.tc : Thread Cert.ReferenceAdamSmallIdeal.nD Cert.ReferenceAdamSmallIdeal.τ).loc Cert.ReferenceAdamSmallIdeal.main_arg21) = m ((c.tc : Thread Cert.KernelAdamSmallIdeal.nD Cert.KernelAdamSmallIdeal.τ).loc Cert.KernelAdamSmallIdeal.main_arg21)
      ∧ m' ((c.tc : Thread Cert.ReferenceAdamSmallIdeal.nD Cert.ReferenceAdamSmallIdeal.τ).loc Cert.ReferenceAdamSmallIdeal.main_arg22) = m ((c.tc : Thread Cert.KernelAdamSmallIdeal.nD Cert.KernelAdamSmallIdeal.τ).loc Cert.KernelAdamSmallIdeal.main_arg22)
      ∧ m' ((c.tc : Thread Cert.ReferenceAdamSmallIdeal.nD Cert.ReferenceAdamSmallIdeal.τ).loc Cert.ReferenceAdamSmallIdeal.main_arg23) = m ((c.tc : Thread Cert.KernelAdamSmallIdeal.nD Cert.KernelAdamSmallIdeal.τ).loc Cert.KernelAdamSmallIdeal.main_arg23)) →
    ∃ (v0 : (c : Dev Cert.KernelAdamSmallIdeal.nD) → Buf (Elt Ideal) ((c.tc : Thread Cert.KernelAdamSmallIdeal.nD Cert.KernelAdamSmallIdeal.τ).loc Cert.KernelAdamSmallIdeal.main_v88)) (v1 : (c : Dev Cert.KernelAdamSmallIdeal.nD) → Buf (Elt Ideal) ((c.tc : Thread Cert.KernelAdamSmallIdeal.nD Cert.KernelAdamSmallIdeal.τ).loc Cert.KernelAdamSmallIdeal.main_v106)) (v2 : (c : Dev Cert.KernelAdamSmallIdeal.nD) → Buf (Elt Ideal) ((c.tc : Thread Cert.KernelAdamSmallIdeal.nD Cert.KernelAdamSmallIdeal.τ).loc Cert.KernelAdamSmallIdeal.main_v123)) (v3 : (c : Dev Cert.KernelAdamSmallIdeal.nD) → Buf (Elt Ideal) ((c.tc : Thread Cert.KernelAdamSmallIdeal.nD Cert.KernelAdamSmallIdeal.τ).loc Cert.KernelAdamSmallIdeal.main_v138)) (v4 : (c : Dev Cert.KernelAdamSmallIdeal.nD) → Buf (Elt Ideal) ((c.tc : Thread Cert.KernelAdamSmallIdeal.nD Cert.KernelAdamSmallIdeal.τ).loc Cert.KernelAdamSmallIdeal.main_v153)) (v5 : (c : Dev Cert.KernelAdamSmallIdeal.nD) → Buf (Elt Ideal) ((c.tc : Thread Cert.KernelAdamSmallIdeal.nD Cert.KernelAdamSmallIdeal.τ).loc Cert.KernelAdamSmallIdeal.main_v168)) (v6 : (c : Dev Cert.KernelAdamSmallIdeal.nD) → Buf (Elt Ideal) ((c.tc : Thread Cert.KernelAdamSmallIdeal.nD Cert.KernelAdamSmallIdeal.τ).loc Cert.KernelAdamSmallIdeal.main_v93)) (v7 : (c : Dev Cert.KernelAdamSmallIdeal.nD) → Buf (Elt Ideal) ((c.tc : Thread Cert.KernelAdamSmallIdeal.nD Cert.KernelAdamSmallIdeal.τ).loc Cert.KernelAdamSmallIdeal.main_v111)) (v8 : (c : Dev Cert.KernelAdamSmallIdeal.nD) → Buf (Elt Ideal) ((c.tc : Thread Cert.KernelAdamSmallIdeal.nD Cert.KernelAdamSmallIdeal.τ).loc Cert.KernelAdamSmallIdeal.main_v127)) (v9 : (c : Dev Cert.KernelAdamSmallIdeal.nD) → Buf (Elt Ideal) ((c.tc : Thread Cert.KernelAdamSmallIdeal.nD Cert.KernelAdamSmallIdeal.τ).loc Cert.KernelAdamSmallIdeal.main_v142)) (v10 : (c : Dev Cert.KernelAdamSmallIdeal.nD) → Buf (Elt Ideal) ((c.tc : Thread Cert.KernelAdamSmallIdeal.nD Cert.KernelAdamSmallIdeal.τ).loc Cert.KernelAdamSmallIdeal.main_v157)) (v11 : (c : Dev Cert.KernelAdamSmallIdeal.nD) → Buf (Elt Ideal) ((c.tc : Thread Cert.KernelAdamSmallIdeal.nD Cert.KernelAdamSmallIdeal.τ).loc Cert.KernelAdamSmallIdeal.main_v172)) (v12 : (c : Dev Cert.KernelAdamSmallIdeal.nD) → Buf (Elt Ideal) ((c.tc : Thread Cert.KernelAdamSmallIdeal.nD Cert.KernelAdamSmallIdeal.τ).loc Cert.KernelAdamSmallIdeal.main_v98)) (v13 : (c : Dev Cert.KernelAdamSmallIdeal.nD) → Buf (Elt Ideal) ((c.tc : Thread Cert.KernelAdamSmallIdeal.nD Cert.KernelAdamSmallIdeal.τ).loc Cert.KernelAdamSmallIdeal.main_v116)) (v14 : (c : Dev Cert.KernelAdamSmallIdeal.nD) → Buf (Elt Ideal) ((c.tc : Thread Cert.KernelAdamSmallIdeal.nD Cert.KernelAdamSmallIdeal.τ).loc Cert.KernelAdamSmallIdeal.main_v131)) (v15 : (c : Dev Cert.KernelAdamSmallIdeal.nD) → Buf (Elt Ideal) ((c.tc : Thread Cert.KernelAdamSmallIdeal.nD Cert.KernelAdamSmallIdeal.τ).loc Cert.KernelAdamSmallIdeal.main_v146)) (v16 : (c : Dev Cert.KernelAdamSmallIdeal.nD) → Buf (Elt Ideal) ((c.tc : Thread Cert.KernelAdamSmallIdeal.nD Cert.KernelAdamSmallIdeal.τ).loc Cert.KernelAdamSmallIdeal.main_v161)) (v17 : (c : Dev Cert.KernelAdamSmallIdeal.nD) → Buf (Elt Ideal) ((c.tc : Thread Cert.KernelAdamSmallIdeal.nD Cert.KernelAdamSmallIdeal.τ).loc Cert.KernelAdamSmallIdeal.main_v176)),
      θ_run (Cert.KernelAdamSmallIdeal.defs (F := Ideal)) (onTc (τ := Cert.KernelAdamSmallIdeal.τ) (Cert.KernelAdamSmallIdeal.main (F := Ideal))) ⟨m, fun _ => 0, g⟩ (fun r => ∀ c : Dev Cert.KernelAdamSmallIdeal.nD,
          r.2.mem ((c.tc : Thread Cert.KernelAdamSmallIdeal.nD Cert.KernelAdamSmallIdeal.τ).loc Cert.KernelAdamSmallIdeal.main_v88) = v0 c
          ∧ r.2.mem ((c.tc : Thread Cert.KernelAdamSmallIdeal.nD Cert.KernelAdamSmallIdeal.τ).loc Cert.KernelAdamSmallIdeal.main_v106) = v1 c
          ∧ r.2.mem ((c.tc : Thread Cert.KernelAdamSmallIdeal.nD Cert.KernelAdamSmallIdeal.τ).loc Cert.KernelAdamSmallIdeal.main_v123) = v2 c
          ∧ r.2.mem ((c.tc : Thread Cert.KernelAdamSmallIdeal.nD Cert.KernelAdamSmallIdeal.τ).loc Cert.KernelAdamSmallIdeal.main_v138) = v3 c
          ∧ r.2.mem ((c.tc : Thread Cert.KernelAdamSmallIdeal.nD Cert.KernelAdamSmallIdeal.τ).loc Cert.KernelAdamSmallIdeal.main_v153) = v4 c
          ∧ r.2.mem ((c.tc : Thread Cert.KernelAdamSmallIdeal.nD Cert.KernelAdamSmallIdeal.τ).loc Cert.KernelAdamSmallIdeal.main_v168) = v5 c
          ∧ r.2.mem ((c.tc : Thread Cert.KernelAdamSmallIdeal.nD Cert.KernelAdamSmallIdeal.τ).loc Cert.KernelAdamSmallIdeal.main_v93) = v6 c
          ∧ r.2.mem ((c.tc : Thread Cert.KernelAdamSmallIdeal.nD Cert.KernelAdamSmallIdeal.τ).loc Cert.KernelAdamSmallIdeal.main_v111) = v7 c
          ∧ r.2.mem ((c.tc : Thread Cert.KernelAdamSmallIdeal.nD Cert.KernelAdamSmallIdeal.τ).loc Cert.KernelAdamSmallIdeal.main_v127) = v8 c
          ∧ r.2.mem ((c.tc : Thread Cert.KernelAdamSmallIdeal.nD Cert.KernelAdamSmallIdeal.τ).loc Cert.KernelAdamSmallIdeal.main_v142) = v9 c
          ∧ r.2.mem ((c.tc : Thread Cert.KernelAdamSmallIdeal.nD Cert.KernelAdamSmallIdeal.τ).loc Cert.KernelAdamSmallIdeal.main_v157) = v10 c
          ∧ r.2.mem ((c.tc : Thread Cert.KernelAdamSmallIdeal.nD Cert.KernelAdamSmallIdeal.τ).loc Cert.KernelAdamSmallIdeal.main_v172) = v11 c
          ∧ r.2.mem ((c.tc : Thread Cert.KernelAdamSmallIdeal.nD Cert.KernelAdamSmallIdeal.τ).loc Cert.KernelAdamSmallIdeal.main_v98) = v12 c
          ∧ r.2.mem ((c.tc : Thread Cert.KernelAdamSmallIdeal.nD Cert.KernelAdamSmallIdeal.τ).loc Cert.KernelAdamSmallIdeal.main_v116) = v13 c
          ∧ r.2.mem ((c.tc : Thread Cert.KernelAdamSmallIdeal.nD Cert.KernelAdamSmallIdeal.τ).loc Cert.KernelAdamSmallIdeal.main_v131) = v14 c
          ∧ r.2.mem ((c.tc : Thread Cert.KernelAdamSmallIdeal.nD Cert.KernelAdamSmallIdeal.τ).loc Cert.KernelAdamSmallIdeal.main_v146) = v15 c
          ∧ r.2.mem ((c.tc : Thread Cert.KernelAdamSmallIdeal.nD Cert.KernelAdamSmallIdeal.τ).loc Cert.KernelAdamSmallIdeal.main_v161) = v16 c
          ∧ r.2.mem ((c.tc : Thread Cert.KernelAdamSmallIdeal.nD Cert.KernelAdamSmallIdeal.τ).loc Cert.KernelAdamSmallIdeal.main_v176) = v17 c
          ∧ r.2.mem ((c.tc : Thread Cert.KernelAdamSmallIdeal.nD Cert.KernelAdamSmallIdeal.τ).loc Cert.KernelAdamSmallIdeal.main_arg0) = m ((c.tc : Thread Cert.KernelAdamSmallIdeal.nD Cert.KernelAdamSmallIdeal.τ).loc Cert.KernelAdamSmallIdeal.main_arg0)
          ∧ r.2.mem ((c.tc : Thread Cert.KernelAdamSmallIdeal.nD Cert.KernelAdamSmallIdeal.τ).loc Cert.KernelAdamSmallIdeal.main_arg1) = m ((c.tc : Thread Cert.KernelAdamSmallIdeal.nD Cert.KernelAdamSmallIdeal.τ).loc Cert.KernelAdamSmallIdeal.main_arg1)
          ∧ r.2.mem ((c.tc : Thread Cert.KernelAdamSmallIdeal.nD Cert.KernelAdamSmallIdeal.τ).loc Cert.KernelAdamSmallIdeal.main_arg2) = m ((c.tc : Thread Cert.KernelAdamSmallIdeal.nD Cert.KernelAdamSmallIdeal.τ).loc Cert.KernelAdamSmallIdeal.main_arg2)
          ∧ r.2.mem ((c.tc : Thread Cert.KernelAdamSmallIdeal.nD Cert.KernelAdamSmallIdeal.τ).loc Cert.KernelAdamSmallIdeal.main_arg3) = m ((c.tc : Thread Cert.KernelAdamSmallIdeal.nD Cert.KernelAdamSmallIdeal.τ).loc Cert.KernelAdamSmallIdeal.main_arg3)
          ∧ r.2.mem ((c.tc : Thread Cert.KernelAdamSmallIdeal.nD Cert.KernelAdamSmallIdeal.τ).loc Cert.KernelAdamSmallIdeal.main_arg4) = m ((c.tc : Thread Cert.KernelAdamSmallIdeal.nD Cert.KernelAdamSmallIdeal.τ).loc Cert.KernelAdamSmallIdeal.main_arg4)
          ∧ r.2.mem ((c.tc : Thread Cert.KernelAdamSmallIdeal.nD Cert.KernelAdamSmallIdeal.τ).loc Cert.KernelAdamSmallIdeal.main_arg5) = m ((c.tc : Thread Cert.KernelAdamSmallIdeal.nD Cert.KernelAdamSmallIdeal.τ).loc Cert.KernelAdamSmallIdeal.main_arg5)
          ∧ r.2.mem ((c.tc : Thread Cert.KernelAdamSmallIdeal.nD Cert.KernelAdamSmallIdeal.τ).loc Cert.KernelAdamSmallIdeal.main_arg6) = m ((c.tc : Thread Cert.KernelAdamSmallIdeal.nD Cert.KernelAdamSmallIdeal.τ).loc Cert.KernelAdamSmallIdeal.main_arg6)
          ∧ r.2.mem ((c.tc : Thread Cert.KernelAdamSmallIdeal.nD Cert.KernelAdamSmallIdeal.τ).loc Cert.KernelAdamSmallIdeal.main_arg7) = m ((c.tc : Thread Cert.KernelAdamSmallIdeal.nD Cert.KernelAdamSmallIdeal.τ).loc Cert.KernelAdamSmallIdeal.main_arg7)
          ∧ r.2.mem ((c.tc : Thread Cert.KernelAdamSmallIdeal.nD Cert.KernelAdamSmallIdeal.τ).loc Cert.KernelAdamSmallIdeal.main_arg8) = m ((c.tc : Thread Cert.KernelAdamSmallIdeal.nD Cert.KernelAdamSmallIdeal.τ).loc Cert.KernelAdamSmallIdeal.main_arg8)
          ∧ r.2.mem ((c.tc : Thread Cert.KernelAdamSmallIdeal.nD Cert.KernelAdamSmallIdeal.τ).loc Cert.KernelAdamSmallIdeal.main_arg9) = m ((c.tc : Thread Cert.KernelAdamSmallIdeal.nD Cert.KernelAdamSmallIdeal.τ).loc Cert.KernelAdamSmallIdeal.main_arg9)
          ∧ r.2.mem ((c.tc : Thread Cert.KernelAdamSmallIdeal.nD Cert.KernelAdamSmallIdeal.τ).loc Cert.KernelAdamSmallIdeal.main_arg10) = m ((c.tc : Thread Cert.KernelAdamSmallIdeal.nD Cert.KernelAdamSmallIdeal.τ).loc Cert.KernelAdamSmallIdeal.main_arg10)
          ∧ r.2.mem ((c.tc : Thread Cert.KernelAdamSmallIdeal.nD Cert.KernelAdamSmallIdeal.τ).loc Cert.KernelAdamSmallIdeal.main_arg11) = m ((c.tc : Thread Cert.KernelAdamSmallIdeal.nD Cert.KernelAdamSmallIdeal.τ).loc Cert.KernelAdamSmallIdeal.main_arg11)
          ∧ r.2.mem ((c.tc : Thread Cert.KernelAdamSmallIdeal.nD Cert.KernelAdamSmallIdeal.τ).loc Cert.KernelAdamSmallIdeal.main_arg12) = m ((c.tc : Thread Cert.KernelAdamSmallIdeal.nD Cert.KernelAdamSmallIdeal.τ).loc Cert.KernelAdamSmallIdeal.main_arg12)
          ∧ r.2.mem ((c.tc : Thread Cert.KernelAdamSmallIdeal.nD Cert.KernelAdamSmallIdeal.τ).loc Cert.KernelAdamSmallIdeal.main_arg13) = m ((c.tc : Thread Cert.KernelAdamSmallIdeal.nD Cert.KernelAdamSmallIdeal.τ).loc Cert.KernelAdamSmallIdeal.main_arg13)
          ∧ r.2.mem ((c.tc : Thread Cert.KernelAdamSmallIdeal.nD Cert.KernelAdamSmallIdeal.τ).loc Cert.KernelAdamSmallIdeal.main_arg14) = m ((c.tc : Thread Cert.KernelAdamSmallIdeal.nD Cert.KernelAdamSmallIdeal.τ).loc Cert.KernelAdamSmallIdeal.main_arg14)
          ∧ r.2.mem ((c.tc : Thread Cert.KernelAdamSmallIdeal.nD Cert.KernelAdamSmallIdeal.τ).loc Cert.KernelAdamSmallIdeal.main_arg15) = m ((c.tc : Thread Cert.KernelAdamSmallIdeal.nD Cert.KernelAdamSmallIdeal.τ).loc Cert.KernelAdamSmallIdeal.main_arg15)
          ∧ r.2.mem ((c.tc : Thread Cert.KernelAdamSmallIdeal.nD Cert.KernelAdamSmallIdeal.τ).loc Cert.KernelAdamSmallIdeal.main_arg16) = m ((c.tc : Thread Cert.KernelAdamSmallIdeal.nD Cert.KernelAdamSmallIdeal.τ).loc Cert.KernelAdamSmallIdeal.main_arg16)
          ∧ r.2.mem ((c.tc : Thread Cert.KernelAdamSmallIdeal.nD Cert.KernelAdamSmallIdeal.τ).loc Cert.KernelAdamSmallIdeal.main_arg17) = m ((c.tc : Thread Cert.KernelAdamSmallIdeal.nD Cert.KernelAdamSmallIdeal.τ).loc Cert.KernelAdamSmallIdeal.main_arg17)
          ∧ r.2.mem ((c.tc : Thread Cert.KernelAdamSmallIdeal.nD Cert.KernelAdamSmallIdeal.τ).loc Cert.KernelAdamSmallIdeal.main_arg18) = m ((c.tc : Thread Cert.KernelAdamSmallIdeal.nD Cert.KernelAdamSmallIdeal.τ).loc Cert.KernelAdamSmallIdeal.main_arg18)
          ∧ r.2.mem ((c.tc : Thread Cert.KernelAdamSmallIdeal.nD Cert.KernelAdamSmallIdeal.τ).loc Cert.KernelAdamSmallIdeal.main_arg19) = m ((c.tc : Thread Cert.KernelAdamSmallIdeal.nD Cert.KernelAdamSmallIdeal.τ).loc Cert.KernelAdamSmallIdeal.main_arg19)
          ∧ r.2.mem ((c.tc : Thread Cert.KernelAdamSmallIdeal.nD Cert.KernelAdamSmallIdeal.τ).loc Cert.KernelAdamSmallIdeal.main_arg20) = m ((c.tc : Thread Cert.KernelAdamSmallIdeal.nD Cert.KernelAdamSmallIdeal.τ).loc Cert.KernelAdamSmallIdeal.main_arg20)
          ∧ r.2.mem ((c.tc : Thread Cert.KernelAdamSmallIdeal.nD Cert.KernelAdamSmallIdeal.τ).loc Cert.KernelAdamSmallIdeal.main_arg21) = m ((c.tc : Thread Cert.KernelAdamSmallIdeal.nD Cert.KernelAdamSmallIdeal.τ).loc Cert.KernelAdamSmallIdeal.main_arg21)
          ∧ r.2.mem ((c.tc : Thread Cert.KernelAdamSmallIdeal.nD Cert.KernelAdamSmallIdeal.τ).loc Cert.KernelAdamSmallIdeal.main_arg22) = m ((c.tc : Thread Cert.KernelAdamSmallIdeal.nD Cert.KernelAdamSmallIdeal.τ).loc Cert.KernelAdamSmallIdeal.main_arg22)
          ∧ r.2.mem ((c.tc : Thread Cert.KernelAdamSmallIdeal.nD Cert.KernelAdamSmallIdeal.τ).loc Cert.KernelAdamSmallIdeal.main_arg23) = m ((c.tc : Thread Cert.KernelAdamSmallIdeal.nD Cert.KernelAdamSmallIdeal.τ).loc Cert.KernelAdamSmallIdeal.main_arg23))
      ∧ θ_run (Cert.ReferenceAdamSmallIdeal.defs (F := Ideal)) (onTc (τ := Cert.ReferenceAdamSmallIdeal.τ) (Cert.ReferenceAdamSmallIdeal.main (F := Ideal))) ⟨m', fun _ => 0, g'⟩ (fun r => ∀ c : Dev Cert.ReferenceAdamSmallIdeal.nD,
          r.2.mem ((c.tc : Thread Cert.ReferenceAdamSmallIdeal.nD Cert.ReferenceAdamSmallIdeal.τ).loc Cert.ReferenceAdamSmallIdeal.main_v23) = v0 c
          ∧ r.2.mem ((c.tc : Thread Cert.ReferenceAdamSmallIdeal.nD Cert.ReferenceAdamSmallIdeal.τ).loc Cert.ReferenceAdamSmallIdeal.main_v47) = v1 c
          ∧ r.2.mem ((c.tc : Thread Cert.ReferenceAdamSmallIdeal.nD Cert.ReferenceAdamSmallIdeal.τ).loc Cert.ReferenceAdamSmallIdeal.main_v71) = v2 c
          ∧ r.2.mem ((c.tc : Thread Cert.ReferenceAdamSmallIdeal.nD Cert.ReferenceAdamSmallIdeal.τ).loc Cert.ReferenceAdamSmallIdeal.main_v95) = v3 c
          ∧ r.2.mem ((c.tc : Thread Cert.ReferenceAdamSmallIdeal.nD Cert.ReferenceAdamSmallIdeal.τ).loc Cert.ReferenceAdamSmallIdeal.main_v119) = v4 c
          ∧ r.2.mem ((c.tc : Thread Cert.ReferenceAdamSmallIdeal.nD Cert.ReferenceAdamSmallIdeal.τ).loc Cert.ReferenceAdamSmallIdeal.main_v143) = v5 c
          ∧ r.2.mem ((c.tc : Thread Cert.ReferenceAdamSmallIdeal.nD Cert.ReferenceAdamSmallIdeal.τ).loc Cert.ReferenceAdamSmallIdeal.main_v4) = v6 c
          ∧ r.2.mem ((c.tc : Thread Cert.ReferenceAdamSmallIdeal.nD Cert.ReferenceAdamSmallIdeal.τ).loc Cert.ReferenceAdamSmallIdeal.main_v28) = v7 c
          ∧ r.2.mem ((c.tc : Thread Cert.ReferenceAdamSmallIdeal.nD Cert.ReferenceAdamSmallIdeal.τ).loc Cert.ReferenceAdamSmallIdeal.main_v52) = v8 c
          ∧ r.2.mem ((c.tc : Thread Cert.ReferenceAdamSmallIdeal.nD Cert.ReferenceAdamSmallIdeal.τ).loc Cert.ReferenceAdamSmallIdeal.main_v76) = v9 c
          ∧ r.2.mem ((c.tc : Thread Cert.ReferenceAdamSmallIdeal.nD Cert.ReferenceAdamSmallIdeal.τ).loc Cert.ReferenceAdamSmallIdeal.main_v100) = v10 c
          ∧ r.2.mem ((c.tc : Thread Cert.ReferenceAdamSmallIdeal.nD Cert.ReferenceAdamSmallIdeal.τ).loc Cert.ReferenceAdamSmallIdeal.main_v124) = v11 c
          ∧ r.2.mem ((c.tc : Thread Cert.ReferenceAdamSmallIdeal.nD Cert.ReferenceAdamSmallIdeal.τ).loc Cert.ReferenceAdamSmallIdeal.main_v10) = v12 c
          ∧ r.2.mem ((c.tc : Thread Cert.ReferenceAdamSmallIdeal.nD Cert.ReferenceAdamSmallIdeal.τ).loc Cert.ReferenceAdamSmallIdeal.main_v34) = v13 c
          ∧ r.2.mem ((c.tc : Thread Cert.ReferenceAdamSmallIdeal.nD Cert.ReferenceAdamSmallIdeal.τ).loc Cert.ReferenceAdamSmallIdeal.main_v58) = v14 c
          ∧ r.2.mem ((c.tc : Thread Cert.ReferenceAdamSmallIdeal.nD Cert.ReferenceAdamSmallIdeal.τ).loc Cert.ReferenceAdamSmallIdeal.main_v82) = v15 c
          ∧ r.2.mem ((c.tc : Thread Cert.ReferenceAdamSmallIdeal.nD Cert.ReferenceAdamSmallIdeal.τ).loc Cert.ReferenceAdamSmallIdeal.main_v106) = v16 c
          ∧ r.2.mem ((c.tc : Thread Cert.ReferenceAdamSmallIdeal.nD Cert.ReferenceAdamSmallIdeal.τ).loc Cert.ReferenceAdamSmallIdeal.main_v130) = v17 c
          ∧ r.2.mem ((c.tc : Thread Cert.ReferenceAdamSmallIdeal.nD Cert.ReferenceAdamSmallIdeal.τ).loc Cert.ReferenceAdamSmallIdeal.main_arg0) = m' ((c.tc : Thread Cert.ReferenceAdamSmallIdeal.nD Cert.ReferenceAdamSmallIdeal.τ).loc Cert.ReferenceAdamSmallIdeal.main_arg0)
          ∧ r.2.mem ((c.tc : Thread Cert.ReferenceAdamSmallIdeal.nD Cert.ReferenceAdamSmallIdeal.τ).loc Cert.ReferenceAdamSmallIdeal.main_arg1) = m' ((c.tc : Thread Cert.ReferenceAdamSmallIdeal.nD Cert.ReferenceAdamSmallIdeal.τ).loc Cert.ReferenceAdamSmallIdeal.main_arg1)
          ∧ r.2.mem ((c.tc : Thread Cert.ReferenceAdamSmallIdeal.nD Cert.ReferenceAdamSmallIdeal.τ).loc Cert.ReferenceAdamSmallIdeal.main_arg2) = m' ((c.tc : Thread Cert.ReferenceAdamSmallIdeal.nD Cert.ReferenceAdamSmallIdeal.τ).loc Cert.ReferenceAdamSmallIdeal.main_arg2)
          ∧ r.2.mem ((c.tc : Thread Cert.ReferenceAdamSmallIdeal.nD Cert.ReferenceAdamSmallIdeal.τ).loc Cert.ReferenceAdamSmallIdeal.main_arg3) = m' ((c.tc : Thread Cert.ReferenceAdamSmallIdeal.nD Cert.ReferenceAdamSmallIdeal.τ).loc Cert.ReferenceAdamSmallIdeal.main_arg3)
          ∧ r.2.mem ((c.tc : Thread Cert.ReferenceAdamSmallIdeal.nD Cert.ReferenceAdamSmallIdeal.τ).loc Cert.ReferenceAdamSmallIdeal.main_arg4) = m' ((c.tc : Thread Cert.ReferenceAdamSmallIdeal.nD Cert.ReferenceAdamSmallIdeal.τ).loc Cert.ReferenceAdamSmallIdeal.main_arg4)
          ∧ r.2.mem ((c.tc : Thread Cert.ReferenceAdamSmallIdeal.nD Cert.ReferenceAdamSmallIdeal.τ).loc Cert.ReferenceAdamSmallIdeal.main_arg5) = m' ((c.tc : Thread Cert.ReferenceAdamSmallIdeal.nD Cert.ReferenceAdamSmallIdeal.τ).loc Cert.ReferenceAdamSmallIdeal.main_arg5)
          ∧ r.2.mem ((c.tc : Thread Cert.ReferenceAdamSmallIdeal.nD Cert.ReferenceAdamSmallIdeal.τ).loc Cert.ReferenceAdamSmallIdeal.main_arg6) = m' ((c.tc : Thread Cert.ReferenceAdamSmallIdeal.nD Cert.ReferenceAdamSmallIdeal.τ).loc Cert.ReferenceAdamSmallIdeal.main_arg6)
          ∧ r.2.mem ((c.tc : Thread Cert.ReferenceAdamSmallIdeal.nD Cert.ReferenceAdamSmallIdeal.τ).loc Cert.ReferenceAdamSmallIdeal.main_arg7) = m' ((c.tc : Thread Cert.ReferenceAdamSmallIdeal.nD Cert.ReferenceAdamSmallIdeal.τ).loc Cert.ReferenceAdamSmallIdeal.main_arg7)
          ∧ r.2.mem ((c.tc : Thread Cert.ReferenceAdamSmallIdeal.nD Cert.ReferenceAdamSmallIdeal.τ).loc Cert.ReferenceAdamSmallIdeal.main_arg8) = m' ((c.tc : Thread Cert.ReferenceAdamSmallIdeal.nD Cert.ReferenceAdamSmallIdeal.τ).loc Cert.ReferenceAdamSmallIdeal.main_arg8)
          ∧ r.2.mem ((c.tc : Thread Cert.ReferenceAdamSmallIdeal.nD Cert.ReferenceAdamSmallIdeal.τ).loc Cert.ReferenceAdamSmallIdeal.main_arg9) = m' ((c.tc : Thread Cert.ReferenceAdamSmallIdeal.nD Cert.ReferenceAdamSmallIdeal.τ).loc Cert.ReferenceAdamSmallIdeal.main_arg9)
          ∧ r.2.mem ((c.tc : Thread Cert.ReferenceAdamSmallIdeal.nD Cert.ReferenceAdamSmallIdeal.τ).loc Cert.ReferenceAdamSmallIdeal.main_arg10) = m' ((c.tc : Thread Cert.ReferenceAdamSmallIdeal.nD Cert.ReferenceAdamSmallIdeal.τ).loc Cert.ReferenceAdamSmallIdeal.main_arg10)
          ∧ r.2.mem ((c.tc : Thread Cert.ReferenceAdamSmallIdeal.nD Cert.ReferenceAdamSmallIdeal.τ).loc Cert.ReferenceAdamSmallIdeal.main_arg11) = m' ((c.tc : Thread Cert.ReferenceAdamSmallIdeal.nD Cert.ReferenceAdamSmallIdeal.τ).loc Cert.ReferenceAdamSmallIdeal.main_arg11)
          ∧ r.2.mem ((c.tc : Thread Cert.ReferenceAdamSmallIdeal.nD Cert.ReferenceAdamSmallIdeal.τ).loc Cert.ReferenceAdamSmallIdeal.main_arg12) = m' ((c.tc : Thread Cert.ReferenceAdamSmallIdeal.nD Cert.ReferenceAdamSmallIdeal.τ).loc Cert.ReferenceAdamSmallIdeal.main_arg12)
          ∧ r.2.mem ((c.tc : Thread Cert.ReferenceAdamSmallIdeal.nD Cert.ReferenceAdamSmallIdeal.τ).loc Cert.ReferenceAdamSmallIdeal.main_arg13) = m' ((c.tc : Thread Cert.ReferenceAdamSmallIdeal.nD Cert.ReferenceAdamSmallIdeal.τ).loc Cert.ReferenceAdamSmallIdeal.main_arg13)
          ∧ r.2.mem ((c.tc : Thread Cert.ReferenceAdamSmallIdeal.nD Cert.ReferenceAdamSmallIdeal.τ).loc Cert.ReferenceAdamSmallIdeal.main_arg14) = m' ((c.tc : Thread Cert.ReferenceAdamSmallIdeal.nD Cert.ReferenceAdamSmallIdeal.τ).loc Cert.ReferenceAdamSmallIdeal.main_arg14)
          ∧ r.2.mem ((c.tc : Thread Cert.ReferenceAdamSmallIdeal.nD Cert.ReferenceAdamSmallIdeal.τ).loc Cert.ReferenceAdamSmallIdeal.main_arg15) = m' ((c.tc : Thread Cert.ReferenceAdamSmallIdeal.nD Cert.ReferenceAdamSmallIdeal.τ).loc Cert.ReferenceAdamSmallIdeal.main_arg15)
          ∧ r.2.mem ((c.tc : Thread Cert.ReferenceAdamSmallIdeal.nD Cert.ReferenceAdamSmallIdeal.τ).loc Cert.ReferenceAdamSmallIdeal.main_arg16) = m' ((c.tc : Thread Cert.ReferenceAdamSmallIdeal.nD Cert.ReferenceAdamSmallIdeal.τ).loc Cert.ReferenceAdamSmallIdeal.main_arg16)
          ∧ r.2.mem ((c.tc : Thread Cert.ReferenceAdamSmallIdeal.nD Cert.ReferenceAdamSmallIdeal.τ).loc Cert.ReferenceAdamSmallIdeal.main_arg17) = m' ((c.tc : Thread Cert.ReferenceAdamSmallIdeal.nD Cert.ReferenceAdamSmallIdeal.τ).loc Cert.ReferenceAdamSmallIdeal.main_arg17)
          ∧ r.2.mem ((c.tc : Thread Cert.ReferenceAdamSmallIdeal.nD Cert.ReferenceAdamSmallIdeal.τ).loc Cert.ReferenceAdamSmallIdeal.main_arg18) = m' ((c.tc : Thread Cert.ReferenceAdamSmallIdeal.nD Cert.ReferenceAdamSmallIdeal.τ).loc Cert.ReferenceAdamSmallIdeal.main_arg18)
          ∧ r.2.mem ((c.tc : Thread Cert.ReferenceAdamSmallIdeal.nD Cert.ReferenceAdamSmallIdeal.τ).loc Cert.ReferenceAdamSmallIdeal.main_arg19) = m' ((c.tc : Thread Cert.ReferenceAdamSmallIdeal.nD Cert.ReferenceAdamSmallIdeal.τ).loc Cert.ReferenceAdamSmallIdeal.main_arg19)
          ∧ r.2.mem ((c.tc : Thread Cert.ReferenceAdamSmallIdeal.nD Cert.ReferenceAdamSmallIdeal.τ).loc Cert.ReferenceAdamSmallIdeal.main_arg20) = m' ((c.tc : Thread Cert.ReferenceAdamSmallIdeal.nD Cert.ReferenceAdamSmallIdeal.τ).loc Cert.ReferenceAdamSmallIdeal.main_arg20)
          ∧ r.2.mem ((c.tc : Thread Cert.ReferenceAdamSmallIdeal.nD Cert.ReferenceAdamSmallIdeal.τ).loc Cert.ReferenceAdamSmallIdeal.main_arg21) = m' ((c.tc : Thread Cert.ReferenceAdamSmallIdeal.nD Cert.ReferenceAdamSmallIdeal.τ).loc Cert.ReferenceAdamSmallIdeal.main_arg21)
          ∧ r.2.mem ((c.tc : Thread Cert.ReferenceAdamSmallIdeal.nD Cert.ReferenceAdamSmallIdeal.τ).loc Cert.ReferenceAdamSmallIdeal.main_arg22) = m' ((c.tc : Thread Cert.ReferenceAdamSmallIdeal.nD Cert.ReferenceAdamSmallIdeal.τ).loc Cert.ReferenceAdamSmallIdeal.main_arg22)
          ∧ r.2.mem ((c.tc : Thread Cert.ReferenceAdamSmallIdeal.nD Cert.ReferenceAdamSmallIdeal.τ).loc Cert.ReferenceAdamSmallIdeal.main_arg23) = m' ((c.tc : Thread Cert.ReferenceAdamSmallIdeal.nD Cert.ReferenceAdamSmallIdeal.τ).loc Cert.ReferenceAdamSmallIdeal.main_arg23))

def preserves_KernelSums_KernelSumsIdeal : Prop :=
  True

def algebraic_KernelSumsIdeal_ReferenceSumsIdeal [hKernelSumsIdeal : Cert.KernelSumsIdeal.Facts] [hReferenceSumsIdeal : Cert.ReferenceSumsIdeal.Facts] : Prop :=
  ∀ (m : (ℓ : Loc Cert.KernelSumsIdeal.nD Cert.KernelSumsIdeal.τ Cert.KernelSumsIdeal.sig) → Buf (Elt Ideal) ℓ) (g : Dev Cert.KernelSumsIdeal.nD → PrngReg)
    (m' : (ℓ : Loc Cert.ReferenceSumsIdeal.nD Cert.ReferenceSumsIdeal.τ Cert.ReferenceSumsIdeal.sig) → Buf (Elt Ideal) ℓ) (g' : Dev Cert.ReferenceSumsIdeal.nD → PrngReg), Pre_KernelSumsIdeal m →
    (∀ c : Dev Cert.KernelSumsIdeal.nD,
      m' ((c.tc : Thread Cert.ReferenceSumsIdeal.nD Cert.ReferenceSumsIdeal.τ).loc Cert.ReferenceSumsIdeal.main_arg0) = m ((c.tc : Thread Cert.KernelSumsIdeal.nD Cert.KernelSumsIdeal.τ).loc Cert.KernelSumsIdeal.main_arg0)
      ∧ m' ((c.tc : Thread Cert.ReferenceSumsIdeal.nD Cert.ReferenceSumsIdeal.τ).loc Cert.ReferenceSumsIdeal.main_arg1) = m ((c.tc : Thread Cert.KernelSumsIdeal.nD Cert.KernelSumsIdeal.τ).loc Cert.KernelSumsIdeal.main_arg1)
      ∧ m' ((c.tc : Thread Cert.ReferenceSumsIdeal.nD Cert.ReferenceSumsIdeal.τ).loc Cert.ReferenceSumsIdeal.main_arg2) = m ((c.tc : Thread Cert.KernelSumsIdeal.nD Cert.KernelSumsIdeal.τ).loc Cert.KernelSumsIdeal.main_arg2)
      ∧ m' ((c.tc : Thread Cert.ReferenceSumsIdeal.nD Cert.ReferenceSumsIdeal.τ).loc Cert.ReferenceSumsIdeal.main_arg3) = m ((c.tc : Thread Cert.KernelSumsIdeal.nD Cert.KernelSumsIdeal.τ).loc Cert.KernelSumsIdeal.main_arg3)
      ∧ m' ((c.tc : Thread Cert.ReferenceSumsIdeal.nD Cert.ReferenceSumsIdeal.τ).loc Cert.ReferenceSumsIdeal.main_arg4) = m ((c.tc : Thread Cert.KernelSumsIdeal.nD Cert.KernelSumsIdeal.τ).loc Cert.KernelSumsIdeal.main_arg4)
      ∧ m' ((c.tc : Thread Cert.ReferenceSumsIdeal.nD Cert.ReferenceSumsIdeal.τ).loc Cert.ReferenceSumsIdeal.main_arg5) = m ((c.tc : Thread Cert.KernelSumsIdeal.nD Cert.KernelSumsIdeal.τ).loc Cert.KernelSumsIdeal.main_arg5)
      ∧ m' ((c.tc : Thread Cert.ReferenceSumsIdeal.nD Cert.ReferenceSumsIdeal.τ).loc Cert.ReferenceSumsIdeal.main_arg6) = m ((c.tc : Thread Cert.KernelSumsIdeal.nD Cert.KernelSumsIdeal.τ).loc Cert.KernelSumsIdeal.main_arg6)
      ∧ m' ((c.tc : Thread Cert.ReferenceSumsIdeal.nD Cert.ReferenceSumsIdeal.τ).loc Cert.ReferenceSumsIdeal.main_arg7) = m ((c.tc : Thread Cert.KernelSumsIdeal.nD Cert.KernelSumsIdeal.τ).loc Cert.KernelSumsIdeal.main_arg7)
      ∧ m' ((c.tc : Thread Cert.ReferenceSumsIdeal.nD Cert.ReferenceSumsIdeal.τ).loc Cert.ReferenceSumsIdeal.main_arg8) = m ((c.tc : Thread Cert.KernelSumsIdeal.nD Cert.KernelSumsIdeal.τ).loc Cert.KernelSumsIdeal.main_arg8)) →
    ∃ (v0 : (c : Dev Cert.KernelSumsIdeal.nD) → Buf (Elt Ideal) ((c.tc : Thread Cert.KernelSumsIdeal.nD Cert.KernelSumsIdeal.τ).loc Cert.KernelSumsIdeal.main_v84)) (v1 : (c : Dev Cert.KernelSumsIdeal.nD) → Buf (Elt Ideal) ((c.tc : Thread Cert.KernelSumsIdeal.nD Cert.KernelSumsIdeal.τ).loc Cert.KernelSumsIdeal.main_v75)) (v2 : (c : Dev Cert.KernelSumsIdeal.nD) → Buf (Elt Ideal) ((c.tc : Thread Cert.KernelSumsIdeal.nD Cert.KernelSumsIdeal.τ).loc Cert.KernelSumsIdeal.main_v97)) (v3 : (c : Dev Cert.KernelSumsIdeal.nD) → Buf (Elt Ideal) ((c.tc : Thread Cert.KernelSumsIdeal.nD Cert.KernelSumsIdeal.τ).loc Cert.KernelSumsIdeal.main_v34)) (v4 : (c : Dev Cert.KernelSumsIdeal.nD) → Buf (Elt Ideal) ((c.tc : Thread Cert.KernelSumsIdeal.nD Cert.KernelSumsIdeal.τ).loc Cert.KernelSumsIdeal.main_v50)) (v5 : (c : Dev Cert.KernelSumsIdeal.nD) → Buf (Elt Ideal) ((c.tc : Thread Cert.KernelSumsIdeal.nD Cert.KernelSumsIdeal.τ).loc Cert.KernelSumsIdeal.main_v58)) (v6 : (c : Dev Cert.KernelSumsIdeal.nD) → Buf (Elt Ideal) ((c.tc : Thread Cert.KernelSumsIdeal.nD Cert.KernelSumsIdeal.τ).loc Cert.KernelSumsIdeal.main_v66)) (v7 : (c : Dev Cert.KernelSumsIdeal.nD) → Buf (Elt Ideal) ((c.tc : Thread Cert.KernelSumsIdeal.nD Cert.KernelSumsIdeal.τ).loc Cert.KernelSumsIdeal.main_v92)),
      θ_run (Cert.KernelSumsIdeal.defs (F := Ideal)) (onTc (τ := Cert.KernelSumsIdeal.τ) (Cert.KernelSumsIdeal.main (F := Ideal))) ⟨m, fun _ => 0, g⟩ (fun r => ∀ c : Dev Cert.KernelSumsIdeal.nD,
          r.2.mem ((c.tc : Thread Cert.KernelSumsIdeal.nD Cert.KernelSumsIdeal.τ).loc Cert.KernelSumsIdeal.main_v84) = v0 c
          ∧ r.2.mem ((c.tc : Thread Cert.KernelSumsIdeal.nD Cert.KernelSumsIdeal.τ).loc Cert.KernelSumsIdeal.main_v75) = v1 c
          ∧ r.2.mem ((c.tc : Thread Cert.KernelSumsIdeal.nD Cert.KernelSumsIdeal.τ).loc Cert.KernelSumsIdeal.main_v97) = v2 c
          ∧ r.2.mem ((c.tc : Thread Cert.KernelSumsIdeal.nD Cert.KernelSumsIdeal.τ).loc Cert.KernelSumsIdeal.main_v34) = v3 c
          ∧ r.2.mem ((c.tc : Thread Cert.KernelSumsIdeal.nD Cert.KernelSumsIdeal.τ).loc Cert.KernelSumsIdeal.main_v50) = v4 c
          ∧ r.2.mem ((c.tc : Thread Cert.KernelSumsIdeal.nD Cert.KernelSumsIdeal.τ).loc Cert.KernelSumsIdeal.main_v58) = v5 c
          ∧ r.2.mem ((c.tc : Thread Cert.KernelSumsIdeal.nD Cert.KernelSumsIdeal.τ).loc Cert.KernelSumsIdeal.main_v66) = v6 c
          ∧ r.2.mem ((c.tc : Thread Cert.KernelSumsIdeal.nD Cert.KernelSumsIdeal.τ).loc Cert.KernelSumsIdeal.main_v92) = v7 c
          ∧ r.2.mem ((c.tc : Thread Cert.KernelSumsIdeal.nD Cert.KernelSumsIdeal.τ).loc Cert.KernelSumsIdeal.main_arg0) = m ((c.tc : Thread Cert.KernelSumsIdeal.nD Cert.KernelSumsIdeal.τ).loc Cert.KernelSumsIdeal.main_arg0)
          ∧ r.2.mem ((c.tc : Thread Cert.KernelSumsIdeal.nD Cert.KernelSumsIdeal.τ).loc Cert.KernelSumsIdeal.main_arg1) = m ((c.tc : Thread Cert.KernelSumsIdeal.nD Cert.KernelSumsIdeal.τ).loc Cert.KernelSumsIdeal.main_arg1)
          ∧ r.2.mem ((c.tc : Thread Cert.KernelSumsIdeal.nD Cert.KernelSumsIdeal.τ).loc Cert.KernelSumsIdeal.main_arg2) = m ((c.tc : Thread Cert.KernelSumsIdeal.nD Cert.KernelSumsIdeal.τ).loc Cert.KernelSumsIdeal.main_arg2)
          ∧ r.2.mem ((c.tc : Thread Cert.KernelSumsIdeal.nD Cert.KernelSumsIdeal.τ).loc Cert.KernelSumsIdeal.main_arg3) = m ((c.tc : Thread Cert.KernelSumsIdeal.nD Cert.KernelSumsIdeal.τ).loc Cert.KernelSumsIdeal.main_arg3)
          ∧ r.2.mem ((c.tc : Thread Cert.KernelSumsIdeal.nD Cert.KernelSumsIdeal.τ).loc Cert.KernelSumsIdeal.main_arg4) = m ((c.tc : Thread Cert.KernelSumsIdeal.nD Cert.KernelSumsIdeal.τ).loc Cert.KernelSumsIdeal.main_arg4)
          ∧ r.2.mem ((c.tc : Thread Cert.KernelSumsIdeal.nD Cert.KernelSumsIdeal.τ).loc Cert.KernelSumsIdeal.main_arg5) = m ((c.tc : Thread Cert.KernelSumsIdeal.nD Cert.KernelSumsIdeal.τ).loc Cert.KernelSumsIdeal.main_arg5)
          ∧ r.2.mem ((c.tc : Thread Cert.KernelSumsIdeal.nD Cert.KernelSumsIdeal.τ).loc Cert.KernelSumsIdeal.main_arg6) = m ((c.tc : Thread Cert.KernelSumsIdeal.nD Cert.KernelSumsIdeal.τ).loc Cert.KernelSumsIdeal.main_arg6)
          ∧ r.2.mem ((c.tc : Thread Cert.KernelSumsIdeal.nD Cert.KernelSumsIdeal.τ).loc Cert.KernelSumsIdeal.main_arg7) = m ((c.tc : Thread Cert.KernelSumsIdeal.nD Cert.KernelSumsIdeal.τ).loc Cert.KernelSumsIdeal.main_arg7)
          ∧ r.2.mem ((c.tc : Thread Cert.KernelSumsIdeal.nD Cert.KernelSumsIdeal.τ).loc Cert.KernelSumsIdeal.main_arg8) = m ((c.tc : Thread Cert.KernelSumsIdeal.nD Cert.KernelSumsIdeal.τ).loc Cert.KernelSumsIdeal.main_arg8))
      ∧ θ_run (Cert.ReferenceSumsIdeal.defs (F := Ideal)) (onTc (τ := Cert.ReferenceSumsIdeal.τ) (Cert.ReferenceSumsIdeal.main (F := Ideal))) ⟨m', fun _ => 0, g'⟩ (fun r => ∀ c : Dev Cert.ReferenceSumsIdeal.nD,
          r.2.mem ((c.tc : Thread Cert.ReferenceSumsIdeal.nD Cert.ReferenceSumsIdeal.τ).loc Cert.ReferenceSumsIdeal.main_v6) = v0 c
          ∧ r.2.mem ((c.tc : Thread Cert.ReferenceSumsIdeal.nD Cert.ReferenceSumsIdeal.τ).loc Cert.ReferenceSumsIdeal.main_v7) = v1 c
          ∧ r.2.mem ((c.tc : Thread Cert.ReferenceSumsIdeal.nD Cert.ReferenceSumsIdeal.τ).loc Cert.ReferenceSumsIdeal.main_v5) = v2 c
          ∧ r.2.mem ((c.tc : Thread Cert.ReferenceSumsIdeal.nD Cert.ReferenceSumsIdeal.τ).loc Cert.ReferenceSumsIdeal.main_v8) = v3 c
          ∧ r.2.mem ((c.tc : Thread Cert.ReferenceSumsIdeal.nD Cert.ReferenceSumsIdeal.τ).loc Cert.ReferenceSumsIdeal.main_v9) = v4 c
          ∧ r.2.mem ((c.tc : Thread Cert.ReferenceSumsIdeal.nD Cert.ReferenceSumsIdeal.τ).loc Cert.ReferenceSumsIdeal.main_v10) = v5 c
          ∧ r.2.mem ((c.tc : Thread Cert.ReferenceSumsIdeal.nD Cert.ReferenceSumsIdeal.τ).loc Cert.ReferenceSumsIdeal.main_v11) = v6 c
          ∧ r.2.mem ((c.tc : Thread Cert.ReferenceSumsIdeal.nD Cert.ReferenceSumsIdeal.τ).loc Cert.ReferenceSumsIdeal.main_v12) = v7 c
          ∧ r.2.mem ((c.tc : Thread Cert.ReferenceSumsIdeal.nD Cert.ReferenceSumsIdeal.τ).loc Cert.ReferenceSumsIdeal.main_arg0) = m' ((c.tc : Thread Cert.ReferenceSumsIdeal.nD Cert.ReferenceSumsIdeal.τ).loc Cert.ReferenceSumsIdeal.main_arg0)
          ∧ r.2.mem ((c.tc : Thread Cert.ReferenceSumsIdeal.nD Cert.ReferenceSumsIdeal.τ).loc Cert.ReferenceSumsIdeal.main_arg1) = m' ((c.tc : Thread Cert.ReferenceSumsIdeal.nD Cert.ReferenceSumsIdeal.τ).loc Cert.ReferenceSumsIdeal.main_arg1)
          ∧ r.2.mem ((c.tc : Thread Cert.ReferenceSumsIdeal.nD Cert.ReferenceSumsIdeal.τ).loc Cert.ReferenceSumsIdeal.main_arg2) = m' ((c.tc : Thread Cert.ReferenceSumsIdeal.nD Cert.ReferenceSumsIdeal.τ).loc Cert.ReferenceSumsIdeal.main_arg2)
          ∧ r.2.mem ((c.tc : Thread Cert.ReferenceSumsIdeal.nD Cert.ReferenceSumsIdeal.τ).loc Cert.ReferenceSumsIdeal.main_arg3) = m' ((c.tc : Thread Cert.ReferenceSumsIdeal.nD Cert.ReferenceSumsIdeal.τ).loc Cert.ReferenceSumsIdeal.main_arg3)
          ∧ r.2.mem ((c.tc : Thread Cert.ReferenceSumsIdeal.nD Cert.ReferenceSumsIdeal.τ).loc Cert.ReferenceSumsIdeal.main_arg4) = m' ((c.tc : Thread Cert.ReferenceSumsIdeal.nD Cert.ReferenceSumsIdeal.τ).loc Cert.ReferenceSumsIdeal.main_arg4)
          ∧ r.2.mem ((c.tc : Thread Cert.ReferenceSumsIdeal.nD Cert.ReferenceSumsIdeal.τ).loc Cert.ReferenceSumsIdeal.main_arg5) = m' ((c.tc : Thread Cert.ReferenceSumsIdeal.nD Cert.ReferenceSumsIdeal.τ).loc Cert.ReferenceSumsIdeal.main_arg5)
          ∧ r.2.mem ((c.tc : Thread Cert.ReferenceSumsIdeal.nD Cert.ReferenceSumsIdeal.τ).loc Cert.ReferenceSumsIdeal.main_arg6) = m' ((c.tc : Thread Cert.ReferenceSumsIdeal.nD Cert.ReferenceSumsIdeal.τ).loc Cert.ReferenceSumsIdeal.main_arg6)
          ∧ r.2.mem ((c.tc : Thread Cert.ReferenceSumsIdeal.nD Cert.ReferenceSumsIdeal.τ).loc Cert.ReferenceSumsIdeal.main_arg7) = m' ((c.tc : Thread Cert.ReferenceSumsIdeal.nD Cert.ReferenceSumsIdeal.τ).loc Cert.ReferenceSumsIdeal.main_arg7)
          ∧ r.2.mem ((c.tc : Thread Cert.ReferenceSumsIdeal.nD Cert.ReferenceSumsIdeal.τ).loc Cert.ReferenceSumsIdeal.main_arg8) = m' ((c.tc : Thread Cert.ReferenceSumsIdeal.nD Cert.ReferenceSumsIdeal.τ).loc Cert.ReferenceSumsIdeal.main_arg8))

def preserves_KernelLoss_KernelLossIdeal : Prop :=
  True

def algebraic_KernelLossIdeal_ReferenceLossIdeal [hKernelLossIdeal : Cert.KernelLossIdeal.Facts] [hReferenceLossIdeal : Cert.ReferenceLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)) →
    ∃ (v0 : (c : Dev Cert.KernelLossIdeal.nD) → Buf (Elt Ideal) ((c.tc : Thread Cert.KernelLossIdeal.nD Cert.KernelLossIdeal.τ).loc Cert.KernelLossIdeal.main_v2)) (v1 : (c : Dev Cert.KernelLossIdeal.nD) → Buf (Elt Ideal) ((c.tc : Thread Cert.KernelLossIdeal.nD Cert.KernelLossIdeal.τ).loc Cert.KernelLossIdeal.main_v0_0)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v2) = v0 c
          ∧ r.2.mem ((c.tc : Thread Cert.KernelLossIdeal.nD Cert.KernelLossIdeal.τ).loc Cert.KernelLossIdeal.main_v0_0) = v1 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v8) = v0 c
          ∧ r.2.mem ((c.tc : Thread Cert.ReferenceLossIdeal.nD Cert.ReferenceLossIdeal.τ).loc Cert.ReferenceLossIdeal.main_v14) = v1 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1))

def Claim : Prop :=
  ∃ (hKernel : Cert.Kernel.Facts) (hKernelIdeal : Cert.KernelIdeal.Facts) (hReferenceIdeal : Cert.ReferenceIdeal.Facts) (hKernelDx : Cert.KernelDx.Facts) (hKernelDxIdeal : Cert.KernelDxIdeal.Facts) (hReferenceDxIdeal : Cert.ReferenceDxIdeal.Facts) (hKernelDw : Cert.KernelDw.Facts) (hKernelDwIdeal : Cert.KernelDwIdeal.Facts) (hReferenceDwIdeal : Cert.ReferenceDwIdeal.Facts) (hKernelDy : Cert.KernelDy.Facts) (hKernelDyIdeal : Cert.KernelDyIdeal.Facts) (hReferenceDyIdeal : Cert.ReferenceDyIdeal.Facts) (hKernelDwo : Cert.KernelDwo.Facts) (hKernelDwoIdeal : Cert.KernelDwoIdeal.Facts) (hReferenceDwoIdeal : Cert.ReferenceDwoIdeal.Facts) (hKernelDwf : Cert.KernelDwf.Facts) (hKernelDwfIdeal : Cert.KernelDwfIdeal.Facts) (hReferenceDwfIdeal : Cert.ReferenceDwfIdeal.Facts) (hKernelMain : Cert.KernelMain.Facts) (hKernelMainIdeal : Cert.KernelMainIdeal.Facts) (hReferenceMainIdeal : Cert.ReferenceMainIdeal.Facts) (hKernelFg : Cert.KernelFg.Facts) (hKernelFgIdeal : Cert.KernelFgIdeal.Facts) (hReferenceFgIdeal : Cert.ReferenceFgIdeal.Facts) (hKernelOut : Cert.KernelOut.Facts) (hKernelOutIdeal : Cert.KernelOutIdeal.Facts) (hReferenceOutIdeal : Cert.ReferenceOutIdeal.Facts) (hKernelLn : Cert.KernelLn.Facts) (hKernelLnIdeal : Cert.KernelLnIdeal.Facts) (hReferenceLnIdeal : Cert.ReferenceLnIdeal.Facts) (hKernelFwd : Cert.KernelFwd.Facts) (hKernelFwdIdeal : Cert.KernelFwdIdeal.Facts) (hReferenceFwdIdeal : Cert.ReferenceFwdIdeal.Facts) (hKernelAdamOut : Cert.KernelAdamOut.Facts) (hKernelAdamOutIdeal : Cert.KernelAdamOutIdeal.Facts) (hReferenceAdamOutIdeal : Cert.ReferenceAdamOutIdeal.Facts) (hKernelAdamIn : Cert.KernelAdamIn.Facts) (hKernelAdamInIdeal : Cert.KernelAdamInIdeal.Facts) (hReferenceAdamInIdeal : Cert.ReferenceAdamInIdeal.Facts) (hKernelAdamSmall : Cert.KernelAdamSmall.Facts) (hKernelAdamSmallIdeal : Cert.KernelAdamSmallIdeal.Facts) (hReferenceAdamSmallIdeal : Cert.ReferenceAdamSmallIdeal.Facts) (hKernelSums : Cert.KernelSums.Facts) (hKernelSumsIdeal : Cert.KernelSumsIdeal.Facts) (hReferenceSumsIdeal : Cert.ReferenceSumsIdeal.Facts) (hKernelLoss : Cert.KernelLoss.Facts) (hKernelLossIdeal : Cert.KernelLossIdeal.Facts) (hReferenceLossIdeal : Cert.ReferenceLossIdeal.Facts) (hPre_finite : Cert.Pre_finite.Facts) (hPre_finite_ln : Cert.Pre_finite_ln.Facts) (hPre_finite_fwd : Cert.Pre_finite_fwd.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelDx (hKernelDx := hKernelDx)
    ∧ quiescent_KernelDxIdeal (hKernelDxIdeal := hKernelDxIdeal)
    ∧ quiescent_ReferenceDxIdeal (hReferenceDxIdeal := hReferenceDxIdeal)
    ∧ quiescent_KernelDw (hKernelDw := hKernelDw)
    ∧ quiescent_KernelDwIdeal (hKernelDwIdeal := hKernelDwIdeal)
    ∧ quiescent_ReferenceDwIdeal (hReferenceDwIdeal := hReferenceDwIdeal)
    ∧ quiescent_KernelDy (hKernelDy := hKernelDy)
    ∧ quiescent_KernelDyIdeal (hKernelDyIdeal := hKernelDyIdeal)
    ∧ quiescent_ReferenceDyIdeal (hReferenceDyIdeal := hReferenceDyIdeal)
    ∧ quiescent_KernelDwo (hKernelDwo := hKernelDwo)
    ∧ quiescent_KernelDwoIdeal (hKernelDwoIdeal := hKernelDwoIdeal)
    ∧ quiescent_ReferenceDwoIdeal (hReferenceDwoIdeal := hReferenceDwoIdeal)
    ∧ quiescent_KernelDwf (hKernelDwf := hKernelDwf)
    ∧ quiescent_KernelDwfIdeal (hKernelDwfIdeal := hKernelDwfIdeal)
    ∧ quiescent_ReferenceDwfIdeal (hReferenceDwfIdeal := hReferenceDwfIdeal)
    ∧ quiescent_KernelMain (hKernelMain := hKernelMain)
    ∧ quiescent_KernelMainIdeal (hKernelMainIdeal := hKernelMainIdeal)
    ∧ quiescent_ReferenceMainIdeal (hReferenceMainIdeal := hReferenceMainIdeal)
    ∧ quiescent_KernelFg (hKernelFg := hKernelFg)
    ∧ quiescent_KernelFgIdeal (hKernelFgIdeal := hKernelFgIdeal)
    ∧ quiescent_ReferenceFgIdeal (hReferenceFgIdeal := hReferenceFgIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelLn (hKernelLn := hKernelLn)
    ∧ quiescent_KernelLnIdeal (hKernelLnIdeal := hKernelLnIdeal)
    ∧ quiescent_KernelLnIdeal_pre_finite_ln (hKernelLnIdeal := hKernelLnIdeal) (hPre_finite_ln := hPre_finite_ln)
    ∧ quiescent_ReferenceLnIdeal (hReferenceLnIdeal := hReferenceLnIdeal)
    ∧ quiescent_ReferenceLnIdeal_pre_finite_ln (hReferenceLnIdeal := hReferenceLnIdeal) (hPre_finite_ln := hPre_finite_ln)
    ∧ quiescent_KernelFwd (hKernelFwd := hKernelFwd)
    ∧ quiescent_KernelFwdIdeal (hKernelFwdIdeal := hKernelFwdIdeal)
    ∧ quiescent_KernelFwdIdeal_pre_finite_fwd (hKernelFwdIdeal := hKernelFwdIdeal) (hPre_finite_fwd := hPre_finite_fwd)
    ∧ quiescent_ReferenceFwdIdeal (hReferenceFwdIdeal := hReferenceFwdIdeal)
    ∧ quiescent_ReferenceFwdIdeal_pre_finite_fwd (hReferenceFwdIdeal := hReferenceFwdIdeal) (hPre_finite_fwd := hPre_finite_fwd)
    ∧ quiescent_KernelAdamOut (hKernelAdamOut := hKernelAdamOut)
    ∧ quiescent_KernelAdamOutIdeal (hKernelAdamOutIdeal := hKernelAdamOutIdeal)
    ∧ quiescent_ReferenceAdamOutIdeal (hReferenceAdamOutIdeal := hReferenceAdamOutIdeal)
    ∧ quiescent_KernelAdamIn (hKernelAdamIn := hKernelAdamIn)
    ∧ quiescent_KernelAdamInIdeal (hKernelAdamInIdeal := hKernelAdamInIdeal)
    ∧ quiescent_ReferenceAdamInIdeal (hReferenceAdamInIdeal := hReferenceAdamInIdeal)
    ∧ quiescent_KernelAdamSmall (hKernelAdamSmall := hKernelAdamSmall)
    ∧ quiescent_KernelAdamSmallIdeal (hKernelAdamSmallIdeal := hKernelAdamSmallIdeal)
    ∧ quiescent_ReferenceAdamSmallIdeal (hReferenceAdamSmallIdeal := hReferenceAdamSmallIdeal)
    ∧ quiescent_KernelSums (hKernelSums := hKernelSums)
    ∧ quiescent_KernelSumsIdeal (hKernelSumsIdeal := hKernelSumsIdeal)
    ∧ quiescent_ReferenceSumsIdeal (hReferenceSumsIdeal := hReferenceSumsIdeal)
    ∧ quiescent_KernelLoss (hKernelLoss := hKernelLoss)
    ∧ quiescent_KernelLossIdeal (hKernelLossIdeal := hKernelLossIdeal)
    ∧ quiescent_ReferenceLossIdeal (hReferenceLossIdeal := hReferenceLossIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelDx_KernelDxIdeal
    ∧ algebraic_KernelDxIdeal_ReferenceDxIdeal (hKernelDxIdeal := hKernelDxIdeal) (hReferenceDxIdeal := hReferenceDxIdeal)
    ∧ preserves_KernelDw_KernelDwIdeal
    ∧ algebraic_KernelDwIdeal_ReferenceDwIdeal (hKernelDwIdeal := hKernelDwIdeal) (hReferenceDwIdeal := hReferenceDwIdeal)
    ∧ preserves_KernelDy_KernelDyIdeal
    ∧ algebraic_KernelDyIdeal_ReferenceDyIdeal (hKernelDyIdeal := hKernelDyIdeal) (hReferenceDyIdeal := hReferenceDyIdeal)
    ∧ preserves_KernelDwo_KernelDwoIdeal
    ∧ algebraic_KernelDwoIdeal_ReferenceDwoIdeal (hKernelDwoIdeal := hKernelDwoIdeal) (hReferenceDwoIdeal := hReferenceDwoIdeal)
    ∧ preserves_KernelDwf_KernelDwfIdeal
    ∧ algebraic_KernelDwfIdeal_ReferenceDwfIdeal (hKernelDwfIdeal := hKernelDwfIdeal) (hReferenceDwfIdeal := hReferenceDwfIdeal)
    ∧ preserves_KernelMain_KernelMainIdeal
    ∧ algebraic_KernelMainIdeal_ReferenceMainIdeal (hKernelMainIdeal := hKernelMainIdeal) (hReferenceMainIdeal := hReferenceMainIdeal)
    ∧ preserves_KernelFg_KernelFgIdeal
    ∧ algebraic_KernelFgIdeal_ReferenceFgIdeal (hKernelFgIdeal := hKernelFgIdeal) (hReferenceFgIdeal := hReferenceFgIdeal)
    ∧ preserves_KernelOut_KernelOutIdeal
    ∧ algebraic_KernelOutIdeal_ReferenceOutIdeal (hKernelOutIdeal := hKernelOutIdeal) (hReferenceOutIdeal := hReferenceOutIdeal)
    ∧ preserves_KernelLn_KernelLnIdeal
    ∧ algebraic_KernelLnIdeal_ReferenceLnIdeal_pre_finite_ln (hKernelLnIdeal := hKernelLnIdeal) (hReferenceLnIdeal := hReferenceLnIdeal) (hPre_finite_ln := hPre_finite_ln)
    ∧ preserves_KernelFwd_KernelFwdIdeal
    ∧ algebraic_KernelFwdIdeal_ReferenceFwdIdeal_pre_finite_fwd (hKernelFwdIdeal := hKernelFwdIdeal) (hReferenceFwdIdeal := hReferenceFwdIdeal) (hPre_finite_fwd := hPre_finite_fwd)
    ∧ preserves_KernelAdamOut_KernelAdamOutIdeal
    ∧ algebraic_KernelAdamOutIdeal_ReferenceAdamOutIdeal (hKernelAdamOutIdeal := hKernelAdamOutIdeal) (hReferenceAdamOutIdeal := hReferenceAdamOutIdeal)
    ∧ preserves_KernelAdamIn_KernelAdamInIdeal
    ∧ algebraic_KernelAdamInIdeal_ReferenceAdamInIdeal (hKernelAdamInIdeal := hKernelAdamInIdeal) (hReferenceAdamInIdeal := hReferenceAdamInIdeal)
    ∧ preserves_KernelAdamSmall_KernelAdamSmallIdeal
    ∧ algebraic_KernelAdamSmallIdeal_ReferenceAdamSmallIdeal (hKernelAdamSmallIdeal := hKernelAdamSmallIdeal) (hReferenceAdamSmallIdeal := hReferenceAdamSmallIdeal)
    ∧ preserves_KernelSums_KernelSumsIdeal
    ∧ algebraic_KernelSumsIdeal_ReferenceSumsIdeal (hKernelSumsIdeal := hKernelSumsIdeal) (hReferenceSumsIdeal := hReferenceSumsIdeal)
    ∧ preserves_KernelLoss_KernelLossIdeal
    ∧ algebraic_KernelLossIdeal_ReferenceLossIdeal (hKernelLossIdeal := hKernelLossIdeal) (hReferenceLossIdeal := hReferenceLossIdeal)
-- ==== Pre_finite.lean ====
abbrev S4096x7168 : Shape := ⟨2, ![4096, 7168]⟩
abbrev S8x4096 : Shape := ⟨2, ![8, 4096]⟩
abbrev S4096x1024 : Shape := ⟨2, ![4096, 1024]⟩
abbrev S_ : Shape := ⟨0, ![]⟩

class Facts : Prop where
  bitsLt_bf16_f32 : FTy.bits .bf16 < FTy.bits .f32
  bcast_S_S4096x7168 : S_.BroadcastsInDim S4096x7168 (![] : Fin 0 → Fin S4096x7168.rank)
  bcast_S_S8x4096 : S_.BroadcastsInDim S8x4096 (![] : Fin 0 → Fin S8x4096.rank)
  bcast_S_S4096x1024 : S_.BroadcastsInDim S4096x1024 (![] : Fin 0 → Fin S4096x1024.rank)

variable [Facts]

def fn {F : FTy → Type} [FloatOps F] (main_arg0 : FVec F S4096x7168 .bf16) (main_arg1 : FVec F S8x4096 .f32) (main_arg2 : FVec F S4096x1024 .bf16) : IVec S4096x7168 1 × IVec S8x4096 1 × IVec S4096x1024 1 :=
  let main_v0 : FVec F S4096x7168 .f32 := (extf .f32 · bitsLt_bf16_f32) main_arg0
  let main_v1 : FVec F S4096x7168 .f32 := Host.absf main_v0
  let main_cst : FVec F S_ .f32 := constant S_ .f32 0x7F800000#32
  let main_v2 : FVec F S4096x7168 .f32 := broadcastInDim S4096x7168 ![] bcast_S_S4096x7168 main_cst
  let main_v3 : IVec S4096x7168 1 := cmpf .olt main_v1 main_v2
  let main_v4 : FVec F S8x4096 .f32 := Host.absf main_arg1
  let main_cst_0 : FVec F S_ .f32 := constant S_ .f32 0x7F800000#32
  let main_v5 : FVec F S8x4096 .f32 := broadcastInDim S8x4096 ![] bcast_S_S8x4096 main_cst_0
  let main_v6 : IVec S8x4096 1 := cmpf .olt main_v4 main_v5
  let main_v7 : FVec F S4096x1024 .f32 := (extf .f32 · bitsLt_bf16_f32) main_arg2
  let main_v8 : FVec F S4096x1024 .f32 := Host.absf main_v7
  let main_cst_1 : FVec F S_ .f32 := constant S_ .f32 0x7F800000#32
  let main_v9 : FVec F S4096x1024 .f32 := broadcastInDim S4096x1024 ![] bcast_S_S4096x1024 main_cst_1
  let main_v10 : IVec S4096x1024 1 := cmpf .olt main_v8 main_v9
  (main_v3, main_v6, main_v10)
-- ==== Pre_finite_fwd.lean ====
abbrev S4096x7168 : Shape := ⟨2, ![4096, 7168]⟩
abbrev S8x4096 : Shape := ⟨2, ![8, 4096]⟩
abbrev S_ : Shape := ⟨0, ![]⟩

class Facts : Prop where
  bitsLt_bf16_f32 : FTy.bits .bf16 < FTy.bits .f32
  bcast_S_S4096x7168 : S_.BroadcastsInDim S4096x7168 (![] : Fin 0 → Fin S4096x7168.rank)
  bcast_S_S8x4096 : S_.BroadcastsInDim S8x4096 (![] : Fin 0 → Fin S8x4096.rank)

variable [Facts]

def fn {F : FTy → Type} [FloatOps F] (main_arg0 : FVec F S4096x7168 .bf16) (main_arg1 : FVec F S8x4096 .f32) : IVec S4096x7168 1 × IVec S8x4096 1 :=
  let main_v0 : FVec F S4096x7168 .f32 := (extf .f32 · bitsLt_bf16_f32) main_arg0
  let main_v1 : FVec F S4096x7168 .f32 := Host.absf main_v0
  let main_cst : FVec F S_ .f32 := constant S_ .f32 0x7F800000#32
  let main_v2 : FVec F S4096x7168 .f32 := broadcastInDim S4096x7168 ![] bcast_S_S4096x7168 main_cst
  let main_v3 : IVec S4096x7168 1 := cmpf .olt main_v1 main_v2
  let main_v4 : FVec F S8x4096 .f32 := Host.absf main_arg1
  let main_cst_0 : FVec F S_ .f32 := constant S_ .f32 0x7F800000#32
  let main_v5 : FVec F S8x4096 .f32 := broadcastInDim S8x4096 ![] bcast_S_S8x4096 main_cst_0
  let main_v6 : IVec S8x4096 1 := cmpf .olt main_v4 main_v5
  (main_v3, main_v6)
-- ==== Pre_finite_ln.lean ====
abbrev S4096x2048 : Shape := ⟨2, ![4096, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  bcast_S_S1x2048 : S_.BroadcastsInDim S1x2048 (![] : Fin 0 → Fin S1x2048.rank)

variable [Facts]

def fn {F : FTy → Type} [FloatOps F] (main_arg0 : FVec F S4096x2048 .f32) (main_arg1 : FVec F S4096x2048 .f32) (main_arg2 : FVec F S1x2048 .f32) : IVec S4096x2048 1 × IVec S4096x2048 1 × IVec S1x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S4096x2048 .f32 := Host.absf main_arg1
  let main_cst_0 : FVec F S_ .f32 := constant S_ .f32 0x7F800000#32
  let main_v4 : FVec F S4096x2048 .f32 := broadcastInDim S4096x2048 ![] bcast_S_S4096x2048 main_cst_0
  let main_v5 : IVec S4096x2048 1 := cmpf .olt main_v3 main_v4
  let main_v6 : FVec F S1x2048 .f32 := Host.absf main_arg2
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  (main_v2, main_v5, main_v8)
-- ==== Kernel.lean ====
abbrev S4096x7168 : Shape := ⟨2, ![4096, 7168]⟩
abbrev S8x4096 : Shape := ⟨2, ![8, 4096]⟩
abbrev S4096x1024 : Shape := ⟨2, ![4096, 1024]⟩
abbrev S4096x8x128 : Shape := ⟨3, ![4096, 8, 128]⟩
abbrev S8x4096x4096 : Shape := ⟨3, ![8, 4096, 4096]⟩
abbrev S_ : Shape := ⟨0, ![]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096x1 : Shape := ⟨3, ![8, 4096, 1]⟩
abbrev S8x128x4096 : Shape := ⟨3, ![8, 128, 4096]⟩
abbrev S4096x8x1 : Shape := ⟨3, ![4096, 8, 1]⟩
abbrev S4096x8 : Shape := ⟨2, ![4096, 8]⟩
abbrev S8x8x1x512 : Shape := ⟨4, ![8, 8, 1, 512]⟩
abbrev S8x8x4096 : Shape := ⟨3, ![8, 8, 4096]⟩
abbrev S4096x128 : Shape := ⟨2, ![4096, 128]⟩
abbrev S512x128 : Shape := ⟨2, ![512, 128]⟩
abbrev S1x1x1x512 : Shape := ⟨4, ![1, 1, 1, 512]⟩
abbrev S1x8x4096 : Shape := ⟨3, ![1, 8, 4096]⟩
abbrev S1x8x512 : Shape := ⟨3, ![1, 8, 512]⟩
abbrev S4096x256 : Shape := ⟨2, ![4096, 256]⟩
abbrev S512x256 : Shape := ⟨2, ![512, 256]⟩
abbrev S512x512 : Shape := ⟨2, ![512, 512]⟩
abbrev S1x512 : Shape := ⟨2, ![1, 512]⟩
abbrev S128x512 : Shape := ⟨2, ![128, 512]⟩
abbrev S8x512 : Shape := ⟨2, ![8, 512]⟩

abbrev nBuf : Space → Nat
  | .hbm => 69
  | .vmem => 31
  | .smem => 0
  | _ => 0

abbrev bufTy : (tb : Table) → Fin (tcTables nBuf tb) → BufTy
  | .hbm, ⟨0, _⟩ => ⟨S4096x7168, .bf16⟩
  | .hbm, ⟨1, _⟩ => ⟨S8x4096, .f32⟩
  | .hbm, ⟨2, _⟩ => ⟨S4096x1024, .bf16⟩
  | .hbm, ⟨3, _⟩ => ⟨S4096x1024, .bf16⟩
  | .hbm, ⟨4, _⟩ => ⟨S4096x1024, .f32⟩
  | .hbm, ⟨5, _⟩ => ⟨S4096x8x128, .f32⟩
  | .hbm, ⟨6, _⟩ => ⟨S4096x1024, .bf16⟩
  | .hbm, ⟨7, _⟩ => ⟨S4096x1024, .f32⟩
  | .hbm, ⟨8, _⟩ => ⟨S4096x8x128, .f32⟩
  | .hbm, ⟨9, _⟩ => ⟨S4096x1024, .bf16⟩
  | .hbm, ⟨10, _⟩ => ⟨S4096x1024, .f32⟩
  | .hbm, ⟨11, _⟩ => ⟨S4096x8x128, .f32⟩
  | .hbm, ⟨12, _⟩ => ⟨S8x4096x4096, .f32⟩
  | .hbm, ⟨13, _⟩ => ⟨S_, .f32⟩
  | .hbm, ⟨14, _⟩ => ⟨S8x4096x4096, .f32⟩
  | .hbm, ⟨15, _⟩ => ⟨S8x4096x4096, .f32⟩
  | .hbm, ⟨16, _⟩ => ⟨S8x1x4096, .f32⟩
  | .hbm, ⟨17, _⟩ => ⟨S8x4096x4096, .f32⟩
  | .hbm, ⟨18, _⟩ => ⟨S8x4096x4096, .f32⟩
  | .hbm, ⟨19, _⟩ => ⟨S4096, .i32⟩
  | .hbm, ⟨20, _⟩ => ⟨S1x4096, .i32⟩
  | .hbm, ⟨21, _⟩ => ⟨S4096, .i32⟩
  | .hbm, ⟨22, _⟩ => ⟨S4096x1, .i32⟩
  | .hbm, ⟨23, _⟩ => ⟨S4096x4096, .i32⟩
  | .hbm, ⟨24, _⟩ => ⟨S4096x4096, .i32⟩
  | .hbm, ⟨25, _⟩ => ⟨S4096x4096, .i1⟩
  | .hbm, ⟨26, _⟩ => ⟨S_, .f32⟩
  | .hbm, ⟨27, _⟩ => ⟨S_, .f32⟩
  | .hbm, ⟨28, _⟩ => ⟨S8x4096x4096, .i1⟩
  | .hbm, ⟨29, _⟩ => ⟨S8x4096x4096, .f32⟩
  | .hbm, ⟨30, _⟩ => ⟨S8x4096x4096, .f32⟩
  | .hbm, ⟨31, _⟩ => ⟨S_, .f32⟩
  | .hbm, ⟨32, _⟩ => ⟨S8x4096, .f32⟩
  | .hbm, ⟨33, _⟩ => ⟨S8x4096x1, .f32⟩
  | .hbm, ⟨34, _⟩ => ⟨S8x4096x4096, .f32⟩
  | .hbm, ⟨35, _⟩ => ⟨S8x4096x4096, .f32⟩
  | .hbm, ⟨36, _⟩ => ⟨S8x4096x4096, .f32⟩
  | .hbm, ⟨37, _⟩ => ⟨S_, .f32⟩
  | .hbm, ⟨38, _⟩ => ⟨S8x4096, .f32⟩
  | .hbm, ⟨39, _⟩ => ⟨S8x4096x1, .f32⟩
  | .hbm, ⟨40, _⟩ => ⟨S8x4096x4096, .f32⟩
  | .hbm, ⟨41, _⟩ => ⟨S8x4096x4096, .f32⟩
  | .hbm, ⟨42, _⟩ => ⟨S8x4096x4096, .bf16⟩
  | .hbm, ⟨43, _⟩ => ⟨S8x4096x4096, .f32⟩
  | .hbm, ⟨44, _⟩ => ⟨S8x128x4096, .f32⟩
  | .hbm, ⟨45, _⟩ => ⟨S4096x8x128, .f32⟩
  | .hbm, ⟨46, _⟩ => ⟨S8x4096x1, .f32⟩
  | .hbm, ⟨47, _⟩ => ⟨S8x4096x1, .f32⟩
  | .hbm, ⟨48, _⟩ => ⟨S_, .f32⟩
  | .hbm, ⟨49, _⟩ => ⟨S_, .f32⟩
  | .hbm, ⟨50, _⟩ => ⟨S8x4096x1, .f32⟩
  | .hbm, ⟨51, _⟩ => ⟨S8x4096x1, .f32⟩
  | .hbm, ⟨52, _⟩ => ⟨S4096x8x1, .f32⟩
  | .hbm, ⟨53, _⟩ => ⟨S4096x8x128, .f32⟩
  | .hbm, ⟨54, _⟩ => ⟨S4096x1024, .f32⟩
  | .hbm, ⟨55, _⟩ => ⟨S4096x1024, .f32⟩
  | .hbm, ⟨56, _⟩ => ⟨S4096x8x128, .f32⟩
  | .hbm, ⟨57, _⟩ => ⟨S4096x8x128, .f32⟩
  | .hbm, ⟨58, _⟩ => ⟨S_, .f32⟩
  | .hbm, ⟨59, _⟩ => ⟨S4096x8, .f32⟩
  | .hbm, ⟨60, _⟩ => ⟨S4096x8x1, .f32⟩
  | .hbm, ⟨61, _⟩ => ⟨S4096x8x128, .f32⟩
  | .hbm, ⟨62, _⟩ => ⟨S4096x1024, .f32⟩
  | .hbm, ⟨63, _⟩ => ⟨S8x8x1x512, .f32⟩
  | .hbm, ⟨64, _⟩ => ⟨S4096x1024, .bf16⟩
  | .hbm, ⟨65, _⟩ => ⟨S4096x1024, .bf16⟩
  | .hbm, ⟨66, _⟩ => ⟨S4096x1024, .bf16⟩
  | .hbm, ⟨67, _⟩ => ⟨S8x8x4096, .f32⟩
  | .hbm, ⟨68, _⟩ => ⟨S8x8x4096, .f32⟩
  | .local _ .vmem, ⟨0, _⟩ => ⟨S4096x128, .bf16⟩
  | .local _ .vmem, ⟨1, _⟩ => ⟨S4096x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S4096x128, .bf16⟩
  | .local _ .vmem, ⟨7, _⟩ => ⟨S4096x128, .bf16⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S1x1x1x512, .f32⟩
  | .local _ .vmem, ⟨13, _⟩ => ⟨S1x1x1x512, .f32⟩
  | .local _ .vmem, ⟨14, _⟩ => ⟨S4096x128, .bf16⟩
  | .local _ .vmem, ⟨15, _⟩ => ⟨S4096x128, .bf16⟩
  | .local _ .vmem, ⟨16, _⟩ => ⟨S512x128, .bf16⟩
  | .local _ .vmem, ⟨17, _⟩ => ⟨S512x128, .bf16⟩
  | .local _ .vmem, ⟨18, _⟩ => ⟨S512x128, .bf16⟩
  | .local _ .vmem, ⟨19, _⟩ => ⟨S512x128, .bf16⟩
  | .local _ .vmem, ⟨20, _⟩ => ⟨S1x8x4096, .f32⟩
  | .local _ .vmem, ⟨21, _⟩ => ⟨S1x8x4096, .f32⟩
  | .local _ .vmem, ⟨22, _⟩ => ⟨S1x8x512, .f32⟩
  | .local _ .vmem, ⟨23, _⟩ => ⟨S1x8x512, .f32⟩
  | .local _ .vmem, ⟨24, _⟩ => ⟨S4096x256, .f32⟩
  | .local _ .vmem, ⟨25, _⟩ => ⟨S512x256, .f32⟩
  | .local _ .vmem, ⟨26, _⟩ => ⟨S512x128, .f32⟩
  | .local _ .vmem, ⟨27, _⟩ => ⟨S512x512, .f32⟩
  | .local _ .vmem, ⟨28, _⟩ => ⟨S512x512, .f32⟩
  | .local _ .vmem, ⟨29, _⟩ => ⟨S512x512, .f32⟩
  | .local _ .vmem, ⟨30, _⟩ => ⟨S512x512, .f32⟩
  | _, _ => ⟨S4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_4 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52_0 : Ref sig .tc := ⟨.hbm, 64, rfl⟩
abbrev main_v52_1 : Ref sig .tc := ⟨.hbm, 65, rfl⟩
abbrev main_v52_2 : Ref sig .tc := ⟨.hbm, 66, rfl⟩
abbrev main_v52_3 : Ref sig .tc := ⟨.hbm, 67, rfl⟩
abbrev main_v52_4 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c512_i32 : BitVec 32 := 512#32
  let v21 : BitVec 32 := Scalar.muli arg1 c512_i32
  v21
def k0_off1 (i : grid0.Coords) : Fin 2 → Nat :=
  let arg1 : BitVec 32 := BitVec.ofNat 32 (i 1).val
  let c512_i32 : BitVec 32 := 512#32
  let v21 : BitVec 32 := Scalar.muli arg1 c512_i32
  let v22 : BitVec 32 := v21
  let v23 : Index := Scalar.indexCast v22
  let c0_16 : Index := 0#32
  ![v23.toNat, 0]
def k0_mult2 (i : grid0.Coords) : BitVec 32 :=
  let arg1 : BitVec 32 := BitVec.ofNat 32 (i 1).val
  let c512_i32_20 : BitVec 32 := 512#32
  let v29 : BitVec 32 := Scalar.muli arg1 c512_i32_20
  v29
def k0_cond2 (i : grid0.Coords) : BitVec 1 :=
  let c7_i32 : BitVec 32 := 7#32
  let arg1 : BitVec 32 := BitVec.ofNat 32 (i 1).val
  let v20 : BitVec 32 := Scalar.subi c7_i32 arg1
  let c0_i32_25 : BitVec 32 := 0#32
  let v37 : BitVec 1 := Scalar.cmpi .sgt v20 c0_i32_25
  let v38 : BitVec 32 := Scalar.extui v37
  let c0_i32_26 : BitVec 32 := 0#32
  let v39 : BitVec 1 := Scalar.cmpi .ne v38 c0_i32_26
  v39

def k0_mult3 (i : grid0.Coords) : BitVec 32 :=
  let arg1 : BitVec 32 := BitVec.ofNat 32 (i 1).val
  let c1_i32_91 : BitVec 32 := 1#32
  let v160 : BitVec 32 := Scalar.addi arg1 c1_i32_91
  let c512_i32_92 : BitVec 32 := 512#32
  let v161 : BitVec 32 := Scalar.muli v160 c512_i32_92
  v161
def k0_off2 (i : grid0.Coords) : Fin 2 → Nat :=
  let arg1 : BitVec 32 := BitVec.ofNat 32 (i 1).val
  let c1_i32_91 : BitVec 32 := 1#32
  let v160 : BitVec 32 := Scalar.addi arg1 c1_i32_91
  let c512_i32_92 : BitVec 32 := 512#32
  let v161 : BitVec 32 := Scalar.muli v160 c512_i32_92
  let v162 : BitVec 32 := v161
  let v163 : Index := Scalar.indexCast v162
  let c0_93 : Index := 0#32
  ![v163.toNat, 0]
def k0_mult4 (i : grid0.Coords) : BitVec 32 :=
  let arg1 : BitVec 32 := BitVec.ofNat 32 (i 1).val
  let c1_i32_91 : BitVec 32 := 1#32
  let v160 : BitVec 32 := Scalar.addi arg1 c1_i32_91
  let c512_i32_97 : BitVec 32 := 512#32
  let v169 : BitVec 32 := Scalar.muli v160 c512_i32_97
  v169
def k0_mult5 (i : grid0.Coords) : BitVec 32 :=
  let arg1 : BitVec 32 := BitVec.ofNat 32 (i 1).val
  let c512_i32_27 : BitVec 32 := 512#32
  let v40 : BitVec 32 := Scalar.muli arg1 c512_i32_27
  v40
def k0_off3 (i : grid0.Coords) : Fin 2 → Nat :=
  let arg1 : BitVec 32 := BitVec.ofNat 32 (i 1).val
  let c512_i32_27 : BitVec 32 := 512#32
  let v40 : BitVec 32 := Scalar.muli arg1 c512_i32_27
  let v41 : BitVec 32 := v40
  let v84 : Index := Scalar.indexCast v41
  let c0_48 : Index := 0#32
  ![v84.toNat, 0]
def k0_mult6 (i : grid0.Coords) : BitVec 32 :=
  let arg1 : BitVec 32 := BitVec.ofNat 32 (i 1).val
  let c512_i32_51 : BitVec 32 := 512#32
  let v92 : BitVec 32 := Scalar.muli arg1 c512_i32_51
  v92
def k0_off4 (i : grid0.Coords) : Fin 2 → Nat :=
  let arg1 : BitVec 32 := BitVec.ofNat 32 (i 1).val
  let c512_i32_51 : BitVec 32 := 512#32
  let v92 : BitVec 32 := Scalar.muli arg1 c512_i32_51
  let v93 : BitVec 32 := v92
  let v94 : Index := Scalar.indexCast v93
  let c0_52 : Index := 0#32
  ![v94.toNat, 0]
def k0_off5 (i : grid0.Coords) : Fin 2 → Nat :=
  let arg1 : BitVec 32 := BitVec.ofNat 32 (i 1).val
  let c512_i32_51 : BitVec 32 := 512#32
  let v92 : BitVec 32 := Scalar.muli arg1 c512_i32_51
  let v93 : BitVec 32 := v92
  let v101 : Index := Scalar.indexCast v93
  let c128 : Index := 128#32
  ![v101.toNat, 128]
def k0_off6 (i : grid0.Coords) : Fin 3 → Nat :=
  let c0_55 : Index := 0#32
  let c0_56 : Index := 0#32
  let arg1 : BitVec 32 := BitVec.ofNat 32 (i 1).val
  let c512_i32_51 : BitVec 32 := 512#32
  let v92 : BitVec 32 := Scalar.muli arg1 c512_i32_51
  let v93 : BitVec 32 := v92
  let v105 : Index := Scalar.indexCast v93
  ![0, 0, v105.toNat]
@[reducible] def k0_t1_loop (i : grid0.Coords) : Scf.Loop 32 :=
  let c0_i32_65 : BitVec 32 := 0#32
  let c7_i32 : BitVec 32 := 7#32
  let arg1 : BitVec 32 := BitVec.ofNat 32 (i 1).val
  let v20 : BitVec 32 := Scalar.subi c7_i32 arg1
  let c1_i32 : BitVec 32 := 1#32
  let v109 : BitVec 32 := Scalar.subi v20 c1_i32
  let c0_i32_57 : BitVec 32 := 0#32
  let v110 : BitVec 32 := Scalar.maxsi v109 c0_i32_57
  let c0_i32_58 : BitVec 32 := 0#32
  let v112 : BitVec 1 := Scalar.cmpi .sgt v110 c0_i32_58
  let v113 : BitVec 32 := Scalar.extui v112
  let c0_i32_59 : BitVec 32 := 0#32
  let v114 : BitVec 1 := Scalar.cmpi .slt v110 c0_i32_59
  let v115 : BitVec 32 := Scalar.extui v114
  let v116 : BitVec 32 := Scalar.subi v113 v115
  let c2_i32 : BitVec 32 := 2#32
  let c0_i32_60 : BitVec 32 := 0#32
  let v117 : BitVec 1 := Scalar.cmpi .sgt c2_i32 c0_i32_60
  let v118 : BitVec 32 := Scalar.extui v117
  let c0_i32_61 : BitVec 32 := 0#32
  let v119 : BitVec 1 := Scalar.cmpi .slt c2_i32 c0_i32_61
  let v120 : BitVec 32 := Scalar.extui v119
  let v121 : BitVec 32 := Scalar.subi v118 v120
  let v122 : BitVec 1 := Scalar.cmpi .ne v116 v121
  let v123 : BitVec 32 := Scalar.remsi v110 c2_i32
  let c0_i32_62 : BitVec 32 := 0#32
  let v124 : BitVec 1 := Scalar.cmpi .ne v123 c0_i32_62
  let v125 : BitVec 1 := Scalar.andi v122 v124
  let v111 : BitVec 32 := Scalar.divsi v110 c2_i32
  let c1_i32_63 : BitVec 32 := 1#32
  let v126 : BitVec 32 := Scalar.subi v111 c1_i32_63
  let v127 : BitVec 32 := Scalar.select v125 v126 v111
  let v128 : BitVec 32 := Scalar.subi v127 c0_i32_65
  let c1_i32_66 : BitVec 32 := 1#32
  let v130 : BitVec 32 := Scalar.divsi v128 c1_i32_66
  let v131 : BitVec 32 := Scalar.muli v130 c1_i32_66
  let v132 : BitVec 32 := Scalar.addi c0_i32_65 v131
  let c1_i32_67 : BitVec 32 := 1#32
  ⟨c0_i32_65, v132, c1_i32_67⟩
def k0_mult7 (i : grid0.Coords) (k0_t1 : Fin (k0_t1_loop i).trips) : BitVec 32 :=
  let arg1 : BitVec 32 := BitVec.ofNat 32 (i 1).val
  let c1_i32_91 : BitVec 32 := 1#32
  let v160 : BitVec 32 := Scalar.addi arg1 c1_i32_91
  let c2_i32_92 : BitVec 32 := 2#32
  let c0_i32_65 : BitVec 32 := 0#32
  let c1_i32_67 : BitVec 32 := 1#32
  let arg21 : BitVec 32 := Scf.iv c0_i32_65 c1_i32_67 k0_t1
  let v161 : BitVec 32 := Scalar.muli c2_i32_92 arg21
  let v162 : BitVec 32 := Scalar.addi v160 v161
  let c1_i32_93 : BitVec 32 := 1#32
  let v163 : BitVec 32 := Scalar.addi v162 c1_i32_93
  let c512_i32_94 : BitVec 32 := 512#32
  let v164 : BitVec 32 := Scalar.muli v163 c512_i32_94
  v164
def k0_off7 (i : grid0.Coords) (k0_t1 : Fin (k0_t1_loop i).trips) (c1_i32_93 : BitVec 32) : Fin 2 → Nat :=
  let arg1 : BitVec 32 := BitVec.ofNat 32 (i 1).val
  let c1_i32_91 : BitVec 32 := 1#32
  let v160 : BitVec 32 := Scalar.addi arg1 c1_i32_91
  let c2_i32_92 : BitVec 32 := 2#32
  let c0_i32_65 : BitVec 32 := 0#32
  let c1_i32_67 : BitVec 32 := 1#32
  let arg21 : BitVec 32 := Scf.iv c0_i32_65 c1_i32_67 k0_t1
  let v161 : BitVec 32 := Scalar.muli c2_i32_92 arg21
  let v162 : BitVec 32 := Scalar.addi v160 v161
  let v163 : BitVec 32 := Scalar.addi v162 c1_i32_93
  let c512_i32_94 : BitVec 32 := 512#32
  let v164 : BitVec 32 := Scalar.muli v163 c512_i32_94
  let v165 : BitVec 32 := v164
  let v166 : Index := Scalar.indexCast v165
  let c0_95 : Index := 0#32
  ![v166.toNat, 0]
def k0_mult8 (i : grid0.Coords) (k0_t1 : Fin (k0_t1_loop i).trips) : BitVec 32 :=
  let arg1 : BitVec 32 := BitVec.ofNat 32 (i 1).val
  let c1_i32_91 : BitVec 32 := 1#32
  let v160 : BitVec 32 := Scalar.addi arg1 c1_i32_91
  let c2_i32_92 : BitVec 32 := 2#32
  let c0_i32_65 : BitVec 32 := 0#32
  let c1_i32_67 : BitVec 32 := 1#32
  let arg21 : BitVec 32 := Scf.iv c0_i32_65 c1_i32_67 k0_t1
  let v161 : BitVec 32 := Scalar.muli c2_i32_92 arg21
  let v162 : BitVec 32 := Scalar.addi v160 v161
  let c1_i32_93 : BitVec 32 := 1#32
  let v163 : BitVec 32 := Scalar.addi v162 c1_i32_93
  let c512_i32_99 : BitVec 32 := 512#32
  let v172 : BitVec 32 := Scalar.muli v163 c512_i32_99
  v172
def k0_mult9 (i : grid0.Coords) (k0_t1 : Fin (k0_t1_loop i).trips) : BitVec 32 :=
  let arg1 : BitVec 32 := BitVec.ofNat 32 (i 1).val
  let c1_i32_91 : BitVec 32 := 1#32
  let v160 : BitVec 32 := Scalar.addi arg1 c1_i32_91
  let c2_i32_92 : BitVec 32 := 2#32
  let c0_i32_65 : BitVec 32 := 0#32
  let c1_i32_67 : BitVec 32 := 1#32
  let arg21 : BitVec 32 := Scf.iv c0_i32_65 c1_i32_67 k0_t1
  let v161 : BitVec 32 := Scalar.muli c2_i32_92 arg21
  let v162 : BitVec 32 := Scalar.addi v160 v161
  let c512_i32_104 : BitVec 32 := 512#32
  let v180 : BitVec 32 := Scalar.muli v162 c512_i32_104
  v180
def k0_off8 (i : grid0.Coords) (k0_t1 : Fin (k0_t1_loop i).trips) : Fin 2 → Nat :=
  let arg1 : BitVec 32 := BitVec.ofNat 32 (i 1).val
  let c1_i32_91 : BitVec 32 := 1#32
  let v160 : BitVec 32 := Scalar.addi arg1 c1_i32_91
  let c2_i32_92 : BitVec 32 := 2#32
  let c0_i32_65 : BitVec 32 := 0#32
  let c1_i32_67 : BitVec 32 := 1#32
  let arg21 : BitVec 32 := Scf.iv c0_i32_65 c1_i32_67 k0_t1
  let v161 : BitVec 32 := Scalar.muli c2_i32_92 arg21
  let v162 : BitVec 32 := Scalar.addi v160 v161
  let c512_i32_104 : BitVec 32 := 512#32
  let v180 : BitVec 32 := Scalar.muli v162 c512_i32_104
  let v181 : BitVec 32 := v180
  let v187 : Index := Scalar.indexCast v181
  let c0_108 : Index := 0#32
  ![v187.toNat, 0]
def k0_off9 (i : grid0.Coords) (k0_t1 : Fin (k0_t1_loop i).trips) : Fin 2 → Nat :=
  let arg1 : BitVec 32 := BitVec.ofNat 32 (i 1).val
  let c1_i32_91 : BitVec 32 := 1#32
  let v160 : BitVec 32 := Scalar.addi arg1 c1_i32_91
  let c2_i32_92 : BitVec 32 := 2#32
  let c0_i32_65 : BitVec 32 := 0#32
  let c1_i32_67 : BitVec 32 := 1#32
  let arg21 : BitVec 32 := Scf.iv c0_i32_65 c1_i32_67 k0_t1
  let v161 : BitVec 32 := Scalar.muli c2_i32_92 arg21
  let v162 : BitVec 32 := Scalar.addi v160 v161
  let c512_i32_104 : BitVec 32 := 512#32
  let v180 : BitVec 32 := Scalar.muli v162 c512_i32_104
  let v181 : BitVec 32 := v180
  let v219 : Index := Scalar.indexCast v181
  let c0_124 : Index := 0#32
  ![v219.toNat, 0]
def k0_mult10 (i : grid0.Coords) (k0_t1 : Fin (k0_t1_loop i).trips) : BitVec 32 :=
  let arg1 : BitVec 32 := BitVec.ofNat 32 (i 1).val
  let c1_i32_91 : BitVec 32 := 1#32
  let v160 : BitVec 32 := Scalar.addi arg1 c1_i32_91
  let c2_i32_92 : BitVec 32 := 2#32
  let c0_i32_65 : BitVec 32 := 0#32
  let c1_i32_67 : BitVec 32 := 1#32
  let arg21 : BitVec 32 := Scf.iv c0_i32_65 c1_i32_67 k0_t1
  let v161 : BitVec 32 := Scalar.muli c2_i32_92 arg21
  let v162 : BitVec 32 := Scalar.addi v160 v161
  let c2_i32_127 : BitVec 32 := 2#32
  let v227 : BitVec 32 := Scalar.addi v162 c2_i32_127
  let c512_i32_128 : BitVec 32 := 512#32
  let v228 : BitVec 32 := Scalar.muli v227 c512_i32_128
  v228
def k0_mult11 (i : grid0.Coords) (k0_t1 : Fin (k0_t1_loop i).trips) : BitVec 32 :=
  let arg1 : BitVec 32 := BitVec.ofNat 32 (i 1).val
  let c1_i32_91 : BitVec 32 := 1#32
  let v160 : BitVec 32 := Scalar.addi arg1 c1_i32_91
  let c2_i32_92 : BitVec 32 := 2#32
  let c0_i32_65 : BitVec 32 := 0#32
  let c1_i32_67 : BitVec 32 := 1#32
  let arg21 : BitVec 32 := Scf.iv c0_i32_65 c1_i32_67 k0_t1
  let v161 : BitVec 32 := Scalar.muli c2_i32_92 arg21
  let v162 : BitVec 32 := Scalar.addi v160 v161
  let c2_i32_127 : BitVec 32 := 2#32
  let v227 : BitVec 32 := Scalar.addi v162 c2_i32_127
  let c512_i32_133 : BitVec 32 := 512#32
  let v236 : BitVec 32 := Scalar.muli v227 c512_i32_133
  v236
def k0_mult12 (i : grid0.Coords) (k0_t1 : Fin (k0_t1_loop i).trips) : BitVec 32 :=
  let arg1 : BitVec 32 := BitVec.ofNat 32 (i 1).val
  let c1_i32_91 : BitVec 32 := 1#32
  let v160 : BitVec 32 := Scalar.addi arg1 c1_i32_91
  let c2_i32_92 : BitVec 32 := 2#32
  let c0_i32_65 : BitVec 32 := 0#32
  let c1_i32_67 : BitVec 32 := 1#32
  let arg21 : BitVec 32 := Scf.iv c0_i32_65 c1_i32_67 k0_t1
  let v161 : BitVec 32 := Scalar.muli c2_i32_92 arg21
  let v162 : BitVec 32 := Scalar.addi v160 v161
  let c1_i32_138 : BitVec 32 := 1#32
  let v244 : BitVec 32 := Scalar.addi v162 c1_i32_138
  let c512_i32_139 : BitVec 32 := 512#32
  let v245 : BitVec 32 := Scalar.muli v244 c512_i32_139
  v245
def k0_off10 (i : grid0.Coords) (k0_t1 : Fin (k0_t1_loop i).trips) : Fin 2 → Nat :=
  let arg1 : BitVec 32 := BitVec.ofNat 32 (i 1).val
  let c1_i32_91 : BitVec 32 := 1#32
  let v160 : BitVec 32 := Scalar.addi arg1 c1_i32_91
  let c2_i32_92 : BitVec 32 := 2#32
  let c0_i32_65 : BitVec 32 := 0#32
  let c1_i32_67 : BitVec 32 := 1#32
  let arg21 : BitVec 32 := Scf.iv c0_i32_65 c1_i32_67 k0_t1
  let v161 : BitVec 32 := Scalar.muli c2_i32_92 arg21
  let v162 : BitVec 32 := Scalar.addi v160 v161
  let c1_i32_138 : BitVec 32 := 1#32
  let v244 : BitVec 32 := Scalar.addi v162 c1_i32_138
  let c512_i32_139 : BitVec 32 := 512#32
  let v245 : BitVec 32 := Scalar.muli v244 c512_i32_139
  let v246 : BitVec 32 := v245
  let v284 : Index := Scalar.indexCast v246
  let c0_159 : Index := 0#32
  ![v284.toNat, 0]
@[reducible] def k0_t2_loop (i : grid0.Coords) : Scf.Loop 32 :=
  let c0_i32_65 : BitVec 32 := 0#32
  let c7_i32 : BitVec 32 := 7#32
  let arg1 : BitVec 32 := BitVec.ofNat 32 (i 1).val
  let v20 : BitVec 32 := Scalar.subi c7_i32 arg1
  let c1_i32 : BitVec 32 := 1#32
  let v109 : BitVec 32 := Scalar.subi v20 c1_i32
  let c0_i32_57 : BitVec 32 := 0#32
  let v110 : BitVec 32 := Scalar.maxsi v109 c0_i32_57
  let c0_i32_58 : BitVec 32 := 0#32
  let v112 : BitVec 1 := Scalar.cmpi .sgt v110 c0_i32_58
  let v113 : BitVec 32 := Scalar.extui v112
  let c0_i32_59 : BitVec 32 := 0#32
  let v114 : BitVec 1 := Scalar.cmpi .slt v110 c0_i32_59
  let v115 : BitVec 32 := Scalar.extui v114
  let v116 : BitVec 32 := Scalar.subi v113 v115
  let c2_i32 : BitVec 32 := 2#32
  let c0_i32_60 : BitVec 32 := 0#32
  let v117 : BitVec 1 := Scalar.cmpi .sgt c2_i32 c0_i32_60
  let v118 : BitVec 32 := Scalar.extui v117
  let c0_i32_61 : BitVec 32 := 0#32
  let v119 : BitVec 1 := Scalar.cmpi .slt c2_i32 c0_i32_61
  let v120 : BitVec 32 := Scalar.extui v119
  let v121 : BitVec 32 := Scalar.subi v118 v120
  let v122 : BitVec 1 := Scalar.cmpi .ne v116 v121
  let v123 : BitVec 32 := Scalar.remsi v110 c2_i32
  let c0_i32_62 : BitVec 32 := 0#32
  let v124 : BitVec 1 := Scalar.cmpi .ne v123 c0_i32_62
  let v125 : BitVec 1 := Scalar.andi v122 v124
  let v111 : BitVec 32 := Scalar.divsi v110 c2_i32
  let c1_i32_63 : BitVec 32 := 1#32
  let v126 : BitVec 32 := Scalar.subi v111 c1_i32_63
  let v127 : BitVec 32 := Scalar.select v125 v126 v111
  let v128 : BitVec 32 := Scalar.subi v127 c0_i32_65
  let c1_i32_66 : BitVec 32 := 1#32
  let v130 : BitVec 32 := Scalar.divsi v128 c1_i32_66
  let v131 : BitVec 32 := Scalar.muli v130 c1_i32_66
  let v132 : BitVec 32 := Scalar.addi c0_i32_65 v131
  let v129 : BitVec 32 := Scalar.addi c0_i32_65 v128
  let c1_i32_68 : BitVec 32 := 1#32
  ⟨v132, v129, c1_i32_68⟩
def k0_mult13 (i : grid0.Coords) (k0_t2 : Fin (k0_t2_loop i).trips) : BitVec 32 :=
  let arg1 : BitVec 32 := BitVec.ofNat 32 (i 1).val
  let c1_i32_91 : BitVec 32 := 1#32
  let v160 : BitVec 32 := Scalar.addi arg1 c1_i32_91
  let c2_i32_92 : BitVec 32 := 2#32
  let c0_i32_65 : BitVec 32 := 0#32
  let c7_i32 : BitVec 32 := 7#32
  let v20 : BitVec 32 := Scalar.subi c7_i32 arg1
  let c1_i32 : BitVec 32 := 1#32
  let v109 : BitVec 32 := Scalar.subi v20 c1_i32
  let c0_i32_57 : BitVec 32 := 0#32
  let v110 : BitVec 32 := Scalar.maxsi v109 c0_i32_57
  let c0_i32_58 : BitVec 32 := 0#32
  let v112 : BitVec 1 := Scalar.cmpi .sgt v110 c0_i32_58
  let v113 : BitVec 32 := Scalar.extui v112
  let c0_i32_59 : BitVec 32 := 0#32
  let v114 : BitVec 1 := Scalar.cmpi .slt v110 c0_i32_59
  let v115 : BitVec 32 := Scalar.extui v114
  let v116 : BitVec 32 := Scalar.subi v113 v115
  let c2_i32 : BitVec 32 := 2#32
  let c0_i32_60 : BitVec 32 := 0#32
  let v117 : BitVec 1 := Scalar.cmpi .sgt c2_i32 c0_i32_60
  let v118 : BitVec 32 := Scalar.extui v117
  let c0_i32_61 : BitVec 32 := 0#32
  let v119 : BitVec 1 := Scalar.cmpi .slt c2_i32 c0_i32_61
  let v120 : BitVec 32 := Scalar.extui v119
  let v121 : BitVec 32 := Scalar.subi v118 v120
  let v122 : BitVec 1 := Scalar.cmpi .ne v116 v121
  let v123 : BitVec 32 := Scalar.remsi v110 c2_i32
  let c0_i32_62 : BitVec 32 := 0#32
  let v124 : BitVec 1 := Scalar.cmpi .ne v123 c0_i32_62
  let v125 : BitVec 1 := Scalar.andi v122 v124
  let v111 : BitVec 32 := Scalar.divsi v110 c2_i32
  let c1_i32_63 : BitVec 32 := 1#32
  let v126 : BitVec 32 := Scalar.subi v111 c1_i32_63
  let v127 : BitVec 32 := Scalar.select v125 v126 v111
  let v128 : BitVec 32 := Scalar.subi v127 c0_i32_65
  let c1_i32_66 : BitVec 32 := 1#32
  let v130 : BitVec 32 := Scalar.divsi v128 c1_i32_66
  let v131 : BitVec 32 := Scalar.muli v130 c1_i32_66
  let v132 : BitVec 32 := Scalar.addi c0_i32_65 v131
  let c1_i32_68 : BitVec 32 := 1#32
  let arg21 : BitVec 32 := Scf.iv v132 c1_i32_68 k0_t2
  let v161 : BitVec 32 := Scalar.muli c2_i32_92 arg21
  let v162 : BitVec 32 := Scalar.addi v160 v161
  let c1_i32_93 : BitVec 32 := 1#32
  let v163 : BitVec 32 := Scalar.addi v162 c1_i32_93
  let c512_i32_94 : BitVec 32 := 512#32
  let v164 : BitVec 32 := Scalar.muli v163 c512_i32_94
  v164
def k0_off11 (i : grid0.Coords) (k0_t2 : Fin (k0_t2_loop i).trips) (c1_i32_93 : BitVec 32) : Fin 2 → Nat :=
  let arg1 : BitVec 32 := BitVec.ofNat 32 (i 1).val
  let c1_i32_91 : BitVec 32 := 1#32
  let v160 : BitVec 32 := Scalar.addi arg1 c1_i32_91
  let c2_i32_92 : BitVec 32 := 2#32
  let c0_i32_65 : BitVec 32 := 0#32
  let c7_i32 : BitVec 32 := 7#32
  let v20 : BitVec 32 := Scalar.subi c7_i32 arg1
  let c1_i32 : BitVec 32 := 1#32
  let v109 : BitVec 32 := Scalar.subi v20 c1_i32
  let c0_i32_57 : BitVec 32 := 0#32
  let v110 : BitVec 32 := Scalar.maxsi v109 c0_i32_57
  let c0_i32_58 : BitVec 32 := 0#32
  let v112 : BitVec 1 := Scalar.cmpi .sgt v110 c0_i32_58
  let v113 : BitVec 32 := Scalar.extui v112
  let c0_i32_59 : BitVec 32 := 0#32
  let v114 : BitVec 1 := Scalar.cmpi .slt v110 c0_i32_59
  let v115 : BitVec 32 := Scalar.extui v114
  let v116 : BitVec 32 := Scalar.subi v113 v115
  let c2_i32 : BitVec 32 := 2#32
  let c0_i32_60 : BitVec 32 := 0#32
  let v117 : BitVec 1 := Scalar.cmpi .sgt c2_i32 c0_i32_60
  let v118 : BitVec 32 := Scalar.extui v117
  let c0_i32_61 : BitVec 32 := 0#32
  let v119 : BitVec 1 := Scalar.cmpi .slt c2_i32 c0_i32_61
  let v120 : BitVec 32 := Scalar.extui v119
  let v121 : BitVec 32 := Scalar.subi v118 v120
  let v122 : BitVec 1 := Scalar.cmpi .ne v116 v121
  let v123 : BitVec 32 := Scalar.remsi v110 c2_i32
  let c0_i32_62 : BitVec 32 := 0#32
  let v124 : BitVec 1 := Scalar.cmpi .ne v123 c0_i32_62
  let v125 : BitVec 1 := Scalar.andi v122 v124
  let v111 : BitVec 32 := Scalar.divsi v110 c2_i32
  let c1_i32_63 : BitVec 32 := 1#32
  let v126 : BitVec 32 := Scalar.subi v111 c1_i32_63
  let v127 : BitVec 32 := Scalar.select v125 v126 v111
  let v128 : BitVec 32 := Scalar.subi v127 c0_i32_65
  let c1_i32_66 : BitVec 32 := 1#32
  let v130 : BitVec 32 := Scalar.divsi v128 c1_i32_66
  let v131 : BitVec 32 := Scalar.muli v130 c1_i32_66
  let v132 : BitVec 32 := Scalar.addi c0_i32_65 v131
  let c1_i32_68 : BitVec 32 := 1#32
  let arg21 : BitVec 32 := Scf.iv v132 c1_i32_68 k0_t2
  let v161 : BitVec 32 := Scalar.muli c2_i32_92 arg21
  let v162 : BitVec 32 := Scalar.addi v160 v161
  let v163 : BitVec 32 := Scalar.addi v162 c1_i32_93
  let c512_i32_94 : BitVec 32 := 512#32
  let v164 : BitVec 32 := Scalar.muli v163 c512_i32_94
  let v165 : BitVec 32 := v164
  let v166 : Index := Scalar.indexCast v165
  let c0_95 : Index := 0#32
  ![v166.toNat, 0]
def k0_mult14 (i : grid0.Coords) (k0_t2 : Fin (k0_t2_loop i).trips) : BitVec 32 :=
  let arg1 : BitVec 32 := BitVec.ofNat 32 (i 1).val
  let c1_i32_91 : BitVec 32 := 1#32
  let v160 : BitVec 32 := Scalar.addi arg1 c1_i32_91
  let c2_i32_92 : BitVec 32 := 2#32
  let c0_i32_65 : BitVec 32 := 0#32
  let c7_i32 : BitVec 32 := 7#32
  let v20 : BitVec 32 := Scalar.subi c7_i32 arg1
  let c1_i32 : BitVec 32 := 1#32
  let v109 : BitVec 32 := Scalar.subi v20 c1_i32
  let c0_i32_57 : BitVec 32 := 0#32
  let v110 : BitVec 32 := Scalar.maxsi v109 c0_i32_57
  let c0_i32_58 : BitVec 32 := 0#32
  let v112 : BitVec 1 := Scalar.cmpi .sgt v110 c0_i32_58
  let v113 : BitVec 32 := Scalar.extui v112
  let c0_i32_59 : BitVec 32 := 0#32
  let v114 : BitVec 1 := Scalar.cmpi .slt v110 c0_i32_59
  let v115 : BitVec 32 := Scalar.extui v114
  let v116 : BitVec 32 := Scalar.subi v113 v115
  let c2_i32 : BitVec 32 := 2#32
  let c0_i32_60 : BitVec 32 := 0#32
  let v117 : BitVec 1 := Scalar.cmpi .sgt c2_i32 c0_i32_60
  let v118 : BitVec 32 := Scalar.extui v117
  let c0_i32_61 : BitVec 32 := 0#32
  let v119 : BitVec 1 := Scalar.cmpi .slt c2_i32 c0_i32_61
  let v120 : BitVec 32 := Scalar.extui v119
  let v121 : BitVec 32 := Scalar.subi v118 v120
  let v122 : BitVec 1 := Scalar.cmpi .ne v116 v121
  let v123 : BitVec 32 := Scalar.remsi v110 c2_i32
  let c0_i32_62 : BitVec 32 := 0#32
  let v124 : BitVec 1 := Scalar.cmpi .ne v123 c0_i32_62
  let v125 : BitVec 1 := Scalar.andi v122 v124
  let v111 : BitVec 32 := Scalar.divsi v110 c2_i32
  let c1_i32_63 : BitVec 32 := 1#32
  let v126 : BitVec 32 := Scalar.subi v111 c1_i32_63
  let v127 : BitVec 32 := Scalar.select v125 v126 v111
  let v128 : BitVec 32 := Scalar.subi v127 c0_i32_65
  let c1_i32_66 : BitVec 32 := 1#32
  let v130 : BitVec 32 := Scalar.divsi v128 c1_i32_66
  let v131 : BitVec 32 := Scalar.muli v130 c1_i32_66
  let v132 : BitVec 32 := Scalar.addi c0_i32_65 v131
  let c1_i32_68 : BitVec 32 := 1#32
  let arg21 : BitVec 32 := Scf.iv v132 c1_i32_68 k0_t2
  let v161 : BitVec 32 := Scalar.muli c2_i32_92 arg21
  let v162 : BitVec 32 := Scalar.addi v160 v161
  let c1_i32_93 : BitVec 32 := 1#32
  let v163 : BitVec 32 := Scalar.addi v162 c1_i32_93
  let c512_i32_99 : BitVec 32 := 512#32
  let v172 : BitVec 32 := Scalar.muli v163 c512_i32_99
  v172
def k0_mult15 (i : grid0.Coords) (k0_t2 : Fin (k0_t2_loop i).trips) : BitVec 32 :=
  let arg1 : BitVec 32 := BitVec.ofNat 32 (i 1).val
  let c1_i32_91 : BitVec 32 := 1#32
  let v160 : BitVec 32 := Scalar.addi arg1 c1_i32_91
  let c2_i32_92 : BitVec 32 := 2#32
  let c0_i32_65 : BitVec 32 := 0#32
  let c7_i32 : BitVec 32 := 7#32
  let v20 : BitVec 32 := Scalar.subi c7_i32 arg1
  let c1_i32 : BitVec 32 := 1#32
  let v109 : BitVec 32 := Scalar.subi v20 c1_i32
  let c0_i32_57 : BitVec 32 := 0#32
  let v110 : BitVec 32 := Scalar.maxsi v109 c0_i32_57
  let c0_i32_58 : BitVec 32 := 0#32
  let v112 : BitVec 1 := Scalar.cmpi .sgt v110 c0_i32_58
  let v113 : BitVec 32 := Scalar.extui v112
  let c0_i32_59 : BitVec 32 := 0#32
  let v114 : BitVec 1 := Scalar.cmpi .slt v110 c0_i32_59
  let v115 : BitVec 32 := Scalar.extui v114
  let v116 : BitVec 32 := Scalar.subi v113 v115
  let c2_i32 : BitVec 32 := 2#32
  let c0_i32_60 : BitVec 32 := 0#32
  let v117 : BitVec 1 := Scalar.cmpi .sgt c2_i32 c0_i32_60
  let v118 : BitVec 32 := Scalar.extui v117
  let c0_i32_61 : BitVec 32 := 0#32
  let v119 : BitVec 1 := Scalar.cmpi .slt c2_i32 c0_i32_61
  let v120 : BitVec 32 := Scalar.extui v119
  let v121 : BitVec 32 := Scalar.subi v118 v120
  let v122 : BitVec 1 := Scalar.cmpi .ne v116 v121
  let v123 : BitVec 32 := Scalar.remsi v110 c2_i32
  let c0_i32_62 : BitVec 32 := 0#32
  let v124 : BitVec 1 := Scalar.cmpi .ne v123 c0_i32_62
  let v125 : BitVec 1 := Scalar.andi v122 v124
  let v111 : BitVec 32 := Scalar.divsi v110 c2_i32
  let c1_i32_63 : BitVec 32 := 1#32
  let v126 : BitVec 32 := Scalar.subi v111 c1_i32_63
  let v127 : BitVec 32 := Scalar.select v125 v126 v111
  let v128 : BitVec 32 := Scalar.subi v127 c0_i32_65
  let c1_i32_66 : BitVec 32 := 1#32
  let v130 : BitVec 32 := Scalar.divsi v128 c1_i32_66
  let v131 : BitVec 32 := Scalar.muli v130 c1_i32_66
  let v132 : BitVec 32 := Scalar.addi c0_i32_65 v131
  let c1_i32_68 : BitVec 32 := 1#32
  let arg21 : BitVec 32 := Scf.iv v132 c1_i32_68 k0_t2
  let v161 : BitVec 32 := Scalar.muli c2_i32_92 arg21
  let v162 : BitVec 32 := Scalar.addi v160 v161
  let c512_i32_104 : BitVec 32 := 512#32
  let v180 : BitVec 32 := Scalar.muli v162 c512_i32_104
  v180
def k0_off12 (i : grid0.Coords) (k0_t2 : Fin (k0_t2_loop i).trips) : Fin 2 → Nat :=
  let arg1 : BitVec 32 := BitVec.ofNat 32 (i 1).val
  let c1_i32_91 : BitVec 32 := 1#32
  let v160 : BitVec 32 := Scalar.addi arg1 c1_i32_91
  let c2_i32_92 : BitVec 32 := 2#32
  let c0_i32_65 : BitVec 32 := 0#32
  let c7_i32 : BitVec 32 := 7#32
  let v20 : BitVec 32 := Scalar.subi c7_i32 arg1
  let c1_i32 : BitVec 32 := 1#32
  let v109 : BitVec 32 := Scalar.subi v20 c1_i32
  let c0_i32_57 : BitVec 32 := 0#32
  let v110 : BitVec 32 := Scalar.maxsi v109 c0_i32_57
  let c0_i32_58 : BitVec 32 := 0#32
  let v112 : BitVec 1 := Scalar.cmpi .sgt v110 c0_i32_58
  let v113 : BitVec 32 := Scalar.extui v112
  let c0_i32_59 : BitVec 32 := 0#32
  let v114 : BitVec 1 := Scalar.cmpi .slt v110 c0_i32_59
  let v115 : BitVec 32 := Scalar.extui v114
  let v116 : BitVec 32 := Scalar.subi v113 v115
  let c2_i32 : BitVec 32 := 2#32
  let c0_i32_60 : BitVec 32 := 0#32
  let v117 : BitVec 1 := Scalar.cmpi .sgt c2_i32 c0_i32_60
  let v118 : BitVec 32 := Scalar.extui v117
  let c0_i32_61 : BitVec 32 := 0#32
  let v119 : BitVec 1 := Scalar.cmpi .slt c2_i32 c0_i32_61
  let v120 : BitVec 32 := Scalar.extui v119
  let v121 : BitVec 32 := Scalar.subi v118 v120
  let v122 : BitVec 1 := Scalar.cmpi .ne v116 v121
  let v123 : BitVec 32 := Scalar.remsi v110 c2_i32
  let c0_i32_62 : BitVec 32 := 0#32
  let v124 : BitVec 1 := Scalar.cmpi .ne v123 c0_i32_62
  let v125 : BitVec 1 := Scalar.andi v122 v124
  let v111 : BitVec 32 := Scalar.divsi v110 c2_i32
  let c1_i32_63 : BitVec 32 := 1#32
  let v126 : BitVec 32 := Scalar.subi v111 c1_i32_63
  let v127 : BitVec 32 := Scalar.select v125 v126 v111
  let v128 : BitVec 32 := Scalar.subi v127 c0_i32_65
  let c1_i32_66 : BitVec 32 := 1#32
  let v130 : BitVec 32 := Scalar.divsi v128 c1_i32_66
  let v131 : BitVec 32 := Scalar.muli v130 c1_i32_66
  let v132 : BitVec 32 := Scalar.addi c0_i32_65 v131
  let c1_i32_68 : BitVec 32 := 1#32
  let arg21 : BitVec 32 := Scf.iv v132 c1_i32_68 k0_t2
  let v161 : BitVec 32 := Scalar.muli c2_i32_92 arg21
  let v162 : BitVec 32 := Scalar.addi v160 v161
  let c512_i32_104 : BitVec 32 := 512#32
  let v180 : BitVec 32 := Scalar.muli v162 c512_i32_104
  let v181 : BitVec 32 := v180
  let v187 : Index := Scalar.indexCast v181
  let c0_108 : Index := 0#32
  ![v187.toNat, 0]
def k0_off13 (i : grid0.Coords) (k0_t2 : Fin (k0_t2_loop i).trips) : Fin 2 → Nat :=
  let arg1 : BitVec 32 := BitVec.ofNat 32 (i 1).val
  let c1_i32_91 : BitVec 32 := 1#32
  let v160 : BitVec 32 := Scalar.addi arg1 c1_i32_91
  let c2_i32_92 : BitVec 32 := 2#32
  let c0_i32_65 : BitVec 32 := 0#32
  let c7_i32 : BitVec 32 := 7#32
  let v20 : BitVec 32 := Scalar.subi c7_i32 arg1
  let c1_i32 : BitVec 32 := 1#32
  let v109 : BitVec 32 := Scalar.subi v20 c1_i32
  let c0_i32_57 : BitVec 32 := 0#32
  let v110 : BitVec 32 := Scalar.maxsi v109 c0_i32_57
  let c0_i32_58 : BitVec 32 := 0#32
  let v112 : BitVec 1 := Scalar.cmpi .sgt v110 c0_i32_58
  let v113 : BitVec 32 := Scalar.extui v112
  let c0_i32_59 : BitVec 32 := 0#32
  let v114 : BitVec 1 := Scalar.cmpi .slt v110 c0_i32_59
  let v115 : BitVec 32 := Scalar.extui v114
  let v116 : BitVec 32 := Scalar.subi v113 v115
  let c2_i32 : BitVec 32 := 2#32
  let c0_i32_60 : BitVec 32 := 0#32
  let v117 : BitVec 1 := Scalar.cmpi .sgt c2_i32 c0_i32_60
  let v118 : BitVec 32 := Scalar.extui v117
  let c0_i32_61 : BitVec 32 := 0#32
  let v119 : BitVec 1 := Scalar.cmpi .slt c2_i32 c0_i32_61
  let v120 : BitVec 32 := Scalar.extui v119
  let v121 : BitVec 32 := Scalar.subi v118 v120
  let v122 : BitVec 1 := Scalar.cmpi .ne v116 v121
  let v123 : BitVec 32 := Scalar.remsi v110 c2_i32
  let c0_i32_62 : BitVec 32 := 0#32
  let v124 : BitVec 1 := Scalar.cmpi .ne v123 c0_i32_62
  let v125 : BitVec 1 := Scalar.andi v122 v124
  let v111 : BitVec 32 := Scalar.divsi v110 c2_i32
  let c1_i32_63 : BitVec 32 := 1#32
  let v126 : BitVec 32 := Scalar.subi v111 c1_i32_63
  let v127 : BitVec 32 := Scalar.select v125 v126 v111
  let v128 : BitVec 32 := Scalar.subi v127 c0_i32_65
  let c1_i32_66 : BitVec 32 := 1#32
  let v130 : BitVec 32 := Scalar.divsi v128 c1_i32_66
  let v131 : BitVec 32 := Scalar.muli v130 c1_i32_66
  let v132 : BitVec 32 := Scalar.addi c0_i32_65 v131
  let c1_i32_68 : BitVec 32 := 1#32
  let arg21 : BitVec 32 := Scf.iv v132 c1_i32_68 k0_t2
  let v161 : BitVec 32 := Scalar.muli c2_i32_92 arg21
  let v162 : BitVec 32 := Scalar.addi v160 v161
  let c512_i32_104 : BitVec 32 := 512#32
  let v180 : BitVec 32 := Scalar.muli v162 c512_i32_104
  let v181 : BitVec 32 := v180
  let v219 : Index := Scalar.indexCast v181
  let c0_124 : Index := 0#32
  ![v219.toNat, 0]
def k0_mult16 (i : grid0.Coords) (k0_t2 : Fin (k0_t2_loop i).trips) : BitVec 32 :=
  let arg1 : BitVec 32 := BitVec.ofNat 32 (i 1).val
  let c1_i32_91 : BitVec 32 := 1#32
  let v160 : BitVec 32 := Scalar.addi arg1 c1_i32_91
  let c2_i32_92 : BitVec 32 := 2#32
  let c0_i32_65 : BitVec 32 := 0#32
  let c7_i32 : BitVec 32 := 7#32
  let v20 : BitVec 32 := Scalar.subi c7_i32 arg1
  let c1_i32 : BitVec 32 := 1#32
  let v109 : BitVec 32 := Scalar.subi v20 c1_i32
  let c0_i32_57 : BitVec 32 := 0#32
  let v110 : BitVec 32 := Scalar.maxsi v109 c0_i32_57
  let c0_i32_58 : BitVec 32 := 0#32
  let v112 : BitVec 1 := Scalar.cmpi .sgt v110 c0_i32_58
  let v113 : BitVec 32 := Scalar.extui v112
  let c0_i32_59 : BitVec 32 := 0#32
  let v114 : BitVec 1 := Scalar.cmpi .slt v110 c0_i32_59
  let v115 : BitVec 32 := Scalar.extui v114
  let v116 : BitVec 32 := Scalar.subi v113 v115
  let c2_i32 : BitVec 32 := 2#32
  let c0_i32_60 : BitVec 32 := 0#32
  let v117 : BitVec 1 := Scalar.cmpi .sgt c2_i32 c0_i32_60
  let v118 : BitVec 32 := Scalar.extui v117
  let c0_i32_61 : BitVec 32 := 0#32
  let v119 : BitVec 1 := Scalar.cmpi .slt c2_i32 c0_i32_61
  let v120 : BitVec 32 := Scalar.extui v119
  let v121 : BitVec 32 := Scalar.subi v118 v120
  let v122 : BitVec 1 := Scalar.cmpi .ne v116 v121
  let v123 : BitVec 32 := Scalar.remsi v110 c2_i32
  let c0_i32_62 : BitVec 32 := 0#32
  let v124 : BitVec 1 := Scalar.cmpi .ne v123 c0_i32_62
  let v125 : BitVec 1 := Scalar.andi v122 v124
  let v111 : BitVec 32 := Scalar.divsi v110 c2_i32
  let c1_i32_63 : BitVec 32 := 1#32
  let v126 : BitVec 32 := Scalar.subi v111 c1_i32_63
  let v127 : BitVec 32 := Scalar.select v125 v126 v111
  let v128 : BitVec 32 := Scalar.subi v127 c0_i32_65
  let c1_i32_66 : BitVec 32 := 1#32
  let v130 : BitVec 32 := Scalar.divsi v128 c1_i32_66
  let v131 : BitVec 32 := Scalar.muli v130 c1_i32_66
  let v132 : BitVec 32 := Scalar.addi c0_i32_65 v131
  let c1_i32_68 : BitVec 32 := 1#32
  let arg21 : BitVec 32 := Scf.iv v132 c1_i32_68 k0_t2
  let v161 : BitVec 32 := Scalar.muli c2_i32_92 arg21
  let v162 : BitVec 32 := Scalar.addi v160 v161
  let c2_i32_127 : BitVec 32 := 2#32
  let v227 : BitVec 32 := Scalar.addi v162 c2_i32_127
  let c512_i32_128 : BitVec 32 := 512#32
  let v228 : BitVec 32 := Scalar.muli v227 c512_i32_128
  v228
def k0_mult17 (i : grid0.Coords) (k0_t2 : Fin (k0_t2_loop i).trips) : BitVec 32 :=
  let arg1 : BitVec 32 := BitVec.ofNat 32 (i 1).val
  let c1_i32_91 : BitVec 32 := 1#32
  let v160 : BitVec 32 := Scalar.addi arg1 c1_i32_91
  let c2_i32_92 : BitVec 32 := 2#32
  let c0_i32_65 : BitVec 32 := 0#32
  let c7_i32 : BitVec 32 := 7#32
  let v20 : BitVec 32 := Scalar.subi c7_i32 arg1
  let c1_i32 : BitVec 32 := 1#32
  let v109 : BitVec 32 := Scalar.subi v20 c1_i32
  let c0_i32_57 : BitVec 32 := 0#32
  let v110 : BitVec 32 := Scalar.maxsi v109 c0_i32_57
  let c0_i32_58 : BitVec 32 := 0#32
  let v112 : BitVec 1 := Scalar.cmpi .sgt v110 c0_i32_58
  let v113 : BitVec 32 := Scalar.extui v112
  let c0_i32_59 : BitVec 32 := 0#32
  let v114 : BitVec 1 := Scalar.cmpi .slt v110 c0_i32_59
  let v115 : BitVec 32 := Scalar.extui v114
  let v116 : BitVec 32 := Scalar.subi v113 v115
  let c2_i32 : BitVec 32 := 2#32
  let c0_i32_60 : BitVec 32 := 0#32
  let v117 : BitVec 1 := Scalar.cmpi .sgt c2_i32 c0_i32_60
  let v118 : BitVec 32 := Scalar.extui v117
  let c0_i32_61 : BitVec 32 := 0#32
  let v119 : BitVec 1 := Scalar.cmpi .slt c2_i32 c0_i32_61
  let v120 : BitVec 32 := Scalar.extui v119
  let v121 : BitVec 32 := Scalar.subi v118 v120
  let v122 : BitVec 1 := Scalar.cmpi .ne v116 v121
  let v123 : BitVec 32 := Scalar.remsi v110 c2_i32
  let c0_i32_62 : BitVec 32 := 0#32
  let v124 : BitVec 1 := Scalar.cmpi .ne v123 c0_i32_62
  let v125 : BitVec 1 := Scalar.andi v122 v124
  let v111 : BitVec 32 := Scalar.divsi v110 c2_i32
  let c1_i32_63 : BitVec 32 := 1#32
  let v126 : BitVec 32 := Scalar.subi v111 c1_i32_63
  let v127 : BitVec 32 := Scalar.select v125 v126 v111
  let v128 : BitVec 32 := Scalar.subi v127 c0_i32_65
  let c1_i32_66 : BitVec 32 := 1#32
  let v130 : BitVec 32 := Scalar.divsi v128 c1_i32_66
  let v131 : BitVec 32 := Scalar.muli v130 c1_i32_66
  let v132 : BitVec 32 := Scalar.addi c0_i32_65 v131
  let c1_i32_68 : BitVec 32 := 1#32
  let arg21 : BitVec 32 := Scf.iv v132 c1_i32_68 k0_t2
  let v161 : BitVec 32 := Scalar.muli c2_i32_92 arg21
  let v162 : BitVec 32 := Scalar.addi v160 v161
  let c2_i32_127 : BitVec 32 := 2#32
  let v227 : BitVec 32 := Scalar.addi v162 c2_i32_127
  let c512_i32_133 : BitVec 32 := 512#32
  let v236 : BitVec 32 := Scalar.muli v227 c512_i32_133
  v236
def k0_mult18 (i : grid0.Coords) (k0_t2 : Fin (k0_t2_loop i).trips) : BitVec 32 :=
  let arg1 : BitVec 32 := BitVec.ofNat 32 (i 1).val
  let c1_i32_91 : BitVec 32 := 1#32
  let v160 : BitVec 32 := Scalar.addi arg1 c1_i32_91
  let c2_i32_92 : BitVec 32 := 2#32
  let c0_i32_65 : BitVec 32 := 0#32
  let c7_i32 : BitVec 32 := 7#32
  let v20 : BitVec 32 := Scalar.subi c7_i32 arg1
  let c1_i32 : BitVec 32 := 1#32
  let v109 : BitVec 32 := Scalar.subi v20 c1_i32
  let c0_i32_57 : BitVec 32 := 0#32
  let v110 : BitVec 32 := Scalar.maxsi v109 c0_i32_57
  let c0_i32_58 : BitVec 32 := 0#32
  let v112 : BitVec 1 := Scalar.cmpi .sgt v110 c0_i32_58
  let v113 : BitVec 32 := Scalar.extui v112
  let c0_i32_59 : BitVec 32 := 0#32
  let v114 : BitVec 1 := Scalar.cmpi .slt v110 c0_i32_59
  let v115 : BitVec 32 := Scalar.extui v114
  let v116 : BitVec 32 := Scalar.subi v113 v115
  let c2_i32 : BitVec 32 := 2#32
  let c0_i32_60 : BitVec 32 := 0#32
  let v117 : BitVec 1 := Scalar.cmpi .sgt c2_i32 c0_i32_60
  let v118 : BitVec 32 := Scalar.extui v117
  let c0_i32_61 : BitVec 32 := 0#32
  let v119 : BitVec 1 := Scalar.cmpi .slt c2_i32 c0_i32_61
  let v120 : BitVec 32 := Scalar.extui v119
  let v121 : BitVec 32 := Scalar.subi v118 v120
  let v122 : BitVec 1 := Scalar.cmpi .ne v116 v121
  let v123 : BitVec 32 := Scalar.remsi v110 c2_i32
  let c0_i32_62 : BitVec 32 := 0#32
  let v124 : BitVec 1 := Scalar.cmpi .ne v123 c0_i32_62
  let v125 : BitVec 1 := Scalar.andi v122 v124
  let v111 : BitVec 32 := Scalar.divsi v110 c2_i32
  let c1_i32_63 : BitVec 32 := 1#32
  let v126 : BitVec 32 := Scalar.subi v111 c1_i32_63
  let v127 : BitVec 32 := Scalar.select v125 v126 v111
  let v128 : BitVec 32 := Scalar.subi v127 c0_i32_65
  let c1_i32_66 : BitVec 32 := 1#32
  let v130 : BitVec 32 := Scalar.divsi v128 c1_i32_66
  let v131 : BitVec 32 := Scalar.muli v130 c1_i32_66
  let v132 : BitVec 32 := Scalar.addi c0_i32_65 v131
  let c1_i32_68 : BitVec 32 := 1#32
  let arg21 : BitVec 32 := Scf.iv v132 c1_i32_68 k0_t2
  let v161 : BitVec 32 := Scalar.muli c2_i32_92 arg21
  let v162 : BitVec 32 := Scalar.addi v160 v161
  let c1_i32_138 : BitVec 32 := 1#32
  let v244 : BitVec 32 := Scalar.addi v162 c1_i32_138
  let c512_i32_139 : BitVec 32 := 512#32
  let v245 : BitVec 32 := Scalar.muli v244 c512_i32_139
  v245
def k0_off14 (i : grid0.Coords) (k0_t2 : Fin (k0_t2_loop i).trips) : Fin 2 → Nat :=
  let arg1 : BitVec 32 := BitVec.ofNat 32 (i 1).val
  let c1_i32_91 : BitVec 32 := 1#32
  let v160 : BitVec 32 := Scalar.addi arg1 c1_i32_91
  let c2_i32_92 : BitVec 32 := 2#32
  let c0_i32_65 : BitVec 32 := 0#32
  let c7_i32 : BitVec 32 := 7#32
  let v20 : BitVec 32 := Scalar.subi c7_i32 arg1
  let c1_i32 : BitVec 32 := 1#32
  let v109 : BitVec 32 := Scalar.subi v20 c1_i32
  let c0_i32_57 : BitVec 32 := 0#32
  let v110 : BitVec 32 := Scalar.maxsi v109 c0_i32_57
  let c0_i32_58 : BitVec 32 := 0#32
  let v112 : BitVec 1 := Scalar.cmpi .sgt v110 c0_i32_58
  let v113 : BitVec 32 := Scalar.extui v112
  let c0_i32_59 : BitVec 32 := 0#32
  let v114 : BitVec 1 := Scalar.cmpi .slt v110 c0_i32_59
  let v115 : BitVec 32 := Scalar.extui v114
  let v116 : BitVec 32 := Scalar.subi v113 v115
  let c2_i32 : BitVec 32 := 2#32
  let c0_i32_60 : BitVec 32 := 0#32
  let v117 : BitVec 1 := Scalar.cmpi .sgt c2_i32 c0_i32_60
  let v118 : BitVec 32 := Scalar.extui v117
  let c0_i32_61 : BitVec 32 := 0#32
  let v119 : BitVec 1 := Scalar.cmpi .slt c2_i32 c0_i32_61
  let v120 : BitVec 32 := Scalar.extui v119
  let v121 : BitVec 32 := Scalar.subi v118 v120
  let v122 : BitVec 1 := Scalar.cmpi .ne v116 v121
  let v123 : BitVec 32 := Scalar.remsi v110 c2_i32
  let c0_i32_62 : BitVec 32 := 0#32
  let v124 : BitVec 1 := Scalar.cmpi .ne v123 c0_i32_62
  let v125 : BitVec 1 := Scalar.andi v122 v124
  let v111 : BitVec 32 := Scalar.divsi v110 c2_i32
  let c1_i32_63 : BitVec 32 := 1#32
  let v126 : BitVec 32 := Scalar.subi v111 c1_i32_63
  let v127 : BitVec 32 := Scalar.select v125 v126 v111
  let v128 : BitVec 32 := Scalar.subi v127 c0_i32_65
  let c1_i32_66 : BitVec 32 := 1#32
  let v130 : BitVec 32 := Scalar.divsi v128 c1_i32_66
  let v131 : BitVec 32 := Scalar.muli v130 c1_i32_66
  let v132 : BitVec 32 := Scalar.addi c0_i32_65 v131
  let c1_i32_68 : BitVec 32 := 1#32
  let arg21 : BitVec 32 := Scf.iv v132 c1_i32_68 k0_t2
  let v161 : BitVec 32 := Scalar.muli c2_i32_92 arg21
  let v162 : BitVec 32 := Scalar.addi v160 v161
  let c1_i32_138 : BitVec 32 := 1#32
  let v244 : BitVec 32 := Scalar.addi v162 c1_i32_138
  let c512_i32_139 : BitVec 32 := 512#32
  let v245 : BitVec 32 := Scalar.muli v244 c512_i32_139
  let v246 : BitVec 32 := v245
  let v284 : Index := Scalar.indexCast v246
  let c0_159 : Index := 0#32
  ![v284.toNat, 0]
def k0_cond3 (i : grid0.Coords) : BitVec 1 :=
  let c7_i32 : BitVec 32 := 7#32
  let arg1 : BitVec 32 := BitVec.ofNat 32 (i 1).val
  let v20 : BitVec 32 := Scalar.subi c7_i32 arg1
  let c2_i32_71 : BitVec 32 := 2#32
  let c1_i32 : BitVec 32 := 1#32
  let v109 : BitVec 32 := Scalar.subi v20 c1_i32
  let c0_i32_57 : BitVec 32 := 0#32
  let v110 : BitVec 32 := Scalar.maxsi v109 c0_i32_57
  let c0_i32_58 : BitVec 32 := 0#32
  let v112 : BitVec 1 := Scalar.cmpi .sgt v110 c0_i32_58
  let v113 : BitVec 32 := Scalar.extui v112
  let c0_i32_59 : BitVec 32 := 0#32
  let v114 : BitVec 1 := Scalar.cmpi .slt v110 c0_i32_59
  let v115 : BitVec 32 := Scalar.extui v114
  let v116 : BitVec 32 := Scalar.subi v113 v115
  let c2_i32 : BitVec 32 := 2#32
  let c0_i32_60 : BitVec 32 := 0#32
  let v117 : BitVec 1 := Scalar.cmpi .sgt c2_i32 c0_i32_60
  let v118 : BitVec 32 := Scalar.extui v117
  let c0_i32_61 : BitVec 32 := 0#32
  let v119 : BitVec 1 := Scalar.cmpi .slt c2_i32 c0_i32_61
  let v120 : BitVec 32 := Scalar.extui v119
  let v121 : BitVec 32 := Scalar.subi v118 v120
  let v122 : BitVec 1 := Scalar.cmpi .ne v116 v121
  let v123 : BitVec 32 := Scalar.remsi v110 c2_i32
  let c0_i32_62 : BitVec 32 := 0#32
  let v124 : BitVec 1 := Scalar.cmpi .ne v123 c0_i32_62
  let v125 : BitVec 1 := Scalar.andi v122 v124
  let v111 : BitVec 32 := Scalar.divsi v110 c2_i32
  let c1_i32_63 : BitVec 32 := 1#32
  let v126 : BitVec 32 := Scalar.subi v111 c1_i32_63
  let v127 : BitVec 32 := Scalar.select v125 v126 v111
  let v136 : BitVec 32 := Scalar.muli c2_i32_71 v127
  let v137 : BitVec 32 := Scalar.subi v20 v136
  let c1_i32_72 : BitVec 32 := 1#32
  let v138 : BitVec 1 := Scalar.cmpi .eq v137 c1_i32_72
  let v139 : BitVec 32 := Scalar.extui v138
  let c0_i32_73 : BitVec 32 := 0#32
  let v140 : BitVec 1 := Scalar.cmpi .ne v139 c0_i32_73
  v140

def k0_mult19 (i : grid0.Coords) : BitVec 32 :=
  let arg1 : BitVec 32 := BitVec.ofNat 32 (i 1).val
  let c1_i32_69 : BitVec 32 := 1#32
  let v133 : BitVec 32 := Scalar.addi arg1 c1_i32_69
  let c2_i32_70 : BitVec 32 := 2#32
  let c7_i32 : BitVec 32 := 7#32
  let v20 : BitVec 32 := Scalar.subi c7_i32 arg1
  let c1_i32 : BitVec 32 := 1#32
  let v109 : BitVec 32 := Scalar.subi v20 c1_i32
  let c0_i32_57 : BitVec 32 := 0#32
  let v110 : BitVec 32 := Scalar.maxsi v109 c0_i32_57
  let c0_i32_58 : BitVec 32 := 0#32
  let v112 : BitVec 1 := Scalar.cmpi .sgt v110 c0_i32_58
  let v113 : BitVec 32 := Scalar.extui v112
  let c0_i32_59 : BitVec 32 := 0#32
  let v114 : BitVec 1 := Scalar.cmpi .slt v110 c0_i32_59
  let v115 : BitVec 32 := Scalar.extui v114
  let v116 : BitVec 32 := Scalar.subi v113 v115
  let c2_i32 : BitVec 32 := 2#32
  let c0_i32_60 : BitVec 32 := 0#32
  let v117 : BitVec 1 := Scalar.cmpi .sgt c2_i32 c0_i32_60
  let v118 : BitVec 32 := Scalar.extui v117
  let c0_i32_61 : BitVec 32 := 0#32
  let v119 : BitVec 1 := Scalar.cmpi .slt c2_i32 c0_i32_61
  let v120 : BitVec 32 := Scalar.extui v119
  let v121 : BitVec 32 := Scalar.subi v118 v120
  let v122 : BitVec 1 := Scalar.cmpi .ne v116 v121
  let v123 : BitVec 32 := Scalar.remsi v110 c2_i32
  let c0_i32_62 : BitVec 32 := 0#32
  let v124 : BitVec 1 := Scalar.cmpi .ne v123 c0_i32_62
  let v125 : BitVec 1 := Scalar.andi v122 v124
  let v111 : BitVec 32 := Scalar.divsi v110 c2_i32
  let c1_i32_63 : BitVec 32 := 1#32
  let v126 : BitVec 32 := Scalar.subi v111 c1_i32_63
  let v127 : BitVec 32 := Scalar.select v125 v126 v111
  let v134 : BitVec 32 := Scalar.muli c2_i32_70 v127
  let v135 : BitVec 32 := Scalar.addi v133 v134
  let c512_i32_91 : BitVec 32 := 512#32
  let v160 : BitVec 32 := Scalar.muli v135 c512_i32_91
  v160
def k0_off15 (i : grid0.Coords) : Fin 2 → Nat :=
  let arg1 : BitVec 32 := BitVec.ofNat 32 (i 1).val
  let c1_i32_69 : BitVec 32 := 1#32
  let v133 : BitVec 32 := Scalar.addi arg1 c1_i32_69
  let c2_i32_70 : BitVec 32 := 2#32
  let c7_i32 : BitVec 32 := 7#32
  let v20 : BitVec 32 := Scalar.subi c7_i32 arg1
  let c1_i32 : BitVec 32 := 1#32
  let v109 : BitVec 32 := Scalar.subi v20 c1_i32
  let c0_i32_57 : BitVec 32 := 0#32
  let v110 : BitVec 32 := Scalar.maxsi v109 c0_i32_57
  let c0_i32_58 : BitVec 32 := 0#32
  let v112 : BitVec 1 := Scalar.cmpi .sgt v110 c0_i32_58
  let v113 : BitVec 32 := Scalar.extui v112
  let c0_i32_59 : BitVec 32 := 0#32
  let v114 : BitVec 1 := Scalar.cmpi .slt v110 c0_i32_59
  let v115 : BitVec 32 := Scalar.extui v114
  let v116 : BitVec 32 := Scalar.subi v113 v115
  let c2_i32 : BitVec 32 := 2#32
  let c0_i32_60 : BitVec 32 := 0#32
  let v117 : BitVec 1 := Scalar.cmpi .sgt c2_i32 c0_i32_60
  let v118 : BitVec 32 := Scalar.extui v117
  let c0_i32_61 : BitVec 32 := 0#32
  let v119 : BitVec 1 := Scalar.cmpi .slt c2_i32 c0_i32_61
  let v120 : BitVec 32 := Scalar.extui v119
  let v121 : BitVec 32 := Scalar.subi v118 v120
  let v122 : BitVec 1 := Scalar.cmpi .ne v116 v121
  let v123 : BitVec 32 := Scalar.remsi v110 c2_i32
  let c0_i32_62 : BitVec 32 := 0#32
  let v124 : BitVec 1 := Scalar.cmpi .ne v123 c0_i32_62
  let v125 : BitVec 1 := Scalar.andi v122 v124
  let v111 : BitVec 32 := Scalar.divsi v110 c2_i32
  let c1_i32_63 : BitVec 32 := 1#32
  let v126 : BitVec 32 := Scalar.subi v111 c1_i32_63
  let v127 : BitVec 32 := Scalar.select v125 v126 v111
  let v134 : BitVec 32 := Scalar.muli c2_i32_70 v127
  let v135 : BitVec 32 := Scalar.addi v133 v134
  let c512_i32_91 : BitVec 32 := 512#32
  let v160 : BitVec 32 := Scalar.muli v135 c512_i32_91
  let v161 : BitVec 32 := v160
  let v167 : Index := Scalar.indexCast v161
  let c0_95 : Index := 0#32
  ![v167.toNat, 0]
def k0_off16 (i : grid0.Coords) : Fin 2 → Nat :=
  let arg1 : BitVec 32 := BitVec.ofNat 32 (i 1).val
  let c1_i32_69 : BitVec 32 := 1#32
  let v133 : BitVec 32 := Scalar.addi arg1 c1_i32_69
  let c2_i32_70 : BitVec 32 := 2#32
  let c7_i32 : BitVec 32 := 7#32
  let v20 : BitVec 32 := Scalar.subi c7_i32 arg1
  let c1_i32 : BitVec 32 := 1#32
  let v109 : BitVec 32 := Scalar.subi v20 c1_i32
  let c0_i32_57 : BitVec 32 := 0#32
  let v110 : BitVec 32 := Scalar.maxsi v109 c0_i32_57
  let c0_i32_58 : BitVec 32 := 0#32
  let v112 : BitVec 1 := Scalar.cmpi .sgt v110 c0_i32_58
  let v113 : BitVec 32 := Scalar.extui v112
  let c0_i32_59 : BitVec 32 := 0#32
  let v114 : BitVec 1 := Scalar.cmpi .slt v110 c0_i32_59
  let v115 : BitVec 32 := Scalar.extui v114
  let v116 : BitVec 32 := Scalar.subi v113 v115
  let c2_i32 : BitVec 32 := 2#32
  let c0_i32_60 : BitVec 32 := 0#32
  let v117 : BitVec 1 := Scalar.cmpi .sgt c2_i32 c0_i32_60
  let v118 : BitVec 32 := Scalar.extui v117
  let c0_i32_61 : BitVec 32 := 0#32
  let v119 : BitVec 1 := Scalar.cmpi .slt c2_i32 c0_i32_61
  let v120 : BitVec 32 := Scalar.extui v119
  let v121 : BitVec 32 := Scalar.subi v118 v120
  let v122 : BitVec 1 := Scalar.cmpi .ne v116 v121
  let v123 : BitVec 32 := Scalar.remsi v110 c2_i32
  let c0_i32_62 : BitVec 32 := 0#32
  let v124 : BitVec 1 := Scalar.cmpi .ne v123 c0_i32_62
  let v125 : BitVec 1 := Scalar.andi v122 v124
  let v111 : BitVec 32 := Scalar.divsi v110 c2_i32
  let c1_i32_63 : BitVec 32 := 1#32
  let v126 : BitVec 32 := Scalar.subi v111 c1_i32_63
  let v127 : BitVec 32 := Scalar.select v125 v126 v111
  let v134 : BitVec 32 := Scalar.muli c2_i32_70 v127
  let v135 : BitVec 32 := Scalar.addi v133 v134
  let c512_i32_91 : BitVec 32 := 512#32
  let v160 : BitVec 32 := Scalar.muli v135 c512_i32_91
  let v161 : BitVec 32 := v160
  let v199 : Index := Scalar.indexCast v161
  let c0_111 : Index := 0#32
  ![v199.toNat, 0]
def k0_cond4 (i : grid0.Coords) : BitVec 1 :=
  let c7_i32 : BitVec 32 := 7#32
  let arg1 : BitVec 32 := BitVec.ofNat 32 (i 1).val
  let v20 : BitVec 32 := Scalar.subi c7_i32 arg1
  let c2_i32_74 : BitVec 32 := 2#32
  let c1_i32 : BitVec 32 := 1#32
  let v109 : BitVec 32 := Scalar.subi v20 c1_i32
  let c0_i32_57 : BitVec 32 := 0#32
  let v110 : BitVec 32 := Scalar.maxsi v109 c0_i32_57
  let c0_i32_58 : BitVec 32 := 0#32
  let v112 : BitVec 1 := Scalar.cmpi .sgt v110 c0_i32_58
  let v113 : BitVec 32 := Scalar.extui v112
  let c0_i32_59 : BitVec 32 := 0#32
  let v114 : BitVec 1 := Scalar.cmpi .slt v110 c0_i32_59
  let v115 : BitVec 32 := Scalar.extui v114
  let v116 : BitVec 32 := Scalar.subi v113 v115
  let c2_i32 : BitVec 32 := 2#32
  let c0_i32_60 : BitVec 32 := 0#32
  let v117 : BitVec 1 := Scalar.cmpi .sgt c2_i32 c0_i32_60
  let v118 : BitVec 32 := Scalar.extui v117
  let c0_i32_61 : BitVec 32 := 0#32
  let v119 : BitVec 1 := Scalar.cmpi .slt c2_i32 c0_i32_61
  let v120 : BitVec 32 := Scalar.extui v119
  let v121 : BitVec 32 := Scalar.subi v118 v120
  let v122 : BitVec 1 := Scalar.cmpi .ne v116 v121
  let v123 : BitVec 32 := Scalar.remsi v110 c2_i32
  let c0_i32_62 : BitVec 32 := 0#32
  let v124 : BitVec 1 := Scalar.cmpi .ne v123 c0_i32_62
  let v125 : BitVec 1 := Scalar.andi v122 v124
  let v111 : BitVec 32 := Scalar.divsi v110 c2_i32
  let c1_i32_63 : BitVec 32 := 1#32
  let v126 : BitVec 32 := Scalar.subi v111 c1_i32_63
  let v127 : BitVec 32 := Scalar.select v125 v126 v111
  let v141 : BitVec 32 := Scalar.muli c2_i32_74 v127
  let v142 : BitVec 32 := Scalar.subi v20 v141
  let c2_i32_75 : BitVec 32 := 2#32
  let v143 : BitVec 1 := Scalar.cmpi .eq v142 c2_i32_75
  let v144 : BitVec 32 := Scalar.extui v143
  let c0_i32_76 : BitVec 32 := 0#32
  let v145 : BitVec 1 := Scalar.cmpi .ne v144 c0_i32_76
  v145

def k0_mult20 (i : grid0.Coords) : BitVec 32 :=
  let arg1 : BitVec 32 := BitVec.ofNat 32 (i 1).val
  let c1_i32_69 : BitVec 32 := 1#32
  let v133 : BitVec 32 := Scalar.addi arg1 c1_i32_69
  let c2_i32_70 : BitVec 32 := 2#32
  let c7_i32 : BitVec 32 := 7#32
  let v20 : BitVec 32 := Scalar.subi c7_i32 arg1
  let c1_i32 : BitVec 32 := 1#32
  let v109 : BitVec 32 := Scalar.subi v20 c1_i32
  let c0_i32_57 : BitVec 32 := 0#32
  let v110 : BitVec 32 := Scalar.maxsi v109 c0_i32_57
  let c0_i32_58 : BitVec 32 := 0#32
  let v112 : BitVec 1 := Scalar.cmpi .sgt v110 c0_i32_58
  let v113 : BitVec 32 := Scalar.extui v112
  let c0_i32_59 : BitVec 32 := 0#32
  let v114 : BitVec 1 := Scalar.cmpi .slt v110 c0_i32_59
  let v115 : BitVec 32 := Scalar.extui v114
  let v116 : BitVec 32 := Scalar.subi v113 v115
  let c2_i32 : BitVec 32 := 2#32
  let c0_i32_60 : BitVec 32 := 0#32
  let v117 : BitVec 1 := Scalar.cmpi .sgt c2_i32 c0_i32_60
  let v118 : BitVec 32 := Scalar.extui v117
  let c0_i32_61 : BitVec 32 := 0#32
  let v119 : BitVec 1 := Scalar.cmpi .slt c2_i32 c0_i32_61
  let v120 : BitVec 32 := Scalar.extui v119
  let v121 : BitVec 32 := Scalar.subi v118 v120
  let v122 : BitVec 1 := Scalar.cmpi .ne v116 v121
  let v123 : BitVec 32 := Scalar.remsi v110 c2_i32
  let c0_i32_62 : BitVec 32 := 0#32
  let v124 : BitVec 1 := Scalar.cmpi .ne v123 c0_i32_62
  let v125 : BitVec 1 := Scalar.andi v122 v124
  let v111 : BitVec 32 := Scalar.divsi v110 c2_i32
  let c1_i32_63 : BitVec 32 := 1#32
  let v126 : BitVec 32 := Scalar.subi v111 c1_i32_63
  let v127 : BitVec 32 := Scalar.select v125 v126 v111
  let v134 : BitVec 32 := Scalar.muli c2_i32_70 v127
  let v135 : BitVec 32 := Scalar.addi v133 v134
  let c1_i32_91 : BitVec 32 := 1#32
  let v160 : BitVec 32 := Scalar.addi v135 c1_i32_91
  let c512_i32_92 : BitVec 32 := 512#32
  let v161 : BitVec 32 := Scalar.muli v160 c512_i32_92
  v161
def k0_off17 (i : grid0.Coords) : Fin 2 → Nat :=
  let arg1 : BitVec 32 := BitVec.ofNat 32 (i 1).val
  let c1_i32_69 : BitVec 32 := 1#32
  let v133 : BitVec 32 := Scalar.addi arg1 c1_i32_69
  let c2_i32_70 : BitVec 32 := 2#32
  let c7_i32 : BitVec 32 := 7#32
  let v20 : BitVec 32 := Scalar.subi c7_i32 arg1
  let c1_i32 : BitVec 32 := 1#32
  let v109 : BitVec 32 := Scalar.subi v20 c1_i32
  let c0_i32_57 : BitVec 32 := 0#32
  let v110 : BitVec 32 := Scalar.maxsi v109 c0_i32_57
  let c0_i32_58 : BitVec 32 := 0#32
  let v112 : BitVec 1 := Scalar.cmpi .sgt v110 c0_i32_58
  let v113 : BitVec 32 := Scalar.extui v112
  let c0_i32_59 : BitVec 32 := 0#32
  let v114 : BitVec 1 := Scalar.cmpi .slt v110 c0_i32_59
  let v115 : BitVec 32 := Scalar.extui v114
  let v116 : BitVec 32 := Scalar.subi v113 v115
  let c2_i32 : BitVec 32 := 2#32
  let c0_i32_60 : BitVec 32 := 0#32
  let v117 : BitVec 1 := Scalar.cmpi .sgt c2_i32 c0_i32_60
  let v118 : BitVec 32 := Scalar.extui v117
  let c0_i32_61 : BitVec 32 := 0#32
  let v119 : BitVec 1 := Scalar.cmpi .slt c2_i32 c0_i32_61
  let v120 : BitVec 32 := Scalar.extui v119
  let v121 : BitVec 32 := Scalar.subi v118 v120
  let v122 : BitVec 1 := Scalar.cmpi .ne v116 v121
  let v123 : BitVec 32 := Scalar.remsi v110 c2_i32
  let c0_i32_62 : BitVec 32 := 0#32
  let v124 : BitVec 1 := Scalar.cmpi .ne v123 c0_i32_62
  let v125 : BitVec 1 := Scalar.andi v122 v124
  let v111 : BitVec 32 := Scalar.divsi v110 c2_i32
  let c1_i32_63 : BitVec 32 := 1#32
  let v126 : BitVec 32 := Scalar.subi v111 c1_i32_63
  let v127 : BitVec 32 := Scalar.select v125 v126 v111
  let v134 : BitVec 32 := Scalar.muli c2_i32_70 v127
  let v135 : BitVec 32 := Scalar.addi v133 v134
  let c1_i32_91 : BitVec 32 := 1#32
  let v160 : BitVec 32 := Scalar.addi v135 c1_i32_91
  let c512_i32_92 : BitVec 32 := 512#32
  let v161 : BitVec 32 := Scalar.muli v160 c512_i32_92
  let v162 : BitVec 32 := v161
  let v163 : Index := Scalar.indexCast v162
  let c0_93 : Index := 0#32
  ![v163.toNat, 0]
def k0_mult21 (i : grid0.Coords) : BitVec 32 :=
  let arg1 : BitVec 32 := BitVec.ofNat 32 (i 1).val
  let c1_i32_69 : BitVec 32 := 1#32
  let v133 : BitVec 32 := Scalar.addi arg1 c1_i32_69
  let c2_i32_70 : BitVec 32 := 2#32
  let c7_i32 : BitVec 32 := 7#32
  let v20 : BitVec 32 := Scalar.subi c7_i32 arg1
  let c1_i32 : BitVec 32 := 1#32
  let v109 : BitVec 32 := Scalar.subi v20 c1_i32
  let c0_i32_57 : BitVec 32 := 0#32
  let v110 : BitVec 32 := Scalar.maxsi v109 c0_i32_57
  let c0_i32_58 : BitVec 32 := 0#32
  let v112 : BitVec 1 := Scalar.cmpi .sgt v110 c0_i32_58
  let v113 : BitVec 32 := Scalar.extui v112
  let c0_i32_59 : BitVec 32 := 0#32
  let v114 : BitVec 1 := Scalar.cmpi .slt v110 c0_i32_59
  let v115 : BitVec 32 := Scalar.extui v114
  let v116 : BitVec 32 := Scalar.subi v113 v115
  let c2_i32 : BitVec 32 := 2#32
  let c0_i32_60 : BitVec 32 := 0#32
  let v117 : BitVec 1 := Scalar.cmpi .sgt c2_i32 c0_i32_60
  let v118 : BitVec 32 := Scalar.extui v117
  let c0_i32_61 : BitVec 32 := 0#32
  let v119 : BitVec 1 := Scalar.cmpi .slt c2_i32 c0_i32_61
  let v120 : BitVec 32 := Scalar.extui v119
  let v121 : BitVec 32 := Scalar.subi v118 v120
  let v122 : BitVec 1 := Scalar.cmpi .ne v116 v121
  let v123 : BitVec 32 := Scalar.remsi v110 c2_i32
  let c0_i32_62 : BitVec 32 := 0#32
  let v124 : BitVec 1 := Scalar.cmpi .ne v123 c0_i32_62
  let v125 : BitVec 1 := Scalar.andi v122 v124
  let v111 : BitVec 32 := Scalar.divsi v110 c2_i32
  let c1_i32_63 : BitVec 32 := 1#32
  let v126 : BitVec 32 := Scalar.subi v111 c1_i32_63
  let v127 : BitVec 32 := Scalar.select v125 v126 v111
  let v134 : BitVec 32 := Scalar.muli c2_i32_70 v127
  let v135 : BitVec 32 := Scalar.addi v133 v134
  let c1_i32_91 : BitVec 32 := 1#32
  let v160 : BitVec 32 := Scalar.addi v135 c1_i32_91
  let c512_i32_97 : BitVec 32 := 512#32
  let v169 : BitVec 32 := Scalar.muli v160 c512_i32_97
  v169
def k0_mult22 (i : grid0.Coords) : BitVec 32 :=
  let arg1 : BitVec 32 := BitVec.ofNat 32 (i 1).val
  let c1_i32_69 : BitVec 32 := 1#32
  let v133 : BitVec 32 := Scalar.addi arg1 c1_i32_69
  let c2_i32_70 : BitVec 32 := 2#32
  let c7_i32 : BitVec 32 := 7#32
  let v20 : BitVec 32 := Scalar.subi c7_i32 arg1
  let c1_i32 : BitVec 32 := 1#32
  let v109 : BitVec 32 := Scalar.subi v20 c1_i32
  let c0_i32_57 : BitVec 32 := 0#32
  let v110 : BitVec 32 := Scalar.maxsi v109 c0_i32_57
  let c0_i32_58 : BitVec 32 := 0#32
  let v112 : BitVec 1 := Scalar.cmpi .sgt v110 c0_i32_58
  let v113 : BitVec 32 := Scalar.extui v112
  let c0_i32_59 : BitVec 32 := 0#32
  let v114 : BitVec 1 := Scalar.cmpi .slt v110 c0_i32_59
  let v115 : BitVec 32 := Scalar.extui v114
  let v116 : BitVec 32 := Scalar.subi v113 v115
  let c2_i32 : BitVec 32 := 2#32
  let c0_i32_60 : BitVec 32 := 0#32
  let v117 : BitVec 1 := Scalar.cmpi .sgt c2_i32 c0_i32_60
  let v118 : BitVec 32 := Scalar.extui v117
  let c0_i32_61 : BitVec 32 := 0#32
  let v119 : BitVec 1 := Scalar.cmpi .slt c2_i32 c0_i32_61
  let v120 : BitVec 32 := Scalar.extui v119
  let v121 : BitVec 32 := Scalar.subi v118 v120
  let v122 : BitVec 1 := Scalar.cmpi .ne v116 v121
  let v123 : BitVec 32 := Scalar.remsi v110 c2_i32
  let c0_i32_62 : BitVec 32 := 0#32
  let v124 : BitVec 1 := Scalar.cmpi .ne v123 c0_i32_62
  let v125 : BitVec 1 := Scalar.andi v122 v124
  let v111 : BitVec 32 := Scalar.divsi v110 c2_i32
  let c1_i32_63 : BitVec 32 := 1#32
  let v126 : BitVec 32 := Scalar.subi v111 c1_i32_63
  let v127 : BitVec 32 := Scalar.select v125 v126 v111
  let v134 : BitVec 32 := Scalar.muli c2_i32_70 v127
  let v135 : BitVec 32 := Scalar.addi v133 v134
  let c512_i32_102 : BitVec 32 := 512#32
  let v177 : BitVec 32 := Scalar.muli v135 c512_i32_102
  v177
def k0_off18 (i : grid0.Coords) : Fin 2 → Nat :=
  let arg1 : BitVec 32 := BitVec.ofNat 32 (i 1).val
  let c1_i32_69 : BitVec 32 := 1#32
  let v133 : BitVec 32 := Scalar.addi arg1 c1_i32_69
  let c2_i32_70 : BitVec 32 := 2#32
  let c7_i32 : BitVec 32 := 7#32
  let v20 : BitVec 32 := Scalar.subi c7_i32 arg1
  let c1_i32 : BitVec 32 := 1#32
  let v109 : BitVec 32 := Scalar.subi v20 c1_i32
  let c0_i32_57 : BitVec 32 := 0#32
  let v110 : BitVec 32 := Scalar.maxsi v109 c0_i32_57
  let c0_i32_58 : BitVec 32 := 0#32
  let v112 : BitVec 1 := Scalar.cmpi .sgt v110 c0_i32_58
  let v113 : BitVec 32 := Scalar.extui v112
  let c0_i32_59 : BitVec 32 := 0#32
  let v114 : BitVec 1 := Scalar.cmpi .slt v110 c0_i32_59
  let v115 : BitVec 32 := Scalar.extui v114
  let v116 : BitVec 32 := Scalar.subi v113 v115
  let c2_i32 : BitVec 32 := 2#32
  let c0_i32_60 : BitVec 32 := 0#32
  let v117 : BitVec 1 := Scalar.cmpi .sgt c2_i32 c0_i32_60
  let v118 : BitVec 32 := Scalar.extui v117
  let c0_i32_61 : BitVec 32 := 0#32
  let v119 : BitVec 1 := Scalar.cmpi .slt c2_i32 c0_i32_61
  let v120 : BitVec 32 := Scalar.extui v119
  let v121 : BitVec 32 := Scalar.subi v118 v120
  let v122 : BitVec 1 := Scalar.cmpi .ne v116 v121
  let v123 : BitVec 32 := Scalar.remsi v110 c2_i32
  let c0_i32_62 : BitVec 32 := 0#32
  let v124 : BitVec 1 := Scalar.cmpi .ne v123 c0_i32_62
  let v125 : BitVec 1 := Scalar.andi v122 v124
  let v111 : BitVec 32 := Scalar.divsi v110 c2_i32
  let c1_i32_63 : BitVec 32 := 1#32
  let v126 : BitVec 32 := Scalar.subi v111 c1_i32_63
  let v127 : BitVec 32 := Scalar.select v125 v126 v111
  let v134 : BitVec 32 := Scalar.muli c2_i32_70 v127
  let v135 : BitVec 32 := Scalar.addi v133 v134
  let c512_i32_102 : BitVec 32 := 512#32
  let v177 : BitVec 32 := Scalar.muli v135 c512_i32_102
  let v178 : BitVec 32 := v177
  let v184 : Index := Scalar.indexCast v178
  let c0_106 : Index := 0#32
  ![v184.toNat, 0]
def k0_off19 (i : grid0.Coords) : Fin 2 → Nat :=
  let arg1 : BitVec 32 := BitVec.ofNat 32 (i 1).val
  let c1_i32_69 : BitVec 32 := 1#32
  let v133 : BitVec 32 := Scalar.addi arg1 c1_i32_69
  let c2_i32_70 : BitVec 32 := 2#32
  let c7_i32 : BitVec 32 := 7#32
  let v20 : BitVec 32 := Scalar.subi c7_i32 arg1
  let c1_i32 : BitVec 32 := 1#32
  let v109 : BitVec 32 := Scalar.subi v20 c1_i32
  let c0_i32_57 : BitVec 32 := 0#32
  let v110 : BitVec 32 := Scalar.maxsi v109 c0_i32_57
  let c0_i32_58 : BitVec 32 := 0#32
  let v112 : BitVec 1 := Scalar.cmpi .sgt v110 c0_i32_58
  let v113 : BitVec 32 := Scalar.extui v112
  let c0_i32_59 : BitVec 32 := 0#32
  let v114 : BitVec 1 := Scalar.cmpi .slt v110 c0_i32_59
  let v115 : BitVec 32 := Scalar.extui v114
  let v116 : BitVec 32 := Scalar.subi v113 v115
  let c2_i32 : BitVec 32 := 2#32
  let c0_i32_60 : BitVec 32 := 0#32
  let v117 : BitVec 1 := Scalar.cmpi .sgt c2_i32 c0_i32_60
  let v118 : BitVec 32 := Scalar.extui v117
  let c0_i32_61 : BitVec 32 := 0#32
  let v119 : BitVec 1 := Scalar.cmpi .slt c2_i32 c0_i32_61
  let v120 : BitVec 32 := Scalar.extui v119
  let v121 : BitVec 32 := Scalar.subi v118 v120
  let v122 : BitVec 1 := Scalar.cmpi .ne v116 v121
  let v123 : BitVec 32 := Scalar.remsi v110 c2_i32
  let c0_i32_62 : BitVec 32 := 0#32
  let v124 : BitVec 1 := Scalar.cmpi .ne v123 c0_i32_62
  let v125 : BitVec 1 := Scalar.andi v122 v124
  let v111 : BitVec 32 := Scalar.divsi v110 c2_i32
  let c1_i32_63 : BitVec 32 := 1#32
  let v126 : BitVec 32 := Scalar.subi v111 c1_i32_63
  let v127 : BitVec 32 := Scalar.select v125 v126 v111
  let v134 : BitVec 32 := Scalar.muli c2_i32_70 v127
  let v135 : BitVec 32 := Scalar.addi v133 v134
  let c512_i32_102 : BitVec 32 := 512#32
  let v177 : BitVec 32 := Scalar.muli v135 c512_i32_102
  let v178 : BitVec 32 := v177
  let v216 : Index := Scalar.indexCast v178
  let c0_122 : Index := 0#32
  ![v216.toNat, 0]
def k0_mult23 (i : grid0.Coords) : BitVec 32 :=
  let arg1 : BitVec 32 := BitVec.ofNat 32 (i 1).val
  let c1_i32_69 : BitVec 32 := 1#32
  let v133 : BitVec 32 := Scalar.addi arg1 c1_i32_69
  let c2_i32_70 : BitVec 32 := 2#32
  let c7_i32 : BitVec 32 := 7#32
  let v20 : BitVec 32 := Scalar.subi c7_i32 arg1
  let c1_i32 : BitVec 32 := 1#32
  let v109 : BitVec 32 := Scalar.subi v20 c1_i32
  let c0_i32_57 : BitVec 32 := 0#32
  let v110 : BitVec 32 := Scalar.maxsi v109 c0_i32_57
  let c0_i32_58 : BitVec 32 := 0#32
  let v112 : BitVec 1 := Scalar.cmpi .sgt v110 c0_i32_58
  let v113 : BitVec 32 := Scalar.extui v112
  let c0_i32_59 : BitVec 32 := 0#32
  let v114 : BitVec 1 := Scalar.cmpi .slt v110 c0_i32_59
  let v115 : BitVec 32 := Scalar.extui v114
  let v116 : BitVec 32 := Scalar.subi v113 v115
  let c2_i32 : BitVec 32 := 2#32
  let c0_i32_60 : BitVec 32 := 0#32
  let v117 : BitVec 1 := Scalar.cmpi .sgt c2_i32 c0_i32_60
  let v118 : BitVec 32 := Scalar.extui v117
  let c0_i32_61 : BitVec 32 := 0#32
  let v119 : BitVec 1 := Scalar.cmpi .slt c2_i32 c0_i32_61
  let v120 : BitVec 32 := Scalar.extui v119
  let v121 : BitVec 32 := Scalar.subi v118 v120
  let v122 : BitVec 1 := Scalar.cmpi .ne v116 v121
  let v123 : BitVec 32 := Scalar.remsi v110 c2_i32
  let c0_i32_62 : BitVec 32 := 0#32
  let v124 : BitVec 1 := Scalar.cmpi .ne v123 c0_i32_62
  let v125 : BitVec 1 := Scalar.andi v122 v124
  let v111 : BitVec 32 := Scalar.divsi v110 c2_i32
  let c1_i32_63 : BitVec 32 := 1#32
  let v126 : BitVec 32 := Scalar.subi v111 c1_i32_63
  let v127 : BitVec 32 := Scalar.select v125 v126 v111
  let v134 : BitVec 32 := Scalar.muli c2_i32_70 v127
  let v135 : BitVec 32 := Scalar.addi v133 v134
  let c1_i32_125 : BitVec 32 := 1#32
  let v224 : BitVec 32 := Scalar.addi v135 c1_i32_125
  let c512_i32_126 : BitVec 32 := 512#32
  let v225 : BitVec 32 := Scalar.muli v224 c512_i32_126
  v225
def k0_off20 (i : grid0.Coords) : Fin 2 → Nat :=
  let arg1 : BitVec 32 := BitVec.ofNat 32 (i 1).val
  let c1_i32_69 : BitVec 32 := 1#32
  let v133 : BitVec 32 := Scalar.addi arg1 c1_i32_69
  let c2_i32_70 : BitVec 32 := 2#32
  let c7_i32 : BitVec 32 := 7#32
  let v20 : BitVec 32 := Scalar.subi c7_i32 arg1
  let c1_i32 : BitVec 32 := 1#32
  let v109 : BitVec 32 := Scalar.subi v20 c1_i32
  let c0_i32_57 : BitVec 32 := 0#32
  let v110 : BitVec 32 := Scalar.maxsi v109 c0_i32_57
  let c0_i32_58 : BitVec 32 := 0#32
  let v112 : BitVec 1 := Scalar.cmpi .sgt v110 c0_i32_58
  let v113 : BitVec 32 := Scalar.extui v112
  let c0_i32_59 : BitVec 32 := 0#32
  let v114 : BitVec 1 := Scalar.cmpi .slt v110 c0_i32_59
  let v115 : BitVec 32 := Scalar.extui v114
  let v116 : BitVec 32 := Scalar.subi v113 v115
  let c2_i32 : BitVec 32 := 2#32
  let c0_i32_60 : BitVec 32 := 0#32
  let v117 : BitVec 1 := Scalar.cmpi .sgt c2_i32 c0_i32_60
  let v118 : BitVec 32 := Scalar.extui v117
  let c0_i32_61 : BitVec 32 := 0#32
  let v119 : BitVec 1 := Scalar.cmpi .slt c2_i32 c0_i32_61
  let v120 : BitVec 32 := Scalar.extui v119
  let v121 : BitVec 32 := Scalar.subi v118 v120
  let v122 : BitVec 1 := Scalar.cmpi .ne v116 v121
  let v123 : BitVec 32 := Scalar.remsi v110 c2_i32
  let c0_i32_62 : BitVec 32 := 0#32
  let v124 : BitVec 1 := Scalar.cmpi .ne v123 c0_i32_62
  let v125 : BitVec 1 := Scalar.andi v122 v124
  let v111 : BitVec 32 := Scalar.divsi v110 c2_i32
  let c1_i32_63 : BitVec 32 := 1#32
  let v126 : BitVec 32 := Scalar.subi v111 c1_i32_63
  let v127 : BitVec 32 := Scalar.select v125 v126 v111
  let v134 : BitVec 32 := Scalar.muli c2_i32_70 v127
  let v135 : BitVec 32 := Scalar.addi v133 v134
  let c1_i32_125 : BitVec 32 := 1#32
  let v224 : BitVec 32 := Scalar.addi v135 c1_i32_125
  let c512_i32_126 : BitVec 32 := 512#32
  let v225 : BitVec 32 := Scalar.muli v224 c512_i32_126
  let v226 : BitVec 32 := v225
  let v264 : Index := Scalar.indexCast v226
  let c0_146 : Index := 0#32
  ![v264.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "log2_e" => some (((Real.log 2)⁻¹ : ℝ) : EReal)
  | "scale_log2_e" => some (((11863283 / 134217728) * (Real.log 2)⁻¹ : ℝ) : EReal)
  | _ => none
-- ==== ReferenceIdeal.lean ====
abbrev S4096x7168 : Shape := ⟨2, ![4096, 7168]⟩
abbrev S8x4096 : Shape := ⟨2, ![8, 4096]⟩
abbrev S4096x1024 : Shape := ⟨2, ![4096, 1024]⟩
abbrev S4096x8x128 : Shape := ⟨3, ![4096, 8, 128]⟩
abbrev S8x4096x4096 : Shape := ⟨3, ![8, 4096, 4096]⟩
abbrev S_ : Shape := ⟨0, ![]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x128x4096 : Shape := ⟨3, ![8, 128, 4096]⟩
abbrev S8x4096x128 : Shape := ⟨3, ![8, 4096, 128]⟩
abbrev S8x8x4096 : Shape := ⟨3, ![8, 8, 4096]⟩

abbrev nBuf : Space → Nat
  | .hbm => 137
  | .vmem => 0
  | .smem => 0
  | _ => 0

abbrev hbmTy0_0 (i : Nat) : BufTy := match i % 128 with
  | 0 => ⟨S4096x7168, .bf16⟩
  | 1 => ⟨S8x4096, .f32⟩
  | 2 => ⟨S4096x1024, .bf16⟩
  | 3 => ⟨S4096x1024, .bf16⟩
  | 4 => ⟨S4096x1024, .f32⟩
  | 5 => ⟨S4096x8x128, .f32⟩
  | 6 => ⟨S4096x1024, .bf16⟩
  | 7 => ⟨S4096x1024, .f32⟩
  | 8 => ⟨S4096x8x128, .f32⟩
  | 9 => ⟨S4096x1024, .bf16⟩
  | 10 => ⟨S4096x1024, .f32⟩
  | 11 => ⟨S4096x8x128, .f32⟩
  | 12 => ⟨S4096x8x128, .bf16⟩
  | 13 => ⟨S8x4096x4096, .f32⟩
  | 14 => ⟨S8x4096x4096, .bf16⟩
  | 15 => ⟨S8x4096x4096, .f32⟩
  | 16 => ⟨S_, .f32⟩
  | 17 => ⟨S8x4096x4096, .f32⟩
  | 18 => ⟨S8x4096x4096, .f32⟩
  | 19 => ⟨S8x4096x1, .f32⟩
  | 20 => ⟨S8x4096x4096, .f32⟩
  | 21 => ⟨S8x4096x4096, .f32⟩
  | 22 => ⟨S8x1x4096, .f32⟩
  | 23 => ⟨S8x4096x4096, .f32⟩
  | 24 => ⟨S8x4096x4096, .f32⟩
  | 25 => ⟨S4096, .i32⟩
  | 26 => ⟨S1x4096, .i32⟩
  | 27 => ⟨S4096, .i32⟩
  | 28 => ⟨S4096x1, .i32⟩
  | 29 => ⟨S4096x4096, .i32⟩
  | 30 => ⟨S4096x4096, .i32⟩
  | 31 => ⟨S4096x4096, .i1⟩
  | 32 => ⟨S_, .f32⟩
  | 33 => ⟨S_, .f32⟩
  | 34 => ⟨S8x4096x4096, .i1⟩
  | 35 => ⟨S8x4096x4096, .f32⟩
  | 36 => ⟨S8x4096x4096, .f32⟩
  | 37 => ⟨S_, .f32⟩
  | 38 => ⟨S8x4096x4096, .f32⟩
  | 39 => ⟨S_, .f32⟩
  | 40 => ⟨S8x4096, .f32⟩
  | 41 => ⟨S8x4096x1, .f32⟩
  | 42 => ⟨S8x4096x4096, .f32⟩
  | 43 => ⟨S8x4096x4096, .i1⟩
  | 44 => ⟨S8x4096x4096, .f32⟩
  | 45 => ⟨S_, .f32⟩
  | 46 => ⟨S8x4096, .f32⟩
  | 47 => ⟨S_, .f32⟩
  | 48 => ⟨S8x4096, .f32⟩
  | 49 => ⟨S8x4096, .f32⟩
  | 50 => ⟨S_, .f32⟩
  | 51 => ⟨S8x4096, .f32⟩
  | 52 => ⟨S8x4096, .i1⟩
  | 53 => ⟨S_, .f32⟩
  | 54 => ⟨S8x4096, .f32⟩
  | 55 => ⟨S8x4096, .i1⟩
  | 56 => ⟨S_, .f32⟩
  | 57 => ⟨S8x4096, .f32⟩
  | 58 => ⟨S_, .f32⟩
  | 59 => ⟨S8x4096, .f32⟩
  | 60 => ⟨S_, .f32⟩
  | 61 => ⟨S8x4096, .f32⟩
  | 62 => ⟨S8x4096, .f32⟩
  | 63 => ⟨S8x4096, .f32⟩
  | 64 => ⟨S8x4096x1, .f32⟩
  | 65 => ⟨S8x4096x4096, .f32⟩
  | 66 => ⟨S8x4096x4096, .f32⟩
  | 67 => ⟨S8x4096x4096, .f32⟩
  | 68 => ⟨S_, .f32⟩
  | 69 => ⟨S8x4096, .f32⟩
  | 70 => ⟨S8x4096x1, .f32⟩
  | 71 => ⟨S8x4096x4096, .f32⟩
  | 72 => ⟨S8x4096x4096, .f32⟩
  | 73 => ⟨S8x4096x1, .f32⟩
  | 74 => ⟨S_, .f32⟩
  | 75 => ⟨S8x4096x1, .f32⟩
  | 76 => ⟨S8x4096x1, .f32⟩
  | 77 => ⟨S8x4096x4096, .bf16⟩
  | 78 => ⟨S8x4096x4096, .f32⟩
  | 79 => ⟨S8x128x4096, .f32⟩
  | 80 => ⟨S4096x8x128, .f32⟩
  | 81 => ⟨S4096x8x128, .bf16⟩
  | 82 => ⟨S4096x8x128, .f32⟩
  | 83 => ⟨S8x128x4096, .f32⟩
  | 84 => ⟨S8x4096x4096, .f32⟩
  | 85 => ⟨S8x128x4096, .f32⟩
  | 86 => ⟨S4096x8x128, .f32⟩
  | 87 => ⟨S8x4096x4096, .bf16⟩
  | 88 => ⟨S8x4096x4096, .f32⟩
  | 89 => ⟨S8x4096x4096, .f32⟩
  | 90 => ⟨S8x4096x4096, .f32⟩
  | 91 => ⟨S8x4096x4096, .f32⟩
  | 92 => ⟨S_, .f32⟩
  | 93 => ⟨S8x4096, .f32⟩
  | 94 => ⟨S8x4096x1, .f32⟩
  | 95 => ⟨S8x4096x1, .f32⟩
  | 96 => ⟨S8x4096x4096, .f32⟩
  | 97 => ⟨S8x4096x4096, .f32⟩
  | 98 => ⟨S_, .f32⟩
  | 99 => ⟨S8x4096, .f32⟩
  | 100 => ⟨S8x4096x4096, .f32⟩
  | 101 => ⟨S8x4096x4096, .f32⟩
  | 102 => ⟨S8x4096x4096, .f32⟩
  | 103 => ⟨S_, .f32⟩
  | 104 => ⟨S8x4096x4096, .f32⟩
  | 105 => ⟨S8x4096x4096, .f32⟩
  | 106 => ⟨S8x4096x4096, .f32⟩
  | 107 => ⟨S_, .f32⟩
  | 108 => ⟨S8x4096, .f32⟩
  | 109 => ⟨S8x1x4096, .f32⟩
  | 110 => ⟨S_, .f32⟩
  | 111 => ⟨S8x4096, .f32⟩
  | 112 => ⟨S_, .f32⟩
  | 113 => ⟨S8x4096, .f32⟩
  | 114 => ⟨S8x4096x1, .f32⟩
  | 115 => ⟨S_, .f32⟩
  | 116 => ⟨S8x4096, .f32⟩
  | 117 => ⟨S_, .f32⟩
  | 118 => ⟨S8x4096x4096, .f32⟩
  | 119 => ⟨S8x4096x4096, .f32⟩
  | 120 => ⟨S8x4096x4096, .bf16⟩
  | 121 => ⟨S8x4096x4096, .f32⟩
  | 122 => ⟨S8x4096x128, .f32⟩
  | 123 => ⟨S4096x8x128, .f32⟩
  | 124 => ⟨S8x4096x128, .f32⟩
  | 125 => ⟨S4096x8x128, .f32⟩
  | 126 => ⟨S4096x1024, .f32⟩
  | 127 => ⟨S4096x1024, .bf16⟩
  | _ => ⟨S4096x7168, .bf16⟩

abbrev hbmTy0_1 (i : Nat) : BufTy := match i % 128 with
  | 0 => ⟨S4096x1024, .f32⟩
  | 1 => ⟨S4096x1024, .bf16⟩
  | 2 => ⟨S4096x1024, .f32⟩
  | 3 => ⟨S4096x1024, .bf16⟩
  | 4 => ⟨S8x1x4096, .f32⟩
  | 5 => ⟨S8x8x4096, .f32⟩
  | 6 => ⟨S8x4096, .f32⟩
  | 7 => ⟨S8x1x4096, .f32⟩
  | 8 => ⟨S8x8x4096, .f32⟩
  | _ => ⟨S4096x7168, .bf16⟩

abbrev hbmTy (i : Nat) : BufTy := match i / 128 with
  | 0 => hbmTy0_0 i
  | 1 => hbmTy0_1 i
  | _ => ⟨S4096x7168, .bf16⟩

abbrev bufTy : (tb : Table) → Fin (tcTables nBuf tb) → BufTy
  | .hbm, ⟨i, _⟩ => hbmTy i
  | _, _ => ⟨S4096x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_cst_0 : Ref sig .tc := ⟨.hbm, 32, rfl⟩
abbrev main_call0_v0 : Ref sig .tc := ⟨.hbm, 33, rfl⟩
abbrev main_v28_1 : Ref sig .tc := ⟨.hbm, 34, rfl⟩
abbrev main_call0_v2 : Ref sig .tc := ⟨.hbm, 35, rfl⟩
abbrev main_v28_0 : Ref sig .tc := ⟨.hbm, 36, rfl⟩
abbrev main_call0_cst : Ref sig .tc := ⟨.hbm, 37, rfl⟩
abbrev main_v28_2 : Ref sig .tc := ⟨.hbm, 38, rfl⟩
abbrev main_cst_1 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_2 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_9 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_10 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_cst_11 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_12 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_call1_cst : Ref sig .tc := ⟨.hbm, 103, rfl⟩
abbrev main_call1_v0 : Ref sig .tc := ⟨.hbm, 104, rfl⟩
abbrev main_v81 : Ref sig .tc := ⟨.hbm, 105, rfl⟩
abbrev main_v82 : Ref sig .tc := ⟨.hbm, 106, rfl⟩
abbrev main_cst_13 : Ref sig .tc := ⟨.hbm, 107, rfl⟩
abbrev main_v83 : Ref sig .tc := ⟨.hbm, 108, rfl⟩
abbrev main_v84 : Ref sig .tc := ⟨.hbm, 109, rfl⟩
abbrev main_cst_14 : Ref sig .tc := ⟨.hbm, 110, rfl⟩
abbrev main_v85 : Ref sig .tc := ⟨.hbm, 111, rfl⟩
abbrev main_cst_15 : Ref sig .tc := ⟨.hbm, 112, rfl⟩
abbrev main_v86 : Ref sig .tc := ⟨.hbm, 113, rfl⟩
abbrev main_v87 : Ref sig .tc := ⟨.hbm, 114, rfl⟩
abbrev main_cst_16 : Ref sig .tc := ⟨.hbm, 115, rfl⟩
abbrev main_v88 : Ref sig .tc := ⟨.hbm, 116, rfl⟩
abbrev main_cst_17 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩

abbrev nD : Nat := 1
abbrev τ : Topo := Topo.v7x

variable {F : FTy → Type} [FloatOps F]
-- ==== KernelDx.lean ====
abbrev S4096x7296 : Shape := ⟨2, ![4096, 7296]⟩
abbrev S7296x2048 : Shape := ⟨2, ![7296, 2048]⟩
abbrev S4096x2048 : Shape := ⟨2, ![4096, 2048]⟩
abbrev S1024x2432 : Shape := ⟨2, ![1024, 2432]⟩
abbrev S2432x1024 : Shape := ⟨2, ![2432, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x7296, .bf16⟩
  | .hbm, ⟨1, _⟩ => ⟨S7296x2048, .bf16⟩
  | .hbm, ⟨2, _⟩ => ⟨S4096x2048, .f32⟩
  | .hbm, ⟨3, _⟩ => ⟨S4096x2048, .f32⟩
  | .local _ .vmem, ⟨0, _⟩ => ⟨S1024x2432, .bf16⟩
  | .local _ .vmem, ⟨1, _⟩ => ⟨S1024x2432, .bf16⟩
  | .local _ .vmem, ⟨2, _⟩ => ⟨S2432x1024, .bf16⟩
  | .local _ .vmem, ⟨3, _⟩ => ⟨S2432x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x7296, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 3], ![false, false, false]⟩

def k0_cond3 (i : grid0.Coords) : BitVec 1 :=
  let arg2 : BitVec 32 := BitVec.ofNat 32 (i 2).val
  let c2_i32_6 : BitVec 32 := 2#32
  let v11 : BitVec 1 := Scalar.cmpi .eq arg2 c2_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2432 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2432x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDxIdeal.lean ====
abbrev S4096x7296 : Shape := ⟨2, ![4096, 7296]⟩
abbrev S7296x2048 : Shape := ⟨2, ![7296, 2048]⟩
abbrev S4096x2048 : Shape := ⟨2, ![4096, 2048]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x7296, .bf16⟩
  | .hbm, ⟨1, _⟩ => ⟨S7296x2048, .bf16⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S7296x2048, .f32⟩
  | .hbm, ⟨6, _⟩ => ⟨S4096x7296, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S4096x7296, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | _, _ => ⟨S4096x7296, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== KernelDw.lean ====
abbrev S4096x7296 : Shape := ⟨2, ![4096, 7296]⟩
abbrev S4096x2048 : Shape := ⟨2, ![4096, 2048]⟩
abbrev S7168x2048 : Shape := ⟨2, ![7168, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x7296, .bf16⟩
  | .hbm, ⟨1, _⟩ => ⟨S4096x2048, .bf16⟩
  | .hbm, ⟨2, _⟩ => ⟨S7168x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x7296, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![7, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwIdeal.lean ====
abbrev S4096x7296 : Shape := ⟨2, ![4096, 7296]⟩
abbrev S4096x2048 : Shape := ⟨2, ![4096, 2048]⟩
abbrev S_ : Shape := ⟨0, ![]⟩
abbrev S7168x2048 : Shape := ⟨2, ![7168, 2048]⟩
abbrev S4096x7168 : Shape := ⟨2, ![4096, 7168]⟩

abbrev nBuf : Space → Nat
  | .hbm => 10
  | .vmem => 0
  | .smem => 0
  | _ => 0

abbrev bufTy : (tb : Table) → Fin (tcTables nBuf tb) → BufTy
  | .hbm, ⟨0, _⟩ => ⟨S4096x7296, .bf16⟩
  | .hbm, ⟨1, _⟩ => ⟨S4096x2048, .bf16⟩
  | .hbm, ⟨2, _⟩ => ⟨S_, .f32⟩
  | .hbm, ⟨3, _⟩ => ⟨S7168x2048, .f32⟩
  | .hbm, ⟨4, _⟩ => ⟨S4096x2048, .f32⟩
  | .hbm, ⟨5, _⟩ => ⟨S4096x7168, .f32⟩
  | .hbm, ⟨6, _⟩ => ⟨S4096x7168, .bf16⟩
  | .hbm, ⟨7, _⟩ => ⟨S4096x7168, .f32⟩
  | .hbm, ⟨8, _⟩ => ⟨S7168x2048, .f32⟩
  | .hbm, ⟨9, _⟩ => ⟨S7168x2048, .bf16⟩
  | _, _ => ⟨S4096x7296, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDy.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDyIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDwo.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwoIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDwf.lean ====
abbrev S4096x128 : Shape := ⟨2, ![4096, 128]⟩
abbrev S4096x2048 : Shape := ⟨2, ![4096, 2048]⟩
abbrev S128x2048 : Shape := ⟨2, ![128, 2048]⟩
abbrev S2048x128 : Shape := ⟨2, ![2048, 128]⟩
abbrev S2048x1024 : Shape := ⟨2, ![2048, 1024]⟩
abbrev S128x1024 : Shape := ⟨2, ![128, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x128, .bf16⟩
  | .hbm, ⟨1, _⟩ => ⟨S4096x2048, .bf16⟩
  | .hbm, ⟨2, _⟩ => ⟨S128x2048, .f32⟩
  | .local _ .vmem, ⟨0, _⟩ => ⟨S2048x128, .bf16⟩
  | .local _ .vmem, ⟨1, _⟩ => ⟨S2048x128, .bf16⟩
  | .local _ .vmem, ⟨2, _⟩ => ⟨S2048x1024, .bf16⟩
  | .local _ .vmem, ⟨3, _⟩ => ⟨S2048x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwfIdeal.lean ====
abbrev S4096x128 : Shape := ⟨2, ![4096, 128]⟩
abbrev S4096x2048 : Shape := ⟨2, ![4096, 2048]⟩
abbrev S_ : Shape := ⟨0, ![]⟩
abbrev S128x2048 : Shape := ⟨2, ![128, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S4096x2048, .bf16⟩
  | .hbm, ⟨2, _⟩ => ⟨S_, .f32⟩
  | .hbm, ⟨3, _⟩ => ⟨S128x2048, .f32⟩
  | .hbm, ⟨4, _⟩ => ⟨S4096x2048, .f32⟩
  | .hbm, ⟨5, _⟩ => ⟨S4096x128, .f32⟩
  | .hbm, ⟨6, _⟩ => ⟨S4096x128, .f32⟩
  | .hbm, ⟨7, _⟩ => ⟨S128x2048, .f32⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelMain.lean ====
abbrev S4096x2048 : Shape := ⟨2, ![4096, 2048]⟩
abbrev S7296x2048 : Shape := ⟨2, ![7296, 2048]⟩
abbrev S4096x7168 : Shape := ⟨2, ![4096, 7168]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S7296x2048, .bf16⟩
  | .hbm, ⟨2, _⟩ => ⟨S4096x7168, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceMainIdeal.lean ====
abbrev S4096x2048 : Shape := ⟨2, ![4096, 2048]⟩
abbrev S7296x2048 : Shape := ⟨2, ![7296, 2048]⟩
abbrev S7168x2048 : Shape := ⟨2, ![7168, 2048]⟩
abbrev S4096x7168 : Shape := ⟨2, ![4096, 7168]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S7296x2048, .bf16⟩
  | .hbm, ⟨2, _⟩ => ⟨S4096x2048, .f32⟩
  | .hbm, ⟨3, _⟩ => ⟨S7168x2048, .bf16⟩
  | .hbm, ⟨4, _⟩ => ⟨S7168x2048, .f32⟩
  | .hbm, ⟨5, _⟩ => ⟨S4096x7168, .f32⟩
  | .hbm, ⟨6, _⟩ => ⟨S4096x7168, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelFg.lean ====
abbrev S4096x2048 : Shape := ⟨2, ![4096, 2048]⟩
abbrev S128x2048 : Shape := ⟨2, ![128, 2048]⟩
abbrev S4096x128 : Shape := ⟨2, ![4096, 128]⟩
abbrev S1024x2048 : Shape := ⟨2, ![1024, 2048]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S128x2048, .bf16⟩
  | .hbm, ⟨2, _⟩ => ⟨S4096x128, .f32⟩
  | .local _ .vmem, ⟨0, _⟩ => ⟨S1024x2048, .bf16⟩
  | .local _ .vmem, ⟨1, _⟩ => ⟨S1024x2048, .bf16⟩
  | .local _ .vmem, ⟨2, _⟩ => ⟨S128x2048, .bf16⟩
  | .local _ .vmem, ⟨3, _⟩ => ⟨S1024x128, .f32⟩
  | .local _ .vmem, ⟨4, _⟩ => ⟨S1024x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceFgIdeal.lean ====
abbrev S4096x2048 : Shape := ⟨2, ![4096, 2048]⟩
abbrev S128x2048 : Shape := ⟨2, ![128, 2048]⟩
abbrev S4096x128 : Shape := ⟨2, ![4096, 128]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S128x2048, .bf16⟩
  | .hbm, ⟨2, _⟩ => ⟨S4096x2048, .f32⟩
  | .hbm, ⟨3, _⟩ => ⟨S128x2048, .f32⟩
  | .hbm, ⟨4, _⟩ => ⟨S4096x128, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelOut.lean ====
abbrev S4096x2048 : Shape := ⟨2, ![4096, 2048]⟩
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S4096x2048, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S256x2048, .f32⟩
  | .local _ .vmem, ⟨12, _⟩ => ⟨S256x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceOutIdeal.lean ====
abbrev S4096x2048 : Shape := ⟨2, ![4096, 2048]⟩
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S4096 : Shape := ⟨1, ![4096]⟩
abbrev S4096x1 : Shape := ⟨2, ![4096, 1]⟩

abbrev nBuf : Space → Nat
  | .hbm => 44
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S2048x2048, .f32⟩
  | .hbm, ⟨10, _⟩ => ⟨S4096x2048, .f32⟩
  | .hbm, ⟨11, _⟩ => ⟨S4096x2048, .f32⟩
  | .hbm, ⟨12, _⟩ => ⟨S2048, .f32⟩
  | .hbm, ⟨13, _⟩ => ⟨S2048, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x2048, .f32⟩
  | .hbm, ⟨36, _⟩ => ⟨S4096x2048, .f32⟩
  | .hbm, ⟨37, _⟩ => ⟨S1x2048, .f32⟩
  | .hbm, ⟨38, _⟩ => ⟨S4096x2048, .f32⟩
  | .hbm, ⟨39, _⟩ => ⟨S4096x2048, .f32⟩
  | .hbm, ⟨40, _⟩ => ⟨S1x2048, .f32⟩
  | .hbm, ⟨41, _⟩ => ⟨S4096x2048, .f32⟩
  | .hbm, ⟨42, _⟩ => ⟨S4096x2048, .f32⟩
  | .hbm, ⟨43, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== KernelLn.lean ====
abbrev S4096x2048 : Shape := ⟨2, ![4096, 2048]⟩
abbrev S1x2048 : Shape := ⟨2, ![1, 2048]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .bf16⟩
  | .hbm, ⟨5, _⟩ => ⟨S8x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S8x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceLnIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S6x2048 : Shape := ⟨2, ![6, 2048]⟩
abbrev S8x2048 : Shape := ⟨2, ![8, 2048]⟩

abbrev nBuf : Space → Nat
  | .hbm => 93
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S2048, .f32⟩
  | .hbm, ⟨4, _⟩ => ⟨S_, .f32⟩
  | .hbm, ⟨5, _⟩ => ⟨S2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x2048, .f32⟩
  | .hbm, ⟨35, _⟩ => ⟨S4096x2048, .f32⟩
  | .hbm, ⟨36, _⟩ => ⟨S1x2048, .f32⟩
  | .hbm, ⟨37, _⟩ => ⟨S4096x2048, .f32⟩
  | .hbm, ⟨38, _⟩ => ⟨S4096x2048, .f32⟩
  | .hbm, ⟨39, _⟩ => ⟨S1x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S_, .f32⟩
  | .hbm, ⟨44, _⟩ => ⟨S2048, .f32⟩
  | .hbm, ⟨45, _⟩ => ⟨S1x2048, .f32⟩
  | .hbm, ⟨46, _⟩ => ⟨S_, .f32⟩
  | .hbm, ⟨47, _⟩ => ⟨S2048, .f32⟩
  | .hbm, ⟨48, _⟩ => ⟨S4096x2048, .f32⟩
  | .hbm, ⟨49, _⟩ => ⟨S_, .f32⟩
  | .hbm, ⟨50, _⟩ => ⟨S2048, .f32⟩
  | .hbm, ⟨51, _⟩ => ⟨S1x2048, .f32⟩
  | .hbm, ⟨52, _⟩ => ⟨S4096x2048, .f32⟩
  | .hbm, ⟨53, _⟩ => ⟨S4096x2048, .f32⟩
  | .hbm, ⟨54, _⟩ => ⟨S_, .f32⟩
  | .hbm, ⟨55, _⟩ => ⟨S2048, .f32⟩
  | .hbm, ⟨56, _⟩ => ⟨S4096x2048, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S4096x2048, .f32⟩
  | .hbm, ⟨61, _⟩ => ⟨S4096x2048, .f32⟩
  | .hbm, ⟨62, _⟩ => ⟨S4096x1, .f32⟩
  | .hbm, ⟨63, _⟩ => ⟨S4096x2048, .f32⟩
  | .hbm, ⟨64, _⟩ => ⟨S_, .f32⟩
  | .hbm, ⟨65, _⟩ => ⟨S4096, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S_, .f32⟩
  | .hbm, ⟨71, _⟩ => ⟨S4096, .f32⟩
  | .hbm, ⟨72, _⟩ => ⟨S4096x2048, .f32⟩
  | .hbm, ⟨73, _⟩ => ⟨S4096x2048, .f32⟩
  | .hbm, ⟨74, _⟩ => ⟨S4096x2048, .f32⟩
  | .hbm, ⟨75, _⟩ => ⟨S_, .f32⟩
  | .hbm, ⟨76, _⟩ => ⟨S4096, .f32⟩
  | .hbm, ⟨77, _⟩ => ⟨S4096x1, .f32⟩
  | .hbm, ⟨78, _⟩ => ⟨S4096x2048, .f32⟩
  | .hbm, ⟨79, _⟩ => ⟨S4096x1, .f32⟩
  | .hbm, ⟨80, _⟩ => ⟨S_, .f32⟩
  | .hbm, ⟨81, _⟩ => ⟨S4096x1, .f32⟩
  | .hbm, ⟨82, _⟩ => ⟨S4096x1, .f32⟩
  | .hbm, ⟨83, _⟩ => ⟨S_, .f32⟩
  | .hbm, ⟨84, _⟩ => ⟨S4096, .f32⟩
  | .hbm, ⟨85, _⟩ => ⟨S4096x2048, .f32⟩
  | .hbm, ⟨86, _⟩ => ⟨S4096x2048, .f32⟩
  | .hbm, ⟨87, _⟩ => ⟨S4096x2048, .bf16⟩
  | .hbm, ⟨88, _⟩ => ⟨S1x2048, .f32⟩
  | .hbm, ⟨89, _⟩ => ⟨S1x2048, .f32⟩
  | .hbm, ⟨90, _⟩ => ⟨S_, .f32⟩
  | .hbm, ⟨91, _⟩ => ⟨S6x2048, .f32⟩
  | .hbm, ⟨92, _⟩ => ⟨S8x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_v33 : Ref sig .tc := ⟨.hbm, 45, rfl⟩
abbrev main_cst_8 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_10 : Ref sig .tc := ⟨.hbm, 54, rfl⟩
abbrev main_v40 : Ref sig .tc := ⟨.hbm, 55, rfl⟩
abbrev main_v41 : Ref sig .tc := ⟨.hbm, 56, rfl⟩
abbrev main_cst_11 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_12 : Ref sig .tc := ⟨.hbm, 64, rfl⟩
abbrev main_v48 : Ref sig .tc := ⟨.hbm, 65, rfl⟩
abbrev main_v49 : Ref sig .tc := ⟨.hbm, 66, rfl⟩
abbrev main_cst_13 : Ref sig .tc := ⟨.hbm, 67, rfl⟩
abbrev main_v50 : Ref sig .tc := ⟨.hbm, 68, rfl⟩
abbrev main_v51 : Ref sig .tc := ⟨.hbm, 69, rfl⟩
abbrev main_cst_14 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_15 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_16 : Ref sig .tc := ⟨.hbm, 80, rfl⟩
abbrev main_v60 : Ref sig .tc := ⟨.hbm, 81, rfl⟩
abbrev main_v61 : Ref sig .tc := ⟨.hbm, 82, rfl⟩
abbrev main_cst_17 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_18 : Ref sig .tc := ⟨.hbm, 90, rfl⟩
abbrev main_v68 : Ref sig .tc := ⟨.hbm, 91, rfl⟩
abbrev main_v69 : Ref sig .tc := ⟨.hbm, 92, rfl⟩

abbrev nD : Nat := 1
abbrev τ : Topo := Topo.v7x

variable {F : FTy → Type} [FloatOps F]
-- ==== KernelFwd.lean ====
abbrev S4096x7168 : Shape := ⟨2, ![4096, 7168]⟩
abbrev S8x4096 : Shape := ⟨2, ![8, 4096]⟩
abbrev S8x8x1x512 : Shape := ⟨4, ![8, 8, 1, 512]⟩
abbrev S4096x1024 : Shape := ⟨2, ![4096, 1024]⟩
abbrev S512x128 : Shape := ⟨2, ![512, 128]⟩
abbrev S4096x128 : Shape := ⟨2, ![4096, 128]⟩
abbrev S1x8x1x512 : Shape := ⟨4, ![1, 8, 1, 512]⟩
abbrev S512x512 : Shape := ⟨2, ![512, 512]⟩
abbrev S1x1x1x512 : Shape := ⟨4, ![1, 1, 1, 512]⟩
abbrev S1x512 : Shape := ⟨2, ![1, 512]⟩
abbrev S512 : Shape := ⟨1, ![512]⟩
abbrev S512x1 : Shape := ⟨2, ![512, 1]⟩

abbrev nBuf : Space → Nat
  | .hbm => 5
  | .vmem => 17
  | .smem => 0
  | _ => 0

abbrev bufTy : (tb : Table) → Fin (tcTables nBuf tb) → BufTy
  | .hbm, ⟨0, _⟩ => ⟨S4096x7168, .bf16⟩
  | .hbm, ⟨1, _⟩ => ⟨S8x4096, .f32⟩
  | .hbm, ⟨2, _⟩ => ⟨S8x8x1x512, .f32⟩
  | .hbm, ⟨3, _⟩ => ⟨S4096x1024, .bf16⟩
  | .hbm, ⟨4, _⟩ => ⟨S4096x1024, .f32⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1x8x1x512, .f32⟩
  | .local _ .vmem, ⟨7, _⟩ => ⟨S1x8x1x512, .f32⟩
  | .local _ .vmem, ⟨8, _⟩ => ⟨S512x128, .bf16⟩
  | .local _ .vmem, ⟨9, _⟩ => ⟨S512x128, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x512, .f32⟩
  | .local _ .vmem, ⟨16, _⟩ => ⟨S512x512, .f32⟩
  | _, _ => ⟨S4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def k0_mult1 : BitVec 32 :=
  let c0_i32 : BitVec 32 := 0#32
  c0_i32
@[reducible] def k0_t1_loop (i : grid0.Coords) : Scf.Loop 32 :=
  let c0_i32_19 : BitVec 32 := 0#32
  let arg1 : BitVec 32 := BitVec.ofNat 32 (i 1).val
  let c0_i32_13 : BitVec 32 := 0#32
  let v21 : BitVec 1 := Scalar.cmpi .sgt arg1 c0_i32_13
  let v22 : BitVec 32 := Scalar.extui v21
  let c0_i32_14 : BitVec 32 := 0#32
  let v23 : BitVec 1 := Scalar.cmpi .slt arg1 c0_i32_14
  let v24 : BitVec 32 := Scalar.extui v23
  let v25 : BitVec 32 := Scalar.subi v22 v24
  let c2_i32 : BitVec 32 := 2#32
  let c0_i32_15 : BitVec 32 := 0#32
  let v26 : BitVec 1 := Scalar.cmpi .sgt c2_i32 c0_i32_15
  let v27 : BitVec 32 := Scalar.extui v26
  let c0_i32_16 : BitVec 32 := 0#32
  let v28 : BitVec 1 := Scalar.cmpi .slt c2_i32 c0_i32_16
  let v29 : BitVec 32 := Scalar.extui v28
  let v30 : BitVec 32 := Scalar.subi v27 v29
  let v31 : BitVec 1 := Scalar.cmpi .ne v25 v30
  let v32 : BitVec 32 := Scalar.remsi arg1 c2_i32
  let c0_i32_17 : BitVec 32 := 0#32
  let v33 : BitVec 1 := Scalar.cmpi .ne v32 c0_i32_17
  let v34 : BitVec 1 := Scalar.andi v31 v33
  let v20 : BitVec 32 := Scalar.divsi arg1 c2_i32
  let c1_i32 : BitVec 32 := 1#32
  let v35 : BitVec 32 := Scalar.subi v20 c1_i32
  let v36 : BitVec 32 := Scalar.select v34 v35 v20
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_21 : BitVec 32 := 1#32
  ⟨c0_i32_19, v41, c1_i32_21⟩
def k0_mult2 (i : grid0.Coords) (k0_t1 : Fin (k0_t1_loop i).trips) : BitVec 32 :=
  let c2_i32_52 : BitVec 32 := 2#32
  let c0_i32_19 : BitVec 32 := 0#32
  let c1_i32_21 : BitVec 32 := 1#32
  let arg13 : BitVec 32 := Scf.iv c0_i32_19 c1_i32_21 k0_t1
  let v80 : BitVec 32 := Scalar.muli c2_i32_52 arg13
  let c1_i32_53 : BitVec 32 := 1#32
  let v81 : BitVec 32 := Scalar.addi v80 c1_i32_53
  let c512_i32 : BitVec 32 := 512#32
  let v83 : BitVec 32 := Scalar.muli v81 c512_i32
  v83
def k0_off1 (i : grid0.Coords) (k0_t1 : Fin (k0_t1_loop i).trips) (c1_i32_53 : BitVec 32) : Fin 2 → Nat :=
  let c2_i32_52 : BitVec 32 := 2#32
  let c0_i32_19 : BitVec 32 := 0#32
  let c1_i32_21 : BitVec 32 := 1#32
  let arg13 : BitVec 32 := Scf.iv c0_i32_19 c1_i32_21 k0_t1
  let v80 : BitVec 32 := Scalar.muli c2_i32_52 arg13
  let v81 : BitVec 32 := Scalar.addi v80 c1_i32_53
  let c512_i32 : BitVec 32 := 512#32
  let v83 : BitVec 32 := Scalar.muli v81 c512_i32
  let v84 : BitVec 32 := v83
  let v85 : Index := Scalar.indexCast v84
  let c0_56 : Index := 0#32
  ![v85.toNat, 0]
def k0_off2 (i : grid0.Coords) (k0_t1 : Fin (k0_t1_loop i).trips) : Fin 4 → Nat :=
  let c0_64 : Index := 0#32
  let c2_i32_60 : BitVec 32 := 2#32
  let c0_i32_19 : BitVec 32 := 0#32
  let c1_i32_21 : BitVec 32 := 1#32
  let arg13 : BitVec 32 := Scf.iv c0_i32_19 c1_i32_21 k0_t1
  let v91 : BitVec 32 := Scalar.muli c2_i32_60 arg13
  let v95 : Index := Scalar.indexCast v91
  let c0_65 : Index := 0#32
  let c0_66 : Index := 0#32
  ![0, v95.toNat, 0, 0]
def k0_mult3 (i : grid0.Coords) (k0_t1 : Fin (k0_t1_loop i).trips) : BitVec 32 :=
  let c2_i32_60 : BitVec 32 := 2#32
  let c0_i32_19 : BitVec 32 := 0#32
  let c1_i32_21 : BitVec 32 := 1#32
  let arg13 : BitVec 32 := Scf.iv c0_i32_19 c1_i32_21 k0_t1
  let v91 : BitVec 32 := Scalar.muli c2_i32_60 arg13
  let c512_i32_78 : BitVec 32 := 512#32
  let v124 : BitVec 32 := Scalar.muli v91 c512_i32_78
  v124
def k0_off3 (i : grid0.Coords) (k0_t1 : Fin (k0_t1_loop i).trips) : Fin 2 → Nat :=
  let c2_i32_60 : BitVec 32 := 2#32
  let c0_i32_19 : BitVec 32 := 0#32
  let c1_i32_21 : BitVec 32 := 1#32
  let arg13 : BitVec 32 := Scf.iv c0_i32_19 c1_i32_21 k0_t1
  let v91 : BitVec 32 := Scalar.muli c2_i32_60 arg13
  let c512_i32_78 : BitVec 32 := 512#32
  let v124 : BitVec 32 := Scalar.muli v91 c512_i32_78
  let v125 : BitVec 32 := v124
  let v126 : Index := Scalar.indexCast v125
  let c0_79 : Index := 0#32
  ![v126.toNat, 0]
def k0_mult4 (i : grid0.Coords) (k0_t1 : Fin (k0_t1_loop i).trips) : BitVec 32 :=
  let c2_i32_85 : BitVec 32 := 2#32
  let c0_i32_19 : BitVec 32 := 0#32
  let c1_i32_21 : BitVec 32 := 1#32
  let arg13 : BitVec 32 := Scf.iv c0_i32_19 c1_i32_21 k0_t1
  let v136 : BitVec 32 := Scalar.muli c2_i32_85 arg13
  let c2_i32_86 : BitVec 32 := 2#32
  let v137 : BitVec 32 := Scalar.addi v136 c2_i32_86
  let c512_i32_89 : BitVec 32 := 512#32
  let v139 : BitVec 32 := Scalar.muli v137 c512_i32_89
  v139
def k0_off4 (i : grid0.Coords) (k0_t1 : Fin (k0_t1_loop i).trips) : Fin 4 → Nat :=
  let c0_99 : Index := 0#32
  let c2_i32_94 : BitVec 32 := 2#32
  let c0_i32_19 : BitVec 32 := 0#32
  let c1_i32_21 : BitVec 32 := 1#32
  let arg13 : BitVec 32 := Scf.iv c0_i32_19 c1_i32_21 k0_t1
  let v147 : BitVec 32 := Scalar.muli c2_i32_94 arg13
  let c1_i32_95 : BitVec 32 := 1#32
  let v148 : BitVec 32 := Scalar.addi v147 c1_i32_95
  let v152 : Index := Scalar.indexCast v148
  let c0_100 : Index := 0#32
  let c0_101 : Index := 0#32
  ![0, v152.toNat, 0, 0]
def k0_mult5 (i : grid0.Coords) (k0_t1 : Fin (k0_t1_loop i).trips) : BitVec 32 :=
  let c2_i32_94 : BitVec 32 := 2#32
  let c0_i32_19 : BitVec 32 := 0#32
  let c1_i32_21 : BitVec 32 := 1#32
  let arg13 : BitVec 32 := Scf.iv c0_i32_19 c1_i32_21 k0_t1
  let v147 : BitVec 32 := Scalar.muli c2_i32_94 arg13
  let c1_i32_95 : BitVec 32 := 1#32
  let v148 : BitVec 32 := Scalar.addi v147 c1_i32_95
  let c512_i32_113 : BitVec 32 := 512#32
  let v181 : BitVec 32 := Scalar.muli v148 c512_i32_113
  v181
@[reducible] def k0_t2_loop (i : grid0.Coords) : Scf.Loop 32 :=
  let c0_i32_19 : BitVec 32 := 0#32
  let arg1 : BitVec 32 := BitVec.ofNat 32 (i 1).val
  let c0_i32_13 : BitVec 32 := 0#32
  let v21 : BitVec 1 := Scalar.cmpi .sgt arg1 c0_i32_13
  let v22 : BitVec 32 := Scalar.extui v21
  let c0_i32_14 : BitVec 32 := 0#32
  let v23 : BitVec 1 := Scalar.cmpi .slt arg1 c0_i32_14
  let v24 : BitVec 32 := Scalar.extui v23
  let v25 : BitVec 32 := Scalar.subi v22 v24
  let c2_i32 : BitVec 32 := 2#32
  let c0_i32_15 : BitVec 32 := 0#32
  let v26 : BitVec 1 := Scalar.cmpi .sgt c2_i32 c0_i32_15
  let v27 : BitVec 32 := Scalar.extui v26
  let c0_i32_16 : BitVec 32 := 0#32
  let v28 : BitVec 1 := Scalar.cmpi .slt c2_i32 c0_i32_16
  let v29 : BitVec 32 := Scalar.extui v28
  let v30 : BitVec 32 := Scalar.subi v27 v29
  let v31 : BitVec 1 := Scalar.cmpi .ne v25 v30
  let v32 : BitVec 32 := Scalar.remsi arg1 c2_i32
  let c0_i32_17 : BitVec 32 := 0#32
  let v33 : BitVec 1 := Scalar.cmpi .ne v32 c0_i32_17
  let v34 : BitVec 1 := Scalar.andi v31 v33
  let v20 : BitVec 32 := Scalar.divsi arg1 c2_i32
  let c1_i32 : BitVec 32 := 1#32
  let v35 : BitVec 32 := Scalar.subi v20 c1_i32
  let v36 : BitVec 32 := Scalar.select v34 v35 v20
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let v38 : BitVec 32 := Scalar.addi c0_i32_19 v37
  let c1_i32_22 : BitVec 32 := 1#32
  ⟨v41, v38, c1_i32_22⟩
def k0_mult6 (i : grid0.Coords) (k0_t2 : Fin (k0_t2_loop i).trips) : BitVec 32 :=
  let c2_i32_52 : BitVec 32 := 2#32
  let c0_i32_19 : BitVec 32 := 0#32
  let arg1 : BitVec 32 := BitVec.ofNat 32 (i 1).val
  let c0_i32_13 : BitVec 32 := 0#32
  let v21 : BitVec 1 := Scalar.cmpi .sgt arg1 c0_i32_13
  let v22 : BitVec 32 := Scalar.extui v21
  let c0_i32_14 : BitVec 32 := 0#32
  let v23 : BitVec 1 := Scalar.cmpi .slt arg1 c0_i32_14
  let v24 : BitVec 32 := Scalar.extui v23
  let v25 : BitVec 32 := Scalar.subi v22 v24
  let c2_i32 : BitVec 32 := 2#32
  let c0_i32_15 : BitVec 32 := 0#32
  let v26 : BitVec 1 := Scalar.cmpi .sgt c2_i32 c0_i32_15
  let v27 : BitVec 32 := Scalar.extui v26
  let c0_i32_16 : BitVec 32 := 0#32
  let v28 : BitVec 1 := Scalar.cmpi .slt c2_i32 c0_i32_16
  let v29 : BitVec 32 := Scalar.extui v28
  let v30 : BitVec 32 := Scalar.subi v27 v29
  let v31 : BitVec 1 := Scalar.cmpi .ne v25 v30
  let v32 : BitVec 32 := Scalar.remsi arg1 c2_i32
  let c0_i32_17 : BitVec 32 := 0#32
  let v33 : BitVec 1 := Scalar.cmpi .ne v32 c0_i32_17
  let v34 : BitVec 1 := Scalar.andi v31 v33
  let v20 : BitVec 32 := Scalar.divsi arg1 c2_i32
  let c1_i32 : BitVec 32 := 1#32
  let v35 : BitVec 32 := Scalar.subi v20 c1_i32
  let v36 : BitVec 32 := Scalar.select v34 v35 v20
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg13 : BitVec 32 := Scf.iv v41 c1_i32_22 k0_t2
  let v80 : BitVec 32 := Scalar.muli c2_i32_52 arg13
  let c1_i32_53 : BitVec 32 := 1#32
  let v81 : BitVec 32 := Scalar.addi v80 c1_i32_53
  let c512_i32 : BitVec 32 := 512#32
  let v83 : BitVec 32 := Scalar.muli v81 c512_i32
  v83
def k0_off5 (i : grid0.Coords) (k0_t2 : Fin (k0_t2_loop i).trips) (c1_i32_53 : BitVec 32) : Fin 2 → Nat :=
  let c2_i32_52 : BitVec 32 := 2#32
  let c0_i32_19 : BitVec 32 := 0#32
  let arg1 : BitVec 32 := BitVec.ofNat 32 (i 1).val
  let c0_i32_13 : BitVec 32 := 0#32
  let v21 : BitVec 1 := Scalar.cmpi .sgt arg1 c0_i32_13
  let v22 : BitVec 32 := Scalar.extui v21
  let c0_i32_14 : BitVec 32 := 0#32
  let v23 : BitVec 1 := Scalar.cmpi .slt arg1 c0_i32_14
  let v24 : BitVec 32 := Scalar.extui v23
  let v25 : BitVec 32 := Scalar.subi v22 v24
  let c2_i32 : BitVec 32 := 2#32
  let c0_i32_15 : BitVec 32 := 0#32
  let v26 : BitVec 1 := Scalar.cmpi .sgt c2_i32 c0_i32_15
  let v27 : BitVec 32 := Scalar.extui v26
  let c0_i32_16 : BitVec 32 := 0#32
  let v28 : BitVec 1 := Scalar.cmpi .slt c2_i32 c0_i32_16
  let v29 : BitVec 32 := Scalar.extui v28
  let v30 : BitVec 32 := Scalar.subi v27 v29
  let v31 : BitVec 1 := Scalar.cmpi .ne v25 v30
  let v32 : BitVec 32 := Scalar.remsi arg1 c2_i32
  let c0_i32_17 : BitVec 32 := 0#32
  let v33 : BitVec 1 := Scalar.cmpi .ne v32 c0_i32_17
  let v34 : BitVec 1 := Scalar.andi v31 v33
  let v20 : BitVec 32 := Scalar.divsi arg1 c2_i32
  let c1_i32 : BitVec 32 := 1#32
  let v35 : BitVec 32 := Scalar.subi v20 c1_i32
  let v36 : BitVec 32 := Scalar.select v34 v35 v20
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg13 : BitVec 32 := Scf.iv v41 c1_i32_22 k0_t2
  let v80 : BitVec 32 := Scalar.muli c2_i32_52 arg13
  let v81 : BitVec 32 := Scalar.addi v80 c1_i32_53
  let c512_i32 : BitVec 32 := 512#32
  let v83 : BitVec 32 := Scalar.muli v81 c512_i32
  let v84 : BitVec 32 := v83
  let v85 : Index := Scalar.indexCast v84
  let c0_56 : Index := 0#32
  ![v85.toNat, 0]
def k0_off6 (i : grid0.Coords) (k0_t2 : Fin (k0_t2_loop i).trips) : Fin 4 → Nat :=
  let c0_64 : Index := 0#32
  let c2_i32_60 : BitVec 32 := 2#32
  let c0_i32_19 : BitVec 32 := 0#32
  let arg1 : BitVec 32 := BitVec.ofNat 32 (i 1).val
  let c0_i32_13 : BitVec 32 := 0#32
  let v21 : BitVec 1 := Scalar.cmpi .sgt arg1 c0_i32_13
  let v22 : BitVec 32 := Scalar.extui v21
  let c0_i32_14 : BitVec 32 := 0#32
  let v23 : BitVec 1 := Scalar.cmpi .slt arg1 c0_i32_14
  let v24 : BitVec 32 := Scalar.extui v23
  let v25 : BitVec 32 := Scalar.subi v22 v24
  let c2_i32 : BitVec 32 := 2#32
  let c0_i32_15 : BitVec 32 := 0#32
  let v26 : BitVec 1 := Scalar.cmpi .sgt c2_i32 c0_i32_15
  let v27 : BitVec 32 := Scalar.extui v26
  let c0_i32_16 : BitVec 32 := 0#32
  let v28 : BitVec 1 := Scalar.cmpi .slt c2_i32 c0_i32_16
  let v29 : BitVec 32 := Scalar.extui v28
  let v30 : BitVec 32 := Scalar.subi v27 v29
  let v31 : BitVec 1 := Scalar.cmpi .ne v25 v30
  let v32 : BitVec 32 := Scalar.remsi arg1 c2_i32
  let c0_i32_17 : BitVec 32 := 0#32
  let v33 : BitVec 1 := Scalar.cmpi .ne v32 c0_i32_17
  let v34 : BitVec 1 := Scalar.andi v31 v33
  let v20 : BitVec 32 := Scalar.divsi arg1 c2_i32
  let c1_i32 : BitVec 32 := 1#32
  let v35 : BitVec 32 := Scalar.subi v20 c1_i32
  let v36 : BitVec 32 := Scalar.select v34 v35 v20
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg13 : BitVec 32 := Scf.iv v41 c1_i32_22 k0_t2
  let v91 : BitVec 32 := Scalar.muli c2_i32_60 arg13
  let v95 : Index := Scalar.indexCast v91
  let c0_65 : Index := 0#32
  let c0_66 : Index := 0#32
  ![0, v95.toNat, 0, 0]
def k0_mult7 (i : grid0.Coords) (k0_t2 : Fin (k0_t2_loop i).trips) : BitVec 32 :=
  let c2_i32_60 : BitVec 32 := 2#32
  let c0_i32_19 : BitVec 32 := 0#32
  let arg1 : BitVec 32 := BitVec.ofNat 32 (i 1).val
  let c0_i32_13 : BitVec 32 := 0#32
  let v21 : BitVec 1 := Scalar.cmpi .sgt arg1 c0_i32_13
  let v22 : BitVec 32 := Scalar.extui v21
  let c0_i32_14 : BitVec 32 := 0#32
  let v23 : BitVec 1 := Scalar.cmpi .slt arg1 c0_i32_14
  let v24 : BitVec 32 := Scalar.extui v23
  let v25 : BitVec 32 := Scalar.subi v22 v24
  let c2_i32 : BitVec 32 := 2#32
  let c0_i32_15 : BitVec 32 := 0#32
  let v26 : BitVec 1 := Scalar.cmpi .sgt c2_i32 c0_i32_15
  let v27 : BitVec 32 := Scalar.extui v26
  let c0_i32_16 : BitVec 32 := 0#32
  let v28 : BitVec 1 := Scalar.cmpi .slt c2_i32 c0_i32_16
  let v29 : BitVec 32 := Scalar.extui v28
  let v30 : BitVec 32 := Scalar.subi v27 v29
  let v31 : BitVec 1 := Scalar.cmpi .ne v25 v30
  let v32 : BitVec 32 := Scalar.remsi arg1 c2_i32
  let c0_i32_17 : BitVec 32 := 0#32
  let v33 : BitVec 1 := Scalar.cmpi .ne v32 c0_i32_17
  let v34 : BitVec 1 := Scalar.andi v31 v33
  let v20 : BitVec 32 := Scalar.divsi arg1 c2_i32
  let c1_i32 : BitVec 32 := 1#32
  let v35 : BitVec 32 := Scalar.subi v20 c1_i32
  let v36 : BitVec 32 := Scalar.select v34 v35 v20
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg13 : BitVec 32 := Scf.iv v41 c1_i32_22 k0_t2
  let v91 : BitVec 32 := Scalar.muli c2_i32_60 arg13
  let c512_i32_78 : BitVec 32 := 512#32
  let v124 : BitVec 32 := Scalar.muli v91 c512_i32_78
  v124
def k0_off7 (i : grid0.Coords) (k0_t2 : Fin (k0_t2_loop i).trips) : Fin 2 → Nat :=
  let c2_i32_60 : BitVec 32 := 2#32
  let c0_i32_19 : BitVec 32 := 0#32
  let arg1 : BitVec 32 := BitVec.ofNat 32 (i 1).val
  let c0_i32_13 : BitVec 32 := 0#32
  let v21 : BitVec 1 := Scalar.cmpi .sgt arg1 c0_i32_13
  let v22 : BitVec 32 := Scalar.extui v21
  let c0_i32_14 : BitVec 32 := 0#32
  let v23 : BitVec 1 := Scalar.cmpi .slt arg1 c0_i32_14
  let v24 : BitVec 32 := Scalar.extui v23
  let v25 : BitVec 32 := Scalar.subi v22 v24
  let c2_i32 : BitVec 32 := 2#32
  let c0_i32_15 : BitVec 32 := 0#32
  let v26 : BitVec 1 := Scalar.cmpi .sgt c2_i32 c0_i32_15
  let v27 : BitVec 32 := Scalar.extui v26
  let c0_i32_16 : BitVec 32 := 0#32
  let v28 : BitVec 1 := Scalar.cmpi .slt c2_i32 c0_i32_16
  let v29 : BitVec 32 := Scalar.extui v28
  let v30 : BitVec 32 := Scalar.subi v27 v29
  let v31 : BitVec 1 := Scalar.cmpi .ne v25 v30
  let v32 : BitVec 32 := Scalar.remsi arg1 c2_i32
  let c0_i32_17 : BitVec 32 := 0#32
  let v33 : BitVec 1 := Scalar.cmpi .ne v32 c0_i32_17
  let v34 : BitVec 1 := Scalar.andi v31 v33
  let v20 : BitVec 32 := Scalar.divsi arg1 c2_i32
  let c1_i32 : BitVec 32 := 1#32
  let v35 : BitVec 32 := Scalar.subi v20 c1_i32
  let v36 : BitVec 32 := Scalar.select v34 v35 v20
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg13 : BitVec 32 := Scf.iv v41 c1_i32_22 k0_t2
  let v91 : BitVec 32 := Scalar.muli c2_i32_60 arg13
  let c512_i32_78 : BitVec 32 := 512#32
  let v124 : BitVec 32 := Scalar.muli v91 c512_i32_78
  let v125 : BitVec 32 := v124
  let v126 : Index := Scalar.indexCast v125
  let c0_79 : Index := 0#32
  ![v126.toNat, 0]
def k0_mult8 (i : grid0.Coords) (k0_t2 : Fin (k0_t2_loop i).trips) : BitVec 32 :=
  let c2_i32_85 : BitVec 32 := 2#32
  let c0_i32_19 : BitVec 32 := 0#32
  let arg1 : BitVec 32 := BitVec.ofNat 32 (i 1).val
  let c0_i32_13 : BitVec 32 := 0#32
  let v21 : BitVec 1 := Scalar.cmpi .sgt arg1 c0_i32_13
  let v22 : BitVec 32 := Scalar.extui v21
  let c0_i32_14 : BitVec 32 := 0#32
  let v23 : BitVec 1 := Scalar.cmpi .slt arg1 c0_i32_14
  let v24 : BitVec 32 := Scalar.extui v23
  let v25 : BitVec 32 := Scalar.subi v22 v24
  let c2_i32 : BitVec 32 := 2#32
  let c0_i32_15 : BitVec 32 := 0#32
  let v26 : BitVec 1 := Scalar.cmpi .sgt c2_i32 c0_i32_15
  let v27 : BitVec 32 := Scalar.extui v26
  let c0_i32_16 : BitVec 32 := 0#32
  let v28 : BitVec 1 := Scalar.cmpi .slt c2_i32 c0_i32_16
  let v29 : BitVec 32 := Scalar.extui v28
  let v30 : BitVec 32 := Scalar.subi v27 v29
  let v31 : BitVec 1 := Scalar.cmpi .ne v25 v30
  let v32 : BitVec 32 := Scalar.remsi arg1 c2_i32
  let c0_i32_17 : BitVec 32 := 0#32
  let v33 : BitVec 1 := Scalar.cmpi .ne v32 c0_i32_17
  let v34 : BitVec 1 := Scalar.andi v31 v33
  let v20 : BitVec 32 := Scalar.divsi arg1 c2_i32
  let c1_i32 : BitVec 32 := 1#32
  let v35 : BitVec 32 := Scalar.subi v20 c1_i32
  let v36 : BitVec 32 := Scalar.select v34 v35 v20
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg13 : BitVec 32 := Scf.iv v41 c1_i32_22 k0_t2
  let v136 : BitVec 32 := Scalar.muli c2_i32_85 arg13
  let c2_i32_86 : BitVec 32 := 2#32
  let v137 : BitVec 32 := Scalar.addi v136 c2_i32_86
  let c512_i32_89 : BitVec 32 := 512#32
  let v139 : BitVec 32 := Scalar.muli v137 c512_i32_89
  v139
def k0_off8 (i : grid0.Coords) (k0_t2 : Fin (k0_t2_loop i).trips) : Fin 4 → Nat :=
  let c0_99 : Index := 0#32
  let c2_i32_94 : BitVec 32 := 2#32
  let c0_i32_19 : BitVec 32 := 0#32
  let arg1 : BitVec 32 := BitVec.ofNat 32 (i 1).val
  let c0_i32_13 : BitVec 32 := 0#32
  let v21 : BitVec 1 := Scalar.cmpi .sgt arg1 c0_i32_13
  let v22 : BitVec 32 := Scalar.extui v21
  let c0_i32_14 : BitVec 32 := 0#32
  let v23 : BitVec 1 := Scalar.cmpi .slt arg1 c0_i32_14
  let v24 : BitVec 32 := Scalar.extui v23
  let v25 : BitVec 32 := Scalar.subi v22 v24
  let c2_i32 : BitVec 32 := 2#32
  let c0_i32_15 : BitVec 32 := 0#32
  let v26 : BitVec 1 := Scalar.cmpi .sgt c2_i32 c0_i32_15
  let v27 : BitVec 32 := Scalar.extui v26
  let c0_i32_16 : BitVec 32 := 0#32
  let v28 : BitVec 1 := Scalar.cmpi .slt c2_i32 c0_i32_16
  let v29 : BitVec 32 := Scalar.extui v28
  let v30 : BitVec 32 := Scalar.subi v27 v29
  let v31 : BitVec 1 := Scalar.cmpi .ne v25 v30
  let v32 : BitVec 32 := Scalar.remsi arg1 c2_i32
  let c0_i32_17 : BitVec 32 := 0#32
  let v33 : BitVec 1 := Scalar.cmpi .ne v32 c0_i32_17
  let v34 : BitVec 1 := Scalar.andi v31 v33
  let v20 : BitVec 32 := Scalar.divsi arg1 c2_i32
  let c1_i32 : BitVec 32 := 1#32
  let v35 : BitVec 32 := Scalar.subi v20 c1_i32
  let v36 : BitVec 32 := Scalar.select v34 v35 v20
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg13 : BitVec 32 := Scf.iv v41 c1_i32_22 k0_t2
  let v147 : BitVec 32 := Scalar.muli c2_i32_94 arg13
  let c1_i32_95 : BitVec 32 := 1#32
  let v148 : BitVec 32 := Scalar.addi v147 c1_i32_95
  let v152 : Index := Scalar.indexCast v148
  let c0_100 : Index := 0#32
  let c0_101 : Index := 0#32
  ![0, v152.toNat, 0, 0]
def k0_mult9 (i : grid0.Coords) (k0_t2 : Fin (k0_t2_loop i).trips) : BitVec 32 :=
  let c2_i32_94 : BitVec 32 := 2#32
  let c0_i32_19 : BitVec 32 := 0#32
  let arg1 : BitVec 32 := BitVec.ofNat 32 (i 1).val
  let c0_i32_13 : BitVec 32 := 0#32
  let v21 : BitVec 1 := Scalar.cmpi .sgt arg1 c0_i32_13
  let v22 : BitVec 32 := Scalar.extui v21
  let c0_i32_14 : BitVec 32 := 0#32
  let v23 : BitVec 1 := Scalar.cmpi .slt arg1 c0_i32_14
  let v24 : BitVec 32 := Scalar.extui v23
  let v25 : BitVec 32 := Scalar.subi v22 v24
  let c2_i32 : BitVec 32 := 2#32
  let c0_i32_15 : BitVec 32 := 0#32
  let v26 : BitVec 1 := Scalar.cmpi .sgt c2_i32 c0_i32_15
  let v27 : BitVec 32 := Scalar.extui v26
  let c0_i32_16 : BitVec 32 := 0#32
  let v28 : BitVec 1 := Scalar.cmpi .slt c2_i32 c0_i32_16
  let v29 : BitVec 32 := Scalar.extui v28
  let v30 : BitVec 32 := Scalar.subi v27 v29
  let v31 : BitVec 1 := Scalar.cmpi .ne v25 v30
  let v32 : BitVec 32 := Scalar.remsi arg1 c2_i32
  let c0_i32_17 : BitVec 32 := 0#32
  let v33 : BitVec 1 := Scalar.cmpi .ne v32 c0_i32_17
  let v34 : BitVec 1 := Scalar.andi v31 v33
  let v20 : BitVec 32 := Scalar.divsi arg1 c2_i32
  let c1_i32 : BitVec 32 := 1#32
  let v35 : BitVec 32 := Scalar.subi v20 c1_i32
  let v36 : BitVec 32 := Scalar.select v34 v35 v20
  let v37 : BitVec 32 := Scalar.subi v36 c0_i32_19
  let c1_i32_20 : BitVec 32 := 1#32
  let v39 : BitVec 32 := Scalar.divsi v37 c1_i32_20
  let v40 : BitVec 32 := Scalar.muli v39 c1_i32_20
  let v41 : BitVec 32 := Scalar.addi c0_i32_19 v40
  let c1_i32_22 : BitVec 32 := 1#32
  let arg13 : BitVec 32 := Scf.iv v41 c1_i32_22 k0_t2
  let v147 : BitVec 32 := Scalar.muli c2_i32_94 arg13
  let c1_i32_95 : BitVec 32 := 1#32
  let v148 : BitVec 32 := Scalar.addi v147 c1_i32_95
  let c512_i32_113 : BitVec 32 := 512#32
  let v181 : BitVec 32 := Scalar.muli v148 c512_i32_113
  v181
def k0_cond1 (i : grid0.Coords) : BitVec 1 :=
  let arg1 : BitVec 32 := BitVec.ofNat 32 (i 1).val
  let c2_i32_23 : BitVec 32 := 2#32
  let c0_i32_24 : BitVec 32 := 0#32
  let v42 : BitVec 1 := Scalar.cmpi .eq c2_i32_23 c0_i32_24
  let c1_i32_25 : BitVec 32 := 1#32
  let v43 : BitVec 32 := Scalar.select v42 c1_i32_25 c2_i32_23
  let v44 : BitVec 32 := Scalar.remsi arg1 v43
  let c0_i32_27 : BitVec 32 := 0#32
  let v46 : BitVec 1 := Scalar.cmpi .slt v44 c0_i32_27
  let c0_i32_28 : BitVec 32 := 0#32
  let v47 : BitVec 1 := Scalar.cmpi .slt v43 c0_i32_28
  let v48 : BitVec 1 := Scalar.xori v46 v47
  let c0_i32_26 : BitVec 32 := 0#32
  let v45 : BitVec 1 := Scalar.cmpi .ne v44 c0_i32_26
  let v49 : BitVec 1 := Scalar.andi v48 v45
  let v50 : BitVec 32 := Scalar.addi v44 v43
  let v51 : BitVec 32 := Scalar.select v49 v50 v44
  let c0_i32_29 : BitVec 32 := 0#32
  let v52 : BitVec 1 := Scalar.cmpi .eq v51 c0_i32_29
  let v53 : BitVec 32 := Scalar.extui v52
  let c0_i32_30 : BitVec 32 := 0#32
  let v54 : BitVec 1 := Scalar.cmpi .ne v53 c0_i32_30
  v54

def k0_off9 (i : grid0.Coords) : Fin 4 → Nat :=
  let c0_55 : Index := 0#32
  let arg1 : BitVec 32 := BitVec.ofNat 32 (i 1).val
  let v83 : Index := Scalar.indexCast arg1
  let c0_56 : Index := 0#32
  let c0_57 : Index := 0#32
  ![0, v83.toNat, 0, 0]
def k0_mult10 (i : grid0.Coords) : BitVec 32 :=
  let arg1 : BitVec 32 := BitVec.ofNat 32 (i 1).val
  let c512_i32 : BitVec 32 := 512#32
  let v117 : BitVec 32 := Scalar.muli arg1 c512_i32
  v117
def k0_off10 (i : grid0.Coords) : Fin 2 → Nat :=
  let arg1 : BitVec 32 := BitVec.ofNat 32 (i 1).val
  let c512_i32 : BitVec 32 := 512#32
  let v117 : BitVec 32 := Scalar.muli arg1 c512_i32
  let v118 : BitVec 32 := v117
  let v119 : Index := Scalar.indexCast v118
  let c0_70 : Index := 0#32
  ![v119.toNat, 0]
def k0_cond2 (i : grid0.Coords) : BitVec 1 :=
  let arg1 : BitVec 32 := BitVec.ofNat 32 (i 1).val
  let c2_i32_31 : BitVec 32 := 2#32
  let c0_i32_32 : BitVec 32 := 0#32
  let v55 : BitVec 1 := Scalar.cmpi .eq c2_i32_31 c0_i32_32
  let c1_i32_33 : BitVec 32 := 1#32
  let v56 : BitVec 32 := Scalar.select v55 c1_i32_33 c2_i32_31
  let v57 : BitVec 32 := Scalar.remsi arg1 v56
  let c0_i32_35 : BitVec 32 := 0#32
  let v59 : BitVec 1 := Scalar.cmpi .slt v57 c0_i32_35
  let c0_i32_36 : BitVec 32 := 0#32
  let v60 : BitVec 1 := Scalar.cmpi .slt v56 c0_i32_36
  let v61 : BitVec 1 := Scalar.xori v59 v60
  let c0_i32_34 : BitVec 32 := 0#32
  let v58 : BitVec 1 := Scalar.cmpi .ne v57 c0_i32_34
  let v62 : BitVec 1 := Scalar.andi v61 v58
  let v63 : BitVec 32 := Scalar.addi v57 v56
  let v64 : BitVec 32 := Scalar.select v62 v63 v57
  let c1_i32_37 : BitVec 32 := 1#32
  let v65 : BitVec 1 := Scalar.cmpi .eq v64 c1_i32_37
  let v66 : BitVec 32 := Scalar.extui v65
  let c0_i32_38 : BitVec 32 := 0#32
  let v67 : BitVec 1 := Scalar.cmpi .ne v66 c0_i32_38
  v67

def k0_mult11 (i : grid0.Coords) : BitVec 32 :=
  let arg1 : BitVec 32 := BitVec.ofNat 32 (i 1).val
  let c512_i32 : BitVec 32 := 512#32
  let v81 : BitVec 32 := Scalar.muli arg1 c512_i32
  v81
def k0_off11 (i : grid0.Coords) : Fin 2 → Nat :=
  let arg1 : BitVec 32 := BitVec.ofNat 32 (i 1).val
  let c512_i32 : BitVec 32 := 512#32
  let v81 : BitVec 32 := Scalar.muli arg1 c512_i32
  let v82 : BitVec 32 := v81
  let v83 : Index := Scalar.indexCast v82
  let c0_54 : Index := 0#32
  ![v83.toNat, 0]
def k0_off12 (i : grid0.Coords) : Fin 4 → Nat :=
  let c0_62 : Index := 0#32
  let arg1 : BitVec 32 := BitVec.ofNat 32 (i 1).val
  let c1_i32_58 : BitVec 32 := 1#32
  let v89 : BitVec 32 := Scalar.subi arg1 c1_i32_58
  let v93 : Index := Scalar.indexCast v89
  let c0_63 : Index := 0#32
  let c0_64 : Index := 0#32
  ![0, v93.toNat, 0, 0]
def k0_mult12 (i : grid0.Coords) : BitVec 32 :=
  let arg1 : BitVec 32 := BitVec.ofNat 32 (i 1).val
  let c1_i32_58 : BitVec 32 := 1#32
  let v89 : BitVec 32 := Scalar.subi arg1 c1_i32_58
  let c512_i32_76 : BitVec 32 := 512#32
  let v122 : BitVec 32 := Scalar.muli v89 c512_i32_76
  v122
def k0_off13 (i : grid0.Coords) : Fin 2 → Nat :=
  let arg1 : BitVec 32 := BitVec.ofNat 32 (i 1).val
  let c1_i32_58 : BitVec 32 := 1#32
  let v89 : BitVec 32 := Scalar.subi arg1 c1_i32_58
  let c512_i32_76 : BitVec 32 := 512#32
  let v122 : BitVec 32 := Scalar.muli v89 c512_i32_76
  let v123 : BitVec 32 := v122
  let v124 : Index := Scalar.indexCast v123
  let c0_77 : Index := 0#32
  ![v124.toNat, 0]
def k0_off14 (i : grid0.Coords) : Fin 4 → Nat :=
  let c0_86 : Index := 0#32
  let arg1 : BitVec 32 := BitVec.ofNat 32 (i 1).val
  let v137 : Index := Scalar.indexCast arg1
  let c0_87 : Index := 0#32
  let c0_88 : Index := 0#32
  ![0, v137.toNat, 0, 0]
def k0_mult13 (i : grid0.Coords) : BitVec 32 :=
  let arg1 : BitVec 32 := BitVec.ofNat 32 (i 1).val
  let c512_i32_101 : BitVec 32 := 512#32
  let v171 : BitVec 32 := Scalar.muli arg1 c512_i32_101
  v171
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelFwdIdeal.lean ====
variable {F : FTy → Type} [FloatOps F] [Named F]
def κ : String → Option EReal := fun
  | "log2_e" => some (((Real.log 2)⁻¹ : ℝ) : EReal)
  | "scale_log2_e" => some (((11863283 / 134217728) * (Real.log 2)⁻¹ : ℝ) : EReal)
  | _ => none
-- ==== ReferenceFwdIdeal.lean ====
abbrev S4096x7168 : Shape := ⟨2, ![4096, 7168]⟩
abbrev S8x4096 : Shape := ⟨2, ![8, 4096]⟩
abbrev S4096x1024 : Shape := ⟨2, ![4096, 1024]⟩
abbrev S4096x8x128 : Shape := ⟨3, ![4096, 8, 128]⟩
abbrev S8x4096x4096 : Shape := ⟨3, ![8, 4096, 4096]⟩
abbrev S_ : Shape := ⟨0, ![]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096x1 : Shape := ⟨3, ![8, 4096, 1]⟩
abbrev S4096x8 : Shape := ⟨2, ![4096, 8]⟩
abbrev S4096x8x1 : Shape := ⟨3, ![4096, 8, 1]⟩
abbrev S8x128x4096 : Shape := ⟨3, ![8, 128, 4096]⟩

abbrev nBuf : Space → Nat
  | .hbm => 94
  | .vmem => 0
  | .smem => 0
  | _ => 0

abbrev bufTy : (tb : Table) → Fin (tcTables nBuf tb) → BufTy
  | .hbm, ⟨0, _⟩ => ⟨S4096x7168, .bf16⟩
  | .hbm, ⟨1, _⟩ => ⟨S8x4096, .f32⟩
  | .hbm, ⟨2, _⟩ => ⟨S4096x1024, .bf16⟩
  | .hbm, ⟨3, _⟩ => ⟨S4096x1024, .f32⟩
  | .hbm, ⟨4, _⟩ => ⟨S4096x8x128, .f32⟩
  | .hbm, ⟨5, _⟩ => ⟨S4096x1024, .bf16⟩
  | .hbm, ⟨6, _⟩ => ⟨S4096x1024, .f32⟩
  | .hbm, ⟨7, _⟩ => ⟨S4096x8x128, .f32⟩
  | .hbm, ⟨8, _⟩ => ⟨S4096x1024, .bf16⟩
  | .hbm, ⟨9, _⟩ => ⟨S4096x1024, .f32⟩
  | .hbm, ⟨10, _⟩ => ⟨S4096x8x128, .f32⟩
  | .hbm, ⟨11, _⟩ => ⟨S8x4096x4096, .f32⟩
  | .hbm, ⟨12, _⟩ => ⟨S8x4096x4096, .bf16⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x1x4096, .f32⟩
  | .hbm, ⟨18, _⟩ => ⟨S8x4096x4096, .f32⟩
  | .hbm, ⟨19, _⟩ => ⟨S8x4096x4096, .f32⟩
  | .hbm, ⟨20, _⟩ => ⟨S4096, .i32⟩
  | .hbm, ⟨21, _⟩ => ⟨S1x4096, .i32⟩
  | .hbm, ⟨22, _⟩ => ⟨S4096, .i32⟩
  | .hbm, ⟨23, _⟩ => ⟨S4096x1, .i32⟩
  | .hbm, ⟨24, _⟩ => ⟨S4096x4096, .i32⟩
  | .hbm, ⟨25, _⟩ => ⟨S4096x4096, .i32⟩
  | .hbm, ⟨26, _⟩ => ⟨S4096x4096, .i1⟩
  | .hbm, ⟨27, _⟩ => ⟨S_, .f32⟩
  | .hbm, ⟨28, _⟩ => ⟨S_, .f32⟩
  | .hbm, ⟨29, _⟩ => ⟨S8x4096x4096, .i1⟩
  | .hbm, ⟨30, _⟩ => ⟨S8x4096x4096, .f32⟩
  | .hbm, ⟨31, _⟩ => ⟨S8x4096x4096, .f32⟩
  | .hbm, ⟨32, _⟩ => ⟨S_, .f32⟩
  | .hbm, ⟨33, _⟩ => ⟨S8x4096, .f32⟩
  | .hbm, ⟨34, _⟩ => ⟨S8x4096x1, .f32⟩
  | .hbm, ⟨35, _⟩ => ⟨S8x4096x4096, .f32⟩
  | .hbm, ⟨36, _⟩ => ⟨S8x4096x4096, .f32⟩
  | .hbm, ⟨37, _⟩ => ⟨S8x4096x4096, .f32⟩
  | .hbm, ⟨38, _⟩ => ⟨S_, .f32⟩
  | .hbm, ⟨39, _⟩ => ⟨S8x4096, .f32⟩
  | .hbm, ⟨40, _⟩ => ⟨S8x4096, .f32⟩
  | .hbm, ⟨41, _⟩ => ⟨S8x4096, .f32⟩
  | .hbm, ⟨42, _⟩ => ⟨S_, .f32⟩
  | .hbm, ⟨43, _⟩ => ⟨S_, .f32⟩
  | .hbm, ⟨44, _⟩ => ⟨S8x4096, .f32⟩
  | .hbm, ⟨45, _⟩ => ⟨S8x4096, .f32⟩
  | .hbm, ⟨46, _⟩ => ⟨S4096x8, .f32⟩
  | .hbm, ⟨47, _⟩ => ⟨S4096x8x1, .f32⟩
  | .hbm, ⟨48, _⟩ => ⟨S4096x8x128, .f32⟩
  | .hbm, ⟨49, _⟩ => ⟨S8x4096x4096, .f32⟩
  | .hbm, ⟨50, _⟩ => ⟨S8x4096x4096, .bf16⟩
  | .hbm, ⟨51, _⟩ => ⟨S8x4096x4096, .f32⟩
  | .hbm, ⟨52, _⟩ => ⟨S_, .f32⟩
  | .hbm, ⟨53, _⟩ => ⟨S8x4096x4096, .f32⟩
  | .hbm, ⟨54, _⟩ => ⟨S8x4096x4096, .f32⟩
  | .hbm, ⟨55, _⟩ => ⟨S8x4096x1, .f32⟩
  | .hbm, ⟨56, _⟩ => ⟨S8x4096x4096, .f32⟩
  | .hbm, ⟨57, _⟩ => ⟨S8x4096x4096, .f32⟩
  | .hbm, ⟨58, _⟩ => ⟨S8x1x4096, .f32⟩
  | .hbm, ⟨59, _⟩ => ⟨S8x4096x4096, .f32⟩
  | .hbm, ⟨60, _⟩ => ⟨S8x4096x4096, .f32⟩
  | .hbm, ⟨61, _⟩ => ⟨S4096, .i32⟩
  | .hbm, ⟨62, _⟩ => ⟨S1x4096, .i32⟩
  | .hbm, ⟨63, _⟩ => ⟨S4096, .i32⟩
  | .hbm, ⟨64, _⟩ => ⟨S4096x1, .i32⟩
  | .hbm, ⟨65, _⟩ => ⟨S4096x4096, .i32⟩
  | .hbm, ⟨66, _⟩ => ⟨S4096x4096, .i32⟩
  | .hbm, ⟨67, _⟩ => ⟨S4096x4096, .i1⟩
  | .hbm, ⟨68, _⟩ => ⟨S_, .f32⟩
  | .hbm, ⟨69, _⟩ => ⟨S_, .f32⟩
  | .hbm, ⟨70, _⟩ => ⟨S8x4096x4096, .i1⟩
  | .hbm, ⟨71, _⟩ => ⟨S8x4096x4096, .f32⟩
  | .hbm, ⟨72, _⟩ => ⟨S8x4096x4096, .f32⟩
  | .hbm, ⟨73, _⟩ => ⟨S_, .f32⟩
  | .hbm, ⟨74, _⟩ => ⟨S8x4096, .f32⟩
  | .hbm, ⟨75, _⟩ => ⟨S_, .f32⟩
  | .hbm, ⟨76, _⟩ => ⟨S8x4096, .f32⟩
  | .hbm, ⟨77, _⟩ => ⟨S8x4096, .f32⟩
  | .hbm, ⟨78, _⟩ => ⟨S8x4096x1, .f32⟩
  | .hbm, ⟨79, _⟩ => ⟨S8x4096x4096, .f32⟩
  | .hbm, ⟨80, _⟩ => ⟨S8x4096x4096, .f32⟩
  | .hbm, ⟨81, _⟩ => ⟨S8x4096x4096, .f32⟩
  | .hbm, ⟨82, _⟩ => ⟨S_, .f32⟩
  | .hbm, ⟨83, _⟩ => ⟨S8x4096, .f32⟩
  | .hbm, ⟨84, _⟩ => ⟨S8x4096x1, .f32⟩
  | .hbm, ⟨85, _⟩ => ⟨S8x4096x4096, .f32⟩
  | .hbm, ⟨86, _⟩ => ⟨S8x4096x4096, .f32⟩
  | .hbm, ⟨87, _⟩ => ⟨S8x4096x4096, .bf16⟩
  | .hbm, ⟨88, _⟩ => ⟨S8x4096x4096, .f32⟩
  | .hbm, ⟨89, _⟩ => ⟨S8x128x4096, .f32⟩
  | .hbm, ⟨90, _⟩ => ⟨S4096x8x128, .f32⟩
  | .hbm, ⟨91, _⟩ => ⟨S4096x8x128, .bf16⟩
  | .hbm, ⟨92, _⟩ => ⟨S4096x1024, .bf16⟩
  | .hbm, ⟨93, _⟩ => ⟨S4096x1024, .f32⟩
  | _, _ => ⟨S4096x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_4 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_cst_5 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_v57 : Ref sig .tc := ⟨.hbm, 72, rfl⟩
abbrev main_cst_6 : Ref sig .tc := ⟨.hbm, 73, rfl⟩
abbrev main_v58 : Ref sig .tc := ⟨.hbm, 74, rfl⟩
abbrev main_cst_7 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_8 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩

abbrev nD : Nat := 1
abbrev τ : Topo := Topo.v7x

variable {F : FTy → Type} [FloatOps F]
-- ==== KernelAdamOut.lean ====
abbrev S4x512x2048 : Shape := ⟨3, ![4, 512, 2048]⟩
abbrev S1x256x2048 : Shape := ⟨3, ![1, 256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S4x512x2048, .f32⟩
  | .hbm, ⟨1, _⟩ => ⟨S4x512x2048, .f32⟩
  | .hbm, ⟨2, _⟩ => ⟨S4x512x2048, .f32⟩
  | .hbm, ⟨3, _⟩ => ⟨S4x512x2048, .f32⟩
  | .hbm, ⟨4, _⟩ => ⟨S4x512x2048, .f32⟩
  | .hbm, ⟨5, _⟩ => ⟨S4x512x2048, .f32⟩
  | .hbm, ⟨6, _⟩ => ⟨S4x512x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | _, _ => ⟨S4x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceAdamOutIdeal.lean ====
abbrev S4x512x2048 : Shape := ⟨3, ![4, 512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x512x2048, .f32⟩
  | .hbm, ⟨1, _⟩ => ⟨S4x512x2048, .f32⟩
  | .hbm, ⟨2, _⟩ => ⟨S4x512x2048, .f32⟩
  | .hbm, ⟨3, _⟩ => ⟨S4x512x2048, .f32⟩
  | .hbm, ⟨4, _⟩ => ⟨S_, .f32⟩
  | .hbm, ⟨5, _⟩ => ⟨S4x512x2048, .f32⟩
  | .hbm, ⟨6, _⟩ => ⟨S4x512x2048, .f32⟩
  | .hbm, ⟨7, _⟩ => ⟨S_, .f32⟩
  | .hbm, ⟨8, _⟩ => ⟨S4x512x2048, .f32⟩
  | .hbm, ⟨9, _⟩ => ⟨S4x512x2048, .f32⟩
  | .hbm, ⟨10, _⟩ => ⟨S4x512x2048, .f32⟩
  | .hbm, ⟨11, _⟩ => ⟨S_, .f32⟩
  | .hbm, ⟨12, _⟩ => ⟨S4x512x2048, .f32⟩
  | .hbm, ⟨13, _⟩ => ⟨S4x512x2048, .f32⟩
  | .hbm, ⟨14, _⟩ => ⟨S4x512x2048, .f32⟩
  | .hbm, ⟨15, _⟩ => ⟨S_, .f32⟩
  | .hbm, ⟨16, _⟩ => ⟨S4x512x2048, .f32⟩
  | .hbm, ⟨17, _⟩ => ⟨S4x512x2048, .f32⟩
  | .hbm, ⟨18, _⟩ => ⟨S4x512x2048, .f32⟩
  | .hbm, ⟨19, _⟩ => ⟨S_, .f32⟩
  | .hbm, ⟨20, _⟩ => ⟨S4x512x2048, .f32⟩
  | .hbm, ⟨21, _⟩ => ⟨S4x512x2048, .f32⟩
  | .hbm, ⟨22, _⟩ => ⟨S_, .f32⟩
  | .hbm, ⟨23, _⟩ => ⟨S4x512x2048, .f32⟩
  | .hbm, ⟨24, _⟩ => ⟨S4x512x2048, .f32⟩
  | .hbm, ⟨25, _⟩ => ⟨S4x512x2048, .f32⟩
  | .hbm, ⟨26, _⟩ => ⟨S_, .f32⟩
  | .hbm, ⟨27, _⟩ => ⟨S4x512x2048, .f32⟩
  | .hbm, ⟨28, _⟩ => ⟨S4x512x2048, .f32⟩
  | .hbm, ⟨29, _⟩ => ⟨S4x512x2048, .f32⟩
  | .hbm, ⟨30, _⟩ => ⟨S_, .f32⟩
  | .hbm, ⟨31, _⟩ => ⟨S4x512x2048, .f32⟩
  | .hbm, ⟨32, _⟩ => ⟨S4x512x2048, .f32⟩
  | .hbm, ⟨33, _⟩ => ⟨S4x512x2048, .f32⟩
  | .hbm, ⟨34, _⟩ => ⟨S_, .f32⟩
  | .hbm, ⟨35, _⟩ => ⟨S4x512x2048, .f32⟩
  | .hbm, ⟨36, _⟩ => ⟨S4x512x2048, .f32⟩
  | _, _ => ⟨S4x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamIn.lean ====
abbrev S4x2048x1794 : Shape := ⟨3, ![4, 2048, 1794]⟩
abbrev S1794x4x2048 : Shape := ⟨3, ![1794, 4, 2048]⟩
abbrev S46x4x2048 : Shape := ⟨3, ![46, 4, 2048]⟩

abbrev nBuf : Space → Nat
  | .hbm => 15
  | .vmem => 16
  | .smem => 0
  | _ => 0

abbrev bufTy : (tb : Table) → Fin (tcTables nBuf tb) → BufTy
  | .hbm, ⟨0, _⟩ => ⟨S4x2048x1794, .f32⟩
  | .hbm, ⟨1, _⟩ => ⟨S1794x4x2048, .f32⟩
  | .hbm, ⟨2, _⟩ => ⟨S4x2048x1794, .f32⟩
  | .hbm, ⟨3, _⟩ => ⟨S4x2048x1794, .f32⟩
  | .hbm, ⟨4, _⟩ => ⟨S1794x4x2048, .f32⟩
  | .hbm, ⟨5, _⟩ => ⟨S1794x4x2048, .f32⟩
  | .hbm, ⟨6, _⟩ => ⟨S1794x4x2048, .f32⟩
  | .hbm, ⟨7, _⟩ => ⟨S1794x4x2048, .f32⟩
  | .hbm, ⟨8, _⟩ => ⟨S1794x4x2048, .f32⟩
  | .hbm, ⟨9, _⟩ => ⟨S1794x4x2048, .f32⟩
  | .hbm, ⟨10, _⟩ => ⟨S1794x4x2048, .f32⟩
  | .hbm, ⟨11, _⟩ => ⟨S4x2048x1794, .f32⟩
  | .hbm, ⟨12, _⟩ => ⟨S4x2048x1794, .f32⟩
  | .hbm, ⟨13, _⟩ => ⟨S4x2048x1794, .f32⟩
  | .hbm, ⟨14, _⟩ => ⟨S4x2048x1794, .f32⟩
  | .local _ .vmem, ⟨0, _⟩ => ⟨S46x4x2048, .f32⟩
  | .local _ .vmem, ⟨1, _⟩ => ⟨S46x4x2048, .f32⟩
  | .local _ .vmem, ⟨2, _⟩ => ⟨S46x4x2048, .f32⟩
  | .local _ .vmem, ⟨3, _⟩ => ⟨S46x4x2048, .f32⟩
  | .local _ .vmem, ⟨4, _⟩ => ⟨S46x4x2048, .f32⟩
  | .local _ .vmem, ⟨5, _⟩ => ⟨S46x4x2048, .f32⟩
  | .local _ .vmem, ⟨6, _⟩ => ⟨S46x4x2048, .f32⟩
  | .local _ .vmem, ⟨7, _⟩ => ⟨S46x4x2048, .f32⟩
  | .local _ .vmem, ⟨8, _⟩ => ⟨S46x4x2048, .f32⟩
  | .local _ .vmem, ⟨9, _⟩ => ⟨S46x4x2048, .f32⟩
  | .local _ .vmem, ⟨10, _⟩ => ⟨S46x4x2048, .f32⟩
  | .local _ .vmem, ⟨11, _⟩ => ⟨S46x4x2048, .f32⟩
  | .local _ .vmem, ⟨12, _⟩ => ⟨S46x4x2048, .f32⟩
  | .local _ .vmem, ⟨13, _⟩ => ⟨S46x4x2048, .f32⟩
  | .local _ .vmem, ⟨14, _⟩ => ⟨S46x4x2048, .f32⟩
  | .local _ .vmem, ⟨15, _⟩ => ⟨S46x4x2048, .f32⟩
  | _, _ => ⟨S4x2048x1794, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![39, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S46x4x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S46x4x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S46x4x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S46x4x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S46x4x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S46x4x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S46x4x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S46x4x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceAdamInIdeal.lean ====
abbrev S4x2048x1794 : Shape := ⟨3, ![4, 2048, 1794]⟩
abbrev S1794x4x2048 : Shape := ⟨3, ![1794, 4, 2048]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S4x2048x1794, .f32⟩
  | .hbm, ⟨1, _⟩ => ⟨S1794x4x2048, .f32⟩
  | .hbm, ⟨2, _⟩ => ⟨S4x2048x1794, .f32⟩
  | .hbm, ⟨3, _⟩ => ⟨S4x2048x1794, .f32⟩
  | .hbm, ⟨4, _⟩ => ⟨S4x2048x1794, .f32⟩
  | .hbm, ⟨5, _⟩ => ⟨S_, .f32⟩
  | .hbm, ⟨6, _⟩ => ⟨S4x2048x1794, .f32⟩
  | .hbm, ⟨7, _⟩ => ⟨S4x2048x1794, .f32⟩
  | .hbm, ⟨8, _⟩ => ⟨S_, .f32⟩
  | .hbm, ⟨9, _⟩ => ⟨S4x2048x1794, .f32⟩
  | .hbm, ⟨10, _⟩ => ⟨S4x2048x1794, .f32⟩
  | .hbm, ⟨11, _⟩ => ⟨S4x2048x1794, .f32⟩
  | .hbm, ⟨12, _⟩ => ⟨S_, .f32⟩
  | .hbm, ⟨13, _⟩ => ⟨S4x2048x1794, .f32⟩
  | .hbm, ⟨14, _⟩ => ⟨S4x2048x1794, .f32⟩
  | .hbm, ⟨15, _⟩ => ⟨S4x2048x1794, .f32⟩
  | .hbm, ⟨16, _⟩ => ⟨S_, .f32⟩
  | .hbm, ⟨17, _⟩ => ⟨S4x2048x1794, .f32⟩
  | .hbm, ⟨18, _⟩ => ⟨S4x2048x1794, .f32⟩
  | .hbm, ⟨19, _⟩ => ⟨S4x2048x1794, .f32⟩
  | .hbm, ⟨20, _⟩ => ⟨S_, .f32⟩
  | .hbm, ⟨21, _⟩ => ⟨S4x2048x1794, .f32⟩
  | .hbm, ⟨22, _⟩ => ⟨S4x2048x1794, .f32⟩
  | .hbm, ⟨23, _⟩ => ⟨S_, .f32⟩
  | .hbm, ⟨24, _⟩ => ⟨S4x2048x1794, .f32⟩
  | .hbm, ⟨25, _⟩ => ⟨S4x2048x1794, .f32⟩
  | .hbm, ⟨26, _⟩ => ⟨S4x2048x1794, .f32⟩
  | .hbm, ⟨27, _⟩ => ⟨S_, .f32⟩
  | .hbm, ⟨28, _⟩ => ⟨S4x2048x1794, .f32⟩
  | .hbm, ⟨29, _⟩ => ⟨S4x2048x1794, .f32⟩
  | .hbm, ⟨30, _⟩ => ⟨S4x2048x1794, .f32⟩
  | .hbm, ⟨31, _⟩ => ⟨S_, .f32⟩
  | .hbm, ⟨32, _⟩ => ⟨S4x2048x1794, .f32⟩
  | .hbm, ⟨33, _⟩ => ⟨S4x2048x1794, .f32⟩
  | .hbm, ⟨34, _⟩ => ⟨S4x2048x1794, .f32⟩
  | .hbm, ⟨35, _⟩ => ⟨S_, .f32⟩
  | .hbm, ⟨36, _⟩ => ⟨S4x2048x1794, .f32⟩
  | .hbm, ⟨37, _⟩ => ⟨S4x2048x1794, .f32⟩
  | _, _ => ⟨S4x2048x1794, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== KernelAdamSmall.lean ====
abbrev S4x8 : Shape := ⟨2, ![4, 8]⟩
abbrev S4x3x128 : Shape := ⟨3, ![4, 3, 128]⟩
abbrev S4x4x128x128 : Shape := ⟨4, ![4, 4, 128, 128]⟩
abbrev S4x512 : Shape := ⟨2, ![4, 512]⟩
abbrev S4x2048 : Shape := ⟨2, ![4, 2048]⟩
abbrev S32 : Shape := ⟨1, ![32]⟩
abbrev S_ : Shape := ⟨0, ![]⟩
abbrev S1024 : Shape := ⟨1, ![1024]⟩
abbrev S8x128 : Shape := ⟨2, ![8, 128]⟩
abbrev S1536 : Shape := ⟨1, ![1536]⟩
abbrev S2048 : Shape := ⟨1, ![2048]⟩
abbrev S16x128 : Shape := ⟨2, ![16, 128]⟩
abbrev S262144 : Shape := ⟨1, ![262144]⟩
abbrev S2048x128 : Shape := ⟨2, ![2048, 128]⟩
abbrev S8192 : Shape := ⟨1, ![8192]⟩
abbrev S64x128 : Shape := ⟨2, ![64, 128]⟩
abbrev S2216x128 : Shape := ⟨2, ![2216, 128]⟩
abbrev S1x2216x128 : Shape := ⟨3, ![1, 2216, 128]⟩
abbrev S1x8x128 : Shape := ⟨3, ![1, 8, 128]⟩
abbrev S1x16x128 : Shape := ⟨3, ![1, 16, 128]⟩
abbrev S1x2048x128 : Shape := ⟨3, ![1, 2048, 128]⟩
abbrev S1x64x128 : Shape := ⟨3, ![1, 64, 128]⟩

abbrev nBuf : Space → Nat
  | .hbm => 263
  | .vmem => 7
  | .smem => 0
  | _ => 0

abbrev hbmTy0_0 (i : Nat) : BufTy := match i % 128 with
  | 0 => ⟨S4x8, .f32⟩
  | 1 => ⟨S4x8, .f32⟩
  | 2 => ⟨S4x8, .f32⟩
  | 3 => ⟨S4x8, .f32⟩
  | 4 => ⟨S4x3x128, .f32⟩
  | 5 => ⟨S4x3x128, .f32⟩
  | 6 => ⟨S4x3x128, .f32⟩
  | 7 => ⟨S4x3x128, .f32⟩
  | 8 => ⟨S4x4x128x128, .f32⟩
  | 9 => ⟨S4x4x128x128, .f32⟩
  | 10 => ⟨S4x4x128x128, .f32⟩
  | 11 => ⟨S4x4x128x128, .f32⟩
  | 12 => ⟨S4x512, .f32⟩
  | 13 => ⟨S4x512, .f32⟩
  | 14 => ⟨S4x512, .f32⟩
  | 15 => ⟨S4x512, .f32⟩
  | 16 => ⟨S4x2048, .f32⟩
  | 17 => ⟨S4x2048, .f32⟩
  | 18 => ⟨S4x2048, .f32⟩
  | 19 => ⟨S4x2048, .f32⟩
  | 20 => ⟨S4x2048, .f32⟩
  | 21 => ⟨S4x2048, .f32⟩
  | 22 => ⟨S4x2048, .f32⟩
  | 23 => ⟨S4x2048, .f32⟩
  | 24 => ⟨S32, .f32⟩
  | 25 => ⟨S_, .i32⟩
  | 26 => ⟨S_, .f32⟩
  | 27 => ⟨S1024, .f32⟩
  | 28 => ⟨S8x128, .f32⟩
  | 29 => ⟨S1536, .f32⟩
  | 30 => ⟨S_, .i32⟩
  | 31 => ⟨S_, .f32⟩
  | 32 => ⟨S2048, .f32⟩
  | 33 => ⟨S16x128, .f32⟩
  | 34 => ⟨S262144, .f32⟩
  | 35 => ⟨S_, .i32⟩
  | 36 => ⟨S_, .f32⟩
  | 37 => ⟨S262144, .f32⟩
  | 38 => ⟨S2048x128, .f32⟩
  | 39 => ⟨S2048, .f32⟩
  | 40 => ⟨S_, .i32⟩
  | 41 => ⟨S_, .f32⟩
  | 42 => ⟨S2048, .f32⟩
  | 43 => ⟨S16x128, .f32⟩
  | 44 => ⟨S8192, .f32⟩
  | 45 => ⟨S_, .i32⟩
  | 46 => ⟨S_, .f32⟩
  | 47 => ⟨S8192, .f32⟩
  | 48 => ⟨S64x128, .f32⟩
  | 49 => ⟨S8192, .f32⟩
  | 50 => ⟨S_, .i32⟩
  | 51 => ⟨S_, .f32⟩
  | 52 => ⟨S8192, .f32⟩
  | 53 => ⟨S64x128, .f32⟩
  | 54 => ⟨S2216x128, .f32⟩
  | 55 => ⟨S1x2216x128, .f32⟩
  | 56 => ⟨S32, .f32⟩
  | 57 => ⟨S_, .i32⟩
  | 58 => ⟨S_, .f32⟩
  | 59 => ⟨S1024, .f32⟩
  | 60 => ⟨S8x128, .f32⟩
  | 61 => ⟨S1536, .f32⟩
  | 62 => ⟨S_, .i32⟩
  | 63 => ⟨S_, .f32⟩
  | 64 => ⟨S2048, .f32⟩
  | 65 => ⟨S16x128, .f32⟩
  | 66 => ⟨S262144, .f32⟩
  | 67 => ⟨S_, .i32⟩
  | 68 => ⟨S_, .f32⟩
  | 69 => ⟨S262144, .f32⟩
  | 70 => ⟨S2048x128, .f32⟩
  | 71 => ⟨S2048, .f32⟩
  | 72 => ⟨S_, .i32⟩
  | 73 => ⟨S_, .f32⟩
  | 74 => ⟨S2048, .f32⟩
  | 75 => ⟨S16x128, .f32⟩
  | 76 => ⟨S8192, .f32⟩
  | 77 => ⟨S_, .i32⟩
  | 78 => ⟨S_, .f32⟩
  | 79 => ⟨S8192, .f32⟩
  | 80 => ⟨S64x128, .f32⟩
  | 81 => ⟨S8192, .f32⟩
  | 82 => ⟨S_, .i32⟩
  | 83 => ⟨S_, .f32⟩
  | 84 => ⟨S8192, .f32⟩
  | 85 => ⟨S64x128, .f32⟩
  | 86 => ⟨S2216x128, .f32⟩
  | 87 => ⟨S1x2216x128, .f32⟩
  | 88 => ⟨S32, .f32⟩
  | 89 => ⟨S_, .i32⟩
  | 90 => ⟨S_, .f32⟩
  | 91 => ⟨S1024, .f32⟩
  | 92 => ⟨S8x128, .f32⟩
  | 93 => ⟨S1536, .f32⟩
  | 94 => ⟨S_, .i32⟩
  | 95 => ⟨S_, .f32⟩
  | 96 => ⟨S2048, .f32⟩
  | 97 => ⟨S16x128, .f32⟩
  | 98 => ⟨S262144, .f32⟩
  | 99 => ⟨S_, .i32⟩
  | 100 => ⟨S_, .f32⟩
  | 101 => ⟨S262144, .f32⟩
  | 102 => ⟨S2048x128, .f32⟩
  | 103 => ⟨S2048, .f32⟩
  | 104 => ⟨S_, .i32⟩
  | 105 => ⟨S_, .f32⟩
  | 106 => ⟨S2048, .f32⟩
  | 107 => ⟨S16x128, .f32⟩
  | 108 => ⟨S8192, .f32⟩
  | 109 => ⟨S_, .i32⟩
  | 110 => ⟨S_, .f32⟩
  | 111 => ⟨S8192, .f32⟩
  | 112 => ⟨S64x128, .f32⟩
  | 113 => ⟨S8192, .f32⟩
  | 114 => ⟨S_, .i32⟩
  | 115 => ⟨S_, .f32⟩
  | 116 => ⟨S8192, .f32⟩
  | 117 => ⟨S64x128, .f32⟩
  | 118 => ⟨S2216x128, .f32⟩
  | 119 => ⟨S1x2216x128, .f32⟩
  | 120 => ⟨S32, .f32⟩
  | 121 => ⟨S_, .i32⟩
  | 122 => ⟨S_, .f32⟩
  | 123 => ⟨S1024, .f32⟩
  | 124 => ⟨S8x128, .f32⟩
  | 125 => ⟨S1536, .f32⟩
  | 126 => ⟨S_, .i32⟩
  | 127 => ⟨S_, .f32⟩
  | _ => ⟨S4x8, .f32⟩

abbrev hbmTy0_1 (i : Nat) : BufTy := match i % 128 with
  | 0 => ⟨S2048, .f32⟩
  | 1 => ⟨S16x128, .f32⟩
  | 2 => ⟨S262144, .f32⟩
  | 3 => ⟨S_, .i32⟩
  | 4 => ⟨S_, .f32⟩
  | 5 => ⟨S262144, .f32⟩
  | 6 => ⟨S2048x128, .f32⟩
  | 7 => ⟨S2048, .f32⟩
  | 8 => ⟨S_, .i32⟩
  | 9 => ⟨S_, .f32⟩
  | 10 => ⟨S2048, .f32⟩
  | 11 => ⟨S16x128, .f32⟩
  | 12 => ⟨S8192, .f32⟩
  | 13 => ⟨S_, .i32⟩
  | 14 => ⟨S_, .f32⟩
  | 15 => ⟨S8192, .f32⟩
  | 16 => ⟨S64x128, .f32⟩
  | 17 => ⟨S8192, .f32⟩
  | 18 => ⟨S_, .i32⟩
  | 19 => ⟨S_, .f32⟩
  | 20 => ⟨S8192, .f32⟩
  | 21 => ⟨S64x128, .f32⟩
  | 22 => ⟨S2216x128, .f32⟩
  | 23 => ⟨S1x2216x128, .f32⟩
  | 24 => ⟨S1x2216x128, .f32⟩
  | 25 => ⟨S1x2216x128, .f32⟩
  | 26 => ⟨S1x2216x128, .f32⟩
  | 27 => ⟨S32, .f32⟩
  | 28 => ⟨S_, .i32⟩
  | 29 => ⟨S_, .f32⟩
  | 30 => ⟨S1024, .f32⟩
  | 31 => ⟨S8x128, .f32⟩
  | 32 => ⟨S1x8x128, .f32⟩
  | 33 => ⟨S8x128, .f32⟩
  | 34 => ⟨S1024, .f32⟩
  | 35 => ⟨S32, .f32⟩
  | 36 => ⟨S4x8, .f32⟩
  | 37 => ⟨S1x8x128, .f32⟩
  | 38 => ⟨S8x128, .f32⟩
  | 39 => ⟨S1024, .f32⟩
  | 40 => ⟨S32, .f32⟩
  | 41 => ⟨S4x8, .f32⟩
  | 42 => ⟨S1x8x128, .f32⟩
  | 43 => ⟨S8x128, .f32⟩
  | 44 => ⟨S1024, .f32⟩
  | 45 => ⟨S32, .f32⟩
  | 46 => ⟨S4x8, .f32⟩
  | 47 => ⟨S1536, .f32⟩
  | 48 => ⟨S_, .i32⟩
  | 49 => ⟨S_, .f32⟩
  | 50 => ⟨S2048, .f32⟩
  | 51 => ⟨S16x128, .f32⟩
  | 52 => ⟨S1x16x128, .f32⟩
  | 53 => ⟨S16x128, .f32⟩
  | 54 => ⟨S2048, .f32⟩
  | 55 => ⟨S1536, .f32⟩
  | 56 => ⟨S4x3x128, .f32⟩
  | 57 => ⟨S1x16x128, .f32⟩
  | 58 => ⟨S16x128, .f32⟩
  | 59 => ⟨S2048, .f32⟩
  | 60 => ⟨S1536, .f32⟩
  | 61 => ⟨S4x3x128, .f32⟩
  | 62 => ⟨S1x16x128, .f32⟩
  | 63 => ⟨S16x128, .f32⟩
  | 64 => ⟨S2048, .f32⟩
  | 65 => ⟨S1536, .f32⟩
  | 66 => ⟨S4x3x128, .f32⟩
  | 67 => ⟨S262144, .f32⟩
  | 68 => ⟨S_, .i32⟩
  | 69 => ⟨S_, .f32⟩
  | 70 => ⟨S262144, .f32⟩
  | 71 => ⟨S2048x128, .f32⟩
  | 72 => ⟨S1x2048x128, .f32⟩
  | 73 => ⟨S2048x128, .f32⟩
  | 74 => ⟨S262144, .f32⟩
  | 75 => ⟨S4x4x128x128, .f32⟩
  | 76 => ⟨S1x2048x128, .f32⟩
  | 77 => ⟨S2048x128, .f32⟩
  | 78 => ⟨S262144, .f32⟩
  | 79 => ⟨S4x4x128x128, .f32⟩
  | 80 => ⟨S1x2048x128, .f32⟩
  | 81 => ⟨S2048x128, .f32⟩
  | 82 => ⟨S262144, .f32⟩
  | 83 => ⟨S4x4x128x128, .f32⟩
  | 84 => ⟨S2048, .f32⟩
  | 85 => ⟨S_, .i32⟩
  | 86 => ⟨S_, .f32⟩
  | 87 => ⟨S2048, .f32⟩
  | 88 => ⟨S16x128, .f32⟩
  | 89 => ⟨S1x16x128, .f32⟩
  | 90 => ⟨S16x128, .f32⟩
  | 91 => ⟨S2048, .f32⟩
  | 92 => ⟨S4x512, .f32⟩
  | 93 => ⟨S1x16x128, .f32⟩
  | 94 => ⟨S16x128, .f32⟩
  | 95 => ⟨S2048, .f32⟩
  | 96 => ⟨S4x512, .f32⟩
  | 97 => ⟨S1x16x128, .f32⟩
  | 98 => ⟨S16x128, .f32⟩
  | 99 => ⟨S2048, .f32⟩
  | 100 => ⟨S4x512, .f32⟩
  | 101 => ⟨S8192, .f32⟩
  | 102 => ⟨S_, .i32⟩
  | 103 => ⟨S_, .f32⟩
  | 104 => ⟨S8192, .f32⟩
  | 105 => ⟨S64x128, .f32⟩
  | 106 => ⟨S1x64x128, .f32⟩
  | 107 => ⟨S64x128, .f32⟩
  | 108 => ⟨S8192, .f32⟩
  | 109 => ⟨S4x2048, .f32⟩
  | 110 => ⟨S1x64x128, .f32⟩
  | 111 => ⟨S64x128, .f32⟩
  | 112 => ⟨S8192, .f32⟩
  | 113 => ⟨S4x2048, .f32⟩
  | 114 => ⟨S1x64x128, .f32⟩
  | 115 => ⟨S64x128, .f32⟩
  | 116 => ⟨S8192, .f32⟩
  | 117 => ⟨S4x2048, .f32⟩
  | 118 => ⟨S8192, .f32⟩
  | 119 => ⟨S_, .i32⟩
  | 120 => ⟨S_, .f32⟩
  | 121 => ⟨S8192, .f32⟩
  | 122 => ⟨S64x128, .f32⟩
  | 123 => ⟨S1x64x128, .f32⟩
  | 124 => ⟨S64x128, .f32⟩
  | 125 => ⟨S8192, .f32⟩
  | 126 => ⟨S4x2048, .f32⟩
  | 127 => ⟨S1x64x128, .f32⟩
  | _ => ⟨S4x8, .f32⟩

abbrev hbmTy0_2 (i : Nat) : BufTy := match i % 128 with
  | 0 => ⟨S64x128, .f32⟩
  | 1 => ⟨S8192, .f32⟩
  | 2 => ⟨S4x2048, .f32⟩
  | 3 => ⟨S1x64x128, .f32⟩
  | 4 => ⟨S64x128, .f32⟩
  | 5 => ⟨S8192, .f32⟩
  | 6 => ⟨S4x2048, .f32⟩
  | _ => ⟨S4x8, .f32⟩

abbrev hbmTy (i : Nat) : BufTy := match i / 128 with
  | 0 => hbmTy0_0 i
  | 1 => hbmTy0_1 i
  | 2 => hbmTy0_2 i
  | _ => ⟨S4x8, .f32⟩

abbrev bufTy : (tb : Table) → Fin (tcTables nBuf tb) → BufTy
  | .hbm, ⟨i, _⟩ => hbmTy i
  | .local _ .vmem, ⟨0, _⟩ => ⟨S1x2216x128, .f32⟩
  | .local _ .vmem, ⟨1, _⟩ => ⟨S1x2216x128, .f32⟩
  | .local _ .vmem, ⟨2, _⟩ => ⟨S1x2216x128, .f32⟩
  | .local _ .vmem, ⟨3, _⟩ => ⟨S1x2216x128, .f32⟩
  | .local _ .vmem, ⟨4, _⟩ => ⟨S1x2216x128, .f32⟩
  | .local _ .vmem, ⟨5, _⟩ => ⟨S1x2216x128, .f32⟩
  | .local _ .vmem, ⟨6, _⟩ => ⟨S1x2216x128, .f32⟩
  | _, _ => ⟨S4x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_c : Ref sig .tc := ⟨.hbm, 25, rfl⟩
abbrev main_call0_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_c_0 : Ref sig .tc := ⟨.hbm, 30, rfl⟩
abbrev main_call1_v0 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_c_1 : Ref sig .tc := ⟨.hbm, 35, rfl⟩
abbrev main_call2_v0 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_c_2 : Ref sig .tc := ⟨.hbm, 40, rfl⟩
abbrev main_call3_v0 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_c_3 : Ref sig .tc := ⟨.hbm, 45, rfl⟩
abbrev main_call4_v0 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_c_4 : Ref sig .tc := ⟨.hbm, 50, rfl⟩
abbrev main_call5_v0 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_c_5 : Ref sig .tc := ⟨.hbm, 57, rfl⟩
abbrev main_call6_v0 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_c_6 : Ref sig .tc := ⟨.hbm, 62, rfl⟩
abbrev main_call7_v0 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_c_7 : Ref sig .tc := ⟨.hbm, 67, rfl⟩
abbrev main_call8_v0 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_c_8 : Ref sig .tc := ⟨.hbm, 72, rfl⟩
abbrev main_call9_v0 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_c_9 : Ref sig .tc := ⟨.hbm, 77, rfl⟩
abbrev main_call10_v0 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_c_10 : Ref sig .tc := ⟨.hbm, 82, rfl⟩
abbrev main_call11_v0 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_c_11 : Ref sig .tc := ⟨.hbm, 89, rfl⟩
abbrev main_call12_v0 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_c_12 : Ref sig .tc := ⟨.hbm, 94, rfl⟩
abbrev main_call13_v0 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_c_13 : Ref sig .tc := ⟨.hbm, 99, rfl⟩
abbrev main_call14_v0 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_c_14 : Ref sig .tc := ⟨.hbm, 104, rfl⟩
abbrev main_call15_v0 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_c_15 : Ref sig .tc := ⟨.hbm, 109, rfl⟩
abbrev main_call16_v0 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_c_16 : Ref sig .tc := ⟨.hbm, 114, rfl⟩
abbrev main_call17_v0 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_c_17 : Ref sig .tc := ⟨.hbm, 121, rfl⟩
abbrev main_call18_v0 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_c_18 : Ref sig .tc := ⟨.hbm, 126, rfl⟩
abbrev main_call19_v0 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_c_19 : Ref sig .tc := ⟨.hbm, 131, rfl⟩
abbrev main_call20_v0 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_c_20 : Ref sig .tc := ⟨.hbm, 136, rfl⟩
abbrev main_call21_v0 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩
abbrev main_c_21 : Ref sig .tc := ⟨.hbm, 141, rfl⟩
abbrev main_call22_v0 : Ref sig .tc := ⟨.hbm, 142, rfl⟩
abbrev main_v73 : Ref sig .tc := ⟨.hbm, 143, rfl⟩
abbrev main_v74 : Ref sig .tc := ⟨.hbm, 144, rfl⟩
abbrev main_v75 : Ref sig .tc := ⟨.hbm, 145, rfl⟩
abbrev main_c_22 : Ref sig .tc := ⟨.hbm, 146, rfl⟩
abbrev main_call23_v0 : Ref sig .tc := ⟨.hbm, 147, rfl⟩
abbrev main_v76 : Ref sig .tc := ⟨.hbm, 148, rfl⟩
abbrev main_v77 : Ref sig .tc := ⟨.hbm, 149, rfl⟩
abbrev main_v78 : Ref sig .tc := ⟨.hbm, 150, rfl⟩
abbrev main_v79 : Ref sig .tc := ⟨.hbm, 151, rfl⟩
abbrev main_v80_0 : Ref sig .tc := ⟨.hbm, 152, rfl⟩
abbrev main_v80_1 : Ref sig .tc := ⟨.hbm, 153, rfl⟩
abbrev main_v80_2 : Ref sig .tc := ⟨.hbm, 154, rfl⟩
abbrev main_v81 : Ref sig .tc := ⟨.hbm, 155, rfl⟩
abbrev main_c_23 : Ref sig .tc := ⟨.hbm, 156, rfl⟩
abbrev main_call24_v0 : Ref sig .tc := ⟨.hbm, 157, rfl⟩
abbrev main_v82 : Ref sig .tc := ⟨.hbm, 158, rfl⟩
abbrev main_v83 : Ref sig .tc := ⟨.hbm, 159, rfl⟩
abbrev main_v84 : Ref sig .tc := ⟨.hbm, 160, rfl⟩
abbrev main_v85 : Ref sig .tc := ⟨.hbm, 161, rfl⟩
abbrev main_v86 : Ref sig .tc := ⟨.hbm, 162, rfl⟩
abbrev main_v87 : Ref sig .tc := ⟨.hbm, 163, rfl⟩
abbrev main_v88 : Ref sig .tc := ⟨.hbm, 164, rfl⟩
abbrev main_v89 : Ref sig .tc := ⟨.hbm, 165, rfl⟩
abbrev main_v90 : Ref sig .tc := ⟨.hbm, 166, rfl⟩
abbrev main_v91 : Ref sig .tc := ⟨.hbm, 167, rfl⟩
abbrev main_v92 : Ref sig .tc := ⟨.hbm, 168, rfl⟩
abbrev main_v93 : Ref sig .tc := ⟨.hbm, 169, rfl⟩
abbrev main_v94 : Ref sig .tc := ⟨.hbm, 170, rfl⟩
abbrev main_v95 : Ref sig .tc := ⟨.hbm, 171, rfl⟩
abbrev main_v96 : Ref sig .tc := ⟨.hbm, 172, rfl⟩
abbrev main_v97 : Ref sig .tc := ⟨.hbm, 173, rfl⟩
abbrev main_v98 : Ref sig .tc := ⟨.hbm, 174, rfl⟩
abbrev main_v99 : Ref sig .tc := ⟨.hbm, 175, rfl⟩
abbrev main_c_24 : Ref sig .tc := ⟨.hbm, 176, rfl⟩
abbrev main_call25_v0 : Ref sig .tc := ⟨.hbm, 177, rfl⟩
abbrev main_v100 : Ref sig .tc := ⟨.hbm, 178, rfl⟩
abbrev main_v101 : Ref sig .tc := ⟨.hbm, 179, rfl⟩
abbrev main_v102 : Ref sig .tc := ⟨.hbm, 180, rfl⟩
abbrev main_v103 : Ref sig .tc := ⟨.hbm, 181, rfl⟩
abbrev main_v104 : Ref sig .tc := ⟨.hbm, 182, rfl⟩
abbrev main_v105 : Ref sig .tc := ⟨.hbm, 183, rfl⟩
abbrev main_v106 : Ref sig .tc := ⟨.hbm, 184, rfl⟩
abbrev main_v107 : Ref sig .tc := ⟨.hbm, 185, rfl⟩
abbrev main_v108 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_v112 : Ref sig .tc := ⟨.hbm, 190, rfl⟩
abbrev main_v113 : Ref sig .tc := ⟨.hbm, 191, rfl⟩
abbrev main_v114 : Ref sig .tc := ⟨.hbm, 192, rfl⟩
abbrev main_v115 : Ref sig .tc := ⟨.hbm, 193, rfl⟩
abbrev main_v116 : Ref sig .tc := ⟨.hbm, 194, rfl⟩
abbrev main_v117 : Ref sig .tc := ⟨.hbm, 195, rfl⟩
abbrev main_c_25 : Ref sig .tc := ⟨.hbm, 196, rfl⟩
abbrev main_call26_v0 : Ref sig .tc := ⟨.hbm, 197, rfl⟩
abbrev main_v118 : Ref sig .tc := ⟨.hbm, 198, rfl⟩
abbrev main_v119 : Ref sig .tc := ⟨.hbm, 199, rfl⟩
abbrev main_v120 : Ref sig .tc := ⟨.hbm, 200, rfl⟩
abbrev main_v121 : Ref sig .tc := ⟨.hbm, 201, rfl⟩
abbrev main_v122 : Ref sig .tc := ⟨.hbm, 202, rfl⟩
abbrev main_v123 : Ref sig .tc := ⟨.hbm, 203, rfl⟩
abbrev main_v124 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_v128 : Ref sig .tc := ⟨.hbm, 208, rfl⟩
abbrev main_v129 : Ref sig .tc := ⟨.hbm, 209, rfl⟩
abbrev main_v130 : Ref sig .tc := ⟨.hbm, 210, rfl⟩
abbrev main_v131 : Ref sig .tc := ⟨.hbm, 211, rfl⟩
abbrev main_v132 : Ref sig .tc := ⟨.hbm, 212, rfl⟩
abbrev main_c_26 : Ref sig .tc := ⟨.hbm, 213, rfl⟩
abbrev main_call27_v0 : Ref sig .tc := ⟨.hbm, 214, rfl⟩
abbrev main_v133 : Ref sig .tc := ⟨.hbm, 215, rfl⟩
abbrev main_v134 : Ref sig .tc := ⟨.hbm, 216, rfl⟩
abbrev main_v135 : Ref sig .tc := ⟨.hbm, 217, rfl⟩
abbrev main_v136 : Ref sig .tc := ⟨.hbm, 218, rfl⟩
abbrev main_v137 : Ref sig .tc := ⟨.hbm, 219, rfl⟩
abbrev main_v138 : Ref sig .tc := ⟨.hbm, 220, rfl⟩
abbrev main_v139 : Ref sig .tc := ⟨.hbm, 221, rfl⟩
abbrev main_v140 : Ref sig .tc := ⟨.hbm, 222, rfl⟩
abbrev main_v141 : Ref sig .tc := ⟨.hbm, 223, rfl⟩
abbrev main_v142 : Ref sig .tc := ⟨.hbm, 224, rfl⟩
abbrev main_v143 : Ref sig .tc := ⟨.hbm, 225, rfl⟩
abbrev main_v144 : Ref sig .tc := ⟨.hbm, 226, rfl⟩
abbrev main_v145 : Ref sig .tc := ⟨.hbm, 227, rfl⟩
abbrev main_v146 : Ref sig .tc := ⟨.hbm, 228, rfl⟩
abbrev main_v147 : Ref sig .tc := ⟨.hbm, 229, rfl⟩
abbrev main_c_27 : Ref sig .tc := ⟨.hbm, 230, rfl⟩
abbrev main_call28_v0 : Ref sig .tc := ⟨.hbm, 231, rfl⟩
abbrev main_v148 : Ref sig .tc := ⟨.hbm, 232, rfl⟩
abbrev main_v149 : Ref sig .tc := ⟨.hbm, 233, rfl⟩
abbrev main_v150 : Ref sig .tc := ⟨.hbm, 234, rfl⟩
abbrev main_v151 : Ref sig .tc := ⟨.hbm, 235, rfl⟩
abbrev main_v152 : Ref sig .tc := ⟨.hbm, 236, rfl⟩
abbrev main_v153 : Ref sig .tc := ⟨.hbm, 237, rfl⟩
abbrev main_v154 : Ref sig .tc := ⟨.hbm, 238, rfl⟩
abbrev main_v155 : Ref sig .tc := ⟨.hbm, 239, rfl⟩
abbrev main_v156 : Ref sig .tc := ⟨.hbm, 240, rfl⟩
abbrev main_v157 : Ref sig .tc := ⟨.hbm, 241, rfl⟩
abbrev main_v158 : Ref sig .tc := ⟨.hbm, 242, rfl⟩
abbrev main_v159 : Ref sig .tc := ⟨.hbm, 243, rfl⟩
abbrev main_v160 : Ref sig .tc := ⟨.hbm, 244, rfl⟩
abbrev main_v161 : Ref sig .tc := ⟨.hbm, 245, rfl⟩
abbrev main_v162 : Ref sig .tc := ⟨.hbm, 246, rfl⟩
abbrev main_c_28 : Ref sig .tc := ⟨.hbm, 247, rfl⟩
abbrev main_call29_v0 : Ref sig .tc := ⟨.hbm, 248, rfl⟩
abbrev main_v163 : Ref sig .tc := ⟨.hbm, 249, rfl⟩
abbrev main_v164 : Ref sig .tc := ⟨.hbm, 250, rfl⟩
abbrev main_v165 : Ref sig .tc := ⟨.hbm, 251, rfl⟩
abbrev main_v166 : Ref sig .tc := ⟨.hbm, 252, rfl⟩
abbrev main_v167 : Ref sig .tc := ⟨.hbm, 253, rfl⟩
abbrev main_v168 : Ref sig .tc := ⟨.hbm, 254, rfl⟩
abbrev main_v169 : Ref sig .tc := ⟨.hbm, 255, rfl⟩
abbrev main_v170 : Ref sig .tc := ⟨.hbm, 256, rfl⟩
abbrev main_v171 : Ref sig .tc := ⟨.hbm, 257, rfl⟩
abbrev main_v172 : Ref sig .tc := ⟨.hbm, 258, rfl⟩
abbrev main_v173 : Ref sig .tc := ⟨.hbm, 259, rfl⟩
abbrev main_v174 : Ref sig .tc := ⟨.hbm, 260, rfl⟩
abbrev main_v175 : Ref sig .tc := ⟨.hbm, 261, rfl⟩
abbrev main_v176 : Ref sig .tc := ⟨.hbm, 262, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2216x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2216x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2216x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2216x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2216x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2216x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2216x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== ReferenceAdamSmallIdeal.lean ====
abbrev S4x8 : Shape := ⟨2, ![4, 8]⟩
abbrev S4x3x128 : Shape := ⟨3, ![4, 3, 128]⟩
abbrev S4x4x128x128 : Shape := ⟨4, ![4, 4, 128, 128]⟩
abbrev S4x512 : Shape := ⟨2, ![4, 512]⟩
abbrev S4x2048 : Shape := ⟨2, ![4, 2048]⟩
abbrev S_ : Shape := ⟨0, ![]⟩

abbrev nBuf : Space → Nat
  | .hbm => 222
  | .vmem => 0
  | .smem => 0
  | _ => 0

abbrev hbmTy0_0 (i : Nat) : BufTy := match i % 128 with
  | 0 => ⟨S4x8, .f32⟩
  | 1 => ⟨S4x8, .f32⟩
  | 2 => ⟨S4x8, .f32⟩
  | 3 => ⟨S4x8, .f32⟩
  | 4 => ⟨S4x3x128, .f32⟩
  | 5 => ⟨S4x3x128, .f32⟩
  | 6 => ⟨S4x3x128, .f32⟩
  | 7 => ⟨S4x3x128, .f32⟩
  | 8 => ⟨S4x4x128x128, .f32⟩
  | 9 => ⟨S4x4x128x128, .f32⟩
  | 10 => ⟨S4x4x128x128, .f32⟩
  | 11 => ⟨S4x4x128x128, .f32⟩
  | 12 => ⟨S4x512, .f32⟩
  | 13 => ⟨S4x512, .f32⟩
  | 14 => ⟨S4x512, .f32⟩
  | 15 => ⟨S4x512, .f32⟩
  | 16 => ⟨S4x2048, .f32⟩
  | 17 => ⟨S4x2048, .f32⟩
  | 18 => ⟨S4x2048, .f32⟩
  | 19 => ⟨S4x2048, .f32⟩
  | 20 => ⟨S4x2048, .f32⟩
  | 21 => ⟨S4x2048, .f32⟩
  | 22 => ⟨S4x2048, .f32⟩
  | 23 => ⟨S4x2048, .f32⟩
  | 24 => ⟨S_, .f32⟩
  | 25 => ⟨S4x8, .f32⟩
  | 26 => ⟨S4x8, .f32⟩
  | 27 => ⟨S_, .f32⟩
  | 28 => ⟨S4x8, .f32⟩
  | 29 => ⟨S4x8, .f32⟩
  | 30 => ⟨S4x8, .f32⟩
  | 31 => ⟨S_, .f32⟩
  | 32 => ⟨S4x8, .f32⟩
  | 33 => ⟨S4x8, .f32⟩
  | 34 => ⟨S4x8, .f32⟩
  | 35 => ⟨S_, .f32⟩
  | 36 => ⟨S4x8, .f32⟩
  | 37 => ⟨S4x8, .f32⟩
  | 38 => ⟨S4x8, .f32⟩
  | 39 => ⟨S_, .f32⟩
  | 40 => ⟨S4x8, .f32⟩
  | 41 => ⟨S4x8, .f32⟩
  | 42 => ⟨S_, .f32⟩
  | 43 => ⟨S4x8, .f32⟩
  | 44 => ⟨S4x8, .f32⟩
  | 45 => ⟨S4x8, .f32⟩
  | 46 => ⟨S_, .f32⟩
  | 47 => ⟨S4x8, .f32⟩
  | 48 => ⟨S4x8, .f32⟩
  | 49 => ⟨S4x8, .f32⟩
  | 50 => ⟨S_, .f32⟩
  | 51 => ⟨S4x8, .f32⟩
  | 52 => ⟨S4x8, .f32⟩
  | 53 => ⟨S4x8, .f32⟩
  | 54 => ⟨S_, .f32⟩
  | 55 => ⟨S4x8, .f32⟩
  | 56 => ⟨S4x8, .f32⟩
  | 57 => ⟨S_, .f32⟩
  | 58 => ⟨S4x3x128, .f32⟩
  | 59 => ⟨S4x3x128, .f32⟩
  | 60 => ⟨S_, .f32⟩
  | 61 => ⟨S4x3x128, .f32⟩
  | 62 => ⟨S4x3x128, .f32⟩
  | 63 => ⟨S4x3x128, .f32⟩
  | 64 => ⟨S_, .f32⟩
  | 65 => ⟨S4x3x128, .f32⟩
  | 66 => ⟨S4x3x128, .f32⟩
  | 67 => ⟨S4x3x128, .f32⟩
  | 68 => ⟨S_, .f32⟩
  | 69 => ⟨S4x3x128, .f32⟩
  | 70 => ⟨S4x3x128, .f32⟩
  | 71 => ⟨S4x3x128, .f32⟩
  | 72 => ⟨S_, .f32⟩
  | 73 => ⟨S4x3x128, .f32⟩
  | 74 => ⟨S4x3x128, .f32⟩
  | 75 => ⟨S_, .f32⟩
  | 76 => ⟨S4x3x128, .f32⟩
  | 77 => ⟨S4x3x128, .f32⟩
  | 78 => ⟨S4x3x128, .f32⟩
  | 79 => ⟨S_, .f32⟩
  | 80 => ⟨S4x3x128, .f32⟩
  | 81 => ⟨S4x3x128, .f32⟩
  | 82 => ⟨S4x3x128, .f32⟩
  | 83 => ⟨S_, .f32⟩
  | 84 => ⟨S4x3x128, .f32⟩
  | 85 => ⟨S4x3x128, .f32⟩
  | 86 => ⟨S4x3x128, .f32⟩
  | 87 => ⟨S_, .f32⟩
  | 88 => ⟨S4x3x128, .f32⟩
  | 89 => ⟨S4x3x128, .f32⟩
  | 90 => ⟨S_, .f32⟩
  | 91 => ⟨S4x4x128x128, .f32⟩
  | 92 => ⟨S4x4x128x128, .f32⟩
  | 93 => ⟨S_, .f32⟩
  | 94 => ⟨S4x4x128x128, .f32⟩
  | 95 => ⟨S4x4x128x128, .f32⟩
  | 96 => ⟨S4x4x128x128, .f32⟩
  | 97 => ⟨S_, .f32⟩
  | 98 => ⟨S4x4x128x128, .f32⟩
  | 99 => ⟨S4x4x128x128, .f32⟩
  | 100 => ⟨S4x4x128x128, .f32⟩
  | 101 => ⟨S_, .f32⟩
  | 102 => ⟨S4x4x128x128, .f32⟩
  | 103 => ⟨S4x4x128x128, .f32⟩
  | 104 => ⟨S4x4x128x128, .f32⟩
  | 105 => ⟨S_, .f32⟩
  | 106 => ⟨S4x4x128x128, .f32⟩
  | 107 => ⟨S4x4x128x128, .f32⟩
  | 108 => ⟨S_, .f32⟩
  | 109 => ⟨S4x4x128x128, .f32⟩
  | 110 => ⟨S4x4x128x128, .f32⟩
  | 111 => ⟨S4x4x128x128, .f32⟩
  | 112 => ⟨S_, .f32⟩
  | 113 => ⟨S4x4x128x128, .f32⟩
  | 114 => ⟨S4x4x128x128, .f32⟩
  | 115 => ⟨S4x4x128x128, .f32⟩
  | 116 => ⟨S_, .f32⟩
  | 117 => ⟨S4x4x128x128, .f32⟩
  | 118 => ⟨S4x4x128x128, .f32⟩
  | 119 => ⟨S4x4x128x128, .f32⟩
  | 120 => ⟨S_, .f32⟩
  | 121 => ⟨S4x4x128x128, .f32⟩
  | 122 => ⟨S4x4x128x128, .f32⟩
  | 123 => ⟨S_, .f32⟩
  | 124 => ⟨S4x512, .f32⟩
  | 125 => ⟨S4x512, .f32⟩
  | 126 => ⟨S_, .f32⟩
  | 127 => ⟨S4x512, .f32⟩
  | _ => ⟨S4x8, .f32⟩

abbrev hbmTy0_1 (i : Nat) : BufTy := match i % 128 with
  | 0 => ⟨S4x512, .f32⟩
  | 1 => ⟨S4x512, .f32⟩
  | 2 => ⟨S_, .f32⟩
  | 3 => ⟨S4x512, .f32⟩
  | 4 => ⟨S4x512, .f32⟩
  | 5 => ⟨S4x512, .f32⟩
  | 6 => ⟨S_, .f32⟩
  | 7 => ⟨S4x512, .f32⟩
  | 8 => ⟨S4x512, .f32⟩
  | 9 => ⟨S4x512, .f32⟩
  | 10 => ⟨S_, .f32⟩
  | 11 => ⟨S4x512, .f32⟩
  | 12 => ⟨S4x512, .f32⟩
  | 13 => ⟨S_, .f32⟩
  | 14 => ⟨S4x512, .f32⟩
  | 15 => ⟨S4x512, .f32⟩
  | 16 => ⟨S4x512, .f32⟩
  | 17 => ⟨S_, .f32⟩
  | 18 => ⟨S4x512, .f32⟩
  | 19 => ⟨S4x512, .f32⟩
  | 20 => ⟨S4x512, .f32⟩
  | 21 => ⟨S_, .f32⟩
  | 22 => ⟨S4x512, .f32⟩
  | 23 => ⟨S4x512, .f32⟩
  | 24 => ⟨S4x512, .f32⟩
  | 25 => ⟨S_, .f32⟩
  | 26 => ⟨S4x512, .f32⟩
  | 27 => ⟨S4x512, .f32⟩
  | 28 => ⟨S_, .f32⟩
  | 29 => ⟨S4x2048, .f32⟩
  | 30 => ⟨S4x2048, .f32⟩
  | 31 => ⟨S_, .f32⟩
  | 32 => ⟨S4x2048, .f32⟩
  | 33 => ⟨S4x2048, .f32⟩
  | 34 => ⟨S4x2048, .f32⟩
  | 35 => ⟨S_, .f32⟩
  | 36 => ⟨S4x2048, .f32⟩
  | 37 => ⟨S4x2048, .f32⟩
  | 38 => ⟨S4x2048, .f32⟩
  | 39 => ⟨S_, .f32⟩
  | 40 => ⟨S4x2048, .f32⟩
  | 41 => ⟨S4x2048, .f32⟩
  | 42 => ⟨S4x2048, .f32⟩
  | 43 => ⟨S_, .f32⟩
  | 44 => ⟨S4x2048, .f32⟩
  | 45 => ⟨S4x2048, .f32⟩
  | 46 => ⟨S_, .f32⟩
  | 47 => ⟨S4x2048, .f32⟩
  | 48 => ⟨S4x2048, .f32⟩
  | 49 => ⟨S4x2048, .f32⟩
  | 50 => ⟨S_, .f32⟩
  | 51 => ⟨S4x2048, .f32⟩
  | 52 => ⟨S4x2048, .f32⟩
  | 53 => ⟨S4x2048, .f32⟩
  | 54 => ⟨S_, .f32⟩
  | 55 => ⟨S4x2048, .f32⟩
  | 56 => ⟨S4x2048, .f32⟩
  | 57 => ⟨S4x2048, .f32⟩
  | 58 => ⟨S_, .f32⟩
  | 59 => ⟨S4x2048, .f32⟩
  | 60 => ⟨S4x2048, .f32⟩
  | 61 => ⟨S_, .f32⟩
  | 62 => ⟨S4x2048, .f32⟩
  | 63 => ⟨S4x2048, .f32⟩
  | 64 => ⟨S_, .f32⟩
  | 65 => ⟨S4x2048, .f32⟩
  | 66 => ⟨S4x2048, .f32⟩
  | 67 => ⟨S4x2048, .f32⟩
  | 68 => ⟨S_, .f32⟩
  | 69 => ⟨S4x2048, .f32⟩
  | 70 => ⟨S4x2048, .f32⟩
  | 71 => ⟨S4x2048, .f32⟩
  | 72 => ⟨S_, .f32⟩
  | 73 => ⟨S4x2048, .f32⟩
  | 74 => ⟨S4x2048, .f32⟩
  | 75 => ⟨S4x2048, .f32⟩
  | 76 => ⟨S_, .f32⟩
  | 77 => ⟨S4x2048, .f32⟩
  | 78 => ⟨S4x2048, .f32⟩
  | 79 => ⟨S_, .f32⟩
  | 80 => ⟨S4x2048, .f32⟩
  | 81 => ⟨S4x2048, .f32⟩
  | 82 => ⟨S4x2048, .f32⟩
  | 83 => ⟨S_, .f32⟩
  | 84 => ⟨S4x2048, .f32⟩
  | 85 => ⟨S4x2048, .f32⟩
  | 86 => ⟨S4x2048, .f32⟩
  | 87 => ⟨S_, .f32⟩
  | 88 => ⟨S4x2048, .f32⟩
  | 89 => ⟨S4x2048, .f32⟩
  | 90 => ⟨S4x2048, .f32⟩
  | 91 => ⟨S_, .f32⟩
  | 92 => ⟨S4x2048, .f32⟩
  | 93 => ⟨S4x2048, .f32⟩
  | _ => ⟨S4x8, .f32⟩

abbrev hbmTy (i : Nat) : BufTy := match i / 128 with
  | 0 => hbmTy0_0 i
  | 1 => hbmTy0_1 i
  | _ => ⟨S4x8, .f32⟩

abbrev bufTy : (tb : Table) → Fin (tcTables nBuf tb) → BufTy
  | .hbm, ⟨i, _⟩ => hbmTy i
  | _, _ => ⟨S4x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_cst : Ref sig .tc := ⟨.hbm, 24, rfl⟩
abbrev main_v0 : Ref sig .tc := ⟨.hbm, 25, rfl⟩
abbrev main_v1 : Ref sig .tc := ⟨.hbm, 26, rfl⟩
abbrev main_cst_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_cst_1 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_2 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst_3 : Ref sig .tc := ⟨.hbm, 39, rfl⟩
abbrev main_v11 : Ref sig .tc := ⟨.hbm, 40, rfl⟩
abbrev main_v12 : Ref sig .tc := ⟨.hbm, 41, rfl⟩
abbrev main_cst_4 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_cst_5 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst_6 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_cst_7 : Ref sig .tc := ⟨.hbm, 54, rfl⟩
abbrev main_v22 : Ref sig .tc := ⟨.hbm, 55, rfl⟩
abbrev main_v23 : Ref sig .tc := ⟨.hbm, 56, rfl⟩
abbrev main_cst_8 : Ref sig .tc := ⟨.hbm, 57, rfl⟩
abbrev main_v24 : Ref sig .tc := ⟨.hbm, 58, rfl⟩
abbrev main_v25 : Ref sig .tc := ⟨.hbm, 59, rfl⟩
abbrev main_cst_9 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_cst_10 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_11 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_12 : Ref sig .tc := ⟨.hbm, 72, rfl⟩
abbrev main_v35 : Ref sig .tc := ⟨.hbm, 73, rfl⟩
abbrev main_v36 : Ref sig .tc := ⟨.hbm, 74, rfl⟩
abbrev main_cst_13 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_cst_14 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_cst_15 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_cst_16 : Ref sig .tc := ⟨.hbm, 87, rfl⟩
abbrev main_v46 : Ref sig .tc := ⟨.hbm, 88, rfl⟩
abbrev main_v47 : Ref sig .tc := ⟨.hbm, 89, rfl⟩
abbrev main_cst_17 : Ref sig .tc := ⟨.hbm, 90, rfl⟩
abbrev main_v48 : Ref sig .tc := ⟨.hbm, 91, rfl⟩
abbrev main_v49 : Ref sig .tc := ⟨.hbm, 92, rfl⟩
abbrev main_cst_18 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_cst_19 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_cst_20 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_cst_21 : Ref sig .tc := ⟨.hbm, 105, rfl⟩
abbrev main_v59 : Ref sig .tc := ⟨.hbm, 106, rfl⟩
abbrev main_v60 : Ref sig .tc := ⟨.hbm, 107, rfl⟩
abbrev main_cst_22 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_cst_23 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_cst_24 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_cst_25 : Ref sig .tc := ⟨.hbm, 120, rfl⟩
abbrev main_v70 : Ref sig .tc := ⟨.hbm, 121, rfl⟩
abbrev main_v71 : Ref sig .tc := ⟨.hbm, 122, rfl⟩
abbrev main_cst_26 : Ref sig .tc := ⟨.hbm, 123, rfl⟩
abbrev main_v72 : Ref sig .tc := ⟨.hbm, 124, rfl⟩
abbrev main_v73 : Ref sig .tc := ⟨.hbm, 125, rfl⟩
abbrev main_cst_27 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_cst_28 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_cst_29 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_cst_30 : Ref sig .tc := ⟨.hbm, 138, rfl⟩
abbrev main_v83 : Ref sig .tc := ⟨.hbm, 139, rfl⟩
abbrev main_v84 : Ref sig .tc := ⟨.hbm, 140, rfl⟩
abbrev main_cst_31 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_cst_32 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_cst_33 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_cst_34 : Ref sig .tc := ⟨.hbm, 153, rfl⟩
abbrev main_v94 : Ref sig .tc := ⟨.hbm, 154, rfl⟩
abbrev main_v95 : Ref sig .tc := ⟨.hbm, 155, rfl⟩
abbrev main_cst_35 : Ref sig .tc := ⟨.hbm, 156, rfl⟩
abbrev main_v96 : Ref sig .tc := ⟨.hbm, 157, rfl⟩
abbrev main_v97 : Ref sig .tc := ⟨.hbm, 158, rfl⟩
abbrev main_cst_36 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_cst_37 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_cst_38 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_cst_39 : Ref sig .tc := ⟨.hbm, 171, rfl⟩
abbrev main_v107 : Ref sig .tc := ⟨.hbm, 172, rfl⟩
abbrev main_v108 : Ref sig .tc := ⟨.hbm, 173, rfl⟩
abbrev main_cst_40 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_cst_41 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_cst_42 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_cst_43 : Ref sig .tc := ⟨.hbm, 186, rfl⟩
abbrev main_v118 : Ref sig .tc := ⟨.hbm, 187, rfl⟩
abbrev main_v119 : Ref sig .tc := ⟨.hbm, 188, rfl⟩
abbrev main_cst_44 : Ref sig .tc := ⟨.hbm, 189, rfl⟩
abbrev main_v120 : Ref sig .tc := ⟨.hbm, 190, rfl⟩
abbrev main_v121 : Ref sig .tc := ⟨.hbm, 191, rfl⟩
abbrev main_cst_45 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_cst_46 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_cst_47 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_cst_48 : Ref sig .tc := ⟨.hbm, 204, rfl⟩
abbrev main_v131 : Ref sig .tc := ⟨.hbm, 205, rfl⟩
abbrev main_v132 : Ref sig .tc := ⟨.hbm, 206, rfl⟩
abbrev main_cst_49 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_cst_50 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_cst_51 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_cst_52 : Ref sig .tc := ⟨.hbm, 219, rfl⟩
abbrev main_v142 : Ref sig .tc := ⟨.hbm, 220, rfl⟩
abbrev main_v143 : Ref sig .tc := ⟨.hbm, 221, rfl⟩

abbrev nD : Nat := 1
abbrev τ : Topo := Topo.v7x

variable {F : FTy → Type} [FloatOps F]
-- ==== KernelSums.lean ====
abbrev S_ : Shape := ⟨0, ![]⟩
abbrev S8x4x4x128x128 : Shape := ⟨5, ![8, 4, 4, 128, 128]⟩
abbrev S8x4x3x512 : Shape := ⟨4, ![8, 4, 3, 512]⟩
abbrev S8x4x512 : Shape := ⟨3, ![8, 4, 512]⟩
abbrev S8x4x2048 : Shape := ⟨3, ![8, 4, 2048]⟩
abbrev S8x4x8 : Shape := ⟨3, ![8, 4, 8]⟩
abbrev S8 : Shape := ⟨1, ![8]⟩
abbrev S8x4x8x2048 : Shape := ⟨4, ![8, 4, 8, 2048]⟩
abbrev S8x262144 : Shape := ⟨2, ![8, 262144]⟩
abbrev S8x2048x128 : Shape := ⟨3, ![8, 2048, 128]⟩
abbrev S8x6144 : Shape := ⟨2, ![8, 6144]⟩
abbrev S8x48x128 : Shape := ⟨3, ![8, 48, 128]⟩
abbrev S8x2048 : Shape := ⟨2, ![8, 2048]⟩
abbrev S8x16x128 : Shape := ⟨3, ![8, 16, 128]⟩
abbrev S8x8192 : Shape := ⟨2, ![8, 8192]⟩
abbrev S8x64x128 : Shape := ⟨3, ![8, 64, 128]⟩
abbrev S8x32 : Shape := ⟨2, ![8, 32]⟩
abbrev S8x1024 : Shape := ⟨2, ![8, 1024]⟩
abbrev S8x8x128 : Shape := ⟨3, ![8, 8, 128]⟩
abbrev S8x1 : Shape := ⟨2, ![8, 1]⟩
abbrev S8x65536 : Shape := ⟨2, ![8, 65536]⟩
abbrev S8x512x128 : Shape := ⟨3, ![8, 512, 128]⟩
abbrev S8x2768x128 : Shape := ⟨3, ![8, 2768, 128]⟩
abbrev S22144x128 : Shape := ⟨2, ![22144, 128]⟩
abbrev S2768x128 : Shape := ⟨2, ![2768, 128]⟩
abbrev S1x4x4x128x128 : Shape := ⟨5, ![1, 4, 4, 128, 128]⟩
abbrev S4x4x128x128 : Shape := ⟨4, ![4, 4, 128, 128]⟩
abbrev S262144 : Shape := ⟨1, ![262144]⟩
abbrev S2048x128 : Shape := ⟨2, ![2048, 128]⟩
abbrev S1x4x3x512 : Shape := ⟨4, ![1, 4, 3, 512]⟩
abbrev S4x3x512 : Shape := ⟨3, ![4, 3, 512]⟩
abbrev S6144 : Shape := ⟨1, ![6144]⟩
abbrev S48x128 : Shape := ⟨2, ![48, 128]⟩
abbrev S1x4x512 : Shape := ⟨3, ![1, 4, 512]⟩
abbrev S4x512 : Shape := ⟨2, ![4, 512]⟩
abbrev S2048 : Shape := ⟨1, ![2048]⟩
abbrev S16x128 : Shape := ⟨2, ![16, 128]⟩
abbrev S1x4x2048 : Shape := ⟨3, ![1, 4, 2048]⟩
abbrev S4x2048 : Shape := ⟨2, ![4, 2048]⟩
abbrev S8192 : Shape := ⟨1, ![8192]⟩
abbrev S64x128 : Shape := ⟨2, ![64, 128]⟩
abbrev S1x4x8 : Shape := ⟨3, ![1, 4, 8]⟩
abbrev S4x8 : Shape := ⟨2, ![4, 8]⟩
abbrev S32 : Shape := ⟨1, ![32]⟩
abbrev S1024 : Shape := ⟨1, ![1024]⟩
abbrev S8x128 : Shape := ⟨2, ![8, 128]⟩
abbrev S1 : Shape := ⟨1, ![1]⟩
abbrev S1x4x8x2048 : Shape := ⟨4, ![1, 4, 8, 2048]⟩
abbrev S4x8x2048 : Shape := ⟨3, ![4, 8, 2048]⟩
abbrev S65536 : Shape := ⟨1, ![65536]⟩
abbrev S512x128 : Shape := ⟨2, ![512, 128]⟩
abbrev S4x3x128 : Shape := ⟨3, ![4, 3, 128]⟩

abbrev nBuf : Space → Nat
  | .hbm => 144
  | .vmem => 2
  | .smem => 0
  | _ => 0

abbrev hbmTy0_0 (i : Nat) : BufTy := match i % 128 with
  | 0 => ⟨S_, .i32⟩
  | 1 => ⟨S8x4x4x128x128, .f32⟩
  | 2 => ⟨S8x4x3x512, .f32⟩
  | 3 => ⟨S8x4x512, .f32⟩
  | 4 => ⟨S8x4x2048, .f32⟩
  | 5 => ⟨S8x4x2048, .f32⟩
  | 6 => ⟨S8x4x8, .f32⟩
  | 7 => ⟨S8, .f32⟩
  | 8 => ⟨S8x4x8x2048, .f32⟩
  | 9 => ⟨S8x262144, .f32⟩
  | 10 => ⟨S_, .i32⟩
  | 11 => ⟨S_, .f32⟩
  | 12 => ⟨S8x262144, .f32⟩
  | 13 => ⟨S8x2048x128, .f32⟩
  | 14 => ⟨S8x6144, .f32⟩
  | 15 => ⟨S_, .i32⟩
  | 16 => ⟨S_, .f32⟩
  | 17 => ⟨S8x6144, .f32⟩
  | 18 => ⟨S8x48x128, .f32⟩
  | 19 => ⟨S8x2048, .f32⟩
  | 20 => ⟨S_, .i32⟩
  | 21 => ⟨S_, .f32⟩
  | 22 => ⟨S8x2048, .f32⟩
  | 23 => ⟨S8x16x128, .f32⟩
  | 24 => ⟨S8x8192, .f32⟩
  | 25 => ⟨S_, .i32⟩
  | 26 => ⟨S_, .f32⟩
  | 27 => ⟨S8x8192, .f32⟩
  | 28 => ⟨S8x64x128, .f32⟩
  | 29 => ⟨S8x8192, .f32⟩
  | 30 => ⟨S_, .i32⟩
  | 31 => ⟨S_, .f32⟩
  | 32 => ⟨S8x8192, .f32⟩
  | 33 => ⟨S8x64x128, .f32⟩
  | 34 => ⟨S8x32, .f32⟩
  | 35 => ⟨S_, .i32⟩
  | 36 => ⟨S_, .f32⟩
  | 37 => ⟨S8x1024, .f32⟩
  | 38 => ⟨S8x8x128, .f32⟩
  | 39 => ⟨S8x1, .f32⟩
  | 40 => ⟨S_, .i32⟩
  | 41 => ⟨S_, .f32⟩
  | 42 => ⟨S8x1024, .f32⟩
  | 43 => ⟨S8x8x128, .f32⟩
  | 44 => ⟨S8x65536, .f32⟩
  | 45 => ⟨S_, .i32⟩
  | 46 => ⟨S_, .f32⟩
  | 47 => ⟨S8x65536, .f32⟩
  | 48 => ⟨S8x512x128, .f32⟩
  | 49 => ⟨S8x2768x128, .f32⟩
  | 50 => ⟨S22144x128, .f32⟩
  | 51 => ⟨S2768x128, .f32⟩
  | 52 => ⟨S1x4x4x128x128, .f32⟩
  | 53 => ⟨S4x4x128x128, .f32⟩
  | 54 => ⟨S262144, .f32⟩
  | 55 => ⟨S_, .i32⟩
  | 56 => ⟨S_, .f32⟩
  | 57 => ⟨S262144, .f32⟩
  | 58 => ⟨S2048x128, .f32⟩
  | 59 => ⟨S2048x128, .f32⟩
  | 60 => ⟨S262144, .f32⟩
  | 61 => ⟨S4x4x128x128, .f32⟩
  | 62 => ⟨S1x4x3x512, .f32⟩
  | 63 => ⟨S4x3x512, .f32⟩
  | 64 => ⟨S6144, .f32⟩
  | 65 => ⟨S_, .i32⟩
  | 66 => ⟨S_, .f32⟩
  | 67 => ⟨S6144, .f32⟩
  | 68 => ⟨S48x128, .f32⟩
  | 69 => ⟨S48x128, .f32⟩
  | 70 => ⟨S6144, .f32⟩
  | 71 => ⟨S4x3x512, .f32⟩
  | 72 => ⟨S1x4x512, .f32⟩
  | 73 => ⟨S4x512, .f32⟩
  | 74 => ⟨S2048, .f32⟩
  | 75 => ⟨S_, .i32⟩
  | 76 => ⟨S_, .f32⟩
  | 77 => ⟨S2048, .f32⟩
  | 78 => ⟨S16x128, .f32⟩
  | 79 => ⟨S16x128, .f32⟩
  | 80 => ⟨S2048, .f32⟩
  | 81 => ⟨S4x512, .f32⟩
  | 82 => ⟨S1x4x2048, .f32⟩
  | 83 => ⟨S4x2048, .f32⟩
  | 84 => ⟨S8192, .f32⟩
  | 85 => ⟨S_, .i32⟩
  | 86 => ⟨S_, .f32⟩
  | 87 => ⟨S8192, .f32⟩
  | 88 => ⟨S64x128, .f32⟩
  | 89 => ⟨S64x128, .f32⟩
  | 90 => ⟨S8192, .f32⟩
  | 91 => ⟨S4x2048, .f32⟩
  | 92 => ⟨S1x4x2048, .f32⟩
  | 93 => ⟨S4x2048, .f32⟩
  | 94 => ⟨S8192, .f32⟩
  | 95 => ⟨S_, .i32⟩
  | 96 => ⟨S_, .f32⟩
  | 97 => ⟨S8192, .f32⟩
  | 98 => ⟨S64x128, .f32⟩
  | 99 => ⟨S64x128, .f32⟩
  | 100 => ⟨S8192, .f32⟩
  | 101 => ⟨S4x2048, .f32⟩
  | 102 => ⟨S1x4x8, .f32⟩
  | 103 => ⟨S4x8, .f32⟩
  | 104 => ⟨S32, .f32⟩
  | 105 => ⟨S_, .i32⟩
  | 106 => ⟨S_, .f32⟩
  | 107 => ⟨S1024, .f32⟩
  | 108 => ⟨S8x128, .f32⟩
  | 109 => ⟨S8x128, .f32⟩
  | 110 => ⟨S1024, .f32⟩
  | 111 => ⟨S32, .f32⟩
  | 112 => ⟨S4x8, .f32⟩
  | 113 => ⟨S1, .f32⟩
  | 114 => ⟨S_, .f32⟩
  | 115 => ⟨S1, .f32⟩
  | 116 => ⟨S_, .i32⟩
  | 117 => ⟨S_, .f32⟩
  | 118 => ⟨S1024, .f32⟩
  | 119 => ⟨S8x128, .f32⟩
  | 120 => ⟨S8x128, .f32⟩
  | 121 => ⟨S1024, .f32⟩
  | 122 => ⟨S1, .f32⟩
  | 123 => ⟨S_, .f32⟩
  | 124 => ⟨S1x4x8x2048, .f32⟩
  | 125 => ⟨S4x8x2048, .f32⟩
  | 126 => ⟨S65536, .f32⟩
  | 127 => ⟨S_, .i32⟩
  | _ => ⟨S_, .i32⟩

abbrev hbmTy0_1 (i : Nat) : BufTy := match i % 128 with
  | 0 => ⟨S_, .f32⟩
  | 1 => ⟨S65536, .f32⟩
  | 2 => ⟨S512x128, .f32⟩
  | 3 => ⟨S512x128, .f32⟩
  | 4 => ⟨S65536, .f32⟩
  | 5 => ⟨S4x8x2048, .f32⟩
  | 6 => ⟨S_, .i32⟩
  | 7 => ⟨S_, .i32⟩
  | 8 => ⟨S_, .i32⟩
  | 9 => ⟨S_, .i1⟩
  | 10 => ⟨S_, .i32⟩
  | 11 => ⟨S_, .i32⟩
  | 12 => ⟨S_, .i32⟩
  | 13 => ⟨S_, .i32⟩
  | 14 => ⟨S_, .i32⟩
  | 15 => ⟨S4x3x128, .f32⟩
  | _ => ⟨S_, .i32⟩

abbrev hbmTy (i : Nat) : BufTy := match i / 128 with
  | 0 => hbmTy0_0 i
  | 1 => hbmTy0_1 i
  | _ => ⟨S_, .i32⟩

abbrev bufTy : (tb : Table) → Fin (tcTables nBuf tb) → BufTy
  | .hbm, ⟨i, _⟩ => hbmTy i
  | .local _ .vmem, ⟨0, _⟩ => ⟨S22144x128, .f32⟩
  | .local _ .vmem, ⟨1, _⟩ => ⟨S2768x128, .f32⟩
  | _, _ => ⟨S_, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_call1_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_call2_v0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c_2 : Ref sig .tc := ⟨.hbm, 25, rfl⟩
abbrev main_call3_v0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c_3 : Ref sig .tc := ⟨.hbm, 30, rfl⟩
abbrev main_call4_v0 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_call5_v0 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_5 : Ref sig .tc := ⟨.hbm, 40, rfl⟩
abbrev main_call6_v0 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_6 : Ref sig .tc := ⟨.hbm, 45, rfl⟩
abbrev main_call7_v0 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_c_7 : Ref sig .tc := ⟨.hbm, 55, rfl⟩
abbrev main_call8_v0 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_c_8 : Ref sig .tc := ⟨.hbm, 65, rfl⟩
abbrev main_call9_v0 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_c_9 : Ref sig .tc := ⟨.hbm, 75, rfl⟩
abbrev main_call10_v0 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_c_10 : Ref sig .tc := ⟨.hbm, 85, rfl⟩
abbrev main_call11_v0 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_c_11 : Ref sig .tc := ⟨.hbm, 95, rfl⟩
abbrev main_call12_v0 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_c_12 : Ref sig .tc := ⟨.hbm, 105, rfl⟩
abbrev main_call13_v0 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_c_13 : Ref sig .tc := ⟨.hbm, 116, rfl⟩
abbrev main_call14_v0 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_c_14 : Ref sig .tc := ⟨.hbm, 127, rfl⟩
abbrev main_call15_v0 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_c_15 : Ref sig .tc := ⟨.hbm, 134, rfl⟩
abbrev main_v93 : Ref sig .tc := ⟨.hbm, 135, rfl⟩
abbrev main_c_16 : Ref sig .tc := ⟨.hbm, 136, rfl⟩
abbrev main_v94 : Ref sig .tc := ⟨.hbm, 137, rfl⟩
abbrev main_c_17 : Ref sig .tc := ⟨.hbm, 138, rfl⟩
abbrev main_v95 : Ref sig .tc := ⟨.hbm, 139, rfl⟩
abbrev main_v96 : Ref sig .tc := ⟨.hbm, 140, rfl⟩
abbrev main_c_18 : Ref sig .tc := ⟨.hbm, 141, rfl⟩
abbrev main_c_19 : Ref sig .tc := ⟨.hbm, 142, rfl⟩
abbrev main_v97 : Ref sig .tc := ⟨.hbm, 143, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S22144x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2768x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceSumsIdeal.lean ====
abbrev S_ : Shape := ⟨0, ![]⟩
abbrev S8x4x4x128x128 : Shape := ⟨5, ![8, 4, 4, 128, 128]⟩
abbrev S8x4x3x512 : Shape := ⟨4, ![8, 4, 3, 512]⟩
abbrev S8x4x512 : Shape := ⟨3, ![8, 4, 512]⟩
abbrev S8x4x2048 : Shape := ⟨3, ![8, 4, 2048]⟩
abbrev S8x4x8 : Shape := ⟨3, ![8, 4, 8]⟩
abbrev S8 : Shape := ⟨1, ![8]⟩
abbrev S8x4x8x2048 : Shape := ⟨4, ![8, 4, 8, 2048]⟩
abbrev S4x3x512 : Shape := ⟨3, ![4, 3, 512]⟩
abbrev S4x3x128 : Shape := ⟨3, ![4, 3, 128]⟩
abbrev S4x8 : Shape := ⟨2, ![4, 8]⟩
abbrev S4x4x128x128 : Shape := ⟨4, ![4, 4, 128, 128]⟩
abbrev S4x512 : Shape := ⟨2, ![4, 512]⟩
abbrev S4x2048 : Shape := ⟨2, ![4, 2048]⟩
abbrev S4x8x2048 : Shape := ⟨3, ![4, 8, 2048]⟩

abbrev nBuf : Space → Nat
  | .hbm => 35
  | .vmem => 0
  | .smem => 0
  | _ => 0

abbrev bufTy : (tb : Table) → Fin (tcTables nBuf tb) → BufTy
  | .hbm, ⟨0, _⟩ => ⟨S_, .i32⟩
  | .hbm, ⟨1, _⟩ => ⟨S8x4x4x128x128, .f32⟩
  | .hbm, ⟨2, _⟩ => ⟨S8x4x3x512, .f32⟩
  | .hbm, ⟨3, _⟩ => ⟨S8x4x512, .f32⟩
  | .hbm, ⟨4, _⟩ => ⟨S8x4x2048, .f32⟩
  | .hbm, ⟨5, _⟩ => ⟨S8x4x2048, .f32⟩
  | .hbm, ⟨6, _⟩ => ⟨S8x4x8, .f32⟩
  | .hbm, ⟨7, _⟩ => ⟨S8, .f32⟩
  | .hbm, ⟨8, _⟩ => ⟨S8x4x8x2048, .f32⟩
  | .hbm, ⟨9, _⟩ => ⟨S_, .f32⟩
  | .hbm, ⟨10, _⟩ => ⟨S4x3x512, .f32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S4x3x128, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4x8, .f32⟩
  | .hbm, ⟨25, _⟩ => ⟨S_, .f32⟩
  | .hbm, ⟨26, _⟩ => ⟨S4x4x128x128, .f32⟩
  | .hbm, ⟨27, _⟩ => ⟨S_, .f32⟩
  | .hbm, ⟨28, _⟩ => ⟨S4x512, .f32⟩
  | .hbm, ⟨29, _⟩ => ⟨S_, .f32⟩
  | .hbm, ⟨30, _⟩ => ⟨S4x2048, .f32⟩
  | .hbm, ⟨31, _⟩ => ⟨S_, .f32⟩
  | .hbm, ⟨32, _⟩ => ⟨S4x2048, .f32⟩
  | .hbm, ⟨33, _⟩ => ⟨S_, .f32⟩
  | .hbm, ⟨34, _⟩ => ⟨S4x8x2048, .f32⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_c_1 : Ref sig .tc := ⟨.hbm, 15, rfl⟩
abbrev main_v3 : Ref sig .tc := ⟨.hbm, 16, rfl⟩
abbrev main_v4 : Ref sig .tc := ⟨.hbm, 17, rfl⟩
abbrev main_c_2 : Ref sig .tc := ⟨.hbm, 18, rfl⟩
abbrev main_c_3 : Ref sig .tc := ⟨.hbm, 19, rfl⟩
abbrev main_v5 : Ref sig .tc := ⟨.hbm, 20, rfl⟩
abbrev main_cst_4 : Ref sig .tc := ⟨.hbm, 21, rfl⟩
abbrev main_v6 : Ref sig .tc := ⟨.hbm, 22, rfl⟩
abbrev main_cst_5 : Ref sig .tc := ⟨.hbm, 23, rfl⟩
abbrev main_v7 : Ref sig .tc := ⟨.hbm, 24, rfl⟩
abbrev main_cst_6 : Ref sig .tc := ⟨.hbm, 25, rfl⟩
abbrev main_v8 : Ref sig .tc := ⟨.hbm, 26, rfl⟩
abbrev main_cst_7 : Ref sig .tc := ⟨.hbm, 27, rfl⟩
abbrev main_v9 : Ref sig .tc := ⟨.hbm, 28, rfl⟩
abbrev main_cst_8 : Ref sig .tc := ⟨.hbm, 29, rfl⟩
abbrev main_v10 : Ref sig .tc := ⟨.hbm, 30, rfl⟩
abbrev main_cst_9 : Ref sig .tc := ⟨.hbm, 31, rfl⟩
abbrev main_v11 : Ref sig .tc := ⟨.hbm, 32, rfl⟩
abbrev main_cst_10 : Ref sig .tc := ⟨.hbm, 33, rfl⟩
abbrev main_v12 : Ref sig .tc := ⟨.hbm, 34, rfl⟩

abbrev nD : Nat := 1
abbrev τ : Topo := Topo.v7x

variable {F : FTy → Type} [FloatOps F]
-- ==== KernelLoss.lean ====
abbrev S4096x2048 : Shape := ⟨2, ![4096, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S1x1 : Shape := ⟨2, ![1, 1]⟩
abbrev S_ : Shape := ⟨0, ![]⟩

abbrev nBuf : Space → Nat
  | .hbm => 6
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S8x128, .f32⟩
  | .hbm, ⟨4, _⟩ => ⟨S1x1, .f32⟩
  | .hbm, ⟨5, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceLossIdeal.lean ====
abbrev S4096x2048 : Shape := ⟨2, ![4096, 2048]⟩
abbrev S_ : Shape := ⟨0, ![]⟩
abbrev S4096 : Shape := ⟨1, ![4096]⟩

abbrev nBuf : Space → Nat
  | .hbm => 25
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x2048, .f32⟩
  | .hbm, ⟨24, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== Proof.Attn.Offsets.lean ====
/-
  Where the kernel reads and writes: at key block `kb = i 1` of a head, block `q` of the queries lies at rows `512 * q`, and the walk over the query
  blocks takes the diagonal block first, then the blocks below it two at a time.
-/
module

public import proofs.«01_k».proof.Proof.Gen.KernelIdeal.Skeleton
public import Idealize.ShloMosaic.Lib.Exec
public import Idealize.ShloMosaic.Lib.Tactic

@[expose] public section

set_option maxRecDepth 16384

noncomputable section

namespace Cert.KernelIdeal.Attn

open Cert.KernelIdeal
open Idealize.ShloMosaic Idealize.ShloMosaic.Tactic

/-- The number of pairs of query blocks below the diagonal that the loop takes. -/
def pairs (kb : ℕ) : ℕ := (7 - kb - 1) / 2

theorem trips1 : ∀ i : grid0.Coords, (k0_t1_loop i).trips = pairs (i 1).val := by decide +kernel
theorem trips2 : ∀ i : grid0.Coords, (k0_t2_loop i).trips = 0 := by decide +kernel
theorem cond2_iff : ∀ i : grid0.Coords, k0_cond2 i = 1#1 ↔ (i 1).val < 7 := by decide +kernel
theorem cond3_iff : ∀ i : grid0.Coords, k0_cond3 i = 1#1 ↔ 2 * pairs (i 1).val + 1 = 7 - (i 1).val := by decide +kernel
theorem cond4_iff : ∀ i : grid0.Coords, k0_cond4 i = 1#1 ↔ 2 * pairs (i 1).val + 2 = 7 - (i 1).val := by decide +kernel

theorem off1_eq : ∀ i : grid0.Coords, k0_off1 i = ![512 * (i 1).val, 0] := by decide +kernel
theorem off2_eq : ∀ i : grid0.Coords, k0_cond2 i = 1#1 → k0_off2 i = ![512 * ((i 1).val + 1), 0] := by decide +kernel
theorem off3_eq : ∀ i : grid0.Coords, k0_off3 i = ![512 * (i 1).val, 0] := by decide +kernel
theorem off4_eq : ∀ i : grid0.Coords, k0_off4 i = ![512 * (i 1).val, 0] := by decide +kernel
theorem off5_eq : ∀ i : grid0.Coords, k0_off5 i = ![512 * (i 1).val, 128] := by decide +kernel
theorem off6_eq : ∀ i : grid0.Coords, k0_off6 i = ![0, 0, 512 * (i 1).val] := by decide +kernel
theorem off7_1_eq : ∀ (i : grid0.Coords) (t : Fin (k0_t1_loop i).trips), k0_off7 i t 1#32 = ![512 * ((i 1).val + (2 * t.val + 2)), 0] := by decide +kernel
theorem off7_2_eq : ∀ (i : grid0.Coords) (t : Fin (k0_t1_loop i).trips), k0_off7 i t 2#32 = ![512 * ((i 1).val + (2 * t.val + 3)), 0] := by decide +kernel
theorem off8_eq : ∀ (i : grid0.Coords) (t : Fin (k0_t1_loop i).trips), k0_off8 i t = ![512 * ((i 1).val + (2 * t.val + 1)), 0] := by decide +kernel
theorem off9_eq : ∀ (i : grid0.Coords) (t : Fin (k0_t1_loop i).trips), k0_off9 i t = ![512 * ((i 1).val + (2 * t.val + 1)), 0] := by decide +kernel
theorem off10_eq : ∀ (i : grid0.Coords) (t : Fin (k0_t1_loop i).trips), k0_off10 i t = ![512 * ((i 1).val + (2 * t.val + 2)), 0] := by decide +kernel
theorem off15_eq : ∀ i : grid0.Coords, k0_cond3 i = 1#1 → k0_off15 i = ![512 * ((i 1).val + (2 * pairs (i 1).val + 1)), 0] := by decide +kernel
theorem off16_eq : ∀ i : grid0.Coords, k0_cond3 i = 1#1 → k0_off16 i = ![512 * ((i 1).val + (2 * pairs (i 1).val + 1)), 0] := by decide +kernel
theorem off17_eq : ∀ i : grid0.Coords, k0_cond4 i = 1#1 → k0_off17 i = ![512 * ((i 1).val + (2 * pairs (i 1).val + 2)), 0] := by decide +kernel
theorem off18_eq : ∀ i : grid0.Coords, k0_cond4 i = 1#1 → k0_off18 i = ![512 * ((i 1).val + (2 * pairs (i 1).val + 1)), 0] := by decide +kernel
theorem off19_eq : ∀ i : grid0.Coords, k0_cond4 i = 1#1 → k0_off19 i = ![512 * ((i 1).val + (2 * pairs (i 1).val + 1)), 0] := by decide +kernel
theorem off20_eq : ∀ i : grid0.Coords, k0_cond4 i = 1#1 → k0_off20 i = ![512 * ((i 1).val + (2 * pairs (i 1).val + 2)), 0] := by decide +kernel

instance (i : grid0.Coords) (t) : ClosedOff (k0_off8 i t) := ⟨_, off8_eq i t⟩
instance (i : grid0.Coords) (t) : ClosedOff (k0_off9 i t) := ⟨_, off9_eq i t⟩
instance (i : grid0.Coords) (t) : ClosedOff (k0_off10 i t) := ⟨_, off10_eq i t⟩

theorem off19_eq' : ∀ i : grid0.Coords, k0_off19 i = ![512 * ((i 1).val + (2 * pairs (i 1).val + 1)), 0] := by decide +kernel
theorem off20_eq' : ∀ i : grid0.Coords, k0_off20 i = ![512 * ((i 1).val + (2 * pairs (i 1).val + 2)), 0] := by decide +kernel
instance (i : grid0.Coords) : ClosedOff (k0_off19 i) := ⟨_, off19_eq' i⟩
instance (i : grid0.Coords) : ClosedOff (k0_off20 i) := ⟨_, off20_eq' i⟩

theorem kb_lt : ∀ i : grid0.Coords, (i 1).val < 8 := by decide +kernel

end Cert.KernelIdeal.Attn

end
-- ==== Proof.Attn.Model.lean ====
/-
  What one point of the grid computes, as functions on blocks of values, for any float values. A head's 4096 queries are eight blocks of 512 rows; a
  point has one key block `kb` of the head, and walks the query blocks `kb`, `kb + 1`, …, 7, adding each one's share to three accumulators.
-/
module

public import proofs.«01_k».proof.Proof.Gen.KernelIdeal.Skeleton
public import Idealize.ShloMosaic.Lib.Updates.Memory
public import Idealize.ShloMosaic.Lib.Updates.Window
public import Idealize.ShloMosaic.Lib.VecWindow

@[expose] public section

noncomputable section

namespace Cert.KernelIdeal.Attn

open Cert.KernelIdeal Cert.KernelIdeal.Gen
open Idealize.ShloMosaic Idealize.ShloMosaic.Updates Idealize.ShloMosaic.LaneScatter

section Blocks

variable {β : Type} {R C h w : ℕ}

/-- The block of extents `h`, `w` at the place `o` of a larger block. -/
def getAt (hR : 0 < R) (hC : 0 < C) (h w : ℕ) (o : ℕ × ℕ) (X : (Blk R C).Idx → β) : (Blk h w).Idx → β :=
  toBlk (loadAt o (ofBlk hR hC X))

/-- The block `X` with `W` written over it at the place `o`. -/
def putAt (hR : 0 < R) (hC : 0 < C) (hh : 0 < h) (hw : 0 < w) (o : ℕ × ℕ) (W : (Blk h w).Idx → β) (X : (Blk R C).Idx → β) : (Blk R C).Idx → β :=
  toBlk (storeAt o (h, w) (fun _ => True) (ofBlk hh hw W) (ofBlk hR hC X))

variable {sig : RefSig} {Val : EltTy → Type} {κ : Kind} {sp : Space} {e : EltTy}

theorem readAt_getAt (hR : 0 < R) (hC : 0 < C) {v : View sig κ sp (Blk R C) e} {f : v.ty.Contents Val} {X : (Blk R C).Idx → Val e}
    (hX : v.read Val f = X) {off : Fin 2 → ℕ} {a b : ℕ} (ho : off = ![a, b]) (inb : ∀ a, off a + (Blk h w).size a ≤ (Blk R C).size a) :
    View.readAt Val v (Rect.unit (s := Blk R C) off (Blk h w).size inb).toLoadRect f = getAt hR hC h w (a, b) X :=
  isArr_iff.mp (isArr_load (o := (a, b)) (hX ▸ isArr_ofBlk hR hC X) ho inb)

theorem writes_putAt (hR : 0 < R) (hC : 0 < C) (hh : 0 < h) (hw : 0 < w) {v : View sig κ sp (Blk R C) e} {f : v.ty.Contents Val}
    {L : List (View.Piece Val (Blk R C) e)} {X : (Blk R C).Idx → Val e} (hX : v.read Val (v.writes Val f L) = X)
    {off : Fin 2 → ℕ} {a b : ℕ} (ho : off = ![a, b]) (inb : ∀ a, off a + (Blk h w).size a ≤ (Blk R C).size a)
    {pay W : (Blk h w).Idx → Val e} (hW : pay = W) :
    v.read Val (v.writes Val f (⟨Rect.unit (s := Blk R C) off (Blk h w).size inb, pay⟩ :: L)) = putAt hR hC hh hw (a, b) W X :=
  isArr_iff.mp (isArr_writes_cons (o := (a, b)) (hX ▸ isArr_ofBlk hR hC X) ho inb (hW ▸ isArr_ofBlk hh hw _))

/-- A load of the whole of a view. -/
theorem readAt_whole {v : View sig κ sp (Blk R C) e} {f : v.ty.Contents Val} {X : (Blk R C).Idx → Val e} (hX : v.read Val f = X)
    (inb : ∀ a, (![0, 0] : Fin 2 → ℕ) a + (Blk R C).size a ≤ (Blk R C).size a) :
    View.readAt Val v (Rect.unit (s := Blk R C) ![0, 0] (Blk R C).size inb).toLoadRect f = X :=
  funext fun ι => by
    refine (isArr_load (o := (0, 0)) (isArr_iff.mpr (hX.trans (isArr_iff.mp (isArr_ofBlk (by have := (ι 0).isLt; exact Nat.zero_lt_of_lt this)
      (by have := (ι 1).isLt; exact Nat.zero_lt_of_lt this) X)))) rfl inb ι).trans ?_
    rw [loadAt]
    simp only [Nat.zero_add]
    exact (isArr_ofBlk _ _ X ι).symm

theorem hz2 : (![0, 0] : Fin 2 → Nat) = fun _ => 0 := funext fun a => by fin_cases a <;> rfl
theorem hz4 : (![0, 0, 0, 0] : Fin 4 → Nat) = fun _ => 0 := funext fun a => by fin_cases a <;> rfl

/-- A load of a whole view of any rank reads its contents. -/
theorem readAt_full {S : Shape} {v : View sig κ sp S e} {f : v.ty.Contents Val}
    {X : S.Idx → Val e} (hX : v.read Val f = X) {off : Fin S.rank → ℕ} (hz : off = fun _ => 0) (inb : ∀ a, off a + S.size a ≤ S.size a) :
    View.readAt Val v (Rect.unit (s := S) off S.size inb).toLoadRect f = X := by
  rw [View.readAt_eq_ld, hX]
  exact View.ld_unit_zero hz inb X

/-- A load of the whole of a view just stored whole. -/
theorem readCov_whole [∀ e, Nonempty (Val e)] (v : View sig κ sp (Blk R C) e) (inb inb' : ∀ a, (![0, 0] : Fin 2 → ℕ) a + (Blk R C).size a ≤ (Blk R C).size a)
    (w : (Blk R C).Idx → Val e) (L : List (View.Piece Val (Blk R C) e)) :
    v.readCov (⟨Rect.unit (s := Blk R C) ![0, 0] (Blk R C).size inb', w⟩ :: L) (Rect.unit (s := Blk R C) ![0, 0] (Blk R C).size inb).toLoadRect = w :=
  View.readCov_full v inb inb' w L

/-- What was not written over is still there. -/
theorem getAt_putAt_rows (hR : 0 < R) (hC : 0 < C) (hh : 0 < h) (hw : 0 < w) {a b c : ℕ} (W : (Blk h w).Idx → β) (X : (Blk R C).Idx → β)
    (ha : a + h ≤ R) (hw' : c + w ≤ C) (hab : a + h ≤ b ∨ b + h ≤ a) :
    getAt hR hC h w (a, c) (putAt hR hC hh hw (b, 0) W X) = getAt hR hC h w (a, c) X := by
  refine toBlk_congr fun x y hx hy => ?_
  show ofBlk hR hC _ (a + x, c + y) = ofBlk hR hC X (a + x, c + y)
  have e : ofBlk hR hC (putAt hR hC hh hw (b, 0) W X) (a + x, c + y) = storeAt (b, 0) (h, w) (fun _ => True) (ofBlk hh hw W) (ofBlk hR hC X) (a + x, c + y) :=
    ofBlk_apply hR hC _ (a := a + x) (b := c + y) (by omega) (by omega)
  rw [e]
  exact storeAt_miss fun hg => by
    obtain ⟨⟨⟨h1, h2⟩, -⟩, -⟩ := hg
    simp only at h1 h2
    omega

/-- What was just written is there. -/
theorem getAt_putAt_same (hR : 0 < R) (hC : 0 < C) (hh : 0 < h) (hw : 0 < w) {a : ℕ} (W : (Blk h w).Idx → β) (X : (Blk R C).Idx → β)
    (ha : a + h ≤ R) (hw' : w ≤ C) : getAt hR hC h w (a, 0) (putAt hR hC hh hw (a, 0) W X) = W := by
  refine Eq.trans ?_ (isArr_iff.mp (isArr_ofBlk hh hw W)).symm
  refine toBlk_congr fun x y hx hy => ?_
  refine (ofBlk_apply hR hC _ (a := a + x) (b := 0 + y) (by omega) (by omega)).trans ?_
  refine (storeAt_hit (o := (a, 0)) (s := (h, w)) (m := fun _ => True) (p := (a + x, 0 + y))
    ⟨⟨⟨Nat.le_add_right _ _, by show a + x < a + h; omega⟩, Nat.zero_le _, by show 0 + y < 0 + w; omega⟩, trivial⟩).trans ?_
  simp only [Nat.add_sub_cancel_left, Nat.sub_zero, Nat.zero_add]

/-- A part of what was just written, whatever was there before. -/
theorem getAt_putAt_part {w' : ℕ} (hR : 0 < R) (hC : 0 < C) (hh : 0 < h) (hw : 0 < w) {a b : ℕ} (W : (Blk h w).Idx → β) (X Y : (Blk R C).Idx → β)
    (ha : a + h ≤ R) (hb : b + w' ≤ w) (hw' : w ≤ C) :
    getAt hR hC h w' (a, b) (putAt hR hC hh hw (a, 0) W X) = getAt hR hC h w' (a, b) (putAt hR hC hh hw (a, 0) W Y) := by
  refine toBlk_congr fun x y hx hy => ?_
  have e : ∀ Z : (Blk R C).Idx → β, ofBlk hR hC (putAt hR hC hh hw (a, 0) W Z) (a + x, b + y) = ofBlk hh hw W (x, b + y) := fun Z => by
    refine (ofBlk_apply hR hC _ (a := a + x) (b := b + y) (by omega) (by omega)).trans ?_
    refine (storeAt_hit (o := (a, 0)) (s := (h, w)) (m := fun _ => True) (p := (a + x, b + y))
      ⟨⟨⟨Nat.le_add_right _ _, by show a + x < a + h; omega⟩, Nat.zero_le _, by show b + y < 0 + w; omega⟩, trivial⟩).trans ?_
    simp only [Nat.add_sub_cancel_left, Nat.sub_zero]
  exact (e X).trans (e Y).symm

/-- A load of part of what was just written. -/
theorem readCov_getAt {w' : ℕ} [∀ e, Nonempty (Val e)] (hR : 0 < R) (hC : 0 < C) (hh : 0 < h) (hw : 0 < w) (v : View sig κ sp (Blk R C) e)
    {off off' : Fin 2 → ℕ} {a b : ℕ} (ho : off = ![a, 0]) (ho' : off' = ![a, b]) (inb : ∀ a, off a + (Blk h w).size a ≤ (Blk R C).size a)
    (inb' : ∀ a, off' a + (Blk h w').size a ≤ (Blk R C).size a) {pay W : (Blk h w).Idx → Val e} (hW : pay = W) (Y : (Blk R C).Idx → Val e)
    (ha : a + h ≤ R) (hb : b + w' ≤ w) (hw' : w ≤ C) :
    v.readCov [⟨Rect.unit (s := Blk R C) off (Blk h w).size inb, pay⟩] (Rect.unit (s := Blk R C) off' (Blk h w').size inb').toLoadRect
      = getAt hR hC h w' (a, b) (putAt hR hC hh hw (a, 0) W Y) :=
  (readAt_getAt hR hC (writes_putAt hR hC hh hw (L := []) rfl ho inb hW) ho' inb').trans (getAt_putAt_part hR hC hh hw W _ Y ha hb hw')

end Blocks

variable {F : FTy → Type} [FloatOps F] [Named F]

/-- What a point reads: the head's queries, cotangents, log-sum-exps and deltas, and the key block's keys, values and cumulative sums. -/
structure Inp (F : FTy → Type) where
  Q : Vec F S4096x128 .bf16
  K : Vec F S512x128 .bf16
  V : Vec F S512x128 .bf16
  DO : Vec F S4096x128 .bf16
  LSE : Vec F S4096x128 .f32
  DL : Vec F S4096x128 .f32
  C : Vec F S1x1x1x512 .f32

/-- The three accumulators. -/
structure St (F : FTy → Type) where
  dq : Vec F S4096x256 .f32
  dk : Vec F S512x256 .f32
  dv : Vec F S512x128 .f32

/-- Query block `q`'s 512 rows of a head's array. -/
abbrev rows {e : EltTy} (q : ℕ) (X : Vec F S4096x128 e) : Vec F S512x128 e := getAt (by decide) (by decide) 512 128 (512 * q, 0) X
/-- Query block `q`'s 512 rows of the query accumulator, and the same rows replaced. -/
abbrev qrows (q : ℕ) (X : Vec F S4096x256 .f32) : Vec F S512x256 .f32 := getAt (by decide) (by decide) 512 256 (512 * q, 0) X
abbrev putQ (q : ℕ) (W : Vec F S512x256 .f32) (X : Vec F S4096x256 .f32) : Vec F S4096x256 .f32 :=
  putAt (by decide) (by decide) (by decide) (by decide) (512 * q, 0) W X

/-- The point's cumulative sums times log₂ e, its keys beside ones, and the ones. -/
abbrev cv (I : Inp F) : FVec F S1x512 .f32 := k0_pay51 I.C
abbrev kk (I : Inp F) : FVec F S512x256 .bf16 := k0_pay52 I.K
abbrev ones : FVec F S512x128 .bf16 := k0_pay53 (F := F)

/-- Query block `q`'s products with the keys, and its cotangents' products with the values. -/
def sT (I : Inp F) (q : ℕ) : Vec F S512x512 .f32 := k0_pay4 I.K (rows q I.Q)
def dpT (I : Inp F) (q : ℕ) : Vec F S512x512 .f32 := k0_pay5 I.V (rows q I.DO)

/-- The weights of query block `q`, below the diagonal. -/
def pT (I : Inp F) (q : ℕ) : FVec F S512x512 .f32 := k0_pay6 (cv I) (sT I q) (rows q I.LSE)

/-- The accumulators after a query block below the diagonal. -/
def step (I : Inp F) (q : ℕ) (s : St F) : St F where
  dq := putQ q (k0_pay10 (kk I) (pT I q) (dpT I q) (rows q I.DL) (qrows q s.dq)) s.dq
  dk := k0_pay9 ones (pT I q) (dpT I q) (rows q I.DL) s.dk (rows q I.Q)
  dv := k0_pay8 (pT I q) s.dv (rows q I.DO)

/-- The gradients of the masked logits at the diagonal. -/
def dsD (I : Inp F) (q : ℕ) : FVec F S512x512 .bf16 := k0_pay59 (cv I) (sT I q) (rows q I.LSE) (dpT I q) (rows q I.DL)

/-- The accumulators after the diagonal block. -/
def diag (I : Inp F) (q : ℕ) (s : St F) : St F where
  dq := putQ q (k0_pay63 (kk I) (dsD I q) (qrows q s.dq)) s.dq
  dk := k0_pay62 ones (dsD I q) s.dk (rows q I.Q)
  dv := k0_pay61 s.dv (k0_pay60 (cv I) (sT I q) (rows q I.LSE)) (rows q I.DO)

/-- The accumulators before the diagonal block: the query accumulator as the head's earlier points left it, zeros at the head's first. -/
def start (kb : ℕ) (dq : Vec F S4096x256 .f32) : St F where
  dq := if kb = 0 then k0_pay48 else dq
  dk := k0_pay49
  dv := k0_pay50

/-- The accumulators after the diagonal block and the `n` blocks below it. -/
def chain (I : Inp F) (kb : ℕ) (s : St F) : ℕ → St F
  | 0 => diag I kb s
  | n + 1 => step I (kb + (n + 1)) (chain I kb s n)

end Cert.KernelIdeal.Attn

end
-- ==== Proof.Attn.Own.lean ====
/-
  What a point holds while it runs.
-/
module

public import proofs.«01_k».proof.Proof.Attn.Offsets
public import proofs.«01_k».proof.Proof.Attn.Model
public import proofs.«01_k».proof.Proof.Gen.KernelIdeal.Loops
public import Idealize.ShloMosaic.Lib.Updates.Own
public import Idealize.ShloMosaic.Lib.Updates.Loop
@[expose] public section

set_option maxRecDepth 16384

noncomputable section

namespace Cert.KernelIdeal.Attn

open Cert.KernelIdeal Cert.KernelIdeal.Gen
open Idealize.ShloMosaic Idealize.ShloMosaic.TcCoe Idealize.ShloMosaic.Tactic Idealize.ShloMosaic.Updates Idealize.ShloMosaic.LaneScatter
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

abbrev UU (nD : Nat) (τ : Topo) : Type := UR sig nD τ
abbrev 𝒱₀ : Variants := Variants.none
local notation "𝕄" => MT nD τ sig Unit (Elt F) ℕ (UU nD τ) ℕ

variable (c : Dev nD) (i : grid0.Coords)

/-- What a point only reads, owned. -/
abbrev inputs (M2 M5 : Memref sig .tc .vmem S4096x128 .bf16) (M6 M7 : Memref sig .tc .vmem S4096x128 .f32) (I : Inp F) : sProp 𝕄 :=
  iprop(owns (c : Thread nD τ) M2 fullShare I.Q ∗ owns (c : Thread nD τ) M5 fullShare I.DO
    ∗ owns (c : Thread nD τ) M6 fullShare I.LSE ∗ owns (c : Thread nD τ) M7 fullShare I.DL)

/-- The accumulators, owned. -/
abbrev accs (M14 : Memref sig .tc .vmem S4096x256 .f32) (M15 : Memref sig .tc .vmem S512x256 .f32) (M16 : Memref sig .tc .vmem S512x128 .f32) (s : St F) : sProp 𝕄 :=
  iprop(owns (c : Thread nD τ) M14 fullShare s.dq ∗ owns (c : Thread nD τ) M15 fullShare s.dk ∗ owns (c : Thread nD τ) M16 fullShare s.dv)

/-- A buffer owned at some contents. -/
abbrev any {sh : Shape} {e : EltTy} (M : Memref sig .tc .vmem sh e) : sProp 𝕄 := iprop(∃ X : sh.Idx → Elt F e, owns (c : Thread nD τ) M fullShare X)

/-- The second pair of product buffers: it holds query block `q`'s products where there is such a block. -/
abbrev second (M19 M20 : Memref sig .tc .vmem S512x512 .f32) (I : Inp F) (q : ℕ) : sProp 𝕄 :=
  iprop(∃ X Y : Vec F S512x512 .f32, owns (c : Thread nD τ) M19 fullShare X ∗ owns (c : Thread nD τ) M20 fullShare Y ∗ ⌜q < 8 → X = sT I q ∧ Y = dpT I q⌝)

section Bind

variable {M : Type} [RA.URA M] {Mask : Sort*} {E : Type → Type}
  (Fr : Mask → sProp M) (wpE : Mask → ∀ ⦃β : Type⦄, E β → sWPT M β) (Es : Mask)
  [∀ ⦃β : Type⦄ (e : E β), sWPT.Frameable (wpE Es e)]

/-- A run of a program whose result does not matter, put at the head of a longer program. -/
theorem bind_any {α β : Type} {prog : Prog E α} {P Post : sProp M} (h : P ⊢ wp Fr wpE Es prog (fun _ => Post)) (kk : α → Prog E β) (Qk : β → sProp M) :
    iprop(P ∗ (∀ r, Post -∗ wp Fr wpE Es (kk r) Qk)) ⊢ wp Fr wpE Es (prog >>= kk) Qk := by
  rw [wp_bind]
  iintro ⟨HP, HK⟩
  iapply (wp_wand_r Fr wpE Es)
  isplitl [HP]
  · iapply h; iexact HP
  · iintro %r HPost
    iapply HK; iexact HPost

/-- A run of a program that returns `x`, put at the head of a longer program. -/
theorem bind_val {α β : Type} {prog : Prog E α} {x : α} {P Post : sProp M} (h : P ⊢ wp Fr wpE Es prog (fun r => iprop(Post ∗ ⌜r = x⌝))) (kk : α → Prog E β)
    (Qk : β → sProp M) : iprop(P ∗ (Post -∗ wp Fr wpE Es (kk x) Qk)) ⊢ wp Fr wpE Es (prog >>= kk) Qk := by
  rw [wp_bind]
  iintro ⟨HP, HK⟩
  iapply (wp_wand_r Fr wpE Es)
  isplitl [HP]
  · iapply h; iexact HP
  · iintro %r ⟨HPost, %e⟩
    subst e
    iapply HK; iexact HPost

end Bind

end Cert.KernelIdeal.Attn

end
-- ==== Proof.Attn.Part10.lean ====
/-
  The last two query blocks.
-/
module

public import proofs.«01_k».proof.Proof.Attn.Own
@[expose] public section

set_option maxRecDepth 16384

noncomputable section

namespace Cert.KernelIdeal.Attn

open Cert.KernelIdeal Cert.KernelIdeal.Gen
open Idealize.ShloMosaic Idealize.ShloMosaic.TcCoe Idealize.ShloMosaic.Tactic Idealize.ShloMosaic.Updates Idealize.ShloMosaic.LaneScatter
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UU nD τ) ℕ

variable (c : Dev nD) (i : grid0.Coords)

variable {arg2 : Memref sig .tc .vmem S4096x128 .bf16} (harg2 : arg2.IsWhole) {arg3 : Memref sig .tc .vmem S512x128 .bf16} (harg3 : arg3.IsWhole) {arg4 : Memref sig .tc .vmem S512x128 .bf16} (harg4 : arg4.IsWhole) {arg5 : Memref sig .tc .vmem S4096x128 .bf16} (harg5 : arg5.IsWhole) {arg6 : Memref sig .tc .vmem S4096x128 .f32} (harg6 : arg6.IsWhole) {arg7 : Memref sig .tc .vmem S4096x128 .f32} (harg7 : arg7.IsWhole) {arg8 : Memref sig .tc .vmem S1x1x1x512 .f32} (harg8 : arg8.IsWhole) {arg9 : Memref sig .tc .vmem S4096x128 .bf16} (harg9 : arg9.IsWhole) {arg10 : Memref sig .tc .vmem S512x128 .bf16} (harg10 : arg10.IsWhole) {arg11 : Memref sig .tc .vmem S512x128 .bf16} (harg11 : arg11.IsWhole) {arg12 : Memref sig .tc .vmem S1x8x4096 .f32} (harg12 : arg12.IsWhole) {arg13 : Memref sig .tc .vmem S1x8x512 .f32} (harg13 : arg13.IsWhole) {arg14 : Memref sig .tc .vmem S4096x256 .f32} (harg14 : arg14.IsWhole) {arg15 : Memref sig .tc .vmem S512x256 .f32} (harg15 : arg15.IsWhole) {arg16 : Memref sig .tc .vmem S512x128 .f32} (harg16 : arg16.IsWhole) {arg17 : Memref sig .tc .vmem S512x512 .f32} (harg17 : arg17.IsWhole) {arg18 : Memref sig .tc .vmem S512x512 .f32} (harg18 : arg18.IsWhole) {arg19 : Memref sig .tc .vmem S512x512 .f32} (harg19 : arg19.IsWhole) {arg20 : Memref sig .tc .vmem S512x512 .f32} (harg20 : arg20.IsWhole)

/-- The last two query blocks, where two are left after the pairs. -/
theorem part10 (I : Inp F) (s : St F) (h0 : k0_cond4 i = 1#1) (v135 : BitVec 32) :
    (iprop(inputs c arg2 arg5 arg6 arg7 I ∗ accs c arg14 arg15 arg16 s ∗ any c arg17 ∗ any c arg18 ∗ owns (c : Thread nD τ) arg19 fullShare (sT I ((i 1).val + (2 * pairs (i 1).val + 1))) ∗ owns (c : Thread nD τ) arg20 fullShare (dpT I ((i 1).val + (2 * pairs (i 1).val + 1)))) : sProp 𝕄) ⊢
      wp frame (wpE defs₀ 𝒱₀ (c : Thread nD τ) none) Set.univ (k0_part10 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 I.K I.V (cv I) (kk I) ones v135 h0)
        (fun _ => iprop(inputs c arg2 arg5 arg6 arg7 I ∗ accs c arg14 arg15 arg16 (step I ((i 1).val + (2 * pairs (i 1).val + 2)) (step I ((i 1).val + (2 * pairs (i 1).val + 1)) s)) ∗ any c arg17 ∗ any c arg18
          ∗ any c arg19 ∗ any c arg20)) := by
  rw [k0_part10_eq_skeleton]
  unfold k0_part10_skel
  simp only [k0_part8_eq_skeleton, k0_part9_eq_skeleton]
  unfold k0_part8_skel k0_part9_skel
  iintro ⟨⟨H2, H5, H6, H7⟩, ⟨H14, H15, H16⟩, ⟨%X17, H17⟩, ⟨%X18, H18⟩, H19, H20⟩
  icases (owns_read (c : Thread nD τ) arg2 _) $$ H2 with ⟨%f2, H2, %e2⟩
  icases (owns_read (c : Thread nD τ) arg5 _) $$ H5 with ⟨%f5, H5, %e5⟩
  icases (owns_read (c : Thread nD τ) arg6 _) $$ H6 with ⟨%f6, H6, %e6⟩
  icases (owns_read (c : Thread nD τ) arg7 _) $$ H7 with ⟨%f7, H7, %e7⟩
  icases (owns_read (c : Thread nD τ) arg14 _) $$ H14 with ⟨%f14, H14, %e14⟩
  icases (owns_read (c : Thread nD τ) arg15 _) $$ H15 with ⟨%f15, H15, %e15⟩
  icases (owns_read (c : Thread nD τ) arg16 _) $$ H16 with ⟨%f16, H16, %e16⟩
  icases (owns_read (c : Thread nD τ) arg17 _) $$ H17 with ⟨%f17, H17, %e17⟩
  icases (owns_read (c : Thread nD τ) arg18 _) $$ H18 with ⟨%f18, H18, %e18⟩
  icases (owns_read (c : Thread nD τ) arg19 _) $$ H19 with ⟨%f19, H19, %e19⟩
  icases (owns_read (c : Thread nD τ) arg20 _) $$ H20 with ⟨%f20, H20, %e20⟩
  have r2 := fun {off} {a b} ho inb => readAt_getAt (h := 512) (w := 128) (off := off) (a := a) (b := b) (by decide) (by decide) e2 ho inb
  have r5 := fun {off} {a b} ho inb => readAt_getAt (h := 512) (w := 128) (off := off) (a := a) (b := b) (by decide) (by decide) e5 ho inb
  have r6 := fun {off} {a b} ho inb => readAt_getAt (h := 512) (w := 128) (off := off) (a := a) (b := b) (by decide) (by decide) e6 ho inb
  have r7 := fun {off} {a b} ho inb => readAt_getAt (h := 512) (w := 128) (off := off) (a := a) (b := b) (by decide) (by decide) e7 ho inb
  have r14 := fun {off} {a b} ho inb => readAt_getAt (h := 512) (w := 256) (off := off) (a := a) (b := b) (by decide) (by decide) e14 ho inb
  have h4 := (cond4_iff i).mp h0
  sl_exec
  sl_step
  isplitl [H2 H5 H6 H7]
  · isplitl [H2]
    · iapply (raw_owns (c : Thread nD τ) arg2 e2); iexact H2
    isplitl [H5]
    · iapply (raw_owns (c : Thread nD τ) arg5 e5); iexact H5
    isplitl [H6]
    · iapply (raw_owns (c : Thread nD τ) arg6 e6); iexact H6
    iapply (raw_owns (c : Thread nD τ) arg7 e7); iexact H7
  isplitl [H14 H15 H16]
  · isplitl [H14]
    · iapply (raw_owns (c : Thread nD τ) arg14 ?_)
      rotate_left
      · iexact H14
      have hd := getAt_putAt_rows (β := Elt F .f32) (R := 4096) (C := 256) (h := 512) (w := 256) (by decide) (by decide) (by decide) (by decide)
        (a := 512 * ((i 1).val + (2 * pairs (i 1).val + 2))) (b := 512 * ((i 1).val + (2 * pairs (i 1).val + 1))) (c := 0)
        (k0_pay10 (kk I) (pT I ((i 1).val + (2 * pairs (i 1).val + 1))) (dpT I ((i 1).val + (2 * pairs (i 1).val + 1))) (rows ((i 1).val + (2 * pairs (i 1).val + 1)) I.DL) (qrows ((i 1).val + (2 * pairs (i 1).val + 1)) s.dq)) s.dq (by omega) (by omega) (by omega)
      refine writes_putAt (h := 512) (w := 256) (by decide) (by decide) (by decide) (by decide) (writes_putAt (h := 512) (w := 256) (by decide) (by decide) (by decide) (by decide) (L := []) e14
        (off19_eq i h0) _ ?_) (off20_eq i h0) _ ?_
      · sl_unfold_run_names
        dsimp only
        simp only [readAt_whole e15, readAt_whole e16, readAt_whole e19, readAt_whole e20, r2 (off17_eq i h0), r2 (off18_eq i h0), r5 (off17_eq i h0), r5 (off18_eq i h0), r6 (off17_eq i h0), r6 (off18_eq i h0), r7 (off17_eq i h0), r7 (off18_eq i h0), r14 (off19_eq i h0), r14 (off20_eq i h0)]
        repeat rw [readCov_whole]
        try rfl
      · refine Eq.trans ?_ (congrArg (k0_pay10 (kk I) (pT I ((i 1).val + (2 * pairs (i 1).val + 2))) (dpT I ((i 1).val + (2 * pairs (i 1).val + 2))) (rows ((i 1).val + (2 * pairs (i 1).val + 2)) I.DL)) hd.symm)
        sl_unfold_run_names
        dsimp only
        simp only [readAt_whole e15, readAt_whole e16, readAt_whole e19, readAt_whole e20, r2 (off17_eq i h0), r2 (off18_eq i h0), r5 (off17_eq i h0), r5 (off18_eq i h0), r6 (off17_eq i h0), r6 (off18_eq i h0), r7 (off17_eq i h0), r7 (off18_eq i h0), r14 (off19_eq i h0), r14 (off20_eq i h0)]
        repeat rw [readCov_whole]
        try rfl
    isplitl [H15]
    · iapply (raw_owns (c : Thread nD τ) arg15 ?_)
      rotate_left
      · iexact H15
      refine (View.read_writes_full _ _ _ _ _).trans ?_
      sl_unfold_run_names
      dsimp only
      simp only [readAt_whole e15, readAt_whole e16, readAt_whole e19, readAt_whole e20, r2 (off17_eq i h0), r2 (off18_eq i h0), r5 (off17_eq i h0), r5 (off18_eq i h0), r6 (off17_eq i h0), r6 (off18_eq i h0), r7 (off17_eq i h0), r7 (off18_eq i h0), r14 (off19_eq i h0), r14 (off20_eq i h0)]
      repeat rw [readCov_whole]
      try rfl
    iapply (raw_owns (c : Thread nD τ) arg16 ?_)
    rotate_left
    · iexact H16
    refine (View.read_writes_full _ _ _ _ _).trans ?_
    sl_unfold_run_names
    dsimp only
    simp only [readAt_whole e15, readAt_whole e16, readAt_whole e19, readAt_whole e20, r2 (off17_eq i h0), r2 (off18_eq i h0), r5 (off17_eq i h0), r5 (off18_eq i h0), r6 (off17_eq i h0), r6 (off18_eq i h0), r7 (off17_eq i h0), r7 (off18_eq i h0), r14 (off19_eq i h0), r14 (off20_eq i h0)]
    repeat rw [readCov_whole]
    try rfl
  isplitl [H17]
  · iexists _
    iapply (raw_owns (c : Thread nD τ) arg17 rfl); iexact H17
  isplitl [H18]
  · iexists _
    iapply (raw_owns (c : Thread nD τ) arg18 rfl); iexact H18
  isplitl [H19]
  · iexists _
    iapply (raw_owns (c : Thread nD τ) arg19 rfl); iexact H19
  iexists _
  iapply (raw_owns (c : Thread nD τ) arg20 rfl); iexact H20

end Cert.KernelIdeal.Attn

end
-- ==== Proof.Attn.Trip.lean ====
/-
  One trip of the loop over pairs of query blocks.
-/
module

public import proofs.«01_k».proof.Proof.Attn.Own
@[expose] public section

set_option maxRecDepth 16384

noncomputable section

namespace Cert.KernelIdeal.Attn

open Cert.KernelIdeal Cert.KernelIdeal.Gen
open Idealize.ShloMosaic Idealize.ShloMosaic.TcCoe Idealize.ShloMosaic.Tactic Idealize.ShloMosaic.Updates Idealize.ShloMosaic.LaneScatter
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UU nD τ) ℕ

variable (c : Dev nD) (i : grid0.Coords)

variable {arg2 : Memref sig .tc .vmem S4096x128 .bf16} (harg2 : arg2.IsWhole) {arg3 : Memref sig .tc .vmem S512x128 .bf16} (harg3 : arg3.IsWhole) {arg4 : Memref sig .tc .vmem S512x128 .bf16} (harg4 : arg4.IsWhole) {arg5 : Memref sig .tc .vmem S4096x128 .bf16} (harg5 : arg5.IsWhole) {arg6 : Memref sig .tc .vmem S4096x128 .f32} (harg6 : arg6.IsWhole) {arg7 : Memref sig .tc .vmem S4096x128 .f32} (harg7 : arg7.IsWhole) {arg8 : Memref sig .tc .vmem S1x1x1x512 .f32} (harg8 : arg8.IsWhole) {arg9 : Memref sig .tc .vmem S4096x128 .bf16} (harg9 : arg9.IsWhole) {arg10 : Memref sig .tc .vmem S512x128 .bf16} (harg10 : arg10.IsWhole) {arg11 : Memref sig .tc .vmem S512x128 .bf16} (harg11 : arg11.IsWhole) {arg12 : Memref sig .tc .vmem S1x8x4096 .f32} (harg12 : arg12.IsWhole) {arg13 : Memref sig .tc .vmem S1x8x512 .f32} (harg13 : arg13.IsWhole) {arg14 : Memref sig .tc .vmem S4096x256 .f32} (harg14 : arg14.IsWhole) {arg15 : Memref sig .tc .vmem S512x256 .f32} (harg15 : arg15.IsWhole) {arg16 : Memref sig .tc .vmem S512x128 .f32} (harg16 : arg16.IsWhole) {arg17 : Memref sig .tc .vmem S512x512 .f32} (harg17 : arg17.IsWhole) {arg18 : Memref sig .tc .vmem S512x512 .f32} (harg18 : arg18.IsWhole) {arg19 : Memref sig .tc .vmem S512x512 .f32} (harg19 : arg19.IsWhole) {arg20 : Memref sig .tc .vmem S512x512 .f32} (harg20 : arg20.IsWhole)

/-- One trip takes the accumulators through two more query blocks, and leaves the next block's products in the second pair of buffers. -/
theorem trip (I : Inp F) (s : St F) (t : Fin (k0_t1_loop i).trips) (a1 v20 v93 : BitVec 32) (v104 : FVec F S8x512 .f32) :
    (iprop(inputs c arg2 arg5 arg6 arg7 I ∗ accs c arg14 arg15 arg16 s ∗ any c arg17 ∗ any c arg18
        ∗ owns (c : Thread nD τ) arg19 fullShare (sT I ((i 1).val + (2 * t.val + 1)))
        ∗ owns (c : Thread nD τ) arg20 fullShare (dpT I ((i 1).val + (2 * t.val + 1)))) : sProp 𝕄) ⊢
      wp frame (wpE defs₀ 𝒱₀ (c : Thread nD τ) none) Set.univ
        (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 a1 I.K I.V (cv I) (kk I) ones v20 v93 v104 t ())
        (fun _ => iprop(inputs c arg2 arg5 arg6 arg7 I
          ∗ accs c arg14 arg15 arg16 (step I ((i 1).val + (2 * t.val + 2)) (step I ((i 1).val + (2 * t.val + 1)) s))
          ∗ any c arg17 ∗ any c arg18
          ∗ owns (c : Thread nD τ) arg19 fullShare (sT I ((i 1).val + (2 * t.val + 3)))
          ∗ owns (c : Thread nD τ) arg20 fullShare (dpT I ((i 1).val + (2 * t.val + 3))))) := by
  unfold k0_t1_body
  simp only [k0_part1_eq_skeleton, k0_part2_eq_skeleton, k0_part3_eq_skeleton]
  unfold k0_part1_skel k0_part2_skel k0_part3_skel
  iintro ⟨⟨H2, H5, H6, H7⟩, ⟨H14, H15, H16⟩, ⟨%X17, H17⟩, ⟨%X18, H18⟩, H19, H20⟩
  icases (owns_read (c : Thread nD τ) arg2 _) $$ H2 with ⟨%f2, H2, %e2⟩
  icases (owns_read (c : Thread nD τ) arg5 _) $$ H5 with ⟨%f5, H5, %e5⟩
  icases (owns_read (c : Thread nD τ) arg6 _) $$ H6 with ⟨%f6, H6, %e6⟩
  icases (owns_read (c : Thread nD τ) arg7 _) $$ H7 with ⟨%f7, H7, %e7⟩
  icases (owns_read (c : Thread nD τ) arg14 _) $$ H14 with ⟨%f14, H14, %e14⟩
  icases (owns_read (c : Thread nD τ) arg15 _) $$ H15 with ⟨%f15, H15, %e15⟩
  icases (owns_read (c : Thread nD τ) arg16 _) $$ H16 with ⟨%f16, H16, %e16⟩
  icases (owns_read (c : Thread nD τ) arg17 _) $$ H17 with ⟨%f17, H17, %e17⟩
  icases (owns_read (c : Thread nD τ) arg18 _) $$ H18 with ⟨%f18, H18, %e18⟩
  icases (owns_read (c : Thread nD τ) arg19 _) $$ H19 with ⟨%f19, H19, %e19⟩
  icases (owns_read (c : Thread nD τ) arg20 _) $$ H20 with ⟨%f20, H20, %e20⟩
  sl_exec
  sl_step
  have r2 := fun {off} {a b} ho inb => readAt_getAt (h := 512) (w := 128) (off := off) (a := a) (b := b) (by decide) (by decide) e2 ho inb
  have r5 := fun {off} {a b} ho inb => readAt_getAt (h := 512) (w := 128) (off := off) (a := a) (b := b) (by decide) (by decide) e5 ho inb
  have r6 := fun {off} {a b} ho inb => readAt_getAt (h := 512) (w := 128) (off := off) (a := a) (b := b) (by decide) (by decide) e6 ho inb
  have r7 := fun {off} {a b} ho inb => readAt_getAt (h := 512) (w := 128) (off := off) (a := a) (b := b) (by decide) (by decide) e7 ho inb
  have r14 := fun {off} {a b} ho inb => readAt_getAt (h := 512) (w := 256) (off := off) (a := a) (b := b) (by decide) (by decide) e14 ho inb
  isplitl [H2 H5 H6 H7]
  · isplitl [H2]
    · iapply (raw_owns (c : Thread nD τ) arg2 e2); iexact H2
    isplitl [H5]
    · iapply (raw_owns (c : Thread nD τ) arg5 e5); iexact H5
    isplitl [H6]
    · iapply (raw_owns (c : Thread nD τ) arg6 e6); iexact H6
    · iapply (raw_owns (c : Thread nD τ) arg7 e7); iexact H7
  have hkb : (i 1).val + (2 * t.val + 2) ≤ 7 := by
    have h := lt_of_lt_of_eq t.isLt (trips1 i)
    unfold pairs at h
    omega
  isplitl [H14 H15 H16]
  · isplitl [H14]
    · iapply (raw_owns (c : Thread nD τ) arg14 ?_)
      rotate_left
      · iexact H14
      have hd := getAt_putAt_rows (β := Elt F .f32) (R := 4096) (C := 256) (h := 512) (w := 256) (by decide) (by decide) (by decide) (by decide)
        (a := 512 * ((i 1).val + (2 * t.val + 2))) (b := 512 * ((i 1).val + (2 * t.val + 1))) (c := 0)
        (k0_pay10 (kk I) (pT I ((i 1).val + (2 * t.val + 1))) (dpT I ((i 1).val + (2 * t.val + 1))) (rows ((i 1).val + (2 * t.val + 1)) I.DL)
          (qrows ((i 1).val + (2 * t.val + 1)) s.dq)) s.dq (by omega) (by omega) (by omega)
      refine writes_putAt (h := 512) (w := 256) (by decide) (by decide) (by decide) (by decide) (writes_putAt (h := 512) (w := 256) (by decide) (by decide) (by decide) (by decide) (L := []) e14
        (off9_eq i t) _ ?_) (off10_eq i t) _ ?_
      · sl_unfold_run_names
        dsimp only
        simp only [readAt_whole e15, readAt_whole e16, readAt_whole e19, readAt_whole e20, r2 (off7_1_eq i t), r2 (off7_2_eq i t), r2 (off8_eq i t),
              r5 (off7_1_eq i t), r5 (off7_2_eq i t), r5 (off8_eq i t), r6 (off7_1_eq i t), r6 (off8_eq i t), r7 (off7_1_eq i t), r7 (off8_eq i t),
              r14 (off9_eq i t), r14 (off10_eq i t)]
        repeat rw [readCov_whole]
        rfl
      · refine Eq.trans ?_ (congrArg (k0_pay10 (kk I) (pT I ((i 1).val + (2 * t.val + 2))) (dpT I ((i 1).val + (2 * t.val + 2)))
          (rows ((i 1).val + (2 * t.val + 2)) I.DL)) hd.symm)
        sl_unfold_run_names
        dsimp only
        simp only [readAt_whole e15, readAt_whole e16, readAt_whole e19, readAt_whole e20, r2 (off7_1_eq i t), r2 (off7_2_eq i t), r2 (off8_eq i t),
              r5 (off7_1_eq i t), r5 (off7_2_eq i t), r5 (off8_eq i t), r6 (off7_1_eq i t), r6 (off8_eq i t), r7 (off7_1_eq i t), r7 (off8_eq i t),
              r14 (off9_eq i t), r14 (off10_eq i t)]
        repeat rw [readCov_whole]
        rfl
    isplitl [H15]
    · iapply (raw_owns (c : Thread nD τ) arg15 ?_)
      rotate_left
      · iexact H15
      refine (View.read_writes_full _ _ _ _ _).trans ?_
      sl_unfold_run_names
      dsimp only
      simp only [readAt_whole e15, readAt_whole e16, readAt_whole e19, readAt_whole e20, r2 (off7_1_eq i t), r2 (off7_2_eq i t), r2 (off8_eq i t),
              r5 (off7_1_eq i t), r5 (off7_2_eq i t), r5 (off8_eq i t), r6 (off7_1_eq i t), r6 (off8_eq i t), r7 (off7_1_eq i t), r7 (off8_eq i t),
              r14 (off9_eq i t), r14 (off10_eq i t)]
      repeat rw [readCov_whole]
      rfl
    · iapply (raw_owns (c : Thread nD τ) arg16 ?_)
      rotate_left
      · iexact H16
      refine (View.read_writes_full _ _ _ _ _).trans ?_
      sl_unfold_run_names
      dsimp only
      simp only [readAt_whole e15, readAt_whole e16, readAt_whole e19, readAt_whole e20, r2 (off7_1_eq i t), r2 (off7_2_eq i t), r2 (off8_eq i t),
              r5 (off7_1_eq i t), r5 (off7_2_eq i t), r5 (off8_eq i t), r6 (off7_1_eq i t), r6 (off8_eq i t), r7 (off7_1_eq i t), r7 (off8_eq i t),
              r14 (off9_eq i t), r14 (off10_eq i t)]
      repeat rw [readCov_whole]
      rfl
  isplitl [H17]
  · iexists _
    iapply (raw_owns (c : Thread nD τ) arg17 rfl); iexact H17
  isplitl [H18]
  · iexists _
    iapply (raw_owns (c : Thread nD τ) arg18 rfl); iexact H18
  isplitl [H19]
  · iapply (raw_owns (c : Thread nD τ) arg19 ?_)
    rotate_left
    · iexact H19
    refine (View.read_writes_full _ _ _ _ _).trans ?_
    sl_unfold_run_names
    dsimp only
    simp only [readAt_whole e15, readAt_whole e16, readAt_whole e19, readAt_whole e20, r2 (off7_1_eq i t), r2 (off7_2_eq i t), r2 (off8_eq i t),
            r5 (off7_1_eq i t), r5 (off7_2_eq i t), r5 (off8_eq i t), r6 (off7_1_eq i t), r6 (off8_eq i t), r7 (off7_1_eq i t), r7 (off8_eq i t),
            r14 (off9_eq i t), r14 (off10_eq i t)]
    repeat rw [readCov_whole]
    rfl
  · iapply (raw_owns (c : Thread nD τ) arg20 ?_)
    rotate_left
    · iexact H20
    refine (View.read_writes_full _ _ _ _ _).trans ?_
    sl_unfold_run_names
    dsimp only
    simp only [readAt_whole e15, readAt_whole e16, readAt_whole e19, readAt_whole e20, r2 (off7_1_eq i t), r2 (off7_2_eq i t), r2 (off8_eq i t),
            r5 (off7_1_eq i t), r5 (off7_2_eq i t), r5 (off8_eq i t), r6 (off7_1_eq i t), r6 (off8_eq i t), r7 (off7_1_eq i t), r7 (off8_eq i t),
            r14 (off9_eq i t), r14 (off10_eq i t)]
    repeat rw [readCov_whole]
    rfl

end Cert.KernelIdeal.Attn

end
-- ==== Proof.Attn.Loop.lean ====
/-
  The loop over pairs of query blocks, and the empty loop behind it.
-/
module

public import proofs.«01_k».proof.Proof.Attn.Own
public import proofs.«01_k».proof.Proof.Attn.Trip
@[expose] public section

set_option maxRecDepth 16384

noncomputable section

namespace Cert.KernelIdeal.Attn

open Cert.KernelIdeal Cert.KernelIdeal.Gen
open Idealize.ShloMosaic Idealize.ShloMosaic.TcCoe Idealize.ShloMosaic.Tactic Idealize.ShloMosaic.Updates Idealize.ShloMosaic.LaneScatter
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UU nD τ) ℕ

variable (c : Dev nD) (i : grid0.Coords)

variable {arg2 : Memref sig .tc .vmem S4096x128 .bf16} (harg2 : arg2.IsWhole) {arg3 : Memref sig .tc .vmem S512x128 .bf16} (harg3 : arg3.IsWhole) {arg4 : Memref sig .tc .vmem S512x128 .bf16} (harg4 : arg4.IsWhole) {arg5 : Memref sig .tc .vmem S4096x128 .bf16} (harg5 : arg5.IsWhole) {arg6 : Memref sig .tc .vmem S4096x128 .f32} (harg6 : arg6.IsWhole) {arg7 : Memref sig .tc .vmem S4096x128 .f32} (harg7 : arg7.IsWhole) {arg8 : Memref sig .tc .vmem S1x1x1x512 .f32} (harg8 : arg8.IsWhole) {arg9 : Memref sig .tc .vmem S4096x128 .bf16} (harg9 : arg9.IsWhole) {arg10 : Memref sig .tc .vmem S512x128 .bf16} (harg10 : arg10.IsWhole) {arg11 : Memref sig .tc .vmem S512x128 .bf16} (harg11 : arg11.IsWhole) {arg12 : Memref sig .tc .vmem S1x8x4096 .f32} (harg12 : arg12.IsWhole) {arg13 : Memref sig .tc .vmem S1x8x512 .f32} (harg13 : arg13.IsWhole) {arg14 : Memref sig .tc .vmem S4096x256 .f32} (harg14 : arg14.IsWhole) {arg15 : Memref sig .tc .vmem S512x256 .f32} (harg15 : arg15.IsWhole) {arg16 : Memref sig .tc .vmem S512x128 .f32} (harg16 : arg16.IsWhole) {arg17 : Memref sig .tc .vmem S512x512 .f32} (harg17 : arg17.IsWhole) {arg18 : Memref sig .tc .vmem S512x512 .f32} (harg18 : arg18.IsWhole) {arg19 : Memref sig .tc .vmem S512x512 .f32} (harg19 : arg19.IsWhole) {arg20 : Memref sig .tc .vmem S512x512 .f32} (harg20 : arg20.IsWhole)

/-- What the loop over pairs holds before its trip `n`: the accumulators after `2 n` query blocks beyond the diagonal, the next block's products in the second pair of buffers. -/
abbrev held (arg2 arg5 : Memref sig .tc .vmem S4096x128 .bf16) (arg6 arg7 : Memref sig .tc .vmem S4096x128 .f32)
    (arg14 : Memref sig .tc .vmem S4096x256 .f32) (arg15 : Memref sig .tc .vmem S512x256 .f32) (arg16 : Memref sig .tc .vmem S512x128 .f32)
    (arg17 arg18 arg19 arg20 : Memref sig .tc .vmem S512x512 .f32) (I : Inp F) (s : St F) (n : ℕ) : sProp 𝕄 :=
  iprop(inputs c arg2 arg5 arg6 arg7 I ∗ accs c arg14 arg15 arg16 (chain I (i 1).val s (2 * n)) ∗ any c arg17 ∗ any c arg18
    ∗ second c arg19 arg20 I ((i 1).val + (2 * n + 1)))

theorem trip_held (I : Inp F) (s : St F) (t : Fin (k0_t1_loop i).trips) (a1 v20 v93 : BitVec 32) (v104 : FVec F S8x512 .f32) :
    held c i arg2 arg5 arg6 arg7 arg14 arg15 arg16 arg17 arg18 arg19 arg20 I s t.val ⊢ wp frame (wpE defs₀ 𝒱₀ (c : Thread nD τ) none) Set.univ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 a1 I.K I.V (cv I) (kk I) ones v20 v93 v104 t ()) (fun _ => held c i arg2 arg5 arg6 arg7 arg14 arg15 arg16 arg17 arg18 arg19 arg20 I s (t.val + 1)) := by
  have h1 : (i 1).val + (2 * t.val + 1) < 8 := by
    have h := lt_of_lt_of_eq t.isLt (trips1 i)
    unfold pairs at h
    omega
  iintro ⟨HI, HA, H17, H18, ⟨%X, %Y, HX, HY, %e⟩⟩
  obtain ⟨rfl, rfl⟩ := e h1
  iapply (wp_wand_r frame (wpE defs₀ 𝒱₀ (c : Thread nD τ) none) Set.univ)
  isplitl [HI HA H17 H18 HX HY]
  · iapply (trip c i (arg2 := arg2) (arg5 := arg5) (arg6 := arg6) (arg7 := arg7) (arg14 := arg14) (arg15 := arg15) (arg16 := arg16) (arg17 := arg17) (arg18 := arg18)
      (arg19 := arg19) (arg20 := arg20) harg2 harg3 harg4 harg5 harg6 harg7 harg8 harg9 harg10 harg11 harg12 harg13 harg14 harg15 harg16 harg17 harg18 harg19 harg20 I (chain I (i 1).val s (2 * t.val)) t a1 v20 v93 v104)
    isplitl [HI]
    · iexact HI
    isplitl [HA]
    · iexact HA
    isplitl [H17]
    · iexact H17
    isplitl [H18]
    · iexact H18
    isplitl [HX]
    · iexact HX
    iexact HY
  iintro %r ⟨HI, HA, H17, H18, HX, HY⟩
  isplitl [HI]
  · iexact HI
  isplitl [HA]
  · iexact HA
  isplitl [H17]
  · iexact H17
  isplitl [H18]
  · iexact H18
  iexists _
  iexists _
  isplitl [HX]
  · iexact HX
  isplitl [HY]
  · iexact HY
  ipureintro
  exact fun _ => ⟨rfl, rfl⟩

/-- The loop over pairs. -/
theorem loop1 (I : Inp F) (s : St F) (a1 v20 v93 : BitVec 32) (v104 : FVec F S8x512 .f32) :
    held c i arg2 arg5 arg6 arg7 arg14 arg15 arg16 arg17 arg18 arg19 arg20 I s 0 ⊢ wp frame (wpE defs₀ 𝒱₀ (c : Thread nD τ) none) Set.univ (Scf.Loop.for (k0_t1_loop i) (k0_t1_ok i) ⟨⟩ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 a1 I.K I.V (cv I) (kk I) ones v20 v93 v104))
      (fun _ => held c i arg2 arg5 arg6 arg7 arg14 arg15 arg16 arg17 arg18 arg19 arg20 I s (pairs (i 1).val)) := by
  have T := fun t => trip_held c i harg2 harg3 harg4 harg5 harg6 harg7 harg8 harg9 harg10 harg11 harg12 harg13 harg14 harg15 harg16 harg17 harg18 harg19 harg20 I s t a1 v20 v93 v104
  rw [← trips1 i]
  generalize (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 a1 I.K I.V (cv I) (kk I) ones v20 v93 v104) = B at T ⊢
  iintro H
  iapply (Scf.wp_for frame (wpE defs₀ 𝒱₀ (c : Thread nD τ) none) Set.univ (k0_t1_loop i).lb (k0_t1_loop i).ub (k0_t1_loop i).st (k0_t1_ok i) () B
    (fun n _ => held c i arg2 arg5 arg6 arg7 arg14 arg15 arg16 arg17 arg18 arg19 arg20 I s n) (fun k _ => T k))
  isplitl [H]
  · iexact H
  · iintro %_ H
    iexact H

/-- The loop over what the pairs leave, which makes no trip. -/
theorem loop2 (P : sProp 𝕄) (B : Fin (k0_t2_loop i).trips → Unit → Prog (TpuEff nD τ sig (Elt F) Λ₀ .tc) Unit) :
    P ⊢ wp frame (wpE defs₀ 𝒱₀ (c : Thread nD τ) none) Set.univ (Scf.Loop.for (k0_t2_loop i) (k0_t2_ok i) ⟨⟩ B) (fun _ => P) := by
  iintro H
  iapply (Scf.wp_for frame (wpE defs₀ 𝒱₀ (c : Thread nD τ) none) Set.univ (k0_t2_loop i).lb (k0_t2_loop i).ub (k0_t2_loop i).st (k0_t2_ok i) () B
    (fun n _ => P) (fun k _ => absurd (lt_of_lt_of_eq k.isLt (trips2 i)) (Nat.not_lt_zero _)))
  isplitl [H]
  · iexact H
  · iintro %_ H
    iexact H

end Cert.KernelIdeal.Attn

end
-- ==== Proof.Attn.Part13.lean ====
/-
  The diagonal block is added.
-/
module

public import proofs.«01_k».proof.Proof.Attn.Own
@[expose] public section

set_option maxRecDepth 16384

noncomputable section

namespace Cert.KernelIdeal.Attn

open Cert.KernelIdeal Cert.KernelIdeal.Gen
open Idealize.ShloMosaic Idealize.ShloMosaic.TcCoe Idealize.ShloMosaic.Tactic Idealize.ShloMosaic.Updates Idealize.ShloMosaic.LaneScatter
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UU nD τ) ℕ

variable (c : Dev nD) (i : grid0.Coords)

variable {arg2 : Memref sig .tc .vmem S4096x128 .bf16} (harg2 : arg2.IsWhole) {arg3 : Memref sig .tc .vmem S512x128 .bf16} (harg3 : arg3.IsWhole) {arg4 : Memref sig .tc .vmem S512x128 .bf16} (harg4 : arg4.IsWhole) {arg5 : Memref sig .tc .vmem S4096x128 .bf16} (harg5 : arg5.IsWhole) {arg6 : Memref sig .tc .vmem S4096x128 .f32} (harg6 : arg6.IsWhole) {arg7 : Memref sig .tc .vmem S4096x128 .f32} (harg7 : arg7.IsWhole) {arg8 : Memref sig .tc .vmem S1x1x1x512 .f32} (harg8 : arg8.IsWhole) {arg9 : Memref sig .tc .vmem S4096x128 .bf16} (harg9 : arg9.IsWhole) {arg10 : Memref sig .tc .vmem S512x128 .bf16} (harg10 : arg10.IsWhole) {arg11 : Memref sig .tc .vmem S512x128 .bf16} (harg11 : arg11.IsWhole) {arg12 : Memref sig .tc .vmem S1x8x4096 .f32} (harg12 : arg12.IsWhole) {arg13 : Memref sig .tc .vmem S1x8x512 .f32} (harg13 : arg13.IsWhole) {arg14 : Memref sig .tc .vmem S4096x256 .f32} (harg14 : arg14.IsWhole) {arg15 : Memref sig .tc .vmem S512x256 .f32} (harg15 : arg15.IsWhole) {arg16 : Memref sig .tc .vmem S512x128 .f32} (harg16 : arg16.IsWhole) {arg17 : Memref sig .tc .vmem S512x512 .f32} (harg17 : arg17.IsWhole) {arg18 : Memref sig .tc .vmem S512x512 .f32} (harg18 : arg18.IsWhole) {arg19 : Memref sig .tc .vmem S512x512 .f32} (harg19 : arg19.IsWhole) {arg20 : Memref sig .tc .vmem S512x512 .f32} (harg20 : arg20.IsWhole)

/-- The query gradients' half and the row sums' half of query block `q`'s rows of the query accumulator. -/
abbrev dqHalf (q : ℕ) (X : Vec F S4096x256 .f32) : Vec F S512x128 .f32 := getAt (by decide) (by decide) 512 128 (512 * q, 0) X
abbrev rowHalf (q : ℕ) (X : Vec F S4096x256 .f32) : Vec F S512x128 .f32 := getAt (by decide) (by decide) 512 128 (512 * q, 128) X

/-- What the point leaves of the query gradients: its own query block's rows, done. -/
def dqOut (q : ℕ) (s : St F) (O : Vec F S4096x128 .bf16) : Vec F S4096x128 .bf16 :=
  putAt (by decide) (by decide) (by decide) (by decide) (512 * q, 0) (k0_pay64 (dqHalf q s.dq)) O

/-- The diagonal block is added to the accumulators, and its query rows, now done, are stored. -/
theorem part13 (I : Inp F) (s : St F) (O : Vec F S4096x128 .bf16) (a1 v41 : BitVec 32) :
    (iprop(owns (c : Thread nD τ) arg2 fullShare I.Q ∗ owns (c : Thread nD τ) arg5 fullShare I.DO ∗ accs c arg14 arg15 arg16 s ∗ owns (c : Thread nD τ) arg9 fullShare O) : sProp 𝕄) ⊢
      wp frame (wpE defs₀ 𝒱₀ (c : Thread nD τ) none) Set.univ (k0_part13 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 a1 (kk I) ones v41 (dsD I (i 1).val) s.dv (k0_pay60 (cv I) (sT I (i 1).val) (rows (i 1).val I.LSE)))
        (fun r => iprop((owns (c : Thread nD τ) arg2 fullShare I.Q ∗ owns (c : Thread nD τ) arg5 fullShare I.DO ∗ accs c arg14 arg15 arg16 (diag I (i 1).val s) ∗ owns (c : Thread nD τ) arg9 fullShare (dqOut (i 1).val (diag I (i 1).val s) O))
          ∗ ⌜r = ⟨Scalar.muli a1 512#32, k0_pay65 (rowHalf (i 1).val (diag I (i 1).val s).dq)⟩⌝)) := by
  rw [k0_part13_eq_skeleton]
  unfold k0_part13_skel
  iintro ⟨H2, H5, ⟨H14, H15, H16⟩, H9⟩
  icases (owns_read (c : Thread nD τ) arg2 _) $$ H2 with ⟨%f2, H2, %e2⟩
  icases (owns_read (c : Thread nD τ) arg5 _) $$ H5 with ⟨%f5, H5, %e5⟩
  icases (owns_read (c : Thread nD τ) arg9 _) $$ H9 with ⟨%f9, H9, %e9⟩
  icases (owns_read (c : Thread nD τ) arg14 _) $$ H14 with ⟨%f14, H14, %e14⟩
  icases (owns_read (c : Thread nD τ) arg15 _) $$ H15 with ⟨%f15, H15, %e15⟩
  icases (owns_read (c : Thread nD τ) arg16 _) $$ H16 with ⟨%f16, H16, %e16⟩
  have r2 := fun {off} {a b} ho inb => readAt_getAt (h := 512) (w := 128) (off := off) (a := a) (b := b) (by decide) (by decide) e2 ho inb
  have r5 := fun {off} {a b} ho inb => readAt_getAt (h := 512) (w := 128) (off := off) (a := a) (b := b) (by decide) (by decide) e5 ho inb
  have r14 := fun {off} {a b} ho inb => readAt_getAt (h := 512) (w := 256) (off := off) (a := a) (b := b) (by decide) (by decide) e14 ho inb
  have w14 : ∀ inb pay, pay = k0_pay63 (kk I) (dsD I (i 1).val) (qrows (i 1).val s.dq) → arg14.view.read (Elt F) (arg14.view.writes (Elt F) f14 [⟨Rect.unit (s := Blk 4096 256) (k0_off3 i) (Blk 512 256).size inb, pay⟩])
      = (diag I (i 1).val s).dq := fun inb pay hp =>
    writes_putAt (h := 512) (w := 256) (by decide) (by decide) (by decide) (by decide) (L := []) e14 (off3_eq i) inb hp
  sl_exec
  sl_step
  isplitl
  · isplitl [H2]
    · iapply (raw_owns (c : Thread nD τ) arg2 e2); iexact H2
    isplitl [H5]
    · iapply (raw_owns (c : Thread nD τ) arg5 e5); iexact H5
    isplitl [H14 H15 H16]
    · isplitl [H14]
      · iapply (raw_owns (c : Thread nD τ) arg14 ?_)
        rotate_left
        · iexact H14
        refine w14 _ _ ?_
        sl_unfold_run_names
        dsimp only
        simp only [readAt_whole e15, readAt_whole e16, r2 (off1_eq i), r5 (off1_eq i), r14 (off3_eq i)]
      isplitl [H15]
      · iapply (raw_owns (c : Thread nD τ) arg15 ?_)
        rotate_left
        · iexact H15
        refine (View.read_writes_full _ _ _ _ _).trans ?_
        sl_unfold_run_names
        dsimp only
        simp only [readAt_whole e15, readAt_whole e16, r2 (off1_eq i), r5 (off1_eq i), r14 (off3_eq i)]
        repeat rw [readCov_whole]
        try rfl
      iapply (raw_owns (c : Thread nD τ) arg16 ?_)
      rotate_left
      · iexact H16
      refine (View.read_writes_full _ _ _ _ _).trans ?_
      sl_unfold_run_names
      dsimp only
      simp only [readAt_whole e15, readAt_whole e16, r2 (off1_eq i), r5 (off1_eq i), r14 (off3_eq i)]
      repeat rw [readCov_whole]
      try rfl
    iapply (raw_owns (c : Thread nD τ) arg9 ?_)
    rotate_left
    · iexact H9
    refine writes_putAt (h := 512) (w := 128) (by decide) (by decide) (by decide) (by decide) (L := []) e9 (off1_eq i) _ ?_
    refine congrArg k0_pay64 ?_
    sl_unfold_run_names
    dsimp only
    refine readCov_getAt (h := 512) (w := 256) (w' := 128) (by decide) (by decide) (by decide) (by decide) _ (off3_eq i) (off4_eq i) _ _ ?_ s.dq (by have := kb_lt i; omega) (by omega) (by omega)
    simp only [readAt_whole e15, readAt_whole e16, r2 (off1_eq i), r5 (off1_eq i), r14 (off3_eq i)]
  · ipureintro
    refine congrArg (fun x => (⟨Scalar.muli a1 512#32, k0_pay65 x⟩ : Σ' (_ : BitVec 32), FVec F S8x512 .f32)) ?_
    sl_unfold_run_names
    dsimp only
    refine readCov_getAt (h := 512) (w := 256) (w' := 128) (by decide) (by decide) (by decide) (by decide) _ (off3_eq i) (off5_eq i) _ _ ?_ s.dq (by have := kb_lt i; omega) (by omega) (by omega)
    simp only [readAt_whole e15, readAt_whole e16, r2 (off1_eq i), r5 (off1_eq i), r14 (off3_eq i)]

end Cert.KernelIdeal.Attn

end
-- ==== Proof.Attn.Part14.lean ====
/-
  The row sums are stored and the pairs of query blocks taken.
-/
module

public import proofs.«01_k».proof.Proof.Attn.Own
public import proofs.«01_k».proof.Proof.Attn.Loop
public import proofs.«01_k».proof.Proof.Attn.Part13
@[expose] public section

set_option maxRecDepth 16384

noncomputable section

namespace Cert.KernelIdeal.Attn

open Cert.KernelIdeal Cert.KernelIdeal.Gen
open Idealize.ShloMosaic Idealize.ShloMosaic.TcCoe Idealize.ShloMosaic.Tactic Idealize.ShloMosaic.Updates Idealize.ShloMosaic.LaneScatter
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UU nD τ) ℕ

variable (c : Dev nD) (i : grid0.Coords)

variable {arg2 : Memref sig .tc .vmem S4096x128 .bf16} (harg2 : arg2.IsWhole) {arg3 : Memref sig .tc .vmem S512x128 .bf16} (harg3 : arg3.IsWhole) {arg4 : Memref sig .tc .vmem S512x128 .bf16} (harg4 : arg4.IsWhole) {arg5 : Memref sig .tc .vmem S4096x128 .bf16} (harg5 : arg5.IsWhole) {arg6 : Memref sig .tc .vmem S4096x128 .f32} (harg6 : arg6.IsWhole) {arg7 : Memref sig .tc .vmem S4096x128 .f32} (harg7 : arg7.IsWhole) {arg8 : Memref sig .tc .vmem S1x1x1x512 .f32} (harg8 : arg8.IsWhole) {arg9 : Memref sig .tc .vmem S4096x128 .bf16} (harg9 : arg9.IsWhole) {arg10 : Memref sig .tc .vmem S512x128 .bf16} (harg10 : arg10.IsWhole) {arg11 : Memref sig .tc .vmem S512x128 .bf16} (harg11 : arg11.IsWhole) {arg12 : Memref sig .tc .vmem S1x8x4096 .f32} (harg12 : arg12.IsWhole) {arg13 : Memref sig .tc .vmem S1x8x512 .f32} (harg13 : arg13.IsWhole) {arg14 : Memref sig .tc .vmem S4096x256 .f32} (harg14 : arg14.IsWhole) {arg15 : Memref sig .tc .vmem S512x256 .f32} (harg15 : arg15.IsWhole) {arg16 : Memref sig .tc .vmem S512x128 .f32} (harg16 : arg16.IsWhole) {arg17 : Memref sig .tc .vmem S512x512 .f32} (harg17 : arg17.IsWhole) {arg18 : Memref sig .tc .vmem S512x512 .f32} (harg18 : arg18.IsWhole) {arg19 : Memref sig .tc .vmem S512x512 .f32} (harg19 : arg19.IsWhole) {arg20 : Memref sig .tc .vmem S512x512 .f32} (harg20 : arg20.IsWhole)

/-- What the point leaves of the row sums: its own query block's, done. -/
def rowOut (q : ℕ) (s : St F) (O : Vec F S1x8x4096 .f32) : Vec F S1x8x4096 .f32 :=
  VecWindow.put O ![0, 0, 512 * q] S1x8x512.size (k0_pay66 (k0_pay65 (rowHalf q s.dq)))

/-- How many query blocks beyond the diagonal are in after the loop and the branch for one left. -/
def done (i : grid0.Coords) : ℕ := if k0_cond3 i = 1#1 then 2 * pairs (i 1).val + 1 else 2 * pairs (i 1).val

/-- The row sums are stored, the pairs of blocks taken, and one block more where an odd number is left. -/
theorem part14 (I : Inp F) (s : St F) (O : Vec F S1x8x4096 .f32) (a1 v20 v93 : BitVec 32) :
    (iprop(held c i arg2 arg5 arg6 arg7 arg14 arg15 arg16 arg17 arg18 arg19 arg20 I s 0 ∗ owns (c : Thread nD τ) arg12 fullShare O) : sProp 𝕄) ⊢
      wp frame (wpE defs₀ 𝒱₀ (c : Thread nD τ) none) Set.univ (k0_part14 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 a1 I.K I.V (cv I) (kk I) ones v20 v93 (k0_pay65 (rowHalf (i 1).val (diag I (i 1).val s).dq)))
        (fun _ => iprop(inputs c arg2 arg5 arg6 arg7 I ∗ accs c arg14 arg15 arg16 (chain I (i 1).val s (done i)) ∗ any c arg17 ∗ any c arg18
          ∗ second c arg19 arg20 I ((i 1).val + (2 * pairs (i 1).val + 1)) ∗ owns (c : Thread nD τ) arg12 fullShare (rowOut (i 1).val (diag I (i 1).val s) O))) := by
  rw [k0_part14_eq_skeleton]
  unfold k0_part14_skel
  simp only [k0_part7_eq_skeleton]
  unfold k0_part7_skel
  iintro ⟨H, H12⟩
  icases (owns_read (c : Thread nD τ) arg12 _) $$ H12 with ⟨%f12, H12, %e12⟩
  sl_exec
  iapply (bind_any frame (wpE defs₀ 𝒱₀ (c : Thread nD τ) none) Set.univ (loop1 c i harg2 harg3 harg4 harg5 harg6 harg7 harg8 harg9 harg10 harg11 harg12 harg13 harg14 harg15 harg16 harg17 harg18 harg19 harg20 I s a1 v20 v93 _) _ _)
  isplitl [H]
  · iexact H
  iintro %_ H
  iapply (bind_any frame (wpE defs₀ 𝒱₀ (c : Thread nD τ) none) Set.univ (loop2 c i (held c i arg2 arg5 arg6 arg7 arg14 arg15 arg16 arg17 arg18 arg19 arg20 I s (pairs (i 1).val)) _) _ _)
  isplitl [H]
  · iexact H
  iintro %_ ⟨⟨H2, H5, H6, H7⟩, ⟨H14, H15, H16⟩, H17, H18, ⟨%X19, %X20, H19, H20, %e⟩⟩
  by_cases h0 : k0_cond3 i = 1#1
  · have h3 := (cond3_iff i).mp h0
    obtain ⟨rfl, rfl⟩ := e (by omega)
    icases (owns_read (c : Thread nD τ) arg2 _) $$ H2 with ⟨%f2, H2, %e2⟩
    icases (owns_read (c : Thread nD τ) arg5 _) $$ H5 with ⟨%f5, H5, %e5⟩
    icases (owns_read (c : Thread nD τ) arg6 _) $$ H6 with ⟨%f6, H6, %e6⟩
    icases (owns_read (c : Thread nD τ) arg7 _) $$ H7 with ⟨%f7, H7, %e7⟩
    icases (owns_read (c : Thread nD τ) arg14 _) $$ H14 with ⟨%f14, H14, %e14⟩
    icases (owns_read (c : Thread nD τ) arg15 _) $$ H15 with ⟨%f15, H15, %e15⟩
    icases (owns_read (c : Thread nD τ) arg16 _) $$ H16 with ⟨%f16, H16, %e16⟩
    icases (owns_read (c : Thread nD τ) arg19 _) $$ H19 with ⟨%f19, H19, %e19⟩
    icases (owns_read (c : Thread nD τ) arg20 _) $$ H20 with ⟨%f20, H20, %e20⟩
    have r2 := fun {off} {a b} ho inb => readAt_getAt (h := 512) (w := 128) (off := off) (a := a) (b := b) (by decide) (by decide) e2 ho inb
    have r5 := fun {off} {a b} ho inb => readAt_getAt (h := 512) (w := 128) (off := off) (a := a) (b := b) (by decide) (by decide) e5 ho inb
    have r6 := fun {off} {a b} ho inb => readAt_getAt (h := 512) (w := 128) (off := off) (a := a) (b := b) (by decide) (by decide) e6 ho inb
    have r7 := fun {off} {a b} ho inb => readAt_getAt (h := 512) (w := 128) (off := off) (a := a) (b := b) (by decide) (by decide) e7 ho inb
    have r14 := fun {off} {a b} ho inb => readAt_getAt (h := 512) (w := 256) (off := off) (a := a) (b := b) (by decide) (by decide) e14 ho inb
    simp only [done, if_pos h0]
    sl_exec
    sl_step
    isplitl [H2 H5 H6 H7]
    · isplitl [H2]
      · iapply (raw_owns (c : Thread nD τ) arg2 e2); iexact H2
      isplitl [H5]
      · iapply (raw_owns (c : Thread nD τ) arg5 e5); iexact H5
      isplitl [H6]
      · iapply (raw_owns (c : Thread nD τ) arg6 e6); iexact H6
      iapply (raw_owns (c : Thread nD τ) arg7 e7); iexact H7
    isplitl [H14 H15 H16]
    · isplitl [H14]
      · iapply (raw_owns (c : Thread nD τ) arg14 ?_)
        rotate_left
        · iexact H14
        refine writes_putAt (h := 512) (w := 256) (by decide) (by decide) (by decide) (by decide) (L := []) e14 (off16_eq i h0) _ ?_
        sl_unfold_run_names
        dsimp only
        simp only [readAt_whole e15, readAt_whole e16, readAt_whole e19, readAt_whole e20, r2 (off15_eq i h0), r5 (off15_eq i h0), r6 (off15_eq i h0), r7 (off15_eq i h0), r14 (off16_eq i h0)]
        repeat rw [readCov_whole]
        try rfl
      isplitl [H15]
      · iapply (raw_owns (c : Thread nD τ) arg15 ?_)
        rotate_left
        · iexact H15
        refine (View.read_writes_full _ _ _ _ _).trans ?_
        sl_unfold_run_names
        dsimp only
        simp only [readAt_whole e15, readAt_whole e16, readAt_whole e19, readAt_whole e20, r2 (off15_eq i h0), r5 (off15_eq i h0), r6 (off15_eq i h0), r7 (off15_eq i h0), r14 (off16_eq i h0)]
        repeat rw [readCov_whole]
        try rfl
      iapply (raw_owns (c : Thread nD τ) arg16 ?_)
      rotate_left
      · iexact H16
      refine (View.read_writes_full _ _ _ _ _).trans ?_
      sl_unfold_run_names
      dsimp only
      simp only [readAt_whole e15, readAt_whole e16, readAt_whole e19, readAt_whole e20, r2 (off15_eq i h0), r5 (off15_eq i h0), r6 (off15_eq i h0), r7 (off15_eq i h0), r14 (off16_eq i h0)]
      repeat rw [readCov_whole]
      try rfl
    isplitl [H17]
    · iexact H17
    isplitl [H18]
    · iexact H18
    isplitl [H19 H20]
    · iexists _
      iexists _
      isplitl [H19]
      · iapply (raw_owns (c : Thread nD τ) arg19 e19); iexact H19
      isplitl [H20]
      · iapply (raw_owns (c : Thread nD τ) arg20 e20); iexact H20
      ipureintro
      exact fun _ => ⟨rfl, rfl⟩
    iapply (raw_owns (c : Thread nD τ) arg12 ?_)
    rotate_left
    · iexact H12
    refine (View.read_writes_cons_put _ _ _ _ _ (off6_eq i)).trans ?_
    rw [View.writes_nil, e12]
    rfl
  · simp only [done, if_neg h0]
    sl_exec
    sl_step
    isplitl [H2 H5 H6 H7]
    · isplitl [H2]
      · iexact H2
      isplitl [H5]
      · iexact H5
      isplitl [H6]
      · iexact H6
      iexact H7
    isplitl [H14 H15 H16]
    · isplitl [H14]
      · iexact H14
      isplitl [H15]
      · iexact H15
      iexact H16
    isplitl [H17]
    · iexact H17
    isplitl [H18]
    · iexact H18
    isplitl [H19 H20]
    · iexists _
      iexists _
      isplitl [H19]
      · iexact H19
      isplitl [H20]
      · iexact H20
      ipureintro
      exact e
    iapply (raw_owns (c : Thread nD τ) arg12 ?_)
    rotate_left
    · iexact H12
    refine (View.read_writes_cons_put _ _ _ _ _ (off6_eq i)).trans ?_
    rw [View.writes_nil, e12]
    rfl

end Cert.KernelIdeal.Attn

end
-- ==== Proof.Attn.LastTwo.lean ====
/-
  The branch for two query blocks left.
-/
module

public import proofs.«01_k».proof.Proof.Attn.Own
public import proofs.«01_k».proof.Proof.Attn.Part10
public import proofs.«01_k».proof.Proof.Attn.Part14
@[expose] public section

set_option maxRecDepth 16384

noncomputable section

namespace Cert.KernelIdeal.Attn

open Cert.KernelIdeal Cert.KernelIdeal.Gen
open Idealize.ShloMosaic Idealize.ShloMosaic.TcCoe Idealize.ShloMosaic.Tactic Idealize.ShloMosaic.Updates Idealize.ShloMosaic.LaneScatter
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UU nD τ) ℕ

variable (c : Dev nD) (i : grid0.Coords)

variable {arg2 : Memref sig .tc .vmem S4096x128 .bf16} (harg2 : arg2.IsWhole) {arg3 : Memref sig .tc .vmem S512x128 .bf16} (harg3 : arg3.IsWhole) {arg4 : Memref sig .tc .vmem S512x128 .bf16} (harg4 : arg4.IsWhole) {arg5 : Memref sig .tc .vmem S4096x128 .bf16} (harg5 : arg5.IsWhole) {arg6 : Memref sig .tc .vmem S4096x128 .f32} (harg6 : arg6.IsWhole) {arg7 : Memref sig .tc .vmem S4096x128 .f32} (harg7 : arg7.IsWhole) {arg8 : Memref sig .tc .vmem S1x1x1x512 .f32} (harg8 : arg8.IsWhole) {arg9 : Memref sig .tc .vmem S4096x128 .bf16} (harg9 : arg9.IsWhole) {arg10 : Memref sig .tc .vmem S512x128 .bf16} (harg10 : arg10.IsWhole) {arg11 : Memref sig .tc .vmem S512x128 .bf16} (harg11 : arg11.IsWhole) {arg12 : Memref sig .tc .vmem S1x8x4096 .f32} (harg12 : arg12.IsWhole) {arg13 : Memref sig .tc .vmem S1x8x512 .f32} (harg13 : arg13.IsWhole) {arg14 : Memref sig .tc .vmem S4096x256 .f32} (harg14 : arg14.IsWhole) {arg15 : Memref sig .tc .vmem S512x256 .f32} (harg15 : arg15.IsWhole) {arg16 : Memref sig .tc .vmem S512x128 .f32} (harg16 : arg16.IsWhole) {arg17 : Memref sig .tc .vmem S512x512 .f32} (harg17 : arg17.IsWhole) {arg18 : Memref sig .tc .vmem S512x512 .f32} (harg18 : arg18.IsWhole) {arg19 : Memref sig .tc .vmem S512x512 .f32} (harg19 : arg19.IsWhole) {arg20 : Memref sig .tc .vmem S512x512 .f32} (harg20 : arg20.IsWhole)

theorem pairs_all (k : ℕ) (hk : k < 8) (h3 : ¬ 2 * pairs k + 1 = 7 - k) (h4 : ¬ 2 * pairs k + 2 = 7 - k) : 2 * pairs k = 7 - k := by
  unfold pairs at *
  omega

theorem done_cond4 (h : k0_cond4 i = 1#1) : done i = 2 * pairs (i 1).val := by
  have h4 := (cond4_iff i).mp h
  unfold done
  rw [if_neg fun h3 => by have := (cond3_iff i).mp h3; omega]

theorem done_else (h : ¬ k0_cond4 i = 1#1) : done i = 7 - (i 1).val := by
  have hk := kb_lt i
  have h4 := fun e => h ((cond4_iff i).mpr e)
  unfold done
  split
  · next h3 => exact (cond3_iff i).mp h3
  · next h3 =>
    have h3' := fun e => h3 ((cond3_iff i).mpr e)
    exact pairs_all _ hk h3' h4

/-- The branch for two blocks left: after it every query block from the diagonal on is in. -/
theorem lastTwo (I : Inp F) (s : St F) (v135 : BitVec 32) (K : Prog (TpuEff nD τ sig (Elt F) Λ₀ .tc) PUnit) (Qk : PUnit → sProp 𝕄) :
    (iprop((inputs c arg2 arg5 arg6 arg7 I ∗ accs c arg14 arg15 arg16 (chain I (i 1).val s (done i)) ∗ any c arg17 ∗ any c arg18
          ∗ second c arg19 arg20 I ((i 1).val + (2 * pairs (i 1).val + 1)))
        ∗ ((inputs c arg2 arg5 arg6 arg7 I ∗ accs c arg14 arg15 arg16 (chain I (i 1).val s (7 - (i 1).val)) ∗ any c arg17 ∗ any c arg18 ∗ any c arg19 ∗ any c arg20)
          -∗ wp frame (wpE defs₀ 𝒱₀ (c : Thread nD τ) none) Set.univ K Qk)) : sProp 𝕄) ⊢
      wp frame (wpE defs₀ 𝒱₀ (c : Thread nD τ) none) Set.univ (if k0_h4 : k0_cond4 i = 1#1 then do
            k0_part10 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 I.K I.V (cv I) (kk I) ones v135 k0_h4
            K
          else K) Qk := by
  by_cases h0 : k0_cond4 i = 1#1
  · have h4 := (cond4_iff i).mp h0
    have hq : (i 1).val + (2 * pairs (i 1).val + 1) < 8 := by
      have := kb_lt i
      omega
    rw [dif_pos h0, done_cond4 i h0, ← h4]
    iintro ⟨⟨HI, HA, H17, H18, ⟨%X, %Y, HX, HY, %e⟩⟩, HK⟩
    obtain ⟨rfl, rfl⟩ := e hq
    iapply (bind_any frame (wpE defs₀ 𝒱₀ (c : Thread nD τ) none) Set.univ (part10 c i harg2 harg3 harg4 harg5 harg6 harg7 harg8 harg9 harg10 harg11 harg12 harg13 harg14 harg15 harg16 harg17 harg18 harg19 harg20 I (chain I (i 1).val s (2 * pairs (i 1).val)) h0 v135) _ _)
    isplitl [HI HA H17 H18 HX HY]
    · isplitl [HI]
      · iexact HI
      isplitl [HA]
      · iexact HA
      isplitl [H17]
      · iexact H17
      isplitl [H18]
      · iexact H18
      isplitl [HX]
      · iexact HX
      iexact HY
    iintro %_ H
    iapply HK
    iexact H
  · rw [dif_neg h0, done_else i h0]
    iintro ⟨⟨HI, HA, H17, H18, ⟨%X, %Y, HX, HY, %e⟩⟩, HK⟩
    iapply HK
    isplitl [HI]
    · iexact HI
    isplitl [HA]
    · iexact HA
    isplitl [H17]
    · iexact H17
    isplitl [H18]
    · iexact H18
    isplitl [HX]
    · iexists _
      iexact HX
    iexists _
    iexact HY

end Cert.KernelIdeal.Attn

end
-- ==== Proof.Attn.Part11.lean ====
/-
  The point starts.
-/
module

public import proofs.«01_k».proof.Proof.Attn.Own
@[expose] public section

set_option maxRecDepth 16384

noncomputable section

namespace Cert.KernelIdeal.Attn

open Cert.KernelIdeal Cert.KernelIdeal.Gen
open Idealize.ShloMosaic Idealize.ShloMosaic.TcCoe Idealize.ShloMosaic.Tactic Idealize.ShloMosaic.Updates Idealize.ShloMosaic.LaneScatter
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UU nD τ) ℕ

variable (c : Dev nD) (i : grid0.Coords)

variable {arg2 : Memref sig .tc .vmem S4096x128 .bf16} (harg2 : arg2.IsWhole) {arg3 : Memref sig .tc .vmem S512x128 .bf16} (harg3 : arg3.IsWhole) {arg4 : Memref sig .tc .vmem S512x128 .bf16} (harg4 : arg4.IsWhole) {arg5 : Memref sig .tc .vmem S4096x128 .bf16} (harg5 : arg5.IsWhole) {arg6 : Memref sig .tc .vmem S4096x128 .f32} (harg6 : arg6.IsWhole) {arg7 : Memref sig .tc .vmem S4096x128 .f32} (harg7 : arg7.IsWhole) {arg8 : Memref sig .tc .vmem S1x1x1x512 .f32} (harg8 : arg8.IsWhole) {arg9 : Memref sig .tc .vmem S4096x128 .bf16} (harg9 : arg9.IsWhole) {arg10 : Memref sig .tc .vmem S512x128 .bf16} (harg10 : arg10.IsWhole) {arg11 : Memref sig .tc .vmem S512x128 .bf16} (harg11 : arg11.IsWhole) {arg12 : Memref sig .tc .vmem S1x8x4096 .f32} (harg12 : arg12.IsWhole) {arg13 : Memref sig .tc .vmem S1x8x512 .f32} (harg13 : arg13.IsWhole) {arg14 : Memref sig .tc .vmem S4096x256 .f32} (harg14 : arg14.IsWhole) {arg15 : Memref sig .tc .vmem S512x256 .f32} (harg15 : arg15.IsWhole) {arg16 : Memref sig .tc .vmem S512x128 .f32} (harg16 : arg16.IsWhole) {arg17 : Memref sig .tc .vmem S512x512 .f32} (harg17 : arg17.IsWhole) {arg18 : Memref sig .tc .vmem S512x512 .f32} (harg18 : arg18.IsWhole) {arg19 : Memref sig .tc .vmem S512x512 .f32} (harg19 : arg19.IsWhole) {arg20 : Memref sig .tc .vmem S512x512 .f32} (harg20 : arg20.IsWhole)

theorem first_iff : ∀ i : grid0.Coords, Scalar.cmpi .ne (Scalar.extui (Scalar.cmpi .eq (BitVec.ofNat 32 (i 1).val) 0#32)) 0#32 = 1#1 ↔ (i 1).val = 0 := by
  decide +kernel

/-- The point starts: the accumulators cleared, the diagonal block's products with the keys taken. -/
theorem part11 (I : Inp F) (dq : Vec F S4096x256 .f32) :
    (iprop(owns (c : Thread nD τ) arg2 fullShare I.Q ∗ owns (c : Thread nD τ) arg3 fullShare I.K ∗ owns (c : Thread nD τ) arg4 fullShare I.V ∗ owns (c : Thread nD τ) arg8 fullShare I.C ∗ owns (c : Thread nD τ) arg14 fullShare dq ∗ any c arg15 ∗ any c arg16 ∗ any c arg17) : sProp 𝕄) ⊢
      wp frame (wpE defs₀ 𝒱₀ (c : Thread nD τ) none) Set.univ (k0_part11 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
        (fun r => iprop((owns (c : Thread nD τ) arg2 fullShare I.Q ∗ owns (c : Thread nD τ) arg3 fullShare I.K ∗ owns (c : Thread nD τ) arg4 fullShare I.V ∗ owns (c : Thread nD τ) arg8 fullShare I.C ∗ accs c arg14 arg15 arg16 (start (i 1).val dq) ∗ owns (c : Thread nD τ) arg17 fullShare (sT I (i 1).val))
          ∗ ⌜r = ⟨BitVec.ofNat 32 (i 1).val, I.K, I.V, cv I, kk I, ones, Scalar.subi 7#32 (BitVec.ofNat 32 (i 1).val)⟩⌝)) := by
  rw [k0_part11_eq_skeleton]
  unfold k0_part11_skel
  iintro ⟨H2, H3, H4, H8, H14, ⟨%X15, H15⟩, ⟨%X16, H16⟩, ⟨%X17, H17⟩⟩
  icases (owns_read (c : Thread nD τ) arg2 _) $$ H2 with ⟨%f2, H2, %e2⟩
  icases (owns_read (c : Thread nD τ) arg3 _) $$ H3 with ⟨%f3, H3, %e3⟩
  icases (owns_read (c : Thread nD τ) arg4 _) $$ H4 with ⟨%f4, H4, %e4⟩
  icases (owns_read (c : Thread nD τ) arg8 _) $$ H8 with ⟨%f8, H8, %e8⟩
  icases (owns_read (c : Thread nD τ) arg14 _) $$ H14 with ⟨%f14, H14, %e14⟩
  icases (owns_read (c : Thread nD τ) arg15 _) $$ H15 with ⟨%f15, H15, %e15⟩
  icases (owns_read (c : Thread nD τ) arg16 _) $$ H16 with ⟨%f16, H16, %e16⟩
  icases (owns_read (c : Thread nD τ) arg17 _) $$ H17 with ⟨%f17, H17, %e17⟩
  have r2 := fun {off} {a b} ho inb => readAt_getAt (h := 512) (w := 128) (off := off) (a := a) (b := b) (by decide) (by decide) e2 ho inb
  have e8' : ∀ inb, View.readAt (Elt F) arg8.view (Rect.unit (s := S1x1x1x512) ![0, 0, 0, 0] ![1, 1, 1, 512] inb).toLoadRect f8 = I.C :=
    fun inb => readAt_full (S := S1x1x1x512) e8 hz4 inb
  by_cases h0 : (i 1).val = 0
  · have hC := (first_iff i).mpr h0
    sl_exec
    sl_step
    isplitl
    · isplitl [H2]
      · iapply (raw_owns (c : Thread nD τ) arg2 e2); iexact H2
      isplitl [H3]
      · iapply (raw_owns (c : Thread nD τ) arg3 e3); iexact H3
      isplitl [H4]
      · iapply (raw_owns (c : Thread nD τ) arg4 e4); iexact H4
      isplitl [H8]
      · iapply (raw_owns (c : Thread nD τ) arg8 e8); iexact H8
      isplitl [H14 H15 H16]
      · isplitl [H14]
        · iapply (raw_owns (c : Thread nD τ) arg14 ?_)
          rotate_left
          · iexact H14
          refine (View.read_writes_full _ _ _ _ _).trans ?_
          simp only [start, if_pos h0]
        isplitl [H15]
        · iapply (raw_owns (c : Thread nD τ) arg15 ?_)
          rotate_left
          · iexact H15
          exact View.read_writes_full _ _ _ _ _
        iapply (raw_owns (c : Thread nD τ) arg16 ?_)
        rotate_left
        · iexact H16
        exact View.read_writes_full _ _ _ _ _
      iapply (raw_owns (c : Thread nD τ) arg17 ?_)
      rotate_left
      · iexact H17
      refine (View.read_writes_full _ _ _ _ _).trans ?_
      sl_unfold_run_names
      dsimp only
      simp only [readAt_whole e3, readAt_whole e4, r2 (off1_eq i)]
      repeat rw [readCov_whole]
      try rfl
    · ipureintro
      sl_unfold_run_names
      simp only [readAt_whole e3, readAt_whole e4, e8']
      try rfl
  · have hC := fun h => h0 ((first_iff i).mp h)
    sl_exec
    sl_step
    isplitl
    · isplitl [H2]
      · iapply (raw_owns (c : Thread nD τ) arg2 e2); iexact H2
      isplitl [H3]
      · iapply (raw_owns (c : Thread nD τ) arg3 e3); iexact H3
      isplitl [H4]
      · iapply (raw_owns (c : Thread nD τ) arg4 e4); iexact H4
      isplitl [H8]
      · iapply (raw_owns (c : Thread nD τ) arg8 e8); iexact H8
      isplitl [H14 H15 H16]
      · isplitl [H14]
        · iapply (raw_owns (c : Thread nD τ) arg14 ?_)
          rotate_left
          · iexact H14
          simp only [start, if_neg h0]
          exact (congrArg (arg14.view.read (Elt F)) (if_neg hC)).trans e14
        isplitl [H15]
        · iapply (raw_owns (c : Thread nD τ) arg15 ?_)
          rotate_left
          · iexact H15
          exact View.read_writes_full _ _ _ _ _
        iapply (raw_owns (c : Thread nD τ) arg16 ?_)
        rotate_left
        · iexact H16
        exact View.read_writes_full _ _ _ _ _
      iapply (raw_owns (c : Thread nD τ) arg17 ?_)
      rotate_left
      · iexact H17
      refine (View.read_writes_full _ _ _ _ _).trans ?_
      sl_unfold_run_names
      dsimp only
      simp only [readAt_whole e3, readAt_whole e4, r2 (off1_eq i)]
      repeat rw [readCov_whole]
      try rfl
    · ipureintro
      sl_unfold_run_names
      simp only [readAt_whole e3, readAt_whole e4, e8']
      try rfl

end Cert.KernelIdeal.Attn

end
-- ==== Proof.Attn.Part12.lean ====
/-
  The diagonal block's weights.
-/
module

public import proofs.«01_k».proof.Proof.Attn.Own
@[expose] public section

set_option maxRecDepth 16384

noncomputable section

namespace Cert.KernelIdeal.Attn

open Cert.KernelIdeal Cert.KernelIdeal.Gen
open Idealize.ShloMosaic Idealize.ShloMosaic.TcCoe Idealize.ShloMosaic.Tactic Idealize.ShloMosaic.Updates Idealize.ShloMosaic.LaneScatter
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UU nD τ) ℕ

variable (c : Dev nD) (i : grid0.Coords)

variable {arg2 : Memref sig .tc .vmem S4096x128 .bf16} (harg2 : arg2.IsWhole) {arg3 : Memref sig .tc .vmem S512x128 .bf16} (harg3 : arg3.IsWhole) {arg4 : Memref sig .tc .vmem S512x128 .bf16} (harg4 : arg4.IsWhole) {arg5 : Memref sig .tc .vmem S4096x128 .bf16} (harg5 : arg5.IsWhole) {arg6 : Memref sig .tc .vmem S4096x128 .f32} (harg6 : arg6.IsWhole) {arg7 : Memref sig .tc .vmem S4096x128 .f32} (harg7 : arg7.IsWhole) {arg8 : Memref sig .tc .vmem S1x1x1x512 .f32} (harg8 : arg8.IsWhole) {arg9 : Memref sig .tc .vmem S4096x128 .bf16} (harg9 : arg9.IsWhole) {arg10 : Memref sig .tc .vmem S512x128 .bf16} (harg10 : arg10.IsWhole) {arg11 : Memref sig .tc .vmem S512x128 .bf16} (harg11 : arg11.IsWhole) {arg12 : Memref sig .tc .vmem S1x8x4096 .f32} (harg12 : arg12.IsWhole) {arg13 : Memref sig .tc .vmem S1x8x512 .f32} (harg13 : arg13.IsWhole) {arg14 : Memref sig .tc .vmem S4096x256 .f32} (harg14 : arg14.IsWhole) {arg15 : Memref sig .tc .vmem S512x256 .f32} (harg15 : arg15.IsWhole) {arg16 : Memref sig .tc .vmem S512x128 .f32} (harg16 : arg16.IsWhole) {arg17 : Memref sig .tc .vmem S512x512 .f32} (harg17 : arg17.IsWhole) {arg18 : Memref sig .tc .vmem S512x512 .f32} (harg18 : arg18.IsWhole) {arg19 : Memref sig .tc .vmem S512x512 .f32} (harg19 : arg19.IsWhole) {arg20 : Memref sig .tc .vmem S512x512 .f32} (harg20 : arg20.IsWhole)

/-- The diagonal block's second product is taken, the next block's products are taken where there is one, and the diagonal block's weights and logit gradients computed. -/
theorem part12 (I : Inp F) (dv : Vec F S512x128 .f32) (v20 : BitVec 32) :
    (iprop(inputs c arg2 arg5 arg6 arg7 I ∗ owns (c : Thread nD τ) arg17 fullShare (sT I (i 1).val) ∗ any c arg18 ∗ any c arg19 ∗ any c arg20 ∗ owns (c : Thread nD τ) arg16 fullShare dv) : sProp 𝕄) ⊢
      wp frame (wpE defs₀ 𝒱₀ (c : Thread nD τ) none) Set.univ (k0_part12 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 1).val) I.K I.V (cv I) v20)
        (fun r => iprop((inputs c arg2 arg5 arg6 arg7 I ∗ any c arg17 ∗ any c arg18 ∗ second c arg19 arg20 I ((i 1).val + 1) ∗ owns (c : Thread nD τ) arg16 fullShare dv)
          ∗ ⌜r = ⟨Scalar.muli (BitVec.ofNat 32 (i 1).val) 512#32, dsD I (i 1).val, dv, k0_pay60 (cv I) (sT I (i 1).val) (rows (i 1).val I.LSE)⟩⌝)) := by
  rw [k0_part12_eq_skeleton]
  unfold k0_part12_skel
  iintro ⟨⟨H2, H5, H6, H7⟩, H17, ⟨%X18, H18⟩, ⟨%X19, H19⟩, ⟨%X20, H20⟩, H16⟩
  icases (owns_read (c : Thread nD τ) arg2 _) $$ H2 with ⟨%f2, H2, %e2⟩
  icases (owns_read (c : Thread nD τ) arg5 _) $$ H5 with ⟨%f5, H5, %e5⟩
  icases (owns_read (c : Thread nD τ) arg6 _) $$ H6 with ⟨%f6, H6, %e6⟩
  icases (owns_read (c : Thread nD τ) arg7 _) $$ H7 with ⟨%f7, H7, %e7⟩
  icases (owns_read (c : Thread nD τ) arg16 _) $$ H16 with ⟨%f16, H16, %e16⟩
  icases (owns_read (c : Thread nD τ) arg17 _) $$ H17 with ⟨%f17, H17, %e17⟩
  icases (owns_read (c : Thread nD τ) arg18 _) $$ H18 with ⟨%f18, H18, %e18⟩
  icases (owns_read (c : Thread nD τ) arg19 _) $$ H19 with ⟨%f19, H19, %e19⟩
  icases (owns_read (c : Thread nD τ) arg20 _) $$ H20 with ⟨%f20, H20, %e20⟩
  have r2 := fun {off} {a b} ho inb => readAt_getAt (h := 512) (w := 128) (off := off) (a := a) (b := b) (by decide) (by decide) e2 ho inb
  have r5 := fun {off} {a b} ho inb => readAt_getAt (h := 512) (w := 128) (off := off) (a := a) (b := b) (by decide) (by decide) e5 ho inb
  have r6 := fun {off} {a b} ho inb => readAt_getAt (h := 512) (w := 128) (off := off) (a := a) (b := b) (by decide) (by decide) e6 ho inb
  have r7 := fun {off} {a b} ho inb => readAt_getAt (h := 512) (w := 128) (off := off) (a := a) (b := b) (by decide) (by decide) e7 ho inb
  by_cases h0 : (i 1).val < 7
  · have hC := (cond2_iff i).mpr h0
    have o2 := off2_eq i hC
    sl_exec
    sl_step
    isplitl
    · isplitl [H2 H5 H6 H7]
      · isplitl [H2]
        · iapply (raw_owns (c : Thread nD τ) arg2 e2); iexact H2
        isplitl [H5]
        · iapply (raw_owns (c : Thread nD τ) arg5 e5); iexact H5
        isplitl [H6]
        · iapply (raw_owns (c : Thread nD τ) arg6 e6); iexact H6
        iapply (raw_owns (c : Thread nD τ) arg7 e7); iexact H7
      isplitl [H17]
      · iexists _
        iapply (raw_owns (c : Thread nD τ) arg17 rfl); iexact H17
      isplitl [H18]
      · iexists _
        iapply (raw_owns (c : Thread nD τ) arg18 rfl); iexact H18
      isplitl [H19 H20]
      · iexists (sT I ((i 1).val + 1))
        iexists (dpT I ((i 1).val + 1))
        isplitl [H19]
        · iapply (raw_owns (c : Thread nD τ) arg19 ?_)
          rotate_left
          · iexact H19
          refine (View.read_writes_full _ _ _ _ _).trans ?_
          sl_unfold_run_names
          dsimp only
          simp only [readAt_whole e16, readAt_whole e17, r2 o2, r5 o2, r5 (off1_eq i), r6 (off1_eq i), r7 (off1_eq i)]
          repeat rw [readCov_whole]
          try rfl
        isplitl [H20]
        · iapply (raw_owns (c : Thread nD τ) arg20 ?_)
          rotate_left
          · iexact H20
          refine (View.read_writes_full _ _ _ _ _).trans ?_
          sl_unfold_run_names
          dsimp only
          simp only [readAt_whole e16, readAt_whole e17, r2 o2, r5 o2, r5 (off1_eq i), r6 (off1_eq i), r7 (off1_eq i)]
          repeat rw [readCov_whole]
          try rfl
        ipureintro
        exact fun _ => ⟨rfl, rfl⟩
      iapply (raw_owns (c : Thread nD τ) arg16 e16); iexact H16
    · ipureintro
      sl_unfold_run_names
      dsimp only
      simp only [readAt_whole e16, readAt_whole e17, r2 o2, r5 o2, r5 (off1_eq i), r6 (off1_eq i), r7 (off1_eq i)]
      repeat rw [readCov_whole]
      try rfl
  · have hC := fun h => h0 ((cond2_iff i).mp h)
    sl_exec
    sl_step
    isplitl
    · isplitl [H2 H5 H6 H7]
      · isplitl [H2]
        · iapply (raw_owns (c : Thread nD τ) arg2 e2); iexact H2
        isplitl [H5]
        · iapply (raw_owns (c : Thread nD τ) arg5 e5); iexact H5
        isplitl [H6]
        · iapply (raw_owns (c : Thread nD τ) arg6 e6); iexact H6
        iapply (raw_owns (c : Thread nD τ) arg7 e7); iexact H7
      isplitl [H17]
      · iexists _
        iapply (raw_owns (c : Thread nD τ) arg17 rfl); iexact H17
      isplitl [H18]
      · iexists _
        iapply (raw_owns (c : Thread nD τ) arg18 rfl); iexact H18
      isplitl [H19 H20]
      · iexists _
        iexists _
        isplitl [H19]
        · iapply (raw_owns (c : Thread nD τ) arg19 rfl); iexact H19
        isplitl [H20]
        · iapply (raw_owns (c : Thread nD τ) arg20 rfl); iexact H20
        ipureintro
        exact fun h => absurd h (by omega)
      iapply (raw_owns (c : Thread nD τ) arg16 e16); iexact H16
    · ipureintro
      sl_unfold_run_names
      dsimp only
      simp only [readAt_whole e16, readAt_whole e17, r5 (off1_eq i), r6 (off1_eq i), r7 (off1_eq i)]
      repeat rw [readCov_whole]
      try rfl

end Cert.KernelIdeal.Attn

end
-- ==== Proof.Attn.Body.lean ====
/-
  One point of the grid.
-/
module

public import proofs.«01_k».proof.Proof.Attn.Own
public import proofs.«01_k».proof.Proof.Attn.LastTwo
public import proofs.«01_k».proof.Proof.Attn.Part11
public import proofs.«01_k».proof.Proof.Attn.Part12
@[expose] public section

set_option maxRecDepth 16384

noncomputable section

namespace Cert.KernelIdeal.Attn

open Cert.KernelIdeal Cert.KernelIdeal.Gen
open Idealize.ShloMosaic Idealize.ShloMosaic.TcCoe Idealize.ShloMosaic.Tactic Idealize.ShloMosaic.Updates Idealize.ShloMosaic.LaneScatter
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UU nD τ) ℕ

variable (c : Dev nD) (i : grid0.Coords)

variable {arg2 : Memref sig .tc .vmem S4096x128 .bf16} (harg2 : arg2.IsWhole) {arg3 : Memref sig .tc .vmem S512x128 .bf16} (harg3 : arg3.IsWhole) {arg4 : Memref sig .tc .vmem S512x128 .bf16} (harg4 : arg4.IsWhole) {arg5 : Memref sig .tc .vmem S4096x128 .bf16} (harg5 : arg5.IsWhole) {arg6 : Memref sig .tc .vmem S4096x128 .f32} (harg6 : arg6.IsWhole) {arg7 : Memref sig .tc .vmem S4096x128 .f32} (harg7 : arg7.IsWhole) {arg8 : Memref sig .tc .vmem S1x1x1x512 .f32} (harg8 : arg8.IsWhole) {arg9 : Memref sig .tc .vmem S4096x128 .bf16} (harg9 : arg9.IsWhole) {arg10 : Memref sig .tc .vmem S512x128 .bf16} (harg10 : arg10.IsWhole) {arg11 : Memref sig .tc .vmem S512x128 .bf16} (harg11 : arg11.IsWhole) {arg12 : Memref sig .tc .vmem S1x8x4096 .f32} (harg12 : arg12.IsWhole) {arg13 : Memref sig .tc .vmem S1x8x512 .f32} (harg13 : arg13.IsWhole) {arg14 : Memref sig .tc .vmem S4096x256 .f32} (harg14 : arg14.IsWhole) {arg15 : Memref sig .tc .vmem S512x256 .f32} (harg15 : arg15.IsWhole) {arg16 : Memref sig .tc .vmem S512x128 .f32} (harg16 : arg16.IsWhole) {arg17 : Memref sig .tc .vmem S512x512 .f32} (harg17 : arg17.IsWhole) {arg18 : Memref sig .tc .vmem S512x512 .f32} (harg18 : arg18.IsWhole) {arg19 : Memref sig .tc .vmem S512x512 .f32} (harg19 : arg19.IsWhole) {arg20 : Memref sig .tc .vmem S512x512 .f32} (harg20 : arg20.IsWhole)

/-- The accumulators when the point ends. -/
def final (I : Inp F) (kb : ℕ) (dq : Vec F S4096x256 .f32) : St F := chain I kb (start kb dq) (7 - kb)

/-- The accumulators after the diagonal block. -/
abbrev first (I : Inp F) (kb : ℕ) (dq : Vec F S4096x256 .f32) : St F := diag I kb (start kb dq)

/-- What the point stores of the key gradients, the values' gradients, and the column sums. -/
def dkOut (s : St F) : Vec F S512x128 .bf16 := k0_pay1 (getAt (by decide) (by decide) 512 128 (0, 0) s.dk)
def dvOut (s : St F) : Vec F S512x128 .bf16 := k0_pay3 s.dv
def colOut (s : St F) : Vec F S1x8x512 .f32 := k0_pay2 (getAt (by decide) (by decide) 512 128 (0, 128) s.dk)

/-- One point of the grid. -/
theorem body (I : Inp F) (dq : Vec F S4096x256 .f32) (O : Vec F S4096x128 .bf16) (R : Vec F S1x8x4096 .f32) :
    (iprop(inputs c arg2 arg5 arg6 arg7 I ∗ owns (c : Thread nD τ) arg3 fullShare I.K ∗ owns (c : Thread nD τ) arg4 fullShare I.V ∗ owns (c : Thread nD τ) arg8 fullShare I.C ∗ owns (c : Thread nD τ) arg9 fullShare O ∗ any c arg10 ∗ any c arg11 ∗ owns (c : Thread nD τ) arg12 fullShare R ∗ any c arg13 ∗ owns (c : Thread nD τ) arg14 fullShare dq
        ∗ any c arg15 ∗ any c arg16 ∗ any c arg17 ∗ any c arg18 ∗ any c arg19 ∗ any c arg20) : sProp 𝕄) ⊢
      wp frame (wpE defs₀ 𝒱₀ (c : Thread nD τ) none) Set.univ (cc0_attn_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
        (fun _ => iprop(inputs c arg2 arg5 arg6 arg7 I ∗ owns (c : Thread nD τ) arg3 fullShare I.K ∗ owns (c : Thread nD τ) arg4 fullShare I.V ∗ owns (c : Thread nD τ) arg8 fullShare I.C ∗ owns (c : Thread nD τ) arg9 fullShare (dqOut (i 1).val (first I (i 1).val dq) O) ∗ owns (c : Thread nD τ) arg10 fullShare (dkOut (final I (i 1).val dq)) ∗ owns (c : Thread nD τ) arg11 fullShare (dvOut (final I (i 1).val dq)) ∗ owns (c : Thread nD τ) arg12 fullShare (rowOut (i 1).val (first I (i 1).val dq) R) ∗ owns (c : Thread nD τ) arg13 fullShare (colOut (final I (i 1).val dq)) ∗ owns (c : Thread nD τ) arg14 fullShare (final I (i 1).val dq).dq
          ∗ any c arg15 ∗ any c arg16 ∗ any c arg17 ∗ any c arg18 ∗ any c arg19 ∗ any c arg20)) := by
  rw [cc0_attn_bwd_eq_skeleton]
  unfold cc0_attn_bwd_skel
  iintro ⟨⟨H2, H5, H6, H7⟩, H3, H4, H8, H9, H10, H11, H12, H13, H14, H15, H16, H17, H18, H19, H20⟩
  iapply (bind_val frame (wpE defs₀ 𝒱₀ (c : Thread nD τ) none) Set.univ (part11 c i harg2 harg3 harg4 harg5 harg6 harg7 harg8 harg9 harg10 harg11 harg12 harg13 harg14 harg15 harg16 harg17 harg18 harg19 harg20 I dq) _ _)
  isplitl [H2 H3 H4 H8 H14 H15 H16 H17]
  · isplitl [H2]
    · iexact H2
    isplitl [H3]
    · iexact H3
    isplitl [H4]
    · iexact H4
    isplitl [H8]
    · iexact H8
    isplitl [H14]
    · iexact H14
    isplitl [H15]
    · iexact H15
    isplitl [H16]
    · iexact H16
    iexact H17
  iintro ⟨H2, H3, H4, H8, ⟨H14, H15, H16⟩, H17⟩
  iapply (bind_val frame (wpE defs₀ 𝒱₀ (c : Thread nD τ) none) Set.univ (part12 c i harg2 harg3 harg4 harg5 harg6 harg7 harg8 harg9 harg10 harg11 harg12 harg13 harg14 harg15 harg16 harg17 harg18 harg19 harg20 I (start (i 1).val dq).dv _) _ _)
  isplitl [H2 H5 H6 H7 H16 H17 H18 H19 H20]
  · isplitl [H2 H5 H6 H7]
    · isplitl [H2]
      · iexact H2
      isplitl [H5]
      · iexact H5
      isplitl [H6]
      · iexact H6
      iexact H7
    isplitl [H17]
    · iexact H17
    isplitl [H18]
    · iexact H18
    isplitl [H19]
    · iexact H19
    isplitl [H20]
    · iexact H20
    iexact H16
  iintro ⟨⟨H2, H5, H6, H7⟩, H17, H18, H19, H16⟩
  iapply (bind_val frame (wpE defs₀ 𝒱₀ (c : Thread nD τ) none) Set.univ (part13 c i harg2 harg3 harg4 harg5 harg6 harg7 harg8 harg9 harg10 harg11 harg12 harg13 harg14 harg15 harg16 harg17 harg18 harg19 harg20 I (start (i 1).val dq) O _ _) _ _)
  isplitl [H2 H5 H14 H15 H16 H9]
  · isplitl [H2]
    · iexact H2
    isplitl [H5]
    · iexact H5
    isplitl [H14 H15 H16]
    · isplitl [H14]
      · iexact H14
      isplitl [H15]
      · iexact H15
      iexact H16
    iexact H9
  iintro ⟨H2, H5, HA, H9⟩
  iapply (bind_any frame (wpE defs₀ 𝒱₀ (c : Thread nD τ) none) Set.univ (part14 c i harg2 harg3 harg4 harg5 harg6 harg7 harg8 harg9 harg10 harg11 harg12 harg13 harg14 harg15 harg16 harg17 harg18 harg19 harg20 I (start (i 1).val dq) R _ _ _) _ _)
  isplitl [H2 H5 H6 H7 HA H17 H18 H19 H12]
  · isplitl [H2 H5 H6 H7 HA H17 H18 H19]
    · isplitl [H2 H5 H6 H7]
      · isplitl [H2]
        · iexact H2
        isplitl [H5]
        · iexact H5
        isplitl [H6]
        · iexact H6
        iexact H7
      isplitl [HA]
      · iexact HA
      isplitl [H17]
      · iexact H17
      isplitl [H18]
      · iexact H18
      iexact H19
    iexact H12
  iintro %r ⟨HI, HA, H17, H18, HS, H12⟩
  obtain ⟨v127, v135, v0⟩ := r
  dsimp only
  iapply (lastTwo c i harg2 harg3 harg4 harg5 harg6 harg7 harg8 harg9 harg10 harg11 harg12 harg13 harg14 harg15 harg16 harg17 harg18 harg19 harg20 I (start (i 1).val dq) v135 _ _)
  isplitl [HI HA H17 H18 HS]
  · isplitl [HI]
    · iexact HI
    isplitl [HA]
    · iexact HA
    isplitl [H17]
    · iexact H17
    isplitl [H18]
    · iexact H18
    iexact HS
  iintro ⟨HI, ⟨H14, H15, H16⟩, H17, H18, H19, H20⟩
  icases H10 with ⟨%X10, H10⟩
  icases H11 with ⟨%X11, H11⟩
  icases H13 with ⟨%X13, H13⟩
  icases (owns_read (c : Thread nD τ) arg10 _) $$ H10 with ⟨%f10, H10, %e10⟩
  icases (owns_read (c : Thread nD τ) arg11 _) $$ H11 with ⟨%f11, H11, %e11⟩
  icases (owns_read (c : Thread nD τ) arg13 _) $$ H13 with ⟨%f13, H13, %e13⟩
  icases (owns_read (c : Thread nD τ) arg15 _) $$ H15 with ⟨%f15, H15, %e15⟩
  icases (owns_read (c : Thread nD τ) arg16 _) $$ H16 with ⟨%f16, H16, %e16⟩
  have e15a := fun {off} {a b} ho inb => readAt_getAt (h := 512) (w := 128) (off := off) (a := a) (b := b) (by decide) (by decide) e15 ho inb
  sl_exec
  sl_step
  isplitl [HI]
  · iexact HI
  isplitl [H3]
  · iexact H3
  isplitl [H4]
  · iexact H4
  isplitl [H8]
  · iexact H8
  isplitl [H9]
  · iexact H9
  isplitl [H10]
  · iapply (raw_owns (c : Thread nD τ) arg10 ?_)
    rotate_left
    · iexact H10
    refine (View.read_writes_full _ _ _ _ _).trans ?_
    sl_unfold_run_names
    simp only [readAt_whole e16, e15a (off := ![0, 0]) rfl, e15a (off := ![0, 128]) rfl]
    try rfl
  isplitl [H11]
  · iapply (raw_owns (c : Thread nD τ) arg11 ?_)
    rotate_left
    · iexact H11
    refine (View.read_writes_full _ _ _ _ _).trans ?_
    sl_unfold_run_names
    simp only [readAt_whole e16, e15a (off := ![0, 0]) rfl, e15a (off := ![0, 128]) rfl]
    try rfl
  isplitl [H12]
  · iexact H12
  isplitl [H13]
  · iapply (raw_owns (c : Thread nD τ) arg13 ?_)
    rotate_left
    · iexact H13
    refine (View.read_writes_full (s := S1x8x512) _ _ _ _ _).trans ?_
    sl_unfold_run_names
    simp only [readAt_whole e16, e15a (off := ![0, 0]) rfl, e15a (off := ![0, 128]) rfl]
    try rfl
  isplitl [H14]
  · iexact H14
  isplitl [H15]
  · iexists _
    iapply (raw_owns (c : Thread nD τ) arg15 rfl); iexact H15
  isplitl [H16]
  · iexists _
    iapply (raw_owns (c : Thread nD τ) arg16 rfl); iexact H16
  isplitl [H17]
  · iexact H17
  isplitl [H18]
  · iexact H18
  isplitl [H19]
  · iexact H19
  iexact H20

end Cert.KernelIdeal.Attn

end
-- ==== Proof.Attn.Data.lean ====
/-
  What each point of the grid finds and leaves. The query gradients and the row sums of a head are stored one query block at a point, so of the two
  windows that hold them only the blocks stored so far are known; the rest of the windows is known whole.
-/
module

public import proofs.«01_k».proof.Proof.Attn.Body
public import proofs.«01_k».proof.Proof.Gen.KernelIdeal.Frame
public import Idealize.ShloMosaic.Lib.Pipeline.DatRel
@[expose] public section

set_option maxRecDepth 16384

noncomputable section

namespace Cert.KernelIdeal.Attn

open Cert.KernelIdeal Cert.KernelIdeal.Gen
open Idealize.ShloMosaic Idealize.ShloMosaic.TcCoe Idealize.ShloMosaic.Tactic Idealize.ShloMosaic.Updates Idealize.ShloMosaic.LaneScatter
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

variable {F : FTy → Type} [FloatOps F] [Named F]

local notation "𝕄" => MT nD τ sig Unit (Elt F) ℕ (UU nD τ) ℕ

variable (m : (ℓ : Loc nD τ sig) → Buf (Elt F) ℓ) (c : Dev nD)

/-- What point `t` reads. -/
def inpAt (t : Fin cfg0.N) : Inp F where
  Q := iblk m c 0 t
  K := iblk m c 1 t
  V := iblk m c 2 t
  DO := iblk m c 3 t
  LSE := iblk m c 4 t
  DL := iblk m c 5 t
  C := iblk m c 6 t

/-- The same, of the point whose number is `n`. -/
def inp (n : ℕ) : Inp F := inpAt m c ⟨n % 64, Nat.mod_lt n (by decide)⟩

theorem inp_val (t : Fin cfg0.N) : inp m c t.val = inpAt m c t :=
  congrArg (inpAt m c) (Fin.ext (Nat.mod_eq_of_lt t.isLt))

/-- The query accumulator before point `n`: each head starts it anew, so what it holds before the first does not matter. -/
def dqAt : ℕ → Vec F S4096x256 .f32
  | 0 => k0_pay48
  | n + 1 => (final (inp m c n) (n % 8) (dqAt n)).dq

/-- The accumulators at point `n` after its diagonal block, and when it ends. -/
def firstAt (n : ℕ) : St F := first (inp m c n) (n % 8) (dqAt m c n)
def finalAt (n : ℕ) : St F := final (inp m c n) (n % 8) (dqAt m c n)

/-- The query gradients and the row sums that point `n` stores. -/
def dqBlk (n : ℕ) : Vec F S512x128 .bf16 := k0_pay64 (dqHalf (n % 8) (firstAt m c n).dq)
def rowBlk (n : ℕ) : Vec F S1x8x512 .f32 := k0_pay66 (k0_pay65 (rowHalf (n % 8) (firstAt m c n).dq))

/-- The query gradients after point `n`: the blocks the head's points have stored are there. -/
def DqRel (n : ℕ) (X : Vec F S4096x128 .bf16) : Prop :=
  ∀ q, q ≤ n % 8 → rows q X = dqBlk m c (n - n % 8 + q)

theorem row_inb {q : ℕ} (hq : q < 8) : ∀ a, (![0, 0, 512 * q] : Fin 3 → ℕ) a + S1x8x512.size a ≤ S1x8x4096.size a := fun a => by
  fin_cases a
  · exact Nat.le_refl 1
  · exact Nat.le_refl 8
  · show 512 * q + 512 ≤ 4096; omega

/-- The row sums after point `n`. -/
def RowRel (n : ℕ) (X : Vec F S1x8x4096 .f32) : Prop :=
  ∀ q (hq : q < 8), q ≤ n % 8 → VecWindow.window X ![0, 0, 512 * q] S1x8x512.size (row_inb hq) = rowBlk m c (n - n % 8 + q)

/-- The windows of which only a part is known. -/
def part : Fin cfg0.W → Bool := ![false, false, false, false, false, false, false, true, false, false, true, false]

/-- What is known of them after a point. -/
def known : (w : Fin cfg0.W) → Fin cfg0.N → ((cfg0.win w).block.Idx → Elt F (cfg0.win w).elt) → Prop
  | 7, t, X => DqRel m c t.val X
  | 10, t, X => RowRel m c t.val X
  | _, _, _ => True

/-- The accumulators between points: the query accumulator is known inside a head. -/
def inv (n : ℕ) : sProp 𝕄 :=
  iprop((∃ X : Vec F S4096x256 .f32, owns (c : Thread nD τ) (Memref.whole cc0_scratch0) fullShare X ∗ ⌜n % 8 ≠ 0 → X = dqAt m c n⌝)
    ∗ any c (Memref.whole cc0_scratch1) ∗ any c (Memref.whole cc0_scratch2) ∗ any c (Memref.whole cc0_scratch3) ∗ any c (Memref.whole cc0_scratch4) ∗ any c (Memref.whole cc0_scratch5) ∗ any c (Memref.whole cc0_scratch6) ∗ (∃ r, prngReg c r))

/-- What each window holds after a point, where all of it is known. -/
def left : (w : Fin cfg0.W) → Fin cfg0.N → (cfg0.win w).block.Idx → Elt F (cfg0.win w).elt
  | 0, t => iblk m c 0 t
  | 1, t => iblk m c 1 t
  | 2, t => iblk m c 2 t
  | 3, t => iblk m c 3 t
  | 4, t => iblk m c 4 t
  | 5, t => iblk m c 5 t
  | 6, t => iblk m c 6 t
  | 7, _ => fun _ => Classical.arbitrary _
  | 8, t => dkOut (finalAt m c t.val)
  | 9, t => dvOut (finalAt m c t.val)
  | 10, _ => fun _ => Classical.arbitrary _
  | 11, t => colOut (finalAt m c t.val)

/-- The launch's data. -/
def dat : Dat τ (Elt F) Unit ℕ (UU nD τ) ℕ cfg0 c where
  A := fun w => V m c (Pipeline.arrRef spec0 w)
  after := left m c
  Φ := fun t => inv m c t.val
  q := Pipeline.shareOf spec0
  owed := fun _ => 0

theorem A_eq (w : Fin cfg0.W) : (dat m c).A w = V m c (Pipeline.arrRef spec0 w) := by dsimp only [dat]

/-- The same with the partly known windows held to what is known of them. -/
abbrev rdat : RDat τ (Elt F) Unit ℕ (UU nD τ) ℕ cfg0 c := (dat m c).toRRel part (known m c)

/-- The query gradients after a point, from what was known before it. -/
theorem dqRel_next {n : ℕ} {O : Vec F S4096x128 .bf16} (h : n % 8 ≠ 0 → DqRel m c (n - 1) O) :
    DqRel m c n (dqOut (n % 8) (firstAt m c n) O) := fun q hq => by
  have h8 : n % 8 < 8 := Nat.mod_lt _ (by decide)
  by_cases e : q = n % 8
  · rw [show n - n % 8 + q = n from by omega, e]
    exact getAt_putAt_same _ _ _ _ _ _ (by omega) (by omega)
  · have hp := h (by omega) q (by omega)
    rw [show n - 1 - (n - 1) % 8 + q = n - n % 8 + q from by omega] at hp
    exact (getAt_putAt_rows _ _ _ _ _ _ (by omega) (by omega) (by omega)).trans hp

/-- The row sums after a point, from what was known before it. -/
theorem rowRel_next {n : ℕ} {O : Vec F S1x8x4096 .f32} (h : n % 8 ≠ 0 → RowRel m c (n - 1) O) :
    RowRel m c n (rowOut (n % 8) (firstAt m c n) O) := fun q hq8 hq => by
  have h8 : n % 8 < 8 := Nat.mod_lt _ (by decide)
  by_cases e : q = n % 8
  · subst e
    rw [show n - n % 8 + n % 8 = n from by omega]
    exact VecWindow.window_put_same _ _ _ _ _
  · have hp := h (by omega) q hq8 (by omega)
    rw [show n - 1 - (n - 1) % 8 + q = n - n % 8 + q from by omega] at hp
    exact (VecWindow.window_put_of_disjoint _ _ _ _ _ _ _ 2 (by
      show 512 * q + 512 ≤ 512 * (n % 8) ∨ 512 * (n % 8) + 512 ≤ 512 * q; omega)).trans hp

end Cert.KernelIdeal.Attn

end
-- ==== Proof.Attn.Point.lean ====
/-
  One point of the grid, as the pipeline hands it the windows and takes them back.
-/
module

public import proofs.«01_k».proof.Proof.Attn.Data
@[expose] public section

set_option maxRecDepth 16384

noncomputable section

namespace Cert.KernelIdeal.Attn

open Cert.KernelIdeal Cert.KernelIdeal.Gen
open Idealize.ShloMosaic Idealize.ShloMosaic.TcCoe Idealize.ShloMosaic.Tactic Idealize.ShloMosaic.Updates Idealize.ShloMosaic.LaneScatter
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

variable {F : FTy → Type} [FloatOps F] [Named F]

local notation "𝕄" => MT nD τ sig Unit (Elt F) ℕ (UU nD τ) ℕ

variable (m : (ℓ : Loc nD τ sig) → Buf (Elt F) ℓ) (c : Dev nD)

theorem defs₀_row (t : Fin cfg0.N) : defs₀ (F := F) .tc cfg0.body (cfg0.bodyArgs t (cfg0.slots t)) = bodyAt0 t := by
  unfold defs₀
  rw [Defs.onTc_tc]

theorem coord_key : ∀ t : Fin cfg0.N, (grid0.coords t 1).val = t.val % 8 := (by decide +kernel : ∀ t : Fin grid0.N, (grid0.coords t 1).val = t.val % 8)

theorem finds_dq (t : Fin cfg0.N) (Y : Vec F S4096x128 .bf16) (h : (rdat m c).Finds 7 t Y) (ht : t.val % 8 ≠ 0) : DqRel m c (t.val - 1) Y := by
  have h1 := ((rdat m c).finds_of_pos (w := 7) (t := t) rfl (by intro h0; rw [h0] at ht; exact ht rfl) Y).mp h
  rcases h1 with h1 | h1
  · have h2 := (flush0_7 _).mp h1
    have h3 : (t.val - 1) % 8 = 7 := h2
    omega
  · exact (dat m c).toRRel_leaves (fgt := part) (Rl := known m c) (w := 7) rfl h1

theorem finds_row (t : Fin cfg0.N) (Y : Vec F S1x8x4096 .f32) (h : (rdat m c).Finds 10 t Y) (ht : t.val % 8 ≠ 0) : RowRel m c (t.val - 1) Y := by
  have h1 := ((rdat m c).finds_of_pos (w := 10) (t := t) rfl (by intro h0; rw [h0] at ht; exact ht rfl) Y).mp h
  rcases h1 with h1 | h1
  · have h2 := (flush0_10 _).mp h1
    have h3 : (t.val - 1) % 8 = 7 := h2
    omega
  · exact (dat m c).toRRel_leaves (fgt := part) (Rl := known m c) (w := 10) rfl h1

/-- Where a head starts, what the query accumulator held does not matter. -/
theorem start_zero (X Y : Vec F S4096x256 .f32) (kb : ℕ) (h : kb ≠ 0 → X = Y) : start kb X = start kb Y := by
  by_cases e : kb = 0
  · subst e; rfl
  · rw [h e]

theorem before_0 (t : Fin cfg0.N) (d) : (dat m c).before 0 t d = iblk m c 0 t := before0_0_of m (dat m c) (A_eq m c 0) (fun _ => by dsimp only [dat, left]) t d
theorem before_1 (t : Fin cfg0.N) (d) : (dat m c).before 1 t d = iblk m c 1 t := before0_1_of m (dat m c) (A_eq m c 1) (fun _ => by dsimp only [dat, left]) t d
theorem before_2 (t : Fin cfg0.N) (d) : (dat m c).before 2 t d = iblk m c 2 t := before0_2_of m (dat m c) (A_eq m c 2) (fun _ => by dsimp only [dat, left]) t d
theorem before_3 (t : Fin cfg0.N) (d) : (dat m c).before 3 t d = iblk m c 3 t := before0_3_of m (dat m c) (A_eq m c 3) (fun _ => by dsimp only [dat, left]) t d
theorem before_4 (t : Fin cfg0.N) (d) : (dat m c).before 4 t d = iblk m c 4 t := before0_4_of m (dat m c) (A_eq m c 4) (fun _ => by dsimp only [dat, left]) t d
theorem before_5 (t : Fin cfg0.N) (d) : (dat m c).before 5 t d = iblk m c 5 t := before0_5_of m (dat m c) (A_eq m c 5) (fun _ => by dsimp only [dat, left]) t d
theorem before_6 (t : Fin cfg0.N) (d) : (dat m c).before 6 t d = iblk m c 6 t := before0_6_of m (dat m c) (A_eq m c 6) (fun _ => by dsimp only [dat, left]) t d

theorem first_eq {I J : Inp F} {a b : ℕ} {X Y : Vec F S4096x256 .f32} (hI : I = J) (hab : a = b) (h : b ≠ 0 → X = Y) : first I a X = first J b Y := by
  subst hI hab
  exact congrArg (diag I a) (start_zero X Y a h)

theorem final_eq {I J : Inp F} {a b : ℕ} {X Y : Vec F S4096x256 .f32} (hI : I = J) (hab : a = b) (h : b ≠ 0 → X = Y) : final I a X = final J b Y := by
  subst hI hab
  exact congrArg (fun s => chain I a s (7 - a)) (start_zero X Y a h)

set_option maxHeartbeats 4000000 in
/-- One point, on the windows the pipeline hands over. -/
theorem point (t : Fin cfg0.N) :
    (iprop(inv m c t.val ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ d, owns (c : Thread nD τ) (st0_4 t) fullShare ((dat m c).before 4 t d))
    ∗ (∃ d, owns (c : Thread nD τ) (st0_5 t) fullShare ((dat m c).before 5 t d))
    ∗ (∃ d, owns (c : Thread nD τ) (st0_6 t) fullShare ((dat m c).before 6 t d))
    ∗ (∃ Y, ⌜(rdat m c).Finds 7 t Y⌝ ∗ owns (c : Thread nD τ) (st0_7 t) fullShare Y)
    ∗ (∃ d, owns (c : Thread nD τ) (st0_8 t) fullShare ((dat m c).before 8 t d))
    ∗ (∃ d, owns (c : Thread nD τ) (st0_9 t) fullShare ((dat m c).before 9 t d))
    ∗ (∃ Y, ⌜(rdat m c).Finds 10 t Y⌝ ∗ owns (c : Thread nD τ) (st0_10 t) fullShare Y)
    ∗ (∃ d, owns (c : Thread nD τ) (st0_11 t) fullShare ((dat m c).before 11 t d))
    ) : sProp 𝕄)
    ⊢ wp frame (wpE defs₀ 𝒱₀ (c : Thread nD τ) none) Set.univ (bodyAt0 (F := F) t) (fun _ => iprop(inv m c (t.val + 1) ∗ (dat m c).owesAt () t.succ
    ∗ owns (c : Thread nD τ) (st0_0 t) fullShare (left m c 0 t)
    ∗ owns (c : Thread nD τ) (st0_1 t) fullShare (left m c 1 t)
    ∗ owns (c : Thread nD τ) (st0_2 t) fullShare (left m c 2 t)
    ∗ owns (c : Thread nD τ) (st0_3 t) fullShare (left m c 3 t)
    ∗ owns (c : Thread nD τ) (st0_4 t) fullShare (left m c 4 t)
    ∗ owns (c : Thread nD τ) (st0_5 t) fullShare (left m c 5 t)
    ∗ owns (c : Thread nD τ) (st0_6 t) fullShare (left m c 6 t)
    ∗ (∃ X, ⌜DqRel m c t.val X⌝ ∗ owns (c : Thread nD τ) (st0_7 t) fullShare X)
    ∗ owns (c : Thread nD τ) (st0_8 t) fullShare (left m c 8 t)
    ∗ owns (c : Thread nD τ) (st0_9 t) fullShare (left m c 9 t)
    ∗ (∃ X, ⌜RowRel m c t.val X⌝ ∗ owns (c : Thread nD τ) (st0_10 t) fullShare X)
    ∗ owns (c : Thread nD τ) (st0_11 t) fullShare (left m c 11 t)
    )) := by
  simp only [before_0, before_1, before_2, before_3, before_4, before_5, before_6]
  unfold inv
  iintro ⟨⟨⟨%X, H14, %hX⟩, H15, H16, H17, H18, H19, H20, HP⟩, HO, ⟨%d0, H2⟩, ⟨%d1, H3⟩, ⟨%d2, H4⟩, ⟨%d3, H5⟩, ⟨%d4, H6⟩, ⟨%d5, H7⟩, ⟨%d6, H8⟩, ⟨%Y, %hY, H9⟩, ⟨%d8, H10⟩, ⟨%d9, H11⟩, ⟨%Z, %hZ, H12⟩, ⟨%d11, H13⟩⟩
  have e1 : first (inpAt m c t) (grid0.coords t 1).val X = firstAt m c t.val := first_eq (inp_val m c t).symm (coord_key t) hX
  have e2 : final (inpAt m c t) (grid0.coords t 1).val X = finalAt m c t.val := final_eq (inp_val m c t).symm (coord_key t) hX
  have h9 : DqRel m c t.val (dqOut (grid0.coords t 1).val (firstAt m c t.val) Y) := by
    rw [coord_key]; exact dqRel_next m c (finds_dq m c t Y hY)
  have h12 : RowRel m c t.val (rowOut (grid0.coords t 1).val (firstAt m c t.val) Z) := by
    rw [coord_key]; exact rowRel_next m c (finds_row m c t Z hZ)
  iapply (wp_wand_r frame (wpE defs₀ 𝒱₀ (c : Thread nD τ) none) Set.univ)
  isplitl [H2 H3 H4 H5 H6 H7 H8 H9 H10 H11 H12 H13 H14 H15 H16 H17 H18 H19 H20]
  · iapply (body c (grid0.coords t) (hstage0_0 ((cfg0.slots t 0).cast nbuf0_0)) (hstage0_1 ((cfg0.slots t 1).cast nbuf0_1)) (hstage0_2 ((cfg0.slots t 2).cast nbuf0_2)) (hstage0_3 ((cfg0.slots t 3).cast nbuf0_3)) (hstage0_4 ((cfg0.slots t 4).cast nbuf0_4)) (hstage0_5 ((cfg0.slots t 5).cast nbuf0_5)) (hstage0_6 ((cfg0.slots t 6).cast nbuf0_6)) (hstage0_7 ((cfg0.slots t 7).cast nbuf0_7)) (hstage0_8 ((cfg0.slots t 8).cast nbuf0_8)) (hstage0_9 ((cfg0.slots t 9).cast nbuf0_9)) (hstage0_10 ((cfg0.slots t 10).cast nbuf0_10)) (hstage0_11 ((cfg0.slots t 11).cast nbuf0_11)) (Memref.isWhole_whole _) (Memref.isWhole_whole _) (Memref.isWhole_whole _) (Memref.isWhole_whole _) (Memref.isWhole_whole _) (Memref.isWhole_whole _) (Memref.isWhole_whole _) (inpAt m c t) X Y Z)
    isplitl [H2 H5 H6 H7]
    · isplitl [H2]
      · iexact H2
      isplitl [H5]
      · iexact H5
      isplitl [H6]
      · iexact H6
      iexact H7
    isplitl [H3]
    · iexact H3
    isplitl [H4]
    · iexact H4
    isplitl [H8]
    · iexact H8
    isplitl [H9]
    · iexact H9
    isplitl [H10]
    · iexists _; iexact H10
    isplitl [H11]
    · iexists _; iexact H11
    isplitl [H12]
    · iexact H12
    isplitl [H13]
    · iexists _; iexact H13
    isplitl [H14]
    · iexact H14
    isplitl [H15]
    · iexact H15
    isplitl [H16]
    · iexact H16
    isplitl [H17]
    · iexact H17
    isplitl [H18]
    · iexact H18
    isplitl [H19]
    · iexact H19
    iexact H20
  rw [e1, e2]
  iintro %r ⟨⟨H2, H5, H6, H7⟩, H3, H4, H8, H9, H10, H11, H12, H13, H14, H15, H16, H17, H18, H19, H20⟩
  isplitl [H14 H15 H16 H17 H18 H19 H20 HP]
  · isplitl [H14]
    · iexists _
      isplitl [H14]
      · iexact H14
      · ipureintro; intro _; rfl
    isplitl [H15]
    · iexact H15
    isplitl [H16]
    · iexact H16
    isplitl [H17]
    · iexact H17
    isplitl [H18]
    · iexact H18
    isplitl [H19]
    · iexact H19
    isplitl [H20]
    · iexact H20
    iexact HP
  isplitl [HO]
  · iexact HO
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexists _
    isplitr
    · ipureintro
      exact h9
    · iexact H9
  isplitl [H10]
  · iexact H10
  isplitl [H11]
  · iexact H11
  isplitl [H12]
  · iexists _
    isplitr
    · ipureintro
      exact h12
    · iexact H12
  iexact H13

set_option maxHeartbeats 4000000 in
/-- The launch's body obligation. -/
theorem obligation : Pipeline.BodyObligationRel (dat m c) (defs₀ (F := F)) 𝒱₀ () Set.univ part (known m c) := fun t => by
  rw [bigSep_W0, bigSep_W0, defs₀_row]
  exact triple_restated (point m c t) rfl .rfl fun _ => .rfl

end Cert.KernelIdeal.Attn

end
-- ==== Proof.Attn.Run.lean ====
/-
  The whole launch.
-/
module

public import proofs.«01_k».proof.Proof.Attn.Point
public import Idealize.ShloMosaic.Lib.Pipeline.ArrRel
@[expose] public section

set_option maxRecDepth 16384

noncomputable section

namespace Cert.KernelIdeal.Attn

open Cert.KernelIdeal Cert.KernelIdeal.Gen
open Idealize.ShloMosaic Idealize.ShloMosaic.TcCoe Idealize.ShloMosaic.Tactic Idealize.ShloMosaic.Updates Idealize.ShloMosaic.LaneScatter
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

variable {F : FTy → Type} [FloatOps F] [Named F]

local notation "𝕄" => MT nD τ sig Unit (Elt F) ℕ (UU nD τ) ℕ

variable (m : (ℓ : Loc nD τ sig) → Buf (Elt F) ℓ) (c : Dev nD)

/-- A scratch buffer at some contents, as the body is handed it and as the launch has it. -/
theorem any_of_raw (b : Ref sig .tc) : (iprop(∃ f : Buf (Elt F) ((c : Thread nD τ).loc b), ((c : Thread nD τ).loc b) ↦{fullShare} f) : sProp 𝕄)
    = iprop(∃ X : b.ty.Contents (Elt F), owns (c : Thread nD τ) (Memref.whole b) fullShare X) := by
  simp only [owns_whole]

theorem inv_in : (Pipeline.ΦA (Val := Elt F) spec0 c : sProp 𝕄) ⊢ inv m c 0 := by
  unfold Pipeline.ΦA inv
  rw [scopedRest0_eq]
  simp only [any_of_raw]
  iintro ⟨⟨⟨%X, H0⟩, H1, H2, H3, H4, H5, H6⟩, HP⟩
  isplitl [H0]
  · iexists X
    isplitl [H0]
    · iexact H0
    · ipureintro; intro h; exact absurd rfl h
  isplitl [H1]
  · iexact H1
  isplitl [H2]
  · iexact H2
  isplitl [H3]
  · iexact H3
  isplitl [H4]
  · iexact H4
  isplitl [H5]
  · iexact H5
  isplitl [H6]
  · iexact H6
  iexact HP

theorem inv_out (n : ℕ) : inv m c n ⊢ (Pipeline.ΦA (Val := Elt F) spec0 c : sProp 𝕄) := by
  unfold Pipeline.ΦA inv
  rw [scopedRest0_eq]
  simp only [any_of_raw]
  iintro ⟨⟨%X, H0, %hX⟩, H1, H2, H3, H4, H5, H6, HP⟩
  isplitr [HP]
  · isplitl [H0]
    · iexists X; iexact H0
    isplitl [H1]
    · iexact H1
    isplitl [H2]
    · iexact H2
    isplitl [H3]
    · iexact H3
    isplitl [H4]
    · iexact H4
    isplitl [H5]
    · iexact H5
    iexact H6
  · iexact HP

/-- Every execution ends with the counters back at zero and the windows' arrays holding what the points left. -/
theorem run (ρ : Dev nD → PrngReg) : θ_run defs (onTc (τ := τ) (main (F := F))) ⟨m, fun _ => 0, ρ⟩
    (fun r => RDat.FramePost cfg0 (rdat m) (V m) r ∧ r.2.sem = fun _ => 0) :=
  Pipeline.RDat.θ_run_frame_track_shared cfgs 0 launch₀0 defs₀ 𝒱₀ (rdat m) m ρ main (fun c => (obligation m c).toRRel) (fun c w _ => rfl)
    (fun _ _ => rfl) (V m) (hmain m 𝒱₀) (fun c w => A_eq m c w) (fun c => inv_in m c) (fun c => inv_out m c _)
    (Q' := fun r => RDat.FramePost cfg0 (rdat m) (V m) r ∧ r.2.sem = fun _ => 0) (hQ' := fun _ h => h)

variable {m}

/-- The arguments end as they began. -/
theorem args_kept {r : PUnit × MemSt nD τ sig (Elt F)} (h : RDat.FramePost cfg0 (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((RDat.FramePost.arr_in h c 2 rfl).trans (A_eq m c 2)).trans (V_main_arg0 m c),
    ((h c).2 main_arg1 (Pipeline.mem_restRefs_of main_arg1 (by decide) (by decide))).trans (V_main_arg1 m c),
    ((RDat.FramePost.arr_in h c 3 rfl).trans (A_eq m c 3)).trans (V_main_arg2 m c)⟩

end Cert.KernelIdeal.Attn

end
-- ==== Proof.Attn.Reals.lean ====
/-
  Arrays whose entries are real numbers, given by a function of row and column. Such arrays stay such arrays under products, sums and the other operations
  of the attention's gradient, and each lemma says which function the result has.
-/
module

public import proofs.«01_k».proof.Proof.Attn.Model
public import Idealize.ShloMosaic.Lib.MatmulPlain
public import Idealize.ShloMosaic.Lib.Pipeline.Value
public import Idealize.ShloMosaic.Lib.ValueIdx

@[expose] public section

set_option maxRecDepth 16384

noncomputable section

namespace Cert.KernelIdeal.Attn

open Cert.KernelIdeal Cert.KernelIdeal.Gen
open Idealize.ShloMosaic Idealize.ShloMosaic.Updates Idealize.ShloMosaic.LaneScatter Idealize.ShloMosaic.ValueIdx
open scoped BigOperators

/-- The matrix of the reals `f`. -/
def mat {R C : ℕ} (f : ℕ → ℕ → ℝ) : (Blk R C).Idx → EReal := fun y => ((f (y 0).val (y 1).val : ℝ) : EReal)

theorem mat_apply {R C : ℕ} (f : ℕ → ℕ → ℝ) (y : (Blk R C).Idx) : mat f y = ((f (y 0).val (y 1).val : ℝ) : EReal) := rfl

theorem mat_ix2 {R C : ℕ} (f : ℕ → ℕ → ℝ) (r : Fin R) (c : Fin C) : (mat f : (Blk R C).Idx → EReal) (ix2 r c) = ((f r.val c.val : ℝ) : EReal) := rfl

theorem mat_congr {R C : ℕ} {f g : ℕ → ℕ → ℝ} (h : ∀ r < R, ∀ c < C, f r c = g r c) : (mat f : (Blk R C).Idx → EReal) = mat g :=
  funext fun y => congrArg _ (h _ (y 0).isLt _ (y 1).isLt)

theorem eq_mat {R C : ℕ} {X : (Blk R C).Idx → EReal} {f : ℕ → ℕ → ℝ} (h : ∀ (r : Fin R) (c : Fin C), X (ix2 r c) = ((f r.val c.val : ℝ) : EReal)) :
    X = mat f := funext fun y => by
  obtain ⟨r, c, rfl⟩ : ∃ r c, y = ix2 r c := ⟨y 0, y 1, by funext a; match a with | ⟨0, _⟩ => rfl | ⟨1, _⟩ => rfl⟩
  exact h r c

/-- A finite sum of reals is the same sum taken of the extended reals. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A sum of products of reals over the first `K` positions. -/
theorem sum_mul_coe (K : ℕ) (f g : ℕ → ℝ) :
    ∑ k : Fin K, ((f k.val : ℝ) : EReal) * ((g k.val : ℝ) : EReal) = ((∑ k ∈ Finset.range K, f k * g k : ℝ) : EReal) := by
  rw [coe_sum, Finset.sum_range (fun k => (((f k * g k : ℝ)) : EReal))]
  exact Finset.sum_congr rfl fun k _ => (EReal.coe_mul _ _).symm

theorem zero_apply {s : Shape} (i : s.Idx) : constant (F := Ideal) s .f32 0x00000000#32 i = 0 := by
  rw [constant_apply]; exact Ideal.ofBits_zero_f32

/-- Rows times rows. -/
theorem matmul_nt {M K N : ℕ} {φ₁ φ₂ : FTy} (prec : Option ContractPrecision) (f g : ℕ → ℕ → ℝ) :
    FloatOps.matmul (F := Ideal) (φ₁ := φ₁) (φ₂ := φ₂) (DotDims.transposedRhs M K N) prec (mat f) (mat g) (constant (F := Ideal) _ .f32 0x00000000#32)
      = mat fun r c => ∑ k ∈ Finset.range K, f r k * g c k :=
  eq_mat fun r c => by
    rw [Ideal.matmul_transposedRhs_apply, zero_apply, zero_add]
    exact sum_mul_coe K (fun k => f r.val k) (fun k => g c.val k)

/-- Rows times columns. -/
theorem matmul_nn {M K N : ℕ} {φ₁ φ₂ : FTy} (prec : Option ContractPrecision) (f g : ℕ → ℕ → ℝ) :
    FloatOps.matmul (F := Ideal) (φ₁ := φ₁) (φ₂ := φ₂) (DotDims.plain M K N) prec (mat f) (mat g) (constant (F := Ideal) _ .f32 0x00000000#32)
      = mat fun r c => ∑ k ∈ Finset.range K, f r k * g k c :=
  eq_mat fun r c => by
    rw [Ideal.matmul_plain_apply, zero_apply, zero_add]
    exact sum_mul_coe K (fun k => f r.val k) (fun k => g k c.val)

/-- Columns times columns, for a product whose index maps are those of contracting the rows. -/
theorem matmul_tn {M K N : ℕ} {φ₁ φ₂ : FTy} (d : DotDims (Blk K M) (Blk K N) (Blk M N)) (prec : Option ContractPrecision) (e : d.contr.Idx ≃ Fin K)
    (hl : ∀ r c k, d.lhsIdx (ix2 r c) (e.symm k) = ix2 k r) (hr : ∀ r c k, d.rhsIdx (ix2 r c) (e.symm k) = ix2 k c) (f g : ℕ → ℕ → ℝ) :
    FloatOps.matmul (F := Ideal) (φ₁ := φ₁) (φ₂ := φ₂) d prec (mat f) (mat g) (constant (F := Ideal) _ .f32 0x00000000#32)
      = mat fun r c => ∑ k ∈ Finset.range K, f k r * g k c :=
  eq_mat fun r c => by
    rw [Ideal.matmul_apply, zero_apply, zero_add, ← Equiv.sum_comp e.symm]
    refine Eq.trans (Finset.sum_congr rfl fun k _ => ?_) (sum_mul_coe K (fun k => f k r.val) (fun k => g k c.val))
    rw [hl, hr]
    rfl

theorem matmul_tn256 (prec : Option ContractPrecision) (f g : ℕ → ℕ → ℝ) :
    FloatOps.matmul (F := Ideal) (φ₁ := .bf16) (φ₂ := .bf16) dot_S512x512_S512x256_S512x256_0_0_1_1_n_n prec (mat f) (mat g)
      (constant (F := Ideal) _ .f32 0x00000000#32) = mat fun r c => ∑ k ∈ Finset.range 512, f k r * g k c := by
  have hk := contrEquiv1_symm_val dot_S512x512_S512x256_S512x256_0_0_1_1_n_n 512 rfl rfl
  refine matmul_tn _ prec (contrEquiv1 _ 512 rfl rfl) (fun r c k => ?_) (fun r c k => ?_) f g
  · funext a; apply Fin.ext
    match a with
    | ⟨0, _⟩ => exact hk k
    | ⟨1, _⟩ => rfl
  · funext a; apply Fin.ext
    match a with
    | ⟨0, _⟩ => exact hk k
    | ⟨1, _⟩ => rfl

theorem matmul_tn128 (prec : Option ContractPrecision) (f g : ℕ → ℕ → ℝ) :
    FloatOps.matmul (F := Ideal) (φ₁ := .bf16) (φ₂ := .bf16) dot_S512x512_S512x128_S512x128_0_0_1_1_n_n prec (mat f) (mat g)
      (constant (F := Ideal) _ .f32 0x00000000#32) = mat fun r c => ∑ k ∈ Finset.range 512, f k r * g k c := by
  have hk := contrEquiv1_symm_val dot_S512x512_S512x128_S512x128_0_0_1_1_n_n 512 rfl rfl
  refine matmul_tn _ prec (contrEquiv1 _ 512 rfl rfl) (fun r c k => ?_) (fun r c k => ?_) f g
  · funext a; apply Fin.ext
    match a with
    | ⟨0, _⟩ => exact hk k
    | ⟨1, _⟩ => rfl
  · funext a; apply Fin.ext
    match a with
    | ⟨0, _⟩ => exact hk k
    | ⟨1, _⟩ => rfl

/-! Blocks of such matrices. -/

theorem getAt_mat {R C h w a b : ℕ} (hR : 0 < R) (hC : 0 < C) (ha : a + h ≤ R) (hb : b + w ≤ C) (f : ℕ → ℕ → ℝ) :
    getAt hR hC h w (a, b) (mat f : (Blk R C).Idx → EReal) = mat fun r c => f (a + r) (b + c) :=
  eq_mat fun r c => by
    have hr := r.isLt
    have hc := c.isLt
    have e1 : min (a + r.val) (R - 1) = a + r.val := by omega
    have e2 : min (b + c.val) (C - 1) = b + c.val := by omega
    show ((f (min (a + r.val) (R - 1)) (min (b + c.val) (C - 1)) : ℝ) : EReal) = _
    rw [e1, e2]

end Cert.KernelIdeal.Attn

end
-- ==== Proof.Attn.Blocks.lean ====
/-
  What each piece of a point's arithmetic does to matrices of reals.
-/
module

public import proofs.«01_k».proof.Proof.Attn.Reals

@[expose] public section

set_option maxRecDepth 16384

noncomputable section

namespace Cert.KernelIdeal.Attn

open Cert.KernelIdeal Cert.KernelIdeal.Gen
open Idealize.ShloMosaic Idealize.ShloMosaic.Updates Idealize.ShloMosaic.LaneScatter Idealize.ShloMosaic.ValueIdx
open scoped BigOperators

variable {R C : ℕ} {φ : FTy}

theorem addf_mat (f g : ℕ → ℕ → ℝ) : addf (F := Ideal) (φ := φ) (mat f : (Blk R C).Idx → EReal) (mat g) = mat fun r c => f r c + g r c :=
  funext fun _ => (EReal.coe_add _ _).symm

theorem mulf_mat (f g : ℕ → ℕ → ℝ) : mulf (F := Ideal) (φ := φ) (mat f : (Blk R C).Idx → EReal) (mat g) = mat fun r c => f r c * g r c :=
  funext fun _ => (EReal.coe_mul _ _).symm

theorem subf_mat (f g : ℕ → ℕ → ℝ) : subf (F := Ideal) (φ := φ) (mat f : (Blk R C).Idx → EReal) (mat g) = mat fun r c => f r c - g r c :=
  funext fun _ => (EReal.coe_sub _ _).symm

theorem truncf_mat {ψ : FTy} (f : ℕ → ℕ → ℝ) (h : ψ.bits < φ.bits) :
    truncf (F := Ideal) (s := Blk R C) (φ := φ) ψ (mat f) h = mat f := rfl

theorem exp2_mat (f : ℕ → ℕ → ℝ) : exp2 (F := Ideal) (φ := φ) (mat f : (Blk R C).Idx → EReal) = mat fun r c => Real.rpow 2 (f r c) :=
  funext fun _ => rfl

theorem splat_mat (x : EReal) (a : ℝ) (h : x = (a : EReal)) : (broadcast (Blk R C) x : (Blk R C).Idx → EReal) = mat fun _ _ => a :=
  funext fun _ => h

/-- The scale of the logits, 128^(−1/2) rounded to 24 bits. -/
def sc : ℝ := 11863283 / 134217728
/-- The logarithm of e to the base two. -/
def l2e : ℝ := (Real.log 2)⁻¹

theorem named_scale : Named.named (F := Ideal) Cert.KernelIdeal.κ "scale_log2_e" (φ := .f32) 0x3E0293EE#32 = ((sc * l2e : ℝ) : EReal) :=
  IdealRules.named_const.ideal_named_scalar _ _ _ _ rfl
theorem named_l2e : Named.named (F := Ideal) Cert.KernelIdeal.κ "log2_e" (φ := .f32) 0x3FB8AA3B#32 = ((l2e : ℝ) : EReal) :=
  IdealRules.named_const.ideal_named_scalar _ _ _ _ rfl
theorem word_scale : Ideal.ofBits .f32 0x3DB504F3#32 = ((sc : ℝ) : EReal) := by
  rw [sc]; simp [Ideal.ofBits, Ideal.ieee, -EReal.coe_mul]; norm_num
theorem word_zero : Ideal.ofBits .f32 0x00000000#32 = ((0 : ℝ) : EReal) := by
  simp [Ideal.ofBits, Ideal.ieee, -EReal.coe_mul]
theorem word_one : Ideal.ofBits .bf16 0x3F80#16 = ((1 : ℝ) : EReal) := by
  simp [Ideal.ofBits, Ideal.ieee, -EReal.coe_mul]; norm_num
theorem word_bot : Ideal.ofBits .f32 0xFF800000#32 = ⊥ := by
  simp [Ideal.ofBits, Ideal.ieee, -EReal.coe_mul]

/-- Four copies side by side. -/
theorem tile_mat (f : ℕ → ℕ → ℝ) (h) :
    concatenate S512x512 1 [⟨S512x128, (mat f : S512x128.Idx → EReal)⟩, ⟨S512x128, mat f⟩, ⟨S512x128, mat f⟩, ⟨S512x128, mat f⟩] h
      = mat fun r c => f r (c % 128) :=
  eq_mat fun r c => by
    refine (concatenate_replicate_apply (t := S512x512) (s₁ := S512x128) 1 4 (mat f) h rfl (ix2 r c) (ix2 r ⟨c.val % 128, Nat.mod_lt _ (by decide)⟩) rfl ?_).trans rfl
    intro b hb
    match b with
    | ⟨0, _⟩ => rfl
    | ⟨1, _⟩ => exact absurd rfl hb

/-- A block of keys or queries with ones beside it. -/
def beside (f : ℕ → ℕ → ℝ) : ℕ → ℕ → ℝ := fun r c => if c < 128 then f r c else 1

theorem beside_mat (f : ℕ → ℕ → ℝ) (h) :
    concatenate S512x256 1 [⟨S512x128, (mat f : S512x128.Idx → EReal)⟩, ⟨S512x128, mat fun _ _ => 1⟩] h = mat (beside f) :=
  eq_mat fun r c => by
    by_cases hc : c.val < 128
    · refine (concatenate_pair_apply_left 1 _ _ h (ix2 r c) rfl (ix2 r ⟨c.val, hc⟩) fun b => ?_).trans ?_
      · match b with
        | ⟨0, _⟩ => rfl
        | ⟨1, _⟩ => rfl
      · show ((f r.val c.val : ℝ) : EReal) = ((beside f r.val c.val : ℝ) : EReal)
        rw [beside, if_pos hc]
    · have hc' := c.isLt
      refine (concatenate_pair_apply_right 1 _ _ h (ix2 r c) rfl rfl (ix2 r ⟨c.val - 128, by omega⟩) (fun b hb => ?_) ?_).trans ?_
      · match b with
        | ⟨0, _⟩ => rfl
        | ⟨1, _⟩ => exact absurd rfl hb
      · show c.val - 128 + 128 = c.val
        omega
      · show ((1 : ℝ) : EReal) = ((beside f r.val c.val : ℝ) : EReal)
        rw [beside, if_neg hc]

/-- The point's row of 512 cumulative sums. -/
def row4 (f : ℕ → ℝ) : S1x1x1x512.Idx → EReal := fun y => ((f (y 3).val : ℝ) : EReal)

theorem pay51_mat (f : ℕ → ℝ) : k0_pay51 (F := Ideal) (row4 f) = mat fun _ c => f c * l2e := by
  have e : shapeCast S1x512 (row4 f) shapeCasts_S1x1x1x512_S1x512 = (mat fun _ c => f c) := eq_mat fun r c => by
    refine (shapeCast_apply (s := S1x1x1x512) (row4 f) _ (ix2 r c) (ix4 (0 : Fin 1) (0 : Fin 1) (0 : Fin 1) c) ?_).trans rfl
    rw [Shape.rowMajor_val_four, Shape.rowMajor_val_two]
    have := r.isLt
    show ((0 * 1 + 0) * 1 + 0) * 512 + c.val = r.val * 512 + c.val
    omega
  dsimp only [k0_pay51]
  rw [e, splat_mat (R := 1) (C := 512) _ _ named_l2e, mulf_mat]

theorem pay53_mat : k0_pay53 (F := Ideal) = mat fun _ _ => 1 := splat_mat _ _ word_one
theorem pay48_mat : k0_pay48 (F := Ideal) = mat fun _ _ => 0 := by
  dsimp only [k0_pay48]; rw [shapeCast_self]; exact splat_mat _ _ word_zero
theorem pay49_mat : k0_pay49 (F := Ideal) = mat fun _ _ => 0 := by
  dsimp only [k0_pay49]; rw [shapeCast_self]; exact splat_mat _ _ word_zero
theorem pay50_mat : k0_pay50 (F := Ideal) = mat fun _ _ => 0 := by
  dsimp only [k0_pay50]; rw [shapeCast_self]; exact splat_mat _ _ word_zero

theorem pay52_mat (f : ℕ → ℕ → ℝ) : k0_pay52 (F := Ideal) (mat f) = mat (beside f) := by
  dsimp only [k0_pay52]
  exact (congrArg (fun w : S512x128.Idx → EReal => concatenate S512x256 1 [⟨S512x128, (mat f : S512x128.Idx → EReal)⟩, ⟨S512x128, w⟩]
    concatenates_S512x128_S512x128_S512x256_d1) (splat_mat _ _ word_one)).trans (beside_mat f _)

theorem pay4_mat (f g : ℕ → ℕ → ℝ) : k0_pay4 (F := Ideal) (mat g) (mat f) = mat fun r c => ∑ d ∈ Finset.range 128, f r d * g c d := by
  dsimp only [k0_pay4]; rw [shapeCast_self]; exact matmul_nt none f g
theorem pay5_mat (f g : ℕ → ℕ → ℝ) : k0_pay5 (F := Ideal) (mat g) (mat f) = mat fun r c => ∑ d ∈ Finset.range 128, f r d * g c d := by
  dsimp only [k0_pay5]; rw [shapeCast_self]; exact matmul_nt none f g

theorem spread_mat (f : ℕ → ℕ → ℝ) (h) : broadcastTo S512x512 (mat f : S1x512.Idx → EReal) h = mat fun _ c => f 0 c :=
  eq_mat fun r c => by
    refine (broadcastTo_apply (mat f : S1x512.Idx → EReal) h (ix2 r c) (ix2 (0 : Fin 1) c) fun a => ?_).trans rfl
    match a with
    | ⟨0, _⟩ => rfl
    | ⟨1, _⟩ => rfl

/-- The weights' exponent. -/
def ex (c : ℕ → ℕ → ℝ) (s l : ℕ → ℕ → ℝ) : ℕ → ℕ → ℝ := fun r j => s r j * (sc * l2e) - c 0 j - l r (j % 128)

theorem pay6_mat (c s l : ℕ → ℕ → ℝ) : k0_pay6 (F := Ideal) (mat c) (mat s) (mat l) = mat fun r j => Real.rpow 2 (ex c s l r j) := by
  dsimp only [k0_pay6]
  rw [shapeCast_self, splat_mat (R := 512) (C := 512) _ _ named_scale, spread_mat, mulf_mat, subf_mat, tile_mat, subf_mat, exp2_mat]
  rfl

theorem pay7_mat (p d l : ℕ → ℕ → ℝ) : k0_pay7 (F := Ideal) (mat p) (mat d) (mat l) = mat fun r j => p r j * (d r j - l r (j % 128)) := by
  dsimp only [k0_pay7]
  rw [shapeCast_self, tile_mat, subf_mat, mulf_mat, truncf_mat]

theorem pay8_mat (p a o : ℕ → ℕ → ℝ) :
    k0_pay8 (F := Ideal) (mat p) (mat a) (mat o) = mat fun r c => a r c + ∑ k ∈ Finset.range 512, p k r * o k c := by
  dsimp only [k0_pay8]
  rw [shapeCast_self, truncf_mat]
  exact (congrArg _ (matmul_tn128 none p o)).trans (addf_mat _ _)

theorem pay9_mat (p d l a q : ℕ → ℕ → ℝ) :
    k0_pay9 (F := Ideal) (mat fun _ _ => 1) (mat p) (mat d) (mat l) (mat a) (mat q)
      = mat fun r c => a r c + ∑ k ∈ Finset.range 512, (p k r * (d k r - l k (r % 128))) * beside q k c := by
  dsimp only [k0_pay9]
  rw [shapeCast_self, pay7_mat, beside_mat]
  exact (congrArg _ (matmul_tn256 none _ _)).trans (addf_mat _ _)

theorem pay10_mat (p d l a q : ℕ → ℕ → ℝ) :
    k0_pay10 (F := Ideal) (mat q) (mat p) (mat d) (mat l) (mat a)
      = mat fun r c => a r c + ∑ k ∈ Finset.range 512, (p r k * (d r k - l r (k % 128))) * q k c := by
  dsimp only [k0_pay10]
  rw [shapeCast_self, pay7_mat]
  exact (congrArg _ (matmul_nn (M := 512) (K := 512) (N := 256) none _ q)).trans (addf_mat _ _)

theorem sle_small (a b : ℕ) (ha : a < 512) (hb : b < 512) : (BitVec.ofNat 32 a).sle (BitVec.ofNat 32 b) = decide (a ≤ b) := by
  have e1 : (BitVec.ofNat 32 a).toNat = a := by rw [BitVec.toNat_ofNat]; exact Nat.mod_eq_of_lt (by omega)
  have e2 : (BitVec.ofNat 32 b).toNat = b := by rw [BitVec.toNat_ofNat]; exact Nat.mod_eq_of_lt (by omega)
  rw [BitVec.sle_eq_decide, BitVec.toInt_eq_toNat_of_lt (by omega), BitVec.toInt_eq_toNat_of_lt (by omega), e1, e2]
  simp

theorem pay58_mat (c s l : ℕ → ℕ → ℝ) :
    k0_pay58 (F := Ideal) (mat c) (mat s) (mat l) = mat fun r j => if j ≤ r then Real.rpow 2 (ex c s l r j) else 0 := by
  dsimp only [k0_pay58]
  rw [shapeCast_self, splat_mat (R := 512) (C := 512) _ _ named_scale, spread_mat, mulf_mat, subf_mat, tile_mat]
  refine eq_mat fun r j => ?_
  have hm : cmpi .sle (iota .tc S512x512 32 [1] iota_S512x512_d1_w32) (iota .tc S512x512 32 [0] iota_S512x512_d0_w32) (ix2 r j)
      = if j.val ≤ r.val then 1#1 else 0#1 := by
    show Scalar.cmpi .sle (iota .tc S512x512 32 [1] _ (ix2 r j)) (iota .tc S512x512 32 [0] _ (ix2 r j)) = _
    rw [iota_single_apply, iota_single_apply]
    show BitVec.ofBool ((BitVec.ofNat 32 j.val).sle (BitVec.ofNat 32 r.val)) = _
    rw [sle_small _ _ j.isLt r.isLt]
    by_cases h : j.val ≤ r.val <;> simp [h]
  show Ideal.exp2 (subf (F := Ideal) (φ := .f32) (s := S512x512) (select _ _ _) _ (ix2 r j)) = _
  rw [subf_apply, select_apply, hm]
  by_cases h : j.val ≤ r.val
  · rw [if_pos h, if_pos h, select_one, mat_ix2, mat_ix2, ← EReal.coe_sub]
    rfl
  · rw [if_neg h, if_neg h, select_zero, mat_ix2]
    show Ideal.exp2 (Ideal.ofBits .f32 0xFF800000#32 - _) = _
    rw [word_bot, EReal.bot_sub]
    exact (Ideal.exp2_bot).trans EReal.coe_zero.symm

theorem pay59_mat (c s l d e : ℕ → ℕ → ℝ) (p : ℕ → ℕ → ℝ) (hp : k0_pay58 (F := Ideal) (mat c) (mat s) (mat l) = mat p) :
    k0_pay59 (F := Ideal) (mat c) (mat s) (mat l) (mat d) (mat e) = mat fun r j => p r j * (d r j - e r (j % 128)) := by
  dsimp only [k0_pay59]
  rw [hp, shapeCast_self, tile_mat, subf_mat, mulf_mat, truncf_mat]

theorem pay61_mat (a p o : ℕ → ℕ → ℝ) :
    k0_pay61 (F := Ideal) (mat a) (mat p) (mat o) = mat fun r c => a r c + ∑ k ∈ Finset.range 512, p k r * o k c := by
  dsimp only [k0_pay61]
  rw [shapeCast_self]
  exact (congrArg _ (matmul_tn128 none p o)).trans (addf_mat _ _)

theorem pay62_mat (w a q : ℕ → ℕ → ℝ) :
    k0_pay62 (F := Ideal) (mat fun _ _ => 1) (mat w) (mat a) (mat q)
      = mat fun r c => a r c + ∑ k ∈ Finset.range 512, w k r * beside q k c := by
  dsimp only [k0_pay62]
  rw [shapeCast_self, beside_mat]
  exact (congrArg _ (matmul_tn256 none _ _)).trans (addf_mat _ _)

theorem pay63_mat (w a q : ℕ → ℕ → ℝ) :
    k0_pay63 (F := Ideal) (mat q) (mat w) (mat a) = mat fun r c => a r c + ∑ k ∈ Finset.range 512, w r k * q k c := by
  dsimp only [k0_pay63]
  rw [shapeCast_self]
  exact (congrArg _ (matmul_nn (M := 512) (K := 512) (N := 256) none w q)).trans (addf_mat _ _)

theorem pay64_mat (a : ℕ → ℕ → ℝ) : k0_pay64 (F := Ideal) (mat a) = mat fun r c => a r c * sc := by
  dsimp only [k0_pay64]
  rw [splat_mat (R := 512) (C := 128) (FloatOps.ofBits (F := Ideal) .f32 0x3DB504F3#32) _ word_scale, mulf_mat, truncf_mat]

theorem pay1_mat (a : ℕ → ℕ → ℝ) : k0_pay1 (F := Ideal) (mat a) = mat fun r c => a r c * sc := by
  dsimp only [k0_pay1]
  rw [splat_mat (R := 512) (C := 128) (FloatOps.ofBits (F := Ideal) .f32 0x3DB504F3#32) _ word_scale, mulf_mat, truncf_mat]

theorem pay3_mat (a : ℕ → ℕ → ℝ) : k0_pay3 (F := Ideal) (mat a) = mat a := by
  dsimp only [k0_pay3]
  rw [truncf_mat]

/-- Eight rows of 512 sums. -/
def rows8 (f : ℕ → ℕ → ℝ) : S1x8x512.Idx → EReal := fun y => ((f (y 1).val (y 2).val : ℝ) : EReal)

theorem pay65_mat (a : ℕ → ℕ → ℝ) : k0_pay65 (F := Ideal) (mat a) = mat fun r c => a c r := by
  refine eq_mat fun r c => ?_
  dsimp only [k0_pay65]
  refine (extractStridedSlice_apply ![0, 0] _ slices_S128x512_o0_0_S8x512 (ix2 r c) (ix2 (⟨r.val, by omega⟩ : Fin 128) c) fun b => ?_).trans ?_
  · match b with
    | ⟨0, _⟩ => exact (Nat.zero_add _).symm
    | ⟨1, _⟩ => exact (Nat.zero_add _).symm
  · refine (transpose_apply [1, 0] (mat a : S512x128.Idx → EReal) _ _ (ix2 c (⟨r.val, by omega⟩ : Fin 128)) fun b => ?_).trans rfl
    match b with
    | ⟨0, _⟩ => rfl
    | ⟨1, _⟩ => rfl

theorem pay66_mat (a : ℕ → ℕ → ℝ) : k0_pay66 (F := Ideal) (mat a) = rows8 a := by
  funext y
  dsimp only [k0_pay66]
  exact (shapeCast_addUnit_apply ![8, 512] (mat a : S8x512.Idx → EReal) shapeCasts_S8x512_S1x8x512 y).trans rfl

theorem pay2_mat (a : ℕ → ℕ → ℝ) : k0_pay2 (F := Ideal) (mat a) = rows8 fun r c => a c r := by
  show k0_pay66 (F := Ideal) (k0_pay65 (F := Ideal) (mat a)) = _
  rw [pay65_mat, pay66_mat]

end Cert.KernelIdeal.Attn

end
-- ==== Proof.Attn.Sums.lean ====
/-
  What the accumulators of a point hold when the arrays it reads are real: sums, over the queries met so far, of the weights and of the gradients of the
  masked logits. The query accumulator's rows of a block hold such a sum over the keys met so far.
-/
module

public import proofs.«01_k».proof.Proof.Attn.Blocks
public import proofs.«01_k».proof.Proof.Attn.Body

@[expose] public section

set_option maxRecDepth 16384

noncomputable section

namespace Cert.KernelIdeal.Attn

open Cert.KernelIdeal Cert.KernelIdeal.Gen
open Idealize.ShloMosaic Idealize.ShloMosaic.Updates Idealize.ShloMosaic.LaneScatter Idealize.ShloMosaic.ValueIdx
open scoped BigOperators

/-- One head's arrays, by row (and lane): queries, keys, values, cotangents, cumulative sums of the keys, and the two numbers saved for each query. -/
structure Head where
  q : ℕ → ℕ → ℝ
  k : ℕ → ℕ → ℝ
  v : ℕ → ℕ → ℝ
  o : ℕ → ℕ → ℝ
  cum : ℕ → ℝ
  lse : ℕ → ℝ
  dl : ℕ → ℝ

namespace Head

variable (H : Head)

/-- The products of query `i` with key `j`, and of its cotangent with the value. -/
def s (i j : ℕ) : ℝ := ∑ d ∈ Finset.range 128, H.q i d * H.k j d
def dp (i j : ℕ) : ℝ := ∑ d ∈ Finset.range 128, H.o i d * H.v j d
/-- The weight as the kernel computes it, without and with the mask. -/
def pw (i j : ℕ) : ℝ := Real.rpow 2 (H.s i j * (sc * l2e) - H.cum j * l2e - H.lse i)
def w (i j : ℕ) : ℝ := if j ≤ i then H.pw i j else 0
/-- The gradient of the masked logit. -/
def ds (i j : ℕ) : ℝ := H.w i j * (H.dp i j - H.dl i)

theorem w_of_le {i j : ℕ} (h : j ≤ i) : H.w i j = H.pw i j := if_pos h
theorem w_of_lt {i j : ℕ} (h : i < j) : H.w i j = 0 := if_neg (Nat.not_le.mpr h)
theorem ds_of_lt {i j : ℕ} (h : i < j) : H.ds i j = 0 := by rw [ds, w_of_lt H h, zero_mul]

/-- What the point of key block `kb` reads. -/
def inp (kb : ℕ) : Inp Ideal where
  Q := mat H.q
  K := mat fun r c => H.k (512 * kb + r) c
  V := mat fun r c => H.v (512 * kb + r) c
  DO := mat H.o
  LSE := mat fun r _ => H.lse r
  DL := mat fun r _ => H.dl r
  C := row4 fun c => H.cum (512 * kb + c)

end Head

variable (H : Head) (kb : ℕ)

theorem rows_mat {q : ℕ} (hq : q < 8) (f : ℕ → ℕ → ℝ) :
    rows (F := Ideal) (e := .f32) q (mat f) = mat fun r c => f (512 * q + r) c := by
  refine (getAt_mat (by decide) (by decide) (by omega) (by omega) f).trans ?_
  simp only [Nat.zero_add]

theorem rows_mat16 {q : ℕ} (hq : q < 8) (f : ℕ → ℕ → ℝ) :
    rows (F := Ideal) (e := .bf16) q (mat f) = mat fun r c => f (512 * q + r) c := rows_mat hq f

theorem cv_inp : cv (H.inp kb) = mat fun _ c => H.cum (512 * kb + c) * l2e := pay51_mat fun c => H.cum (512 * kb + c)
theorem kk_inp : kk (H.inp kb) = mat fun r c => beside H.k (512 * kb + r) c := pay52_mat fun r c => H.k (512 * kb + r) c
theorem ones_mat : ones (F := Ideal) = mat fun _ _ => 1 := pay53_mat

theorem lse_inp {q : ℕ} (hq : q < 8) : rows q (H.inp kb).LSE = mat fun r _ => H.lse (512 * q + r) := rows_mat hq fun r _ => H.lse r
theorem dl_inp {q : ℕ} (hq : q < 8) : rows q (H.inp kb).DL = mat fun r _ => H.dl (512 * q + r) := rows_mat hq fun r _ => H.dl r
theorem q_inp {q : ℕ} (hq : q < 8) : rows q (H.inp kb).Q = mat fun r c => H.q (512 * q + r) c := rows_mat16 hq H.q
theorem do_inp {q : ℕ} (hq : q < 8) : rows q (H.inp kb).DO = mat fun r c => H.o (512 * q + r) c := rows_mat16 hq H.o

theorem sT_inp {q : ℕ} (hq : q < 8) : sT (H.inp kb) q = mat fun r c => H.s (512 * q + r) (512 * kb + c) := by
  show k0_pay4 (H.inp kb).K (rows q (H.inp kb).Q) = _
  rw [q_inp H kb hq]
  exact pay4_mat (fun r c => H.q (512 * q + r) c) (fun r c => H.k (512 * kb + r) c)

theorem dpT_inp {q : ℕ} (hq : q < 8) : dpT (H.inp kb) q = mat fun r c => H.dp (512 * q + r) (512 * kb + c) := by
  show k0_pay5 (H.inp kb).V (rows q (H.inp kb).DO) = _
  rw [do_inp H kb hq]
  exact pay5_mat (fun r c => H.o (512 * q + r) c) (fun r c => H.v (512 * kb + r) c)

theorem pT_inp {q : ℕ} (hq : q < 8) (hk : kb < q) : pT (H.inp kb) q = mat fun r c => H.w (512 * q + r) (512 * kb + c) := by
  unfold pT
  rw [cv_inp, sT_inp H kb hq, lse_inp H kb hq, pay6_mat]
  refine mat_congr fun r hr c hc => ?_
  rw [H.w_of_le (by omega)]
  rfl

theorem p58_inp (hq : kb < 8) :
    k0_pay58 (cv (H.inp kb)) (sT (H.inp kb) kb) (rows kb (H.inp kb).LSE) = mat fun r c => H.w (512 * kb + r) (512 * kb + c) := by
  rw [cv_inp, sT_inp H kb hq, lse_inp H kb hq, pay58_mat]
  refine mat_congr fun r hr c hc => ?_
  unfold Head.w
  by_cases h : c ≤ r
  · rw [if_pos h, if_pos (by omega)]; rfl
  · rw [if_neg h, if_neg (by omega)]

theorem dsD_inp (hq : kb < 8) : dsD (H.inp kb) kb = mat fun r c => H.ds (512 * kb + r) (512 * kb + c) := by
  unfold dsD
  have e := p58_inp H kb hq
  rw [cv_inp, sT_inp H kb hq, lse_inp H kb hq] at e ⊢
  rw [dpT_inp H kb hq, dl_inp H kb hq, pay59_mat _ _ _ _ _ _ e]
  rfl

/-- The sums over the queries `a … b - 1` of key row `j`. -/
def dkS (a b : ℕ) (j c : ℕ) : ℝ := ∑ i ∈ Finset.Ico a b, H.ds i j * beside H.q i c
def dvS (a b : ℕ) (j c : ℕ) : ℝ := ∑ i ∈ Finset.Ico a b, H.w i j * H.o i c
/-- The sum over the keys before `b` of query row `i`. -/
def dqS (b : ℕ) (i c : ℕ) : ℝ := ∑ j ∈ Finset.range b, H.ds i j * beside H.k j c

theorem sum_block (f : ℕ → ℝ) (q : ℕ) : ∑ x ∈ Finset.range 512, f (512 * q + x) = ∑ i ∈ Finset.Ico (512 * q) (512 * (q + 1)), f i := by
  rw [Finset.sum_Ico_eq_sum_range]
  have : 512 * (q + 1) - 512 * q = 512 := by omega
  rw [this]

theorem sum_next (f : ℕ → ℝ) {a q : ℕ} (h : a ≤ 512 * q) :
    ∑ i ∈ Finset.Ico a (512 * q), f i + ∑ x ∈ Finset.range 512, f (512 * q + x) = ∑ i ∈ Finset.Ico a (512 * (q + 1)), f i := by
  rw [sum_block, Finset.sum_Ico_consecutive f h (by omega)]

theorem sum_next0 (f : ℕ → ℝ) (q : ℕ) :
    ∑ i ∈ Finset.range (512 * q), f i + ∑ x ∈ Finset.range 512, f (512 * q + x) = ∑ i ∈ Finset.range (512 * (q + 1)), f i := by
  have e := sum_next f (Nat.zero_le (512 * q))
  rw [← Finset.range_eq_Ico, ← Finset.range_eq_Ico] at e
  exact e

/-- The query accumulator holds, in the rows of each block from `kb` on, the sums over the keys before `b` of that block. -/
def DqIs (X : Vec Ideal S4096x256 .f32) (b : ℕ → ℕ) : Prop :=
  ∀ q, kb ≤ q → q < 8 → qrows q X = mat fun r c => dqS H (b q) (512 * q + r) c

/-- The key accumulators hold the sums over the queries `512 kb … b - 1`. -/
def DkIs (s : St Ideal) (b : ℕ) : Prop :=
  s.dk = (mat fun r c => dkS H (512 * kb) b (512 * kb + r) c) ∧ s.dv = (mat fun r c => dvS H (512 * kb) b (512 * kb + r) c)

theorem DqIs.congr {H : Head} {kb kb' : ℕ} {X : Vec Ideal S4096x256 .f32} {b b' : ℕ → ℕ} (h : DqIs H kb X b) (hk : kb ≤ kb')
    (hb : ∀ q, kb' ≤ q → q < 8 → b q = b' q) : DqIs H kb' X b' := fun q hq hq8 => by
  rw [← hb q hq hq8]
  exact h q (hk.trans hq) hq8

theorem dqIs_put {X : Vec Ideal S4096x256 .f32} {b b' : ℕ → ℕ} {q : ℕ} (hq : q < 8) {W : Vec Ideal S512x256 .f32}
    (hX : DqIs H kb X b) (hW : W = mat fun r c => dqS H (b' q) (512 * q + r) c) (hb : ∀ x, x ≠ q → b' x = b x) : DqIs H kb (putQ q W X) b' := by
  intro x hx hx8
  by_cases h : x = q
  · subst h
    exact (getAt_putAt_same (by decide) (by decide) (by decide) (by decide) W X (by omega) (Nat.le_refl _)).trans hW
  · rw [hb x h]
    refine (getAt_putAt_rows (by decide) (by decide) (by decide) (by decide) W X (by omega) (Nat.le_refl _) (by omega)).trans (hX x hx hx8)

theorem step_dk {q : ℕ} (hq : q < 8) (hk : kb < q) {s : St Ideal} (h : DkIs H kb s (512 * q)) : DkIs H kb (step (H.inp kb) q s) (512 * (q + 1)) := by
  constructor
  · show k0_pay9 ones (pT (H.inp kb) q) (dpT (H.inp kb) q) (rows q (H.inp kb).DL) s.dk (rows q (H.inp kb).Q) = _
    rw [ones_mat, pT_inp H kb hq hk, dpT_inp H kb hq, dl_inp H kb hq, q_inp H kb hq, h.1, pay9_mat]
    exact mat_congr fun r hr c hc => sum_next (fun i => H.ds i (512 * kb + r) * beside H.q i c) (by omega)
  · show k0_pay8 (pT (H.inp kb) q) s.dv (rows q (H.inp kb).DO) = _
    rw [pT_inp H kb hq hk, do_inp H kb hq, h.2, pay8_mat]
    exact mat_congr fun r hr c hc => sum_next (fun i => H.w i (512 * kb + r) * H.o i c) (by omega)

theorem step_dq {q : ℕ} (hq : q < 8) (hk : kb < q) {s : St Ideal} {b : ℕ → ℕ} (h : DqIs H kb s.dq b) (hb : b q = 512 * kb) :
    DqIs H kb (step (H.inp kb) q s).dq (fun x => if x = q then 512 * (kb + 1) else b x) := by
  refine dqIs_put H kb hq h ?_ (fun x hx => if_neg hx)
  have e := h q (Nat.le_of_lt hk) hq
  rw [hb] at e
  rw [kk_inp, pT_inp H kb hq hk, dpT_inp H kb hq, dl_inp H kb hq, e, pay10_mat]
  refine mat_congr fun r hr c hc => ?_
  simp only [if_true]
  exact sum_next0 (fun j => H.ds (512 * q + r) j * beside H.k j c) kb

theorem diag_dk (hq : kb < 8) {s : St Ideal} (h1 : s.dk = mat fun _ _ => 0) (h2 : s.dv = mat fun _ _ => 0) :
    DkIs H kb (diag (H.inp kb) kb s) (512 * (kb + 1)) := by
  constructor
  · show k0_pay62 ones (dsD (H.inp kb) kb) s.dk (rows kb (H.inp kb).Q) = _
    rw [ones_mat, dsD_inp H kb hq, q_inp H kb hq, h1, pay62_mat]
    refine mat_congr fun r hr c hc => ?_
    rw [zero_add]
    exact sum_block (fun i => H.ds i (512 * kb + r) * beside H.q i c) kb
  · show k0_pay61 s.dv (k0_pay60 (cv (H.inp kb)) (sT (H.inp kb) kb) (rows kb (H.inp kb).LSE)) (rows kb (H.inp kb).DO) = _
    have e : k0_pay60 (cv (H.inp kb)) (sT (H.inp kb) kb) (rows kb (H.inp kb).LSE) = mat fun r c => H.w (512 * kb + r) (512 * kb + c) := p58_inp H kb hq
    rw [e, do_inp H kb hq, h2, pay61_mat]
    refine mat_congr fun r hr c hc => ?_
    rw [zero_add]
    exact sum_block (fun i => H.w i (512 * kb + r) * H.o i c) kb

theorem diag_dq (hq : kb < 8) {s : St Ideal} {b : ℕ → ℕ} (h : DqIs H kb s.dq b) (hb : b kb = 512 * kb) :
    DqIs H kb (diag (H.inp kb) kb s).dq (fun x => if x = kb then 512 * (kb + 1) else b x) := by
  refine dqIs_put H kb hq h ?_ (fun x hx => if_neg hx)
  have e := h kb (Nat.le_refl _) hq
  rw [hb] at e
  rw [kk_inp, dsD_inp H kb hq, e, pay63_mat]
  refine mat_congr fun r hr c hc => ?_
  simp only [if_true]
  exact sum_next0 (fun j => H.ds (512 * kb + r) j * beside H.k j c) kb

/-- Before the point: every block from `kb` on has met the keys before `512 kb`. -/
theorem start_dq {dq : Vec Ideal S4096x256 .f32} (h : kb = 0 ∨ DqIs H kb dq (fun _ => 512 * kb)) : DqIs H kb (start kb dq).dq (fun _ => 512 * kb) := by
  by_cases h0 : kb = 0
  · subst h0
    intro q _ hq
    show qrows q k0_pay48 = _
    rw [pay48_mat]
    refine (getAt_mat (by decide) (by decide) (by omega) (by omega) _).trans (mat_congr fun r hr c hc => ?_)
    rw [dqS, Nat.mul_zero, Finset.range_zero, Finset.sum_empty]
  · show DqIs H kb (if kb = 0 then k0_pay48 (F := Ideal) else dq) _
    rw [if_neg h0]
    exact h.resolve_left h0

/-- After the diagonal block and `n` more. -/
theorem chain_is (hk : kb < 8) {dq : Vec Ideal S4096x256 .f32} (h : kb = 0 ∨ DqIs H kb dq (fun _ => 512 * kb)) :
    ∀ n, kb + n < 8 → DkIs H kb (chain (H.inp kb) kb (start kb dq) n) (512 * (kb + n + 1)) ∧
      DqIs H kb (chain (H.inp kb) kb (start kb dq) n).dq (fun x => if x ≤ kb + n then 512 * (kb + 1) else 512 * kb) := by
  intro n
  induction n with
  | zero =>
    intro _
    refine ⟨diag_dk H kb hk pay49_mat pay50_mat, ?_⟩
    refine (diag_dq H kb hk (start_dq H kb h) rfl).congr (Nat.le_refl _) fun q hq hq8 => ?_
    by_cases hx : q = kb
    · subst hx; simp
    · simp only [if_neg hx, if_neg (show ¬ q ≤ kb + 0 by omega)]
  | succ n ih =>
    intro hn
    obtain ⟨i1, i2⟩ := ih (by omega)
    refine ⟨step_dk H kb (q := kb + (n + 1)) hn (by omega) i1, ?_⟩
    refine (step_dq H kb (q := kb + (n + 1)) hn (by omega) i2 (if_neg (by omega))).congr (Nat.le_refl _) fun q hq hq8 => ?_
    by_cases hx : q = kb + (n + 1)
    · subst hx; simp
    · by_cases hy : q ≤ kb + n
      · simp only [if_neg hx, if_pos hy, if_pos (show q ≤ kb + (n + 1) by omega)]
      · simp only [if_neg hx, if_neg hy, if_neg (show ¬ q ≤ kb + (n + 1) by omega)]

/-- At the end of the point: the key block's sums run over all queries from its first row on. -/
theorem final_dk (hk : kb < 8) {dq : Vec Ideal S4096x256 .f32} (h : kb = 0 ∨ DqIs H kb dq (fun _ => 512 * kb)) :
    DkIs H kb (final (H.inp kb) kb dq) 4096 := by
  have e := (chain_is H kb hk h (7 - kb) (by omega)).1
  have : 512 * (kb + (7 - kb) + 1) = 4096 := by omega
  rw [this] at e
  exact e

/-- … and the query accumulator is ready for the next key block. -/
theorem final_dq (hk : kb < 8) {dq : Vec Ideal S4096x256 .f32} (h : kb = 0 ∨ DqIs H kb dq (fun _ => 512 * kb)) :
    DqIs H (kb + 1) (final (H.inp kb) kb dq).dq (fun _ => 512 * (kb + 1)) := by
  exact (chain_is H kb hk h (7 - kb) (by omega)).2.congr (Nat.le_succ _) fun q _ _ => if_pos (by omega)

/-- After the diagonal block the query block `kb` has met all its keys. -/
theorem first_dq (hk : kb < 8) {dq : Vec Ideal S4096x256 .f32} (h : kb = 0 ∨ DqIs H kb dq (fun _ => 512 * kb)) :
    qrows kb (first (H.inp kb) kb dq).dq = mat fun r c => dqS H (512 * (kb + 1)) (512 * kb + r) c := by
  refine ((chain_is H kb hk h 0 (by omega)).2 kb (Nat.le_refl _) hk).trans (mat_congr fun r hr c hc => ?_)
  simp

end Cert.KernelIdeal.Attn

end
-- ==== Proof.Attn.Places.lean ====
/-
  Where the blocks of the windows sit in their arrays, and what blocks of real arrays are.
-/
module

public import proofs.«01_k».proof.Proof.Attn.Sums
public import proofs.«01_k».proof.Proof.Attn.Data

@[expose] public section

set_option maxRecDepth 16384

noncomputable section

namespace Cert.KernelIdeal.Attn

open Cert.KernelIdeal Cert.KernelIdeal.Gen
open Idealize.ShloMosaic Idealize.ShloMosaic.TcCoe Idealize.ShloMosaic.Updates Idealize.ShloMosaic.LaneScatter Idealize.ShloMosaic.ValueIdx

theorem idx_0 : ∀ t : Fin grid0.N, win0_0.index t 0 = 0 ∧ win0_0.index t 1 = t.val / 8 := by decide +kernel
theorem idx_1 : ∀ t : Fin grid0.N, win0_1.index t 0 = t.val % 8 ∧ win0_1.index t 1 = 8 + t.val / 8 := by decide +kernel
theorem idx_2 : ∀ t : Fin grid0.N, win0_2.index t 0 = t.val % 8 ∧ win0_2.index t 1 = 16 + t.val / 8 := by decide +kernel
theorem idx_3 : ∀ t : Fin grid0.N, win0_3.index t 0 = 0 ∧ win0_3.index t 1 = t.val / 8 := by decide +kernel
theorem idx_4 : ∀ t : Fin grid0.N, win0_4.index t 0 = 0 ∧ win0_4.index t 1 = t.val / 8 := by decide +kernel
theorem idx_5 : ∀ t : Fin grid0.N, win0_5.index t 0 = 0 ∧ win0_5.index t 1 = t.val / 8 := by decide +kernel
theorem idx_6 : ∀ t : Fin grid0.N, win0_6.index t 0 = t.val / 8 ∧ win0_6.index t 1 = t.val % 8 ∧ win0_6.index t 2 = 0 ∧ win0_6.index t 3 = 0 := by
  decide +kernel
theorem idx_7 : ∀ t : Fin grid0.N, win0_7.index t 0 = 0 ∧ win0_7.index t 1 = t.val / 8 := by decide +kernel
theorem idx_8 : ∀ t : Fin grid0.N, win0_8.index t 0 = t.val % 8 ∧ win0_8.index t 1 = t.val / 8 := by decide +kernel
theorem idx_9 : ∀ t : Fin grid0.N, win0_9.index t 0 = t.val % 8 ∧ win0_9.index t 1 = t.val / 8 := by decide +kernel
theorem idx_10 : ∀ t : Fin grid0.N, win0_10.index t 0 = t.val / 8 ∧ win0_10.index t 1 = 0 ∧ win0_10.index t 2 = 0 := by decide +kernel
theorem idx_11 : ∀ t : Fin grid0.N, win0_11.index t 0 = t.val / 8 ∧ win0_11.index t 1 = 0 ∧ win0_11.index t 2 = t.val % 8 := by decide +kernel

variable (m : (ℓ : Loc nD τ sig) → Buf (Elt Ideal) ℓ) (c : Dev nD)

/-- A block of a real matrix, at block numbers `a`, `b`. -/
theorem read_mat {R C h w : ℕ} (f : ℕ → ℕ → ℝ) (e : (Blk h w).Idx → (Blk R C).Idx) (a b : ℕ)
    (h0 : ∀ y, ((e y) 0).val = a * h + (y 0).val) (h1 : ∀ y, ((e y) 1).val = b * w + (y 1).val) :
    (fun y => (mat f : (Blk R C).Idx → EReal) (e y)) = mat fun r j => f (a * h + r) (b * w + j) :=
  funext fun y => by
    show ((f ((e y) 0).val ((e y) 1).val : ℝ) : EReal) = _
    rw [h0, h1]
    rfl

theorem iblk_0 (t : Fin cfg0.N) {f : ℕ → ℕ → ℝ} (hV : V m c main_arg0 = mat f) :
    iblk m c 0 t = mat fun r j => f (r) ((t.val / 8) * 128 + j) := by
  have e : iblk m c 0 t = fun y => V m c main_arg0 ((win0_0.rect t).emb y) := rfl
  rw [e, hV]
  refine (read_mat f _ 0 (t.val / 8) (fun y => ?_) (fun y => ?_)).trans (by simp only [Nat.zero_mul, Nat.zero_add])
  · exact (Pipeline.Window.rect_emb_val win0_0 t y 0 rfl).trans (by rw [(idx_0 t).1]; rfl)
  · exact (Pipeline.Window.rect_emb_val win0_0 t y 1 rfl).trans (by rw [(idx_0 t).2]; rfl)

theorem iblk_1 (t : Fin cfg0.N) {f : ℕ → ℕ → ℝ} (hV : V m c main_arg0 = mat f) :
    iblk m c 1 t = mat fun r j => f (t.val % 8 * 512 + r) ((8 + t.val / 8) * 128 + j) := by
  have e : iblk m c 1 t = fun y => V m c main_arg0 ((win0_1.rect t).emb y) := rfl
  rw [e, hV]
  refine (read_mat f _ (t.val % 8) (8 + t.val / 8) (fun y => ?_) (fun y => ?_)).trans rfl
  · exact (Pipeline.Window.rect_emb_val win0_1 t y 0 rfl).trans (by rw [(idx_1 t).1]; rfl)
  · exact (Pipeline.Window.rect_emb_val win0_1 t y 1 rfl).trans (by rw [(idx_1 t).2]; rfl)

theorem iblk_2 (t : Fin cfg0.N) {f : ℕ → ℕ → ℝ} (hV : V m c main_arg0 = mat f) :
    iblk m c 2 t = mat fun r j => f (t.val % 8 * 512 + r) ((16 + t.val / 8) * 128 + j) := by
  have e : iblk m c 2 t = fun y => V m c main_arg0 ((win0_2.rect t).emb y) := rfl
  rw [e, hV]
  refine (read_mat f _ (t.val % 8) (16 + t.val / 8) (fun y => ?_) (fun y => ?_)).trans rfl
  · exact (Pipeline.Window.rect_emb_val win0_2 t y 0 rfl).trans (by rw [(idx_2 t).1]; rfl)
  · exact (Pipeline.Window.rect_emb_val win0_2 t y 1 rfl).trans (by rw [(idx_2 t).2]; rfl)

theorem iblk_3 (t : Fin cfg0.N) {f : ℕ → ℕ → ℝ} (hV : V m c main_arg2 = mat f) :
    iblk m c 3 t = mat fun r j => f (r) ((t.val / 8) * 128 + j) := by
  have e : iblk m c 3 t = fun y => V m c main_arg2 ((win0_3.rect t).emb y) := rfl
  rw [e, hV]
  refine (read_mat f _ 0 (t.val / 8) (fun y => ?_) (fun y => ?_)).trans (by simp only [Nat.zero_mul, Nat.zero_add])
  · exact (Pipeline.Window.rect_emb_val win0_3 t y 0 rfl).trans (by rw [(idx_3 t).1]; rfl)
  · exact (Pipeline.Window.rect_emb_val win0_3 t y 1 rfl).trans (by rw [(idx_3 t).2]; rfl)

theorem iblk_4 (t : Fin cfg0.N) {f : ℕ → ℕ → ℝ} (hV : V m c main_v43 = mat f) :
    iblk m c 4 t = mat fun r j => f (r) ((t.val / 8) * 128 + j) := by
  have e : iblk m c 4 t = fun y => V m c main_v43 ((win0_4.rect t).emb y) := rfl
  rw [e, hV]
  refine (read_mat f _ 0 (t.val / 8) (fun y => ?_) (fun y => ?_)).trans (by simp only [Nat.zero_mul, Nat.zero_add])
  · exact (Pipeline.Window.rect_emb_val win0_4 t y 0 rfl).trans (by rw [(idx_4 t).1]; rfl)
  · exact (Pipeline.Window.rect_emb_val win0_4 t y 1 rfl).trans (by rw [(idx_4 t).2]; rfl)

theorem iblk_5 (t : Fin cfg0.N) {f : ℕ → ℕ → ℝ} (hV : V m c main_v50 = mat f) :
    iblk m c 5 t = mat fun r j => f (r) ((t.val / 8) * 128 + j) := by
  have e : iblk m c 5 t = fun y => V m c main_v50 ((win0_5.rect t).emb y) := rfl
  rw [e, hV]
  refine (read_mat f _ 0 (t.val / 8) (fun y => ?_) (fun y => ?_)).trans (by simp only [Nat.zero_mul, Nat.zero_add])
  · exact (Pipeline.Window.rect_emb_val win0_5 t y 0 rfl).trans (by rw [(idx_5 t).1]; rfl)
  · exact (Pipeline.Window.rect_emb_val win0_5 t y 1 rfl).trans (by rw [(idx_5 t).2]; rfl)

/-- The cumulative sums as eight rows of eight blocks. -/
def cums (f : ℕ → ℕ → ℝ) : S8x8x1x512.Idx → EReal := fun y => ((f (y 0).val (512 * (y 1).val + (y 3).val) : ℝ) : EReal)

theorem iblk_6 (t : Fin cfg0.N) {f : ℕ → ℕ → ℝ} (hV : V m c main_v51 = cums f) :
    iblk m c 6 t = row4 fun j => f (t.val / 8) (512 * (t.val % 8) + j) := by
  have e : iblk m c 6 t = fun y => V m c main_v51 ((win0_6.rect t).emb y) := rfl
  rw [e, hV]
  funext y
  have h0 : ((win0_6.rect t).emb y 0).val = t.val / 8 := by
    refine (Pipeline.Window.rect_emb_val win0_6 t y 0 rfl).trans ?_
    rw [(idx_6 t).1]
    have : (y 0).val < 1 := (y 0).isLt
    show t.val / 8 * 1 + (y 0).val = _
    omega
  have h1 : ((win0_6.rect t).emb y 1).val = t.val % 8 := by
    refine (Pipeline.Window.rect_emb_val win0_6 t y 1 rfl).trans ?_
    rw [(idx_6 t).2.1]
    have : (y 1).val < 1 := (y 1).isLt
    show t.val % 8 * 1 + (y 1).val = _
    omega
  have h3 : ((win0_6.rect t).emb y 3).val = (y 3).val := by
    refine (Pipeline.Window.rect_emb_val win0_6 t y 3 rfl).trans ?_
    rw [(idx_6 t).2.2.2, Nat.zero_mul, Nat.zero_add]
  show ((f ((win0_6.rect t).emb y 0).val (512 * ((win0_6.rect t).emb y 1).val + ((win0_6.rect t).emb y 3).val) : ℝ) : EReal) = _
  rw [h0, h1, h3]
  rfl

/-- The reals that the launch's arrays hold: the packed queries, keys and values, the cotangents, the cumulative sums, and the two numbers saved for
    each head and query. -/
structure Given where
  x : ℕ → ℕ → ℝ
  o : ℕ → ℕ → ℝ
  cum : ℕ → ℕ → ℝ
  lse : ℕ → ℕ → ℝ
  dl : ℕ → ℕ → ℝ

/-- Head `h`'s share of them. -/
def Given.head (G : Given) (h : ℕ) : Head where
  q i d := G.x i (h * 128 + d)
  k i d := G.x i ((8 + h) * 128 + d)
  v i d := G.x i ((16 + h) * 128 + d)
  o i d := G.o i (h * 128 + d)
  cum := G.cum h
  lse := G.lse h
  dl := G.dl h

/-- The launch finds these reals in its arrays. -/
structure Finds (G : Given) : Prop where
  x : V m c main_arg0 = mat G.x
  o : V m c main_arg2 = mat G.o
  lse : V m c main_v43 = mat fun i j => G.lse (j / 128) i
  dl : V m c main_v50 = mat fun i j => G.dl (j / 128) i
  cum : V m c main_v51 = cums G.cum

variable {m c} {G : Given} (hG : Finds m c G)
include hG

theorem inpAt_eq (t : Fin cfg0.N) : inpAt m c t = (G.head (t.val / 8)).inp (t.val % 8) := by
  have h4 : iblk m c 4 t = mat fun r _ => G.lse (t.val / 8) r := (iblk_4 m c t hG.lse).trans (mat_congr fun r hr j hj => by
    have : (t.val / 8 * 128 + j) / 128 = t.val / 8 := by omega
    rw [this])
  have h5 : iblk m c 5 t = mat fun r _ => G.dl (t.val / 8) r := (iblk_5 m c t hG.dl).trans (mat_congr fun r hr j hj => by
    have : (t.val / 8 * 128 + j) / 128 = t.val / 8 := by omega
    rw [this])
  have h1 : iblk m c 1 t = mat fun r j => G.x (512 * (t.val % 8) + r) ((8 + t.val / 8) * 128 + j) := (iblk_1 m c t hG.x).trans (by
    simp only [Nat.mul_comm 512])
  have h2 : iblk m c 2 t = mat fun r j => G.x (512 * (t.val % 8) + r) ((16 + t.val / 8) * 128 + j) := (iblk_2 m c t hG.x).trans (by
    simp only [Nat.mul_comm 512])
  unfold inpAt
  rw [iblk_0 m c t hG.x, h1, h2, iblk_3 m c t hG.o, h4, h5, iblk_6 m c t hG.cum]
  rfl

theorem inp_eq {n : ℕ} (hn : n < 64) : inp m c n = (G.head (n / 8)).inp (n % 8) := (inp_val m c ⟨n, hn⟩).trans (inpAt_eq hG ⟨n, hn⟩)

/-- Before each point the query accumulator is ready for the point's key block. -/
theorem dqAt_ready : ∀ n < 64, n % 8 = 0 ∨ DqIs (G.head (n / 8)) (n % 8) (dqAt m c n) (fun _ => 512 * (n % 8)) := by
  intro n
  induction n with
  | zero => intro _; exact Or.inl rfl
  | succ n ih =>
    intro hn
    by_cases h : (n + 1) % 8 = 0
    · exact Or.inl h
    · refine Or.inr ?_
      have e1 : (n + 1) / 8 = n / 8 := by omega
      have e2 : (n + 1) % 8 = n % 8 + 1 := by omega
      rw [e1, e2]
      show DqIs _ _ (final (inp m c n) (n % 8) (dqAt m c n)).dq _
      rw [inp_eq hG (by omega)]
      exact final_dq _ _ (by omega) (ih (by omega))

/-- What point `n` stores: its block of query gradients and row sums, … -/
theorem first_rows {n : ℕ} (hn : n < 64) :
    qrows (n % 8) (firstAt m c n).dq = mat fun r j => dqS (G.head (n / 8)) (512 * (n % 8 + 1)) (512 * (n % 8) + r) j := by
  unfold firstAt
  rw [inp_eq hG hn]
  exact first_dq _ _ (by omega) (dqAt_ready hG n hn)

omit hG in
theorem half_of_rows {q : ℕ} (hq : q < 8) {X : Vec Ideal S4096x256 .f32} {f : ℕ → ℕ → ℝ} (h : qrows q X = mat f) {b : ℕ} (hb : b + 128 ≤ 256) :
    getAt (by decide) (by decide) 512 128 (512 * q, b) X = mat fun r j => f r (b + j) := by
  have e : getAt (by decide) (by decide) 512 128 (512 * q, b) X = getAt (by decide) (by decide) 512 128 (0, b) (qrows q X) := by
    refine toBlk_congr fun x y hx hy => ?_
    show ofBlk _ _ X (512 * q + x, b + y) = ofBlk _ _ (qrows q X) (0 + x, b + y)
    refine Eq.trans ?_ (ofBlk_apply (R := 512) (C := 256) (by decide) (by decide) (qrows q X) (a := 0 + x) (b := b + y) (by omega) (by omega)).symm
    show ofBlk (by decide) (by decide) X (512 * q + x, b + y) = ofBlk (R := 4096) (C := 256) (by decide) (by decide) X (512 * q + (0 + x), 0 + (b + y))
    rw [Nat.zero_add, Nat.zero_add]
  rw [e, h]
  refine (getAt_mat (by decide) (by decide) (by omega) (by omega) f).trans ?_
  simp only [Nat.zero_add]

theorem dqBlk_eq {n : ℕ} (hn : n < 64) :
    dqBlk m c n = mat fun r j => dqS (G.head (n / 8)) (512 * (n % 8 + 1)) (512 * (n % 8) + r) j * sc := by
  unfold dqBlk
  have e := half_of_rows (b := 0) (by omega) (first_rows hG hn) (by omega)
  simp only [Nat.zero_add] at e
  exact (congrArg _ e).trans (pay64_mat _)

theorem rowBlk_eq {n : ℕ} (hn : n < 64) :
    rowBlk m c n = rows8 fun r j => dqS (G.head (n / 8)) (512 * (n % 8 + 1)) (512 * (n % 8) + j) (128 + r) := by
  unfold rowBlk
  have e := half_of_rows (b := 128) (by omega) (first_rows hG hn) (by omega)
  exact (congrArg (fun w => k0_pay66 (F := Ideal) (k0_pay65 (F := Ideal) w)) e).trans ((congrArg _ (pay65_mat _)).trans (pay66_mat _))

/-- … and its block of key gradients, value gradients and column sums. -/
theorem final_is {n : ℕ} (hn : n < 64) : DkIs (G.head (n / 8)) (n % 8) (finalAt m c n) 4096 := by
  unfold finalAt
  rw [inp_eq hG hn]
  exact final_dk _ _ (by omega) (dqAt_ready hG n hn)

theorem dkOut_eq {n : ℕ} (hn : n < 64) :
    dkOut (finalAt m c n) = mat fun r j => dkS (G.head (n / 8)) (512 * (n % 8)) 4096 (512 * (n % 8) + r) j * sc := by
  unfold dkOut
  rw [(final_is hG hn).1]
  refine (congrArg _ (getAt_mat (by decide) (by decide) (by decide) (by decide) _)).trans ((pay1_mat _).trans ?_)
  simp only [Nat.zero_add]

theorem dvOut_eq {n : ℕ} (hn : n < 64) :
    dvOut (finalAt m c n) = mat fun r j => dvS (G.head (n / 8)) (512 * (n % 8)) 4096 (512 * (n % 8) + r) j := by
  unfold dvOut
  rw [(final_is hG hn).2]
  exact pay3_mat _

theorem colOut_eq {n : ℕ} (hn : n < 64) :
    colOut (finalAt m c n) = rows8 fun r j => dkS (G.head (n / 8)) (512 * (n % 8)) 4096 (512 * (n % 8) + j) (128 + r) := by
  unfold colOut
  rw [(final_is hG hn).1]
  refine (congrArg _ (getAt_mat (by decide) (by decide) (by decide) (by decide) _)).trans ((pay2_mat _).trans ?_)
  simp only [Nat.zero_add]

end Cert.KernelIdeal.Attn

end
-- ==== Proof.Attn.Final.lean ====
/-
  What the five results hold when the launch ends, if the arrays it starts from are real.
-/
module

public import proofs.«01_k».proof.Proof.Attn.Places
public import proofs.«01_k».proof.Proof.Attn.Run

@[expose] public section

set_option maxRecDepth 16384

noncomputable section

namespace Cert.KernelIdeal.Attn

open Cert.KernelIdeal Cert.KernelIdeal.Gen
open Idealize.ShloMosaic Idealize.ShloMosaic.TcCoe Idealize.ShloMosaic.Updates Idealize.ShloMosaic.LaneScatter Idealize.ShloMosaic.ValueIdx
open Idealize.ShloMosaic.Pipeline (Dat RDat)

/-- Eight heads' rows, eight times each. -/
def rows88 (f : ℕ → ℕ → ℝ) : S8x8x4096.Idx → EReal := fun y => ((f (y 0).val (y 2).val : ℝ) : EReal)

namespace Given

variable (G : Given)

/-- The gradients of the queries, keys and values, and the row and column sums, as the launch accumulates them. -/
def dq (i C : ℕ) : ℝ := dqS (G.head (C / 128)) (512 * (i / 512 + 1)) i (C % 128) * sc
def dk (j C : ℕ) : ℝ := dkS (G.head (C / 128)) (512 * (j / 512)) 4096 j (C % 128) * sc
def dv (j C : ℕ) : ℝ := dvS (G.head (C / 128)) (512 * (j / 512)) 4096 j (C % 128)
def row (h i : ℕ) : ℝ := dqS (G.head h) (512 * (i / 512 + 1)) i 128
def col (h j : ℕ) : ℝ := dkS (G.head h) (512 * (j / 512)) 4096 j 128

end Given

theorem beside_ge (f : ℕ → ℕ → ℝ) (i : ℕ) {c : ℕ} (h : 128 ≤ c) : beside f i c = 1 := if_neg (by omega)

theorem dqS_ge (H : Head) (b i : ℕ) {c : ℕ} (h : 128 ≤ c) : dqS H b i c = dqS H b i 128 := by
  unfold dqS
  exact Finset.sum_congr rfl fun j _ => by rw [beside_ge _ _ h, beside_ge _ _ (Nat.le_refl 128)]

theorem dkS_ge (H : Head) (a b j : ℕ) {c : ℕ} (h : 128 ≤ c) : dkS H a b j c = dkS H a b j 128 := by
  unfold dkS
  exact Finset.sum_congr rfl fun i _ => by rw [beside_ge _ _ h, beside_ge _ _ (Nat.le_refl 128)]

/-- An array of 4096 rows whose eight blocks of rows are known. -/
theorem of_rows {X : Vec Ideal S4096x128 .bf16} {f : ℕ → ℕ → ℝ} (h : ∀ q < 8, rows q X = mat fun r j => f (512 * q + r) j) : X = mat f :=
  eq_mat fun r j => by
    have hr := r.isLt
    have e := congrFun (h (r.val / 512) (by omega)) (ix2 (⟨r.val % 512, Nat.mod_lt _ (by decide)⟩ : Fin 512) j)
    have e1 : rows (r.val / 512) X (ix2 (⟨r.val % 512, Nat.mod_lt _ (by decide)⟩ : Fin 512) j) = X (ix2 r j) := by
      show X _ = X _
      refine congrArg X (funext fun a => Fin.ext ?_)
      match a with
      | ⟨0, _⟩ => show min (512 * (r.val / 512) + r.val % 512) (4096 - 1) = r.val; omega
      | ⟨1, _⟩ => show min (0 + j.val) (128 - 1) = j.val; have := j.isLt; omega
    rw [← e1, e]
    show ((f (512 * (r.val / 512) + r.val % 512) j.val : ℝ) : EReal) = _
    rw [show 512 * (r.val / 512) + r.val % 512 = r.val by omega]

variable {m : (ℓ : Loc nD τ sig) → Buf (Elt Ideal) ℓ} {c : Dev nD} {G : Given} (hG : Finds m c G)

include hG in
theorem dq_known {t : Fin cfg0.N} (ht : t.val % 8 = 7) {X : Vec Ideal S4096x128 .bf16} (h : DqRel m c t.val X) :
    X = mat fun i j => dqS (G.head (t.val / 8)) (512 * (i / 512 + 1)) i j * sc := by
  have hN : t.val < 64 := t.isLt
  refine of_rows fun q hq => ?_
  refine (h q (by omega)).trans ((dqBlk_eq hG (n := t.val - t.val % 8 + q) (by omega)).trans (mat_congr fun r hr j hj => ?_))
  have e1 : (t.val - t.val % 8 + q) / 8 = t.val / 8 := by omega
  have e2 : (t.val - t.val % 8 + q) % 8 = q := by omega
  have e3 : (512 * q + r) / 512 = q := by omega
  rw [e1, e2, e3]

include hG in
theorem row_known {t : Fin cfg0.N} (ht : t.val % 8 = 7) {X : Vec Ideal S1x8x4096 .f32} (h : RowRel m c t.val X) (y : S1x8x4096.Idx) :
    X y = ((G.row (t.val / 8) (y 2).val : ℝ) : EReal) := by
  have hN : t.val < 64 := t.isLt
  have h2 : (y 2).val < 4096 := (y 2).isLt
  have h0 : (y 0).val < 1 := (y 0).isLt
  have hq : (y 2).val / 512 < 8 := by omega
  have e := congrFun ((h ((y 2).val / 512) hq (by omega)).trans (rowBlk_eq hG (n := t.val - t.val % 8 + (y 2).val / 512) (by omega)))
    (ix3 (⟨(y 0).val, h0⟩ : Fin 1) (⟨(y 1).val, (y 1).isLt⟩ : Fin 8) (⟨(y 2).val % 512, Nat.mod_lt _ (by decide)⟩ : Fin 512))
  have e1 : VecWindow.window X ![0, 0, 512 * ((y 2).val / 512)] S1x8x512.size (row_inb hq)
      (ix3 (⟨(y 0).val, h0⟩ : Fin 1) (⟨(y 1).val, (y 1).isLt⟩ : Fin 8) (⟨(y 2).val % 512, Nat.mod_lt _ (by decide)⟩ : Fin 512)) = X y := by
    refine congrArg X (funext fun a => Fin.ext ?_)
    match a with
    | ⟨0, _⟩ => show 0 + 1 * (y 0).val = (y 0).val; omega
    | ⟨1, _⟩ => show 0 + 1 * (y 1).val = (y 1).val; omega
    | ⟨2, _⟩ => show 512 * ((y 2).val / 512) + 1 * ((y 2).val % 512) = (y 2).val; omega
  rw [← e1, e]
  show ((dqS (G.head ((t.val - t.val % 8 + (y 2).val / 512) / 8)) (512 * ((t.val - t.val % 8 + (y 2).val / 512) % 8 + 1))
    (512 * ((t.val - t.val % 8 + (y 2).val / 512) % 8) + (y 2).val % 512) (128 + (y 1).val) : ℝ) : EReal) = _
  have e1 : (t.val - t.val % 8 + (y 2).val / 512) / 8 = t.val / 8 := by omega
  have e2 : (t.val - t.val % 8 + (y 2).val / 512) % 8 = (y 2).val / 512 := by omega
  have e3 : 512 * ((y 2).val / 512) + (y 2).val % 512 = (y 2).val := by omega
  rw [e1, e2, e3, dqS_ge _ _ _ (Nat.le_add_right 128 _)]
  rfl

/-- A window all of which is known is left as `left` says. -/
theorem leaves_left {w : Fin cfg0.W} (hw : part w = false) {t : Fin cfg0.N} (hl : cfg0.loose w = false)
    (hi : cfg0.idle w (cfg0.grid.coords t) = false ∨ (cfg0.win w).flush t = true)
    {X : (cfg0.win w).block.Idx → Elt Ideal (cfg0.win w).elt} (h : (rdat m c).Leaves w t X) : X = left m c w t := by
  obtain ⟨Y, _, hY⟩ := h
  rw [Dat.toRRel_after_of_eq_false _ hw] at hY
  have e := (Dat.Leaves.live_iff (dat m c) hi).mp hY
  rw [hl] at e
  exact e

end Cert.KernelIdeal.Attn

end
-- ==== Proof.Attn.Ends.lean ====
/-
  The launch's five results, as arrays.
-/
module

public import proofs.«01_k».proof.Proof.Attn.Final
public import Idealize.ShloMosaic.Lib.Pipeline.Value

@[expose] public section

set_option maxRecDepth 16384

noncomputable section

namespace Cert.KernelIdeal.Attn

open Cert.KernelIdeal Cert.KernelIdeal.Gen
open Idealize.ShloMosaic Idealize.ShloMosaic.TcCoe Idealize.ShloMosaic.Updates Idealize.ShloMosaic.LaneScatter Idealize.ShloMosaic.ValueIdx
open Idealize.ShloMosaic.Pipeline (Dat RDat)

theorem ext_7 : ∀ t : Fin grid0.N, win0_7.xsize (grid0.coords t) 0 = 4096 ∧ win0_7.xsize (grid0.coords t) 1 = 128 := by decide +kernel
theorem ext_8 : ∀ t : Fin grid0.N, win0_8.xsize (grid0.coords t) 0 = 512 ∧ win0_8.xsize (grid0.coords t) 1 = 128 := by decide +kernel
theorem ext_9 : ∀ t : Fin grid0.N, win0_9.xsize (grid0.coords t) 0 = 512 ∧ win0_9.xsize (grid0.coords t) 1 = 128 := by decide +kernel
theorem ext_10 : ∀ t : Fin grid0.N, win0_10.xsize (grid0.coords t) 0 = 1 ∧ win0_10.xsize (grid0.coords t) 1 = 8 ∧ win0_10.xsize (grid0.coords t) 2 = 4096 := by decide +kernel
theorem ext_11 : ∀ t : Fin grid0.N, win0_11.xsize (grid0.coords t) 0 = 1 ∧ win0_11.xsize (grid0.coords t) 1 = 8 ∧ win0_11.xsize (grid0.coords t) 2 = 512 := by decide +kernel

variable {m : (ℓ : Loc nD τ sig) → Buf (Elt Ideal) ℓ} {c : Dev nD} {G : Given} (hG : Finds m c G)

include hG in
/-- What a flush of the keys' gradients writes is a block of the whole. -/
theorem dk_block (t : Fin cfg0.N) : dkOut (finalAt m c t.val) = ((cfg0.win 8).blk t).view.read (Elt Ideal) (mat (R := 4096) (C := 1024) G.dk : S4096x1024.Idx → EReal) := by
  have ht : t.val < 64 := t.isLt
  refine (dkOut_eq hG ht).trans ?_
  refine Eq.trans ?_ (read_mat (R := 4096) (C := 1024) G.dk (win0_8.rect t).emb (t.val % 8) (t.val / 8)
    (fun y => by rw [Pipeline.Window.rect_emb_val win0_8 t y 0 rfl, (idx_8 t).1]; rfl)
    (fun y => by rw [Pipeline.Window.rect_emb_val win0_8 t y 1 rfl, (idx_8 t).2]; rfl)).symm
  refine mat_congr fun r hr j hj => ?_
  unfold Given.dk
  rw [show (t.val / 8 * 128 + j) / 128 = t.val / 8 by omega, show (t.val / 8 * 128 + j) % 128 = j by omega,
    show (t.val % 8 * 512 + r) / 512 = t.val % 8 by omega, Nat.mul_comm (t.val % 8) 512]

include hG in
theorem dv_block (t : Fin cfg0.N) : dvOut (finalAt m c t.val) = ((cfg0.win 9).blk t).view.read (Elt Ideal) (mat (R := 4096) (C := 1024) G.dv : S4096x1024.Idx → EReal) := by
  have ht : t.val < 64 := t.isLt
  refine (dvOut_eq hG ht).trans ?_
  refine Eq.trans ?_ (read_mat (R := 4096) (C := 1024) G.dv (win0_9.rect t).emb (t.val % 8) (t.val / 8)
    (fun y => by rw [Pipeline.Window.rect_emb_val win0_9 t y 0 rfl, (idx_9 t).1]; rfl)
    (fun y => by rw [Pipeline.Window.rect_emb_val win0_9 t y 1 rfl, (idx_9 t).2]; rfl)).symm
  refine mat_congr fun r hr j hj => ?_
  unfold Given.dv
  rw [show (t.val / 8 * 128 + j) / 128 = t.val / 8 by omega, show (t.val / 8 * 128 + j) % 128 = j by omega,
    show (t.val % 8 * 512 + r) / 512 = t.val % 8 by omega, Nat.mul_comm (t.val % 8) 512]

include hG in
theorem col_block (t : Fin cfg0.N) : colOut (finalAt m c t.val) = ((cfg0.win 11).blk t).view.read (Elt Ideal) (rows88 G.col) := by
  have ht : t.val < 64 := t.isLt
  refine (colOut_eq hG ht).trans (funext fun y => ?_)
  show ((dkS (G.head (t.val / 8)) (512 * (t.val % 8)) 4096 (512 * (t.val % 8) + (y 2).val) (128 + (y 1).val) : ℝ) : EReal) =
    ((G.col ((win0_11.rect t).emb y 0).val ((win0_11.rect t).emb y 2).val : ℝ) : EReal)
  have h2 : (y 2).val < 512 := (y 2).isLt
  have h0 : (y 0).val < 1 := (y 0).isLt
  have e0 : ((win0_11.rect t).emb y 0).val = t.val / 8 := by
    rw [Pipeline.Window.rect_emb_val win0_11 t y 0 rfl, (idx_11 t).1]
    show t.val / 8 * 1 + (y 0).val = _
    omega
  have e2 : ((win0_11.rect t).emb y 2).val = 512 * (t.val % 8) + (y 2).val := by
    rw [Pipeline.Window.rect_emb_val win0_11 t y 2 rfl, (idx_11 t).2.2]
    show t.val % 8 * 512 + (y 2).val = _
    omega
  rw [e0, e2, dkS_ge _ _ _ _ (Nat.le_add_right 128 _)]
  unfold Given.col
  rw [show (512 * (t.val % 8) + (y 2).val) / 512 = t.val % 8 by omega]

include hG in
theorem dq_block {t : Fin cfg0.N} (h7 : t.val % 8 = 7) {X : Vec Ideal S4096x128 .bf16} (h : DqRel m c t.val X) :
    X = ((cfg0.win 7).blk t).view.read (Elt Ideal) (mat (R := 4096) (C := 1024) G.dq : S4096x1024.Idx → EReal) := by
  have ht : t.val < 64 := t.isLt
  refine (dq_known hG h7 h).trans ?_
  refine Eq.trans ?_ (read_mat (R := 4096) (C := 1024) G.dq (win0_7.rect t).emb 0 (t.val / 8)
    (fun y => by rw [Pipeline.Window.rect_emb_val win0_7 t y 0 rfl, (idx_7 t).1]; rfl)
    (fun y => by rw [Pipeline.Window.rect_emb_val win0_7 t y 1 rfl, (idx_7 t).2]; rfl)).symm
  refine mat_congr fun r hr j hj => ?_
  unfold Given.dq
  rw [show (t.val / 8 * 128 + j) / 128 = t.val / 8 by omega, show (t.val / 8 * 128 + j) % 128 = j by omega,
    show 0 * 4096 + r = r by omega]

include hG in
theorem row_block {t : Fin cfg0.N} (h7 : t.val % 8 = 7) {X : Vec Ideal S1x8x4096 .f32} (h : RowRel m c t.val X) :
    X = ((cfg0.win 10).blk t).view.read (Elt Ideal) (rows88 G.row) := by
  refine funext fun y => (row_known hG h7 h y).trans ?_
  show _ = ((G.row ((win0_10.rect t).emb y 0).val ((win0_10.rect t).emb y 2).val : ℝ) : EReal)
  have h0 : (y 0).val < 1 := (y 0).isLt
  have e0 : ((win0_10.rect t).emb y 0).val = t.val / 8 := by
    rw [Pipeline.Window.rect_emb_val win0_10 t y 0 rfl, (idx_10 t).1]
    show t.val / 8 * 1 + (y 0).val = _
    omega
  have e2 : ((win0_10.rect t).emb y 2).val = (y 2).val := by
    rw [Pipeline.Window.rect_emb_val win0_10 t y 2 rfl, (idx_10 t).2.2]
    show 0 * 4096 + (y 2).val = _
    omega
  rw [e0, e2]

/-- Every place of a result is written. -/
theorem cover_8 (i : S4096x1024.Idx) : ∃ t : Fin cfg0.N, (cfg0.win 8).flush t = true ∧ i ∈ ((cfg0.win 8).blk t).view.set := by
  have h0 : (i 0 : Nat) < 4096 := (i 0).isLt
  have h1 : (i 1 : Nat) < 1024 := (i 1).isLt
  have hN : cfg0.N = 64 := rfl
  refine ⟨⟨8 * ((i 1 : Nat) / 128) + (i 0 : Nat) / 512, by omega⟩, flush0_8 _, ?_⟩
  generalize ht : (⟨8 * ((i 1 : Nat) / 128) + (i 0 : Nat) / 512, by omega⟩ : Fin cfg0.N) = t
  have hv : t.val = 8 * ((i 1 : Nat) / 128) + (i 0 : Nat) / 512 := by rw [← ht]
  show i ∈ ((View.whole main_v52_1).slice (win0_8.rect t)).set
  rw [View.set_slice_whole, Rect.mem_set_unit]
  intro a
  match a with
  | ⟨0, _⟩ => show win0_8.index t 0 * 512 ≤ (i 0 : Nat) ∧ (i 0 : Nat) < win0_8.index t 0 * 512 + win0_8.xsize (grid0.coords t) 0
              rw [(idx_8 t).1, (ext_8 t).1]; omega
  | ⟨1, _⟩ => show win0_8.index t 1 * 128 ≤ (i 1 : Nat) ∧ (i 1 : Nat) < win0_8.index t 1 * 128 + win0_8.xsize (grid0.coords t) 1
              rw [(idx_8 t).2, (ext_8 t).2]; omega

theorem cover_9 (i : S4096x1024.Idx) : ∃ t : Fin cfg0.N, (cfg0.win 9).flush t = true ∧ i ∈ ((cfg0.win 9).blk t).view.set := by
  have h0 : (i 0 : Nat) < 4096 := (i 0).isLt
  have h1 : (i 1 : Nat) < 1024 := (i 1).isLt
  have hN : cfg0.N = 64 := rfl
  refine ⟨⟨8 * ((i 1 : Nat) / 128) + (i 0 : Nat) / 512, by omega⟩, flush0_9 _, ?_⟩
  generalize ht : (⟨8 * ((i 1 : Nat) / 128) + (i 0 : Nat) / 512, by omega⟩ : Fin cfg0.N) = t
  have hv : t.val = 8 * ((i 1 : Nat) / 128) + (i 0 : Nat) / 512 := by rw [← ht]
  show i ∈ ((View.whole main_v52_2).slice (win0_9.rect t)).set
  rw [View.set_slice_whole, Rect.mem_set_unit]
  intro a
  match a with
  | ⟨0, _⟩ => show win0_9.index t 0 * 512 ≤ (i 0 : Nat) ∧ (i 0 : Nat) < win0_9.index t 0 * 512 + win0_9.xsize (grid0.coords t) 0
              rw [(idx_9 t).1, (ext_9 t).1]; omega
  | ⟨1, _⟩ => show win0_9.index t 1 * 128 ≤ (i 1 : Nat) ∧ (i 1 : Nat) < win0_9.index t 1 * 128 + win0_9.xsize (grid0.coords t) 1
              rw [(idx_9 t).2, (ext_9 t).2]; omega

theorem cover_11 (i : S8x8x4096.Idx) : ∃ t : Fin cfg0.N, (cfg0.win 11).flush t = true ∧ i ∈ ((cfg0.win 11).blk t).view.set := by
  have h0 : (i 0 : Nat) < 8 := (i 0).isLt
  have h1 : (i 1 : Nat) < 8 := (i 1).isLt
  have h2 : (i 2 : Nat) < 4096 := (i 2).isLt
  have hN : cfg0.N = 64 := rfl
  refine ⟨⟨8 * (i 0 : Nat) + (i 2 : Nat) / 512, by omega⟩, flush0_11 _, ?_⟩
  generalize ht : (⟨8 * (i 0 : Nat) + (i 2 : Nat) / 512, by omega⟩ : Fin cfg0.N) = t
  have hv : t.val = 8 * (i 0 : Nat) + (i 2 : Nat) / 512 := by rw [← ht]
  show i ∈ ((View.whole main_v52_4).slice (win0_11.rect t)).set
  rw [View.set_slice_whole, Rect.mem_set_unit]
  intro a
  match a with
  | ⟨0, _⟩ => show win0_11.index t 0 * 1 ≤ (i 0 : Nat) ∧ (i 0 : Nat) < win0_11.index t 0 * 1 + win0_11.xsize (grid0.coords t) 0
              rw [(idx_11 t).1, (ext_11 t).1]; omega
  | ⟨1, _⟩ => show win0_11.index t 1 * 8 ≤ (i 1 : Nat) ∧ (i 1 : Nat) < win0_11.index t 1 * 8 + win0_11.xsize (grid0.coords t) 1
              rw [(idx_11 t).2.1, (ext_11 t).2.1]; omega
  | ⟨2, _⟩ => show win0_11.index t 2 * 512 ≤ (i 2 : Nat) ∧ (i 2 : Nat) < win0_11.index t 2 * 512 + win0_11.xsize (grid0.coords t) 2
              rw [(idx_11 t).2.2, (ext_11 t).2.2]; omega

theorem cover_7 (i : S4096x1024.Idx) : ∃ t : Fin cfg0.N, (cfg0.win 7).flush t = true ∧ i ∈ ((cfg0.win 7).blk t).view.set := by
  have h0 : (i 0 : Nat) < 4096 := (i 0).isLt
  have h1 : (i 1 : Nat) < 1024 := (i 1).isLt
  have hN : cfg0.N = 64 := rfl
  refine ⟨⟨8 * ((i 1 : Nat) / 128) + 7, by omega⟩, (flush0_7 _).mpr (by dsimp only; omega), ?_⟩
  generalize ht : (⟨8 * ((i 1 : Nat) / 128) + 7, by omega⟩ : Fin cfg0.N) = t
  have hv : t.val = 8 * ((i 1 : Nat) / 128) + 7 := by rw [← ht]
  show i ∈ ((View.whole main_v52_0).slice (win0_7.rect t)).set
  rw [View.set_slice_whole, Rect.mem_set_unit]
  intro a
  match a with
  | ⟨0, _⟩ => show win0_7.index t 0 * 4096 ≤ (i 0 : Nat) ∧ (i 0 : Nat) < win0_7.index t 0 * 4096 + win0_7.xsize (grid0.coords t) 0
              rw [(idx_7 t).1, (ext_7 t).1]; omega
  | ⟨1, _⟩ => show win0_7.index t 1 * 128 ≤ (i 1 : Nat) ∧ (i 1 : Nat) < win0_7.index t 1 * 128 + win0_7.xsize (grid0.coords t) 1
              rw [(idx_7 t).2, (ext_7 t).2]; omega

theorem cover_10 (i : S8x8x4096.Idx) : ∃ t : Fin cfg0.N, (cfg0.win 10).flush t = true ∧ i ∈ ((cfg0.win 10).blk t).view.set := by
  have h0 : (i 0 : Nat) < 8 := (i 0).isLt
  have h1 : (i 1 : Nat) < 8 := (i 1).isLt
  have h2 : (i 2 : Nat) < 4096 := (i 2).isLt
  have hN : cfg0.N = 64 := rfl
  refine ⟨⟨8 * (i 0 : Nat) + 7, by omega⟩, (flush0_10 _).mpr (by dsimp only; omega), ?_⟩
  generalize ht : (⟨8 * (i 0 : Nat) + 7, by omega⟩ : Fin cfg0.N) = t
  have hv : t.val = 8 * (i 0 : Nat) + 7 := by rw [← ht]
  show i ∈ ((View.whole main_v52_3).slice (win0_10.rect t)).set
  rw [View.set_slice_whole, Rect.mem_set_unit]
  intro a
  match a with
  | ⟨0, _⟩ => show win0_10.index t 0 * 1 ≤ (i 0 : Nat) ∧ (i 0 : Nat) < win0_10.index t 0 * 1 + win0_10.xsize (grid0.coords t) 0
              rw [(idx_10 t).1, (ext_10 t).1]; omega
  | ⟨1, _⟩ => show win0_10.index t 1 * 8 ≤ (i 1 : Nat) ∧ (i 1 : Nat) < win0_10.index t 1 * 8 + win0_10.xsize (grid0.coords t) 1
              rw [(idx_10 t).2.1, (ext_10 t).2.1]; omega
  | ⟨2, _⟩ => show win0_10.index t 2 * 4096 ≤ (i 2 : Nat) ∧ (i 2 : Nat) < win0_10.index t 2 * 4096 + win0_10.xsize (grid0.coords t) 2
              rw [(idx_10 t).2.2, (ext_10 t).2.2]; omega

section
variable {r : PUnit × MemSt nD τ sig (Elt Ideal)} (hr : RDat.FramePost cfg0 (rdat m) (V m) r)
include hG hr

/-- What the launch leaves in its five results. -/
theorem ends :
    r.2.mem ((c.tc : Thread nD τ).loc main_v52_0) = (mat G.dq : S4096x1024.Idx → EReal)
      ∧ r.2.mem ((c.tc : Thread nD τ).loc main_v52_1) = (mat G.dk : S4096x1024.Idx → EReal)
      ∧ r.2.mem ((c.tc : Thread nD τ).loc main_v52_2) = (mat G.dv : S4096x1024.Idx → EReal)
      ∧ r.2.mem ((c.tc : Thread nD τ).loc main_v52_3) = rows88 G.row
      ∧ r.2.mem ((c.tc : Thread nD τ).loc main_v52_4) = rows88 G.col := by
  obtain ⟨after, hL, hA⟩ := hr.exists_exact c
  refine ⟨(hA 7).trans ?_, (hA 8).trans ?_, (hA 9).trans ?_, (hA 10).trans ?_, (hA 11).trans ?_⟩
  · refine ((rdat m c).withAfter after).arrAt_eq_of_cover 7 _ (fun t hf => ?_) cover_7
    exact dq_block hG ((flush0_7 t).mp hf) (Dat.toRRel_leaves (dat m c) (fgt := part) (Rl := known m c) (w := 7) rfl (hL 7 t hf))
  · refine ((rdat m c).withAfter after).arrAt_eq_of_cover 8 _ (fun t hf => ?_) cover_8
    exact (leaves_left (w := 8) rfl rfl (Or.inr hf) (hL 8 t hf)).trans (dk_block hG t)
  · refine ((rdat m c).withAfter after).arrAt_eq_of_cover 9 _ (fun t hf => ?_) cover_9
    exact (leaves_left (w := 9) rfl rfl (Or.inr hf) (hL 9 t hf)).trans (dv_block hG t)
  · refine ((rdat m c).withAfter after).arrAt_eq_of_cover 10 _ (fun t hf => ?_) cover_10
    exact row_block hG ((flush0_10 t).mp hf) (Dat.toRRel_leaves (dat m c) (fgt := part) (Rl := known m c) (w := 10) rfl (hL 10 t hf))
  · refine ((rdat m c).withAfter after).arrAt_eq_of_cover 11 _ (fun t hf => ?_) cover_11
    exact (leaves_left (w := 11) rfl rfl (Or.inr hf) (hL 11 t hf)).trans (col_block hG t)

end

end Cert.KernelIdeal.Attn

end
-- ==== Proof.Attn.Host.lean ====
/-
  What the host prepares for the launch from the arguments: for each query the logarithm of its row's total, and the product of the attention's output with
  its cotangent.
-/
module

public import proofs.«01_k».proof.Proof.Attn.Model
public import proofs.«01_k».proof.Proof.Gen.KernelIdeal.Frame
public import Idealize.ShloMosaic.Lib.StableHlo.Run

@[expose] public section

set_option maxRecDepth 16384

noncomputable section

namespace Cert.KernelIdeal.Attn

open Cert.KernelIdeal Cert.KernelIdeal.Gen
open Idealize.ShloMosaic Idealize.ShloMosaic.TcCoe Idealize.ShloMosaic.StableHlo

section
variable (x0 : FVec Ideal S4096x7168 .bf16) (x1 : FVec Ideal S8x4096 .f32) (x2 : FVec Ideal S4096x1024 .bf16)

/-- The queries, keys and values by head. -/
def hq : FVec Ideal S4096x8x128 .f32 :=
  shapeCast S4096x8x128 (extf .f32 (extractStridedSlice S4096x1024 ![0, 0] x0 slices_S4096x7168_S4096x1024_0_0) bitsLt_bf16_f32) shapeCasts_S4096x1024_S4096x8x128
def hk : FVec Ideal S4096x8x128 .f32 :=
  shapeCast S4096x8x128 (extf .f32 (extractStridedSlice S4096x1024 ![0, 1024] x0 slices_S4096x7168_S4096x1024_0_1024) bitsLt_bf16_f32) shapeCasts_S4096x1024_S4096x8x128
def hv : FVec Ideal S4096x8x128 .f32 :=
  shapeCast S4096x8x128 (extf .f32 (extractStridedSlice S4096x1024 ![0, 2048] x0 slices_S4096x7168_S4096x1024_0_2048) bitsLt_bf16_f32) shapeCasts_S4096x1024_S4096x8x128

/-- Which keys a query may see. -/
def seen : S4096x4096.Idx → BitVec 1 :=
  cmpi .sle (broadcastInDim S4096x4096 ![0, 1] bcast_S1x4096_S4096x4096_0_1 (broadcastInDim S1x4096 ![1] bcast_S4096_S1x4096_1 (iotaInDim S4096 32 0)))
    (broadcastInDim S4096x4096 ![0, 1] bcast_S4096x1_S4096x4096_0_1 (broadcastInDim S4096x1 ![0] bcast_S4096_S4096x1_0 (iotaInDim S4096 32 0)))

/-- The logits before the mask, and masked. -/
def hl : FVec Ideal S8x4096x4096 .f32 :=
  subf (mulf (Host.dotGeneral dot_S4096x8x128_S4096x8x128_S8x4096x4096_2_2_0_0_1_1 none (hq x0) (hk x0))
      (broadcastInDim S8x4096x4096 ![] bcast_S_S8x4096x4096 (constant (F := Ideal) S_ .f32 0x3DB504F3#32)))
    (broadcastInDim S8x4096x4096 ![0, 1, 2] bcast_S8x1x4096_S8x4096x4096_0_1_2 (broadcastInDim S8x1x4096 ![0, 2] bcast_S8x4096_S8x1x4096_0_2 x1))
def hm : FVec Ideal S8x4096x4096 .f32 :=
  select (broadcastInDim S8x4096x4096 ![1, 2] bcast_S4096x4096_S8x4096x4096_1_2 seen) (hl x0 x1)
    (broadcastInDim S8x4096x4096 ![] bcast_S_S8x4096x4096 (constant (F := Ideal) S_ .f32 0xFF800000#32))

/-- The rows' maxima, the exponentials and their totals. -/
def hmax : FVec Ideal S8x4096x1 .f32 :=
  broadcastInDim S8x4096x1 ![0, 1] bcast_S8x4096_S8x4096x1_0_1
    (Host.reduce FloatOps.maximumf (hm x0 x1) (constant (F := Ideal) S_ .f32 0xFF800000#32) reducesTo_S8x4096x4096_S8x4096_d2 h_S_)
def hexp : FVec Ideal S8x4096x4096 .f32 :=
  Host.exp (subf (hm x0 x1) (broadcastInDim S8x4096x4096 ![0, 1, 2] bcast_S8x4096x1_S8x4096x4096_0_1_2 (hmax x0 x1)))
def htot : FVec Ideal S8x4096x1 .f32 :=
  broadcastInDim S8x4096x1 ![0, 1] bcast_S8x4096_S8x4096x1_0_1
    (Host.reduceAdd (hexp x0 x1) (constant (F := Ideal) S_ .f32 0x00000000#32) reducesTo_S8x4096x4096_S8x4096_d2 h_S_)

/-- The logarithm, to the base two, of each row's total before its maximum is taken off. -/
def hlse : FVec Ideal S8x4096x1 .f32 :=
  Host.divf (addf (hmax x0 x1) (Host.log (htot x0 x1)))
    (broadcastInDim S8x4096x1 ![] bcast_S_S8x4096x1 (Host.log (constant (F := Ideal) S_ .f32 0x40000000#32)))
def lseRep : FVec Ideal S4096x1024 .f32 :=
  shapeCast S4096x1024 (broadcastInDim S4096x8x128 ![0, 1, 2] bcast_S4096x8x1_S4096x8x128_0_1_2
    (transpose S4096x8x1 [1, 0, 2] (hlse x0 x1) transposes_S8x4096x1_S4096x8x1_1_0_2)) shapeCasts_S4096x8x128_S4096x1024

/-- The weights, and the attention's output. -/
def hp : FVec Ideal S8x4096x4096 .f32 :=
  Host.divf (hexp x0 x1) (broadcastInDim S8x4096x4096 ![0, 1, 2] bcast_S8x4096x1_S8x4096x4096_0_1_2 (htot x0 x1))
def ho : FVec Ideal S4096x8x128 .f32 :=
  transpose S4096x8x128 [2, 0, 1] (Host.dotGeneral dot_S4096x8x128_S8x4096x4096_S8x128x4096_0_2_2_1_1_0 none (hv x0)
    (extf (F := Ideal) .f32 (truncf (F := Ideal) .bf16 (hp x0 x1) bitsLt_bf16_f32) bitsLt_bf16_f32)) transposes_S8x128x4096_S4096x8x128_2_0_1
/-- Each query's output times its cotangent. -/
def hdl : FVec Ideal S4096x8 .f32 :=
  Host.reduceAdd (mulf (shapeCast S4096x8x128 (extf (F := Ideal) .f32 x2 bitsLt_bf16_f32) shapeCasts_S4096x1024_S4096x8x128) (ho x0 x1))
    (constant (F := Ideal) S_ .f32 0x00000000#32) reducesTo_S4096x8x128_S4096x8_d2 h_S_
def dlRep : FVec Ideal S4096x1024 .f32 :=
  shapeCast S4096x1024 (broadcastInDim S4096x8x128 ![0, 1, 2] bcast_S4096x8x1_S4096x8x128_0_1_2
    (broadcastInDim S4096x8x1 ![0, 1] bcast_S4096x8_S4096x8x1_0_1 (hdl x0 x1 x2))) shapeCasts_S4096x8x128_S4096x1024

end

variable (m : (ℓ : Loc nD τ sig) → Buf (Elt Ideal) ℓ) (c : Dev nD)

theorem V_lse : V m c main_v43 = lseRep (m ((c : Thread nD τ).loc main_arg0)) (m ((c : Thread nD τ).loc main_arg1)) := by
  simp only [V, hostOps0, hostOps0_1, hostOps0_2, List.flatten_cons, List.flatten_nil, List.append_nil, List.cons_append, List.nil_append,
    TRef.nullary, TRef.ternary, TRef.unary, TRef.toBuf, TRef.ofBuf, cast_eq]
  after_results_simp <;> rfl

theorem V_dl : V m c main_v50 = dlRep (m ((c : Thread nD τ).loc main_arg0)) (m ((c : Thread nD τ).loc main_arg1)) (m ((c : Thread nD τ).loc main_arg2)) := by
  simp only [V, hostOps0, hostOps0_1, hostOps0_2, List.flatten_cons, List.flatten_nil, List.append_nil, List.cons_append, List.nil_append,
    TRef.nullary, TRef.ternary, TRef.unary, TRef.toBuf, TRef.ofBuf, cast_eq]
  after_results_simp <;> rfl

theorem V_cum : V m c main_v51 = shapeCast S8x8x1x512 (m ((c : Thread nD τ).loc main_arg1)) shapeCasts_S8x4096_S8x8x1x512 := by
  simp only [V, hostOps0, hostOps0_1, hostOps0_2, List.flatten_cons, List.flatten_nil, List.append_nil, List.cons_append, List.nil_append,
    TRef.nullary, TRef.ternary, TRef.unary, TRef.toBuf, TRef.ofBuf, cast_eq]
  after_results_simp <;> rfl

end Cert.KernelIdeal.Attn

end
-- ==== Proof.Attn.Soft.lean ====
/-
  The mathematics of the attention's gradient over the reals: the causal softmax of one head's logits does not see what is subtracted from a row, the
  kernel's weights are that softmax, and sums over the keys a query may see are sums over all keys.
-/
module

public import proofs.«01_k».proof.Proof.Attn.Final
public import Mathlib.Analysis.SpecialFunctions.Pow.Real

@[expose] public section

noncomputable section

namespace Cert.KernelIdeal.Attn

open scoped BigOperators

/-- The exponential of a logit, nought where the key is later than the query. -/
def ce (L : ℕ → ℕ → ℝ) (i j : ℕ) : ℝ := if j ≤ i then Real.exp (L i j) else 0
/-- A row's total. -/
def tot (L : ℕ → ℕ → ℝ) (i : ℕ) : ℝ := ∑ j ∈ Finset.range 4096, ce L i j
/-- The causal softmax. -/
def soft (L : ℕ → ℕ → ℝ) (i j : ℕ) : ℝ := ce L i j / tot L i

theorem ce_nonneg (L : ℕ → ℕ → ℝ) (i j : ℕ) : 0 ≤ ce L i j := by
  unfold ce; split
  · exact (Real.exp_pos _).le
  · exact le_rfl

theorem tot_pos (L : ℕ → ℕ → ℝ) {i : ℕ} (hi : i < 4096) : 0 < tot L i :=
  Finset.sum_pos' (fun j _ => ce_nonneg L i j) ⟨i, Finset.mem_range.mpr hi, by unfold ce; rw [if_pos le_rfl]; exact Real.exp_pos _⟩

theorem soft_of_lt (L : ℕ → ℕ → ℝ) {i j : ℕ} (h : i < j) : soft L i j = 0 := by
  unfold soft ce; rw [if_neg (Nat.not_le.mpr h), zero_div]

/-- Subtracting from a row multiplies its exponentials. -/
theorem ce_sub (L : ℕ → ℕ → ℝ) (M : ℕ → ℝ) (i j : ℕ) : ce (fun i j => L i j - M i) i j = Real.exp (-M i) * ce L i j := by
  unfold ce; split
  · rw [← Real.exp_add]; congr 1; ring
  · rw [mul_zero]

theorem tot_sub (L : ℕ → ℕ → ℝ) (M : ℕ → ℝ) (i : ℕ) : tot (fun i j => L i j - M i) i = Real.exp (-M i) * tot L i := by
  unfold tot; rw [Finset.mul_sum]; exact Finset.sum_congr rfl fun j _ => ce_sub L M i j

theorem soft_sub (L : ℕ → ℕ → ℝ) (M : ℕ → ℝ) (i j : ℕ) : soft (fun i j => L i j - M i) i j = soft L i j := by
  unfold soft; rw [ce_sub, tot_sub, mul_div_mul_left _ _ (Real.exp_pos _).ne']

theorem soft_add (L : ℕ → ℕ → ℝ) (a : ℕ → ℝ) (i j : ℕ) : soft (fun i j => L i j + a i) i j = soft L i j := by
  have e : (fun i j => L i j + a i) = fun i j => L i j - (fun i => -a i) i := by funext i j; dsimp only; ring
  rw [e, soft_sub]

theorem log_tot (L : ℕ → ℕ → ℝ) (M : ℕ → ℝ) {i : ℕ} (hi : i < 4096) :
    M i + Real.log (tot (fun i j => L i j - M i) i) = Real.log (tot L i) := by
  rw [tot_sub, Real.log_mul (Real.exp_pos _).ne' (tot_pos L hi).ne', Real.log_exp]; ring

namespace Head

variable (H : Head)

/-- The logits less what a row has in common. -/
def lg (i j : ℕ) : ℝ := H.s i j * sc - H.cum j

/-- The head's saved numbers are those the forward pass leaves. -/
structure Ready : Prop where
  lse : ∀ i < 4096, H.lse i = Real.log (tot H.lg i) / Real.log 2
  dl : ∀ i < 4096, H.dl i = ∑ d ∈ Finset.range 128, H.o i d * ∑ j ∈ Finset.range 4096, H.v j d * soft H.lg i j

variable {H}

theorem Ready.w_eq (h : H.Ready) {i : ℕ} (hi : i < 4096) (j : ℕ) : H.w i j = soft H.lg i j := by
  rcases Nat.lt_or_ge i j with hj | hj
  · rw [w_of_lt H hj, soft_of_lt _ hj]
  · rw [w_of_le H hj]
    have hl : Real.log 2 ≠ 0 := (Real.log_pos (by norm_num)).ne'
    have e : H.s i j * (sc * l2e) - H.cum j * l2e - H.lse i = (H.lg i j - Real.log (tot H.lg i)) / Real.log 2 := by
      rw [h.lse i hi, l2e, lg]; field_simp
    unfold pw soft ce
    rw [if_pos hj, e]
    show (2 : ℝ) ^ ((H.lg i j - Real.log (tot H.lg i)) / Real.log 2) = _
    rw [Real.rpow_def_of_pos (by norm_num), mul_div_cancel₀ _ hl, Real.exp_sub, Real.exp_log (tot_pos _ hi)]

theorem Ready.dl_eq (h : H.Ready) {i : ℕ} (hi : i < 4096) : H.dl i = ∑ j ∈ Finset.range 4096, soft H.lg i j * H.dp i j := by
  rw [h.dl i hi]
  simp only [Finset.mul_sum, dp]
  rw [Finset.sum_comm]
  exact Finset.sum_congr rfl fun j _ => Finset.sum_congr rfl fun d _ => by ring

variable (H)

/-- A query meets no later key, so its sum may run over all of them. -/
theorem dq_all {i : ℕ} (hi : i < 4096) (c : ℕ) :
    dqS H (512 * (i / 512 + 1)) i c = ∑ j ∈ Finset.range 4096, H.ds i j * beside H.k j c := by
  unfold dqS
  refine Finset.sum_subset (fun j hj => ?_) (fun j _ hj => ?_)
  · have := Finset.mem_range.mp hj; exact Finset.mem_range.mpr (by omega)
  · have : ¬ j < 512 * (i / 512 + 1) := fun h => hj (Finset.mem_range.mpr h)
    rw [ds_of_lt H (by omega), zero_mul]

theorem dk_all (j c : ℕ) : dkS H (512 * (j / 512)) 4096 j c = ∑ i ∈ Finset.range 4096, H.ds i j * beside H.q i c := by
  unfold dkS
  refine Finset.sum_subset (fun i hi => ?_) (fun i hi hj => ?_)
  · have := Finset.mem_Ico.mp hi; exact Finset.mem_range.mpr (by omega)
  · have h1 := Finset.mem_range.mp hi
    have : ¬ (512 * (j / 512) ≤ i ∧ i < 4096) := fun h => hj (Finset.mem_Ico.mpr h)
    rw [ds_of_lt H (by omega), zero_mul]

theorem dv_all (j c : ℕ) : dvS H (512 * (j / 512)) 4096 j c = ∑ i ∈ Finset.range 4096, H.w i j * H.o i c := by
  unfold dvS
  refine Finset.sum_subset (fun i hi => ?_) (fun i hi hj => ?_)
  · have := Finset.mem_Ico.mp hi; exact Finset.mem_range.mpr (by omega)
  · have h1 := Finset.mem_range.mp hi
    have : ¬ (512 * (j / 512) ≤ i ∧ i < 4096) := fun h => hj (Finset.mem_Ico.mpr h)
    rw [w_of_lt H (by omega), zero_mul]

end Head

end Cert.KernelIdeal.Attn

end
-- ==== Proof.Attn.Cubes.lean ====
/-
  Arrays of three axes whose entries are reals, and what the host's operations do to them.
-/
module

public import proofs.«01_k».proof.Proof.Attn.Soft
public import proofs.«01_k».proof.Proof.Attn.Blocks
public import Idealize.ShloMosaic.Lib.IdealHost

@[expose] public section

set_option maxRecDepth 16384

noncomputable section

namespace Cert.KernelIdeal.Attn

open Cert.KernelIdeal Cert.KernelIdeal.Gen
open Idealize.ShloMosaic Idealize.ShloMosaic.Updates Idealize.ShloMosaic.LaneScatter Idealize.ShloMosaic.ValueIdx
open scoped BigOperators

/-- The shape of a block of three axes. -/
abbrev Cub (A B C : ℕ) : Shape := ⟨3, ![A, B, C]⟩

/-- The reals `f` on three axes. -/
def cube {A B C : ℕ} (f : ℕ → ℕ → ℕ → ℝ) : (Cub A B C).Idx → EReal := fun y => ((f (y 0).val (y 1).val (y 2).val : ℝ) : EReal)

/-- The reals `f` at the keys a query may see, minus infinity at later ones. -/
def masked {A B C : ℕ} (f : ℕ → ℕ → ℕ → ℝ) : (Cub A B C).Idx → EReal :=
  fun y => if (y 2).val ≤ (y 1).val then ((f (y 0).val (y 1).val (y 2).val : ℝ) : EReal) else ⊥

variable {A B C : ℕ} {φ : FTy}

theorem cube_congr {f g : ℕ → ℕ → ℕ → ℝ} (h : ∀ a < A, ∀ b < B, ∀ c < C, f a b c = g a b c) : (cube f : (Cub A B C).Idx → EReal) = cube g :=
  funext fun y => congrArg _ (h _ (y 0).isLt _ (y 1).isLt _ (y 2).isLt)

theorem addf_cube (f g : ℕ → ℕ → ℕ → ℝ) : addf (F := Ideal) (φ := φ) (cube f : (Cub A B C).Idx → EReal) (cube g) = cube fun a b c => f a b c + g a b c :=
  funext fun _ => (EReal.coe_add _ _).symm
theorem mulf_cube (f g : ℕ → ℕ → ℕ → ℝ) : mulf (F := Ideal) (φ := φ) (cube f : (Cub A B C).Idx → EReal) (cube g) = cube fun a b c => f a b c * g a b c :=
  funext fun _ => (EReal.coe_mul _ _).symm
theorem subf_cube (f g : ℕ → ℕ → ℕ → ℝ) : subf (F := Ideal) (φ := φ) (cube f : (Cub A B C).Idx → EReal) (cube g) = cube fun a b c => f a b c - g a b c :=
  funext fun _ => (EReal.coe_sub _ _).symm

/-- A quotient of reals by a real that is not nought. -/
theorem div_real (a : ℝ) {b : ℝ} (h : b ≠ 0) : Ideal.div (a : EReal) (b : EReal) = ((a / b : ℝ) : EReal) := by
  rw [Ideal.div_coe h, ← EReal.coe_mul, mul_one_div]

theorem divf_cube (f g : ℕ → ℕ → ℕ → ℝ) (h : ∀ a < A, ∀ b < B, ∀ c < C, g a b c ≠ 0) :
    Host.divf (F := Ideal) (φ := φ) (cube f : (Cub A B C).Idx → EReal) (cube g) = cube fun a b c => f a b c / g a b c :=
  funext fun y => div_real _ (h _ (y 0).isLt _ (y 1).isLt _ (y 2).isLt)

theorem log_cube (f : ℕ → ℕ → ℕ → ℝ) (h : ∀ a < A, ∀ b < B, ∀ c < C, 0 < f a b c) :
    Host.log (F := Ideal) (φ := φ) (cube f : (Cub A B C).Idx → EReal) = cube fun a b c => Real.log (f a b c) :=
  funext fun y => (Ideal.log_coe _).trans (if_neg (not_le.mpr (h _ (y 0).isLt _ (y 1).isLt _ (y 2).isLt)))

/-- The maximum of finitely many extended reals below the top, one of which is real, is real. -/
theorem fold_max_real {n : ℕ} (g : Fin n → EReal) (k : Fin n) (hk : g k ≠ ⊥) (h : ∀ i, g i ≠ ⊤) :
    ∃ r : ℝ, (Finset.univ : Finset (Fin n)).fold max ⊥ g = (r : EReal) := by
  have e : (Finset.univ : Finset (Fin n)).fold max ⊥ g = (Finset.univ : Finset (Fin n)).sup g := rfl
  rw [e]
  refine ⟨_, (EReal.coe_toReal ?_ ?_).symm⟩
  · exact ((Finset.sup_lt_iff (bot_lt_top)).mpr fun i _ => lt_of_le_of_ne le_top (h i)).ne
  · exact (lt_of_lt_of_le (bot_lt_iff_ne_bot.mpr hk) (Finset.le_sup (Finset.mem_univ k))).ne'

/-- The rows of masked logits have real maxima. -/
theorem max_masked {A B : ℕ} {u : Shape} (f : ℕ → ℕ → ℕ → ℝ) (z : u.Idx → EReal) (hz : ∀ i, z i = ⊥)
    (h' : (Cub A B B).ReducesTo [2] (Blk A B)) (h : (Cub A B B).Reduces [2] (Blk A B)) (hu : 0 < u.numel) (hB : 0 < B)
    (hl : ∀ (j : (Blk A B).Idx) (k : Fin B), h.lift j k = ix3 (j 0) (j 1) k) :
    ∃ M : ℕ → ℕ → ℝ, Host.reduce (FloatOps.maximumf (F := Ideal) (φ := .f32)) (masked f : (Cub A B B).Idx → EReal) z h' hu = mat M := by
  have key : ∀ j : (Blk A B).Idx, ∃ r : ℝ, Host.reduce (FloatOps.maximumf (F := Ideal) (φ := .f32)) (masked f : (Cub A B B).Idx → EReal) z h' hu j = (r : EReal) := fun j => by
    have e : Host.reduce (FloatOps.maximumf (F := Ideal) (φ := .f32)) (masked f : (Cub A B B).Idx → EReal) z h' hu j
        = (Finset.univ : Finset (Fin B)).fold max ⊥ fun k => (masked f : (Cub A B B).Idx → EReal) (ix3 (j 0) (j 1) k) := by
      refine (Host.reduce_eq_fold_single (FloatOps.maximumf (F := Ideal) (φ := .f32)) _ _ h' h hu j).trans ?_
      rw [hz]
      refine congrArg (Finset.fold max ⊥ · _) (funext fun k => ?_)
      exact congrArg (masked f) (hl j k)
    rw [e]
    refine fold_max_real _ (j 1) ?_ fun k => ?_
    · show (if (j 1).val ≤ (j 1).val then _ else _ : EReal) ≠ ⊥
      rw [if_pos le_rfl]; exact EReal.coe_ne_bot _
    · show (if k.val ≤ (j 1).val then _ else _ : EReal) ≠ ⊤
      split
      · exact EReal.coe_ne_top _
      · exact bot_ne_top
  choose r hr using key
  refine ⟨fun a b => if h : a < A ∧ b < B then r (ix2 ⟨a, h.1⟩ ⟨b, h.2⟩) else 0, eq_mat fun a b => (hr _).trans ?_⟩
  rw [dif_pos ⟨a.isLt, b.isLt⟩]

/-- The exponential of masked logits less their row's number. -/
theorem exp_masked (f : ℕ → ℕ → ℕ → ℝ) (M : ℕ → ℕ → ℝ) :
    Host.exp (F := Ideal) (φ := .f32) (subf (F := Ideal) (φ := .f32) (masked f : (Cub A B C).Idx → EReal) (cube fun a b _ => M a b))
      = cube fun a b c => ce (fun i j => f a i j - M a i) b c :=
  funext fun y => by
    show Ideal.exp ((masked f y : EReal) - ((M (y 0).val (y 1).val : ℝ) : EReal)) = ((ce _ _ _ : ℝ) : EReal)
    unfold masked ce
    split
    · rw [← EReal.coe_sub, Ideal.exp_coe]
    · rw [EReal.bot_sub]; rfl

/-- Sums along the last axis, and along the middle one. -/
theorem sum_last {u : Shape} (f : ℕ → ℕ → ℕ → ℝ) (z : u.Idx → EReal) (hz : ∀ i, z i = 0)
    (h' : (Cub A B C).ReducesTo [2] (Blk A B)) (h : (Cub A B C).Reduces [2] (Blk A B)) (hu : 0 < u.numel)
    (hl : ∀ (j : (Blk A B).Idx) (k : Fin C), h.lift j k = ix3 (j 0) (j 1) k) :
    Host.reduceAdd (F := Ideal) (φ := φ) (cube f : (Cub A B C).Idx → EReal) z h' hu = mat fun a b => ∑ c ∈ Finset.range C, f a b c :=
  funext fun j => by
    rw [hostReduceAdd_apply, Ideal.hostReduceAdd_single h' h, hz, zero_add]
    show _ = ((∑ c ∈ Finset.range C, f (j 0).val (j 1).val c : ℝ) : EReal)
    rw [coe_sum, Finset.sum_range (fun c => ((f (j 0).val (j 1).val c : ℝ) : EReal))]
    exact Finset.sum_congr rfl fun k _ => congrArg (cube f) (hl j k)

/-- A batched product whose index maps are known. -/
theorem dot_cube {A' B' C' A'' B'' C'' K : ℕ} {φ₁ φ₂ : FTy} (d : DotDims (Cub A B C) (Cub A' B' C') (Cub A'' B'' C'')) prec
    (e : d.contr.Idx ≃ Fin K) (f g : ℕ → ℕ → ℕ → ℝ) (l r : ℕ → ℕ → ℕ → ℕ → ℝ)
    (hl : ∀ y k, (cube f : (Cub A B C).Idx → EReal) (d.lhsIdx y (e.symm k)) = ((l (y 0).val (y 1).val (y 2).val k.val : ℝ) : EReal))
    (hr : ∀ y k, (cube g : (Cub A' B' C').Idx → EReal) (d.rhsIdx y (e.symm k)) = ((r (y 0).val (y 1).val (y 2).val k.val : ℝ) : EReal)) :
    Host.dotGeneral (F := Ideal) (φ₁ := φ₁) (φ₂ := φ₂) d prec (cube f) (cube g)
      = cube fun a b c => ∑ k ∈ Finset.range K, l a b c k * r a b c k :=
  funext fun y => by
    simp only [Host.dotGeneral]
    rw [Ideal.dotGeneral_apply, ← Equiv.sum_comp e.symm]
    refine Eq.trans (Finset.sum_congr rfl fun k _ => ?_) (sum_mul_coe K (fun k => l (y 0).val (y 1).val (y 2).val k) (fun k => r (y 0).val (y 1).val (y 2).val k))
    rw [hl, hr]

end Cert.KernelIdeal.Attn

end
-- ==== Proof.Attn.HostReal.lean ====
/-
  The host's preparation when the arguments are real.
-/
module

public import proofs.«01_k».proof.Proof.Attn.Host
public import proofs.«01_k».proof.Proof.Attn.Cubes
public import proofs.«01_k».proof.Proof.Attn.Places

@[expose] public section

set_option maxRecDepth 16384

noncomputable section

namespace Cert.KernelIdeal.Attn

open Cert.KernelIdeal Cert.KernelIdeal.Gen
open Idealize.ShloMosaic Idealize.ShloMosaic.TcCoe Idealize.ShloMosaic.Updates Idealize.ShloMosaic.LaneScatter Idealize.ShloMosaic.ValueIdx
open scoped BigOperators

/-- The arrays of a step, before anything is saved. -/
def bare (x o cum : ℕ → ℕ → ℝ) : Given := ⟨x, o, cum, fun _ _ => 0, fun _ _ => 0⟩
/-- The same with what the forward pass saves. -/
def full (x o cum : ℕ → ℕ → ℝ) : Given :=
  ⟨x, o, cum, fun h i => Real.log (tot ((bare x o cum).head h).lg i) / Real.log 2,
    fun h i => ∑ d ∈ Finset.range 128, o i (h * 128 + d) * ∑ j ∈ Finset.range 4096, x j ((16 + h) * 128 + d) * soft ((bare x o cum).head h).lg i j⟩

theorem full_ready (x o cum : ℕ → ℕ → ℝ) (h : ℕ) : ((full x o cum).head h).Ready where
  lse _ _ := rfl
  dl _ _ := rfl

variable (x o cum : ℕ → ℕ → ℝ)

theorem slice_mat {off : ℕ} (h : S4096x7168.Slices ![0, off] S4096x1024) (f : ℕ → ℕ → ℝ) :
    extractStridedSlice S4096x1024 ![0, off] (mat f : S4096x7168.Idx → EReal) h = mat fun i C => f i (off + C) :=
  funext fun y => by
    have h1 : off + 1024 ≤ 7168 := h.2 1
    have y0 : (y 0).val < 4096 := (y 0).isLt
    have y1 : (y 1).val < 1024 := (y 1).isLt
    refine (extractStridedSlice_apply (s := S4096x7168) ![0, off] (mat f) h y (ix2 (⟨(y 0).val, y0⟩ : Fin 4096) (⟨off + (y 1).val, by omega⟩ : Fin 7168)) fun a => ?_).trans rfl
    match a with
    | ⟨0, _⟩ => show (y 0).val = 0 + (y 0).val; omega
    | ⟨1, _⟩ => rfl

theorem byHead_mat (f : ℕ → ℕ → ℝ) :
    shapeCast S4096x8x128 (mat f : S4096x1024.Idx → EReal) shapeCasts_S4096x1024_S4096x8x128 = cube fun i h d => f i (h * 128 + d) :=
  funext fun y => by
    have y0 : (y 0).val < 4096 := (y 0).isLt
    have y1 : (y 1).val < 8 := (y 1).isLt
    have y2 : (y 2).val < 128 := (y 2).isLt
    refine (shapeCast_apply (s := S4096x1024) (mat f) _ y (ix2 (⟨(y 0).val, y0⟩ : Fin 4096) (⟨(y 1).val * 128 + (y 2).val, by omega⟩ : Fin 1024)) ?_).trans rfl
    rw [Shape.rowMajor_val_two, Shape.rowMajor_val_three]
    show (y 0).val * 1024 + ((y 1).val * 128 + (y 2).val) = ((y 0).val * 8 + (y 1).val) * 128 + (y 2).val
    omega

theorem flat_cube (f : ℕ → ℕ → ℕ → ℝ) :
    shapeCast S4096x1024 (cube f : S4096x8x128.Idx → EReal) shapeCasts_S4096x8x128_S4096x1024 = mat fun i C => f i (C / 128) (C % 128) :=
  funext fun y => by
    have y0 : (y 0).val < 4096 := (y 0).isLt
    have y1 : (y 1).val < 1024 := (y 1).isLt
    refine (shapeCast_apply (s := S4096x8x128) (cube f) _ y (ix3 (⟨(y 0).val, y0⟩ : Fin 4096) (⟨(y 1).val / 128, by omega⟩ : Fin 8) (⟨(y 1).val % 128, by omega⟩ : Fin 128)) ?_).trans rfl
    rw [Shape.rowMajor_val_two, Shape.rowMajor_val_three]
    show ((y 0).val * 8 + (y 1).val / 128) * 128 + (y 1).val % 128 = (y 0).val * 1024 + (y 1).val
    omega

theorem hq_real : hq (mat x) = cube fun i h d => x i (h * 128 + d) := by
  refine (congrArg (fun w => shapeCast S4096x8x128 w shapeCasts_S4096x1024_S4096x8x128) (slice_mat slices_S4096x7168_S4096x1024_0_0 x)).trans ((byHead_mat _).trans ?_)
  simp only [Nat.zero_add]
theorem hk_real : hk (mat x) = cube fun i h d => x i ((8 + h) * 128 + d) := by
  refine (congrArg (fun w => shapeCast S4096x8x128 w shapeCasts_S4096x1024_S4096x8x128) (slice_mat slices_S4096x7168_S4096x1024_0_1024 x)).trans ((byHead_mat _).trans ?_)
  exact cube_congr fun i _ h _ d _ => by rw [show 1024 + (h * 128 + d) = (8 + h) * 128 + d by omega]
theorem hv_real : hv (mat x) = cube fun i h d => x i ((16 + h) * 128 + d) := by
  refine (congrArg (fun w => shapeCast S4096x8x128 w shapeCasts_S4096x1024_S4096x8x128) (slice_mat slices_S4096x7168_S4096x1024_0_2048 x)).trans ((byHead_mat _).trans ?_)
  exact cube_congr fun i _ h _ d _ => by rw [show 2048 + (h * 128 + d) = (16 + h) * 128 + d by omega]

theorem sle_word {a b : ℕ} (ha : a < 4096) (hb : b < 4096) : IntOp.cmpi .sle (BitVec.ofNat 32 a) (BitVec.ofNat 32 b) = if a ≤ b then 1#1 else 0#1 := by
  have e1 : (BitVec.ofNat 32 a).toNat = a := by rw [BitVec.toNat_ofNat]; exact Nat.mod_eq_of_lt (by omega)
  have e2 : (BitVec.ofNat 32 b).toNat = b := by rw [BitVec.toNat_ofNat]; exact Nat.mod_eq_of_lt (by omega)
  show BitVec.ofBool ((BitVec.ofNat 32 a).sle (BitVec.ofNat 32 b)) = _
  rw [BitVec.sle_eq_decide, BitVec.toInt_eq_toNat_of_lt (by omega), BitVec.toInt_eq_toNat_of_lt (by omega), e1, e2]
  by_cases h : a ≤ b <;> simp [h]

/-- The key's column is no later than the query's row. -/
theorem seen_apply (y : S4096x4096.Idx) : seen y = if (y 1).val ≤ (y 0).val then 1#1 else 0#1 := by
  have y0 : (y 0).val < 4096 := (y 0).isLt
  have y1 : (y 1).val < 4096 := (y 1).isLt
  have ea : broadcastInDim S4096x4096 ![0, 1] bcast_S1x4096_S4096x4096_0_1 (broadcastInDim S1x4096 ![1] bcast_S4096_S1x4096_1 (iotaInDim S4096 32 0)) y
      = BitVec.ofNat 32 (y 1).val := by
    refine (broadcastInDim_apply _ _ _ y (ix2 (0 : Fin 1) (⟨(y 1).val, y1⟩ : Fin 4096)) fun a => ?_).trans
      ((broadcastInDim_apply _ _ _ _ (ix1 (⟨(y 1).val, y1⟩ : Fin 4096)) fun a => ?_).trans rfl)
    · match a with
      | ⟨0, _⟩ => rfl
      | ⟨1, _⟩ => rfl
    · match a with
      | ⟨0, _⟩ => rfl
  have eb : broadcastInDim S4096x4096 ![0, 1] bcast_S4096x1_S4096x4096_0_1 (broadcastInDim S4096x1 ![0] bcast_S4096_S4096x1_0 (iotaInDim S4096 32 0)) y
      = BitVec.ofNat 32 (y 0).val := by
    refine (broadcastInDim_apply _ _ _ y (ix2 (⟨(y 0).val, y0⟩ : Fin 4096) (0 : Fin 1)) fun a => ?_).trans
      ((broadcastInDim_apply _ _ _ _ (ix1 (⟨(y 0).val, y0⟩ : Fin 4096)) fun a => ?_).trans rfl)
    · match a with
      | ⟨0, _⟩ => rfl
      | ⟨1, _⟩ => rfl
    · match a with
      | ⟨0, _⟩ => rfl
  unfold seen
  refine (congrArg₂ (IntOp.cmpi .sle) ea eb).trans ?_
  exact sle_word y1 y0

/-- Each query times each key. -/
theorem hs_real : Host.dotGeneral (F := Ideal) (φ₁ := .f32) (φ₂ := .f32) dot_S4096x8x128_S4096x8x128_S8x4096x4096_2_2_0_0_1_1 none (hq (mat x)) (hk (mat x))
    = cube fun h i j => ∑ d ∈ Finset.range 128, x i (h * 128 + d) * x j ((8 + h) * 128 + d) := by
  rw [hq_real, hk_real]
  have hk := contrEquiv1_symm_val dot_S4096x8x128_S4096x8x128_S8x4096x4096_2_2_0_0_1_1 128 rfl rfl
  refine dot_cube _ _ (contrEquiv1 _ 128 rfl rfl) _ _ (fun h i j d => x i (h * 128 + d)) (fun h i j d => x j ((8 + h) * 128 + d)) (fun y k => ?_) fun y k => ?_
  · rw [← hk k]; rfl
  · rw [← hk k]; rfl

/-- One number everywhere. -/
theorem splat_cube {a : ℝ} {w : BitVec 32} (hw : Ideal.ofBits .f32 w = ((a : ℝ) : EReal)) :
    (broadcastInDim S8x4096x4096 ![] bcast_S_S8x4096x4096 (constant (F := Ideal) S_ .f32 w) : S8x4096x4096.Idx → EReal) = cube fun _ _ _ => a :=
  funext fun y => (broadcastInDim_apply _ _ _ y ix0 fun a => a.elim0).trans hw

/-- One number for each key. -/
theorem keys_cube (f : ℕ → ℕ → ℝ) :
    broadcastInDim S8x4096x4096 ![0, 1, 2] bcast_S8x1x4096_S8x4096x4096_0_1_2 (broadcastInDim S8x1x4096 ![0, 2] bcast_S8x4096_S8x1x4096_0_2 (mat f : S8x4096.Idx → EReal))
      = cube fun h _ j => f h j := funext fun y => by
  refine (broadcastInDim_apply _ _ _ y (ix3 (⟨(y 0).val, (y 0).isLt⟩ : Fin 8) (0 : Fin 1) (⟨(y 2).val, (y 2).isLt⟩ : Fin 4096)) fun a => ?_).trans
    ((broadcastInDim_apply _ _ _ _ (ix2 (⟨(y 0).val, (y 0).isLt⟩ : Fin 8) (⟨(y 2).val, (y 2).isLt⟩ : Fin 4096)) fun a => ?_).trans rfl)
  · match a with
    | ⟨0, _⟩ => rfl
    | ⟨1, _⟩ => rfl
    | ⟨2, _⟩ => rfl
  · match a with
    | ⟨0, _⟩ => rfl
    | ⟨1, _⟩ => rfl

theorem hl_real : hl (mat x) (mat cum) = cube fun h i j => ((bare x o cum).head h).lg i j := by
  unfold hl
  rw [hs_real, splat_cube word_scale, keys_cube]
  exact (congrArg (fun w => subf (F := Ideal) (φ := .f32) w (cube fun h _ j => cum h j : S8x4096x4096.Idx → EReal)) (mulf_cube _ _)).trans (subf_cube _ _)

/-- What a selection by the mask leaves of real logits. -/
theorem select_masked (f : ℕ → ℕ → ℕ → ℝ) (b : S8x4096x4096.Idx → EReal) (hb : ∀ y, b y = ⊥) :
    select (broadcastInDim S8x4096x4096 ![1, 2] bcast_S4096x4096_S8x4096x4096_1_2 seen) (cube f : S8x4096x4096.Idx → EReal) b = masked f :=
  funext fun y => by
    have e : broadcastInDim S8x4096x4096 ![1, 2] bcast_S4096x4096_S8x4096x4096_1_2 seen y = if (y 2).val ≤ (y 1).val then 1#1 else 0#1 := by
      refine (broadcastInDim_apply _ _ _ y (ix2 (⟨(y 1).val, (y 1).isLt⟩ : Fin 4096) (⟨(y 2).val, (y 2).isLt⟩ : Fin 4096)) fun a => ?_).trans (seen_apply _)
      match a with
      | ⟨0, _⟩ => rfl
      | ⟨1, _⟩ => rfl
    rw [select_apply, e]
    unfold masked
    split
    · rw [select_one]; rfl
    · rw [select_zero, hb]

theorem hm_real : hm (mat x) (mat cum) = masked fun h i j => ((bare x o cum).head h).lg i j := by
  unfold hm
  rw [hl_real x o cum]
  exact select_masked _ _ fun y => (broadcastInDim_apply _ _ _ y ix0 fun a => a.elim0).trans word_bot

/-- One number for each head and row, as a thin block. -/
theorem thin_mat (f : ℕ → ℕ → ℝ) : broadcastInDim S8x4096x1 ![0, 1] bcast_S8x4096_S8x4096x1_0_1 (mat f : S8x4096.Idx → EReal) = cube fun h i _ => f h i :=
  funext fun y => by
    refine (broadcastInDim_apply _ _ _ y (ix2 (⟨(y 0).val, (y 0).isLt⟩ : Fin 8) (⟨(y 1).val, (y 1).isLt⟩ : Fin 4096)) fun a => ?_).trans rfl
    match a with
    | ⟨0, _⟩ => rfl
    | ⟨1, _⟩ => rfl

theorem spread_cube (f : ℕ → ℕ → ℝ) :
    broadcastInDim S8x4096x4096 ![0, 1, 2] bcast_S8x4096x1_S8x4096x4096_0_1_2 (cube fun h i _ => f h i : S8x4096x1.Idx → EReal) = cube fun h i _ => f h i :=
  funext fun y => by
    refine (broadcastInDim_apply _ _ _ y (ix3 (⟨(y 0).val, (y 0).isLt⟩ : Fin 8) (⟨(y 1).val, (y 1).isLt⟩ : Fin 4096) (0 : Fin 1)) fun a => ?_).trans rfl
    match a with
    | ⟨0, _⟩ => rfl
    | ⟨1, _⟩ => rfl
    | ⟨2, _⟩ => rfl

theorem lift_rows (j : S8x4096.Idx) (k : Fin 4096) :
    (show S8x4096x4096.Reduces [2] S8x4096 by decide).lift j k = ix3 (j 0) (j 1) k := by
  funext a; apply Fin.ext
  match a with
  | ⟨0, _⟩ => rfl
  | ⟨1, _⟩ => rfl
  | ⟨2, _⟩ => rfl

theorem hmax_real : ∃ M : ℕ → ℕ → ℝ, hmax (mat x) (mat cum) = cube fun h i _ => M h i := by
  obtain ⟨M, hM⟩ := max_masked (fun h i j => ((bare x (fun _ _ => 0) cum).head h).lg i j) (constant (F := Ideal) S_ .f32 0xFF800000#32) (fun _ => word_bot)
    reducesTo_S8x4096x4096_S8x4096_d2 (by decide) h_S_ (by decide) lift_rows
  rw [← hm_real x (fun _ _ => 0) cum] at hM
  refine ⟨M, ?_⟩
  unfold hmax
  rw [hM]
  exact thin_mat M

section
variable {x o cum} {M : ℕ → ℕ → ℝ} (hM : hmax (mat x) (mat cum) = cube fun h i _ => M h i)
include hM

theorem hexp_real : hexp (mat x) (mat cum) = cube fun h i j => ce (fun i j => ((bare x o cum).head h).lg i j - M h i) i j := by
  unfold hexp
  rw [hM, hm_real x o cum, spread_cube]
  exact exp_masked _ M

theorem htot_real : htot (mat x) (mat cum) = cube fun h i _ => tot (fun i j => ((bare x o cum).head h).lg i j - M h i) i := by
  have e := sum_last (φ := .f32) (fun h i j => ce (fun i j => ((bare x o cum).head h).lg i j - M h i) i j) (constant (F := Ideal) S_ .f32 0x00000000#32)
    (fun i => zero_apply i) reducesTo_S8x4096x4096_S8x4096_d2 (by decide) h_S_ lift_rows
  rw [← hexp_real (o := o) hM] at e
  unfold htot
  rw [e]
  exact thin_mat _

end

end Cert.KernelIdeal.Attn

end
-- ==== Proof.Attn.Prepared.lean ====
/-
  So the launch finds, from real arguments, real arrays: those the forward pass saves.
-/
module

public import proofs.«01_k».proof.Proof.Attn.HostReal

@[expose] public section

set_option maxRecDepth 16384

noncomputable section

namespace Cert.KernelIdeal.Attn

open Cert.KernelIdeal Cert.KernelIdeal.Gen
open Idealize.ShloMosaic Idealize.ShloMosaic.TcCoe Idealize.ShloMosaic.Updates Idealize.ShloMosaic.LaneScatter Idealize.ShloMosaic.ValueIdx
open scoped BigOperators

variable (x o cum : ℕ → ℕ → ℝ)

theorem word_two : Ideal.ofBits .f32 0x40000000#32 = ((2 : ℝ) : EReal) := by
  simp [Ideal.ofBits, Ideal.ieee, -EReal.coe_mul]; norm_num

theorem hlse_real : hlse (mat x) (mat cum) = cube fun h i _ => (full x o cum).lse h i := by
  obtain ⟨M, hM⟩ := hmax_real x cum
  have e1 : Host.log (F := Ideal) (φ := .f32) (htot (mat x) (mat cum))
      = cube fun h i _ => Real.log (tot (fun i j => ((bare x o cum).head h).lg i j - M h i) i) := by
    rw [htot_real (o := o) hM]
    exact log_cube _ fun h _ i hi _ _ => tot_pos _ hi
  have e2 : (broadcastInDim S8x4096x1 ![] bcast_S_S8x4096x1 (Host.log (constant (F := Ideal) S_ .f32 0x40000000#32)) : S8x4096x1.Idx → EReal)
      = cube fun _ _ _ => Real.log 2 := funext fun y => by
    refine (broadcastInDim_apply _ _ _ y ix0 fun a => a.elim0).trans ?_
    show Ideal.log (Ideal.ofBits .f32 0x40000000#32) = _
    rw [word_two, Ideal.log_coe, if_neg (by norm_num)]
    rfl
  unfold hlse
  rw [hM, e1, e2]
  refine (congrArg (fun w => Host.divf (F := Ideal) (φ := .f32) w (cube fun _ _ _ => Real.log 2 : S8x4096x1.Idx → EReal)) (addf_cube (φ := .f32) _ _)).trans ?_
  refine (divf_cube _ _ fun _ _ _ _ _ _ => (Real.log_pos (by norm_num)).ne').trans ?_
  refine cube_congr fun h _ i hi _ _ => ?_
  rw [log_tot _ _ hi]
  rfl

theorem lse_real : lseRep (mat x) (mat cum) = mat fun i j => (full x o cum).lse (j / 128) i := by
  have e : (broadcastInDim S4096x8x128 ![0, 1, 2] bcast_S4096x8x1_S4096x8x128_0_1_2
      (transpose S4096x8x1 [1, 0, 2] (cube fun h i _ => (full x o cum).lse h i : S8x4096x1.Idx → EReal) transposes_S8x4096x1_S4096x8x1_1_0_2))
      = (cube fun i h _ => (full x o cum).lse h i : S4096x8x128.Idx → EReal) := funext fun y => by
    refine (broadcastInDim_apply _ _ _ y (ix3 (⟨(y 0).val, (y 0).isLt⟩ : Fin 4096) (⟨(y 1).val, (y 1).isLt⟩ : Fin 8) (0 : Fin 1)) fun a => ?_).trans
      ((transpose_apply _ _ _ _ (ix3 (⟨(y 1).val, (y 1).isLt⟩ : Fin 8) (⟨(y 0).val, (y 0).isLt⟩ : Fin 4096) (0 : Fin 1)) fun a => ?_).trans rfl)
    · match a with
      | ⟨0, _⟩ => rfl
      | ⟨1, _⟩ => rfl
      | ⟨2, _⟩ => rfl
    · match a with
      | ⟨0, _⟩ => rfl
      | ⟨1, _⟩ => rfl
      | ⟨2, _⟩ => rfl
  unfold lseRep
  rw [hlse_real x o cum, e]
  exact flat_cube _

theorem hp_real : hp (mat x) (mat cum) = cube fun h i j => soft ((bare x o cum).head h).lg i j := by
  obtain ⟨M, hM⟩ := hmax_real x cum
  unfold hp
  rw [hexp_real (o := o) hM, htot_real (o := o) hM, spread_cube]
  refine (divf_cube _ _ fun h _ i hi _ _ => (tot_pos _ hi).ne').trans (cube_congr fun h _ i _ j _ => ?_)
  exact soft_sub _ (M h) i j

theorem ho_real : ho (mat x) (mat cum) = cube fun i h d => ∑ j ∈ Finset.range 4096, x j ((16 + h) * 128 + d) * soft ((bare x o cum).head h).lg i j := by
  have e : Host.dotGeneral (F := Ideal) (φ₁ := .f32) (φ₂ := .f32) dot_S4096x8x128_S8x4096x4096_S8x128x4096_0_2_2_1_1_0 none (hv (mat x))
      (extf (F := Ideal) .f32 (truncf (F := Ideal) .bf16 (hp (mat x) (mat cum)) bitsLt_bf16_f32) bitsLt_bf16_f32)
      = cube fun h d i => ∑ j ∈ Finset.range 4096, x j ((16 + h) * 128 + d) * soft ((bare x o cum).head h).lg i j := by
    have ec : extf (F := Ideal) .f32 (truncf (F := Ideal) .bf16 (hp (mat x) (mat cum)) bitsLt_bf16_f32) bitsLt_bf16_f32
        = (cube fun h i j => soft ((bare x o cum).head h).lg i j : S8x4096x4096.Idx → EReal) := by rw [hp_real x o cum]; rfl
    rw [hv_real, ec]
    have hk := contrEquiv1_symm_val dot_S4096x8x128_S8x4096x4096_S8x128x4096_0_2_2_1_1_0 4096 rfl rfl
    refine dot_cube dot_S4096x8x128_S8x4096x4096_S8x128x4096_0_2_2_1_1_0 none (contrEquiv1 dot_S4096x8x128_S8x4096x4096_S8x128x4096_0_2_2_1_1_0 4096 rfl rfl) _ _ (fun h d i j => x j ((16 + h) * 128 + d)) (fun h d i j => soft ((bare x o cum).head h).lg i j) (fun y k => ?_) fun y k => ?_
    · rw [← hk k]; rfl
    · rw [← hk k]; rfl
  unfold ho
  rw [e]
  funext y
  refine (transpose_apply _ _ _ y (ix3 (⟨(y 1).val, (y 1).isLt⟩ : Fin 8) (⟨(y 2).val, (y 2).isLt⟩ : Fin 128) (⟨(y 0).val, (y 0).isLt⟩ : Fin 4096)) fun a => ?_).trans rfl
  match a with
  | ⟨0, _⟩ => rfl
  | ⟨1, _⟩ => rfl
  | ⟨2, _⟩ => rfl

theorem lift_lanes (j : S4096x8.Idx) (k : Fin 128) :
    (show S4096x8x128.Reduces [2] S4096x8 by decide).lift j k = ix3 (j 0) (j 1) k := by
  funext a; apply Fin.ext
  match a with
  | ⟨0, _⟩ => rfl
  | ⟨1, _⟩ => rfl
  | ⟨2, _⟩ => rfl

theorem hdl_real : hdl (mat x) (mat cum) (mat o) = mat fun i h => (full x o cum).dl h i := by
  have e : mulf (F := Ideal) (φ := .f32) (shapeCast S4096x8x128 (extf (F := Ideal) .f32 (mat o : S4096x1024.Idx → EReal) bitsLt_bf16_f32) shapeCasts_S4096x1024_S4096x8x128) (ho (mat x) (mat cum))
      = cube fun i h d => o i (h * 128 + d) * ∑ j ∈ Finset.range 4096, x j ((16 + h) * 128 + d) * soft ((bare x o cum).head h).lg i j := by
    rw [ho_real x o cum]
    exact (congrArg (fun w => mulf (F := Ideal) (φ := .f32) w (cube fun i h d => ∑ j ∈ Finset.range 4096, x j ((16 + h) * 128 + d) * soft ((bare x o cum).head h).lg i j : S4096x8x128.Idx → EReal))
      (byHead_mat o)).trans (mulf_cube _ _)
  have s := sum_last (φ := .f32) (fun i h d => o i (h * 128 + d) * ∑ j ∈ Finset.range 4096, x j ((16 + h) * 128 + d) * soft ((bare x o cum).head h).lg i j)
    (constant (F := Ideal) S_ .f32 0x00000000#32) (fun i => zero_apply i) reducesTo_S4096x8x128_S4096x8_d2 (by decide) h_S_ lift_lanes
  rw [← e] at s
  exact s

theorem dl_real : dlRep (mat x) (mat cum) (mat o) = mat fun i j => (full x o cum).dl (j / 128) i := by
  have e : (broadcastInDim S4096x8x128 ![0, 1, 2] bcast_S4096x8x1_S4096x8x128_0_1_2
      (broadcastInDim S4096x8x1 ![0, 1] bcast_S4096x8_S4096x8x1_0_1 (mat fun i h => (full x o cum).dl h i : S4096x8.Idx → EReal)))
      = (cube fun i h _ => (full x o cum).dl h i : S4096x8x128.Idx → EReal) := funext fun y => by
    refine (broadcastInDim_apply _ _ _ y (ix3 (⟨(y 0).val, (y 0).isLt⟩ : Fin 4096) (⟨(y 1).val, (y 1).isLt⟩ : Fin 8) (0 : Fin 1)) fun a => ?_).trans
      ((broadcastInDim_apply _ _ _ _ (ix2 (⟨(y 0).val, (y 0).isLt⟩ : Fin 4096) (⟨(y 1).val, (y 1).isLt⟩ : Fin 8)) fun a => ?_).trans rfl)
    · match a with
      | ⟨0, _⟩ => rfl
      | ⟨1, _⟩ => rfl
      | ⟨2, _⟩ => rfl
    · match a with
      | ⟨0, _⟩ => rfl
      | ⟨1, _⟩ => rfl
  unfold dlRep
  rw [hdl_real x o cum, e]
  exact flat_cube _

theorem cum_real : shapeCast S8x8x1x512 (mat cum : S8x4096.Idx → EReal) shapeCasts_S8x4096_S8x8x1x512 = cums cum := funext fun y => by
  have y0 : (y 0).val < 8 := (y 0).isLt
  have y1 : (y 1).val < 8 := (y 1).isLt
  have y2 : (y 2).val < 1 := (y 2).isLt
  have y3 : (y 3).val < 512 := (y 3).isLt
  refine (shapeCast_apply (s := S8x4096) (mat cum) _ y (ix2 (⟨(y 0).val, y0⟩ : Fin 8) (⟨512 * (y 1).val + (y 3).val, by omega⟩ : Fin 4096)) ?_).trans rfl
  rw [Shape.rowMajor_val_two, Shape.rowMajor_val_four]
  show (y 0).val * 4096 + (512 * (y 1).val + (y 3).val) = (((y 0).val * 8 + (y 1).val) * 1 + (y 2).val) * 512 + (y 3).val
  omega

/-- What the launch finds. -/
theorem finds {m : (ℓ : Loc nD τ sig) → Buf (Elt Ideal) ℓ} {c : Dev nD}
    (h0 : m ((c : Thread nD τ).loc main_arg0) = (mat x : S4096x7168.Idx → EReal)) (h1 : m ((c : Thread nD τ).loc main_arg1) = (mat cum : S8x4096.Idx → EReal))
    (h2 : m ((c : Thread nD τ).loc main_arg2) = (mat o : S4096x1024.Idx → EReal)) : Finds m c (full x o cum) where
  x := (V_main_arg0 m c).trans h0
  o := (V_main_arg2 m c).trans h2
  lse := by rw [V_lse, h0, h1]; exact lse_real x o cum
  dl := by rw [V_dl, h0, h1, h2]; exact dl_real x o cum
  cum := by rw [V_cum, h1]; exact cum_real cum

end Cert.KernelIdeal.Attn

end
-- ==== Proof.Attn.Finite.lean ====
/-
  Arrays without infinities are arrays of reals.
-/
module

public import proofs.«01_k».proof.Defs
public import proofs.«01_k».proof.Proof.Attn.Reals

@[expose] public section

noncomputable section

namespace Cert.KernelIdeal.Attn

open Idealize.ShloMosaic Idealize.ShloMosaic.LaneScatter Idealize.ShloMosaic.ValueIdx

/-- A number whose absolute value is below infinity is real. -/
theorem real_of_abs_lt {v : EReal} (h : Ideal.cmp .olt (max v (-v)) (Ideal.ofBits .f32 0x7F800000#32) = 1#1) : v ≠ ⊤ ∧ v ≠ ⊥ := by
  have htop : Ideal.ofBits .f32 0x7F800000#32 = ⊤ := by simp [Ideal.ofBits, Ideal.ieee]
  rw [htop] at h
  constructor
  · rintro rfl
    revert h
    simp [Ideal.cmp]
  · rintro rfl
    revert h
    simp [Ideal.cmp]

theorem mat_of_real {R C : ℕ} (X : (Blk R C).Idx → EReal) (h : ∀ y, X y ≠ ⊤ ∧ X y ≠ ⊥) : ∃ f : ℕ → ℕ → ℝ, X = mat f :=
  ⟨fun a b => if h : a < R ∧ b < C then (X (ix2 ⟨a, h.1⟩ ⟨b, h.2⟩)).toReal else 0, eq_mat fun a b => by
    rw [dif_pos ⟨a.isLt, b.isLt⟩]
    exact (EReal.coe_toReal (h _).1 (h _).2).symm⟩

variable [Cert.Pre_finite.Facts]

/-- What the precondition says of the arguments. -/
theorem reals_of_pre {m : (ℓ : Loc Cert.KernelIdeal.nD Cert.KernelIdeal.τ Cert.KernelIdeal.sig) → Buf (Elt Ideal) ℓ}
    (hp : Cert.Pre_KernelIdeal_finite m) (c : Dev Cert.KernelIdeal.nD) :
    ∃ x o cum : ℕ → ℕ → ℝ,
      m ((c.tc : Thread Cert.KernelIdeal.nD Cert.KernelIdeal.τ).loc Cert.KernelIdeal.main_arg0) = (mat x : (Blk 4096 7168).Idx → EReal)
      ∧ m ((c.tc : Thread Cert.KernelIdeal.nD Cert.KernelIdeal.τ).loc Cert.KernelIdeal.main_arg1) = (mat cum : (Blk 8 4096).Idx → EReal)
      ∧ m ((c.tc : Thread Cert.KernelIdeal.nD Cert.KernelIdeal.τ).loc Cert.KernelIdeal.main_arg2) = (mat o : (Blk 4096 1024).Idx → EReal) := by
  obtain ⟨p0, p1, p2⟩ := hp c
  obtain ⟨x, hx⟩ := mat_of_real (R := 4096) (C := 7168) (m ((c.tc : Thread Cert.KernelIdeal.nD Cert.KernelIdeal.τ).loc Cert.KernelIdeal.main_arg0))
    fun y => real_of_abs_lt ((congrArg (Ideal.cmp .olt _) (broadcastInDim_apply _ _ _ y ix0 fun a => a.elim0).symm).trans (congrFun p0 y))
  obtain ⟨cum, hc⟩ := mat_of_real (R := 8) (C := 4096) (m ((c.tc : Thread Cert.KernelIdeal.nD Cert.KernelIdeal.τ).loc Cert.KernelIdeal.main_arg1))
    fun y => real_of_abs_lt ((congrArg (Ideal.cmp .olt _) (broadcastInDim_apply _ _ _ y ix0 fun a => a.elim0).symm).trans (congrFun p1 y))
  obtain ⟨o, ho⟩ := mat_of_real (R := 4096) (C := 1024) (m ((c.tc : Thread Cert.KernelIdeal.nD Cert.KernelIdeal.τ).loc Cert.KernelIdeal.main_arg2))
    fun y => real_of_abs_lt ((congrArg (Ideal.cmp .olt _) (broadcastInDim_apply _ _ _ y ix0 fun a => a.elim0).symm).trans (congrFun p2 y))
  exact ⟨x, o, cum, hx, hc, ho⟩

end Cert.KernelIdeal.Attn

end
-- ==== Proof.Ref.Soft.lean ====
/-
  The reference's forward pass when the arguments are real: its logits, its causal softmax.
-/
module

public import proofs.«01_k».proof.Proof.Attn.HostReal
public import proofs.«01_k».proof.Proof.Gen.ReferenceIdeal.Read

@[expose] public section

set_option maxRecDepth 16384

noncomputable section

namespace Cert.ReferenceIdeal.Attn

open Cert.ReferenceIdeal Cert.ReferenceIdeal.Gen Cert.ReferenceIdeal.Read
open Cert.KernelIdeal.Attn (mat cube masked bare Given Head ce tot soft sc)
open Idealize.ShloMosaic Idealize.ShloMosaic.TcCoe Idealize.ShloMosaic.ValueIdx
open scoped BigOperators

variable (x o cum : ℕ → ℕ → ℝ)

/-- A head's logits, with the query's own cumulative sum. -/
def lr (h i j : ℕ) : ℝ := ((bare x o cum).head h).lg i j + cum h i

theorem r2 : val_main_v2 (F := Ideal) (mat x) = cube fun i h d => x i (h * 128 + d) := Cert.KernelIdeal.Attn.hq_real x
theorem r5 : val_main_v5 (F := Ideal) (mat x) = cube fun i h d => x i ((8 + h) * 128 + d) := Cert.KernelIdeal.Attn.hk_real x
theorem r8 : val_main_v8 (F := Ideal) (mat x) = cube fun i h d => x i ((16 + h) * 128 + d) := Cert.KernelIdeal.Attn.hv_real x
theorem r62 : val_main_v62 (F := Ideal) (mat o) = cube fun i h d => o i (h * 128 + d) := Cert.KernelIdeal.Attn.byHead_mat o
theorem r10 : val_main_v10 (F := Ideal) (mat x) = cube fun h i j => ((bare x o cum).head h).s i j := Cert.KernelIdeal.Attn.hs_real x

theorem r14 : val_main_v14 (F := Ideal) (mat x) = cube fun h i j => ((bare x o cum).head h).s i j * sc := by
  have e12 : val_main_v12 (F := Ideal) (mat x) = cube fun h i j => ((bare x o cum).head h).s i j := r10 x o cum
  have e13 : val_main_v13 (F := Ideal) = cube fun _ _ _ => sc := Cert.KernelIdeal.Attn.splat_cube Cert.KernelIdeal.Attn.word_scale
  unfold val_main_v14
  rw [e12, e13]
  exact Cert.KernelIdeal.Attn.mulf_cube _ _

theorem r20 : val_main_v20 (F := Ideal) (mat x) (mat cum) = cube (lr x o cum) := by
  have e16 : val_main_v16 (F := Ideal) (mat cum) = cube fun h i _ => cum h i := by
    have e15 : val_main_v15 (F := Ideal) (mat cum) = cube fun h i _ => cum h i := Cert.KernelIdeal.Attn.thin_mat cum
    unfold val_main_v16
    rw [e15]
    exact Cert.KernelIdeal.Attn.spread_cube cum
  have e17 : val_main_v17 (F := Ideal) (mat x) (mat cum) = cube fun h i j => ((bare x o cum).head h).s i j * sc + cum h i := by
    unfold val_main_v17
    rw [r14 x o cum, e16]
    exact Cert.KernelIdeal.Attn.addf_cube _ _
  have e19 : val_main_v19 (F := Ideal) (mat cum) = cube fun h _ j => cum h j := Cert.KernelIdeal.Attn.keys_cube cum
  unfold val_main_v20
  rw [e17, e19]
  refine (Cert.KernelIdeal.Attn.subf_cube _ _).trans (Cert.KernelIdeal.Attn.cube_congr fun h _ i _ j _ => ?_)
  show _ = ((bare x o cum).head h).s i j * sc - cum h j + cum h i
  ring

theorem r28 : val_main_v28_0 (F := Ideal) (mat x) (mat cum) = masked (lr x o cum) := by
  have e := Cert.KernelIdeal.Attn.select_masked (lr x o cum) (val_main_call0_v2 (F := Ideal)) (fun y => (broadcastInDim_apply _ _ _ y ix0 fun a => a.elim0).trans Cert.KernelIdeal.Attn.word_bot)
  rw [← r20 x o cum] at e
  exact e

theorem lift_rows (j : S8x4096.Idx) (k : Fin 4096) : (show S8x4096x4096.Reduces [2] S8x4096 by decide).lift j k = ix3 (j 0) (j 1) k :=
  Cert.KernelIdeal.Attn.lift_rows j k

/-- The rows' maxima, at least minus infinity, are real. -/
theorem r46 : ∃ M : ℕ → ℕ → ℝ, val_main_v46 (F := Ideal) (mat x) (mat cum) = cube fun h i _ => M h i := by
  obtain ⟨M, hM⟩ := Cert.KernelIdeal.Attn.max_masked (lr x (fun _ _ => 0) cum) (val_main_cst_1 (F := Ideal)) (fun _ => Cert.KernelIdeal.Attn.word_bot)
    reducesTo_S8x4096x4096_S8x4096_d2 (by decide) h_S_ (by decide) lift_rows
  rw [← r28 x (fun _ _ => 0) cum] at hM
  have e29 : val_main_v29 (F := Ideal) (mat x) (mat cum) = mat M := hM
  have e36 : val_main_v36 (F := Ideal) (mat x) (mat cum) = mat M := by
    unfold val_main_v36
    rw [e29]
    funext y
    have eb : val_main_v35 (F := Ideal) y = ⊥ := (broadcastInDim_apply _ _ _ y ix0 fun a => a.elim0).trans Cert.KernelIdeal.Attn.word_bot
    show max (val_main_v35 (F := Ideal) y) (mat M y) = mat M y
    rw [eb, max_eq_right bot_le]
  refine ⟨M, ?_⟩
  unfold val_main_v46
  rw [e36]
  exact Cert.KernelIdeal.Attn.thin_mat M

section
variable {x cum} {M : ℕ → ℕ → ℝ} (hM : val_main_v46 (F := Ideal) (mat x) (mat cum) = cube fun h i _ => M h i)
include hM

/-- The exponentials, and the rows' totals. -/
theorem r49 : val_main_v49 (F := Ideal) (mat x) (mat cum) = cube fun h i j => ce (fun i j => lr x o cum h i j - M h i) i j := by
  unfold val_main_v49 val_main_v48 val_main_v47
  rw [hM, r28 x o cum]
  exact (congrArg (fun w => Host.exp (F := Ideal) (φ := .f32) (subf (F := Ideal) (φ := .f32) (masked (lr x o cum) : S8x4096x4096.Idx → EReal) w))
    (Cert.KernelIdeal.Attn.spread_cube M)).trans (Cert.KernelIdeal.Attn.exp_masked _ M)

theorem r51 : val_main_v51 (F := Ideal) (mat x) (mat cum) = cube fun h i _ => tot (fun i j => lr x o cum h i j - M h i) i := by
  have e := Cert.KernelIdeal.Attn.sum_last (φ := .f32) (fun h i j => ce (fun i j => lr x o cum h i j - M h i) i j) (val_main_cst_9 (F := Ideal))
    (fun i => Cert.KernelIdeal.Attn.zero_apply (s := S_) i) reducesTo_S8x4096x4096_S8x4096_d2 (by decide) h_S_ lift_rows
  rw [← r49 o hM] at e
  have e50 : val_main_v50 (F := Ideal) (mat x) (mat cum) = mat fun h i => tot (fun i j => lr x o cum h i j - M h i) i := e
  unfold val_main_v51
  rw [e50]
  exact Cert.KernelIdeal.Attn.thin_mat _

end

/-- The softmax does not see the query's own cumulative sum, nor the maximum. -/
theorem soft_lr (M : ℕ → ℝ) (h i j : ℕ) : soft (fun i j => lr x o cum h i j - M i) i j = soft ((bare x o cum).head h).lg i j :=
  (Cert.KernelIdeal.Attn.soft_sub _ M i j).trans (Cert.KernelIdeal.Attn.soft_add ((bare x o cum).head h).lg (fun i => cum h i) i j)

theorem r58 : val_main_v58 (F := Ideal) (mat x) (mat cum) = cube fun h i j => soft ((bare x o cum).head h).lg i j := by
  obtain ⟨M, hM⟩ := r46 x cum
  have e52 : val_main_v52 (F := Ideal) (mat x) (mat cum) = cube fun h i _ => tot (fun i j => lr x o cum h i j - M h i) i := by
    unfold val_main_v52
    rw [r51 o hM]
    exact Cert.KernelIdeal.Attn.spread_cube _
  have e53 : val_main_v53 (F := Ideal) (mat x) (mat cum) = cube fun h i j => soft ((bare x o cum).head h).lg i j := by
    unfold val_main_v53
    rw [r49 o hM, e52]
    refine (Cert.KernelIdeal.Attn.divf_cube _ _ fun h _ i hi _ _ => (Cert.KernelIdeal.Attn.tot_pos _ hi).ne').trans (Cert.KernelIdeal.Attn.cube_congr fun h _ i _ j _ => ?_)
    exact soft_lr x o cum (M h) h i j
  exact e53

end Cert.ReferenceIdeal.Attn

end
-- ==== Proof.Ref.Ops.lean ====
/-
  What the operations of the reference's backward pass do to arrays of reals.
-/
module

public import proofs.«01_k».proof.Proof.Ref.Soft
public import proofs.«01_k».proof.Proof.Attn.Final

@[expose] public section

set_option maxRecDepth 16384

noncomputable section

namespace Cert.ReferenceIdeal.Attn

open Cert.ReferenceIdeal Cert.ReferenceIdeal.Gen Cert.ReferenceIdeal.Read
open Cert.KernelIdeal.Attn (mat cube Cub eq_mat rows88 coe_sum)
open Idealize.ShloMosaic Idealize.ShloMosaic.TcCoe Idealize.ShloMosaic.ValueIdx Idealize.ShloMosaic.LaneScatter
open scoped BigOperators

theorem negf_cube {A B C : ℕ} (f : ℕ → ℕ → ℕ → ℝ) :
    Host.negf (F := Ideal) (φ := .f32) (cube f : (Cub A B C).Idx → EReal) = cube fun a b c => -f a b c :=
  funext fun _ => (EReal.coe_neg _).symm

theorem negf_mat {A B : ℕ} (f : ℕ → ℕ → ℝ) : Host.negf (F := Ideal) (φ := .f32) (mat f : (Blk A B).Idx → EReal) = mat fun a b => -f a b :=
  funext fun _ => (EReal.coe_neg _).symm

/-- One number for each head and row, as a thin block, and for each head and column. -/
theorem thin_cast (f : ℕ → ℕ → ℝ) : shapeCast S8x4096x1 (mat f : S8x4096.Idx → EReal) shapeCasts_S8x4096_S8x4096x1 = cube fun h i _ => f h i :=
  funext fun y => by
    have y2 : (y 2).val < 1 := (y 2).isLt
    refine (shapeCast_apply (s := S8x4096) (mat f) _ y (ix2 (⟨(y 0).val, (y 0).isLt⟩ : Fin 8) (⟨(y 1).val, (y 1).isLt⟩ : Fin 4096)) ?_).trans rfl
    rw [Shape.rowMajor_val_two, Shape.rowMajor_val_three]
    show (y 0).val * 4096 + (y 1).val = ((y 0).val * 4096 + (y 1).val) * 1 + (y 2).val
    omega

theorem wide_cast (f : ℕ → ℕ → ℝ) : shapeCast S8x1x4096 (mat f : S8x4096.Idx → EReal) shapeCasts_S8x4096_S8x1x4096 = cube fun h _ j => f h j :=
  funext fun y => by
    have y1 : (y 1).val < 1 := (y 1).isLt
    refine (shapeCast_apply (s := S8x4096) (mat f) _ y (ix2 (⟨(y 0).val, (y 0).isLt⟩ : Fin 8) (⟨(y 2).val, (y 2).isLt⟩ : Fin 4096)) ?_).trans rfl
    rw [Shape.rowMajor_val_two, Shape.rowMajor_val_three]
    show (y 0).val * 4096 + (y 2).val = ((y 0).val * 1 + (y 1).val) * 4096 + (y 2).val
    omega

/-- Sums along the middle axis. -/
theorem sum_mid {A B C : ℕ} {u : Shape} (f : ℕ → ℕ → ℕ → ℝ) (z : u.Idx → EReal) (hz : ∀ i, z i = 0)
    (h' : (Cub A B C).ReducesTo [1] (Blk A C)) (h : (Cub A B C).Reduces [1] (Blk A C)) (hu : 0 < u.numel)
    (hl : ∀ (j : (Blk A C).Idx) (k : Fin B), h.lift j k = ix3 (j 0) k (j 1)) :
    Host.reduceAdd (F := Ideal) (φ := .f32) (cube f : (Cub A B C).Idx → EReal) z h' hu = mat fun a c => ∑ b ∈ Finset.range B, f a b c :=
  funext fun j => by
    rw [hostReduceAdd_apply, Ideal.hostReduceAdd_single h' h, hz, zero_add]
    show _ = ((∑ b ∈ Finset.range B, f (j 0).val b (j 1).val : ℝ) : EReal)
    rw [coe_sum, Finset.sum_range (fun b => ((f (j 0).val b (j 1).val : ℝ) : EReal))]
    exact Finset.sum_congr rfl fun k _ => congrArg (cube f) (hl j k)

theorem lift_thin (j : S8x4096.Idx) (k : Fin 1) : (show S8x4096x1.Reduces [2] S8x4096 by decide).lift j k = ix3 (j 0) (j 1) k := by
  funext a; apply Fin.ext
  match a with
  | ⟨0, _⟩ => rfl
  | ⟨1, _⟩ => rfl
  | ⟨2, _⟩ => rfl

theorem lift_wide (j : S8x4096.Idx) (k : Fin 1) : (show S8x1x4096.Reduces [1] S8x4096 by decide).lift j k = ix3 (j 0) k (j 1) := by
  funext a; apply Fin.ext
  match a with
  | ⟨0, _⟩ => rfl
  | ⟨1, _⟩ => rfl
  | ⟨2, _⟩ => rfl

theorem lift_cols (j : S8x4096.Idx) (k : Fin 4096) : (show S8x4096x4096.Reduces [1] S8x4096 by decide).lift j k = ix3 (j 0) k (j 1) := by
  funext a; apply Fin.ext
  match a with
  | ⟨0, _⟩ => rfl
  | ⟨1, _⟩ => rfl
  | ⟨2, _⟩ => rfl

/-- One number for each head and row, at every column. -/
theorem over_cols (f : ℕ → ℕ → ℝ) : broadcastInDim S8x4096x4096 ![0, 1] bcast_S8x4096_S8x4096x4096_0_1 (mat f : S8x4096.Idx → EReal) = cube fun h i _ => f h i :=
  funext fun y => by
    refine (broadcastInDim_apply _ _ _ y (ix2 (⟨(y 0).val, (y 0).isLt⟩ : Fin 8) (⟨(y 1).val, (y 1).isLt⟩ : Fin 4096)) fun a => ?_).trans rfl
    match a with
    | ⟨0, _⟩ => rfl
    | ⟨1, _⟩ => rfl

/-- The mask keeps an array that vanishes beyond it. -/
theorem select_zero_beyond (f : ℕ → ℕ → ℕ → ℝ) (h0 : ∀ a b c, b < c → f a b c = 0) :
    select (broadcastInDim S8x4096x4096 ![1, 2] bcast_S4096x4096_S8x4096x4096_1_2 Cert.KernelIdeal.Attn.seen) (cube f : S8x4096x4096.Idx → EReal)
      (val_main_call1_v0 (F := Ideal)) = cube f :=
  funext fun y => by
    have e : broadcastInDim S8x4096x4096 ![1, 2] bcast_S4096x4096_S8x4096x4096_1_2 Cert.KernelIdeal.Attn.seen y = if (y 2).val ≤ (y 1).val then 1#1 else 0#1 := by
      refine (broadcastInDim_apply _ _ _ y (ix2 (⟨(y 1).val, (y 1).isLt⟩ : Fin 4096) (⟨(y 2).val, (y 2).isLt⟩ : Fin 4096)) fun a => ?_).trans (Cert.KernelIdeal.Attn.seen_apply _)
      match a with
      | ⟨0, _⟩ => rfl
      | ⟨1, _⟩ => rfl
    have ez : val_main_call1_v0 (F := Ideal) y = ((0 : ℝ) : EReal) := (broadcastInDim_apply _ _ _ y ix0 fun a => a.elim0).trans Cert.KernelIdeal.Attn.word_zero
    rw [select_apply, e]
    split
    · rw [select_one]
    · rename_i hn
      rw [select_zero, ez]
      exact congrArg _ (h0 _ _ _ (Nat.lt_of_not_le hn)).symm

/-- A row of numbers for each head, eight times over. -/
theorem rows_mat (f : ℕ → ℕ → ℝ) :
    broadcastInDim S8x8x4096 ![0, 1, 2] bcast_S8x1x4096_S8x8x4096_0_1_2 (broadcastInDim S8x1x4096 ![0, 2] bcast_S8x4096_S8x1x4096_0_2 (mat f : S8x4096.Idx → EReal))
      = rows88 f := funext fun y => by
  refine (broadcastInDim_apply _ _ _ y (ix3 (⟨(y 0).val, (y 0).isLt⟩ : Fin 8) (0 : Fin 1) (⟨(y 2).val, (y 2).isLt⟩ : Fin 4096)) fun a => ?_).trans
    ((broadcastInDim_apply _ _ _ _ (ix2 (⟨(y 0).val, (y 0).isLt⟩ : Fin 8) (⟨(y 2).val, (y 2).isLt⟩ : Fin 4096)) fun a => ?_).trans rfl)
  · match a with
    | ⟨0, _⟩ => rfl
    | ⟨1, _⟩ => rfl
    | ⟨2, _⟩ => rfl
  · match a with
    | ⟨0, _⟩ => rfl
    | ⟨1, _⟩ => rfl

/-- The three axes in another order. -/
theorem swap_rows (f : ℕ → ℕ → ℕ → ℝ) :
    transpose S4096x8x128 [1, 0, 2] (cube f : S8x4096x128.Idx → EReal) transposes_S8x4096x128_S4096x8x128_1_0_2 = cube fun i h d => f h i d :=
  funext fun y => by
    refine (transpose_apply _ _ _ y (ix3 (⟨(y 1).val, (y 1).isLt⟩ : Fin 8) (⟨(y 0).val, (y 0).isLt⟩ : Fin 4096) (⟨(y 2).val, (y 2).isLt⟩ : Fin 128)) fun a => ?_).trans rfl
    match a with
    | ⟨0, _⟩ => rfl
    | ⟨1, _⟩ => rfl
    | ⟨2, _⟩ => rfl

theorem swap_last (f : ℕ → ℕ → ℕ → ℝ) :
    transpose S4096x8x128 [2, 0, 1] (cube f : S8x128x4096.Idx → EReal) transposes_S8x128x4096_S4096x8x128_2_0_1 = cube fun i h d => f h d i :=
  funext fun y => by
    refine (transpose_apply _ _ _ y (ix3 (⟨(y 1).val, (y 1).isLt⟩ : Fin 8) (⟨(y 2).val, (y 2).isLt⟩ : Fin 128) (⟨(y 0).val, (y 0).isLt⟩ : Fin 4096)) fun a => ?_).trans rfl
    match a with
    | ⟨0, _⟩ => rfl
    | ⟨1, _⟩ => rfl
    | ⟨2, _⟩ => rfl

theorem swap_first (f : ℕ → ℕ → ℕ → ℝ) :
    transpose S8x128x4096 [1, 2, 0] (cube f : S4096x8x128.Idx → EReal) transposes_S4096x8x128_S8x128x4096_1_2_0 = cube fun h d i => f i h d :=
  funext fun y => by
    refine (transpose_apply _ _ _ y (ix3 (⟨(y 2).val, (y 2).isLt⟩ : Fin 4096) (⟨(y 0).val, (y 0).isLt⟩ : Fin 8) (⟨(y 1).val, (y 1).isLt⟩ : Fin 128)) fun a => ?_).trans rfl
    match a with
    | ⟨0, _⟩ => rfl
    | ⟨1, _⟩ => rfl
    | ⟨2, _⟩ => rfl

end Cert.ReferenceIdeal.Attn

end
-- ==== Proof.Ref.Grad.lean ====
/-
  The reference's backward pass when the arguments are real: the gradient of its logits.
-/
module

public import proofs.«01_k».proof.Proof.Ref.Ops

@[expose] public section

set_option maxRecDepth 16384

noncomputable section

namespace Cert.ReferenceIdeal.Attn

open Cert.ReferenceIdeal Cert.ReferenceIdeal.Gen Cert.ReferenceIdeal.Read
open Cert.KernelIdeal.Attn (mat cube cube_congr bare full full_ready Head ce tot soft sc mulf_cube addf_cube divf_cube spread_cube sum_last dot_cube tot_pos)
open Idealize.ShloMosaic Idealize.ShloMosaic.TcCoe Idealize.ShloMosaic.ValueIdx
open scoped BigOperators

variable (x o cum : ℕ → ℕ → ℝ)

theorem r63 : val_main_v63 (F := Ideal) (mat o) = cube fun h d i => o i (h * 128 + d) := by
  unfold val_main_v63
  rw [r62]
  exact swap_first _

/-- The products of the cotangents with the values. -/
theorem r64 : val_main_v64 (F := Ideal) (mat x) (mat o) = cube fun h i j => ((full x o cum).head h).dp i j := by
  unfold val_main_v64
  rw [r63, r8]
  have hk := contrEquiv1_symm_val dot_S8x128x4096_S4096x8x128_S8x4096x4096_1_2_2_0_0_1 128 rfl rfl
  refine dot_cube dot_S8x128x4096_S4096x8x128_S8x4096x4096_1_2_2_0_0_1 none (contrEquiv1 dot_S8x128x4096_S4096x8x128_S8x4096x4096_1_2_2_0_0_1 128 rfl rfl) _ _
    (fun h i j d => o i (h * 128 + d)) (fun h i j d => x j ((16 + h) * 128 + d)) (fun y k => ?_) fun y k => ?_
  · rw [← hk k]; rfl
  · rw [← hk k]; rfl

theorem r68 : val_main_v68 (F := Ideal) (mat x) (mat o) = cube fun h i j => ((full x o cum).head h).dp i j := r64 x o cum

/-- The gradient of the values, head by head. -/
theorem r66 : val_main_v66 (F := Ideal) (mat x) (mat cum) (mat o)
    = cube fun j h d => ∑ i ∈ Finset.range 4096, o i (h * 128 + d) * soft ((bare x o cum).head h).lg i j := by
  have e : val_main_v65 (F := Ideal) (mat x) (mat cum) (mat o)
      = cube fun h d j => ∑ i ∈ Finset.range 4096, o i (h * 128 + d) * soft ((bare x o cum).head h).lg i j := by
    unfold val_main_v65
    rw [r63, r58 x o cum]
    have hk := contrEquiv1_symm_val dot_S8x128x4096_S8x4096x4096_S8x128x4096_2_1_1_2_0_0 4096 rfl rfl
    refine dot_cube dot_S8x128x4096_S8x4096x4096_S8x128x4096_2_1_1_2_0_0 none (contrEquiv1 dot_S8x128x4096_S8x4096x4096_S8x128x4096_2_1_1_2_0_0 4096 rfl rfl) _ _
      (fun h d j i => o i (h * 128 + d)) (fun h d j i => soft ((bare x o cum).head h).lg i j) (fun y k => ?_) fun y k => ?_
    · rw [← hk k]; rfl
    · rw [← hk k]; rfl
  unfold val_main_v66
  rw [e]
  exact swap_last _

/-- The gradient of a softmax, from its exponentials and their total, with the totals divided out one by one. -/
theorem soft_grad (E T D : ℕ → ℕ → ℝ) (i j : ℕ) (hT : T i 0 ≠ 0) :
    (D i j / T i 0 + -∑ k ∈ Finset.range 4096, D i k * (1 / (T i 0 * T i 0)) * E i k) * E i j
      = E i j / T i 0 * (D i j - ∑ k ∈ Finset.range 4096, E i k / T i 0 * D i k) := by
  have e : ∑ k ∈ Finset.range 4096, D i k * (1 / (T i 0 * T i 0)) * E i k = (∑ k ∈ Finset.range 4096, E i k / T i 0 * D i k) / T i 0 := by
    rw [Finset.sum_div]
    exact Finset.sum_congr rfl fun k _ => by field_simp
  rw [e]
  field_simp
  ring

/-- The kernel's gradient of the logits, in the softmax's terms. -/
theorem ds_soft (h : ℕ) {i : ℕ} (hi : i < 4096) (j : ℕ) : ((full x o cum).head h).ds i j
    = soft ((bare x o cum).head h).lg i j * (((full x o cum).head h).dp i j
      - ∑ k ∈ Finset.range 4096, soft ((bare x o cum).head h).lg i k * ((full x o cum).head h).dp i k) := by
  rw [Head.ds, (full_ready x o cum h).w_eq hi, (full_ready x o cum h).dl_eq hi]
  rfl

variable (M : ℕ → ℕ → ℝ) (hM : val_main_v46 (F := Ideal) (mat x) (mat cum) = cube fun h i _ => M h i)
include hM

theorem r56 : val_main_v56 (F := Ideal) (mat x) (mat cum)
    = cube fun h i _ => 1 / (tot (fun i j => lr x o cum h i j - M h i) i * tot (fun i j => lr x o cum h i j - M h i) i) := by
  have e54 : val_main_v54 (F := Ideal) (mat x) (mat cum)
      = cube fun h i _ => tot (fun i j => lr x o cum h i j - M h i) i * tot (fun i j => lr x o cum h i j - M h i) i := by
    unfold val_main_v54
    rw [r51 o hM]
    exact mulf_cube _ _
  have e55 : val_main_v55 (F := Ideal) = cube fun _ _ _ => 1 := funext fun y =>
    (broadcastInDim_apply _ _ _ y ix0 fun a => a.elim0).trans (by
      show Ideal.ofBits .f32 0x3F800000#32 = ((1 : ℝ) : EReal)
      simp [Ideal.ofBits, Ideal.ieee, -EReal.coe_mul]; norm_num)
  unfold val_main_v56
  rw [e54, e55]
  exact divf_cube _ _ fun h _ i hi _ _ => (mul_pos (tot_pos _ hi) (tot_pos _ hi)).ne'

/-- The rows' sums in the quotient's derivative. -/
theorem r78 : val_main_v78 (F := Ideal) (mat x) (mat cum) (mat o)
    = cube fun h i _ => -∑ k ∈ Finset.range 4096, ((full x o cum).head h).dp i k
        * (1 / (tot (fun i j => lr x o cum h i j - M h i) i * tot (fun i j => lr x o cum h i j - M h i) i)) * ce (fun i j => lr x o cum h i j - M h i) i k := by
  have e69 : val_main_v69 (F := Ideal) (mat x) (mat cum)
      = cube fun h i _ => 1 / (tot (fun i j => lr x o cum h i j - M h i) i * tot (fun i j => lr x o cum h i j - M h i) i) := by
    unfold val_main_v69
    rw [r56 x o cum M hM]
    exact spread_cube _
  have e70 : val_main_v70 (F := Ideal) (mat x) (mat cum) (mat o)
      = cube fun h i k => ((full x o cum).head h).dp i k
        * (1 / (tot (fun i j => lr x o cum h i j - M h i) i * tot (fun i j => lr x o cum h i j - M h i) i)) := by
    unfold val_main_v70
    rw [r68 x o cum, e69]
    exact mulf_cube _ _
  have e71 : val_main_v71 (F := Ideal) (mat x) (mat cum) (mat o)
      = cube fun h i k => ((full x o cum).head h).dp i k
        * (1 / (tot (fun i j => lr x o cum h i j - M h i) i * tot (fun i j => lr x o cum h i j - M h i) i)) * ce (fun i j => lr x o cum h i j - M h i) i k := by
    unfold val_main_v71
    rw [e70, r49 o hM]
    exact mulf_cube _ _
  have s := sum_last (φ := .f32) (fun h i k => ((full x o cum).head h).dp i k
        * (1 / (tot (fun i j => lr x o cum h i j - M h i) i * tot (fun i j => lr x o cum h i j - M h i) i)) * ce (fun i j => lr x o cum h i j - M h i) i k)
    (val_main_cst_11 (F := Ideal)) (fun i => Cert.KernelIdeal.Attn.zero_apply (s := S_) i) reducesTo_S8x4096x4096_S8x4096_d2 (by decide) h_S_ lift_rows
  rw [← e71] at s
  have e72 : val_main_v72 (F := Ideal) (mat x) (mat cum) (mat o) = mat fun h i => ∑ k ∈ Finset.range 4096, ((full x o cum).head h).dp i k
        * (1 / (tot (fun i j => lr x o cum h i j - M h i) i * tot (fun i j => lr x o cum h i j - M h i) i)) * ce (fun i j => lr x o cum h i j - M h i) i k := s
  have e74 : val_main_v74 (F := Ideal) (mat x) (mat cum) (mat o) = cube fun h i _ => -∑ k ∈ Finset.range 4096, ((full x o cum).head h).dp i k
        * (1 / (tot (fun i j => lr x o cum h i j - M h i) i * tot (fun i j => lr x o cum h i j - M h i) i)) * ce (fun i j => lr x o cum h i j - M h i) i k := by
    unfold val_main_v74 val_main_v73
    rw [e72, thin_cast]
    exact negf_cube _
  have s2 := sum_last (φ := .f32) (fun h i _ => -∑ k ∈ Finset.range 4096, ((full x o cum).head h).dp i k
        * (1 / (tot (fun i j => lr x o cum h i j - M h i) i * tot (fun i j => lr x o cum h i j - M h i) i)) * ce (fun i j => lr x o cum h i j - M h i) i k)
    (val_main_cst_12 (F := Ideal)) (fun i => Cert.KernelIdeal.Attn.zero_apply (s := S_) i) reducesTo_S8x4096x1_S8x4096_d2 (by decide) h_S_ lift_thin
  rw [← e74] at s2
  simp only [Finset.sum_range_one] at s2
  have e77 : val_main_v77 (F := Ideal) (mat x) (mat cum) (mat o) = mat fun h i => -∑ k ∈ Finset.range 4096, ((full x o cum).head h).dp i k
        * (1 / (tot (fun i j => lr x o cum h i j - M h i) i * tot (fun i j => lr x o cum h i j - M h i) i)) * ce (fun i j => lr x o cum h i j - M h i) i k := s2
  unfold val_main_v78
  rw [e77]
  exact over_cols _

theorem r80 : val_main_v80 (F := Ideal) (mat x) (mat cum) (mat o) = cube fun h i j => ((full x o cum).head h).ds i j := by
  have e75 : val_main_v75 (F := Ideal) (mat x) (mat cum) = cube fun h i _ => tot (fun i j => lr x o cum h i j - M h i) i := by
    unfold val_main_v75
    rw [r51 o hM]
    exact spread_cube _
  have e76 : val_main_v76 (F := Ideal) (mat x) (mat cum) (mat o)
      = cube fun h i j => ((full x o cum).head h).dp i j / tot (fun i j => lr x o cum h i j - M h i) i := by
    unfold val_main_v76
    rw [r68 x o cum, e75]
    exact divf_cube _ _ fun h _ i hi _ _ => (tot_pos _ hi).ne'
  have e79 : val_main_v79 (F := Ideal) (mat x) (mat cum) (mat o)
      = cube fun h i j => ((full x o cum).head h).dp i j / tot (fun i j => lr x o cum h i j - M h i) i
        + -∑ k ∈ Finset.range 4096, ((full x o cum).head h).dp i k
        * (1 / (tot (fun i j => lr x o cum h i j - M h i) i * tot (fun i j => lr x o cum h i j - M h i) i)) * ce (fun i j => lr x o cum h i j - M h i) i k := by
    unfold val_main_v79
    rw [e76, r78 x o cum M hM]
    exact addf_cube _ _
  unfold val_main_v80
  rw [e79, r49 o hM]
  refine (mulf_cube _ _).trans (cube_congr fun h _ i hi j _ => ?_)
  refine (soft_grad (ce fun i j => lr x o cum h i j - M h i) (fun i _ => tot (fun i j => lr x o cum h i j - M h i) i) ((full x o cum).head h).dp i j (tot_pos _ hi).ne').trans ?_
  have es : ∀ k, ce (fun i j => lr x o cum h i j - M h i) i k / tot (fun i j => lr x o cum h i j - M h i) i = soft ((bare x o cum).head h).lg i k :=
    fun k => soft_lr x o cum (M h) h i k
  simp only [es]
  exact (ds_soft x o cum h hi j).symm

omit hM in
/-- The gradient of the logits. -/
theorem r81 : val_main_v81 (F := Ideal) (mat x) (mat cum) (mat o) = cube fun h i j => ((full x o cum).head h).ds i j := by
  obtain ⟨M, hM⟩ := r46 x cum
  have e := select_zero_beyond (fun h i j => ((full x o cum).head h).ds i j) fun h i j hj => Head.ds_of_lt _ hj
  rw [← r80 x o cum M hM] at e
  exact e.trans (r80 x o cum M hM)

end Cert.ReferenceIdeal.Attn

end
-- ==== Proof.Ref.Results.lean ====
/-
  The reference's five results when the arguments are real: the kernel's.
-/
module

public import proofs.«01_k».proof.Proof.Ref.Grad

@[expose] public section

set_option maxRecDepth 16384

noncomputable section

namespace Cert.ReferenceIdeal.Attn

open Cert.ReferenceIdeal Cert.ReferenceIdeal.Gen Cert.ReferenceIdeal.Read
open Cert.KernelIdeal.Attn (mat cube cube_congr bare full full_ready Head Given soft sc mulf_cube sum_last dot_cube rows88 beside beside_ge)
open Idealize.ShloMosaic Idealize.ShloMosaic.TcCoe Idealize.ShloMosaic.ValueIdx Idealize.ShloMosaic.LaneScatter
open scoped BigOperators

variable (x o cum : ℕ → ℕ → ℝ)

theorem mat_congr {A B : ℕ} {f g : ℕ → ℕ → ℝ} (h : ∀ a < A, ∀ b < B, f a b = g a b) : (mat f : (Blk A B).Idx → EReal) = mat g :=
  funext fun y => congrArg _ (h _ (y 0).isLt _ (y 1).isLt)

/-- The gradient of the products of queries with keys. -/
theorem r92 : val_main_v92 (F := Ideal) (mat x) (mat cum) (mat o) = cube fun h i j => ((full x o cum).head h).ds i j * sc := by
  have e89 : val_main_v89 (F := Ideal) = cube fun _ _ _ => sc := Cert.KernelIdeal.Attn.splat_cube Cert.KernelIdeal.Attn.word_scale
  have e90 : val_main_v90 (F := Ideal) (mat x) (mat cum) (mat o) = cube fun h i j => ((full x o cum).head h).ds i j * sc := by
    unfold val_main_v90
    rw [r81 x o cum, e89]
    exact mulf_cube _ _
  exact e90

theorem r94 : val_main_v94 (F := Ideal) (mat x) (mat cum) (mat o)
    = cube fun j h d => ∑ i ∈ Finset.range 4096, ((full x o cum).head h).ds i j * sc * x i (h * 128 + d) := by
  have e : val_main_v93 (F := Ideal) (mat x) (mat cum) (mat o)
      = cube fun h j d => ∑ i ∈ Finset.range 4096, ((full x o cum).head h).ds i j * sc * x i (h * 128 + d) := by
    unfold val_main_v93
    rw [r92 x o cum, r2]
    have hk := contrEquiv1_symm_val dot_S8x4096x4096_S4096x8x128_S8x4096x128_1_0_2_2_0_1 4096 rfl rfl
    refine dot_cube dot_S8x4096x4096_S4096x8x128_S8x4096x128_1_0_2_2_0_1 none (contrEquiv1 dot_S8x4096x4096_S4096x8x128_S8x4096x128_1_0_2_2_0_1 4096 rfl rfl) _ _
      (fun h j d i => ((full x o cum).head h).ds i j * sc) (fun h j d i => x i (h * 128 + d)) (fun y k => ?_) fun y k => ?_
    · rw [← hk k]; rfl
    · rw [← hk k]; rfl
  unfold val_main_v94
  rw [e]
  exact swap_rows _

theorem r96 : val_main_v96 (F := Ideal) (mat x) (mat cum) (mat o)
    = cube fun i h d => ∑ j ∈ Finset.range 4096, ((full x o cum).head h).ds i j * sc * x j ((8 + h) * 128 + d) := by
  have e : val_main_v95 (F := Ideal) (mat x) (mat cum) (mat o)
      = cube fun h i d => ∑ j ∈ Finset.range 4096, ((full x o cum).head h).ds i j * sc * x j ((8 + h) * 128 + d) := by
    unfold val_main_v95
    rw [r92 x o cum, r5]
    have hk := contrEquiv1_symm_val dot_S8x4096x4096_S4096x8x128_S8x4096x128_2_0_1_2_0_1 4096 rfl rfl
    refine dot_cube dot_S8x4096x4096_S4096x8x128_S8x4096x128_2_0_1_2_0_1 none (contrEquiv1 dot_S8x4096x4096_S4096x8x128_S8x4096x128_2_0_1_2_0_1 4096 rfl rfl) _ _
      (fun h i d j => ((full x o cum).head h).ds i j * sc) (fun h i d j => x j ((8 + h) * 128 + d)) (fun y k => ?_) fun y k => ?_
    · rw [← hk k]; rfl
    · rw [← hk k]; rfl
  unfold val_main_v96
  rw [e]
  exact swap_rows _

theorem head_q (h i d : ℕ) : ((full x o cum).head h).q i d = x i (h * 128 + d) := rfl
theorem head_k (h j d : ℕ) : ((full x o cum).head h).k j d = x j ((8 + h) * 128 + d) := rfl
theorem head_o (h i d : ℕ) : ((full x o cum).head h).o i d = o i (h * 128 + d) := rfl

theorem beside_lt (f : ℕ → ℕ → ℝ) (i : ℕ) {c : ℕ} (h : c < 128) : beside f i c = f i c := if_pos h

/-- The gradients of the queries, the keys and the values. -/
theorem r98 : val_main_v98 (F := Ideal) (mat x) (mat cum) (mat o) = mat (full x o cum).dq := by
  have e : val_main_v97 (F := Ideal) (mat x) (mat cum) (mat o)
      = mat fun i C => ∑ j ∈ Finset.range 4096, ((full x o cum).head (C / 128)).ds i j * sc * x j ((8 + C / 128) * 128 + C % 128) := by
    unfold val_main_v97
    rw [r96 x o cum]
    exact Cert.KernelIdeal.Attn.flat_cube _
  refine Eq.trans e (mat_congr fun i hi C _ => ?_)
  unfold Given.dq
  rw [Head.dq_all _ hi, Finset.sum_mul]
  refine Finset.sum_congr rfl fun j _ => ?_
  rw [beside_lt _ _ (Nat.mod_lt C (by decide)), head_k]
  ring

theorem r100 : val_main_v100 (F := Ideal) (mat x) (mat cum) (mat o) = mat (full x o cum).dk := by
  have e : val_main_v99 (F := Ideal) (mat x) (mat cum) (mat o)
      = mat fun j C => ∑ i ∈ Finset.range 4096, ((full x o cum).head (C / 128)).ds i j * sc * x i (C / 128 * 128 + C % 128) := by
    unfold val_main_v99
    rw [r94 x o cum]
    exact Cert.KernelIdeal.Attn.flat_cube _
  refine Eq.trans e (mat_congr fun j _ C _ => ?_)
  unfold Given.dk
  rw [Head.dk_all, Finset.sum_mul]
  refine Finset.sum_congr rfl fun i _ => ?_
  rw [beside_lt _ _ (Nat.mod_lt C (by decide)), head_q]
  ring

theorem r102 : val_main_v102 (F := Ideal) (mat x) (mat cum) (mat o) = mat (full x o cum).dv := by
  have e : val_main_v101 (F := Ideal) (mat x) (mat cum) (mat o)
      = mat fun j C => ∑ i ∈ Finset.range 4096, o i (C / 128 * 128 + C % 128) * soft ((bare x o cum).head (C / 128)).lg i j := by
    unfold val_main_v101
    rw [r66 x o cum]
    exact Cert.KernelIdeal.Attn.flat_cube _
  refine Eq.trans e (mat_congr fun j _ C _ => ?_)
  unfold Given.dv
  rw [Head.dv_all]
  refine Finset.sum_congr rfl fun i hi => ?_
  rw [(full_ready x o cum (C / 128)).w_eq (Finset.mem_range.mp hi), head_o, mul_comm]
  rfl

/-- The gradients of the cumulative sums: the rows' sums and the columns'. -/
theorem r104 : val_main_v104 (F := Ideal) (mat x) (mat cum) (mat o) = rows88 (full x o cum).row := by
  have s := sum_last (φ := .f32) (fun h i j => ((full x o cum).head h).ds i j)
    (val_main_cst_15 (F := Ideal)) (fun i => Cert.KernelIdeal.Attn.zero_apply (s := S_) i) reducesTo_S8x4096x4096_S8x4096_d2 (by decide) h_S_ lift_rows
  rw [← r81 x o cum] at s
  have e86 : val_main_v86 (F := Ideal) (mat x) (mat cum) (mat o) = mat fun h i => ∑ j ∈ Finset.range 4096, ((full x o cum).head h).ds i j := s
  have e87 : val_main_v87 (F := Ideal) (mat x) (mat cum) (mat o) = cube fun h i _ => ∑ j ∈ Finset.range 4096, ((full x o cum).head h).ds i j := by
    unfold val_main_v87
    rw [e86]
    exact thin_cast _
  have s2 := sum_last (φ := .f32) (fun h i _ => ∑ j ∈ Finset.range 4096, ((full x o cum).head h).ds i j)
    (val_main_cst_16 (F := Ideal)) (fun i => Cert.KernelIdeal.Attn.zero_apply (s := S_) i) reducesTo_S8x4096x1_S8x4096_d2 (by decide) h_S_ lift_thin
  rw [← e87] at s2
  simp only [Finset.sum_range_one] at s2
  have e88 : val_main_v88 (F := Ideal) (mat x) (mat cum) (mat o) = mat fun h i => ∑ j ∈ Finset.range 4096, ((full x o cum).head h).ds i j := s2
  have e : (mat fun h i => ∑ j ∈ Finset.range 4096, ((full x o cum).head h).ds i j : S8x4096.Idx → EReal) = mat (full x o cum).row :=
    mat_congr fun h _ i hi => by
      unfold Given.row
      rw [Head.dq_all _ hi]
      exact Finset.sum_congr rfl fun j _ => by rw [beside_ge _ _ (Nat.le_refl 128), mul_one]
  unfold val_main_v104 val_main_v103
  rw [e88, e]
  exact rows_mat _

theorem r107 : val_main_v107 (F := Ideal) (mat x) (mat cum) (mat o) = rows88 (full x o cum).col := by
  have e82 : val_main_v82 (F := Ideal) (mat x) (mat cum) (mat o) = cube fun h i j => -((full x o cum).head h).ds i j := by
    unfold val_main_v82
    rw [r81 x o cum]
    exact negf_cube _
  have s := sum_mid (fun h i j => -((full x o cum).head h).ds i j)
    (val_main_cst_13 (F := Ideal)) (fun i => Cert.KernelIdeal.Attn.zero_apply (s := S_) i) reducesTo_S8x4096x4096_S8x4096_d1 (by decide) h_S_ lift_cols
  rw [← e82] at s
  have e83 : val_main_v83 (F := Ideal) (mat x) (mat cum) (mat o) = mat fun h j => ∑ i ∈ Finset.range 4096, -((full x o cum).head h).ds i j := s
  have e84 : val_main_v84 (F := Ideal) (mat x) (mat cum) (mat o) = cube fun h _ j => ∑ i ∈ Finset.range 4096, -((full x o cum).head h).ds i j := by
    unfold val_main_v84
    rw [e83]
    exact wide_cast _
  have s2 := sum_mid (fun h _ j => ∑ i ∈ Finset.range 4096, -((full x o cum).head h).ds i j)
    (val_main_cst_14 (F := Ideal)) (fun i => Cert.KernelIdeal.Attn.zero_apply (s := S_) i) reducesTo_S8x1x4096_S8x4096_d1 (by decide) h_S_ lift_wide
  rw [← e84] at s2
  simp only [Finset.sum_range_one] at s2
  have e85 : val_main_v85 (F := Ideal) (mat x) (mat cum) (mat o) = mat fun h j => ∑ i ∈ Finset.range 4096, -((full x o cum).head h).ds i j := s2
  have e105 : val_main_v105 (F := Ideal) (mat x) (mat cum) (mat o) = mat (full x o cum).col := by
    unfold val_main_v105
    rw [e85]
    refine (negf_mat _).trans (mat_congr fun h _ j _ => ?_)
    unfold Given.col
    rw [Head.dk_all, ← Finset.sum_neg_distrib]
    exact Finset.sum_congr rfl fun i _ => by rw [beside_ge _ _ (Nat.le_refl 128), mul_one, neg_neg]
  unfold val_main_v107 val_main_v106
  rw [e105]
  exact rows_mat _

end Cert.ReferenceIdeal.Attn

end
-- ==== Proof.Attn.Words.lean ====
/-
  The kernel with its constants as literals. A named constant read as the word that stands in its place makes the idealized program the kernel
  itself, at the arithmetic of words, so that its run is the kernel's too.
-/
module

public import proofs.«01_k».proof.Defs
public import proofs.«01_k».proof.Proof.Gen.Kernel
public import proofs.«01_k».proof.Proof.Gen.KernelIdeal
public import proofs.«01_k».proof.Proof.Attn.Run

@[expose] public section

noncomputable section

namespace Cert.Kernel.Attn

open Idealize.ShloMosaic Idealize.SL.Sem

/-- A named constant is the word that stands in its place. -/
abbrev words : Named Bits := ⟨fun _ _ {φ} b => FloatOps.ofBits φ b⟩

set_option maxHeartbeats 2000000 in
/-- With the constants so read both programs have the same bodies. -/
theorem bodies [Cert.Kernel.Facts] [Cert.KernelIdeal.Facts] :
    Cert.Kernel.defs₀ (F := Bits) = (letI := words; Cert.KernelIdeal.defs₀ (F := Bits)) := by
  refine congrArg Defs.onTc (funext fun l => funext fun a => ?_)
  match l, a with
  | ⟨0, _⟩, (t, s) => rfl

set_option maxHeartbeats 2000000 in
theorem hosts [Cert.Kernel.Facts] [Cert.KernelIdeal.Facts] :
    Cert.Kernel.main (F := Bits) = Cert.KernelIdeal.main (F := Bits) := rfl

set_option maxHeartbeats 2000000 in
theorem frame_kernel : Cert.quiescent_Kernel := fun m g _ => by
  letI := words
  have h := (θ_run _ _ _).mono (fun _ h => (⟨fun c => Cert.KernelIdeal.Attn.args_kept h.1 c, h.2⟩ : _ ∧ _)) (Cert.KernelIdeal.Attn.run (F := Bits) m g)
  have e : Cert.Kernel.defs (F := Bits) = Cert.KernelIdeal.defs (F := Bits) := congrArg (Pipeline.defs Cert.Kernel.pcfgs) bodies
  rw [e, hosts]
  exact h

end Cert.Kernel.Attn

end
-- ==== Proof.Prod.Entries.lean ====
/-
  Matrices of extended reals read at natural row and column numbers, and sums over the contracted axis of a product cut into equal blocks.
-/
module

public import Idealize.ShloMosaic.Lib.MatmulPlain
public import Idealize.ShloMosaic.Lib.Pipeline.Value
public import Idealize.ShloMosaic.Lib.ValueIdx

@[expose] public section

noncomputable section

namespace Cert.Prod

open Idealize.ShloMosaic Idealize.ShloMosaic.ValueIdx
open scoped BigOperators

/-- The entry of a matrix at row `r` and column `c`, zero outside the matrix. -/
def entry {R C : ℕ} (X : (⟨2, ![R, C]⟩ : Shape).Idx → EReal) (r c : ℕ) : EReal :=
  if h : r < R ∧ c < C then X (ix2 ⟨r, h.1⟩ ⟨c, h.2⟩) else 0

/-- A matrix at an index whose coordinates are `r` and `c` is its entry there. -/
theorem eq_entry {R C : ℕ} (X : (⟨2, ![R, C]⟩ : Shape).Idx → EReal) (y : (⟨2, ![R, C]⟩ : Shape).Idx) (r c : ℕ) (hr : (y 0).val = r) (hc : (y 1).val = c) :
    X y = entry X r c := by
  subst hr hc
  unfold entry
  rw [dif_pos ⟨(y 0).isLt, (y 1).isLt⟩]
  exact congrArg X (by funext a; match a with | ⟨0, _⟩ => rfl | ⟨1, _⟩ => rfl)

/-- A sum over the first `n + n` positions is the sum over the first `n` and the sum over the next `n`. -/
theorem two_blocks (n : ℕ) (f : ℕ → EReal) : ∑ k : Fin (n + n), f k.val = ∑ k : Fin n, f k.val + ∑ k : Fin n, f (n + k.val) := by
  rw [← Finset.sum_range (fun k => f k), ← Finset.sum_range (fun k => f k), ← Finset.sum_range (fun k => f (n + k)), Finset.sum_range_add]

/-- A sum over the first `n + n + n` positions in three blocks of `n`. -/
theorem three_blocks (n : ℕ) (f : ℕ → EReal) :
    ∑ k : Fin (n + n + n), f k.val = ∑ k : Fin n, f k.val + ∑ k : Fin n, f (n + k.val) + ∑ k : Fin n, f (n + n + k.val) := by
  rw [← Finset.sum_range (fun k => f k), ← Finset.sum_range (fun k => f k), ← Finset.sum_range (fun k => f (n + k)),
    ← Finset.sum_range (fun k => f (n + n + k)), Finset.sum_range_add, Finset.sum_range_add]

/-- Columns times columns, for a product whose index maps are those of contracting the rows. -/
theorem matmul_rows {M K N : ℕ} {φ₁ φ₂ : FTy} (d : DotDims ⟨2, ![K, M]⟩ ⟨2, ![K, N]⟩ ⟨2, ![M, N]⟩) (prec : Option ContractPrecision) (e : d.contr.Idx ≃ Fin K)
    (hl : ∀ r c k, d.lhsIdx (ix2 r c) (e.symm k) = ix2 k r) (hr : ∀ r c k, d.rhsIdx (ix2 r c) (e.symm k) = ix2 k c)
    (x : FVec Ideal ⟨2, ![K, M]⟩ φ₁) (y : FVec Ideal ⟨2, ![K, N]⟩ φ₂) (r : Fin M) (c : Fin N) :
    FloatOps.matmul d prec x y (constant (F := Ideal) _ .f32 0x00000000#32) (ix2 r c) = ∑ k : Fin K, x (ix2 k r) * y (ix2 k c) := by
  rw [Ideal.matmul_constant_zero_apply, ← Equiv.sum_comp e.symm]
  exact Finset.sum_congr rfl fun k _ => by rw [hl, hr]

theorem no_offset : (![0, 0] : Fin 2 → Nat) = fun _ => 0 := funext fun a => by match a with | ⟨0, _⟩ => rfl | ⟨1, _⟩ => rfl

end Cert.Prod

end
-- ==== Proof.Prod.Dx.lean ====
/-
  The gradient of the input: a product over 7296 positions that the kernel takes in three blocks of 2432 into an accumulator, plus a multiple of a third
  matrix at the last block. What the kernel leaves at an index is what the reference computes there.
-/
module

public import proofs.«01_k».proof.Proof.Gen.KernelDxIdeal.Value
public import proofs.«01_k».proof.Proof.Gen.ReferenceDxIdeal.Read
public import proofs.«01_k».proof.Proof.Prod.Entries

@[expose] public section

set_option maxRecDepth 16384

noncomputable section

namespace Cert.KernelDxIdeal.Prod

open Cert.KernelDxIdeal Cert.KernelDxIdeal.Gen
open Idealize.ShloMosaic Idealize.ShloMosaic.TcCoe Idealize.ShloMosaic.ValueIdx
open Cert.Prod
open scoped BigOperators

section
variable {F : FTy → Type} [FloatOps F]

/-- The first block's product is what the accumulator then holds. -/
theorem acc_first (c : Dev nD) (i : grid0.Coords) (a3 : Memref sig .tc .vmem S1024x2432 .bf16) (h3 : a3.IsWhole) (a4 : Memref sig .tc .vmem S2432x1024 .bf16)
    (h4 : a4.IsWhole) (a5 : Memref sig .tc .vmem S1024x1024 .f32) (h5 : a5.IsWhole) (a6 : Memref sig .tc .vmem S1024x1024 .f32) (h6 : a6.IsWhole)
    (a7 : Memref sig .tc .vmem S1024x1024 .f32) (h7 : a7.IsWhole) (hc0 : cond0_0 i) (hc1 : ¬cond0_1 i) (hc2 : ¬cond0_2 i)
    (x : Vec F S1024x2432 .bf16) (y : Vec F S2432x1024 .bf16) (z : Vec F S1024x1024 .f32) :
    sout0_A_0 c i a3 h3 a4 h4 a5 h5 a6 h6 a7 h7 hc0 hc1 hc2 x y z = k0_pay1 x y := by
  unfold sout0_A_0
  rw [View.read_writes_eq_canon _ _ _ (scover0_A_0 c i a3 h3 a4 h4 a5 h5 a6 h6 a7 h7 hc0 hc1 hc2 x y z)]
  unfold kernelRun0_A
  dsimp only
  rw [View.canon_unit_zero no_offset]
  unfold k0_pay2
  simp only [View.readAt_eq_ld, h3.read_unread, h4.read_unread, View.ld_unit_zero (S := S1024x2432) no_offset, View.ld_unit_zero (S := S2432x1024) no_offset, shapeCast_self]

/-- The second block's product is added to what it held. -/
theorem acc_next (c : Dev nD) (i : grid0.Coords) (a3 : Memref sig .tc .vmem S1024x2432 .bf16) (h3 : a3.IsWhole) (a4 : Memref sig .tc .vmem S2432x1024 .bf16)
    (h4 : a4.IsWhole) (a5 : Memref sig .tc .vmem S1024x1024 .f32) (h5 : a5.IsWhole) (a6 : Memref sig .tc .vmem S1024x1024 .f32) (h6 : a6.IsWhole)
    (a7 : Memref sig .tc .vmem S1024x1024 .f32) (h7 : a7.IsWhole) (hc0 : ¬cond0_0 i) (hc1 : cond0_1 i) (hc2 : ¬cond0_2 i)
    (x : Vec F S1024x2432 .bf16) (y : Vec F S2432x1024 .bf16) (z s : Vec F S1024x1024 .f32) :
    sout0_B_0 c i a3 h3 a4 h4 a5 h5 a6 h6 a7 h7 hc0 hc1 hc2 x y z s = addf s (k0_pay1 x y) := by
  unfold sout0_B_0
  rw [View.read_writes_eq_canon _ _ _ (scover0_B_0 c i a3 h3 a4 h4 a5 h5 a6 h6 a7 h7 hc0 hc1 hc2 x y z s)]
  unfold kernelRun0_B
  dsimp only
  rw [View.canon_unit_zero no_offset]
  unfold k0_pay3
  simp only [View.readAt_eq_ld, h3.read_unread, h4.read_unread, h7.read_unread, View.ld_unit_zero (S := S1024x2432) no_offset,
    View.ld_unit_zero (S := S2432x1024) no_offset, View.ld_unit_zero (S := S1024x1024) no_offset, shapeCast_self]

/-- At the third block the result is written. -/
theorem out_last (c : Dev nD) (i : grid0.Coords) (a3 : Memref sig .tc .vmem S1024x2432 .bf16) (h3 : a3.IsWhole) (a4 : Memref sig .tc .vmem S2432x1024 .bf16)
    (h4 : a4.IsWhole) (a5 : Memref sig .tc .vmem S1024x1024 .f32) (h5 : a5.IsWhole) (a6 : Memref sig .tc .vmem S1024x1024 .f32) (h6 : a6.IsWhole)
    (a7 : Memref sig .tc .vmem S1024x1024 .f32) (h7 : a7.IsWhole) (hc0 : ¬cond0_0 i) (hc1 : ¬cond0_1 i) (hc2 : cond0_2 i)
    (x : Vec F S1024x2432 .bf16) (y : Vec F S2432x1024 .bf16) (z s : Vec F S1024x1024 .f32) :
    out0_C_3 c i a3 h3 a4 h4 a5 h5 a6 h6 a7 h7 hc0 hc1 hc2 x y z s = k0_pay4 x y s z := by
  unfold out0_C_3
  rw [View.read_writes_eq_canon _ _ _ (cover0_C_3 c i a3 h3 a4 h4 a5 h5 a6 h6 a7 h7 hc0 hc1 hc2 x y z s)]
  unfold kernelRun0_C
  dsimp only
  rw [View.canon_unit_zero no_offset]
  simp only [View.readAt_eq_ld, h3.read_unread, h4.read_unread, h5.read_unread, h7.read_unread, View.ld_unit_zero (S := S1024x2432) no_offset,
    View.ld_unit_zero (S := S2432x1024) no_offset, View.ld_unit_zero (S := S1024x1024) no_offset]

variable (m : (ℓ : Loc nD τ sig) → Buf (Elt F) ℓ)

/-- What a point that writes back writes, from the blocks of its three points. -/
theorem written (c : Dev nD) (t t1 t0 : Fin cfg0.N) (h : t.val % 3 = 2) (h1 : t1.val + 1 = t.val) (h0 : t0.val + 2 = t.val) :
    (outsAt0 m c t.val t.isLt).1 = k0_pay4 (iblk m c 0 t) (iblk m c 1 t)
      (addf (k0_pay1 (iblk m c 0 t0) (iblk m c 1 t0)) (k0_pay1 (iblk m c 0 t1) (iblk m c 1 t1))) (iblk m c 2 t) := by
  obtain ⟨n, hn⟩ := t0
  obtain ⟨n1, hn1⟩ := t1
  obtain ⟨n2, hn2⟩ := t
  dsimp only at h h0 h1
  obtain rfl : n1 = n + 1 := by omega
  obtain rfl : n2 = n + 2 := by omega
  rw [outsAt0_C m c ⟨n + 2, hn2⟩ (by dsimp only; omega) (by dsimp only; omega) h]
  dsimp only
  rw [out_last]
  show k0_pay4 _ _ (outsAt0 m c (n + 1) hn1).2 _ = _
  rw [outsAt0_B m c ⟨n + 1, hn1⟩ (by dsimp only; omega) (by dsimp only; omega) (by dsimp only; omega)]
  dsimp only
  rw [acc_next]
  show k0_pay4 _ _ (addf (outsAt0 m c n hn).2 _) _ = _
  rw [outsAt0_A m c ⟨n, hn⟩ (by dsimp only; omega) (by dsimp only; omega) (by dsimp only; omega)]
  dsimp only
  rw [acc_first]

end

variable (m : (ℓ : Loc nD τ sig) → Buf (Elt Ideal) ℓ) (c : Dev nD)

/-- The three matrices the kernel is given. -/
abbrev argA : S4096x7296.Idx → EReal := m ((c.tc : Thread nD τ).loc main_arg0)
abbrev argB : S7296x2048.Idx → EReal := m ((c.tc : Thread nD τ).loc main_arg1)
abbrev argC : S4096x2048.Idx → EReal := m ((c.tc : Thread nD τ).loc main_arg2)

theorem places : ∀ t : Fin cfg0.N, win0_0.index t (0 : Fin 2) = t.val / 6 ∧ win0_0.index t (1 : Fin 2) = t.val % 3
    ∧ win0_1.index t (0 : Fin 2) = t.val % 3 ∧ win0_1.index t (1 : Fin 2) = t.val / 3 % 2
    ∧ win0_2.index t (0 : Fin 2) = t.val / 6 ∧ win0_2.index t (1 : Fin 2) = t.val / 3 % 2 :=
  (by decide +kernel : ∀ t : Fin grid0.N, _)

theorem block_a (t : Fin cfg0.N) (r : Fin 1024) (k : Fin 2432) :
    iblk m c 0 t (ix2 r k : S1024x2432.Idx) = entry (argA m c) (1024 * (t.val / 6) + r.val) (2432 * (t.val % 3) + k.val) := by
  obtain ⟨e0, e1, -⟩ := places t
  refine eq_entry (argA m c) (((cfg0.win 0).blk t).view.emb (ix2 r k : S1024x2432.Idx)) _ _ ?_ ?_
  · show win0_0.index t (0 : Fin 2) * 1024 + 1 * r.val = _; omega
  · show win0_0.index t (1 : Fin 2) * 2432 + 1 * k.val = _; omega

theorem block_b (t : Fin cfg0.N) (k : Fin 2432) (s : Fin 1024) :
    iblk m c 1 t (ix2 k s : S2432x1024.Idx) = entry (argB m c) (2432 * (t.val % 3) + k.val) (1024 * (t.val / 3 % 2) + s.val) := by
  obtain ⟨-, -, e0, e1, -⟩ := places t
  refine eq_entry (argB m c) (((cfg0.win 1).blk t).view.emb (ix2 k s : S2432x1024.Idx)) _ _ ?_ ?_
  · show win0_1.index t (0 : Fin 2) * 2432 + 1 * k.val = _; omega
  · show win0_1.index t (1 : Fin 2) * 1024 + 1 * s.val = _; omega

theorem block_c (t : Fin cfg0.N) (r s : Fin 1024) :
    iblk m c 2 t (ix2 r s : S1024x1024.Idx) = entry (argC m c) (1024 * (t.val / 6) + r.val) (1024 * (t.val / 3 % 2) + s.val) := by
  obtain ⟨-, -, -, -, e0, e1⟩ := places t
  refine eq_entry (argC m c) (((cfg0.win 2).blk t).view.emb (ix2 r s : S1024x1024.Idx)) _ _ ?_ ?_
  · show win0_2.index t (0 : Fin 2) * 1024 + 1 * r.val = _; omega
  · show win0_2.index t (1 : Fin 2) * 1024 + 1 * s.val = _; omega

/-- One block's product at an index. -/
theorem product_apply (x : FVec Ideal S1024x2432 .bf16) (y : FVec Ideal S2432x1024 .bf16) (r s : Fin 1024) :
    k0_pay1 (F := Ideal) x y (ix2 r s) = ∑ k : Fin 2432, x (ix2 r k) * y (ix2 k s) := by
  dsimp only [k0_pay1]
  refine (Ideal.matmul_plain_apply (M := 1024) (K := 2432) (N := 1024) none x y _ r s).trans ?_
  rw [constant_apply]
  exact (congrArg (· + _) Ideal.ofBits_zero_f32).trans (zero_add _)

/-- One block's product, from the given matrices. -/
theorem product_block (t : Fin cfg0.N) (r s : Fin 1024) :
    k0_pay1 (F := Ideal) (iblk m c 0 t) (iblk m c 1 t) (ix2 r s) = ∑ k : Fin 2432,
      entry (argA m c) (1024 * (t.val / 6) + r.val) (2432 * (t.val % 3) + k.val) * entry (argB m c) (2432 * (t.val % 3) + k.val) (1024 * (t.val / 3 % 2) + s.val) := by
  rw [product_apply]
  exact Finset.sum_congr rfl fun k _ => by rw [block_a m c t r k, block_b m c t k s]

/-- The value of the multiple. -/
abbrev alpha : EReal := FloatOps.ofBits (F := Ideal) .f32 0x3FD744FD#32

theorem last_apply (x : FVec Ideal S1024x2432 .bf16) (y : FVec Ideal S2432x1024 .bf16) (a z : FVec Ideal S1024x1024 .f32) (i : S1024x1024.Idx) :
    k0_pay4 (F := Ideal) x y a z i = a i + k0_pay1 (F := Ideal) x y i + alpha * z i := rfl

/-- What the kernel leaves at row `i` and column `j`. -/
theorem result_apply (i : S4096x2048.Idx) : Cert.KernelDxIdeal.Value.G3 m c i
    = ∑ k : Fin 7296, entry (argA m c) (i 0).val k.val * entry (argB m c) k.val (i 1).val + alpha * entry (argC m c) (i 0).val (i 1).val := by
  have hN : cfg0.N = 24 := N_0
  have hi0 : (i 0).val < 4096 := (i 0).isLt
  have hi1 : (i 1).val < 2048 := (i 1).isLt
  have ht : Cert.KernelDxIdeal.Value.pt3Of i < cfg0.N := by
    rw [hN]; show 3 * (2 * ((i 0).val / 1024 - 0) + 1 * ((i 1).val / 1024 - 0)) + 2 < 24; omega
  unfold Cert.KernelDxIdeal.Value.G3
  rw [dif_pos ht, ← Cert.KernelDxIdeal.Value.outsAt0_sweep m c (Cert.KernelDxIdeal.Value.pt3Of i) ht]
  obtain ⟨n, hn⟩ : ∃ n, n = 2 * ((i 0).val / 1024) + (i 1).val / 1024 := ⟨_, rfl⟩
  have hp : Cert.KernelDxIdeal.Value.pt3Of i = 3 * n + 2 := by
    show 3 * (2 * ((i 0).val / 1024 - 0) + 1 * ((i 1).val / 1024 - 0)) + 2 = _; omega
  rw [hp] at ht
  have e := written m c ⟨3 * n + 2, ht⟩ ⟨3 * n + 1, by omega⟩ ⟨3 * n, by omega⟩ (by dsimp only; omega) rfl rfl
  rw [show (outsAt0 m c (Cert.KernelDxIdeal.Value.pt3Of i) (hp ▸ ht)) = outsAt0 m c (3 * n + 2) ht from by simp only [hp], e]
  obtain ⟨r, hr⟩ : ∃ r : Fin 1024, r.val = (i 0).val % 1024 := ⟨⟨_, Nat.mod_lt _ (by decide)⟩, rfl⟩
  obtain ⟨s, hs⟩ : ∃ s : Fin 1024, s.val = (i 1).val % 1024 := ⟨⟨_, Nat.mod_lt _ (by decide)⟩, rfl⟩
  rw [show Cert.KernelDxIdeal.Value.loc3Of i = ix2 r s from by funext a; apply Fin.ext; match a with | ⟨0, _⟩ => exact hr.symm | ⟨1, _⟩ => exact hs.symm]
  rw [last_apply]
  show k0_pay1 (F := Ideal) _ _ _ + k0_pay1 (F := Ideal) _ _ _ + k0_pay1 (F := Ideal) _ _ _ + alpha * _ = _
  rw [product_block m c, product_block m c, product_block m c, block_c m c]
  dsimp only
  have r0 : ∀ q < 3, 1024 * ((3 * n + q) / 6) + r.val = (i 0).val := fun q hq => by omega
  have s0 : ∀ q < 3, 1024 * ((3 * n + q) / 3 % 2) + s.val = (i 1).val := fun q hq => by omega
  have k0 : ∀ q < 3, (3 * n + q) % 3 = q := fun q hq => by omega
  have r1 := r0 0 (by omega)
  have s1 := s0 0 (by omega)
  have k1 := k0 0 (by omega)
  rw [Nat.add_zero] at r1 s1 k1
  rw [r1, s1, k1, r0 1 (by omega), s0 1 (by omega), k0 1 (by omega), r0 2 (by omega), s0 2 (by omega), k0 2 (by omega)]
  have e3 := three_blocks 2432 (fun k => entry (argA m c) (i 0).val k * entry (argB m c) k (i 1).val)
  simp only [Nat.mul_zero, Nat.zero_add, Nat.mul_one]
  exact congrArg (· + _) e3.symm

/-- What the reference computes there. -/
theorem reference_apply (A : S4096x7296.Idx → EReal) (B : S7296x2048.Idx → EReal) (C : S4096x2048.Idx → EReal) (i : S4096x2048.Idx) :
    Cert.ReferenceDxIdeal.Read.val_main_v9 (F := Ideal) A B C i
      = ∑ k : Fin 7296, entry A (i 0).val k.val * entry B k.val (i 1).val + alpha * entry C (i 0).val (i 1).val := by
  rw [Cert.ReferenceDxIdeal.Read.val_main_v9_apply, Cert.ReferenceDxIdeal.Read.val_main_v8_apply, Cert.ReferenceDxIdeal.Read.val_main_v7_apply,
    Cert.ReferenceDxIdeal.Read.val_main_v6_apply, Cert.ReferenceDxIdeal.Read.val_main_cst_1_apply, ← eq_entry C i _ _ rfl rfl]
  show alpha * C i + _ = _
  rw [add_comm]
  refine congrArg (· + _) (Finset.sum_congr rfl fun k _ => ?_)
  rw [← eq_entry A (Cert.ReferenceDxIdeal.Read.lidx_main_v8 i k) (i 0).val k.val rfl rfl, ← eq_entry B (Cert.ReferenceDxIdeal.Read.ridx_main_v8 i k) k.val (i 1).val rfl rfl]
  rfl

/-- The kernel's result is the reference's. -/
theorem same (A : S4096x7296.Idx → EReal) (B : S7296x2048.Idx → EReal) (C : S4096x2048.Idx → EReal) (hA : A = argA m c) (hB : B = argB m c) (hC : C = argC m c) :
    Cert.ReferenceDxIdeal.Read.val_main_v9 (F := Ideal) A B C = Cert.KernelDxIdeal.Value.G3 m c := by
  subst hA hB hC
  exact funext fun i => (reference_apply _ _ _ i).trans (result_apply m c i).symm

end Cert.KernelDxIdeal.Prod

end
-- ==== Proof.Prod.Dw.lean ====
/-
  The gradient of the input projection's weights: a product over 4096 positions that the kernel takes in two blocks of 2048, the first into an accumulator.
  What the kernel leaves at an index is what the reference computes there.
-/
module

public import proofs.«01_k».proof.Proof.Gen.KernelDwIdeal.Value
public import proofs.«01_k».proof.Proof.Gen.ReferenceDwIdeal.Read
public import proofs.«01_k».proof.Proof.Prod.Entries

@[expose] public section

set_option maxRecDepth 16384

noncomputable section

namespace Cert.KernelDwIdeal.Prod

open Cert.KernelDwIdeal Cert.KernelDwIdeal.Gen
open Idealize.ShloMosaic Idealize.ShloMosaic.TcCoe Idealize.ShloMosaic.ValueIdx
open Cert.Prod
open scoped BigOperators

section
variable {F : FTy → Type} [FloatOps F]

/-- The first block's product is what the accumulator then holds. -/
theorem acc_first (c : Dev nD) (i : grid0.Coords) (a3 : Memref sig .tc .vmem S2048x1024 .bf16) (h3 : a3.IsWhole) (a4 : Memref sig .tc .vmem S2048x1024 .bf16)
    (h4 : a4.IsWhole) (a5 : Memref sig .tc .vmem S1024x1024 .bf16) (h5 : a5.IsWhole)
    (a6 : Memref sig .tc .vmem S1024x1024 .f32) (h6 : a6.IsWhole) (hc0 : cond0_0 i) (hc1 : ¬cond0_1 i) (hc2 : ¬cond0_2 i)
    (x y : Vec F S2048x1024 .bf16) :
    sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero no_offset]
  unfold k0_pay2
  simp only [View.readAt_eq_ld, h3.read_unread, h4.read_unread, View.ld_unit_zero (S := S2048x1024) no_offset, shapeCast_self]

/-- At the second block the result is written. -/
theorem out_last (c : Dev nD) (i : grid0.Coords) (a3 : Memref sig .tc .vmem S2048x1024 .bf16) (h3 : a3.IsWhole) (a4 : Memref sig .tc .vmem S2048x1024 .bf16)
    (h4 : a4.IsWhole) (a5 : Memref sig .tc .vmem S1024x1024 .bf16) (h5 : a5.IsWhole)
    (a6 : Memref sig .tc .vmem S1024x1024 .f32) (h6 : a6.IsWhole) (hc0 : ¬cond0_0 i) (hc1 : ¬cond0_1 i) (hc2 : cond0_2 i)
    (x y : Vec F S2048x1024 .bf16) (s : Vec F S1024x1024 .f32) :
    out0_B_2 c i a3 h3 a4 h4 a5 h5 a6 h6 hc0 hc1 hc2 x y s = k0_pay4 x y s := by
  unfold out0_B_2
  rw [View.read_writes_eq_canon _ _ _ (cover0_B_2 c i a3 h3 a4 h4 a5 h5 a6 h6 hc0 hc1 hc2 x y s)]
  unfold kernelRun0_B
  dsimp only
  rw [View.canon_unit_zero no_offset]
  simp only [View.readAt_eq_ld, h3.read_unread, h4.read_unread, h6.read_unread, View.ld_unit_zero (S := S2048x1024) no_offset,
    View.ld_unit_zero (S := S1024x1024) no_offset]

variable (m : (ℓ : Loc nD τ sig) → Buf (Elt F) ℓ)

/-- What a point that writes back writes, from the blocks of its two points. -/
theorem written (c : Dev nD) (t t0 : Fin cfg0.N) (h : t.val % 2 = 1) (h0 : t0.val + 1 = t.val) :
    (outsAt0 m c t.val t.isLt).1 = k0_pay4 (X0_0 m c t) (iblk m c 1 t) (k0_pay1 (X0_0 m c t0) (iblk m c 1 t0)) := by
  obtain ⟨n, hn⟩ := t0
  obtain ⟨n1, hn1⟩ := t
  dsimp only at h h0
  obtain rfl : n1 = n + 1 := by omega
  rw [outsAt0_B m c ⟨n + 1, hn1⟩ (by dsimp only; omega) h]
  dsimp only
  rw [out_last]
  show k0_pay4 _ _ (outsAt0 m c n hn).2 = _
  rw [outsAt0_A m c ⟨n, hn⟩ (by dsimp only; omega) (by dsimp only; omega)]
  dsimp only
  rw [acc_first]

end

variable (m : (ℓ : Loc nD τ sig) → Buf (Elt Ideal) ℓ) (c : Dev nD)

/-- The two matrices the kernel is given. -/
abbrev argA : S4096x7296.Idx → EReal := m ((c.tc : Thread nD τ).loc main_arg0)
abbrev argB : S4096x2048.Idx → EReal := m ((c.tc : Thread nD τ).loc main_arg1)

theorem places : ∀ t : Fin cfg0.N, win0_0.index t (0 : Fin 2) = t.val % 2 ∧ win0_0.index t (1 : Fin 2) = t.val / 4
    ∧ win0_1.index t (0 : Fin 2) = t.val % 2 ∧ win0_1.index t (1 : Fin 2) = t.val / 2 % 2 :=
  (by decide +kernel : ∀ t : Fin grid0.N, _)

theorem block_a (t : Fin cfg0.N) (k : Fin 2048) (r : Fin 1024) :
    X0_0 m c t (ix2 k r : S2048x1024.Idx) = entry (argA m c) (2048 * (t.val % 2) + k.val) (1024 * (t.val / 4) + r.val) := by
  obtain ⟨e0, e1, -⟩ := places t
  show (cfg0.win 0).fill (cfg0.grid.coords t) dflt0_0 (iblk m c 0 t) (ix2 k r : S2048x1024.Idx) = _
  unfold Pipeline.Window.fill
  rw [dif_pos (moved0_0 t (ix2 k r : S2048x1024.Idx))]
  refine eq_entry (argA m c) (((cfg0.win 0).blk t).view.emb _) _ _ ?_ ?_
  · show win0_0.index t (0 : Fin 2) * 2048 + 1 * k.val = _; omega
  · show win0_0.index t (1 : Fin 2) * 1024 + 1 * r.val = _; omega

theorem block_b (t : Fin cfg0.N) (k : Fin 2048) (s : Fin 1024) :
    iblk m c 1 t (ix2 k s : S2048x1024.Idx) = entry (argB m c) (2048 * (t.val % 2) + k.val) (1024 * (t.val / 2 % 2) + s.val) := by
  obtain ⟨-, -, e0, e1⟩ := places t
  refine eq_entry (argB m c) (((cfg0.win 1).blk t).view.emb (ix2 k s : S2048x1024.Idx)) _ _ ?_ ?_
  · show win0_1.index t (0 : Fin 2) * 2048 + 1 * k.val = _; omega
  · show win0_1.index t (1 : Fin 2) * 1024 + 1 * s.val = _; omega

/-- One block's product at an index. -/
theorem product_apply (x y : FVec Ideal S2048x1024 .bf16) (r s : Fin 1024) :
    k0_pay1 (F := Ideal) x y (ix2 r s) = ∑ k : Fin 2048, x (ix2 k r) * y (ix2 k s) := by
  have hk := contrEquiv1_symm_val dot_S2048x1024_S2048x1024_S1024x1024_0_0_1_1_n_n 2048 rfl rfl
  refine matmul_rows dot_S2048x1024_S2048x1024_S1024x1024_0_0_1_1_n_n none (contrEquiv1 _ 2048 rfl rfl) (fun r c k => ?_) (fun r c k => ?_) x y r s
  · funext a; apply Fin.ext
    match a with
    | ⟨0, _⟩ => exact hk k
    | ⟨1, _⟩ => rfl
  · funext a; apply Fin.ext
    match a with
    | ⟨0, _⟩ => exact hk k
    | ⟨1, _⟩ => rfl

/-- One block's product, from the given matrices. -/
theorem product_block (t : Fin cfg0.N) (r s : Fin 1024) :
    k0_pay1 (F := Ideal) (X0_0 m c t) (iblk m c 1 t) (ix2 r s) = ∑ k : Fin 2048,
      entry (argA m c) (2048 * (t.val % 2) + k.val) (1024 * (t.val / 4) + r.val) * entry (argB m c) (2048 * (t.val % 2) + k.val) (1024 * (t.val / 2 % 2) + s.val) := by
  rw [product_apply]
  exact Finset.sum_congr rfl fun k _ => by rw [block_a m c t k r, block_b m c t k s]

theorem last_apply (x y : FVec Ideal S2048x1024 .bf16) (a : FVec Ideal S1024x1024 .f32) (i : S1024x1024.Idx) :
    k0_pay4 (F := Ideal) x y a i = a i + k0_pay1 (F := Ideal) x y i := rfl

/-- What the kernel leaves at an index. -/
theorem result_apply (i : S7168x2048.Idx) : Cert.KernelDwIdeal.Value.G2 m c i
    = ∑ k : Fin 4096, entry (argA m c) k.val (i 0).val * entry (argB m c) k.val (i 1).val := by
  have hN : cfg0.N = 28 := N_0
  have hi0 : (i 0).val < 7168 := (i 0).isLt
  have hi1 : (i 1).val < 2048 := (i 1).isLt
  have ht : Cert.KernelDwIdeal.Value.pt2Of i < cfg0.N := by
    rw [hN]; show 2 * (2 * ((i 0).val / 1024 - 0) + 1 * ((i 1).val / 1024 - 0)) + 1 < 28; omega
  unfold Cert.KernelDwIdeal.Value.G2
  rw [dif_pos ht, ← Cert.KernelDwIdeal.Value.outsAt0_sweep m c (Cert.KernelDwIdeal.Value.pt2Of i) ht]
  obtain ⟨n, hn⟩ : ∃ n, n = 2 * ((i 0).val / 1024) + (i 1).val / 1024 := ⟨_, rfl⟩
  have hp : Cert.KernelDwIdeal.Value.pt2Of i = 2 * n + 1 := by
    show 2 * (2 * ((i 0).val / 1024 - 0) + 1 * ((i 1).val / 1024 - 0)) + 1 = _; omega
  rw [hp] at ht
  have e := written m c ⟨2 * n + 1, ht⟩ ⟨2 * n, by omega⟩ (by dsimp only; omega) rfl
  rw [show (outsAt0 m c (Cert.KernelDwIdeal.Value.pt2Of i) (hp ▸ ht)) = outsAt0 m c (2 * n + 1) ht from by simp only [hp], e]
  obtain ⟨r, hr⟩ : ∃ r : Fin 1024, r.val = (i 0).val % 1024 := ⟨⟨_, Nat.mod_lt _ (by decide)⟩, rfl⟩
  obtain ⟨s, hs⟩ : ∃ s : Fin 1024, s.val = (i 1).val % 1024 := ⟨⟨_, Nat.mod_lt _ (by decide)⟩, rfl⟩
  rw [show Cert.KernelDwIdeal.Value.loc2Of i = ix2 r s from by funext a; apply Fin.ext; match a with | ⟨0, _⟩ => exact hr.symm | ⟨1, _⟩ => exact hs.symm]
  rw [last_apply, product_block m c, product_block m c]
  dsimp only
  rw [show 1024 * (2 * n / 4) + r.val = (i 0).val from by omega, show 1024 * (2 * n / 2 % 2) + s.val = (i 1).val from by omega, show 2 * n % 2 = 0 from by omega,
    show 1024 * ((2 * n + 1) / 4) + r.val = (i 0).val from by omega, show 1024 * ((2 * n + 1) / 2 % 2) + s.val = (i 1).val from by omega,
    show (2 * n + 1) % 2 = 1 from by omega]
  have e3 := two_blocks 2048 (fun k => entry (argA m c) k (i 0).val * entry (argB m c) k (i 1).val)
  simp only [Nat.mul_zero, Nat.zero_add, Nat.mul_one]
  exact e3.symm

/-- What the reference computes there. -/
theorem reference_apply (A : S4096x7296.Idx → EReal) (B : S4096x2048.Idx → EReal) (i : S7168x2048.Idx) :
    Cert.ReferenceDwIdeal.Read.val_main_v6 (F := Ideal) A B i = ∑ k : Fin 4096, entry A k.val (i 0).val * entry B k.val (i 1).val := by
  rw [Cert.ReferenceDwIdeal.Read.val_main_v6_apply, Cert.ReferenceDwIdeal.Read.val_main_v5_apply]
  refine Finset.sum_congr rfl fun k _ => ?_
  rw [Cert.ReferenceDwIdeal.Read.val_main_v4_apply, Cert.ReferenceDwIdeal.Read.val_main_v3_apply, Cert.ReferenceDwIdeal.Read.val_main_v1_apply]
  exact congrArg₂ (· * ·) (eq_entry A _ k.val (i 0).val rfl rfl) (eq_entry B _ k.val (i 1).val rfl rfl)

/-- The kernel's result is the reference's. -/
theorem same (A : S4096x7296.Idx → EReal) (B : S4096x2048.Idx → EReal) (hA : A = argA m c) (hB : B = argB m c) :
    Cert.ReferenceDwIdeal.Read.val_main_v6 (F := Ideal) A B = Cert.KernelDwIdeal.Value.G2 m c := by
  subst hA hB
  exact funext fun i => (reference_apply _ _ i).trans (result_apply m c i).symm

end Cert.KernelDwIdeal.Prod

end
-- ==== Proof.Prod.Dy.lean ====
/-
  The gradient the output projection passes back: one product of a block of rows and a block of rows for each block of the result.
  What the kernel leaves at an index is what the reference computes there.
-/
module

public import proofs.«01_k».proof.Proof.Gen.KernelDyIdeal.Value
public import proofs.«01_k».proof.Proof.Gen.ReferenceDyIdeal.Read
public import proofs.«01_k».proof.Proof.Prod.Entries

@[expose] public section

set_option maxRecDepth 16384

noncomputable section

namespace Cert.KernelDyIdeal.Prod

open Cert.KernelDyIdeal Cert.KernelDyIdeal.Gen
open Idealize.ShloMosaic Idealize.ShloMosaic.TcCoe Idealize.ShloMosaic.ValueIdx
open Cert.Prod
open scoped BigOperators

variable (m : (ℓ : Loc nD τ sig) → Buf (Elt Ideal) ℓ) (c : Dev nD)

/-- The two matrices the kernel is given. -/
abbrev argA : S4096x2048.Idx → EReal := m ((c.tc : Thread nD τ).loc main_arg0)
abbrev argB : S2048x2048.Idx → EReal := m ((c.tc : Thread nD τ).loc main_arg1)

theorem places : ∀ t : Fin cfg0.N, win0_0.index t (0 : Fin 2) = t.val / 2 ∧ win0_0.index t (1 : Fin 2) = 0
    ∧ win0_1.index t (0 : Fin 2) = t.val % 2 ∧ win0_1.index t (1 : Fin 2) = 0
    ∧ win0_2.index t (0 : Fin 2) = t.val / 2 ∧ win0_2.index t (1 : Fin 2) = t.val % 2 :=
  (by decide +kernel : ∀ t : Fin grid0.N, _)

theorem writes_back : ∀ t : Fin cfg0.N, (cfg0.win 2).flush t = true :=
  (by decide +kernel : ∀ t : Fin grid0.N, win0_2.flush t = true)

theorem block_a (t : Fin cfg0.N) (r : Fin 1024) (k : Fin 2048) :
    iblk m c 0 t (ix2 r k : S1024x2048.Idx) = entry (argA m c) (1024 * (t.val / 2) + r.val) k.val := by
  obtain ⟨e0, e1, -⟩ := places t
  refine eq_entry (argA m c) (((cfg0.win 0).blk t).view.emb (ix2 r k : S1024x2048.Idx)) _ _ ?_ ?_
  · show win0_0.index t (0 : Fin 2) * 1024 + 1 * r.val = _; omega
  · show win0_0.index t (1 : Fin 2) * 2048 + 1 * k.val = _; omega

theorem block_b (t : Fin cfg0.N) (s : Fin 1024) (k : Fin 2048) :
    iblk m c 1 t (ix2 s k : S1024x2048.Idx) = entry (argB m c) (1024 * (t.val % 2) + s.val) k.val := by
  obtain ⟨-, -, e0, e1, -⟩ := places t
  refine eq_entry (argB m c) (((cfg0.win 1).blk t).view.emb (ix2 s k : S1024x2048.Idx)) _ _ ?_ ?_
  · show win0_1.index t (0 : Fin 2) * 1024 + 1 * s.val = _; omega
  · show win0_1.index t (1 : Fin 2) * 2048 + 1 * k.val = _; omega

/-- The body's product at an index. -/
theorem product_apply (x y : FVec Ideal S1024x2048 .bf16) (r s : Fin 1024) :
    out0_2 (F := Ideal) x y (ix2 r s) = ∑ k : Fin 2048, x (ix2 r k) * y (ix2 s k) := by
  unfold out0_2
  rw [View.canon_unit_zero no_offset, View.ld_unit_zero (S := S1024x2048) no_offset, View.ld_unit_zero (S := S1024x2048) no_offset]
  have hk := contrEquiv1_symm_val dot_S1024x2048_S1024x2048_S1024x1024_1_1_0_0_n_n 2048 rfl rfl
  show FloatOps.matmul dot_S1024x2048_S1024x2048_S1024x1024_1_1_0_0_n_n none x y (constant (F := Ideal) _ .f32 0x00000000#32) (ix2 r s) = _
  rw [Ideal.matmul_constant_zero_apply, ← Equiv.sum_comp (contrEquiv1 dot_S1024x2048_S1024x2048_S1024x1024_1_1_0_0_n_n 2048 rfl rfl).symm]
  refine Finset.sum_congr rfl fun k _ => congrArg₂ (· * ·) (congrArg x ?_) (congrArg y ?_)
  · funext a; apply Fin.ext
    match a with
    | ⟨0, _⟩ => rfl
    | ⟨1, _⟩ => exact hk k
  · funext a; apply Fin.ext
    match a with
    | ⟨0, _⟩ => rfl
    | ⟨1, _⟩ => exact hk k

/-- What the kernel leaves at an index. -/
theorem result_apply (i : S4096x2048.Idx) : ((dats m 0 c).arrAt 2 cfg0.N : S4096x2048.Idx → EReal) i
    = ∑ k : Fin 2048, entry (argA m c) (i 0).val k.val * entry (argB m c) (i 1).val k.val := by
  have hN : cfg0.N = 8 := N_0
  have hi0 : (i 0).val < 4096 := (i 0).isLt
  have hi1 : (i 1).val < 2048 := (i 1).isLt
  obtain ⟨t, ht⟩ : ∃ t : Fin cfg0.N, t.val = 2 * ((i 0).val / 1024) + (i 1).val / 1024 := ⟨⟨_, by rw [hN]; omega⟩, rfl⟩
  obtain ⟨r, hr⟩ : ∃ r : Fin 1024, r.val = (i 0).val % 1024 := ⟨⟨_, Nat.mod_lt _ (by decide)⟩, rfl⟩
  obtain ⟨s, hs⟩ : ∃ s : Fin 1024, s.val = (i 1).val % 1024 := ⟨⟨_, Nat.mod_lt _ (by decide)⟩, rfl⟩
  obtain ⟨-, -, -, -, e0, e1⟩ := places t
  have hi : ((cfg0.win 2).blk t).view.emb (ix2 r s : S1024x1024.Idx) = i := by
    funext a; apply Fin.ext
    match a with
    | ⟨0, _⟩ => show win0_2.index t (0 : Fin 2) * 1024 + 1 * r.val = (i 0).val; omega
    | ⟨1, _⟩ => show win0_2.index t (1 : Fin 2) * 1024 + 1 * s.val = (i 1).val; omega
  have e : (dats m 0 c).arrAt 2 cfg0.N (((cfg0.win 2).blk t).view.emb (ix2 r s : S1024x1024.Idx)) = (dats m 0 c).flushed 2 t (ix2 r s : S1024x1024.Idx) :=
    congrFun (Cert.KernelDyIdeal.Value.blocks2 m c t (writes_back t)) (ix2 r s : S1024x1024.Idx)
  rw [hi] at e
  refine e.trans ?_
  rw [Cert.KernelDyIdeal.Value.flushed2 m c t]
  show out0_2 (iblk m c 0 t) (iblk m c 1 t) (ix2 r s) = _
  rw [product_apply]
  refine Finset.sum_congr rfl fun k _ => ?_
  rw [block_a m c t r k, block_b m c t s k, show 1024 * (t.val / 2) + r.val = (i 0).val from by omega, show 1024 * (t.val % 2) + s.val = (i 1).val from by omega]

/-- What the reference computes there. -/
theorem reference_apply (A : S4096x2048.Idx → EReal) (B : S2048x2048.Idx → EReal) (i : S4096x2048.Idx) :
    Cert.ReferenceDyIdeal.Read.val_main_v5 (F := Ideal) A B i = ∑ k : Fin 2048, entry A (i 0).val k.val * entry B (i 1).val k.val := by
  rw [Cert.ReferenceDyIdeal.Read.val_main_v5_apply, Cert.ReferenceDyIdeal.Read.val_main_v4_apply]
  refine Finset.sum_congr rfl fun k _ => ?_
  exact congrArg₂ (· * ·) (eq_entry A _ (i 0).val k.val rfl rfl) (eq_entry B _ (i 1).val k.val rfl rfl)

/-- The kernel's result is the reference's. -/
theorem same (A : S4096x2048.Idx → EReal) (B : S2048x2048.Idx → EReal) (hA : A = argA m c) (hB : B = argB m c) :
    Cert.ReferenceDyIdeal.Read.val_main_v5 (F := Ideal) A B = (dats m 0 c).arrAt 2 cfg0.N := by
  subst hA hB
  exact funext fun i => (reference_apply _ _ i).trans (result_apply m c i).symm

end Cert.KernelDyIdeal.Prod

end
-- ==== Proof.Prod.Dwo.lean ====
/-
  The gradient of the output projection's weights: a product over 4096 positions that the kernel takes in two blocks of 2048, the first into an accumulator.
  The reference computes the transposed product with the factors exchanged and transposes it; at an index the two are the same sum.
-/
module

public import proofs.«01_k».proof.Proof.Gen.KernelDwoIdeal.Value
public import proofs.«01_k».proof.Proof.Gen.ReferenceDwoIdeal.Read
public import proofs.«01_k».proof.Proof.Prod.Entries

@[expose] public section

set_option maxRecDepth 16384

noncomputable section

namespace Cert.KernelDwoIdeal.Prod

open Cert.KernelDwoIdeal Cert.KernelDwoIdeal.Gen
open Idealize.ShloMosaic Idealize.ShloMosaic.TcCoe Idealize.ShloMosaic.ValueIdx
open Cert.Prod
open scoped BigOperators

section
variable {F : FTy → Type} [FloatOps F]

/-- The first block's product is what the accumulator then holds. -/
theorem acc_first (c : Dev nD) (i : grid0.Coords) (a3 : Memref sig .tc .vmem S2048x1024 .bf16) (h3 : a3.IsWhole) (a4 : Memref sig .tc .vmem S2048x1024 .bf16)
    (h4 : a4.IsWhole) (a5 : Memref sig .tc .vmem S1024x1024 .bf16) (h5 : a5.IsWhole)
    (a6 : Memref sig .tc .vmem S1024x1024 .f32) (h6 : a6.IsWhole) (hc0 : cond0_0 i) (hc1 : ¬cond0_1 i) (hc2 : ¬cond0_2 i)
    (x y : Vec F S2048x1024 .bf16) :
    sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero no_offset]
  unfold k0_pay2
  simp only [View.readAt_eq_ld, h3.read_unread, h4.read_unread, View.ld_unit_zero (S := S2048x1024) no_offset, shapeCast_self]

/-- At the second block the result is written. -/
theorem out_last (c : Dev nD) (i : grid0.Coords) (a3 : Memref sig .tc .vmem S2048x1024 .bf16) (h3 : a3.IsWhole) (a4 : Memref sig .tc .vmem S2048x1024 .bf16)
    (h4 : a4.IsWhole) (a5 : Memref sig .tc .vmem S1024x1024 .bf16) (h5 : a5.IsWhole)
    (a6 : Memref sig .tc .vmem S1024x1024 .f32) (h6 : a6.IsWhole) (hc0 : ¬cond0_0 i) (hc1 : ¬cond0_1 i) (hc2 : cond0_2 i)
    (x y : Vec F S2048x1024 .bf16) (s : Vec F S1024x1024 .f32) :
    out0_B_2 c i a3 h3 a4 h4 a5 h5 a6 h6 hc0 hc1 hc2 x y s = k0_pay4 x y s := by
  unfold out0_B_2
  rw [View.read_writes_eq_canon _ _ _ (cover0_B_2 c i a3 h3 a4 h4 a5 h5 a6 h6 hc0 hc1 hc2 x y s)]
  unfold kernelRun0_B
  dsimp only
  rw [View.canon_unit_zero no_offset]
  simp only [View.readAt_eq_ld, h3.read_unread, h4.read_unread, h6.read_unread, View.ld_unit_zero (S := S2048x1024) no_offset,
    View.ld_unit_zero (S := S1024x1024) no_offset]

variable (m : (ℓ : Loc nD τ sig) → Buf (Elt F) ℓ)

/-- What a point that writes back writes, from the blocks of its two points. -/
theorem written (c : Dev nD) (t t0 : Fin cfg0.N) (h : t.val % 2 = 1) (h0 : t0.val + 1 = t.val) :
    (outsAt0 m c t.val t.isLt).1 = k0_pay4 (iblk m c 0 t) (iblk m c 1 t) (k0_pay1 (iblk m c 0 t0) (iblk m c 1 t0)) := by
  obtain ⟨n, hn⟩ := t0
  obtain ⟨n1, hn1⟩ := t
  dsimp only at h h0
  obtain rfl : n1 = n + 1 := by omega
  rw [outsAt0_B m c ⟨n + 1, hn1⟩ (by dsimp only; omega) h]
  dsimp only
  rw [out_last]
  show k0_pay4 _ _ (outsAt0 m c n hn).2 = _
  rw [outsAt0_A m c ⟨n, hn⟩ (by dsimp only; omega) (by dsimp only; omega)]
  dsimp only
  rw [acc_first]

end

variable (m : (ℓ : Loc nD τ sig) → Buf (Elt Ideal) ℓ) (c : Dev nD)

/-- The two matrices the kernel is given. -/
abbrev argA : S4096x2048.Idx → EReal := m ((c.tc : Thread nD τ).loc main_arg0)
abbrev argB : S4096x2048.Idx → EReal := m ((c.tc : Thread nD τ).loc main_arg1)

theorem places : ∀ t : Fin cfg0.N, win0_0.index t (0 : Fin 2) = t.val % 2 ∧ win0_0.index t (1 : Fin 2) = t.val / 4
    ∧ win0_1.index t (0 : Fin 2) = t.val % 2 ∧ win0_1.index t (1 : Fin 2) = t.val / 2 % 2 :=
  (by decide +kernel : ∀ t : Fin grid0.N, _)

theorem block_a (t : Fin cfg0.N) (k : Fin 2048) (r : Fin 1024) :
    iblk m c 0 t (ix2 k r : S2048x1024.Idx) = entry (argA m c) (2048 * (t.val % 2) + k.val) (1024 * (t.val / 4) + r.val) := by
  obtain ⟨e0, e1, -⟩ := places t
  refine eq_entry (argA m c) (((cfg0.win 0).blk t).view.emb (ix2 k r : S2048x1024.Idx)) _ _ ?_ ?_
  · show win0_0.index t (0 : Fin 2) * 2048 + 1 * k.val = _; omega
  · show win0_0.index t (1 : Fin 2) * 1024 + 1 * r.val = _; omega

theorem block_b (t : Fin cfg0.N) (k : Fin 2048) (s : Fin 1024) :
    iblk m c 1 t (ix2 k s : S2048x1024.Idx) = entry (argB m c) (2048 * (t.val % 2) + k.val) (1024 * (t.val / 2 % 2) + s.val) := by
  obtain ⟨-, -, e0, e1⟩ := places t
  refine eq_entry (argB m c) (((cfg0.win 1).blk t).view.emb (ix2 k s : S2048x1024.Idx)) _ _ ?_ ?_
  · show win0_1.index t (0 : Fin 2) * 2048 + 1 * k.val = _; omega
  · show win0_1.index t (1 : Fin 2) * 1024 + 1 * s.val = _; omega

/-- One block's product at an index. -/
theorem product_apply (x y : FVec Ideal S2048x1024 .bf16) (r s : Fin 1024) :
    k0_pay1 (F := Ideal) x y (ix2 r s) = ∑ k : Fin 2048, x (ix2 k r) * y (ix2 k s) := by
  have hk := contrEquiv1_symm_val dot_S2048x1024_S2048x1024_S1024x1024_0_0_1_1_n_n 2048 rfl rfl
  refine matmul_rows dot_S2048x1024_S2048x1024_S1024x1024_0_0_1_1_n_n none (contrEquiv1 _ 2048 rfl rfl) (fun r c k => ?_) (fun r c k => ?_) x y r s
  · funext a; apply Fin.ext
    match a with
    | ⟨0, _⟩ => exact hk k
    | ⟨1, _⟩ => rfl
  · funext a; apply Fin.ext
    match a with
    | ⟨0, _⟩ => exact hk k
    | ⟨1, _⟩ => rfl

/-- One block's product, from the given matrices. -/
theorem product_block (t : Fin cfg0.N) (r s : Fin 1024) :
    k0_pay1 (F := Ideal) (iblk m c 0 t) (iblk m c 1 t) (ix2 r s) = ∑ k : Fin 2048,
      entry (argA m c) (2048 * (t.val % 2) + k.val) (1024 * (t.val / 4) + r.val) * entry (argB m c) (2048 * (t.val % 2) + k.val) (1024 * (t.val / 2 % 2) + s.val) := by
  rw [product_apply]
  exact Finset.sum_congr rfl fun k _ => by rw [block_a m c t k r, block_b m c t k s]

theorem last_apply (x y : FVec Ideal S2048x1024 .bf16) (a : FVec Ideal S1024x1024 .f32) (i : S1024x1024.Idx) :
    k0_pay4 (F := Ideal) x y a i = a i + k0_pay1 (F := Ideal) x y i := rfl

/-- What the kernel leaves at an index. -/
theorem result_apply (i : S2048x2048.Idx) : Cert.KernelDwoIdeal.Value.G2 m c i
    = ∑ k : Fin 4096, entry (argA m c) k.val (i 0).val * entry (argB m c) k.val (i 1).val := by
  have hN : cfg0.N = 8 := N_0
  have hi0 : (i 0).val < 2048 := (i 0).isLt
  have hi1 : (i 1).val < 2048 := (i 1).isLt
  have ht : Cert.KernelDwoIdeal.Value.pt2Of i < cfg0.N := by
    rw [hN]; show 2 * (2 * ((i 0).val / 1024 - 0) + 1 * ((i 1).val / 1024 - 0)) + 1 < 8; omega
  unfold Cert.KernelDwoIdeal.Value.G2
  rw [dif_pos ht, ← Cert.KernelDwoIdeal.Value.outsAt0_sweep m c (Cert.KernelDwoIdeal.Value.pt2Of i) ht]
  obtain ⟨n, hn⟩ : ∃ n, n = 2 * ((i 0).val / 1024) + (i 1).val / 1024 := ⟨_, rfl⟩
  have hp : Cert.KernelDwoIdeal.Value.pt2Of i = 2 * n + 1 := by
    show 2 * (2 * ((i 0).val / 1024 - 0) + 1 * ((i 1).val / 1024 - 0)) + 1 = _; omega
  rw [hp] at ht
  have e := written m c ⟨2 * n + 1, ht⟩ ⟨2 * n, by omega⟩ (by dsimp only; omega) rfl
  rw [show (outsAt0 m c (Cert.KernelDwoIdeal.Value.pt2Of i) (hp ▸ ht)) = outsAt0 m c (2 * n + 1) ht from by simp only [hp], e]
  obtain ⟨r, hr⟩ : ∃ r : Fin 1024, r.val = (i 0).val % 1024 := ⟨⟨_, Nat.mod_lt _ (by decide)⟩, rfl⟩
  obtain ⟨s, hs⟩ : ∃ s : Fin 1024, s.val = (i 1).val % 1024 := ⟨⟨_, Nat.mod_lt _ (by decide)⟩, rfl⟩
  rw [show Cert.KernelDwoIdeal.Value.loc2Of i = ix2 r s from by funext a; apply Fin.ext; match a with | ⟨0, _⟩ => exact hr.symm | ⟨1, _⟩ => exact hs.symm]
  rw [last_apply, product_block m c, product_block m c]
  dsimp only
  rw [show 1024 * (2 * n / 4) + r.val = (i 0).val from by omega, show 1024 * (2 * n / 2 % 2) + s.val = (i 1).val from by omega, show 2 * n % 2 = 0 from by omega,
    show 1024 * ((2 * n + 1) / 4) + r.val = (i 0).val from by omega, show 1024 * ((2 * n + 1) / 2 % 2) + s.val = (i 1).val from by omega,
    show (2 * n + 1) % 2 = 1 from by omega]
  have e3 := two_blocks 2048 (fun k => entry (argA m c) k (i 0).val * entry (argB m c) k (i 1).val)
  simp only [Nat.mul_zero, Nat.zero_add, Nat.mul_one]
  exact e3.symm

/-- What the reference computes there. -/
theorem reference_apply (A : S4096x2048.Idx → EReal) (B : S4096x2048.Idx → EReal) (i : S2048x2048.Idx) :
    Cert.ReferenceDwoIdeal.Read.val_main_v6 (F := Ideal) A B i = ∑ k : Fin 4096, entry A k.val (i 0).val * entry B k.val (i 1).val := by
  rw [Cert.ReferenceDwoIdeal.Read.val_main_v6_apply, Cert.ReferenceDwoIdeal.Read.val_main_v5_apply]
  show Cert.ReferenceDwoIdeal.Read.val_main_v4 (F := Ideal) A B _ = _
  rw [Cert.ReferenceDwoIdeal.Read.val_main_v4_apply]
  refine Finset.sum_congr rfl fun k _ => ?_
  rw [Cert.ReferenceDwoIdeal.Read.val_main_v3_apply, Cert.ReferenceDwoIdeal.Read.val_main_v1_apply, mul_comm]
  exact congrArg₂ (· * ·) (eq_entry A _ k.val (i 0).val rfl rfl) (eq_entry B _ k.val (i 1).val rfl rfl)

/-- The kernel's result is the reference's. -/
theorem same (A : S4096x2048.Idx → EReal) (B : S4096x2048.Idx → EReal) (hA : A = argA m c) (hB : B = argB m c) :
    Cert.ReferenceDwoIdeal.Read.val_main_v6 (F := Ideal) A B = Cert.KernelDwoIdeal.Value.G2 m c := by
  subst hA hB
  exact funext fun i => (reference_apply _ _ i).trans (result_apply m c i).symm

end Cert.KernelDwoIdeal.Prod

end
-- ==== Proof.Prod.Dwf.lean ====
/-
  The gradient of the forget gate's weights: a product over 4096 positions that the kernel takes in two blocks of 2048, the first into an accumulator.
  What the kernel leaves at an index is what the reference computes there.
-/
module

public import proofs.«01_k».proof.Proof.Gen.KernelDwfIdeal.Value
public import proofs.«01_k».proof.Proof.Gen.ReferenceDwfIdeal.Read
public import proofs.«01_k».proof.Proof.Prod.Entries

@[expose] public section

set_option maxRecDepth 16384

noncomputable section

namespace Cert.KernelDwfIdeal.Prod

open Cert.KernelDwfIdeal Cert.KernelDwfIdeal.Gen
open Idealize.ShloMosaic Idealize.ShloMosaic.TcCoe Idealize.ShloMosaic.ValueIdx
open Cert.Prod
open scoped BigOperators

section
variable {F : FTy → Type} [FloatOps F]

/-- The first block's product is what the accumulator then holds. -/
theorem acc_first (c : Dev nD) (i : grid0.Coords) (a3 : Memref sig .tc .vmem S2048x128 .bf16) (h3 : a3.IsWhole) (a4 : Memref sig .tc .vmem S2048x1024 .bf16)
    (h4 : a4.IsWhole) (a5 : Memref sig .tc .vmem S128x1024 .f32) (h5 : a5.IsWhole)
    (a6 : Memref sig .tc .vmem S128x1024 .f32) (h6 : a6.IsWhole) (hc0 : cond0_0 i) (hc1 : ¬cond0_1 i) (hc2 : ¬cond0_2 i)
    (x : Vec F S2048x128 .bf16) (y : Vec F S2048x1024 .bf16) :
    sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero no_offset]
  unfold k0_pay2
  simp only [View.readAt_eq_ld, h3.read_unread, h4.read_unread, View.ld_unit_zero (S := S2048x128) no_offset, View.ld_unit_zero (S := S2048x1024) no_offset, shapeCast_self]

/-- At the second block the result is written. -/
theorem out_last (c : Dev nD) (i : grid0.Coords) (a3 : Memref sig .tc .vmem S2048x128 .bf16) (h3 : a3.IsWhole) (a4 : Memref sig .tc .vmem S2048x1024 .bf16)
    (h4 : a4.IsWhole) (a5 : Memref sig .tc .vmem S128x1024 .f32) (h5 : a5.IsWhole)
    (a6 : Memref sig .tc .vmem S128x1024 .f32) (h6 : a6.IsWhole) (hc0 : ¬cond0_0 i) (hc1 : ¬cond0_1 i) (hc2 : cond0_2 i)
    (x : Vec F S2048x128 .bf16) (y : Vec F S2048x1024 .bf16) (s : Vec F S128x1024 .f32) :
    out0_B_2 c i a3 h3 a4 h4 a5 h5 a6 h6 hc0 hc1 hc2 x y s = k0_pay4 x y s := by
  unfold out0_B_2
  rw [View.read_writes_eq_canon _ _ _ (cover0_B_2 c i a3 h3 a4 h4 a5 h5 a6 h6 hc0 hc1 hc2 x y s)]
  unfold kernelRun0_B
  dsimp only
  rw [View.canon_unit_zero no_offset]
  simp only [View.readAt_eq_ld, h3.read_unread, h4.read_unread, h6.read_unread, View.ld_unit_zero (S := S2048x128) no_offset, View.ld_unit_zero (S := S2048x1024) no_offset,
    View.ld_unit_zero (S := S128x1024) no_offset]

variable (m : (ℓ : Loc nD τ sig) → Buf (Elt F) ℓ)

/-- What a point that writes back writes, from the blocks of its two points. -/
theorem written (c : Dev nD) (t t0 : Fin cfg0.N) (h : t.val % 2 = 1) (h0 : t0.val + 1 = t.val) :
    (outsAt0 m c t.val t.isLt).1 = k0_pay4 (iblk m c 0 t) (iblk m c 1 t) (k0_pay1 (iblk m c 0 t0) (iblk m c 1 t0)) := by
  obtain ⟨n, hn⟩ := t0
  obtain ⟨n1, hn1⟩ := t
  dsimp only at h h0
  obtain rfl : n1 = n + 1 := by omega
  rw [outsAt0_B m c ⟨n + 1, hn1⟩ (by dsimp only; omega) h]
  dsimp only
  rw [out_last]
  show k0_pay4 _ _ (outsAt0 m c n hn).2 = _
  rw [outsAt0_A m c ⟨n, hn⟩ (by dsimp only; omega) (by dsimp only; omega)]
  dsimp only
  rw [acc_first]

end

variable (m : (ℓ : Loc nD τ sig) → Buf (Elt Ideal) ℓ) (c : Dev nD)

/-- The two matrices the kernel is given. -/
abbrev argA : S4096x128.Idx → EReal := m ((c.tc : Thread nD τ).loc main_arg0)
abbrev argB : S4096x2048.Idx → EReal := m ((c.tc : Thread nD τ).loc main_arg1)

theorem places : ∀ t : Fin cfg0.N, win0_0.index t (0 : Fin 2) = t.val % 2 ∧ win0_0.index t (1 : Fin 2) = 0
    ∧ win0_1.index t (0 : Fin 2) = t.val % 2 ∧ win0_1.index t (1 : Fin 2) = t.val / 2 :=
  (by decide +kernel : ∀ t : Fin grid0.N, _)

theorem block_a (t : Fin cfg0.N) (k : Fin 2048) (r : Fin 128) :
    iblk m c 0 t (ix2 k r : S2048x128.Idx) = entry (argA m c) (2048 * (t.val % 2) + k.val) (r.val) := by
  obtain ⟨e0, e1, -⟩ := places t
  refine eq_entry (argA m c) (((cfg0.win 0).blk t).view.emb (ix2 k r : S2048x128.Idx)) _ _ ?_ ?_
  · show win0_0.index t (0 : Fin 2) * 2048 + 1 * k.val = _; omega
  · show win0_0.index t (1 : Fin 2) * 128 + 1 * r.val = _; omega

theorem block_b (t : Fin cfg0.N) (k : Fin 2048) (s : Fin 1024) :
    iblk m c 1 t (ix2 k s : S2048x1024.Idx) = entry (argB m c) (2048 * (t.val % 2) + k.val) (1024 * (t.val / 2) + s.val) := by
  obtain ⟨-, -, e0, e1⟩ := places t
  refine eq_entry (argB m c) (((cfg0.win 1).blk t).view.emb (ix2 k s : S2048x1024.Idx)) _ _ ?_ ?_
  · show win0_1.index t (0 : Fin 2) * 2048 + 1 * k.val = _; omega
  · show win0_1.index t (1 : Fin 2) * 1024 + 1 * s.val = _; omega

/-- One block's product at an index. -/
theorem product_apply (x : FVec Ideal S2048x128 .bf16) (y : FVec Ideal S2048x1024 .bf16) (r : Fin 128) (s : Fin 1024) :
    k0_pay1 (F := Ideal) x y (ix2 r s) = ∑ k : Fin 2048, x (ix2 k r) * y (ix2 k s) := by
  have hk := contrEquiv1_symm_val dot_S2048x128_S2048x1024_S128x1024_0_0_1_1_n_n 2048 rfl rfl
  refine matmul_rows dot_S2048x128_S2048x1024_S128x1024_0_0_1_1_n_n none (contrEquiv1 _ 2048 rfl rfl) (fun r c k => ?_) (fun r c k => ?_) x y r s
  · funext a; apply Fin.ext
    match a with
    | ⟨0, _⟩ => exact hk k
    | ⟨1, _⟩ => rfl
  · funext a; apply Fin.ext
    match a with
    | ⟨0, _⟩ => exact hk k
    | ⟨1, _⟩ => rfl

/-- One block's product, from the given matrices. -/
theorem product_block (t : Fin cfg0.N) (r : Fin 128) (s : Fin 1024) :
    k0_pay1 (F := Ideal) (iblk m c 0 t) (iblk m c 1 t) (ix2 r s) = ∑ k : Fin 2048,
      entry (argA m c) (2048 * (t.val % 2) + k.val) (r.val) * entry (argB m c) (2048 * (t.val % 2) + k.val) (1024 * (t.val / 2) + s.val) := by
  rw [product_apply]
  exact Finset.sum_congr rfl fun k _ => by rw [block_a m c t k r, block_b m c t k s]

theorem last_apply (x : FVec Ideal S2048x128 .bf16) (y : FVec Ideal S2048x1024 .bf16) (a : FVec Ideal S128x1024 .f32) (i : S128x1024.Idx) :
    k0_pay4 (F := Ideal) x y a i = a i + k0_pay1 (F := Ideal) x y i := rfl

/-- What the kernel leaves at an index. -/
theorem result_apply (i : S128x2048.Idx) : Cert.KernelDwfIdeal.Value.G2 m c i
    = ∑ k : Fin 4096, entry (argA m c) k.val (i 0).val * entry (argB m c) k.val (i 1).val := by
  have hN : cfg0.N = 4 := N_0
  have hi0 : (i 0).val < 128 := (i 0).isLt
  have hi1 : (i 1).val < 2048 := (i 1).isLt
  have ht : Cert.KernelDwfIdeal.Value.pt2Of i < cfg0.N := by
    rw [hN]; show 2 * (2 * ((i 0).val / 128 - 0) + 1 * ((i 1).val / 1024 - 0)) + 1 < 4; omega
  unfold Cert.KernelDwfIdeal.Value.G2
  rw [dif_pos ht, ← Cert.KernelDwfIdeal.Value.outsAt0_sweep m c (Cert.KernelDwfIdeal.Value.pt2Of i) ht]
  obtain ⟨n, hn⟩ : ∃ n, n = 2 * ((i 0).val / 128) + (i 1).val / 1024 := ⟨_, rfl⟩
  have hp : Cert.KernelDwfIdeal.Value.pt2Of i = 2 * n + 1 := by
    show 2 * (2 * ((i 0).val / 128 - 0) + 1 * ((i 1).val / 1024 - 0)) + 1 = _; omega
  rw [hp] at ht
  have e := written m c ⟨2 * n + 1, ht⟩ ⟨2 * n, by omega⟩ (by dsimp only; omega) rfl
  rw [show (outsAt0 m c (Cert.KernelDwfIdeal.Value.pt2Of i) (hp ▸ ht)) = outsAt0 m c (2 * n + 1) ht from by simp only [hp], e]
  obtain ⟨r, hr⟩ : ∃ r : Fin 128, r.val = (i 0).val % 128 := ⟨⟨_, Nat.mod_lt _ (by decide)⟩, rfl⟩
  obtain ⟨s, hs⟩ : ∃ s : Fin 1024, s.val = (i 1).val % 1024 := ⟨⟨_, Nat.mod_lt _ (by decide)⟩, rfl⟩
  rw [show Cert.KernelDwfIdeal.Value.loc2Of i = ix2 r s from by funext a; apply Fin.ext; match a with | ⟨0, _⟩ => exact hr.symm | ⟨1, _⟩ => exact hs.symm]
  rw [last_apply, product_block m c, product_block m c]
  dsimp only
  rw [show r.val = (i 0).val from by omega, show 1024 * (2 * n / 2) + s.val = (i 1).val from by omega, show 2 * n % 2 = 0 from by omega,
    show 1024 * ((2 * n + 1) / 2) + s.val = (i 1).val from by omega, show (2 * n + 1) % 2 = 1 from by omega]
  have e3 := two_blocks 2048 (fun k => entry (argA m c) k (i 0).val * entry (argB m c) k (i 1).val)
  simp only [Nat.mul_zero, Nat.zero_add, Nat.mul_one]
  exact e3.symm

/-- What the reference computes there. -/
theorem reference_apply (A : S4096x128.Idx → EReal) (B : S4096x2048.Idx → EReal) (i : S128x2048.Idx) :
    Cert.ReferenceDwfIdeal.Read.val_main_v4 (F := Ideal) A B i = ∑ k : Fin 4096, entry A k.val (i 0).val * entry B k.val (i 1).val := by
  rw [Cert.ReferenceDwfIdeal.Read.val_main_v4_apply]
  exact Finset.sum_congr rfl fun k _ => congrArg₂ (· * ·) (eq_entry A _ k.val (i 0).val rfl rfl) (eq_entry B _ k.val (i 1).val rfl rfl)

/-- The kernel's result is the reference's. -/
theorem same (A : S4096x128.Idx → EReal) (B : S4096x2048.Idx → EReal) (hA : A = argA m c) (hB : B = argB m c) :
    Cert.ReferenceDwfIdeal.Read.val_main_v4 (F := Ideal) A B = Cert.KernelDwfIdeal.Value.G2 m c := by
  subst hA hB
  exact funext fun i => (reference_apply _ _ i).trans (result_apply m c i).symm

end Cert.KernelDwfIdeal.Prod

end
-- ==== Proof.Prod.Main.lean ====
/-
  The input projection: one product of a block of rows and a block of rows for each block of the result.
  What the kernel leaves at an index is what the reference computes there.
-/
module

public import proofs.«01_k».proof.Proof.Gen.KernelMainIdeal.Value
public import proofs.«01_k».proof.Proof.Gen.ReferenceMainIdeal.Read
public import proofs.«01_k».proof.Proof.Prod.Entries

@[expose] public section

set_option maxRecDepth 16384

noncomputable section

namespace Cert.KernelMainIdeal.Prod

open Cert.KernelMainIdeal Cert.KernelMainIdeal.Gen
open Idealize.ShloMosaic Idealize.ShloMosaic.TcCoe Idealize.ShloMosaic.ValueIdx
open Cert.Prod
open scoped BigOperators

variable (m : (ℓ : Loc nD τ sig) → Buf (Elt Ideal) ℓ) (c : Dev nD)

/-- The two matrices the kernel is given. -/
abbrev argA : S4096x2048.Idx → EReal := m ((c.tc : Thread nD τ).loc main_arg0)
abbrev argB : S7296x2048.Idx → EReal := m ((c.tc : Thread nD τ).loc main_arg1)

theorem places : ∀ t : Fin cfg0.N, win0_0.index t (0 : Fin 2) = t.val / 7 ∧ win0_0.index t (1 : Fin 2) = 0
    ∧ win0_1.index t (0 : Fin 2) = t.val % 7 ∧ win0_1.index t (1 : Fin 2) = 0
    ∧ win0_2.index t (0 : Fin 2) = t.val / 7 ∧ win0_2.index t (1 : Fin 2) = t.val % 7 :=
  (by decide +kernel : ∀ t : Fin grid0.N, _)

theorem writes_back : ∀ t : Fin cfg0.N, (cfg0.win 2).flush t = true :=
  (by decide +kernel : ∀ t : Fin grid0.N, win0_2.flush t = true)

theorem block_a (t : Fin cfg0.N) (r : Fin 1024) (k : Fin 2048) :
    iblk m c 0 t (ix2 r k : S1024x2048.Idx) = entry (argA m c) (1024 * (t.val / 7) + r.val) k.val := by
  obtain ⟨e0, e1, -⟩ := places t
  refine eq_entry (argA m c) (((cfg0.win 0).blk t).view.emb (ix2 r k : S1024x2048.Idx)) _ _ ?_ ?_
  · show win0_0.index t (0 : Fin 2) * 1024 + 1 * r.val = _; omega
  · show win0_0.index t (1 : Fin 2) * 2048 + 1 * k.val = _; omega

theorem block_b (t : Fin cfg0.N) (s : Fin 1024) (k : Fin 2048) :
    X0_1 m c t (ix2 s k : S1024x2048.Idx) = entry (argB m c) (1024 * (t.val % 7) + s.val) k.val := by
  obtain ⟨-, -, e0, e1, -⟩ := places t
  show (cfg0.win 1).fill (cfg0.grid.coords t) dflt0_1 (iblk m c 1 t) (ix2 s k : S1024x2048.Idx) = _
  unfold Pipeline.Window.fill
  rw [dif_pos (moved0_1 t (ix2 s k : S1024x2048.Idx))]
  refine eq_entry (argB m c) (((cfg0.win 1).blk t).view.emb _) _ _ ?_ ?_
  · show win0_1.index t (0 : Fin 2) * 1024 + 1 * s.val = _; omega
  · show win0_1.index t (1 : Fin 2) * 2048 + 1 * k.val = _; omega

/-- What the body writes. -/
theorem out_eq {F : FTy → Type} [FloatOps F] (i : grid0.Coords) (a3 : Memref sig .tc .vmem S1024x2048 .bf16) (h3 : a3.IsWhole) (a4 : Memref sig .tc .vmem S1024x2048 .bf16)
    (h4 : a4.IsWhole) (a5 : Memref sig .tc .vmem S1024x1024 .bf16) (h5 : a5.IsWhole) (x y : Vec F S1024x2048 .bf16) :
    out0_A_2 c i a3 h3 a4 h4 a5 h5 x y = k0_pay1 x y := by
  unfold out0_A_2
  rw [View.read_writes_eq_canon _ _ _ (cover0_A_2 c i a3 h3 a4 h4 a5 h5 x y)]
  unfold kernelRun0_A
  dsimp only
  rw [View.canon_unit_zero no_offset]
  simp only [View.readAt_eq_ld, h3.read_unread, h4.read_unread, View.ld_unit_zero (S := S1024x2048) no_offset]

/-- The body's product at an index. -/
theorem product_apply (x y : FVec Ideal S1024x2048 .bf16) (r s : Fin 1024) :
    k0_pay1 (F := Ideal) x y (ix2 r s) = ∑ k : Fin 2048, x (ix2 r k) * y (ix2 s k) := by
  have hk := contrEquiv1_symm_val dot_S1024x2048_S1024x2048_S1024x1024_1_1_0_0_n_n 2048 rfl rfl
  show FloatOps.matmul dot_S1024x2048_S1024x2048_S1024x1024_1_1_0_0_n_n none x y (constant (F := Ideal) _ .f32 0x00000000#32) (ix2 r s) = _
  rw [Ideal.matmul_constant_zero_apply, ← Equiv.sum_comp (contrEquiv1 dot_S1024x2048_S1024x2048_S1024x1024_1_1_0_0_n_n 2048 rfl rfl).symm]
  refine Finset.sum_congr rfl fun k _ => congrArg₂ (· * ·) (congrArg x ?_) (congrArg y ?_)
  · funext a; apply Fin.ext
    match a with
    | ⟨0, _⟩ => rfl
    | ⟨1, _⟩ => exact hk k
  · funext a; apply Fin.ext
    match a with
    | ⟨0, _⟩ => rfl
    | ⟨1, _⟩ => exact hk k

/-- What the kernel leaves at an index. -/
theorem result_apply (i : S4096x7168.Idx) : ((dats m 0 c).arrAt 2 cfg0.N : S4096x7168.Idx → EReal) i
    = ∑ k : Fin 2048, entry (argA m c) (i 0).val k.val * entry (argB m c) (i 1).val k.val := by
  have hN : cfg0.N = 28 := N_0
  have hi0 : (i 0).val < 4096 := (i 0).isLt
  have hi1 : (i 1).val < 7168 := (i 1).isLt
  obtain ⟨t, ht⟩ : ∃ t : Fin cfg0.N, t.val = 7 * ((i 0).val / 1024) + (i 1).val / 1024 := ⟨⟨_, by rw [hN]; omega⟩, rfl⟩
  obtain ⟨r, hr⟩ : ∃ r : Fin 1024, r.val = (i 0).val % 1024 := ⟨⟨_, Nat.mod_lt _ (by decide)⟩, rfl⟩
  obtain ⟨s, hs⟩ : ∃ s : Fin 1024, s.val = (i 1).val % 1024 := ⟨⟨_, Nat.mod_lt _ (by decide)⟩, rfl⟩
  obtain ⟨-, -, -, -, e0, e1⟩ := places t
  have hi : ((cfg0.win 2).blk t).view.emb (ix2 r s : S1024x1024.Idx) = i := by
    funext a; apply Fin.ext
    match a with
    | ⟨0, _⟩ => show win0_2.index t (0 : Fin 2) * 1024 + 1 * r.val = (i 0).val; omega
    | ⟨1, _⟩ => show win0_2.index t (1 : Fin 2) * 1024 + 1 * s.val = (i 1).val; omega
  have e : (dats m 0 c).arrAt 2 cfg0.N (((cfg0.win 2).blk t).view.emb (ix2 r s : S1024x1024.Idx)) = (dats m 0 c).flushed 2 t (ix2 r s : S1024x1024.Idx) :=
    congrFun (Cert.KernelMainIdeal.Value.blocks2 m c t (writes_back t)) (ix2 r s : S1024x1024.Idx)
  rw [hi] at e
  refine e.trans ?_
  rw [Cert.KernelMainIdeal.Value.flushed2_A m c t]
  show out0_A_2 c (grid0.coords t) (ms0_0 t) (hs0_0 t) (ms0_1 t) (hs0_1 t) (ms0_2 t) (hs0_2 t) (iblk m c 0 t) (X0_1 m c t) (ix2 r s) = _
  rw [out_eq, product_apply]
  refine Finset.sum_congr rfl fun k _ => ?_
  rw [block_a m c t r k, block_b m c t s k, show 1024 * (t.val / 7) + r.val = (i 0).val from by omega, show 1024 * (t.val % 7) + s.val = (i 1).val from by omega]

/-- What the reference computes there. -/
theorem reference_apply (A : S4096x2048.Idx → EReal) (B : S7296x2048.Idx → EReal) (i : S4096x7168.Idx) :
    Cert.ReferenceMainIdeal.Read.val_main_v4 (F := Ideal) A B i = ∑ k : Fin 2048, entry A (i 0).val k.val * entry B (i 1).val k.val := by
  rw [Cert.ReferenceMainIdeal.Read.val_main_v4_apply, Cert.ReferenceMainIdeal.Read.val_main_v3_apply]
  refine Finset.sum_congr rfl fun k _ => ?_
  rw [Cert.ReferenceMainIdeal.Read.val_main_v2_apply, Cert.ReferenceMainIdeal.Read.val_main_v1_apply]
  exact congrArg₂ (· * ·) (eq_entry A _ (i 0).val k.val rfl rfl) (eq_entry B _ (i 1).val k.val rfl rfl)

/-- The kernel's result is the reference's. -/
theorem same (A : S4096x2048.Idx → EReal) (B : S7296x2048.Idx → EReal) (hA : A = argA m c) (hB : B = argB m c) :
    Cert.ReferenceMainIdeal.Read.val_main_v4 (F := Ideal) A B = (dats m 0 c).arrAt 2 cfg0.N := by
  subst hA hB
  exact funext fun i => (reference_apply _ _ i).trans (result_apply m c i).symm

end Cert.KernelMainIdeal.Prod

end
-- ==== Proof.Prod.Fg.lean ====
/-
  The forget gate's projection: one product of a block of rows and a block of rows for each block of the result.
  What the kernel leaves at an index is what the reference computes there.
-/
module

public import proofs.«01_k».proof.Proof.Gen.KernelFgIdeal.Value
public import proofs.«01_k».proof.Proof.Gen.ReferenceFgIdeal.Read
public import proofs.«01_k».proof.Proof.Prod.Entries

@[expose] public section

set_option maxRecDepth 16384

noncomputable section

namespace Cert.KernelFgIdeal.Prod

open Cert.KernelFgIdeal Cert.KernelFgIdeal.Gen
open Idealize.ShloMosaic Idealize.ShloMosaic.TcCoe Idealize.ShloMosaic.ValueIdx
open Cert.Prod
open scoped BigOperators

variable (m : (ℓ : Loc nD τ sig) → Buf (Elt Ideal) ℓ) (c : Dev nD)

/-- The two matrices the kernel is given. -/
abbrev argA : S4096x2048.Idx → EReal := m ((c.tc : Thread nD τ).loc main_arg0)
abbrev argB : S128x2048.Idx → EReal := m ((c.tc : Thread nD τ).loc main_arg1)

theorem places : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem writes_back : ∀ t : Fin cfg0.N, (cfg0.win 2).flush t = true :=
  (by decide +kernel : ∀ t : Fin grid0.N, win0_2.flush t = true)

theorem block_a (t : Fin cfg0.N) (r : Fin 1024) (k : Fin 2048) :
    iblk m c 0 t (ix2 r k : S1024x2048.Idx) = entry (argA m c) (1024 * t.val + r.val) k.val := by
  obtain ⟨e0, e1, -⟩ := places t
  refine eq_entry (argA m c) (((cfg0.win 0).blk t).view.emb (ix2 r k : S1024x2048.Idx)) _ _ ?_ ?_
  · show win0_0.index t (0 : Fin 2) * 1024 + 1 * r.val = _; omega
  · show win0_0.index t (1 : Fin 2) * 2048 + 1 * k.val = _; omega

theorem block_b (t : Fin cfg0.N) (s : Fin 128) (k : Fin 2048) :
    iblk m c 1 t (ix2 s k : S128x2048.Idx) = entry (argB m c) (s.val) k.val := by
  obtain ⟨-, -, e0, e1, -⟩ := places t
  refine eq_entry (argB m c) (((cfg0.win 1).blk t).view.emb (ix2 s k : S128x2048.Idx)) _ _ ?_ ?_
  · show win0_1.index t (0 : Fin 2) * 128 + 1 * s.val = _; omega
  · show win0_1.index t (1 : Fin 2) * 2048 + 1 * k.val = _; omega

/-- The body's product at an index. -/
theorem product_apply (x : FVec Ideal S1024x2048 .bf16) (y : FVec Ideal S128x2048 .bf16) (r : Fin 1024) (s : Fin 128) :
    out0_2 (F := Ideal) x y (ix2 r s) = ∑ k : Fin 2048, x (ix2 r k) * y (ix2 s k) := by
  unfold out0_2
  rw [View.canon_unit_zero no_offset, View.ld_unit_zero (S := S1024x2048) no_offset, View.ld_unit_zero (S := S128x2048) no_offset]
  have hk := contrEquiv1_symm_val dot_S1024x2048_S128x2048_S1024x128_1_1_0_0_n_n 2048 rfl rfl
  show FloatOps.matmul dot_S1024x2048_S128x2048_S1024x128_1_1_0_0_n_n none x y (constant (F := Ideal) _ .f32 0x00000000#32) (ix2 r s) = _
  rw [Ideal.matmul_constant_zero_apply, ← Equiv.sum_comp (contrEquiv1 dot_S1024x2048_S128x2048_S1024x128_1_1_0_0_n_n 2048 rfl rfl).symm]
  refine Finset.sum_congr rfl fun k _ => congrArg₂ (· * ·) (congrArg x ?_) (congrArg y ?_)
  · funext a; apply Fin.ext
    match a with
    | ⟨0, _⟩ => rfl
    | ⟨1, _⟩ => exact hk k
  · funext a; apply Fin.ext
    match a with
    | ⟨0, _⟩ => rfl
    | ⟨1, _⟩ => exact hk k

/-- What the kernel leaves at an index. -/
theorem result_apply (i : S4096x128.Idx) : ((dats m 0 c).arrAt 2 cfg0.N : S4096x128.Idx → EReal) i
    = ∑ k : Fin 2048, entry (argA m c) (i 0).val k.val * entry (argB m c) (i 1).val k.val := by
  have hN : cfg0.N = 4 := N_0
  have hi0 : (i 0).val < 4096 := (i 0).isLt
  have hi1 : (i 1).val < 128 := (i 1).isLt
  obtain ⟨t, ht⟩ : ∃ t : Fin cfg0.N, t.val = (i 0).val / 1024 := ⟨⟨_, by rw [hN]; omega⟩, rfl⟩
  obtain ⟨r, hr⟩ : ∃ r : Fin 1024, r.val = (i 0).val % 1024 := ⟨⟨_, Nat.mod_lt _ (by decide)⟩, rfl⟩
  obtain ⟨s, hs⟩ : ∃ s : Fin 128, s.val = (i 1).val % 128 := ⟨⟨_, Nat.mod_lt _ (by decide)⟩, rfl⟩
  obtain ⟨-, -, -, -, e0, e1⟩ := places t
  have hi : ((cfg0.win 2).blk t).view.emb (ix2 r s : S1024x128.Idx) = i := by
    funext a; apply Fin.ext
    match a with
    | ⟨0, _⟩ => show win0_2.index t (0 : Fin 2) * 1024 + 1 * r.val = (i 0).val; omega
    | ⟨1, _⟩ => show win0_2.index t (1 : Fin 2) * 128 + 1 * s.val = (i 1).val; omega
  have e : (dats m 0 c).arrAt 2 cfg0.N (((cfg0.win 2).blk t).view.emb (ix2 r s : S1024x128.Idx)) = (dats m 0 c).flushed 2 t (ix2 r s : S1024x128.Idx) :=
    congrFun (Cert.KernelFgIdeal.Value.blocks2 m c t (writes_back t)) (ix2 r s : S1024x128.Idx)
  rw [hi] at e
  refine e.trans ?_
  rw [Cert.KernelFgIdeal.Value.flushed2 m c t]
  show out0_2 (iblk m c 0 t) (iblk m c 1 t) (ix2 r s) = _
  rw [product_apply]
  refine Finset.sum_congr rfl fun k _ => ?_
  rw [block_a m c t r k, block_b m c t s k, show 1024 * t.val + r.val = (i 0).val from by omega, show s.val = (i 1).val from by omega]

/-- What the reference computes there. -/
theorem reference_apply (A : S4096x2048.Idx → EReal) (B : S128x2048.Idx → EReal) (i : S4096x128.Idx) :
    Cert.ReferenceFgIdeal.Read.val_main_v2 (F := Ideal) A B i = ∑ k : Fin 2048, entry A (i 0).val k.val * entry B (i 1).val k.val := by
  rw [Cert.ReferenceFgIdeal.Read.val_main_v2_apply]
  refine Finset.sum_congr rfl fun k _ => ?_
  exact congrArg₂ (· * ·) (eq_entry A _ (i 0).val k.val rfl rfl) (eq_entry B _ (i 1).val k.val rfl rfl)

/-- The kernel's result is the reference's. -/
theorem same (A : S4096x2048.Idx → EReal) (B : S128x2048.Idx → EReal) (hA : A = argA m c) (hB : B = argB m c) :
    Cert.ReferenceFgIdeal.Read.val_main_v2 (F := Ideal) A B = (dats m 0 c).arrAt 2 cfg0.N := by
  subst hA hB
  exact funext fun i => (reference_apply _ _ i).trans (result_apply m c i).symm

end Cert.KernelFgIdeal.Prod

end
-- ==== Proof.Prod.Claims.lean ====
/-
  The claims of the seven single products, each from the program's run and the equality at every index.
-/
module

public import proofs.«01_k».proof.Defs
public import proofs.«01_k».proof.Proof.Gen.KernelDx
public import proofs.«01_k».proof.Proof.Gen.KernelDx.Frame
public import proofs.«01_k».proof.Proof.Gen.KernelDxIdeal
public import proofs.«01_k».proof.Proof.Gen.KernelDxIdeal.Frame
public import proofs.«01_k».proof.Proof.Gen.KernelDxIdeal.Value
public import proofs.«01_k».proof.Proof.Gen.ReferenceDxIdeal
public import proofs.«01_k».proof.Proof.Gen.ReferenceDxIdeal.Run
public import proofs.«01_k».proof.Proof.Gen.ReferenceDxIdeal.Read
public import proofs.«01_k».proof.Proof.Prod.Dx
public import proofs.«01_k».proof.Proof.Gen.KernelDw
public import proofs.«01_k».proof.Proof.Gen.KernelDw.Frame
public import proofs.«01_k».proof.Proof.Gen.KernelDwIdeal
public import proofs.«01_k».proof.Proof.Gen.KernelDwIdeal.Frame
public import proofs.«01_k».proof.Proof.Gen.KernelDwIdeal.Value
public import proofs.«01_k».proof.Proof.Gen.ReferenceDwIdeal
public import proofs.«01_k».proof.Proof.Gen.ReferenceDwIdeal.Run
public import proofs.«01_k».proof.Proof.Gen.ReferenceDwIdeal.Read
public import proofs.«01_k».proof.Proof.Prod.Dw
public import proofs.«01_k».proof.Proof.Gen.KernelDy
public import proofs.«01_k».proof.Proof.Gen.KernelDy.Frame
public import proofs.«01_k».proof.Proof.Gen.KernelDyIdeal
public import proofs.«01_k».proof.Proof.Gen.KernelDyIdeal.Frame
public import proofs.«01_k».proof.Proof.Gen.KernelDyIdeal.Value
public import proofs.«01_k».proof.Proof.Gen.ReferenceDyIdeal
public import proofs.«01_k».proof.Proof.Gen.ReferenceDyIdeal.Run
public import proofs.«01_k».proof.Proof.Gen.ReferenceDyIdeal.Read
public import proofs.«01_k».proof.Proof.Prod.Dy
public import proofs.«01_k».proof.Proof.Gen.KernelDwo
public import proofs.«01_k».proof.Proof.Gen.KernelDwo.Frame
public import proofs.«01_k».proof.Proof.Gen.KernelDwoIdeal
public import proofs.«01_k».proof.Proof.Gen.KernelDwoIdeal.Frame
public import proofs.«01_k».proof.Proof.Gen.KernelDwoIdeal.Value
public import proofs.«01_k».proof.Proof.Gen.ReferenceDwoIdeal
public import proofs.«01_k».proof.Proof.Gen.ReferenceDwoIdeal.Run
public import proofs.«01_k».proof.Proof.Gen.ReferenceDwoIdeal.Read
public import proofs.«01_k».proof.Proof.Prod.Dwo
public import proofs.«01_k».proof.Proof.Gen.KernelDwf
public import proofs.«01_k».proof.Proof.Gen.KernelDwf.Frame
public import proofs.«01_k».proof.Proof.Gen.KernelDwfIdeal
public import proofs.«01_k».proof.Proof.Gen.KernelDwfIdeal.Frame
public import proofs.«01_k».proof.Proof.Gen.KernelDwfIdeal.Value
public import proofs.«01_k».proof.Proof.Gen.ReferenceDwfIdeal
public import proofs.«01_k».proof.Proof.Gen.ReferenceDwfIdeal.Run
public import proofs.«01_k».proof.Proof.Gen.ReferenceDwfIdeal.Read
public import proofs.«01_k».proof.Proof.Prod.Dwf
public import proofs.«01_k».proof.Proof.Gen.KernelMain
public import proofs.«01_k».proof.Proof.Gen.KernelMain.Frame
public import proofs.«01_k».proof.Proof.Gen.KernelMainIdeal
public import proofs.«01_k».proof.Proof.Gen.KernelMainIdeal.Frame
public import proofs.«01_k».proof.Proof.Gen.KernelMainIdeal.Value
public import proofs.«01_k».proof.Proof.Gen.ReferenceMainIdeal
public import proofs.«01_k».proof.Proof.Gen.ReferenceMainIdeal.Run
public import proofs.«01_k».proof.Proof.Gen.ReferenceMainIdeal.Read
public import proofs.«01_k».proof.Proof.Prod.Main
public import proofs.«01_k».proof.Proof.Gen.KernelFg
public import proofs.«01_k».proof.Proof.Gen.KernelFg.Frame
public import proofs.«01_k».proof.Proof.Gen.KernelFgIdeal
public import proofs.«01_k».proof.Proof.Gen.KernelFgIdeal.Frame
public import proofs.«01_k».proof.Proof.Gen.KernelFgIdeal.Value
public import proofs.«01_k».proof.Proof.Gen.ReferenceFgIdeal
public import proofs.«01_k».proof.Proof.Gen.ReferenceFgIdeal.Run
public import proofs.«01_k».proof.Proof.Gen.ReferenceFgIdeal.Read
public import proofs.«01_k».proof.Proof.Prod.Fg
public import Idealize.ShloMosaic.Adequacy
public import Idealize.ShloMosaic.Init

@[expose] public section

noncomputable section

namespace Cert.Prod

open Idealize.ShloMosaic Idealize.SL.Sem

/-! ## The gradient of the layer's input -/

theorem frame_dx : Cert.quiescent_KernelDx := fun m g _ => Cert.KernelDx.Gen.frame (F := Bits) m g

theorem frame_dx_ideal : Cert.quiescent_KernelDxIdeal := fun m g _ => Cert.KernelDxIdeal.Gen.frame (F := Ideal) m g

theorem frame_dx_reference : Cert.quiescent_ReferenceDxIdeal := fun m g _ =>
  (θ_run _ _ _).mono (fun r h => ⟨fun c => (h c).2, sem_eq_zero_of_no_sems (by decide) r.2⟩) (Cert.ReferenceDxIdeal.Value.run (F := Ideal) m g)

theorem same_dx : Cert.algebraic_KernelDxIdeal_ReferenceDxIdeal := fun m g m' g' _ hm =>
  ⟨fun c => Cert.KernelDxIdeal.Value.G3 m c, Cert.KernelDxIdeal.Value.run (F := Ideal) m g,
    (θ_run _ _ _).mono (fun r h c => by
      obtain ⟨a0, a1, a2⟩ := hm c
      refine ⟨(h c).1.trans ?_, (h c).2⟩
      rw [Cert.ReferenceDxIdeal.Read.val_main_v9_eq]
      exact Cert.KernelDxIdeal.Prod.same m c _ _ _ a0 a1 a2) (Cert.ReferenceDxIdeal.Value.run (F := Ideal) m' g')⟩

/-! ## The gradient of the input projection's weights -/

theorem frame_dw : Cert.quiescent_KernelDw := fun m g _ => Cert.KernelDw.Gen.frame (F := Bits) m g

theorem frame_dw_ideal : Cert.quiescent_KernelDwIdeal := fun m g _ => Cert.KernelDwIdeal.Gen.frame (F := Ideal) m g

theorem frame_dw_reference : Cert.quiescent_ReferenceDwIdeal := fun m g _ =>
  (θ_run _ _ _).mono (fun r h => ⟨fun c => (h c).2, sem_eq_zero_of_no_sems (by decide) r.2⟩) (Cert.ReferenceDwIdeal.Value.run (F := Ideal) m g)

theorem same_dw : Cert.algebraic_KernelDwIdeal_ReferenceDwIdeal := fun m g m' g' _ hm =>
  ⟨fun c => Cert.KernelDwIdeal.Value.G2 m c, Cert.KernelDwIdeal.Value.run (F := Ideal) m g,
    (θ_run _ _ _).mono (fun r h c => by
      obtain ⟨a0, a1⟩ := hm c
      refine ⟨(h c).1.trans ?_, (h c).2⟩
      rw [Cert.ReferenceDwIdeal.Read.val_main_v6_eq]
      exact Cert.KernelDwIdeal.Prod.same m c _ _ a0 a1) (Cert.ReferenceDwIdeal.Value.run (F := Ideal) m' g')⟩

/-! ## The gradient the output projection passes back -/

theorem frame_dy : Cert.quiescent_KernelDy := fun m g _ => Cert.KernelDy.Gen.frame (F := Bits) m g

theorem frame_dy_ideal : Cert.quiescent_KernelDyIdeal := fun m g _ => Cert.KernelDyIdeal.Gen.frame (F := Ideal) m g

theorem frame_dy_reference : Cert.quiescent_ReferenceDyIdeal := fun m g _ =>
  (θ_run _ _ _).mono (fun r h => ⟨fun c => (h c).2, sem_eq_zero_of_no_sems (by decide) r.2⟩) (Cert.ReferenceDyIdeal.Value.run (F := Ideal) m g)

theorem same_dy : Cert.algebraic_KernelDyIdeal_ReferenceDyIdeal := fun m g m' g' _ hm =>
  ⟨fun c => (Cert.KernelDyIdeal.Gen.dats m 0 c).arrAt 2 Cert.KernelDyIdeal.cfg0.N, Cert.KernelDyIdeal.Value.run_blocks (F := Ideal) m g,
    (θ_run _ _ _).mono (fun r h c => by
      obtain ⟨a0, a1⟩ := hm c
      refine ⟨(h c).1.trans ?_, (h c).2⟩
      rw [Cert.ReferenceDyIdeal.Read.val_main_v5_eq]
      exact Cert.KernelDyIdeal.Prod.same m c _ _ a0 a1) (Cert.ReferenceDyIdeal.Value.run (F := Ideal) m' g')⟩

/-! ## The gradient of the output projection's weights -/

theorem frame_dwo : Cert.quiescent_KernelDwo := fun m g _ => Cert.KernelDwo.Gen.frame (F := Bits) m g

theorem frame_dwo_ideal : Cert.quiescent_KernelDwoIdeal := fun m g _ => Cert.KernelDwoIdeal.Gen.frame (F := Ideal) m g

theorem frame_dwo_reference : Cert.quiescent_ReferenceDwoIdeal := fun m g _ =>
  (θ_run _ _ _).mono (fun r h => ⟨fun c => (h c).2, sem_eq_zero_of_no_sems (by decide) r.2⟩) (Cert.ReferenceDwoIdeal.Value.run (F := Ideal) m g)

theorem same_dwo : Cert.algebraic_KernelDwoIdeal_ReferenceDwoIdeal := fun m g m' g' _ hm =>
  ⟨fun c => Cert.KernelDwoIdeal.Value.G2 m c, Cert.KernelDwoIdeal.Value.run (F := Ideal) m g,
    (θ_run _ _ _).mono (fun r h c => by
      obtain ⟨a0, a1⟩ := hm c
      refine ⟨(h c).1.trans ?_, (h c).2⟩
      rw [Cert.ReferenceDwoIdeal.Read.val_main_v6_eq]
      exact Cert.KernelDwoIdeal.Prod.same m c _ _ a0 a1) (Cert.ReferenceDwoIdeal.Value.run (F := Ideal) m' g')⟩

/-! ## The gradient of the forget gates' weights -/

theorem frame_dwf : Cert.quiescent_KernelDwf := fun m g _ => Cert.KernelDwf.Gen.frame (F := Bits) m g

theorem frame_dwf_ideal : Cert.quiescent_KernelDwfIdeal := fun m g _ => Cert.KernelDwfIdeal.Gen.frame (F := Ideal) m g

theorem frame_dwf_reference : Cert.quiescent_ReferenceDwfIdeal := fun m g _ =>
  (θ_run _ _ _).mono (fun r h => ⟨fun c => (h c).2, sem_eq_zero_of_no_sems (by decide) r.2⟩) (Cert.ReferenceDwfIdeal.Value.run (F := Ideal) m g)

theorem same_dwf : Cert.algebraic_KernelDwfIdeal_ReferenceDwfIdeal := fun m g m' g' _ hm =>
  ⟨fun c => Cert.KernelDwfIdeal.Value.G2 m c, Cert.KernelDwfIdeal.Value.run (F := Ideal) m g,
    (θ_run _ _ _).mono (fun r h c => by
      obtain ⟨a0, a1⟩ := hm c
      refine ⟨(h c).1.trans ?_, (h c).2⟩
      rw [Cert.ReferenceDwfIdeal.Read.val_main_v4_eq]
      exact Cert.KernelDwfIdeal.Prod.same m c _ _ a0 a1) (Cert.ReferenceDwfIdeal.Value.run (F := Ideal) m' g')⟩

/-! ## The input projection -/

theorem frame_main : Cert.quiescent_KernelMain := fun m g _ => Cert.KernelMain.Gen.frame (F := Bits) m g

theorem frame_main_ideal : Cert.quiescent_KernelMainIdeal := fun m g _ => Cert.KernelMainIdeal.Gen.frame (F := Ideal) m g

theorem frame_main_reference : Cert.quiescent_ReferenceMainIdeal := fun m g _ =>
  (θ_run _ _ _).mono (fun r h => ⟨fun c => (h c).2, sem_eq_zero_of_no_sems (by decide) r.2⟩) (Cert.ReferenceMainIdeal.Value.run (F := Ideal) m g)

theorem same_main : Cert.algebraic_KernelMainIdeal_ReferenceMainIdeal := fun m g m' g' _ hm =>
  ⟨fun c => (Cert.KernelMainIdeal.Gen.dats m 0 c).arrAt 2 Cert.KernelMainIdeal.cfg0.N, Cert.KernelMainIdeal.Value.run_blocks (F := Ideal) m g,
    (θ_run _ _ _).mono (fun r h c => by
      obtain ⟨a0, a1⟩ := hm c
      refine ⟨(h c).1.trans ?_, (h c).2⟩
      rw [Cert.ReferenceMainIdeal.Read.val_main_v4_eq]
      exact Cert.KernelMainIdeal.Prod.same m c _ _ a0 a1) (Cert.ReferenceMainIdeal.Value.run (F := Ideal) m' g')⟩

/-! ## The forget gates' projection -/

theorem frame_fg : Cert.quiescent_KernelFg := fun m g _ => Cert.KernelFg.Gen.frame (F := Bits) m g

theorem frame_fg_ideal : Cert.quiescent_KernelFgIdeal := fun m g _ => Cert.KernelFgIdeal.Gen.frame (F := Ideal) m g

theorem frame_fg_reference : Cert.quiescent_ReferenceFgIdeal := fun m g _ =>
  (θ_run _ _ _).mono (fun r h => ⟨fun c => (h c).2, sem_eq_zero_of_no_sems (by decide) r.2⟩) (Cert.ReferenceFgIdeal.Value.run (F := Ideal) m g)

theorem same_fg : Cert.algebraic_KernelFgIdeal_ReferenceFgIdeal := fun m g m' g' _ hm =>
  ⟨fun c => (Cert.KernelFgIdeal.Gen.dats m 0 c).arrAt 2 Cert.KernelFgIdeal.cfg0.N, Cert.KernelFgIdeal.Value.run_blocks (F := Ideal) m g,
    (θ_run _ _ _).mono (fun r h c => by
      obtain ⟨a0, a1⟩ := hm c
      refine ⟨(h c).1.trans ?_, (h c).2⟩
      rw [Cert.ReferenceFgIdeal.Read.val_main_v2_eq]
      exact Cert.KernelFgIdeal.Prod.same m c _ _ a0 a1) (Cert.ReferenceFgIdeal.Value.run (F := Ideal) m' g')⟩

end Cert.Prod

end
-- ==== Proof.Norm.Rows.lean ====
/-
  The normalisation of one row of 2048 extended reals, and the vector operations that compute it for 256 rows at once, read at an index.
-/
module

public import Idealize.ShloMosaic.Lib.Pipeline.Value
public import Idealize.ShloMosaic.Lib.ValueIdx
public import Idealize.ShloMosaic.PureOps.Ideal.Laws

@[expose] public section

set_option maxRecDepth 16384

noncomputable section

namespace Cert.Norm

open Idealize.ShloMosaic Idealize.ShloMosaic.ValueIdx
open scoped BigOperators

/-- The words of the row's length and of the number added to the variance. -/
abbrev len : EReal := Scalar.ofBits (F := Ideal) .f32 0x45000000#32
abbrev eps : EReal := Scalar.ofBits (F := Ideal) .f32 0x3727C5AC#32

/-- The mean of a row. -/
def mean (f : Fin 2048 → EReal) : EReal := Ideal.div (∑ k, f k) len

/-- A row less its mean. -/
def off (f : Fin 2048 → EReal) (k : Fin 2048) : EReal := f k - mean f

/-- One over the square root of a row's variance and `eps`. -/
def scale (f : Fin 2048 → EReal) : EReal := Ideal.rsqrt (mean (fun k => off f k * off f k) + eps)

/-- A row normalised, then times a gain and plus a shift. -/
def normed (f : Fin 2048 → EReal) (k : Fin 2048) (g b : EReal) : EReal := off f k * scale f * g + b

abbrev Rows : Shape := ⟨2, ![256, 2048]⟩
abbrev Col : Shape := ⟨2, ![256, 1]⟩
abbrev Row : Shape := ⟨2, ![1, 2048]⟩
abbrev Line : Shape := ⟨1, ![256]⟩

/-- A column repeated along the rows. -/
theorem across (u : FVec Ideal Col .f32) (h : Col.Broadcasts Rows) (r : Fin 256) (c : Fin 2048) : broadcastTo Rows u h (ix2 r c) = u (ix2 r 0) :=
  broadcastTo_apply u h (ix2 r c) (ix2 r 0) (fun a => match a with
    | ⟨0, _⟩ => by show r.val = (if (256 : Nat) = 1 then 0 else r.val); rw [if_neg (by decide)]
    | ⟨1, _⟩ => by show 0 = (if (1 : Nat) = 1 then 0 else c.val); rw [if_pos rfl])

/-- A row repeated down the columns. -/
theorem down (u : FVec Ideal Row .f32) (h : Row.Broadcasts Rows) (r : Fin 256) (c : Fin 2048) : broadcastTo Rows u h (ix2 r c) = u (ix2 0 c) :=
  broadcastTo_apply u h (ix2 r c) (ix2 0 c) (fun a => match a with
    | ⟨0, _⟩ => by show 0 = (if (1 : Nat) = 1 then 0 else r.val); rw [if_pos rfl]
    | ⟨1, _⟩ => by show c.val = (if (2048 : Nat) = 1 then 0 else c.val); rw [if_neg (by decide)])

/-- The sums of the rows, set out as a column. -/
theorem sums (v : FVec Ideal Rows .f32) (h : Rows.Reduces [1] Line) (h' : Line.ShapeCasts Col) (r : Fin 256) :
    shapeCast Col (multiReduction .add [1] Line v 0x00000000#32 h (.inl rfl) rfl) h' (ix2 r 0) = ∑ k : Fin 2048, v (ix2 r k) := by
  refine (shapeCast_apply _ h' (ix2 r 0) (ix1 r) (by rw [Shape.rowMajor_val_one, Shape.rowMajor_val_two]; show r.val = r.val * 1 + 0; omega)).trans ?_
  refine (Ideal.multiReduction_add_single v _ h (.inl rfl) rfl (ix1 r)).trans ?_
  refine Finset.sum_congr rfl fun k _ => congrArg v ?_
  funext a; apply Fin.ext
  match a with
  | ⟨0, _⟩ => rfl
  | ⟨1, _⟩ => rfl

/-- The rows less their means. -/
theorem off_apply (v : FVec Ideal Rows .f32) (h : Rows.Reduces [1] Line) (h' : Line.ShapeCasts Col) (h'' : Col.Broadcasts Rows) (r : Fin 256) (c : Fin 2048) :
    subf v (broadcastTo Rows (divf (shapeCast Col (multiReduction .add [1] Line v 0x00000000#32 h (.inl rfl) rfl) h') (broadcast Col (Scalar.ofBits .f32 0x45000000#32))) h'') (ix2 r c)
      = off (fun k => v (ix2 r k)) c := by
  show v (ix2 r c) - broadcastTo Rows _ h'' (ix2 r c) = _
  rw [across]
  show v (ix2 r c) - Ideal.div (shapeCast Col _ h' (ix2 r 0)) len = _
  rw [sums]
  rfl

/-- The scale of each row, from any vector that holds the rows less their means. -/
theorem scale_apply (v w : FVec Ideal Rows .f32) (h : Rows.Reduces [1] Line) (h' : Line.ShapeCasts Col) (h'' : Col.Broadcasts Rows) (r : Fin 256) (c : Fin 2048)
    (hw : ∀ k, w (ix2 r k) = off (fun k => v (ix2 r k)) k) :
    broadcastTo Rows (rsqrt (addf (divf (shapeCast Col (multiReduction .add [1] Line (mulf w w) 0x00000000#32 h (.inl rfl) rfl) h')
      (broadcast Col (Scalar.ofBits .f32 0x45000000#32))) (broadcast Col (Scalar.ofBits .f32 0x3727C5AC#32)))) h'' (ix2 r c) = scale (fun k => v (ix2 r k)) := by
  rw [across]
  show Ideal.rsqrt (Ideal.div (shapeCast Col _ h' (ix2 r 0)) len + eps) = _
  rw [sums]
  show Ideal.rsqrt (Ideal.div (∑ k : Fin 2048, w (ix2 r k) * w (ix2 r k)) len + eps) = _
  rw [Finset.sum_congr rfl fun k _ => by rw [hw k]]
  rfl

end Cert.Norm

end
-- ==== Proof.Norm.Out.lean ====
/-
  The output projection and the normalisation of its rows: 256 rows at each of 16 grid points.
  What the kernel leaves at an index, in its three results, is what the reference computes there.
-/
module

public import proofs.«01_k».proof.Proof.Gen.KernelOutIdeal.Value
public import proofs.«01_k».proof.Proof.Gen.ReferenceOutIdeal.Read
public import proofs.«01_k».proof.Proof.Prod.Entries
public import proofs.«01_k».proof.Proof.Norm.Rows

@[expose] public section

set_option maxRecDepth 16384

noncomputable section

namespace Cert.KernelOutIdeal.Norm

open Cert.KernelOutIdeal Cert.KernelOutIdeal.Gen
open Idealize.ShloMosaic Idealize.ShloMosaic.TcCoe Idealize.ShloMosaic.ValueIdx
open Cert.Prod Cert.Norm
open scoped BigOperators

variable (m : (ℓ : Loc nD τ sig) → Buf (Elt Ideal) ℓ) (c : Dev nD)

/-- The rows put through the projection, its weights, the layer's input, the gain and the shift. -/
abbrev argY : S4096x2048.Idx → EReal := m ((c.tc : Thread nD τ).loc main_arg0)
abbrev argW : S2048x2048.Idx → EReal := m ((c.tc : Thread nD τ).loc main_arg1)
abbrev argX : S4096x2048.Idx → EReal := m ((c.tc : Thread nD τ).loc main_arg2)
abbrev argG : S1x2048.Idx → EReal := m ((c.tc : Thread nD τ).loc main_arg3)
abbrev argB : S1x2048.Idx → EReal := m ((c.tc : Thread nD τ).loc main_arg4)

/-- The word of the layer input's factor. -/
abbrev alpha : EReal := Scalar.ofBits (F := Ideal) .f32 0x3FD744FD#32

/-- Row `i` before it is normalised. -/
def rowOf (Y : S4096x2048.Idx → EReal) (W : S2048x2048.Idx → EReal) (X : S4096x2048.Idx → EReal) (i : ℕ) (k : Fin 2048) : EReal :=
  alpha * entry X i k.val + ∑ q : Fin 2048, entry Y i q.val * entry W q.val k.val

theorem places : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

theorem places_out : ∀ t : Fin cfg0.N, (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

theorem writes_back : ∀ t : Fin cfg0.N, (cfg0.win 5).flush t = true ∧ (cfg0.win 6).flush t = true ∧ (cfg0.win 7).flush t = true :=
  (by decide +kernel : ∀ t : Fin grid0.N, win0_5.flush t = true ∧ win0_6.flush t = true ∧ win0_7.flush t = true)

theorem block_y (t : Fin cfg0.N) (r : Fin 256) (k : Fin 2048) : iblk m c 0 t (ix2 r k : S256x2048.Idx) = entry (argY m c) (256 * t.val + r.val) k.val := by
  obtain ⟨e0, e1, -⟩ := places t
  refine eq_entry (argY m c) (((cfg0.win 0).blk t).view.emb (ix2 r k : S256x2048.Idx)) _ _ ?_ ?_
  · show win0_0.index t (0 : Fin 2) * 256 + 1 * r.val = _; omega
  · show win0_0.index t (1 : Fin 2) * 2048 + 1 * k.val = _; omega

theorem block_w (t : Fin cfg0.N) (r k : Fin 2048) : iblk m c 1 t (ix2 r k : S2048x2048.Idx) = entry (argW m c) r.val k.val := by
  obtain ⟨-, -, e0, e1, -⟩ := places t
  refine eq_entry (argW m c) (((cfg0.win 1).blk t).view.emb (ix2 r k : S2048x2048.Idx)) _ _ ?_ ?_
  · show win0_1.index t (0 : Fin 2) * 2048 + 1 * r.val = _; omega
  · show win0_1.index t (1 : Fin 2) * 2048 + 1 * k.val = _; omega

theorem block_x (t : Fin cfg0.N) (r : Fin 256) (k : Fin 2048) : iblk m c 2 t (ix2 r k : S256x2048.Idx) = entry (argX m c) (256 * t.val + r.val) k.val := by
  obtain ⟨-, -, -, -, e0, e1, -⟩ := places t
  refine eq_entry (argX m c) (((cfg0.win 2).blk t).view.emb (ix2 r k : S256x2048.Idx)) _ _ ?_ ?_
  · show win0_2.index t (0 : Fin 2) * 256 + 1 * r.val = _; omega
  · show win0_2.index t (1 : Fin 2) * 2048 + 1 * k.val = _; omega

theorem block_g (t : Fin cfg0.N) (k : Fin 2048) : iblk m c 3 t (ix2 0 k : S1x2048.Idx) = entry (argG m c) 0 k.val := by
  obtain ⟨-, -, -, -, -, -, e0, e1, -⟩ := places t
  refine eq_entry (argG m c) (((cfg0.win 3).blk t).view.emb (ix2 0 k : S1x2048.Idx)) _ _ ?_ ?_
  · show win0_3.index t (0 : Fin 2) * 1 + 1 * 0 = _; omega
  · show win0_3.index t (1 : Fin 2) * 2048 + 1 * k.val = _; omega

theorem block_b (t : Fin cfg0.N) (k : Fin 2048) : iblk m c 4 t (ix2 0 k : S1x2048.Idx) = entry (argB m c) 0 k.val := by
  obtain ⟨-, -, -, -, -, -, -, -, e0, e1⟩ := places t
  refine eq_entry (argB m c) (((cfg0.win 4).blk t).view.emb (ix2 0 k : S1x2048.Idx)) _ _ ?_ ?_
  · show win0_4.index t (0 : Fin 2) * 1 + 1 * 0 = _; omega
  · show win0_4.index t (1 : Fin 2) * 2048 + 1 * k.val = _; omega

/-- What the body writes, from the blocks it is given. -/
theorem outs_eq {F : FTy → Type} [FloatOps F] (x0 : Vec F S256x2048 .bf16) (x1 : Vec F S2048x2048 .bf16) (x2 : Vec F S256x2048 .f32) (x3 x4 : Vec F S1x2048 .f32) :
    out0_5 x0 x1 x2 x3 x4 = k0_pay2 x2 x0 x1 x3 x4 ∧ out0_6 x0 x1 x2 x3 x4 = k0_pay3 x2 x0 x1 x3 x4 ∧ out0_7 x0 x1 x2 x3 x4 = k0_pay1 x2 x0 x1 := by
  have h0 : View.ld x0 r0_0 = x0 := View.ld_unit_zero (S := S256x2048) no_offset _ _
  have h1 : View.ld x1 r0_1 = x1 := View.ld_unit_zero (S := S2048x2048) no_offset _ _
  have h2 : View.ld x2 r0_0 = x2 := View.ld_unit_zero (S := S256x2048) no_offset _ _
  have h3 : View.ld x3 r0_2 = x3 := View.ld_unit_zero (S := S1x2048) no_offset _ _
  have h4 : View.ld x4 r0_2 = x4 := View.ld_unit_zero (S := S1x2048) no_offset _ _
  unfold out0_5 out0_6 out0_7
  rw [h0, h1, h2, h3, h4]
  exact ⟨View.canon_unit_zero no_offset _ _, View.canon_unit_zero no_offset _ _, View.canon_unit_zero no_offset _ _⟩

/-- The rows before they are normalised, at an index of the block. -/
theorem pre_apply (x : FVec Ideal S256x2048 .f32) (y : FVec Ideal S256x2048 .bf16) (w : FVec Ideal S2048x2048 .bf16) (r : Fin 256) (k : Fin 2048) :
    k0_pay1 (F := Ideal) x y w (ix2 r k) = alpha * x (ix2 r k) + ∑ q : Fin 2048, y (ix2 r q) * w (ix2 q k) := by
  have hk := contrEquiv1_symm_val dot_S256x2048_S2048x2048_S256x2048_1_0_0_1_n_n 2048 rfl rfl
  refine congrArg (alpha * x (ix2 r k) + ·) ?_
  show FloatOps.matmul dot_S256x2048_S2048x2048_S256x2048_1_0_0_1_n_n none y w (constant (F := Ideal) _ .f32 0x00000000#32) (ix2 r k) = _
  rw [Ideal.matmul_constant_zero_apply, ← Equiv.sum_comp (contrEquiv1 dot_S256x2048_S2048x2048_S256x2048_1_0_0_1_n_n 2048 rfl rfl).symm]
  refine Finset.sum_congr rfl fun q _ => congrArg₂ (· * ·) (congrArg y ?_) (congrArg w ?_)
  · funext a; apply Fin.ext
    match a with
    | ⟨0, _⟩ => rfl
    | ⟨1, _⟩ => exact hk q
  · funext a; apply Fin.ext
    match a with
    | ⟨0, _⟩ => exact hk q
    | ⟨1, _⟩ => rfl

/-- The normalised rows at an index of the block. -/
theorem norm_apply (x : Vec Ideal S256x2048 .f32) (y : Vec Ideal S256x2048 .bf16) (w : Vec Ideal S2048x2048 .bf16) (g b : Vec Ideal S1x2048 .f32) (r : Fin 256) (k : Fin 2048) :
    (k0_pay2 (F := Ideal) x y w g b (ix2 r k) : EReal) = normed (fun q => k0_pay1 (F := Ideal) x y w (ix2 r q)) k (g (ix2 0 k)) (b (ix2 0 k)) := by
  rw [Cert.KernelOutIdeal.Value.lay5_0_eq x y w g b]
  generalize k0_pay1 (F := Ideal) x y w = v
  refine congrArg₂ (· + ·) (congrArg₂ (· * ·) (congrArg₂ (· * ·) (off_apply v _ _ _ r k) (scale_apply v _ _ _ _ r k (fun q => off_apply v _ _ _ r q))) (down g _ r k)) (down b _ r k)

/-- Row `r` of the block at point `t` before it is normalised. -/
theorem pre_block (t : Fin cfg0.N) (r : Fin 256) (k : Fin 2048) :
    k0_pay1 (F := Ideal) (iblk m c 2 t) (iblk m c 0 t) (iblk m c 1 t) (ix2 r k) = rowOf (argY m c) (argW m c) (argX m c) (256 * t.val + r.val) k := by
  refine (pre_apply _ _ _ r k).trans (congrArg₂ (· + ·) (congrArg (alpha * ·) (block_x m c t r k)) ?_)
  exact Finset.sum_congr rfl fun q _ => congrArg₂ (· * ·) (block_y m c t r q) (block_w m c t q k)

/-- The normalised row. -/
theorem norm_block (t : Fin cfg0.N) (r : Fin 256) (k : Fin 2048) :
    (k0_pay2 (F := Ideal) (iblk m c 2 t) (iblk m c 0 t) (iblk m c 1 t) (iblk m c 3 t) (iblk m c 4 t) (ix2 r k) : EReal)
      = normed (rowOf (argY m c) (argW m c) (argX m c) (256 * t.val + r.val)) k (entry (argG m c) 0 k.val) (entry (argB m c) 0 k.val) := by
  refine (norm_apply _ _ _ _ _ r k).trans ?_
  rw [show (fun q => k0_pay1 (F := Ideal) (iblk m c 2 t) (iblk m c 0 t) (iblk m c 1 t) (ix2 r q)) = rowOf (argY m c) (argW m c) (argX m c) (256 * t.val + r.val) from
    funext fun q => pre_block m c t r q]
  exact congrArg₂ (normed _ k) (block_g m c t k) (block_b m c t k)

/-- The grid point and the place in its block of an index of a result. -/
theorem place_of (i : S4096x2048.Idx) : ∃ (t : Fin cfg0.N) (r : Fin 256) (k : Fin 2048), 256 * t.val + r.val = (i 0).val ∧ k.val = (i 1).val := by
  have hN : cfg0.N = 16 := N_0
  have hi0 : (i 0).val < 4096 := (i 0).isLt
  exact ⟨⟨(i 0).val / 256, by rw [hN]; omega⟩, ⟨(i 0).val % 256, Nat.mod_lt _ (by decide)⟩, ⟨(i 1).val, (i 1).isLt⟩, by show 256 * ((i 0).val / 256) + (i 0).val % 256 = _; omega, rfl⟩

/-- What the kernel leaves in the normalised rows. -/
theorem result5 (i : S4096x2048.Idx) : ((dats m 0 c).arrAt 5 cfg0.N : S4096x2048.Idx → EReal) i
    = normed (rowOf (argY m c) (argW m c) (argX m c) (i 0).val) (i 1) (entry (argG m c) 0 (i 1).val) (entry (argB m c) 0 (i 1).val) := by
  obtain ⟨t, r, k, hr, hk⟩ := place_of i
  obtain ⟨⟨e0, e1⟩, -, -⟩ := places_out t
  have hi : ((cfg0.win 5).blk t).view.emb (ix2 r k : S256x2048.Idx) = i := by
    funext a; apply Fin.ext
    match a with
    | ⟨0, _⟩ => show win0_5.index t (0 : Fin 2) * 256 + 1 * r.val = (i 0).val; omega
    | ⟨1, _⟩ => show win0_5.index t (1 : Fin 2) * 2048 + 1 * k.val = (i 1).val; omega
  have e : (dats m 0 c).arrAt 5 cfg0.N (((cfg0.win 5).blk t).view.emb (ix2 r k : S256x2048.Idx)) = (dats m 0 c).flushed 5 t (ix2 r k : S256x2048.Idx) :=
    congrFun (Cert.KernelOutIdeal.Value.blocks5 m c t (writes_back t).1) (ix2 r k : S256x2048.Idx)
  rw [hi] at e
  refine e.trans ?_
  rw [Cert.KernelOutIdeal.Value.flushed5 m c t]
  show out0_5 (iblk m c 0 t) (iblk m c 1 t) (iblk m c 2 t) (iblk m c 3 t) (iblk m c 4 t) (ix2 r k) = _
  rw [(outs_eq _ _ _ _ _).1]
  refine (norm_block m c t r k).trans ?_
  rw [show k = i 1 from Fin.ext hk, hr]

/-- And in their rounded copy, which rounds nothing here. -/
theorem result6 (i : S4096x2048.Idx) : ((dats m 0 c).arrAt 6 cfg0.N : S4096x2048.Idx → EReal) i
    = normed (rowOf (argY m c) (argW m c) (argX m c) (i 0).val) (i 1) (entry (argG m c) 0 (i 1).val) (entry (argB m c) 0 (i 1).val) := by
  obtain ⟨t, r, k, hr, hk⟩ := place_of i
  obtain ⟨-, ⟨e0, e1⟩, -⟩ := places_out t
  have hi : ((cfg0.win 6).blk t).view.emb (ix2 r k : S256x2048.Idx) = i := by
    funext a; apply Fin.ext
    match a with
    | ⟨0, _⟩ => show win0_6.index t (0 : Fin 2) * 256 + 1 * r.val = (i 0).val; omega
    | ⟨1, _⟩ => show win0_6.index t (1 : Fin 2) * 2048 + 1 * k.val = (i 1).val; omega
  have e : (dats m 0 c).arrAt 6 cfg0.N (((cfg0.win 6).blk t).view.emb (ix2 r k : S256x2048.Idx)) = (dats m 0 c).flushed 6 t (ix2 r k : S256x2048.Idx) :=
    congrFun (Cert.KernelOutIdeal.Value.blocks6 m c t (writes_back t).2.1) (ix2 r k : S256x2048.Idx)
  rw [hi] at e
  refine e.trans ?_
  rw [Cert.KernelOutIdeal.Value.flushed6 m c t]
  show out0_6 (iblk m c 0 t) (iblk m c 1 t) (iblk m c 2 t) (iblk m c 3 t) (iblk m c 4 t) (ix2 r k) = _
  rw [(outs_eq _ _ _ _ _).2.1]
  refine Eq.trans (?_ : _ = (k0_pay2 (F := Ideal) (iblk m c 2 t) (iblk m c 0 t) (iblk m c 1 t) (iblk m c 3 t) (iblk m c 4 t) (ix2 r k) : EReal)) ((norm_block m c t r k).trans ?_)
  · rfl
  · rw [show k = i 1 from Fin.ext hk, hr]

/-- What the kernel leaves in the rows before they are normalised. -/
theorem result7 (i : S4096x2048.Idx) : ((dats m 0 c).arrAt 7 cfg0.N : S4096x2048.Idx → EReal) i = rowOf (argY m c) (argW m c) (argX m c) (i 0).val (i 1) := by
  obtain ⟨t, r, k, hr, hk⟩ := place_of i
  obtain ⟨-, -, e0, e1⟩ := places_out t
  have hi : ((cfg0.win 7).blk t).view.emb (ix2 r k : S256x2048.Idx) = i := by
    funext a; apply Fin.ext
    match a with
    | ⟨0, _⟩ => show win0_7.index t (0 : Fin 2) * 256 + 1 * r.val = (i 0).val; omega
    | ⟨1, _⟩ => show win0_7.index t (1 : Fin 2) * 2048 + 1 * k.val = (i 1).val; omega
  have e : (dats m 0 c).arrAt 7 cfg0.N (((cfg0.win 7).blk t).view.emb (ix2 r k : S256x2048.Idx)) = (dats m 0 c).flushed 7 t (ix2 r k : S256x2048.Idx) :=
    congrFun (Cert.KernelOutIdeal.Value.blocks7 m c t (writes_back t).2.2) (ix2 r k : S256x2048.Idx)
  rw [hi] at e
  refine e.trans ?_
  rw [Cert.KernelOutIdeal.Value.flushed7 m c t]
  show out0_7 (iblk m c 0 t) (iblk m c 1 t) (iblk m c 2 t) (iblk m c 3 t) (iblk m c 4 t) (ix2 r k) = _
  rw [(outs_eq _ _ _ _ _).2.2]
  refine (pre_block m c t r k).trans ?_
  rw [show k = i 1 from Fin.ext hk, hr]

/-! ## The reference -/

section Reference

open Cert.ReferenceOutIdeal.Read

variable (Y : S4096x2048.Idx → EReal) (W : S2048x2048.Idx → EReal) (X : S4096x2048.Idx → EReal) (G B : S1x2048.Idx → EReal)

/-- The reference's rows before they are normalised. -/
theorem ref_pre (i : S4096x2048.Idx) : val_main_v5 (F := Ideal) Y W X i = rowOf Y W X (i 0).val (i 1) := by
  rw [val_main_v5_apply, val_main_v1_apply, val_main_v0_apply, val_main_v4_apply]
  refine congrArg₂ (· + ·) (congrArg (alpha * ·) (eq_entry X i _ _ rfl rfl)) (Finset.sum_congr rfl fun q _ => ?_)
  exact congrArg₂ (· * ·) (eq_entry Y (lidx_main_v4 i q) _ _ rfl rfl) (eq_entry W (ridx_main_v4 i q) _ _ rfl rfl)

/-- Its means. -/
theorem ref_mean (i : Cert.ReferenceOutIdeal.S4096x1.Idx) : val_main_v11 (F := Ideal) Y W X i = mean (rowOf Y W X (i 0).val) := by
  rw [val_main_v11_apply, val_main_v9_apply, val_main_v8_apply, val_main_v10_apply]
  show Ideal.div (Scalar.ofBits (F := Ideal) .f32 0x00000000#32 + _) len = _
  rw [show Scalar.ofBits (F := Ideal) .f32 0x00000000#32 = (0 : EReal) from Ideal.ofBits_zero_f32, zero_add]
  exact congrArg (Ideal.div · len) (Finset.sum_congr rfl fun k _ => ref_pre Y W X _)

/-- Its rows less their means. -/
theorem ref_off (i : S4096x2048.Idx) : val_main_v13 (F := Ideal) Y W X i = off (rowOf Y W X (i 0).val) (i 1) := by
  rw [val_main_v13_apply, val_main_v12_apply, ref_pre, ref_mean]; rfl

theorem ref_off_again (i : S4096x2048.Idx) : val_main_v20 (F := Ideal) Y W X i = off (rowOf Y W X (i 0).val) (i 1) := by
  rw [val_main_v20_apply, val_main_v19_apply, ref_pre, ref_mean]; rfl

/-- Its scales. -/
theorem ref_scale (i : Cert.ReferenceOutIdeal.S4096x1.Idx) : val_main_v23 (F := Ideal) Y W X i = scale (rowOf Y W X (i 0).val) := by
  rw [val_main_v23_apply, val_main_v22_apply, val_main_v18_apply, val_main_v16_apply, val_main_v15_apply, val_main_v17_apply, val_main_v21_apply]
  show Ideal.rsqrt (Ideal.div (Scalar.ofBits (F := Ideal) .f32 0x00000000#32 + _) len + eps) = _
  rw [show Scalar.ofBits (F := Ideal) .f32 0x00000000#32 = (0 : EReal) from Ideal.ofBits_zero_f32, zero_add]
  refine congrArg (fun s => Ideal.rsqrt (Ideal.div s len + eps)) (Finset.sum_congr rfl fun k _ => ?_)
  rw [val_main_v14_apply, ref_off]; rfl

/-- Its normalised rows. -/
theorem ref_norm (i : S4096x2048.Idx) :
    val_main_v31 (F := Ideal) Y W X G B i = normed (rowOf Y W X (i 0).val) (i 1) (entry G 0 (i 1).val) (entry B 0 (i 1).val) := by
  rw [val_main_v31_apply, val_main_v28_apply, val_main_v25_apply, ref_off_again, val_main_v24_apply, ref_scale, val_main_v27_apply, val_main_v26_apply,
    val_main_v6_apply, val_main_v30_apply, val_main_v29_apply, val_main_v7_apply]
  have h : (i 1).val % 2048 = (i 1).val := Nat.mod_eq_of_lt (i 1).isLt
  exact congrArg₂ (normed (rowOf Y W X (i 0).val) (i 1)) (eq_entry G _ 0 (i 1).val rfl h) (eq_entry B _ 0 (i 1).val rfl h)

end Reference

/-! ## The equalities -/

variable (Y : S4096x2048.Idx → EReal) (W : S2048x2048.Idx → EReal) (X : S4096x2048.Idx → EReal) (G B : S1x2048.Idx → EReal)

theorem same5 (hY : Y = argY m c) (hW : W = argW m c) (hX : X = argX m c) (hG : G = argG m c) (hB : B = argB m c) :
    Cert.ReferenceOutIdeal.Read.val_main_v31 (F := Ideal) Y W X G B = (dats m 0 c).arrAt 5 cfg0.N := by
  subst hY hW hX hG hB
  exact funext fun i => (ref_norm _ _ _ _ _ i).trans (result5 m c i).symm

theorem same6 (hY : Y = argY m c) (hW : W = argW m c) (hX : X = argX m c) (hG : G = argG m c) (hB : B = argB m c) :
    Cert.ReferenceOutIdeal.Read.val_main_v32 (F := Ideal) Y W X G B = (dats m 0 c).arrAt 6 cfg0.N := by
  subst hY hW hX hG hB
  exact funext fun i => (ref_norm _ _ _ _ _ i).trans (result6 m c i).symm

theorem same7 (hY : Y = argY m c) (hW : W = argW m c) (hX : X = argX m c) :
    Cert.ReferenceOutIdeal.Read.val_main_v5 (F := Ideal) Y W X = (dats m 0 c).arrAt 7 cfg0.N := by
  subst hY hW hX
  exact funext fun i => (ref_pre _ _ _ i).trans (result7 m c i).symm

end Cert.KernelOutIdeal.Norm

end
-- ==== Proof.Norm.Claims.lean ====
/-
  The claims of the output projection with its normalisation, from the program's run and the equality at every index.
-/
module

public import proofs.«01_k».proof.Defs
public import proofs.«01_k».proof.Proof.Gen.KernelOut
public import proofs.«01_k».proof.Proof.Gen.KernelOut.Frame
public import proofs.«01_k».proof.Proof.Gen.KernelOutIdeal
public import proofs.«01_k».proof.Proof.Gen.KernelOutIdeal.Frame
public import proofs.«01_k».proof.Proof.Gen.KernelOutIdeal.Value
public import proofs.«01_k».proof.Proof.Gen.ReferenceOutIdeal
public import proofs.«01_k».proof.Proof.Gen.ReferenceOutIdeal.Run
public import proofs.«01_k».proof.Proof.Gen.ReferenceOutIdeal.Read
public import proofs.«01_k».proof.Proof.Norm.Out
public import Idealize.ShloMosaic.Adequacy
public import Idealize.ShloMosaic.Init

@[expose] public section

noncomputable section

namespace Cert.Norm

open Idealize.ShloMosaic Idealize.SL.Sem

/-! ## The output projection and its normalised rows -/

theorem frame_out : Cert.quiescent_KernelOut := fun m g _ => Cert.KernelOut.Gen.frame (F := Bits) m g

theorem frame_out_ideal : Cert.quiescent_KernelOutIdeal := fun m g _ => Cert.KernelOutIdeal.Gen.frame (F := Ideal) m g

theorem frame_out_reference : Cert.quiescent_ReferenceOutIdeal := fun m g _ =>
  (θ_run _ _ _).mono (fun r h => ⟨fun c => (h c).2.2.2, sem_eq_zero_of_no_sems (by decide) r.2⟩) (Cert.ReferenceOutIdeal.Value.run (F := Ideal) m g)

theorem same_out : Cert.algebraic_KernelOutIdeal_ReferenceOutIdeal := fun m g m' g' _ hm =>
  ⟨fun c => (Cert.KernelOutIdeal.Gen.dats m 0 c).arrAt 5 Cert.KernelOutIdeal.cfg0.N, fun c => (Cert.KernelOutIdeal.Gen.dats m 0 c).arrAt 6 Cert.KernelOutIdeal.cfg0.N,
    fun c => (Cert.KernelOutIdeal.Gen.dats m 0 c).arrAt 7 Cert.KernelOutIdeal.cfg0.N, Cert.KernelOutIdeal.Value.run_blocks (F := Ideal) m g,
    (θ_run _ _ _).mono (fun r h c => by
      obtain ⟨a0, a1, a2, a3, a4⟩ := hm c
      refine ⟨(h c).1.trans ?_, (h c).2.1.trans ?_, (h c).2.2.1.trans ?_, (h c).2.2.2⟩
      · rw [Cert.ReferenceOutIdeal.Read.val_main_v31_eq]
        exact Cert.KernelOutIdeal.Norm.same5 m c _ _ _ _ _ a0 a1 a2 a3 a4
      · rw [Cert.ReferenceOutIdeal.Read.val_main_v32_eq]
        exact Cert.KernelOutIdeal.Norm.same6 m c _ _ _ _ _ a0 a1 a2 a3 a4
      · rw [Cert.ReferenceOutIdeal.Read.val_main_v5_eq]
        exact Cert.KernelOutIdeal.Norm.same7 m c _ _ _ a0 a1 a2) (Cert.ReferenceOutIdeal.Value.run (F := Ideal) m' g')⟩

end Cert.Norm

end
-- ==== Proof.Norm.LnBlocks.lean ====
/-
  The gradient of the normalisation of the rows, and of its gain and shift: what each of the 16 grid points writes, from the blocks it is given.
-/
module

public import proofs.«01_k».proof.Proof.Gen.KernelLnIdeal.Value
public import proofs.«01_k».proof.Proof.Prod.Entries
public import Idealize.ShloMosaic.Lib.WritesUnit

@[expose] public section

set_option maxRecDepth 16384

noncomputable section

namespace Cert.KernelLnIdeal.Norm

open Cert.KernelLnIdeal Cert.KernelLnIdeal.Gen
open Idealize.ShloMosaic Idealize.ShloMosaic.TcCoe Idealize.ShloMosaic.ValueIdx
open Cert.Prod

variable {F : FTy → Type} [FloatOps F]

/-- One row of the running sums. -/
def line (s : Vec F S8x2048 .f32) (a : Fin 8) : Vec F S1x2048 .f32 := fun y => s (ix2 a (y 1))

/-- The running sums after one more block: in row 0 those of the gain's gradient, in row 1 those of the shift's. -/
def next (x y : Vec F S256x2048 .f32) (s : Vec F S8x2048 .f32) : Vec F S8x2048 .f32 := fun i =>
  if (i 0).val = 0 then k0_pay2 x (k0_pay7 y) (line s 0) (ix2 0 (i 1)) else if (i 0).val = 1 then k0_pay3 x (line s 1) (ix2 0 (i 1)) else s i

theorem load_x (a : Memref sig .tc .vmem S256x2048 .f32) (h : a.IsWhole) (x : Vec F S256x2048 .f32) :
    View.readAt (Elt F) a.view (Rect.unit (s := S256x2048) ![0, 0] S256x2048.size inb_S256x2048_S256x2048_0_0).toLoadRect (h.unread x) = x := by
  rw [View.readAt_eq_ld, h.read_unread]
  exact View.ld_unit_zero (S := S256x2048) no_offset _ _

theorem load_g (a : Memref sig .tc .vmem S1x2048 .f32) (h : a.IsWhole) (x : Vec F S1x2048 .f32) :
    View.readAt (Elt F) a.view (Rect.unit (s := S1x2048) ![0, 0] S1x2048.size inb_S1x2048_S1x2048_0_0).toLoadRect (h.unread x) = x := by
  rw [View.readAt_eq_ld, h.read_unread]
  exact View.ld_unit_zero (S := S1x2048) no_offset _ _

/-- The running sums as their two rows are written over `s`. -/
theorem sums_written {sp : Space} (v : View sig .tc sp S8x2048 .f32) (f : v.ty.Contents (Elt F)) (L : List (View.Piece (Elt F) S8x2048 .f32)) (p q : Vec F S1x2048 .f32) (i : S8x2048.Idx) :
    v.read (Elt F) (v.writes (Elt F) f ((⟨Rect.unit (s := S8x2048) ![1, 0] S1x2048.size inb_S8x2048_S1x2048_1_0, q⟩ : View.Piece (Elt F) S8x2048 .f32)
      :: (⟨Rect.unit (s := S8x2048) ![0, 0] S1x2048.size inb_S8x2048_S1x2048_0_0, p⟩ : View.Piece (Elt F) S8x2048 .f32) :: L)) i
      = if (i 0).val = 0 then p (ix2 0 (i 1)) else if (i 0).val = 1 then q (ix2 0 (i 1)) else v.read (Elt F) (v.writes (Elt F) f L) i := by
  by_cases h0 : (i 0).val = 0
  · rw [if_pos h0]
    refine (View.read_writes_cons_rows_of_not_mem v f inb_S8x2048_S1x2048_1_0 q _ i (o := 1) (W := 1) rfl rfl (by omega)).trans ?_
    exact View.read_writes_cons_rows_of_mem v f _ p _ i (ix2 0 (i 1) : S1x2048.Idx) (o := 0) rfl (by rw [h0]; rfl) rfl
  by_cases h1 : (i 0).val = 1
  · rw [if_neg h0, if_pos h1]
    exact View.read_writes_cons_rows_of_mem v f _ q _ i (ix2 0 (i 1) : S1x2048.Idx) (o := 1) rfl (by rw [h1]; rfl) rfl
  · rw [if_neg h0, if_neg h1]
    exact (View.read_writes_cons_rows_of_not_mem v f inb_S8x2048_S1x2048_1_0 q _ i (o := 1) (W := 1) rfl rfl (by omega)).trans
      (View.read_writes_cons_rows_of_not_mem v f inb_S8x2048_S1x2048_0_0 p _ i (o := 0) (W := 1) rfl rfl (by omega))

theorem first3 (c : Dev nD) (i : grid0.Coords) (a1 : Memref sig .tc .vmem S256x2048 .f32) (h1 : a1.IsWhole) (a2 : Memref sig .tc .vmem S256x2048 .f32) (h2 : a2.IsWhole)
    (a3 : Memref sig .tc .vmem S1x2048 .f32) (h3 : a3.IsWhole) (a4 : Memref sig .tc .vmem S256x2048 .f32) (h4 : a4.IsWhole) (a5 : Memref sig .tc .vmem S256x2048 .bf16)
    (h5 : a5.IsWhole) (a6 : Memref sig .tc .vmem S8x2048 .f32) (h6 : a6.IsWhole) (hc : cond0_0 i) (x y : Vec F S256x2048 .f32) (g : Vec F S1x2048 .f32) :
    out0_A_3 c i a1 h1 a2 h2 a3 h3 a4 h4 a5 h5 a6 h6 hc x y g = k0_pay8 y x g := by
  unfold out0_A_3
  rw [View.read_writes_eq_canon _ _ _ (cover0_A_3 c i a1 h1 a2 h2 a3 h3 a4 h4 a5 h5 a6 h6 hc x y g)]
  unfold kernelRun0_A
  dsimp only
  rw [View.canon_unit_zero no_offset]
  unfold kernelRun0_A.sl.r_2
  rw [load_x a1 h1 x, load_x a2 h2 y, load_g a3 h3 g]

theorem first4 (c : Dev nD) (i : grid0.Coords) (a1 : Memref sig .tc .vmem S256x2048 .f32) (h1 : a1.IsWhole) (a2 : Memref sig .tc .vmem S256x2048 .f32) (h2 : a2.IsWhole)
    (a3 : Memref sig .tc .vmem S1x2048 .f32) (h3 : a3.IsWhole) (a4 : Memref sig .tc .vmem S256x2048 .f32) (h4 : a4.IsWhole) (a5 : Memref sig .tc .vmem S256x2048 .bf16)
    (h5 : a5.IsWhole) (a6 : Memref sig .tc .vmem S8x2048 .f32) (h6 : a6.IsWhole) (hc : cond0_0 i) (x y : Vec F S256x2048 .f32) (g : Vec F S1x2048 .f32) :
    out0_A_4 c i a1 h1 a2 h2 a3 h3 a4 h4 a5 h5 a6 h6 hc x y g = k0_pay1 (k0_pay8 y x g) := by
  unfold out0_A_4
  rw [View.read_writes_eq_canon _ _ _ (cover0_A_4 c i a1 h1 a2 h2 a3 h3 a4 h4 a5 h5 a6 h6 hc x y g)]
  unfold kernelRun0_A
  dsimp only
  rw [View.canon_unit_zero no_offset]
  unfold kernelRun0_A.sl.r_2
  rw [load_x a1 h1 x, load_x a2 h2 y, load_g a3 h3 g]

theorem later3 (c : Dev nD) (i : grid0.Coords) (a1 : Memref sig .tc .vmem S256x2048 .f32) (h1 : a1.IsWhole) (a2 : Memref sig .tc .vmem S256x2048 .f32) (h2 : a2.IsWhole)
    (a3 : Memref sig .tc .vmem S1x2048 .f32) (h3 : a3.IsWhole) (a4 : Memref sig .tc .vmem S256x2048 .f32) (h4 : a4.IsWhole) (a5 : Memref sig .tc .vmem S256x2048 .bf16)
    (h5 : a5.IsWhole) (a6 : Memref sig .tc .vmem S8x2048 .f32) (h6 : a6.IsWhole) (hc : ¬cond0_0 i) (x y : Vec F S256x2048 .f32) (g : Vec F S1x2048 .f32) (s : Vec F S8x2048 .f32) :
    out0_B_3 c i a1 h1 a2 h2 a3 h3 a4 h4 a5 h5 a6 h6 hc x y g s = k0_pay8 y x g := by
  unfold out0_B_3
  rw [View.read_writes_eq_canon _ _ _ (cover0_B_3 c i a1 h1 a2 h2 a3 h3 a4 h4 a5 h5 a6 h6 hc x y g s)]
  unfold kernelRun0_B
  dsimp only
  rw [View.canon_unit_zero no_offset]
  unfold kernelRun0_B.sl.r_2
  rw [load_x a1 h1 x, load_x a2 h2 y, load_g a3 h3 g]

theorem later4 (c : Dev nD) (i : grid0.Coords) (a1 : Memref sig .tc .vmem S256x2048 .f32) (h1 : a1.IsWhole) (a2 : Memref sig .tc .vmem S256x2048 .f32) (h2 : a2.IsWhole)
    (a3 : Memref sig .tc .vmem S1x2048 .f32) (h3 : a3.IsWhole) (a4 : Memref sig .tc .vmem S256x2048 .f32) (h4 : a4.IsWhole) (a5 : Memref sig .tc .vmem S256x2048 .bf16)
    (h5 : a5.IsWhole) (a6 : Memref sig .tc .vmem S8x2048 .f32) (h6 : a6.IsWhole) (hc : ¬cond0_0 i) (x y : Vec F S256x2048 .f32) (g : Vec F S1x2048 .f32) (s : Vec F S8x2048 .f32) :
    out0_B_4 c i a1 h1 a2 h2 a3 h3 a4 h4 a5 h5 a6 h6 hc x y g s = k0_pay1 (k0_pay8 y x g) := by
  unfold out0_B_4
  rw [View.read_writes_eq_canon _ _ _ (cover0_B_4 c i a1 h1 a2 h2 a3 h3 a4 h4 a5 h5 a6 h6 hc x y g s)]
  unfold kernelRun0_B
  dsimp only
  rw [View.canon_unit_zero no_offset]
  unfold kernelRun0_B.sl.r_2
  rw [load_x a1 h1 x, load_x a2 h2 y, load_g a3 h3 g]

theorem first5 (c : Dev nD) (i : grid0.Coords) (a1 : Memref sig .tc .vmem S256x2048 .f32) (h1 : a1.IsWhole) (a2 : Memref sig .tc .vmem S256x2048 .f32) (h2 : a2.IsWhole)
    (a3 : Memref sig .tc .vmem S1x2048 .f32) (h3 : a3.IsWhole) (a4 : Memref sig .tc .vmem S256x2048 .f32) (h4 : a4.IsWhole) (a5 : Memref sig .tc .vmem S256x2048 .bf16)
    (h5 : a5.IsWhole) (a6 : Memref sig .tc .vmem S8x2048 .f32) (h6 : a6.IsWhole) (hc : cond0_0 i) (x y : Vec F S256x2048 .f32) (g : Vec F S1x2048 .f32) :
    out0_A_5 c i a1 h1 a2 h2 a3 h3 a4 h4 a5 h5 a6 h6 hc x y g = next x y k0_pay4 := by
  funext j
  unfold out0_A_5 kernelRun0_A
  dsimp only
  have hz : ∀ {sp : Space} (v : View sig .tc sp S8x2048 .f32) (f : v.ty.Contents (Elt F)) (y : S8x2048.Idx),
      v.read (Elt F) (v.writes (Elt F) f (kernelRun0_A.sl.H5_1 (F := F))) y = k0_pay4 y := fun v f y =>
    View.read_writes_cons_rows_of_mem v f _ _ _ y y (o := 0) rfl (Nat.zero_add _).symm rfl
  unfold kernelRun0_A.sl.H5_2
  rw [sums_written]
  unfold next
  have hr : kernelRun0_A.sl.r c a1 h1 x = x := load_x a1 h1 x
  have hr1 : kernelRun0_A.sl.r_1 c a2 h2 y = k0_pay7 y := congrArg k0_pay7 (load_x a2 h2 y)
  have h43 : kernelRun0_A.sl.v43 c a6 = line (k0_pay4 (F := F)) 0 := funext fun z => (hz _ _ _).trans (congrArg k0_pay4 (by
    funext a; apply Fin.ext
    match a with
    | ⟨0, _⟩ => show 0 + 1 * (z 0).val = 0; have : (z 0).val < 1 := (z 0).isLt; omega
    | ⟨1, _⟩ => show 0 + 1 * (z 1).val = (z 1).val; omega))
  have h50 : kernelRun0_A.sl.v50 c a1 h1 a2 h2 a6 x y = line (k0_pay4 (F := F)) 1 := funext fun z => by
    refine (View.read_writes_cons_rows_of_not_mem _ _ _ _ _ _ (o := 0) (W := 1) rfl rfl ?_).trans ((hz _ _ _).trans (congrArg k0_pay4 ?_))
    · right; show 1 ≤ 1 + 1 * (z 0).val; omega
    · funext a; apply Fin.ext
      match a with
      | ⟨0, _⟩ => show 1 + 1 * (z 0).val = 1; have : (z 0).val < 1 := (z 0).isLt; omega
      | ⟨1, _⟩ => show 0 + 1 * (z 1).val = (z 1).val; omega
  rw [hr, hr1, h43, h50, hz]

theorem later5 (c : Dev nD) (i : grid0.Coords) (a1 : Memref sig .tc .vmem S256x2048 .f32) (h1 : a1.IsWhole) (a2 : Memref sig .tc .vmem S256x2048 .f32) (h2 : a2.IsWhole)
    (a3 : Memref sig .tc .vmem S1x2048 .f32) (h3 : a3.IsWhole) (a4 : Memref sig .tc .vmem S256x2048 .f32) (h4 : a4.IsWhole) (a5 : Memref sig .tc .vmem S256x2048 .bf16)
    (h5 : a5.IsWhole) (a6 : Memref sig .tc .vmem S8x2048 .f32) (h6 : a6.IsWhole) (hc : ¬cond0_0 i) (x y : Vec F S256x2048 .f32) (g : Vec F S1x2048 .f32) (s : Vec F S8x2048 .f32) :
    out0_B_5 c i a1 h1 a2 h2 a3 h3 a4 h4 a5 h5 a6 h6 hc x y g s = next x y s := by
  funext j
  unfold out0_B_5 kernelRun0_B
  dsimp only
  rw [sums_written]
  unfold next
  have hr : kernelRun0_B.sl.r c a1 h1 x = x := load_x a1 h1 x
  have hr1 : kernelRun0_B.sl.r_1 c a2 h2 y = k0_pay7 y := congrArg k0_pay7 (load_x a2 h2 y)
  have h43 : View.readAt (Elt F) a6.view (Rect.unit (s := S8x2048) ![0, 0] S1x2048.size inb_S8x2048_S1x2048_0_0).toLoadRect (h6.unread s) = line s 0 := by
    rw [View.readAt_eq_ld, h6.read_unread]
    exact funext fun z => congrArg s (by
      funext a; apply Fin.ext
      match a with
      | ⟨0, _⟩ => show 0 + 1 * (z 0).val = 0; have : (z 0).val < 1 := (z 0).isLt; omega
      | ⟨1, _⟩ => show 0 + 1 * (z 1).val = (z 1).val; omega)
  have h50 : kernelRun0_B.sl.v50 c a6 h6 s = line s 1 := by
    unfold kernelRun0_B.sl.v50
    rw [View.readAt_eq_ld, h6.read_unread]
    exact funext fun z => congrArg s (by
      funext a; apply Fin.ext
      match a with
      | ⟨0, _⟩ => show 1 + 1 * (z 0).val = 1; have : (z 0).val < 1 := (z 0).isLt; omega
      | ⟨1, _⟩ => show 0 + 1 * (z 1).val = (z 1).val; omega)
  rw [hr, hr1, h43, h50, View.writes_nil, h6.read_unread]

variable (m : (ℓ : Loc nD τ sig) → Buf (Elt F) ℓ) (c : Dev nD)

/-- The running sums after point `n`. -/
def acc : (n : ℕ) → n < cfg0.N → Vec F S8x2048 .f32
  | 0, hn => next (iblk m c 0 ⟨0, hn⟩) (iblk m c 1 ⟨0, hn⟩) k0_pay4
  | n + 1, hn => next (iblk m c 0 ⟨n + 1, hn⟩) (iblk m c 1 ⟨n + 1, hn⟩) (acc n (Nat.lt_of_succ_lt hn))

theorem outs3 (t : Fin cfg0.N) : (outsAt0 m c t.val t.isLt).1 = k0_pay8 (iblk m c 1 t) (iblk m c 0 t) (iblk m c 2 t) := by
  by_cases h : t.val % 16 = 0
  · rw [outsAt0_A m c t h]; dsimp only; rw [first3]
  · rw [outsAt0_B m c t h]; dsimp only; rw [later3]

theorem outs4 (t : Fin cfg0.N) : (outsAt0 m c t.val t.isLt).2.1 = k0_pay1 (k0_pay8 (iblk m c 1 t) (iblk m c 0 t) (iblk m c 2 t)) := by
  by_cases h : t.val % 16 = 0
  · rw [outsAt0_A m c t h]; dsimp only; rw [first4]
  · rw [outsAt0_B m c t h]; dsimp only; rw [later4]

theorem outs5 (n : ℕ) (hn : n < cfg0.N) : (outsAt0 m c n hn).2.2 = acc m c n hn := by
  induction n with
  | zero => rw [outsAt0_A m c ⟨0, hn⟩ rfl]; dsimp only; rw [first5]; rfl
  | succ n ih =>
    have hN : cfg0.N = 16 := N_0
    rw [outsAt0_B m c ⟨n + 1, hn⟩ (by dsimp only; omega)]
    dsimp only
    rw [later5]
    show next _ _ (outsAt0 m c n _).2.2 = _
    rw [ih]; rfl

end Cert.KernelLnIdeal.Norm

end
-- ==== Proof.Norm.Reals.lean ====
/-
  Rows of real numbers under the normalisation: its mean, its offsets and its scale are real numbers again, and the gradient of the
  normalisation in the two forms in which it is computed.
-/
module

public import proofs.«01_k».proof.Proof.Norm.Rows
public import Mathlib.Tactic.FieldSimp
public import Mathlib.Tactic.LinearCombination
public import Mathlib.Tactic.Positivity

@[expose] public section

set_option maxRecDepth 16384

noncomputable section

namespace Cert.Norm

open Idealize.ShloMosaic Idealize.ShloMosaic.ValueIdx
open scoped BigOperators

/-- A finite sum of reals is the same sum taken of the extended reals. -/
theorem coe_sum {n : ℕ} (f : Fin n → ℝ) : ∑ k, ((f k : ℝ) : EReal) = ((∑ k, f k : ℝ) : EReal) := by
  classical
  refine (?_ : ∀ s : Finset (Fin n), ∑ k ∈ s, ((f k : ℝ) : EReal) = ((∑ k ∈ s, f k : ℝ) : EReal)) Finset.univ
  intro s
  induction s using Finset.induction_on with
  | empty => simp
  | insert a s ha ih => rw [Finset.sum_insert ha, Finset.sum_insert ha, EReal.coe_add, ih]

/-- The number added to the variance. -/
def small : ℝ := 10995116 / 2 ^ 40

theorem len_eq : len = ((2048 : ℝ) : EReal) := by
  show Ideal.ofBits .f32 0x45000000#32 = _
  simp [Ideal.ofBits, Ideal.ieee, -EReal.coe_mul]; norm_num

theorem eps_eq : eps = ((small : ℝ) : EReal) := by
  show Ideal.ofBits .f32 0x3727C5AC#32 = _
  rw [small]; simp [Ideal.ofBits, Ideal.ieee, -EReal.coe_mul]; norm_num

theorem div_len (x : ℝ) : Ideal.div (x : EReal) len = ((x / 2048 : ℝ) : EReal) := by
  rw [len_eq, Ideal.div_coe (by norm_num), ← EReal.coe_mul, mul_one_div]

/-- The mean, the offsets, the variance plus `small` and the scale of a row of reals. -/
def mu (f : Fin 2048 → ℝ) : ℝ := (∑ k, f k) / 2048
def dev (f : Fin 2048 → ℝ) (k : Fin 2048) : ℝ := f k - mu f
def spread (f : Fin 2048 → ℝ) : ℝ := mu (fun k => dev f k * dev f k) + small
def unit (f : Fin 2048 → ℝ) : ℝ := (Real.sqrt (spread f))⁻¹

theorem mean_coe (f : Fin 2048 → ℝ) : mean (fun k => ((f k : ℝ) : EReal)) = ((mu f : ℝ) : EReal) := by
  rw [mean, coe_sum, div_len, mu]

theorem off_coe (f : Fin 2048 → ℝ) (k : Fin 2048) : off (fun k => ((f k : ℝ) : EReal)) k = ((dev f k : ℝ) : EReal) := by
  rw [off, mean_coe, ← EReal.coe_sub, dev]

theorem spread_pos (f : Fin 2048 → ℝ) : 0 < spread f := by
  have h : 0 ≤ ∑ k, dev f k * dev f k := Finset.sum_nonneg fun k _ => mul_self_nonneg _
  unfold spread mu small
  positivity

theorem spread_coe (f : Fin 2048 → ℝ) :
    mean (fun k => off (fun k => ((f k : ℝ) : EReal)) k * off (fun k => ((f k : ℝ) : EReal)) k) + eps = ((spread f : ℝ) : EReal) := by
  rw [show (fun k => off (fun k => ((f k : ℝ) : EReal)) k * off (fun k => ((f k : ℝ) : EReal)) k) = fun k => ((dev f k * dev f k : ℝ) : EReal) from
    funext fun k => by rw [off_coe, ← EReal.coe_mul], mean_coe, eps_eq, ← EReal.coe_add, spread]

theorem rsqrt_spread (f : Fin 2048 → ℝ) : Ideal.rsqrt ((spread f : ℝ) : EReal) = ((unit f : ℝ) : EReal) := by
  rw [Ideal.rsqrt_coe, if_neg (not_lt.mpr (spread_pos f).le), if_neg (spread_pos f).ne', unit]

theorem scale_coe (f : Fin 2048 → ℝ) : scale (fun k => ((f k : ℝ) : EReal)) = ((unit f : ℝ) : EReal) := by
  rw [scale, spread_coe, rsqrt_spread]

theorem unit_sq (f : Fin 2048 → ℝ) : unit f * unit f * spread f = 1 := by
  have h := Real.mul_self_sqrt (spread_pos f).le
  have h0 : Real.sqrt (spread f) ≠ 0 := (Real.sqrt_pos.mpr (spread_pos f)).ne'
  unfold unit
  rw [← mul_inv, h, inv_mul_cancel₀ (spread_pos f).ne']

/-- The offsets of a row add up to nothing. -/
theorem sum_dev (f : Fin 2048 → ℝ) : ∑ k, dev f k = 0 := by
  unfold dev mu
  rw [Finset.sum_sub_distrib, Finset.sum_const, Finset.card_univ, Fintype.card_fin, nsmul_eq_mul]
  push_cast
  ring

/-- The gradient of a normalised row at `k`, from the gradient `h` of its normalised entries, as the kernel computes it. -/
def grad (f h : Fin 2048 → ℝ) (k : Fin 2048) : ℝ :=
  unit f * (h k - mu h - dev f k * unit f * mu (fun q => h q * (dev f q * unit f)))

/-- That gradient in extended reals. -/
def gradK (f h : Fin 2048 → EReal) (k : Fin 2048) : EReal :=
  scale f * (h k - mean h - off f k * scale f * mean (fun q => h q * (off f q * scale f)))

theorem gradK_coe (f h : Fin 2048 → ℝ) (k : Fin 2048) : gradK (fun q => ((f q : ℝ) : EReal)) (fun q => ((h q : ℝ) : EReal)) k = ((grad f h k : ℝ) : EReal) := by
  unfold gradK
  rw [show (fun q => ((h q : ℝ) : EReal) * (off (fun q => ((f q : ℝ) : EReal)) q * scale (fun q => ((f q : ℝ) : EReal)))) = fun q => ((h q * (dev f q * unit f) : ℝ) : EReal) from
    funext fun q => by rw [off_coe, scale_coe, ← EReal.coe_mul, ← EReal.coe_mul], mean_coe, mean_coe, off_coe, scale_coe]
  rw [← EReal.coe_mul, ← EReal.coe_mul, ← EReal.coe_sub, ← EReal.coe_sub, ← EReal.coe_mul, grad]

/-- The words of 2 and of minus one half. -/
abbrev two : EReal := Scalar.ofBits (F := Ideal) .f32 0x40000000#32
abbrev half : EReal := Scalar.ofBits (F := Ideal) .f32 0xBF000000#32

theorem two_eq : two = ((2 : ℝ) : EReal) := by
  show Ideal.ofBits .f32 0x40000000#32 = _
  simp [Ideal.ofBits, Ideal.ieee, -EReal.coe_mul]; norm_num

theorem half_eq : half = ((-(1 / 2) : ℝ) : EReal) := by
  show Ideal.ofBits .f32 0xBF000000#32 = _
  simp [Ideal.ofBits, Ideal.ieee, -EReal.coe_mul]; norm_num

/-- The spread of a row in extended reals. -/
def spreadE (f : Fin 2048 → EReal) : EReal := mean (fun k => off f k * off f k) + eps

/-- What goes back to a row through its variance, as the reference computes it. -/
def viaE (f h : Fin 2048 → EReal) (k : Fin 2048) : EReal :=
  Ideal.div ((∑ q, off f q * h q) * (half * Ideal.div (scale f) (spreadE f))) len * (two * off f k)

/-- The gradient of a normalised row as the reference computes it: through the offsets, through the variance, and through the mean of both. -/
def gradR (f h : Fin 2048 → EReal) (k : Fin 2048) : EReal :=
  h k * scale f + viaE f h k + Ideal.div ((∑ q, -(h q * scale f)) + ∑ q, -(viaE f h q)) len

/-- What goes back through the variance, of reals. -/
def via (f h : Fin 2048 → ℝ) (k : Fin 2048) : ℝ := (∑ q, dev f q * h q) * (-(1 / 2) * (unit f / spread f)) / 2048 * (2 * dev f k)

theorem viaE_coe (f h : Fin 2048 → ℝ) (k : Fin 2048) : viaE (fun q => ((f q : ℝ) : EReal)) (fun q => ((h q : ℝ) : EReal)) k = ((via f h k : ℝ) : EReal) := by
  unfold viaE spreadE
  rw [Finset.sum_congr rfl fun q _ => by rw [off_coe, ← EReal.coe_mul], coe_sum, spread_coe, scale_coe, off_coe, two_eq, half_eq,
    Ideal.div_coe (spread_pos f).ne', ← EReal.coe_mul, ← EReal.coe_mul, ← EReal.coe_mul, ← EReal.coe_mul, div_len, ← EReal.coe_mul, via, mul_one_div]

theorem gradR_coe (f h : Fin 2048 → ℝ) (k : Fin 2048) : gradR (fun q => ((f q : ℝ) : EReal)) (fun q => ((h q : ℝ) : EReal)) k
    = ((h k * unit f + via f h k + (∑ q, -(h q * unit f) + ∑ q, -(via f h q)) / 2048 : ℝ) : EReal) := by
  unfold gradR
  rw [Finset.sum_congr rfl fun q _ => by rw [scale_coe, ← EReal.coe_mul, ← EReal.coe_neg], coe_sum,
    Finset.sum_congr (g := fun q => ((-(via f h q) : ℝ) : EReal)) rfl fun q _ => by rw [viaE_coe, ← EReal.coe_neg], coe_sum, viaE_coe, scale_coe,
    ← EReal.coe_add, div_len, ← EReal.coe_mul, ← EReal.coe_add, ← EReal.coe_add]

/-- The two forms agree: the offsets add up to nothing, and the square of the scale is one over the spread. -/
theorem grad_eq (f h : Fin 2048 → ℝ) (k : Fin 2048) : h k * unit f + via f h k + (∑ q, -(h q * unit f) + ∑ q, -(via f h q)) / 2048 = grad f h k := by
  have hs : unit f / spread f = unit f * (unit f * unit f) := by
    rw [div_eq_iff (spread_pos f).ne']
    linear_combination (-(unit f)) * unit_sq f
  have h0 : ∑ q, -(via f h q) = 0 := by
    unfold via
    rw [Finset.sum_neg_distrib, ← Finset.mul_sum, ← Finset.mul_sum, sum_dev]
    ring
  have h1 : ∑ q, -(h q * unit f) = -(unit f * (2048 * mu h)) := by
    rw [Finset.sum_neg_distrib, ← Finset.sum_mul, mu]
    ring
  have h2 : mu (fun q => h q * (dev f q * unit f)) = unit f * (∑ q, dev f q * h q) / 2048 := by
    unfold mu
    rw [Finset.mul_sum]
    exact congrArg (· / 2048) (Finset.sum_congr rfl fun q _ => by ring)
  rw [h0, h1, grad, h2, via, hs]
  ring

theorem gradR_eq_gradK (f h : Fin 2048 → ℝ) (k : Fin 2048) : gradR (fun q => ((f q : ℝ) : EReal)) (fun q => ((h q : ℝ) : EReal)) k
    = gradK (fun q => ((f q : ℝ) : EReal)) (fun q => ((h q : ℝ) : EReal)) k := by
  rw [gradR_coe, gradK_coe, grad_eq]

end Cert.Norm

end
-- ==== Proof.Norm.Ln.lean ====
/-
  The gradient of the normalisation of the rows, 256 rows at each of 16 grid points, and of its gain and shift, added up over the points.
  What the kernel leaves at an index, in its three results, is what the reference's gradient computes there from real arguments.
-/
module

public import proofs.«01_k».proof.Proof.Gen.ReferenceLnIdeal.Read
public import proofs.«01_k».proof.Proof.Norm.LnBlocks
public import proofs.«01_k».proof.Proof.Norm.Reals

@[expose] public section

set_option maxRecDepth 16384

noncomputable section

namespace Cert.KernelLnIdeal.Norm

open Cert.KernelLnIdeal Cert.KernelLnIdeal.Gen
open Idealize.ShloMosaic Idealize.ShloMosaic.TcCoe Idealize.ShloMosaic.ValueIdx
open Cert.Prod Cert.Norm
open scoped BigOperators

variable (m : (ℓ : Loc nD τ sig) → Buf (Elt Ideal) ℓ) (c : Dev nD)

/-- The gradient of the normalised rows, the rows and the gain. -/
abbrev argD : S4096x2048.Idx → EReal := m ((c.tc : Thread nD τ).loc main_arg0)
abbrev argX : S4096x2048.Idx → EReal := m ((c.tc : Thread nD τ).loc main_arg1)
abbrev argG : S1x2048.Idx → EReal := m ((c.tc : Thread nD τ).loc main_arg2)

/-- Row `i`, and the gradient of its entries before the gain. -/
def rowX (X : S4096x2048.Idx → EReal) (i : ℕ) (k : Fin 2048) : EReal := entry X i k.val
def rowH (D : S4096x2048.Idx → EReal) (G : S1x2048.Idx → EReal) (i : ℕ) (k : Fin 2048) : EReal := entry D i k.val * entry G 0 k.val

/-- What row `i` adds to the gain's gradient. -/
def part (D X : S4096x2048.Idx → EReal) (k : Fin 2048) (i : ℕ) : EReal := entry D i k.val * (off (rowX X i) k * scale (rowX X i))

theorem places : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)

theorem places_out : ∀ t : Fin cfg0.N, (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0) :=
  (by decide +kernel : ∀ t : Fin grid0.N, _)

theorem writes_back : ∀ t : Fin cfg0.N, (cfg0.win 3).flush t = true ∧ (cfg0.win 4).flush t = true ∧ ((cfg0.win 5).flush t = true ↔ t.val = 15) :=
  (by decide +kernel : ∀ t : Fin grid0.N, win0_3.flush t = true ∧ win0_4.flush t = true ∧ (win0_5.flush t = true ↔ t.val = 15))

theorem block_d (t : Fin cfg0.N) (r : Fin 256) (k : Fin 2048) : iblk m c 0 t (ix2 r k : S256x2048.Idx) = entry (argD m c) (256 * t.val + r.val) k.val := by
  obtain ⟨e0, e1, -⟩ := places t
  refine eq_entry (argD m c) (((cfg0.win 0).blk t).view.emb (ix2 r k : S256x2048.Idx)) _ _ ?_ ?_
  · show win0_0.index t (0 : Fin 2) * 256 + 1 * r.val = _; omega
  · show win0_0.index t (1 : Fin 2) * 2048 + 1 * k.val = _; omega

theorem block_x (t : Fin cfg0.N) (r : Fin 256) (k : Fin 2048) : iblk m c 1 t (ix2 r k : S256x2048.Idx) = rowX (argX m c) (256 * t.val + r.val) k := by
  obtain ⟨-, -, e0, e1, -⟩ := places t
  refine eq_entry (argX m c) (((cfg0.win 1).blk t).view.emb (ix2 r k : S256x2048.Idx)) _ _ ?_ ?_
  · show win0_1.index t (0 : Fin 2) * 256 + 1 * r.val = _; omega
  · show win0_1.index t (1 : Fin 2) * 2048 + 1 * k.val = _; omega

theorem block_g (t : Fin cfg0.N) (k : Fin 2048) : iblk m c 2 t (ix2 0 k : S1x2048.Idx) = entry (argG m c) 0 k.val := by
  obtain ⟨-, -, -, -, e0, e1⟩ := places t
  refine eq_entry (argG m c) (((cfg0.win 2).blk t).view.emb (ix2 0 k : S1x2048.Idx)) _ _ ?_ ?_
  · show win0_2.index t (0 : Fin 2) * 1 + 1 * 0 = _; omega
  · show win0_2.index t (1 : Fin 2) * 2048 + 1 * k.val = _; omega

/-! ## The payloads at an index -/

theorem pay5_apply (x : Vec Ideal S256x2048 .f32) (r : Fin 256) (k : Fin 2048) : k0_pay5 (F := Ideal) x (ix2 r k) = off (fun q => x (ix2 r q)) k :=
  off_apply x _ _ _ r k

theorem pay6_apply (x : Vec Ideal S256x2048 .f32) (h : Col.Broadcasts Rows) (r : Fin 256) (k : Fin 2048) :
    broadcastTo Rows (k0_pay6 (F := Ideal) x) h (ix2 r k) = scale (fun q => x (ix2 r q)) := by
  unfold k0_pay6
  exact scale_apply x (k0_pay5 x) _ _ h r k (fun q => pay5_apply x r q)

theorem pay7_apply (x : Vec Ideal S256x2048 .f32) (r : Fin 256) (k : Fin 2048) :
    k0_pay7 (F := Ideal) x (ix2 r k) = off (fun q => x (ix2 r q)) k * scale (fun q => x (ix2 r q)) :=
  congrArg₂ (· * ·) (pay5_apply x r k) (pay6_apply x _ r k)

/-- The means of the rows of a block, repeated along them. -/
theorem mean_apply (v : FVec Ideal Rows .f32) (h : Rows.Reduces [1] Line) (h' : Line.ShapeCasts Col) (h'' : Col.Broadcasts Rows) (r : Fin 256) (k : Fin 2048) :
    broadcastTo Rows (divf (shapeCast Col (multiReduction .add [1] Line v 0x00000000#32 h (.inl rfl) rfl) h') (broadcast Col (Scalar.ofBits .f32 0x45000000#32))) h'' (ix2 r k)
      = mean (fun q => v (ix2 r q)) := by
  rw [across]
  exact congrArg (Ideal.div · len) (sums v h h' r)

theorem pay8_apply (x d : Vec Ideal S256x2048 .f32) (g : Vec Ideal S1x2048 .f32) (r : Fin 256) (k : Fin 2048) :
    (k0_pay8 (F := Ideal) x d g (ix2 r k) : EReal) = gradK (fun q => x (ix2 r q)) (fun q => d (ix2 r q) * g (ix2 0 q)) k := by
  unfold k0_pay8 gradK
  refine congrArg₂ (· * ·) (pay6_apply x _ r k) (congrArg₂ (· - ·) (congrArg₂ (· - ·) (congrArg (d (ix2 r k) * ·) (down g _ r k)) ?_) (congrArg₂ (· * ·) (pay7_apply x r k) ?_))
  · refine (mean_apply _ _ _ _ r k).trans (congrArg mean (funext fun q => ?_))
    exact congrArg (d (ix2 r q) * ·) (down g _ r q)
  · refine (mean_apply _ _ _ _ r k).trans (congrArg mean (funext fun q => ?_))
    exact congrArg₂ (· * ·) (congrArg (d (ix2 r q) * ·) (down g _ r q)) (pay7_apply x r q)

/-- The sums of the columns of a block, as a row. -/
theorem col_sums (v : FVec Ideal S256x2048 .f32) (h : S256x2048.Reduces [0] S2048) (h' : S2048.ShapeCasts S1x2048) (k : Fin 2048) :
    shapeCast S1x2048 (multiReduction .add [0] S2048 v 0x00000000#32 h (.inl rfl) rfl) h' (ix2 0 k) = ∑ r : Fin 256, v (ix2 r k) := by
  refine (shapeCast_apply _ h' (ix2 0 k) (ix1 k) (by rw [Shape.rowMajor_val_one, Shape.rowMajor_val_two]; show k.val = 0 * 2048 + k.val; omega)).trans ?_
  refine (Ideal.multiReduction_add_single v _ h (.inl rfl) rfl (ix1 k)).trans ?_
  refine Finset.sum_congr rfl fun r _ => congrArg v ?_
  funext a; apply Fin.ext
  match a with
  | ⟨0, _⟩ => rfl
  | ⟨1, _⟩ => rfl

theorem pay2_apply (x y : Vec Ideal S256x2048 .f32) (s : Vec Ideal S1x2048 .f32) (k : Fin 2048) :
    (k0_pay2 (F := Ideal) x y s (ix2 0 k) : EReal) = s (ix2 0 k) + ∑ r : Fin 256, x (ix2 r k) * y (ix2 r k) := by
  unfold k0_pay2
  exact congrArg₂ (· + ·) (congrFun (shapeCast_self s _) _) (col_sums _ _ _ k)

theorem pay3_apply (x : Vec Ideal S256x2048 .f32) (s : Vec Ideal S1x2048 .f32) (k : Fin 2048) :
    (k0_pay3 (F := Ideal) x s (ix2 0 k) : EReal) = s (ix2 0 k) + ∑ r : Fin 256, x (ix2 r k) := by
  unfold k0_pay3
  exact congrArg₂ (· + ·) (congrFun (shapeCast_self s _) _) (col_sums _ _ _ k)

theorem pay4_apply (i : S8x2048.Idx) : (k0_pay4 (F := Ideal) i : EReal) = 0 := Ideal.ofBits_zero_f32

/-! ## What the kernel leaves -/

/-- One more block added to a sum over the rows before it. -/
theorem add_block (f : ℕ → EReal) (n : ℕ) : ∑ p ∈ Finset.range (256 * n), f p + ∑ r : Fin 256, f (256 * n + r.val) = ∑ p ∈ Finset.range (256 * (n + 1)), f p := by
  rw [← Finset.sum_range (fun r => f (256 * n + r)), show 256 * (n + 1) = 256 * n + 256 by ring, Finset.sum_range_add]

/-- The running sums of `n` blocks at an index. -/
def totals (D X : S4096x2048.Idx → EReal) (n : ℕ) (i : S8x2048.Idx) : EReal :=
  if (i 0).val = 0 then ∑ p ∈ Finset.range (256 * n), part D X (i 1) p else if (i 0).val = 1 then ∑ p ∈ Finset.range (256 * n), entry D p (i 1).val else 0

theorem next_eq (t : Fin cfg0.N) (s : Vec Ideal S8x2048 .f32) (hs : (s : S8x2048.Idx → EReal) = totals (argD m c) (argX m c) t.val) :
    (next (iblk m c 0 t) (iblk m c 1 t) s : S8x2048.Idx → EReal) = totals (argD m c) (argX m c) (t.val + 1) := by
  funext i
  unfold next totals
  by_cases h0 : (i 0).val = 0
  · rw [if_pos h0, if_pos h0]
    refine (pay2_apply _ _ _ (i 1)).trans ((congrArg₂ (· + ·) ?_ ?_).trans (add_block (part (argD m c) (argX m c) (i 1)) t.val))
    · exact (congrFun hs (ix2 0 (i 1))).trans (if_pos rfl)
    · refine Finset.sum_congr rfl fun r _ => congrArg₂ (· * ·) (block_d m c t r (i 1)) ((pay7_apply _ r (i 1)).trans ?_)
      rw [show (fun q => iblk m c 1 t (ix2 r q : S256x2048.Idx)) = rowX (argX m c) (256 * t.val + r.val) from funext fun q => block_x m c t r q]
  by_cases h1 : (i 0).val = 1
  · rw [if_neg h0, if_pos h1, if_neg h0, if_pos h1]
    refine (pay3_apply _ _ (i 1)).trans ((congrArg₂ (· + ·) ?_ ?_).trans (add_block (fun p => entry (argD m c) p (i 1).val) t.val))
    · exact (congrFun hs (ix2 1 (i 1))).trans ((if_neg Nat.one_ne_zero).trans (if_pos rfl))
    · exact Finset.sum_congr rfl fun r _ => block_d m c t r (i 1)
  · rw [if_neg h0, if_neg h1, if_neg h0, if_neg h1]
    exact (congrFun hs i).trans ((if_neg h0).trans (if_neg h1))

theorem acc_eq (n : ℕ) (hn : n < cfg0.N) : (acc m c n hn : S8x2048.Idx → EReal) = totals (argD m c) (argX m c) (n + 1) := by
  induction n with
  | zero =>
    refine next_eq m c ⟨0, hn⟩ _ (funext fun i => (pay4_apply i).trans ?_)
    unfold totals
    simp
  | succ n ih => exact next_eq m c ⟨n + 1, hn⟩ _ (ih (Nat.lt_of_succ_lt hn))

theorem grad_block (t : Fin cfg0.N) (r : Fin 256) (k : Fin 2048) :
    (k0_pay8 (F := Ideal) (iblk m c 1 t) (iblk m c 0 t) (iblk m c 2 t) (ix2 r k) : EReal)
      = gradK (rowX (argX m c) (256 * t.val + r.val)) (rowH (argD m c) (argG m c) (256 * t.val + r.val)) k := by
  refine (pay8_apply _ _ _ r k).trans ?_
  rw [show (fun q => iblk m c 1 t (ix2 r q : S256x2048.Idx)) = rowX (argX m c) (256 * t.val + r.val) from funext fun q => block_x m c t r q]
  exact congrArg (fun h => gradK (rowX (argX m c) (256 * t.val + r.val)) h k) (funext fun q => congrArg₂ (· * ·) (block_d m c t r q) (block_g m c t q))

theorem place_of (i : S4096x2048.Idx) : ∃ (t : Fin cfg0.N) (r : Fin 256) (k : Fin 2048), 256 * t.val + r.val = (i 0).val ∧ k.val = (i 1).val := by
  have hN : cfg0.N = 16 := N_0
  have hi0 : (i 0).val < 4096 := (i 0).isLt
  exact ⟨⟨(i 0).val / 256, by rw [hN]; omega⟩, ⟨(i 0).val % 256, Nat.mod_lt _ (by decide)⟩, ⟨(i 1).val, (i 1).isLt⟩, by show 256 * ((i 0).val / 256) + (i 0).val % 256 = _; omega, rfl⟩

/-- The gradient of the rows. -/
theorem result3 (i : S4096x2048.Idx) : ((dats m 0 c).arrAt 3 cfg0.N : S4096x2048.Idx → EReal) i
    = gradK (rowX (argX m c) (i 0).val) (rowH (argD m c) (argG m c) (i 0).val) (i 1) := by
  obtain ⟨t, r, k, hr, hk⟩ := place_of i
  obtain ⟨⟨e0, e1⟩, -, -⟩ := places_out t
  have hi : ((cfg0.win 3).blk t).view.emb (ix2 r k : S256x2048.Idx) = i := by
    funext a; apply Fin.ext
    match a with
    | ⟨0, _⟩ => show win0_3.index t (0 : Fin 2) * 256 + 1 * r.val = (i 0).val; omega
    | ⟨1, _⟩ => show win0_3.index t (1 : Fin 2) * 2048 + 1 * k.val = (i 1).val; omega
  have e : (dats m 0 c).arrAt 3 cfg0.N (((cfg0.win 3).blk t).view.emb (ix2 r k : S256x2048.Idx)) = (dats m 0 c).flushed 3 t (ix2 r k : S256x2048.Idx) :=
    congrFun (Cert.KernelLnIdeal.Value.blocks3 m c t (writes_back t).1) (ix2 r k : S256x2048.Idx)
  rw [hi] at e
  refine e.trans ?_
  rw [Cert.KernelLnIdeal.Value.flushed3 m c t, outs3 m c t]
  refine (grad_block m c t r k).trans ?_
  rw [show k = i 1 from Fin.ext hk, hr]

/-- And its rounded copy, which rounds nothing here. -/
theorem result4 (i : S4096x2048.Idx) : ((dats m 0 c).arrAt 4 cfg0.N : S4096x2048.Idx → EReal) i
    = gradK (rowX (argX m c) (i 0).val) (rowH (argD m c) (argG m c) (i 0).val) (i 1) := by
  obtain ⟨t, r, k, hr, hk⟩ := place_of i
  obtain ⟨-, ⟨e0, e1⟩, -⟩ := places_out t
  have hi : ((cfg0.win 4).blk t).view.emb (ix2 r k : S256x2048.Idx) = i := by
    funext a; apply Fin.ext
    match a with
    | ⟨0, _⟩ => show win0_4.index t (0 : Fin 2) * 256 + 1 * r.val = (i 0).val; omega
    | ⟨1, _⟩ => show win0_4.index t (1 : Fin 2) * 2048 + 1 * k.val = (i 1).val; omega
  have e : (dats m 0 c).arrAt 4 cfg0.N (((cfg0.win 4).blk t).view.emb (ix2 r k : S256x2048.Idx)) = (dats m 0 c).flushed 4 t (ix2 r k : S256x2048.Idx) :=
    congrFun (Cert.KernelLnIdeal.Value.blocks4 m c t (writes_back t).2.1) (ix2 r k : S256x2048.Idx)
  rw [hi] at e
  refine e.trans ?_
  rw [Cert.KernelLnIdeal.Value.flushed4 m c t, outs4 m c t]
  refine Eq.trans (?_ : _ = (k0_pay8 (F := Ideal) (iblk m c 1 t) (iblk m c 0 t) (iblk m c 2 t) (ix2 r k) : EReal)) ((grad_block m c t r k).trans ?_)
  · rfl
  · rw [show k = i 1 from Fin.ext hk, hr]

/-- The gradients of the gain and of the shift: written back once, after the last point. -/
theorem result5 : ((dats m 0 c).arrAt 5 cfg0.N : S8x2048.Idx → EReal) = totals (argD m c) (argX m c) 16 := by
  funext i
  have hN : cfg0.N = 16 := N_0
  have ht : (15 : ℕ) < cfg0.N := by rw [hN]; decide
  obtain ⟨-, -, e0, e1⟩ := places_out ⟨15, ht⟩
  have hi : ((cfg0.win 5).blk ⟨15, ht⟩).view.emb (i : S8x2048.Idx) = i := by
    funext a; apply Fin.ext
    match a with
    | ⟨0, _⟩ => show win0_5.index ⟨15, ht⟩ (0 : Fin 2) * 8 + 1 * (i 0).val = (i 0).val; omega
    | ⟨1, _⟩ => show win0_5.index ⟨15, ht⟩ (1 : Fin 2) * 2048 + 1 * (i 1).val = (i 1).val; omega
  have once : ∀ t t' : Fin cfg0.N, (cfg0.win 5).flush t = true → (cfg0.win 5).flush t' = true → t ≠ t' →
      Disjoint ((cfg0.win 5).blk t).view.set ((cfg0.win 5).blk t').view.set :=
    fun t t' hf hf' hne => absurd (Fin.ext (((writes_back t).2.2.mp hf).trans ((writes_back t').2.2.mp hf').symm)) hne
  have e : (dats m 0 c).arrAt 5 cfg0.N (((cfg0.win 5).blk ⟨15, ht⟩).view.emb (i : S8x2048.Idx)) = (dats m 0 c).flushed 5 ⟨15, ht⟩ (i : S8x2048.Idx) :=
    congrFun ((dats m 0 c).read_blk_arrAt_eq_flushed 5 once cfg0.N ⟨15, ht⟩ ht ((writes_back ⟨15, ht⟩).2.2.mpr rfl)) (i : S8x2048.Idx)
  rw [hi] at e
  refine e.trans ?_
  rw [Cert.KernelLnIdeal.Value.flushed5 m c ⟨15, ht⟩, outs5 m c 15 ht]
  exact congrFun (acc_eq m c 15 ht) i

end Cert.KernelLnIdeal.Norm

end
-- ==== Proof.Norm.LnRef.lean ====
/-
  The reference's gradient of the normalisation of the rows, at an index; and that it is what the kernel leaves, for real arguments.
-/
module

public import proofs.«01_k».proof.Proof.Norm.Ln

@[expose] public section

set_option maxRecDepth 16384

noncomputable section

namespace Cert.KernelLnIdeal.Norm

open Cert.KernelLnIdeal Cert.KernelLnIdeal.Gen
open Idealize.ShloMosaic Idealize.ShloMosaic.TcCoe Idealize.ShloMosaic.ValueIdx
open Cert.Prod Cert.Norm
open scoped BigOperators

section Reference

open Cert.ReferenceLnIdeal.Read

/-- A sum begun at the word of zero. -/
theorem from_zero (x : EReal) : Scalar.ofBits (F := Ideal) .f32 0x00000000#32 + x = x := by
  rw [show Scalar.ofBits (F := Ideal) .f32 0x00000000#32 = (0 : EReal) from Ideal.ofBits_zero_f32, zero_add]

/-- The same of a sum of one term. -/
theorem from_zero_one (f : Fin 1 → EReal) : Scalar.ofBits (F := Ideal) .f32 0x00000000#32 + ∑ k, f k = f 0 := by
  rw [from_zero, Fin.sum_univ_one]

variable (D X : S4096x2048.Idx → EReal) (G : S1x2048.Idx → EReal)

theorem ref_mean (i : Cert.ReferenceLnIdeal.S4096x1.Idx) : val_main_v5 (F := Ideal) X i = mean (rowX X (i 0).val) := by
  rw [val_main_v5_apply, val_main_v3_apply, val_main_v2_apply, val_main_v4_apply]
  exact congrArg (Ideal.div · len) ((from_zero _).trans (Finset.sum_congr rfl fun k _ => eq_entry X _ _ _ rfl rfl))

theorem ref_off (i : S4096x2048.Idx) : val_main_v7 (F := Ideal) X i = off (rowX X (i 0).val) (i 1) := by
  rw [val_main_v7_apply, val_main_v6_apply, ref_mean]
  exact congrArg (· - mean (rowX X (i 0).val)) (eq_entry X i _ _ rfl rfl)

theorem ref_off_again (i : S4096x2048.Idx) : val_main_v16 (F := Ideal) X i = off (rowX X (i 0).val) (i 1) := by
  rw [val_main_v16_apply, val_main_v15_apply, ref_mean]
  exact congrArg (· - mean (rowX X (i 0).val)) (eq_entry X i _ _ rfl rfl)

theorem ref_spread (i : Cert.ReferenceLnIdeal.S4096x1.Idx) : val_main_v18 (F := Ideal) X i = spreadE (rowX X (i 0).val) := by
  rw [val_main_v18_apply, val_main_v14_apply, val_main_v12_apply, val_main_v11_apply, val_main_v13_apply, val_main_v17_apply]
  refine congrArg (fun s => Ideal.div s len + eps) ((from_zero _).trans (Finset.sum_congr rfl fun k _ => ?_))
  rw [val_main_v8_apply, ref_off]; rfl

theorem ref_scale (i : Cert.ReferenceLnIdeal.S4096x1.Idx) : val_main_v19 (F := Ideal) X i = scale (rowX X (i 0).val) := by
  rw [val_main_v19_apply, ref_spread]; rfl

/-- The gradient of the entries before the gain. -/
theorem ref_h (i : S4096x2048.Idx) : val_main_v39 (F := Ideal) D G i = rowH D G (i 0).val (i 1) := by
  have h1 : (i 1).val < 2048 := (i 1).isLt
  rw [val_main_v39_apply, val_main_v31_apply, val_main_v38_apply, val_main_v25_apply, val_main_v0_apply]
  refine congrArg₂ (· * ·) (eq_entry D _ _ _ ?_ ?_) (eq_entry G _ 0 _ rfl (Nat.mod_eq_of_lt h1))
  · show ((i 0).val * 2048 + (i 1).val) / 2048 = (i 0).val; omega
  · show ((i 0).val * 2048 + (i 1).val) % 2048 = (i 1).val; omega

theorem ref_direct (i : S4096x2048.Idx) : val_main_v45 (F := Ideal) D X G i = rowH D G (i 0).val (i 1) * scale (rowX X (i 0).val) := by
  rw [val_main_v45_apply, ref_h, val_main_v44_apply, ref_scale]; rfl

/-- What goes back through the variance. -/
theorem ref_via (i : S4096x2048.Idx) : val_main_v54 (F := Ideal) D X G i = viaE (rowX X (i 0).val) (rowH D G (i 0).val) (i 1) := by
  rw [val_main_v54_apply, val_main_v53_apply, val_main_v52_apply, val_main_v10_apply, val_main_v9_apply, ref_off]
  refine congrArg₂ (· * ·) ((from_zero_one _).trans ?_) rfl
  rw [val_main_v51_apply, val_main_v46_apply, val_main_v43_apply, val_main_v42_apply, val_main_v22_apply, val_main_v21_apply, val_main_v20_apply, ref_scale, ref_spread,
    val_main_v50_apply]
  refine congrArg (Ideal.div · len) (congrArg₂ (· * ·) ((from_zero _).trans (Finset.sum_congr rfl fun k _ => ?_)) rfl)
  have hr : (idx_main_v42 (idx_main_v43 (idx_main_v52 (idx_main_v53 i) 0)) k 0).val = (i 0).val := by
    show (i 0).val * 1 + 0 = (i 0).val; omega
  rw [val_main_v41_apply, ref_off_again, ref_h, hr]
  rfl

/-- The gradient of the rows. -/
theorem ref_grad (i : S4096x2048.Idx) : val_main_v64 (F := Ideal) D X G i = gradR (rowX X (i 0).val) (rowH D G (i 0).val) (i 1) := by
  rw [val_main_v64_apply, val_main_v58_apply, ref_direct, ref_via, val_main_v63_apply, val_main_v62_apply]
  refine congrArg (rowH D G (i 0).val (i 1) * scale (rowX X (i 0).val) + viaE (rowX X (i 0).val) (rowH D G (i 0).val) (i 1) + ·) ((from_zero_one _).trans ?_)
  rw [val_main_v61_apply, val_main_v59_apply, val_main_v49_apply, val_main_v48_apply, val_main_v57_apply, val_main_v56_apply, val_main_v60_apply]
  refine congrArg (Ideal.div · len) (congrArg₂ (· + ·) ((from_zero _).trans (Finset.sum_congr rfl fun k _ => ?_)) ((from_zero _).trans (Finset.sum_congr rfl fun k _ => ?_)))
  · have hr : (idx_main_v48 (idx_main_v49 (idx_main_v62 (idx_main_v63 i) 0)) k 0).val = (i 0).val := by
      show (i 0).val * 1 + 0 = (i 0).val; omega
    rw [val_main_v47_apply, ref_direct, hr]; rfl
  · have hr : (idx_main_v56 (idx_main_v57 (idx_main_v62 (idx_main_v63 i) 0)) k 0).val = (i 0).val := by
      show (i 0).val * 1 + 0 = (i 0).val; omega
    rw [val_main_v55_apply, ref_via, hr]; rfl

/-- The gradient of the gain. -/
theorem ref_gain (i : Cert.ReferenceLnIdeal.S1x2048.Idx) : val_main_v66 (F := Ideal) D X i = ∑ p ∈ Finset.range 4096, part D X (i 1) p := by
  rw [val_main_v66_apply, val_main_v40_apply]
  refine (from_zero_one _).trans ?_
  rw [val_main_v37_apply, val_main_v36_apply, Finset.sum_range]
  refine (from_zero _).trans (Finset.sum_congr rfl fun p _ => ?_)
  rw [val_main_v35_apply, val_main_v24_apply, ref_off_again, val_main_v23_apply, ref_scale, val_main_v31_apply]
  refine (mul_comm _ _).trans ?_
  have h1 : (i 1).val < 2048 := (i 1).isLt
  have hk : (⟨0 * 2048 + (i 1).val, by omega⟩ : Fin 2048) = i 1 := Fin.ext (by show 0 * 2048 + (i 1).val = _; omega)
  refine congrArg₂ (· * ·) (eq_entry D _ _ _ ?_ ?_) (congrArg (fun k => off (rowX X p.val) k * scale (rowX X p.val)) hk)
  · show (p.val * 2048 + (0 * 2048 + (i 1).val)) / 2048 = p.val; omega
  · show (p.val * 2048 + (0 * 2048 + (i 1).val)) % 2048 = (i 1).val; omega

/-- The gradient of the shift. -/
theorem ref_shift (i : Cert.ReferenceLnIdeal.S1x2048.Idx) : val_main_v67 (F := Ideal) D i = ∑ p ∈ Finset.range 4096, entry D p (i 1).val := by
  rw [val_main_v67_apply, val_main_v34_apply]
  refine (from_zero_one _).trans ?_
  rw [val_main_v33_apply, val_main_v32_apply, Finset.sum_range]
  refine (from_zero _).trans (Finset.sum_congr rfl fun p _ => ?_)
  exact eq_entry D _ _ _ rfl (by show 0 * 2048 + (i 1).val = (i 1).val; omega)

/-- Both, above rows of zeros. -/
theorem ref_totals (i : S8x2048.Idx) : val_main_v69 (F := Ideal) D X i = totals D X 16 i := by
  have h0 : (i 0).val < 8 := (i 0).isLt
  unfold val_main_v69 totals
  by_cases e0 : (i 0).val = 0
  · rw [if_pos e0]
    refine (concatenate_apply_piece 0 _ _ i 0 (Nat.le_of_ble_eq_true rfl) Cert.ReferenceLnIdeal.S1x2048 (val_main_v66 (F := Ideal) D X) rfl rfl 0 rfl (ix2 0 (i 1) : S1x2048.Idx) (fun b hb => ?_) ?_).trans (ref_gain D X _)
    · match b with
      | ⟨0, _⟩ => exact absurd rfl hb
      | ⟨1, _⟩ => rfl
    · show 0 + 0 = (i 0).val; omega
  by_cases e1 : (i 0).val = 1
  · rw [if_neg e0, if_pos e1]
    refine (concatenate_apply_piece 0 _ _ i 1 (Nat.le_of_ble_eq_true rfl) Cert.ReferenceLnIdeal.S1x2048 (val_main_v67 (F := Ideal) D) rfl rfl 1 rfl (ix2 0 (i 1) : S1x2048.Idx) (fun b hb => ?_) ?_).trans (ref_shift D _)
    · match b with
      | ⟨0, _⟩ => exact absurd rfl hb
      | ⟨1, _⟩ => rfl
    · show 1 + 0 = (i 0).val; omega
  · rw [if_neg e0, if_neg e1]
    refine (concatenate_apply_piece 0 _ _ i 2 (Nat.le_of_ble_eq_true rfl) Cert.ReferenceLnIdeal.S6x2048 (val_main_v68 (F := Ideal)) rfl rfl 2 rfl (ix2 ⟨(i 0).val - 2, by omega⟩ (i 1) : Cert.ReferenceLnIdeal.S6x2048.Idx) (fun b hb => ?_) ?_).trans ?_
    · match b with
      | ⟨0, _⟩ => exact absurd rfl hb
      | ⟨1, _⟩ => rfl
    · show 2 + ((i 0).val - 2) = (i 0).val; omega
    · exact Ideal.ofBits_zero_f32

end Reference

/-! ## The equalities -/

/-- Every entry is a real number. -/
def Finite {S : Shape} (A : S.Idx → EReal) : Prop := ∀ y, A y ≠ ⊤ ∧ A y ≠ ⊥

theorem entry_coe {R C : ℕ} {A : (⟨2, ![R, C]⟩ : Shape).Idx → EReal} (h : Finite A) (r c : ℕ) : ((entry A r c).toReal : EReal) = entry A r c := by
  unfold entry
  split
  · exact EReal.coe_toReal (h _).1 (h _).2
  · simp

variable (m : (ℓ : Loc nD τ sig) → Buf (Elt Ideal) ℓ) (c : Dev nD)
variable (D X : S4096x2048.Idx → EReal) (G : S1x2048.Idx → EReal)

theorem forms (hD : Finite D) (hX : Finite X) (hG : Finite G) (i : ℕ) (k : Fin 2048) : gradR (rowX X i) (rowH D G i) k = gradK (rowX X i) (rowH D G i) k := by
  rw [show rowX X i = fun q => (((entry X i q.val).toReal : ℝ) : EReal) from funext fun q => (entry_coe hX i q.val).symm,
    show rowH D G i = fun q => (((entry D i q.val).toReal * (entry G 0 q.val).toReal : ℝ) : EReal) from
      funext fun q => by rw [EReal.coe_mul, entry_coe hD, entry_coe hG]; rfl]
  exact gradR_eq_gradK _ _ k

theorem same3 (fD : Finite (argD m c)) (fX : Finite (argX m c)) (fG : Finite (argG m c)) (hD : D = argD m c) (hX : X = argX m c) (hG : G = argG m c) :
    Cert.ReferenceLnIdeal.Read.val_main_v64 (F := Ideal) D X G = (dats m 0 c).arrAt 3 cfg0.N := by
  subst hD hX hG
  exact funext fun i => (ref_grad _ _ _ i).trans ((forms _ _ _ fD fX fG _ _).trans (result3 m c i).symm)

theorem same4 (fD : Finite (argD m c)) (fX : Finite (argX m c)) (fG : Finite (argG m c)) (hD : D = argD m c) (hX : X = argX m c) (hG : G = argG m c) :
    Cert.ReferenceLnIdeal.Read.val_main_v65 (F := Ideal) D X G = (dats m 0 c).arrAt 4 cfg0.N := by
  subst hD hX hG
  exact funext fun i => (ref_grad _ _ _ i).trans ((forms _ _ _ fD fX fG _ _).trans (result4 m c i).symm)

theorem same5 (hD : D = argD m c) (hX : X = argX m c) : Cert.ReferenceLnIdeal.Read.val_main_v69 (F := Ideal) D X = (dats m 0 c).arrAt 5 cfg0.N := by
  subst hD hX
  exact (funext fun i => ref_totals _ _ i).trans (result5 m c).symm

end Cert.KernelLnIdeal.Norm

end
-- ==== Proof.Norm.LnClaims.lean ====
/-
  The claims of the gradient of the normalisation of the rows: what its precondition says of the arguments, and the equalities at every index.
-/
module

public import proofs.«01_k».proof.Defs
public import proofs.«01_k».proof.Proof.Gen.KernelLn
public import proofs.«01_k».proof.Proof.Gen.KernelLn.Frame
public import proofs.«01_k».proof.Proof.Gen.KernelLnIdeal
public import proofs.«01_k».proof.Proof.Gen.KernelLnIdeal.Frame
public import proofs.«01_k».proof.Proof.Gen.KernelLnIdeal.Value
public import proofs.«01_k».proof.Proof.Gen.ReferenceLnIdeal
public import proofs.«01_k».proof.Proof.Gen.ReferenceLnIdeal.Run
public import proofs.«01_k».proof.Proof.Gen.ReferenceLnIdeal.Read
public import proofs.«01_k».proof.Proof.Norm.LnRef
public import proofs.«01_k».proof.Proof.Attn.Finite
public import Idealize.ShloMosaic.Adequacy
public import Idealize.ShloMosaic.Init

@[expose] public section

noncomputable section

namespace Cert.Norm

open Idealize.ShloMosaic Idealize.ShloMosaic.ValueIdx Idealize.SL.Sem
open Cert.KernelLnIdeal.Norm (Finite argD argX argG)
open Cert.KernelIdeal.Attn (real_of_abs_lt)

theorem frame_ln : Cert.quiescent_KernelLn := fun m g _ => Cert.KernelLn.Gen.frame (F := Bits) m g

theorem frame_ln_ideal : Cert.quiescent_KernelLnIdeal := fun m g _ => Cert.KernelLnIdeal.Gen.frame (F := Ideal) m g

theorem frame_ln_reference : Cert.quiescent_ReferenceLnIdeal := fun m g _ =>
  (θ_run _ _ _).mono (fun r h => ⟨fun c => (h c).2.2.2, sem_eq_zero_of_no_sems (by decide) r.2⟩) (Cert.ReferenceLnIdeal.Value.run (F := Ideal) m g)

theorem facts_finite_ln : Cert.Pre_finite_ln.Facts := ⟨by decide, by decide⟩

section
variable [Cert.Pre_finite_ln.Facts]

theorem frame_ln_ideal_finite : Cert.quiescent_KernelLnIdeal_pre_finite_ln := fun m g _ => frame_ln_ideal m g trivial

theorem frame_ln_reference_finite : Cert.quiescent_ReferenceLnIdeal_pre_finite_ln := fun m g _ => frame_ln_reference m g trivial

/-- What the precondition says of the arguments. -/
theorem reals_ln {m : (ℓ : Loc Cert.KernelLnIdeal.nD Cert.KernelLnIdeal.τ Cert.KernelLnIdeal.sig) → Buf (Elt Ideal) ℓ}
    (hp : Cert.Pre_KernelLnIdeal_finite_ln m) (c : Dev Cert.KernelLnIdeal.nD) : Finite (argD m c) ∧ Finite (argX m c) ∧ Finite (argG m c) := by
  obtain ⟨p0, p1, p2⟩ := hp c
  exact ⟨fun y => real_of_abs_lt ((congrArg (Ideal.cmp .olt _) (broadcastInDim_apply _ _ _ y ix0 fun a => a.elim0).symm).trans (congrFun p0 y)),
    fun y => real_of_abs_lt ((congrArg (Ideal.cmp .olt _) (broadcastInDim_apply _ _ _ y ix0 fun a => a.elim0).symm).trans (congrFun p1 y)),
    fun y => real_of_abs_lt ((congrArg (Ideal.cmp .olt _) (broadcastInDim_apply _ _ _ y ix0 fun a => a.elim0).symm).trans (congrFun p2 y))⟩

/-- From real arguments both programs end with the same three results. -/
theorem same_ln : Cert.algebraic_KernelLnIdeal_ReferenceLnIdeal_pre_finite_ln := fun m g m' g' hp hm =>
  ⟨fun c => (Cert.KernelLnIdeal.Gen.dats m 0 c).arrAt 3 Cert.KernelLnIdeal.cfg0.N, fun c => (Cert.KernelLnIdeal.Gen.dats m 0 c).arrAt 4 Cert.KernelLnIdeal.cfg0.N,
    fun c => (Cert.KernelLnIdeal.Gen.dats m 0 c).arrAt 5 Cert.KernelLnIdeal.cfg0.N, Cert.KernelLnIdeal.Value.run_blocks (F := Ideal) m g,
    (θ_run _ _ _).mono (fun r h c => by
      obtain ⟨a0, a1, a2⟩ := hm c
      obtain ⟨fD, fX, fG⟩ := reals_ln hp c
      refine ⟨(h c).1.trans ?_, (h c).2.1.trans ?_, (h c).2.2.1.trans ?_, (h c).2.2.2⟩
      · rw [Cert.ReferenceLnIdeal.Read.val_main_v64_eq]
        exact Cert.KernelLnIdeal.Norm.same3 m c _ _ _ fD fX fG a0 a1 a2
      · rw [Cert.ReferenceLnIdeal.Read.val_main_v65_eq]
        exact Cert.KernelLnIdeal.Norm.same4 m c _ _ _ fD fX fG a0 a1 a2
      · exact Cert.KernelLnIdeal.Norm.same5 m c _ _ a0 a1) (Cert.ReferenceLnIdeal.Value.run (F := Ideal) m' g')⟩

end

end Cert.Norm

end
-- ==== Proof.Fwd.Model.lean ====
/-
  The forward attention kernel as a computation on arrays: at query block `q = i 1` of a head it takes the key blocks `0, …, q` in order, keeping
  each row's largest logit, the sum of its weights and the weighted sum of the values.
-/
module

public import proofs.«01_k».proof.Proof.Attn.Own
public import proofs.«01_k».proof.Proof.Gen.KernelFwdIdeal.Frame.Runs

@[expose] public section

set_option maxRecDepth 16384

noncomputable section

namespace Cert.KernelFwdIdeal.Fwd

open Cert.KernelFwdIdeal Cert.KernelFwdIdeal.Gen
open Idealize.ShloMosaic Idealize.ShloMosaic.Tactic Idealize.ShloMosaic.Updates Idealize.ShloMosaic.LaneScatter
open Cert.KernelIdeal.Attn (getAt)

theorem trips1 : ∀ i : grid0.Coords, (k0_t1_loop i).trips = (i 1).val / 2 := by decide +kernel
theorem trips2 : ∀ i : grid0.Coords, (k0_t2_loop i).trips = 0 := by decide +kernel
theorem cond1_iff : ∀ i : grid0.Coords, k0_cond1 i = 1#1 ↔ (i 1).val % 2 = 0 := by decide +kernel
theorem cond2_iff : ∀ i : grid0.Coords, k0_cond2 i = 1#1 ↔ (i 1).val % 2 = 1 := by decide +kernel
theorem block_lt : ∀ i : grid0.Coords, (i 1).val < 8 := by decide +kernel
theorem coord_block : ∀ t : Fin cfg0.N, (grid0.coords t 1).val = t.val % 8 := (by decide +kernel : ∀ t : Fin grid0.N, (grid0.coords t 1).val = t.val % 8)

theorem off1_1_eq : ∀ (i : grid0.Coords) (t : Fin (k0_t1_loop i).trips), k0_off1 i t 1#32 = ![512 * (2 * t.val + 1), 0] := by decide +kernel
theorem off1_2_eq : ∀ (i : grid0.Coords) (t : Fin (k0_t1_loop i).trips), k0_off1 i t 2#32 = ![512 * (2 * t.val + 2), 0] := by decide +kernel
theorem off2_eq : ∀ (i : grid0.Coords) (t : Fin (k0_t1_loop i).trips), k0_off2 i t = ![0, 2 * t.val, 0, 0] := by decide +kernel
theorem off3_eq : ∀ (i : grid0.Coords) (t : Fin (k0_t1_loop i).trips), k0_off3 i t = ![512 * (2 * t.val), 0] := by decide +kernel
theorem off4_eq : ∀ (i : grid0.Coords) (t : Fin (k0_t1_loop i).trips), k0_off4 i t = ![0, 2 * t.val + 1, 0, 0] := by decide +kernel
theorem off9_eq : ∀ i : grid0.Coords, k0_off9 i = ![0, (i 1).val, 0, 0] := by decide +kernel
theorem off10_eq : ∀ i : grid0.Coords, k0_off10 i = ![512 * (i 1).val, 0] := by decide +kernel
theorem off11_eq : ∀ i : grid0.Coords, k0_off11 i = ![512 * (i 1).val, 0] := by decide +kernel
theorem off12_eq : ∀ i : grid0.Coords, k0_cond2 i = 1#1 → k0_off12 i = ![0, (i 1).val - 1, 0, 0] := by decide +kernel
theorem off13_eq : ∀ i : grid0.Coords, k0_cond2 i = 1#1 → k0_off13 i = ![512 * ((i 1).val - 1), 0] := by decide +kernel
theorem off14_eq : ∀ i : grid0.Coords, k0_off14 i = ![0, (i 1).val, 0, 0] := by decide +kernel

variable {F : FTy → Type} [FloatOps F] [Named F]

/-- What a point reads: its block of the queries, and the head's keys, values and cumulative gates. -/
structure Inp (F : FTy → Type) where
  Q : Vec F S512x128 .bf16
  K : Vec F S4096x128 .bf16
  V : Vec F S4096x128 .bf16
  C : Vec F S1x8x1x512 .f32

/-- What a point keeps for each row: the largest logit, the sum of the weights, the weighted sum of the values. -/
structure St (F : FTy → Type) where
  m : Vec F S512x128 .f32
  l : Vec F S512x128 .f32
  a : Vec F S512x128 .f32

/-- Block `n`'s 512 rows of a head's array. -/
abbrev rows {e : EltTy} (n : ℕ) (X : Vec F S4096x128 e) : Vec F S512x128 e := getAt (by decide) (by decide) 512 128 (512 * n, 0) X

/-- Block `n` of the cumulative gates. -/
def gates (n : ℕ) (X : Vec F S1x8x1x512 .f32) : Vec F S1x1x1x512 .f32 := fun y => X fun | 0 => (0 : Fin 1) | 1 => (⟨n % 8, Nat.mod_lt n (by decide)⟩ : Fin 8) | 2 => (0 : Fin 1) | 3 => y 3

theorem readAt_gates {κ : Kind} {sp : Space} {v : View sig κ sp S1x8x1x512 .f32} {f : v.ty.Contents (Elt F)} {X : Vec F S1x8x1x512 .f32} (hX : v.read (Elt F) f = X)
    {off : Fin 4 → ℕ} {n : ℕ} (ho : off = ![0, n, 0, 0]) (inb : ∀ a, off a + S1x1x1x512.size a ≤ S1x8x1x512.size a) :
    View.readAt (Elt F) v (Rect.unit (s := S1x8x1x512) off S1x1x1x512.size inb).toLoadRect f = gates n X := by
  subst ho
  rw [View.readAt_eq_ld, hX]
  refine funext fun y => congrArg X ?_
  have h1 : n + 1 ≤ 8 := inb 1
  have y0 : (y 0).val < 1 := (y 0).isLt
  have y1 : (y 1).val < 1 := (y 1).isLt
  have y2 : (y 2).val < 1 := (y 2).isLt
  funext a; apply Fin.ext
  match a with
  | ⟨0, _⟩ => show 0 + 1 * (y 0).val = 0; omega
  | ⟨1, _⟩ => show n + 1 * (y 1).val = n % 8; omega
  | ⟨2, _⟩ => show 0 + 1 * (y 2).val = 0; omega
  | ⟨3, _⟩ => show 0 + 1 * (y 3).val = (y 3).val; omega

/-- The products of the point's queries with key block `n`. -/
def prods (I : Inp F) (n : ℕ) : Vec F S512x512 .f32 := k0_pay9 I.Q (rows n I.K)

/-- What is kept before the first key block. -/
def start : St F := ⟨k0_pay61, k0_pay62, k0_pay63⟩

/-- What is kept after a key block below the diagonal. -/
def step (I : Inp F) (n : ℕ) (s : St F) : St F where
  m := k0_pay18 (k0_pay11 (prods I n) (gates n I.C) s.m)
  l := k0_pay16 (k0_pay14 (prods I n) (gates n I.C) s.m s.l) (k0_pay15 (prods I n) (gates n I.C) s.m)
  a := k0_pay17 (k0_pay12 (prods I n) (gates n I.C) s.m) (k0_pay13 (prods I n) (gates n I.C) s.m) s.a (rows n I.V)

/-- What is kept after the key block on the diagonal. -/
def diag (I : Inp F) (n : ℕ) (s : St F) : St F where
  m := k0_pay70 (k0_pay44 (prods I n) (gates n I.C) s.m)
  l := k0_pay47 (prods I n) (gates n I.C) s.m s.l
  a := k0_pay69 (k0_pay48 (prods I n) (gates n I.C) s.m s.a) (k0_pay49 (prods I n) (gates n I.C) s.m) (rows n I.V)

/-- What is kept after the first `n` key blocks, all below the diagonal. -/
def chain (I : Inp F) : ℕ → St F
  | 0 => start
  | n + 1 => step I n (chain I n)

/-- What is kept when the point at query block `q` ends, and what it stores of it. -/
def final (I : Inp F) (q : ℕ) : St F := diag I q (chain I q)
def oOut (s : St F) : Vec F S512x128 .bf16 := k0_pay7 s.a s.l
def lseOut (s : St F) : Vec F S512x128 .f32 := k0_pay8 s.m s.l

end Cert.KernelFwdIdeal.Fwd

end
-- ==== Proof.Fwd.Trip.lean ====
/-
  Two key blocks in one trip of the kernel's loop, and the loop.
-/
module

public import proofs.«01_k».proof.Proof.Fwd.Model

@[expose] public section

set_option maxRecDepth 16384

noncomputable section

namespace Cert.KernelFwdIdeal.Fwd

open Cert.KernelFwdIdeal Cert.KernelFwdIdeal.Gen
open Idealize.ShloMosaic Idealize.ShloMosaic.TcCoe Idealize.ShloMosaic.Tactic Idealize.ShloMosaic.Updates Idealize.ShloMosaic.LaneScatter
open Idealize.SL Idealize.SL.RA Idealize.SL.BI
open scoped Idealize.SL.BI
open Idealize.SL.BI.BIBase Idealize.SL.BI.Laws Idealize.SL.ProofMode Idealize.SL.Sem
open Cert.KernelIdeal.Attn (getAt readAt_getAt readAt_whole readCov_whole)

variable {F : FTy → Type} [FloatOps F] [Named F]

local notation "𝕄" => MT nD τ sig Unit (Elt F) ℕ (UR sig nD τ) ℕ

variable (c : Dev nD) (i : grid0.Coords)

/-- What a point only reads, owned. -/
abbrev inputs (M2 : Memref sig .tc .vmem S512x128 .bf16) (M3 M4 : Memref sig .tc .vmem S4096x128 .bf16) (M5 : Memref sig .tc .vmem S1x8x1x512 .f32) (I : Inp F) : sProp 𝕄 :=
  iprop(owns (c : Thread nD τ) M2 fullShare I.Q ∗ owns (c : Thread nD τ) M3 fullShare I.K
    ∗ owns (c : Thread nD τ) M4 fullShare I.V ∗ owns (c : Thread nD τ) M5 fullShare I.C)

/-- What it keeps, owned. -/
abbrev kept (M8 M9 M10 : Memref sig .tc .vmem S512x128 .f32) (s : St F) : sProp 𝕄 :=
  iprop(owns (c : Thread nD τ) M8 fullShare s.m ∗ owns (c : Thread nD τ) M9 fullShare s.l ∗ owns (c : Thread nD τ) M10 fullShare s.a)

/-- A buffer owned at some contents. -/
abbrev any {sh : Shape} {e : EltTy} (M : Memref sig .tc .vmem sh e) : sProp 𝕄 := iprop(∃ X : sh.Idx → Elt F e, owns (c : Thread nD τ) M fullShare X)

variable {arg2 : Memref sig .tc .vmem S512x128 .bf16} (harg2 : arg2.IsWhole) {arg3 : Memref sig .tc .vmem S4096x128 .bf16} (harg3 : arg3.IsWhole) {arg4 : Memref sig .tc .vmem S4096x128 .bf16} (harg4 : arg4.IsWhole) {arg5 : Memref sig .tc .vmem S1x8x1x512 .f32} (harg5 : arg5.IsWhole) {arg6 : Memref sig .tc .vmem S512x128 .bf16} (harg6 : arg6.IsWhole) {arg7 : Memref sig .tc .vmem S512x128 .f32} (harg7 : arg7.IsWhole) {arg8 : Memref sig .tc .vmem S512x128 .f32} (harg8 : arg8.IsWhole) {arg9 : Memref sig .tc .vmem S512x128 .f32} (harg9 : arg9.IsWhole) {arg10 : Memref sig .tc .vmem S512x128 .f32} (harg10 : arg10.IsWhole) {arg11 : Memref sig .tc .vmem S512x512 .f32} (harg11 : arg11.IsWhole) {arg12 : Memref sig .tc .vmem S512x512 .f32} (harg12 : arg12.IsWhole)

/-- One trip takes two more key blocks, and leaves the next block's products in the first product buffer. -/
theorem trip (I : Inp F) (s : St F) (t : Fin (k0_t1_loop i).trips) (a1 v20 : BitVec 32) (v31 : BitVec 1) (v32 : BitVec 32) :
    (iprop(inputs c arg2 arg3 arg4 arg5 I ∗ kept c arg8 arg9 arg10 s ∗ owns (c : Thread nD τ) arg11 fullShare (prods I (2 * t.val)) ∗ any c arg12) : sProp 𝕄) ⊢
      wp frame (wpE defs₀ Variants.none (c : Thread nD τ) none) Set.univ (k0_t1_body (F := F) i arg2 harg2 arg3 harg3 arg4 harg4 arg5 harg5 arg6 harg6 arg7 harg7 arg8 harg8 arg9 harg9 arg10 harg10 arg11 harg11 arg12 harg12 a1 v20 v31 v32 t ())
        (fun _ => iprop(inputs c arg2 arg3 arg4 arg5 I ∗ kept c arg8 arg9 arg10 (step I (2 * t.val + 1) (step I (2 * t.val) s))
          ∗ owns (c : Thread nD τ) arg11 fullShare (prods I (2 * t.val + 2)) ∗ any c arg12)) := by
  unfold k0_t1_body
  simp only [k0_part1_eq_skeleton, k0_part2_eq_skeleton, k0_part3_eq_skeleton]
  unfold k0_part1_skel k0_part2_skel k0_part3_skel
  iintro ⟨⟨H2, H3, H4, H5⟩, ⟨H8, H9, H10⟩, H11, ⟨%X12, H12⟩⟩
  icases (owns_read (c : Thread nD τ) arg2 _) $$ H2 with ⟨%f2, H2, %e2⟩
  icases (owns_read (c : Thread nD τ) arg3 _) $$ H3 with ⟨%f3, H3, %e3⟩
  icases (owns_read (c : Thread nD τ) arg4 _) $$ H4 with ⟨%f4, H4, %e4⟩
  icases (owns_read (c : Thread nD τ) arg5 _) $$ H5 with ⟨%f5, H5, %e5⟩
  icases (owns_read (c : Thread nD τ) arg8 _) $$ H8 with ⟨%f8, H8, %e8⟩
  icases (owns_read (c : Thread nD τ) arg9 _) $$ H9 with ⟨%f9, H9, %e9⟩
  icases (owns_read (c : Thread nD τ) arg10 _) $$ H10 with ⟨%f10, H10, %e10⟩
  icases (owns_read (c : Thread nD τ) arg11 _) $$ H11 with ⟨%f11, H11, %e11⟩
  icases (owns_read (c : Thread nD τ) arg12 _) $$ H12 with ⟨%f12, H12, %e12⟩
  sl_exec
  sl_step
  have r3 := fun {off} {a b} ho inb => readAt_getAt (h := 512) (w := 128) (off := off) (a := a) (b := b) (by decide) (by decide) e3 ho inb
  have r4 := fun {off} {a b} ho inb => readAt_getAt (h := 512) (w := 128) (off := off) (a := a) (b := b) (by decide) (by decide) e4 ho inb
  have r5 := fun {off} {n} ho inb => readAt_gates (off := off) (n := n) e5 ho inb
  isplitl [H2 H3 H4 H5]
  · isplitl [H2]; · iapply (raw_owns (c : Thread nD τ) arg2 e2); iexact H2
    isplitl [H3]; · iapply (raw_owns (c : Thread nD τ) arg3 e3); iexact H3
    isplitl [H4]; · iapply (raw_owns (c : Thread nD τ) arg4 e4); iexact H4
    iapply (raw_owns (c : Thread nD τ) arg5 e5); iexact H5
  isplitl [H8 H9 H10]
  · isplitl [H8]
    · iapply (raw_owns (c : Thread nD τ) arg8 ?_)
      rotate_left
      · iexact H8
      refine (View.read_writes_full _ _ _ _ _).trans ?_
      sl_unfold_run_names
      dsimp only
      simp only [readAt_whole e2, readAt_whole e8, readAt_whole e9, readAt_whole e10, readAt_whole e11, r3 (off1_1_eq i t), r3 (off1_2_eq i t), r4 (off1_1_eq i t),
        r4 (off3_eq i t), r5 (off2_eq i t), r5 (off4_eq i t)]
      repeat rw [readCov_whole]
      rfl
    isplitl [H9]
    · iapply (raw_owns (c : Thread nD τ) arg9 ?_)
      rotate_left
      · iexact H9
      refine (View.read_writes_full _ _ _ _ _).trans ?_
      sl_unfold_run_names
      dsimp only
      simp only [readAt_whole e2, readAt_whole e8, readAt_whole e9, readAt_whole e10, readAt_whole e11, r3 (off1_1_eq i t), r3 (off1_2_eq i t), r4 (off1_1_eq i t),
        r4 (off3_eq i t), r5 (off2_eq i t), r5 (off4_eq i t)]
      repeat rw [readCov_whole]
      rfl
    iapply (raw_owns (c : Thread nD τ) arg10 ?_)
    rotate_left
    · iexact H10
    refine (View.read_writes_full _ _ _ _ _).trans ?_
    sl_unfold_run_names
    dsimp only
    simp only [readAt_whole e2, readAt_whole e8, readAt_whole e9, readAt_whole e10, readAt_whole e11, r3 (off1_1_eq i t), r3 (off1_2_eq i t), r4 (off1_1_eq i t),
      r4 (off3_eq i t), r5 (off2_eq i t), r5 (off4_eq i t)]
    repeat rw [readCov_whole]
    rfl
  isplitl [H11]
  · iapply (raw_owns (c : Thread nD τ) arg11 ?_)
    rotate_left
    · iexact H11
    refine (View.read_writes_full _ _ _ _ _).trans ?_
    sl_unfold_run_names
    dsimp only
    simp only [readAt_whole e2, r3 (off1_2_eq i t)]
    rfl
  iexists _
  iapply (raw_owns (c : Thread nD τ) arg12 rfl); iexact H12

/-- What the loop holds before its trip `n`: what is kept after `2 n` key blocks, and the next block's products. -/
abbrev held (arg2 : Memref sig .tc .vmem S512x128 .bf16) (arg3 arg4 : Memref sig .tc .vmem S4096x128 .bf16) (arg5 : Memref sig .tc .vmem S1x8x1x512 .f32)
    (arg8 arg9 arg10 : Memref sig .tc .vmem S512x128 .f32) (arg11 arg12 : Memref sig .tc .vmem S512x512 .f32) (I : Inp F) (n : ℕ) : sProp 𝕄 :=
  iprop(inputs c arg2 arg3 arg4 arg5 I ∗ kept c arg8 arg9 arg10 (chain I (2 * n)) ∗ owns (c : Thread nD τ) arg11 fullShare (prods I (2 * n)) ∗ any c arg12)

/-- The loop over pairs of key blocks. -/
theorem loop1 (I : Inp F) (n : ℕ) (hn : n = 2 * ((i 1).val / 2)) (a1 v20 : BitVec 32) (v31 : BitVec 1) (v32 : BitVec 32) :
    (iprop(inputs c arg2 arg3 arg4 arg5 I ∗ kept c arg8 arg9 arg10 start ∗ owns (c : Thread nD τ) arg11 fullShare (prods I 0) ∗ any c arg12) : sProp 𝕄) ⊢
      wp frame (wpE defs₀ Variants.none (c : Thread nD τ) none) Set.univ (Scf.Loop.for (k0_t1_loop i) (k0_t1_ok i) ⟨⟩ (k0_t1_body (F := F) i arg2 harg2 arg3 harg3 arg4 harg4 arg5 harg5 arg6 harg6 arg7 harg7 arg8 harg8 arg9 harg9 arg10 harg10 arg11 harg11 arg12 harg12 a1 v20 v31 v32))
        (fun _ => iprop(inputs c arg2 arg3 arg4 arg5 I ∗ kept c arg8 arg9 arg10 (chain I n) ∗ owns (c : Thread nD τ) arg11 fullShare (prods I n) ∗ any c arg12)) := by
  subst hn
  have T := fun t => trip c i harg2 harg3 harg4 harg5 harg6 harg7 harg8 harg9 harg10 harg11 harg12  I (chain I (2 * t.val)) t a1 v20 v31 v32
  rw [← trips1 i]
  generalize (k0_t1_body (F := F) i arg2 harg2 arg3 harg3 arg4 harg4 arg5 harg5 arg6 harg6 arg7 harg7 arg8 harg8 arg9 harg9 arg10 harg10 arg11 harg11 arg12 harg12 a1 v20 v31 v32) = R at T ⊢
  iintro H
  iapply (Scf.wp_for frame (wpE defs₀ Variants.none (c : Thread nD τ) none) Set.univ (k0_t1_loop i).lb (k0_t1_loop i).ub (k0_t1_loop i).st (k0_t1_ok i) () R
    (fun n _ => held c arg2 arg3 arg4 arg5 arg8 arg9 arg10 arg11 arg12 I n) (fun k _ => T k))
  isplitl [H]; · iexact H
  iintro %_ H
  iexact H

/-- The loop over what the pairs leave, which makes no trip. -/
theorem loop2 (P : sProp 𝕄) (R : Fin (k0_t2_loop i).trips → Unit → Prog (TpuEff nD τ sig (Elt F) Λ₀ .tc) Unit) :
    P ⊢ wp frame (wpE defs₀ Variants.none (c : Thread nD τ) none) Set.univ (Scf.Loop.for (k0_t2_loop i) (k0_t2_ok i) ⟨⟩ R) (fun _ => P) := by
  iintro H
  iapply (Scf.wp_for frame (wpE defs₀ Variants.none (c : Thread nD τ) none) Set.univ (k0_t2_loop i).lb (k0_t2_loop i).ub (k0_t2_loop i).st (k0_t2_ok i) () R
    (fun n _ => P) (fun k _ => absurd (lt_of_lt_of_eq k.isLt (trips2 i)) (Nat.not_lt_zero _)))
  isplitl [H]; · iexact H
  iintro %_ H
  iexact H

end Cert.KernelFwdIdeal.Fwd

end
-- ==== Proof.Fwd.Body.lean ====
/-
  One point of the grid: what is kept is cleared, the pairs of key blocks are taken in the loop, then the one that is left below the diagonal if the
  point's block is odd, and the block on the diagonal.
-/
module

public import proofs.«01_k».proof.Proof.Fwd.Trip

@[expose] public section

set_option maxRecDepth 16384

noncomputable section

namespace Cert.KernelFwdIdeal.Fwd

open Cert.KernelFwdIdeal Cert.KernelFwdIdeal.Gen
open Idealize.ShloMosaic Idealize.ShloMosaic.TcCoe Idealize.ShloMosaic.Tactic Idealize.ShloMosaic.Updates Idealize.ShloMosaic.LaneScatter
open Idealize.SL Idealize.SL.RA Idealize.SL.BI
open scoped Idealize.SL.BI
open Idealize.SL.BI.BIBase Idealize.SL.BI.Laws Idealize.SL.ProofMode Idealize.SL.Sem
open Cert.KernelIdeal.Attn (getAt readAt_getAt readAt_whole readCov_whole bind_any)

variable {F : FTy → Type} [FloatOps F] [Named F]

local notation "𝕄" => MT nD τ sig Unit (Elt F) ℕ (UR sig nD τ) ℕ

variable (c : Dev nD) (i : grid0.Coords)

variable {arg2 : Memref sig .tc .vmem S512x128 .bf16} (harg2 : arg2.IsWhole) {arg3 : Memref sig .tc .vmem S4096x128 .bf16} (harg3 : arg3.IsWhole) {arg4 : Memref sig .tc .vmem S4096x128 .bf16} (harg4 : arg4.IsWhole) {arg5 : Memref sig .tc .vmem S1x8x1x512 .f32} (harg5 : arg5.IsWhole) {arg6 : Memref sig .tc .vmem S512x128 .bf16} (harg6 : arg6.IsWhole) {arg7 : Memref sig .tc .vmem S512x128 .f32} (harg7 : arg7.IsWhole) {arg8 : Memref sig .tc .vmem S512x128 .f32} (harg8 : arg8.IsWhole) {arg9 : Memref sig .tc .vmem S512x128 .f32} (harg9 : arg9.IsWhole) {arg10 : Memref sig .tc .vmem S512x128 .f32} (harg10 : arg10.IsWhole) {arg11 : Memref sig .tc .vmem S512x512 .f32} (harg11 : arg11.IsWhole) {arg12 : Memref sig .tc .vmem S512x512 .f32} (harg12 : arg12.IsWhole)

/-- The head of a point clears what is kept and takes the first products. -/
theorem part10 (I : Inp F) :
    (iprop(inputs c arg2 arg3 arg4 arg5 I ∗ (any c arg8 ∗ any c arg9 ∗ any c arg10) ∗ any c arg11) : sProp 𝕄) ⊢
      wp frame (wpE defs₀ Variants.none (c : Thread nD τ) none) Set.univ (k0_part10 (F := F) i arg2 harg2 arg3 harg3 arg4 harg4 arg5 harg5 arg6 harg6 arg7 harg7 arg8 harg8 arg9 harg9 arg10 harg10 arg11 harg11 arg12 harg12)
        (fun _ => iprop(inputs c arg2 arg3 arg4 arg5 I ∗ kept c arg8 arg9 arg10 start ∗ owns (c : Thread nD τ) arg11 fullShare (prods I 0))) := by
  rw [k0_part10_eq_skeleton]
  unfold k0_part10_skel
  iintro ⟨⟨H2, H3, H4, H5⟩, ⟨⟨%X8, H8⟩, ⟨%X9, H9⟩, ⟨%X10, H10⟩⟩, ⟨%X11, H11⟩⟩
  icases (owns_read (c : Thread nD τ) arg2 _) $$ H2 with ⟨%f2, H2, %e2⟩
  icases (owns_read (c : Thread nD τ) arg3 _) $$ H3 with ⟨%f3, H3, %e3⟩
  icases (owns_read (c : Thread nD τ) arg8 _) $$ H8 with ⟨%f8, H8, %e8⟩
  icases (owns_read (c : Thread nD τ) arg9 _) $$ H9 with ⟨%f9, H9, %e9⟩
  icases (owns_read (c : Thread nD τ) arg10 _) $$ H10 with ⟨%f10, H10, %e10⟩
  icases (owns_read (c : Thread nD τ) arg11 _) $$ H11 with ⟨%f11, H11, %e11⟩
  sl_exec
  sl_step
  isplitl [H2 H3 H4 H5]
  · isplitl [H2]; · iapply (raw_owns (c : Thread nD τ) arg2 e2); iexact H2
    isplitl [H3]; · iapply (raw_owns (c : Thread nD τ) arg3 e3); iexact H3
    isplitl [H4]; · iexact H4
    iexact H5
  isplitl [H8 H9 H10]
  · isplitl [H8]; · iapply (raw_owns (c : Thread nD τ) arg8 (View.read_writes_full _ _ _ _ _)); iexact H8
    isplitl [H9]; · iapply (raw_owns (c : Thread nD τ) arg9 (View.read_writes_full _ _ _ _ _)); iexact H9
    iapply (raw_owns (c : Thread nD τ) arg10 (View.read_writes_full _ _ _ _ _)); iexact H10
  iapply (raw_owns (c : Thread nD τ) arg11 ?_)
  rotate_left
  · iexact H11
  refine (View.read_writes_full _ _ _ _ _).trans ?_
  sl_unfold_run_names
  dsimp only
  simp only [readAt_whole e2, readAt_getAt (h := 512) (w := 128) (off := ![0, 0]) (a := 512 * 0) (b := 0) (by decide) (by decide) e3 rfl]
  rfl

/-- The loops, and the block on the diagonal where the point's block is even. -/
theorem part11_even (I : Inp F) (h : (i 1).val % 2 = 0) (a1 v20 : BitVec 32) (v31 : BitVec 1) (v32 : BitVec 32) :
    (iprop(inputs c arg2 arg3 arg4 arg5 I ∗ kept c arg8 arg9 arg10 start ∗ owns (c : Thread nD τ) arg11 fullShare (prods I 0) ∗ any c arg12) : sProp 𝕄) ⊢
      wp frame (wpE defs₀ Variants.none (c : Thread nD τ) none) Set.univ (k0_part11 (F := F) i arg2 harg2 arg3 harg3 arg4 harg4 arg5 harg5 arg6 harg6 arg7 harg7 arg8 harg8 arg9 harg9 arg10 harg10 arg11 harg11 arg12 harg12 a1 v20 v31 v32)
        (fun _ => iprop(inputs c arg2 arg3 arg4 arg5 I ∗ kept c arg8 arg9 arg10 (final I (i 1).val) ∗ any c arg11 ∗ any c arg12)) := by
  rw [k0_part11_eq_skeleton]
  unfold k0_part11_skel
  iintro H
  iapply (bind_any frame (wpE defs₀ Variants.none (c : Thread nD τ) none) Set.univ (loop1 c i harg2 harg3 harg4 harg5 harg6 harg7 harg8 harg9 harg10 harg11 harg12  I (i 1).val (by omega) a1 v20 v31 v32) _ _)
  isplitl [H]; · iexact H
  iintro %_ H
  iapply (bind_any frame (wpE defs₀ Variants.none (c : Thread nD τ) none) Set.univ (loop2 c i _ _) _ _)
  isplitl [H]; · iexact H
  iintro %_ ⟨⟨H2, H3, H4, H5⟩, ⟨H8, H9, H10⟩, H11, H12⟩
  have h1 := (cond1_iff i).mpr h
  simp only [k0_part7_eq_skeleton]
  unfold k0_part7_skel
  icases (owns_read (c : Thread nD τ) arg4 _) $$ H4 with ⟨%f4, H4, %e4⟩
  icases (owns_read (c : Thread nD τ) arg5 _) $$ H5 with ⟨%f5, H5, %e5⟩
  icases (owns_read (c : Thread nD τ) arg8 _) $$ H8 with ⟨%f8, H8, %e8⟩
  icases (owns_read (c : Thread nD τ) arg9 _) $$ H9 with ⟨%f9, H9, %e9⟩
  icases (owns_read (c : Thread nD τ) arg10 _) $$ H10 with ⟨%f10, H10, %e10⟩
  icases (owns_read (c : Thread nD τ) arg11 _) $$ H11 with ⟨%f11, H11, %e11⟩
  sl_exec
  sl_step
  have r4 := fun inb => readAt_getAt (h := 512) (w := 128) (by decide) (by decide) e4 (off10_eq i) inb
  have r5 := fun inb => readAt_gates e5 (off9_eq i) inb
  isplitl [H2 H3 H4 H5]
  · isplitl [H2]; · iexact H2
    isplitl [H3]; · iexact H3
    isplitl [H4]; · iapply (raw_owns (c : Thread nD τ) arg4 e4); iexact H4
    iapply (raw_owns (c : Thread nD τ) arg5 e5); iexact H5
  isplitl [H8 H9 H10]
  · isplitl [H8]
    · iapply (raw_owns (c : Thread nD τ) arg8 ?_)
      rotate_left
      · iexact H8
      refine (View.read_writes_full _ _ _ _ _).trans ?_
      sl_unfold_run_names
      dsimp only
      simp only [readAt_whole e8, readAt_whole e11, r5]
      rfl
    isplitl [H9]
    · iapply (raw_owns (c : Thread nD τ) arg9 ?_)
      rotate_left
      · iexact H9
      refine (View.read_writes_full _ _ _ _ _).trans ?_
      sl_unfold_run_names
      dsimp only
      simp only [readAt_whole e8, readAt_whole e9, readAt_whole e11, r5]
      rfl
    iapply (raw_owns (c : Thread nD τ) arg10 ?_)
    rotate_left
    · iexact H10
    refine (View.read_writes_full _ _ _ _ _).trans ?_
    sl_unfold_run_names
    dsimp only
    simp only [readAt_whole e8, readAt_whole e10, readAt_whole e11, r4, r5]
    rfl
  isplitl [H11]
  · iexists _
    iapply (raw_owns (c : Thread nD τ) arg11 e11); iexact H11
  iexact H12

/-- The loops, where the point's block is odd. -/
theorem part11_odd (I : Inp F) (h : (i 1).val % 2 = 1) (a1 v20 : BitVec 32) (v31 : BitVec 1) (v32 : BitVec 32) :
    (iprop(inputs c arg2 arg3 arg4 arg5 I ∗ kept c arg8 arg9 arg10 start ∗ owns (c : Thread nD τ) arg11 fullShare (prods I 0) ∗ any c arg12) : sProp 𝕄) ⊢
      wp frame (wpE defs₀ Variants.none (c : Thread nD τ) none) Set.univ (k0_part11 (F := F) i arg2 harg2 arg3 harg3 arg4 harg4 arg5 harg5 arg6 harg6 arg7 harg7 arg8 harg8 arg9 harg9 arg10 harg10 arg11 harg11 arg12 harg12 a1 v20 v31 v32)
        (fun _ => iprop(inputs c arg2 arg3 arg4 arg5 I ∗ kept c arg8 arg9 arg10 (chain I ((i 1).val - 1))
          ∗ owns (c : Thread nD τ) arg11 fullShare (prods I ((i 1).val - 1)) ∗ any c arg12)) := by
  rw [k0_part11_eq_skeleton]
  unfold k0_part11_skel
  iintro H
  iapply (bind_any frame (wpE defs₀ Variants.none (c : Thread nD τ) none) Set.univ (loop1 c i harg2 harg3 harg4 harg5 harg6 harg7 harg8 harg9 harg10 harg11 harg12  I ((i 1).val - 1) (by omega) a1 v20 v31 v32) _ _)
  isplitl [H]; · iexact H
  iintro %_ H
  iapply (bind_any frame (wpE defs₀ Variants.none (c : Thread nD τ) none) Set.univ (loop2 c i _ _) _ _)
  isplitl [H]; · iexact H
  iintro %_ ⟨HI, HA, H11, H12⟩
  have h1 : ¬ k0_cond1 i = 1#1 := fun e => absurd ((cond1_iff i).mp e) (by omega)
  sl_exec
  sl_step
  isplitl [HI]; · iexact HI
  isplitl [HA]; · iexact HA
  isplitl [H11]; · iexact H11
  iexact H12

/-- One point of the grid. -/
theorem body (I : Inp F) :
    (iprop(inputs c arg2 arg3 arg4 arg5 I ∗ any c arg6 ∗ any c arg7 ∗ (any c arg8 ∗ any c arg9 ∗ any c arg10) ∗ any c arg11 ∗ any c arg12) : sProp 𝕄) ⊢
      wp frame (wpE defs₀ Variants.none (c : Thread nD τ) none) Set.univ (cc0_attn_fwd (F := F) i arg2 harg2 arg3 harg3 arg4 harg4 arg5 harg5 arg6 harg6 arg7 harg7 arg8 harg8 arg9 harg9 arg10 harg10 arg11 harg11 arg12 harg12)
        (fun _ => iprop(inputs c arg2 arg3 arg4 arg5 I ∗ owns (c : Thread nD τ) arg6 fullShare (oOut (final I (i 1).val))
          ∗ owns (c : Thread nD τ) arg7 fullShare (lseOut (final I (i 1).val)) ∗ (any c arg8 ∗ any c arg9 ∗ any c arg10) ∗ any c arg11 ∗ any c arg12)) := by
  rw [cc0_attn_fwd_eq_skeleton]
  unfold cc0_attn_fwd_skel
  iintro ⟨HI, H6, H7, HA, H11, H12⟩
  iapply (bind_any frame (wpE defs₀ Variants.none (c : Thread nD τ) none) Set.univ (part10 c i harg2 harg3 harg4 harg5 harg6 harg7 harg8 harg9 harg10 harg11 harg12  I) _ _)
  isplitl [HI HA H11]
  · isplitl [HI]; · iexact HI
    isplitl [HA]; · iexact HA
    iexact H11
  iintro %r ⟨HI, HA, H11⟩
  obtain ⟨a1, v20, v31, v32⟩ := r
  dsimp only
  rcases Nat.mod_two_eq_zero_or_one (i 1).val with h | h
  · iapply (bind_any frame (wpE defs₀ Variants.none (c : Thread nD τ) none) Set.univ (part11_even c i harg2 harg3 harg4 harg5 harg6 harg7 harg8 harg9 harg10 harg11 harg12  I h a1 v20 v31 v32) _ _)
    isplitl [HI HA H11 H12]
    · isplitl [HI]; · iexact HI
      isplitl [HA]; · iexact HA
      isplitl [H11]; · iexact H11
      iexact H12
    iintro %r ⟨HI, HA, H11, H12⟩
    have h2 : ¬ k0_cond2 i = 1#1 := fun e => absurd ((cond2_iff i).mp e) (by omega)
    icases H6 with ⟨%X6, H6⟩
    icases H7 with ⟨%X7, H7⟩
    icases HA with ⟨H8, H9, H10⟩
    icases (owns_read (c : Thread nD τ) arg6 _) $$ H6 with ⟨%f6, H6, %e6⟩
    icases (owns_read (c : Thread nD τ) arg7 _) $$ H7 with ⟨%f7, H7, %e7⟩
    icases (owns_read (c : Thread nD τ) arg8 _) $$ H8 with ⟨%f8, H8, %e8⟩
    icases (owns_read (c : Thread nD τ) arg9 _) $$ H9 with ⟨%f9, H9, %e9⟩
    icases (owns_read (c : Thread nD τ) arg10 _) $$ H10 with ⟨%f10, H10, %e10⟩
    sl_exec
    sl_step
    isplitl [HI]; · iexact HI
    isplitl [H6]
    · iapply (raw_owns (c : Thread nD τ) arg6 ?_)
      rotate_left
      · iexact H6
      refine (View.read_writes_full _ _ _ _ _).trans ?_
      sl_unfold_run_names
      dsimp only
      simp only [readAt_whole e8, readAt_whole e9, readAt_whole e10]
      repeat rw [readCov_whole]
      rfl
    isplitl [H7]
    · iapply (raw_owns (c : Thread nD τ) arg7 ?_)
      rotate_left
      · iexact H7
      refine (View.read_writes_full _ _ _ _ _).trans ?_
      sl_unfold_run_names
      dsimp only
      simp only [readAt_whole e8, readAt_whole e9, readAt_whole e10]
      repeat rw [readCov_whole]
      rfl
    isplitl [H8 H9 H10]
    · isplitl [H8]; · iexists _; iapply (raw_owns (c : Thread nD τ) arg8 rfl); iexact H8
      isplitl [H9]; · iexists _; iapply (raw_owns (c : Thread nD τ) arg9 rfl); iexact H9
      iexists _; iapply (raw_owns (c : Thread nD τ) arg10 rfl); iexact H10
    isplitl [H11]; · iexact H11
    iexact H12
  · iapply (bind_any frame (wpE defs₀ Variants.none (c : Thread nD τ) none) Set.univ (part11_odd c i harg2 harg3 harg4 harg5 harg6 harg7 harg8 harg9 harg10 harg11 harg12 I h a1 v20 v31 v32) _ _)
    isplitl [HI HA H11 H12]
    · isplitl [HI]; · iexact HI
      isplitl [HA]; · iexact HA
      isplitl [H11]; · iexact H11
      iexact H12
    iintro %r ⟨HI, HA, H11, H12⟩
    have h2 := (cond2_iff i).mpr h
    simp only [k0_part8_eq_skeleton, k0_part9_eq_skeleton]
    unfold k0_part8_skel k0_part9_skel
    icases HI with ⟨H2, H3, H4, H5⟩
    icases H12 with ⟨%X12, H12⟩
    icases H6 with ⟨%X6, H6⟩
    icases H7 with ⟨%X7, H7⟩
    icases HA with ⟨H8, H9, H10⟩
    icases (owns_read (c : Thread nD τ) arg2 _) $$ H2 with ⟨%f2, H2, %e2⟩
    icases (owns_read (c : Thread nD τ) arg3 _) $$ H3 with ⟨%f3, H3, %e3⟩
    icases (owns_read (c : Thread nD τ) arg4 _) $$ H4 with ⟨%f4, H4, %e4⟩
    icases (owns_read (c : Thread nD τ) arg5 _) $$ H5 with ⟨%f5, H5, %e5⟩
    icases (owns_read (c : Thread nD τ) arg6 _) $$ H6 with ⟨%f6, H6, %e6⟩
    icases (owns_read (c : Thread nD τ) arg7 _) $$ H7 with ⟨%f7, H7, %e7⟩
    icases (owns_read (c : Thread nD τ) arg8 _) $$ H8 with ⟨%f8, H8, %e8⟩
    icases (owns_read (c : Thread nD τ) arg9 _) $$ H9 with ⟨%f9, H9, %e9⟩
    icases (owns_read (c : Thread nD τ) arg10 _) $$ H10 with ⟨%f10, H10, %e10⟩
    icases (owns_read (c : Thread nD τ) arg11 _) $$ H11 with ⟨%f11, H11, %e11⟩
    icases (owns_read (c : Thread nD τ) arg12 _) $$ H12 with ⟨%f12, H12, %e12⟩
    sl_exec
    sl_step
    have r3 := fun inb => readAt_getAt (h := 512) (w := 128) (by decide) (by decide) e3 (off11_eq i) inb
    have r4 := fun {off} {a b} ho inb => readAt_getAt (h := 512) (w := 128) (off := off) (a := a) (b := b) (by decide) (by decide) e4 ho inb
    have r5 := fun {off} {n} ho inb => readAt_gates (off := off) (n := n) e5 ho inb
    have eF : final I (i 1).val = diag I (i 1).val (step I ((i 1).val - 1) (chain I ((i 1).val - 1))) := by
      obtain ⟨q, hq⟩ : ∃ q, (i 1).val = q + 1 := ⟨(i 1).val - 1, by omega⟩
      rw [hq]; rfl
    rw [eF]
    isplitl [H2 H3 H4 H5]
    · isplitl [H2]; · iapply (raw_owns (c : Thread nD τ) arg2 e2); iexact H2
      isplitl [H3]; · iapply (raw_owns (c : Thread nD τ) arg3 e3); iexact H3
      isplitl [H4]; · iapply (raw_owns (c : Thread nD τ) arg4 e4); iexact H4
      iapply (raw_owns (c : Thread nD τ) arg5 e5); iexact H5
    isplitl [H6]
    · iapply (raw_owns (c : Thread nD τ) arg6 ?_)
      rotate_left
      · iexact H6
      refine (View.read_writes_full _ _ _ _ _).trans ?_
      sl_unfold_run_names
      dsimp only
      simp only [readAt_whole e2, readAt_whole e8, readAt_whole e9, readAt_whole e10, readAt_whole e11, r3, r4 (off13_eq i h2), r4 (off11_eq i), r5 (off12_eq i h2), r5 (off14_eq i)]
      repeat rw [readCov_whole]
      rfl
    isplitl [H7]
    · iapply (raw_owns (c : Thread nD τ) arg7 ?_)
      rotate_left
      · iexact H7
      refine (View.read_writes_full _ _ _ _ _).trans ?_
      sl_unfold_run_names
      dsimp only
      simp only [readAt_whole e2, readAt_whole e8, readAt_whole e9, readAt_whole e10, readAt_whole e11, r3, r4 (off13_eq i h2), r4 (off11_eq i), r5 (off12_eq i h2), r5 (off14_eq i)]
      repeat rw [readCov_whole]
      rfl
    isplitl [H8 H9 H10]
    · isplitl [H8]; · iexists _; iapply (raw_owns (c : Thread nD τ) arg8 rfl); iexact H8
      isplitl [H9]; · iexists _; iapply (raw_owns (c : Thread nD τ) arg9 rfl); iexact H9
      iexists _; iapply (raw_owns (c : Thread nD τ) arg10 rfl); iexact H10
    isplitl [H11]; · iexists _; iapply (raw_owns (c : Thread nD τ) arg11 e11); iexact H11
    iexists _; iapply (raw_owns (c : Thread nD τ) arg12 rfl); iexact H12

end Cert.KernelFwdIdeal.Fwd

end
-- ==== Proof.Fwd.Run.lean ====
/-
  Every execution of the forward attention kernel ends with the counters at zero, the arguments as they were, and each point's block of the two
  output arrays as the point left it.
-/
module

public import proofs.«01_k».proof.Proof.Fwd.Body
public import Idealize.ShloMosaic.Lib.Claim
public import Idealize.ShloMosaic.Lib.Pipeline.Value

@[expose] public section

set_option maxRecDepth 16384

noncomputable section

namespace Cert.KernelFwdIdeal.Fwd

open Cert.KernelFwdIdeal Cert.KernelFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What point `t` reads. -/
def inp (c : Dev nD) (t : Fin cfg0.N) : Inp F := ⟨iblk m c 0 t, iblk m c 1 t, iblk m c 2 t, iblk m c 3 t⟩

/-- What point `t` keeps when it ends. -/
def last (c : Dev nD) (t : Fin cfg0.N) : St F := final (inp m c t) (grid0.coords t 1).val

/-- What the windows' buffers hold after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => oOut (last m c t)
    | ⟨5, _⟩ => lseOut (last m c t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = oOut (last m c t) := by dsimp only [dats]
theorem after0_5 (c : Dev nD) (t : Fin cfg0.N) : (dats m 0 c).after 5 t = lseOut (last m c t) := by dsimp only [dats]

/-- Each input's buffer holds its block at every point. -/
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d

/-- What the body is called with at a point, window by window, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl, show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩⟩
  iapply (wp_wand_r frame (wpE defs₀ Variants.none (c : Thread nD τ) none) Set.univ)
  isplitl [H0 H1 H2 H3 H4 H5 HS0 HS1 HS2 HS3 HS4]
  · iapply (body c (grid0.coords t) (hs0_0 t) (hs0_1 t) (hs0_2 t) (hs0_3 t) (hs0_4 t) (hs0_5 t) (Memref.isWhole_whole _) (Memref.isWhole_whole _) (Memref.isWhole_whole _)
      (Memref.isWhole_whole _) (Memref.isWhole_whole _) (inp m c t))
    isplitl [H0 H1 H2 H3]
    · isplitl [H0]; · iexact H0
      isplitl [H1]; · iexact H1
      isplitl [H2]; · iexact H2
      iexact H3
    isplitl [H4]; · iexists _; iexact H4
    isplitl [H5]; · iexists _; iexact H5
    isplitl [HS0 HS1 HS2]
    · isplitl [HS0]; · iexact HS0
      isplitl [HS1]; · iexact HS1
      iexact HS2
    isplitl [HS3]; · iexact HS3
    iexact HS4
  iintro %_ ⟨⟨H0, H1, H2, H3⟩, H4, H5, ⟨HS0, HS1, HS2⟩, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats m 0 c) defs₀ Variants.none () Set.univ := fun t => by
  rw [bigSep_W0, bigSep_W0, defs₀_row]
  exact triple_restated (sound_body m c t) rfl .rfl fun _ => .rfl

set_option backward.isDefEq.respectTransparency.types false in
/-- Every execution ends with the counters at zero and the windows' arrays holding what the points left. -/
theorem run : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- Every execution ends with the counters at zero and the arguments as they were. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run m ρ))) ((θ_run defs _ _).mono (fun _ h => h.2) (run m ρ))

end Cert.KernelFwdIdeal.Fwd

end
-- ==== Proof.Fwd.Online.lean ====
/-
  One key block of the forward attention kernel over the reals. The block's logits are real where the key is seen and −∞ elsewhere; a row's new
  largest logit is then a real number `M r`, the sums kept before are multiplied by 2^(old − M r) (by nought before the first block), and the
  block's weights 2^(logit − M r) are added.
-/
module

public import proofs.«01_k».proof.Proof.Attn.Soft
public import proofs.«01_k».proof.Proof.Attn.Cubes
public import proofs.«01_k».proof.Proof.Fwd.Model

@[expose] public section

set_option maxRecDepth 16384

noncomputable section

namespace Cert.KernelFwdIdeal.Fwd

open Cert.KernelFwdIdeal Cert.KernelFwdIdeal.Gen
open Idealize.ShloMosaic Idealize.ShloMosaic.Updates Idealize.ShloMosaic.LaneScatter Idealize.ShloMosaic.ValueIdx
open Cert.KernelIdeal.Attn (mat eq_mat mat_ix2 mat_congr mat_apply matmul_nt matmul_nn sc l2e word_zero word_bot row4 coe_sum fold_max_real sle_small
  spread_mat splat_mat mulf_mat subf_mat addf_mat div_real zero_apply)
open scoped BigOperators

theorem named_scale : Named.named (F := Ideal) Cert.KernelFwdIdeal.κ "scale_log2_e" (φ := .f32) 0x3E0293EE#32 = ((sc * l2e : ℝ) : EReal) :=
  IdealRules.named_const.ideal_named_scalar _ _ _ _ rfl
theorem named_l2e : Named.named (F := Ideal) Cert.KernelFwdIdeal.κ "log2_e" (φ := .f32) 0x3FB8AA3B#32 = ((l2e : ℝ) : EReal) :=
  IdealRules.named_const.ideal_named_scalar _ _ _ _ rfl

/-- A block of logits, −∞ where the key is not seen. -/
def vis (p : ℕ → ℕ → Prop) [∀ r j, Decidable (p r j)] (f : ℕ → ℕ → ℝ) : S512x512.Idx → EReal :=
  fun y => if p (y 0).val (y 1).val then ((f (y 0).val (y 1).val : ℝ) : EReal) else ⊥

/-- A column of numbers, one for each row, repeated along the lanes. -/
def lanes (x : S512.Idx → EReal) : S512x128.Idx → EReal :=
  broadcastTo S512x128 (shapeCast S512x1 x shapeCasts_S512_S512x1) broadcasts_S512x1_S512x128

theorem lanes_apply (x : S512.Idx → EReal) (y : S512x128.Idx) : lanes x y = x (ix1 (y 0)) := by
  have y0 : (y 0).val < 512 := (y 0).isLt
  refine (broadcastTo_apply _ _ y (ix2 (⟨(y 0).val, y0⟩ : Fin 512) (0 : Fin 1)) fun a => ?_).trans (shapeCast_apply _ _ _ (ix1 (⟨(y 0).val, y0⟩ : Fin 512)) ?_)
  · match a with
    | ⟨0, _⟩ => rfl
    | ⟨1, _⟩ => rfl
  · rw [Shape.rowMajor_val_one, Shape.rowMajor_val_two]
    show (y 0).val = (y 0).val * 1 + 0
    omega

/-- Four copies of a block side by side. -/
def tiled (x : S512x128.Idx → EReal) : S512x512.Idx → EReal :=
  concatenate S512x512 1 [⟨S512x128, x⟩, ⟨S512x128, x⟩, ⟨S512x128, x⟩, ⟨S512x128, x⟩] concatenates_S512x128_S512x128_S512x128_S512x128_S512x512_d1

theorem tiled_apply (x : S512x128.Idx → EReal) (y : S512x512.Idx) : tiled x y = x (ix2 (y 0) (⟨(y 1).val % 128, Nat.mod_lt _ (by decide)⟩ : Fin 128)) := by
  refine concatenate_replicate_apply (t := S512x512) (s₁ := S512x128) 1 4 x _ rfl y _ rfl ?_
  intro b hb
  match b with
  | ⟨0, _⟩ => rfl
  | ⟨1, _⟩ => exact absurd rfl hb

/-- The largest logit of each row so far. -/
def top (L : Vec Ideal S512x512 .f32) (m : Vec Ideal S512x128 .f32) : Vec Ideal S512x128 .f32 :=
  maximumf (F := Ideal) (φ := .f32) m (lanes (multiReduction (F := Ideal) (φ := .f32) .maximumf [1] S512 L 0xFF800000#32 reduces_S512x512_S512 (.inl rfl) rfl))
/-- What the sums kept are multiplied by. -/
def alpha (L : Vec Ideal S512x512 .f32) (m : Vec Ideal S512x128 .f32) : Vec Ideal S512x128 .f32 := exp2 (F := Ideal) (φ := .f32) (subf (F := Ideal) (φ := .f32) m (top L m))
/-- The block's weights. -/
def wts (L : Vec Ideal S512x512 .f32) (m : Vec Ideal S512x128 .f32) : Vec Ideal S512x512 .f32 := exp2 (F := Ideal) (φ := .f32) (subf (F := Ideal) (φ := .f32) L (tiled (top L m)))

/-- One key block, whatever its mask. -/
def upd (L : Vec Ideal S512x512 .f32) (v : Vec Ideal S512x128 .bf16) (s : St Ideal) : St Ideal where
  m := top L s.m
  l := addf (F := Ideal) (φ := .f32) (mulf (F := Ideal) (φ := .f32) (alpha L s.m) s.l)
    (lanes (multiReduction (F := Ideal) (φ := .f32) .add [1] S512 (wts L s.m) 0x00000000#32 reduces_S512x512_S512 (.inl rfl) rfl))
  a := addf (F := Ideal) (φ := .f32) (mulf (F := Ideal) (φ := .f32) (alpha L s.m) s.a)
    (FloatOps.matmul (F := Ideal) (φ₁ := .bf16) (φ₂ := .bf16) dot_S512x512_S512x128_S512x128_1_0_0_1_n_n none (truncf (F := Ideal) .bf16 (wts L s.m) bitsLt_bf16_f32) v
      (constant (F := Ideal) S512x128 .f32 0x00000000#32))

theorem step_upd (I : Inp Ideal) (n : ℕ) (s : St Ideal) : step I n s = upd (k0_pay10 (prods I n) (gates n I.C)) (rows n I.V) s := by
  unfold step k0_pay18 k0_pay16 k0_pay17
  dsimp only
  rw [shapeCast_self, shapeCast_self, shapeCast_self]
  rfl

theorem diag_upd (I : Inp Ideal) (n : ℕ) (s : St Ideal) : diag I n s = upd (k0_pay43 (prods I n) (gates n I.C)) (rows n I.V) s := by
  unfold diag k0_pay70 k0_pay47 k0_pay69
  dsimp only
  rw [shapeCast_self, shapeCast_self, shapeCast_self]
  rfl

section
variable {p : ℕ → ℕ → Prop} [∀ r j, Decidable (p r j)] (f : ℕ → ℕ → ℝ)

theorem lift_row (j : S512.Idx) (k : Fin 512) : reduces_S512x512_S512.lift j k = ix2 (j 0) k := by
  funext a; apply Fin.ext
  match a with
  | ⟨0, _⟩ => rfl
  | ⟨1, _⟩ => rfl

/-- A row in which some key is seen has a real largest logit. -/
theorem top_real (z : Prop) [Decidable z] (M : ℕ → ℝ) (hp : ∀ r < 512, ∃ j < 512, p r j) :
    ∃ M' : ℕ → ℝ, top (vis p f) (fun y => if z then ⊥ else ((M (y 0).val : ℝ) : EReal)) = mat fun r _ => M' r := by
  have key : ∀ r : Fin 512, ∃ x : ℝ, max (if z then ⊥ else ((M r.val : ℝ) : EReal))
      ((Finset.univ : Finset (Fin 512)).fold max ⊥ fun k => vis p f (ix2 r k)) = (x : EReal) := fun r => by
    obtain ⟨j, hj, h⟩ := hp r.val r.isLt
    obtain ⟨x, hx⟩ := fold_max_real (fun k => vis p f (ix2 r k)) ⟨j, hj⟩
      (by show (if p r.val j then _ else _ : EReal) ≠ ⊥; rw [if_pos h]; exact EReal.coe_ne_bot _)
      (fun k => by
        show (if p r.val k.val then _ else _ : EReal) ≠ ⊤
        split
        · exact EReal.coe_ne_top _
        · exact bot_ne_top)
    rw [hx]
    by_cases hz : z
    · exact ⟨x, by rw [if_pos hz]; exact max_eq_right bot_le⟩
    · exact ⟨max (M r.val) x, by rw [if_neg hz]; exact (EReal.coe_strictMono.monotone.map_max).symm⟩
  choose x hx using key
  refine ⟨fun r => if h : r < 512 then x ⟨r, h⟩ else 0, eq_mat fun r c => ?_⟩
  have e : (if h : r.val < 512 then x ⟨r.val, h⟩ else 0) = x r := dif_pos r.isLt
  refine Eq.trans ?_ ((hx r).trans (congrArg (fun x : ℝ => (x : EReal)) e.symm))
  show max _ (lanes _ (ix2 r c)) = _
  rw [lanes_apply]
  refine congrArg (max _) ((Ideal.multiReduction_maximumf_single _ _ reduces_S512x512_S512 (.inl rfl) rfl _).trans ?_)
  refine (congrArg (Finset.fold max · _ _) word_bot).trans ?_
  exact congrArg (Finset.fold max ⊥ · _) (funext fun k => congrArg (vis p f) (lift_row _ k))

/-- The weights of a block against the row numbers `M`. -/
def wt (p : ℕ → ℕ → Prop) [∀ r j, Decidable (p r j)] (f : ℕ → ℕ → ℝ) (M : ℕ → ℝ) (r j : ℕ) : ℝ := if p r j then Real.rpow 2 (f r j - M r) else 0
/-- The factor of what was kept before. -/
def back (z : Prop) [Decidable z] (M M' : ℕ → ℝ) (r : ℕ) : ℝ := if z then 0 else Real.rpow 2 (M r - M' r)

variable {f}

theorem wts_real {m : Vec Ideal S512x128 .f32} {M' : ℕ → ℝ} (h : top (vis p f) m = mat fun r _ => M' r) : wts (vis p f) m = mat (wt p f M') :=
  eq_mat fun r j => by
    show Ideal.exp2 (vis p f (ix2 r j) - tiled (top (vis p f) m) (ix2 r j)) = _
    rw [h, tiled_apply]
    show Ideal.exp2 ((if p r.val j.val then ((f r.val j.val : ℝ) : EReal) else ⊥) - ((M' r.val : ℝ) : EReal)) = ((wt p f M' r.val j.val : ℝ) : EReal)
    unfold wt
    by_cases hp : p r.val j.val
    · rw [if_pos hp, if_pos hp, ← EReal.coe_sub, Ideal.exp2_coe]
    · rw [if_neg hp, if_neg hp, EReal.bot_sub]
      exact Ideal.exp2_bot.trans EReal.coe_zero.symm

theorem alpha_real (z : Prop) [Decidable z] {M M' : ℕ → ℝ} (h : top (vis p f) (fun y => if z then ⊥ else ((M (y 0).val : ℝ) : EReal)) = mat fun r _ => M' r) :
    alpha (vis p f) (fun y => if z then ⊥ else ((M (y 0).val : ℝ) : EReal)) = mat fun r _ => back z M M' r :=
  eq_mat fun r j => by
    show Ideal.exp2 ((if z then ⊥ else ((M r.val : ℝ) : EReal)) - top (vis p f) _ (ix2 r j)) = _
    rw [h, mat_ix2]
    unfold back
    by_cases hz : z
    · rw [if_pos hz, if_pos hz, EReal.bot_sub]
      exact Ideal.exp2_bot.trans EReal.coe_zero.symm
    · rw [if_neg hz, if_neg hz, ← EReal.coe_sub, Ideal.exp2_coe]

theorem sums_real (w : ℕ → ℕ → ℝ) :
    lanes (multiReduction (F := Ideal) (φ := .f32) .add [1] S512 (mat w : S512x512.Idx → EReal) 0x00000000#32 reduces_S512x512_S512 (.inl rfl) rfl)
      = mat fun r _ => ∑ j ∈ Finset.range 512, w r j :=
  eq_mat fun r c => by
    rw [lanes_apply]
    refine (Ideal.multiReduction_add_single _ _ reduces_S512x512_S512 (.inl rfl) rfl _).trans ?_
    rw [coe_sum, Finset.sum_range (fun j => ((w r.val j : ℝ) : EReal))]
    exact Finset.sum_congr rfl fun k _ => congrArg (mat w : S512x512.Idx → EReal) (lift_row _ k)

/-- One key block over the reals. -/
theorem upd_real (z : Prop) [Decidable z] (M : ℕ → ℝ) (hp : ∀ r < 512, ∃ j < 512, p r j) (l a v : ℕ → ℕ → ℝ) :
    ∃ M' : ℕ → ℝ, upd (vis p f) (mat v) ⟨fun y => if z then ⊥ else ((M (y 0).val : ℝ) : EReal), mat l, mat a⟩
      = ⟨mat fun r _ => M' r, mat fun r c => back z M M' r * l r c + ∑ j ∈ Finset.range 512, wt p f M' r j,
          mat fun r c => back z M M' r * a r c + ∑ j ∈ Finset.range 512, wt p f M' r j * v j c⟩ := by
  obtain ⟨M', hM⟩ := top_real f z M hp
  refine ⟨M', ?_⟩
  unfold upd
  dsimp only
  rw [wts_real hM, alpha_real z hM, hM, sums_real, mulf_mat, mulf_mat, addf_mat]
  congr 1
  exact (congrArg _ (matmul_nn (M := 512) (K := 512) (N := 128) none _ v)).trans (addf_mat _ _)

end

/-- The block's logits, to the base two. -/
def lg2 (s : ℕ → ℕ → ℝ) (c : ℕ → ℝ) (r j : ℕ) : ℝ := s r j * (sc * l2e) - c j * l2e

theorem gate_row (f : ℕ → ℝ) : shapeCast S1x512 (row4 f) shapeCasts_S1x1x1x512_S1x512 = (mat fun _ c => f c) := eq_mat fun r c => by
  refine (shapeCast_apply (s := S1x1x1x512) (row4 f) _ (ix2 r c) (ix4 (0 : Fin 1) (0 : Fin 1) (0 : Fin 1) c) ?_).trans rfl
  rw [Shape.rowMajor_val_four, Shape.rowMajor_val_two]
  have := r.isLt
  show ((0 * 1 + 0) * 1 + 0) * 512 + c.val = r.val * 512 + c.val
  omega

theorem logits_mat (s : ℕ → ℕ → ℝ) (c : ℕ → ℝ) : k0_pay10 (F := Ideal) (mat s) (row4 c) = mat (lg2 s c) := by
  dsimp only [k0_pay10]
  rw [gate_row, splat_mat (R := 1) (C := 512) _ _ named_l2e, splat_mat (R := 512) (C := 512) _ _ named_scale, mulf_mat, mulf_mat, spread_mat, subf_mat]
  rfl

/-- Below the diagonal every key is seen. -/
theorem pay10_vis (s : ℕ → ℕ → ℝ) (c : ℕ → ℝ) : k0_pay10 (F := Ideal) (mat s) (row4 c) = vis (fun _ _ => True) (lg2 s c) :=
  (logits_mat s c).trans (funext fun _ => (if_pos trivial).symm)

/-- On the diagonal a key is seen by the queries from its own row on. -/
theorem pay43_vis (s : ℕ → ℕ → ℝ) (c : ℕ → ℝ) : k0_pay43 (F := Ideal) (mat s) (row4 c) = vis (fun r j => j ≤ r) (lg2 s c) := by
  have e : k0_pay43 (F := Ideal) (mat s) (row4 c)
      = select (cmpi .sle (iota .tc S512x512 32 [1] iota_S512x512_d1_w32) (iota .tc S512x512 32 [0] iota_S512x512_d0_w32))
          (k0_pay10 (F := Ideal) (mat s) (row4 c)) (broadcast S512x512 (Scalar.ofBits (F := Ideal) .f32 0xFF800000#32)) := rfl
  rw [e, logits_mat]
  funext y
  have hm : cmpi .sle (iota .tc S512x512 32 [1] iota_S512x512_d1_w32) (iota .tc S512x512 32 [0] iota_S512x512_d0_w32) y
      = if (y 1).val ≤ (y 0).val then 1#1 else 0#1 := by
    show Scalar.cmpi .sle (iota .tc S512x512 32 [1] _ y) (iota .tc S512x512 32 [0] _ y) = _
    rw [iota_single_apply, iota_single_apply]
    show BitVec.ofBool ((BitVec.ofNat 32 (y 1).val).sle (BitVec.ofNat 32 (y 0).val)) = _
    rw [sle_small _ _ (y 1).isLt (y 0).isLt]
    by_cases h : (y 1).val ≤ (y 0).val <;> simp [h]
  rw [select_apply, hm]
  unfold vis
  by_cases h : (y 1).val ≤ (y 0).val
  · rw [if_pos h, if_pos h, select_one]; rfl
  · rw [if_neg h, if_neg h, select_zero]
    exact word_bot

end Cert.KernelFwdIdeal.Fwd

end
-- ==== Proof.Fwd.Head.lean ====
/-
  All key blocks of one query block over the reals. After the first `n` key blocks a row keeps, against a real number `M r`, the sum over the keys so
  far of 2^(−M r) times the exponential of the masked logit, and that sum weighted by the values; so the quotient stored is the causal softmax's
  product with the values, and the logarithm stored is that of the row's total, to the base two.
-/
module

public import proofs.«01_k».proof.Proof.Fwd.Online

@[expose] public section

set_option maxRecDepth 16384

noncomputable section

namespace Cert.KernelFwdIdeal.Fwd

open Cert.KernelFwdIdeal Cert.KernelFwdIdeal.Gen
open Idealize.ShloMosaic Idealize.ShloMosaic.Updates Idealize.ShloMosaic.LaneScatter Idealize.ShloMosaic.ValueIdx
open Cert.KernelIdeal.Attn (mat eq_mat mat_ix2 mat_congr mat_apply matmul_nt sc l2e word_zero word_bot row4 getAt_mat sum_next0 Head ce tot soft tot_pos
  ce_nonneg splat_mat mulf_mat addf_mat div_real)
open scoped BigOperators

/-- What the point at query block `q` of a head reads. -/
def headInp (H : Head) (q : ℕ) : Inp Ideal where
  Q := mat fun r d => H.q (512 * q + r) d
  K := mat H.k
  V := mat H.v
  C := fun y => ((H.cum (512 * (y 1).val + (y 3).val) : ℝ) : EReal)

variable (H : Head) (q : ℕ)

theorem rows_real {n : ℕ} (hn : n < 8) (f : ℕ → ℕ → ℝ) : rows (F := Ideal) (e := .bf16) n (mat f) = mat fun r c => f (512 * n + r) c := by
  refine (getAt_mat (by decide) (by decide) (by omega) (by omega) f).trans ?_
  simp only [Nat.zero_add]

theorem prods_real {n : ℕ} (hn : n < 8) : prods (headInp H q) n = mat fun r j => H.s (512 * q + r) (512 * n + j) := by
  unfold prods headInp
  dsimp only [k0_pay9]
  rw [rows_real hn, shapeCast_self]
  exact matmul_nt (M := 512) (K := 128) (N := 512) none _ _

theorem gates_real {n : ℕ} (hn : n < 8) : gates n (headInp H q).C = row4 fun j => H.cum (512 * n + j) := by
  funext y
  show ((H.cum (512 * (n % 8) + (y 3).val) : ℝ) : EReal) = _
  rw [Nat.mod_eq_of_lt hn]
  rfl

/-- The block's logits, and the weights of the whole row. -/
def blockLg (n : ℕ) : ℕ → ℕ → ℝ := lg2 (fun r j => H.s (512 * q + r) (512 * n + j)) fun j => H.cum (512 * n + j)

theorem rpow_logit (i j : ℕ) (M : ℝ) : Real.rpow 2 (H.s i j * (sc * l2e) - H.cum j * l2e - M) = Real.rpow 2 (-M) * Real.exp (H.lg i j) := by
  have h2 : (0 : ℝ) < Real.log 2 := Real.log_pos (by norm_num)
  have e : (2 : ℝ) ^ (H.s i j * (sc * l2e) - H.cum j * l2e) = Real.exp (H.lg i j) := by
    rw [Real.rpow_def_of_pos (by norm_num)]
    congr 1
    unfold l2e Head.lg
    field_simp
  simp only [Real.rpow_eq_pow]
  rw [← e, ← Real.rpow_add (by norm_num)]
  congr 1
  ring

variable {H q}

section
variable {n : ℕ} {p : ℕ → ℕ → Prop} [∀ r j, Decidable (p r j)] (hp : ∀ r < 512, ∀ j < 512, p r j ↔ 512 * n + j ≤ 512 * q + r)
include hp

theorem wt_real (M : ℕ → ℝ) {r j : ℕ} (hr : r < 512) (hj : j < 512) :
    wt p (blockLg H q n) M r j = Real.rpow 2 (-M r) * ce H.lg (512 * q + r) (512 * n + j) := by
  unfold wt ce
  by_cases h : 512 * n + j ≤ 512 * q + r
  · rw [if_pos h, if_pos ((hp r hr j hj).mpr h)]
    exact rpow_logit H _ _ _
  · rw [if_neg h, if_neg fun h' => h ((hp r hr j hj).mp h'), mul_zero]

/-- What is kept after `n` key blocks. -/
theorem sum_wt (M M' : ℕ → ℝ) (g : ℕ → ℝ) {r : ℕ} (hr : r < 512) :
    back (n = 0) M M' r * (Real.rpow 2 (-M r) * ∑ j ∈ Finset.range (512 * n), ce H.lg (512 * q + r) j * g j)
        + ∑ j ∈ Finset.range 512, wt p (blockLg H q n) M' r j * g (512 * n + j)
      = Real.rpow 2 (-M' r) * ∑ j ∈ Finset.range (512 * (n + 1)), ce H.lg (512 * q + r) j * g j := by
  have e1 : back (n = 0) M M' r * (Real.rpow 2 (-M r) * ∑ j ∈ Finset.range (512 * n), ce H.lg (512 * q + r) j * g j)
      = Real.rpow 2 (-M' r) * ∑ j ∈ Finset.range (512 * n), ce H.lg (512 * q + r) j * g j := by
    unfold back
    by_cases hn : n = 0
    · rw [if_pos hn, hn, Nat.mul_zero, Finset.sum_range_zero, mul_zero, mul_zero, mul_zero]
    · rw [if_neg hn, ← mul_assoc]
      congr 1
      simp only [Real.rpow_eq_pow]
      rw [← Real.rpow_add (by norm_num)]
      congr 1
      ring
  have e2 : ∑ j ∈ Finset.range 512, wt p (blockLg H q n) M' r j * g (512 * n + j)
      = Real.rpow 2 (-M' r) * ∑ j ∈ Finset.range 512, ce H.lg (512 * q + r) (512 * n + j) * g (512 * n + j) := by
    rw [Finset.mul_sum]
    refine Finset.sum_congr rfl fun j hj => ?_
    rw [wt_real hp M' hr (Finset.mem_range.mp hj), mul_assoc]
  rw [e1, e2, ← mul_add, sum_next0 (fun j => ce H.lg (512 * q + r) j * g j) n]

end

/-- What is kept after the first `n` key blocks of query block `q`. -/
def Rep (H : Head) (q n : ℕ) (s : St Ideal) : Prop := ∃ M : ℕ → ℝ, s = ⟨fun y => if n = 0 then ⊥ else ((M (y 0).val : ℝ) : EReal),
  mat fun r _ => Real.rpow 2 (-M r) * ∑ j ∈ Finset.range (512 * n), ce H.lg (512 * q + r) j * 1,
  mat fun r c => Real.rpow 2 (-M r) * ∑ j ∈ Finset.range (512 * n), ce H.lg (512 * q + r) j * H.v j c⟩

theorem upd_rep {n : ℕ} {s : St Ideal} (h : Rep H q n s) (p : ℕ → ℕ → Prop) [∀ r j, Decidable (p r j)]
    (hp : ∀ r < 512, ∀ j < 512, p r j ↔ 512 * n + j ≤ 512 * q + r) (hn : n ≤ q) :
    Rep H q (n + 1) (upd (vis p (blockLg H q n)) (mat fun j c => H.v (512 * n + j) c) s) := by
  obtain ⟨M, rfl⟩ := h
  obtain ⟨M', h⟩ := upd_real (p := p) (f := blockLg H q n) (n = 0) M (fun r hr => ⟨0, by decide, (hp r hr 0 (by decide)).mpr (by omega)⟩)
    (fun r _ => Real.rpow 2 (-M r) * ∑ j ∈ Finset.range (512 * n), ce H.lg (512 * q + r) j * 1)
    (fun r c => Real.rpow 2 (-M r) * ∑ j ∈ Finset.range (512 * n), ce H.lg (512 * q + r) j * H.v j c) (fun j c => H.v (512 * n + j) c)
  refine ⟨M', h.trans ?_⟩
  have e1 : (mat fun r c => back (n = 0) M M' r * (Real.rpow 2 (-M r) * ∑ j ∈ Finset.range (512 * n), ce H.lg (512 * q + r) j * 1)
      + ∑ j ∈ Finset.range 512, wt p (blockLg H q n) M' r j : S512x128.Idx → EReal)
      = mat fun r _ => Real.rpow 2 (-M' r) * ∑ j ∈ Finset.range (512 * (n + 1)), ce H.lg (512 * q + r) j * 1 :=
    mat_congr fun r hr c _ => by
      rw [← sum_wt hp M M' (fun _ => 1) hr]
      simp only [mul_one]
  have e2 : (mat fun r c => back (n = 0) M M' r * (Real.rpow 2 (-M r) * ∑ j ∈ Finset.range (512 * n), ce H.lg (512 * q + r) j * H.v j c)
      + ∑ j ∈ Finset.range 512, wt p (blockLg H q n) M' r j * H.v (512 * n + j) c : S512x128.Idx → EReal)
      = mat fun r c => Real.rpow 2 (-M' r) * ∑ j ∈ Finset.range (512 * (n + 1)), ce H.lg (512 * q + r) j * H.v j c :=
    mat_congr fun r hr c _ => sum_wt hp M M' (fun j => H.v j c) hr
  rw [e1, e2]
  congr 1

theorem start_rep : Rep H q 0 (start (F := Ideal)) := by
  refine ⟨fun _ => 0, ?_⟩
  unfold start k0_pay61 k0_pay62 k0_pay63
  dsimp only
  rw [shapeCast_self, shapeCast_self]
  have e : (broadcast S512x128 (FloatOps.ofBits (F := Ideal) .f32 0xFF800000#32) : S512x128.Idx → EReal) = fun _ => ⊥ := funext fun _ => word_bot
  rw [e]
  congr 1
  · refine (splat_mat (R := 512) (C := 128) _ _ word_zero).trans (mat_congr fun r _ c _ => ?_)
    simp
  · refine (splat_mat (R := 512) (C := 128) _ _ word_zero).trans (mat_congr fun r _ c _ => ?_)
    simp

theorem chain_rep (hq : q < 8) : ∀ n ≤ q, Rep H q n (chain (headInp H q) n)
  | 0, _ => start_rep
  | n + 1, h => by
    show Rep H q (n + 1) (step (headInp H q) n (chain (headInp H q) n))
    rw [step_upd, prods_real H q (by omega), gates_real H q (by omega), pay10_vis]
    have e : rows n (headInp H q).V = mat fun j c => H.v (512 * n + j) c := rows_real (by omega) H.v
    rw [e]
    exact upd_rep (chain_rep hq n (by omega)) (fun _ _ => True) (fun r hr j hj => ⟨fun _ => by omega, fun _ => trivial⟩) (by omega)

theorem final_rep (hq : q < 8) : Rep H q (q + 1) (final (headInp H q) q) := by
  unfold final
  rw [diag_upd, prods_real H q hq, gates_real H q hq, pay43_vis]
  have e : rows q (headInp H q).V = mat fun j c => H.v (512 * q + j) c := rows_real hq H.v
  rw [e]
  exact upd_rep (chain_rep hq q le_rfl) (fun r j => j ≤ r) (fun r hr j hj => by omega) le_rfl

/-- Beyond the query block no key is seen. -/
theorem sum_seen (g : ℕ → ℝ) {i n : ℕ} (h : i < n) (hn : n ≤ 4096) :
    ∑ j ∈ Finset.range n, ce H.lg i j * g j = ∑ j ∈ Finset.range 4096, ce H.lg i j * g j :=
  Finset.sum_subset (Finset.range_mono hn) fun j _ hj => by
    have : n ≤ j := Nat.le_of_not_lt fun h' => hj (Finset.mem_range.mpr h')
    unfold ce
    rw [if_neg (by omega), zero_mul]

theorem final_real (hq : q < 8) : ∃ M : ℕ → ℝ, final (headInp H q) q = ⟨mat fun r _ => M r, mat fun r _ => Real.rpow 2 (-M r) * tot H.lg (512 * q + r),
    mat fun r c => Real.rpow 2 (-M r) * ∑ j ∈ Finset.range 4096, ce H.lg (512 * q + r) j * H.v j c⟩ := by
  obtain ⟨M, h⟩ := final_rep (H := H) hq
  refine ⟨M, h.trans ?_⟩
  congr 1
  · refine mat_congr fun r hr c _ => ?_
    rw [sum_seen (fun _ => 1) (by omega) (by omega)]
    simp only [mul_one]
    rfl
  · refine mat_congr fun r hr c _ => ?_
    rw [sum_seen (fun j => H.v j c) (by omega) (by omega)]

/-- The two blocks stored. -/
theorem oOut_real (hq : q < 8) : oOut (final (headInp H q) q) = mat fun r c => ∑ j ∈ Finset.range 4096, soft H.lg (512 * q + r) j * H.v j c := by
  obtain ⟨M, h⟩ := final_real (H := H) hq
  rw [h]
  refine eq_mat fun r c => ?_
  have hr := r.isLt
  have hM : Real.rpow 2 (-M r.val) ≠ 0 := (Real.rpow_pos_of_pos (by norm_num) _).ne'
  have ht : tot H.lg (512 * q + r.val) ≠ 0 := (tot_pos H.lg (by omega)).ne'
  refine (div_real _ (mul_ne_zero hM ht)).trans ?_
  rw [mul_div_mul_left _ _ hM, Finset.sum_div]
  refine congrArg (fun x : ℝ => (x : EReal)) (Finset.sum_congr rfl fun j _ => ?_)
  unfold soft
  ring

theorem lseOut_real (hq : q < 8) : lseOut (final (headInp H q) q) = mat fun r _ => Real.log (tot H.lg (512 * q + r)) / Real.log 2 := by
  obtain ⟨M, h⟩ := final_real (H := H) hq
  rw [h]
  refine eq_mat fun r c => ?_
  have hr := r.isLt
  have h2 : Real.log 2 ≠ 0 := (Real.log_pos (by norm_num)).ne'
  have hM : 0 < Real.rpow 2 (-M r.val) := Real.rpow_pos_of_pos (by norm_num) _
  have ht : 0 < tot H.lg (512 * q + r.val) := tot_pos H.lg (by omega)
  show ((M r.val : ℝ) : EReal) + Ideal.log ((Real.rpow 2 (-M r.val) * tot H.lg (512 * q + r.val) : ℝ) : EReal)
    * Named.named (F := Ideal) Cert.KernelFwdIdeal.κ "log2_e" (φ := .f32) 0x3FB8AA3B#32 = _
  rw [named_l2e, Ideal.log_coe, if_neg (not_le.mpr (mul_pos hM ht)), ← EReal.coe_mul, ← EReal.coe_add]
  refine congrArg (fun x : ℝ => (x : EReal)) ?_
  have e : Real.log (Real.rpow 2 (-M r.val)) = -M r.val * Real.log 2 := Real.log_rpow (by norm_num) _
  rw [Real.log_mul hM.ne' ht.ne', e]
  unfold l2e
  field_simp
  ring

end Cert.KernelFwdIdeal.Fwd

end
-- ==== Proof.Fwd.Places.lean ====
/-
  What the points of the forward attention kernel read, and what its two output arrays hold at the end, over the reals: the point at head `h` and
  query block `q` reads that block of the head's queries and all of its keys, values and gates, and writes that block of the two results.
-/
module

public import proofs.«01_k».proof.Proof.Attn.Prepared
public import proofs.«01_k».proof.Proof.Fwd.Head
public import proofs.«01_k».proof.Proof.Fwd.Run

@[expose] public section

set_option maxRecDepth 16384

noncomputable section

namespace Cert.KernelFwdIdeal.Fwd

open Cert.KernelFwdIdeal Cert.KernelFwdIdeal.Gen
open Idealize.ShloMosaic Idealize.ShloMosaic.TcCoe Idealize.ShloMosaic.Updates Idealize.ShloMosaic.LaneScatter Idealize.ShloMosaic.ValueIdx Idealize.ShloMosaic.StableHlo
open Idealize.SL.Sem
open Cert.KernelIdeal.Attn (mat mat_congr mat_apply Head read_mat cums cum_real bare tot soft)
open scoped BigOperators

theorem idx_0 : ∀ t : Fin grid0.N, win0_0.index t 0 = t.val % 8 ∧ win0_0.index t 1 = t.val / 8 := by decide +kernel
theorem idx_1 : ∀ t : Fin grid0.N, win0_1.index t 0 = 0 ∧ win0_1.index t 1 = 8 + t.val / 8 := by decide +kernel
theorem idx_2 : ∀ t : Fin grid0.N, win0_2.index t 0 = 0 ∧ win0_2.index t 1 = 16 + t.val / 8 := by decide +kernel
theorem idx_3 : ∀ t : Fin grid0.N, win0_3.index t 0 = t.val / 8 ∧ win0_3.index t 1 = 0 ∧ win0_3.index t 2 = 0 ∧ win0_3.index t 3 = 0 := by decide +kernel
theorem idx_4 : ∀ t : Fin grid0.N, win0_4.index t 0 = t.val % 8 ∧ win0_4.index t 1 = t.val / 8 := by decide +kernel
theorem idx_5 : ∀ t : Fin grid0.N, win0_5.index t 0 = t.val % 8 ∧ win0_5.index t 1 = t.val / 8 := by decide +kernel
theorem ext_4 : ∀ t : Fin grid0.N, win0_4.xsize (grid0.coords t) 0 = 512 ∧ win0_4.xsize (grid0.coords t) 1 = 128 := by decide +kernel
theorem ext_5 : ∀ t : Fin grid0.N, win0_5.xsize (grid0.coords t) 0 = 512 ∧ win0_5.xsize (grid0.coords t) 1 = 128 := by decide +kernel

variable (m : (ℓ : Loc nD τ sig) → Buf (Elt Ideal) ℓ) (c : Dev nD)

theorem V_gates : V m c main_v0 = shapeCast S8x8x1x512 (m ((c : Thread nD τ).loc main_arg1)) shapeCasts_S8x4096_S8x8x1x512 := by
  simp only [V, hostOps0, List.flatten_cons, List.flatten_nil, List.append_nil, List.cons_append, List.nil_append,
    TRef.nullary, TRef.ternary, TRef.unary, TRef.toBuf, TRef.ofBuf, cast_eq]
  after_results_simp <;> rfl

/-- The head's arrays. -/
def headOf (x cum : ℕ → ℕ → ℝ) (h : ℕ) : Head := (bare x (fun _ _ => 0) cum).head h

variable {m c} {x cum : ℕ → ℕ → ℝ} (h0 : m ((c : Thread nD τ).loc main_arg0) = (mat x : S4096x7168.Idx → EReal))
  (h1 : m ((c : Thread nD τ).loc main_arg1) = (mat cum : S8x4096.Idx → EReal))

include h0 in
theorem iblk_0 (t : Fin cfg0.N) : iblk m c 0 t = mat fun r j => x (512 * (t.val % 8) + r) (t.val / 8 * 128 + j) := by
  have e : iblk m c 0 t = fun y => V m c main_arg0 ((win0_0.rect t).emb y) := rfl
  rw [e, (V_main_arg0 m c).trans h0]
  refine (read_mat x _ (t.val % 8) (t.val / 8) (fun y => ?_) (fun y => ?_)).trans (by simp only [Nat.mul_comm 512])
  · exact (Pipeline.Window.rect_emb_val win0_0 t y 0 rfl).trans (by rw [(idx_0 t).1]; rfl)
  · exact (Pipeline.Window.rect_emb_val win0_0 t y 1 rfl).trans (by rw [(idx_0 t).2]; rfl)

include h0 in
theorem iblk_1 (t : Fin cfg0.N) : iblk m c 1 t = mat fun r j => x r ((8 + t.val / 8) * 128 + j) := by
  have e : iblk m c 1 t = fun y => V m c main_arg0 ((win0_1.rect t).emb y) := rfl
  rw [e, (V_main_arg0 m c).trans h0]
  refine (read_mat x _ 0 (8 + t.val / 8) (fun y => ?_) (fun y => ?_)).trans (by simp only [Nat.zero_mul, Nat.zero_add])
  · exact (Pipeline.Window.rect_emb_val win0_1 t y 0 rfl).trans (by rw [(idx_1 t).1]; rfl)
  · exact (Pipeline.Window.rect_emb_val win0_1 t y 1 rfl).trans (by rw [(idx_1 t).2]; rfl)

include h0 in
theorem iblk_2 (t : Fin cfg0.N) : iblk m c 2 t = mat fun r j => x r ((16 + t.val / 8) * 128 + j) := by
  have e : iblk m c 2 t = fun y => V m c main_arg0 ((win0_2.rect t).emb y) := rfl
  rw [e, (V_main_arg0 m c).trans h0]
  refine (read_mat x _ 0 (16 + t.val / 8) (fun y => ?_) (fun y => ?_)).trans (by simp only [Nat.zero_mul, Nat.zero_add])
  · exact (Pipeline.Window.rect_emb_val win0_2 t y 0 rfl).trans (by rw [(idx_2 t).1]; rfl)
  · exact (Pipeline.Window.rect_emb_val win0_2 t y 1 rfl).trans (by rw [(idx_2 t).2]; rfl)

include h1 in
theorem iblk_3 (t : Fin cfg0.N) : iblk m c 3 t = fun y : S1x8x1x512.Idx => ((cum (t.val / 8) (512 * (y 1).val + (y 3).val) : ℝ) : EReal) := by
  have e : iblk m c 3 t = fun y => V m c main_v0 ((win0_3.rect t).emb y) := rfl
  rw [e, V_gates, h1]
  refine funext fun y => (congrFun (cum_real cum) _).trans ?_
  have e0 : ((win0_3.rect t).emb y 0).val = t.val / 8 := by
    refine (Pipeline.Window.rect_emb_val win0_3 t y 0 rfl).trans ?_
    rw [(idx_3 t).1]
    have : (y 0).val < 1 := (y 0).isLt
    show t.val / 8 * 1 + (y 0).val = _
    omega
  have e1 : ((win0_3.rect t).emb y 1).val = (y 1).val := by
    refine (Pipeline.Window.rect_emb_val win0_3 t y 1 rfl).trans ?_
    rw [(idx_3 t).2.1, Nat.zero_mul, Nat.zero_add]
  have e3 : ((win0_3.rect t).emb y 3).val = (y 3).val := by
    refine (Pipeline.Window.rect_emb_val win0_3 t y 3 rfl).trans ?_
    rw [(idx_3 t).2.2.2, Nat.zero_mul, Nat.zero_add]
  show ((cum ((win0_3.rect t).emb y 0).val (512 * ((win0_3.rect t).emb y 1).val + ((win0_3.rect t).emb y 3).val) : ℝ) : EReal) = _
  rw [e0, e1, e3]

include h0 h1 in
theorem inp_real (t : Fin cfg0.N) : inp m c t = headInp (headOf x cum (t.val / 8)) (t.val % 8) := by
  unfold inp
  rw [iblk_0 h0, iblk_1 h0, iblk_2 h0, iblk_3 h1]
  rfl

include h0 h1 in
theorem last_real (t : Fin cfg0.N) : last m c t = final (headInp (headOf x cum (t.val / 8)) (t.val % 8)) (t.val % 8) := by
  unfold last
  rw [inp_real h0 h1, coord_block]

/-- The two results. -/
def outs (x cum : ℕ → ℕ → ℝ) : ℕ → ℕ → ℝ := fun i C =>
  ∑ j ∈ Finset.range 4096, soft (headOf x cum (C / 128)).lg i j * (headOf x cum (C / 128)).v j (C % 128)
def lses (x cum : ℕ → ℕ → ℝ) : ℕ → ℕ → ℝ := fun i C => Real.log (tot (headOf x cum (C / 128)).lg i) / Real.log 2

include h0 h1 in
theorem block_4 (t : Fin cfg0.N) : oOut (last m c t) = ((cfg0.win 4).blk t).view.read (Elt Ideal) (mat (R := 4096) (C := 1024) (outs x cum) : S4096x1024.Idx → EReal) := by
  refine ((congrArg oOut (last_real h0 h1 t)).trans (oOut_real (Nat.mod_lt _ (by decide)))).trans ?_
  refine Eq.trans ?_ (read_mat (R := 4096) (C := 1024) (outs x cum) (win0_4.rect t).emb (t.val % 8) (t.val / 8)
    (fun y => by rw [Pipeline.Window.rect_emb_val win0_4 t y 0 rfl, (idx_4 t).1]; rfl)
    (fun y => by rw [Pipeline.Window.rect_emb_val win0_4 t y 1 rfl, (idx_4 t).2]; rfl)).symm
  refine mat_congr fun r hr j hj => ?_
  unfold outs
  rw [show (t.val / 8 * 128 + j) / 128 = t.val / 8 by omega, show (t.val / 8 * 128 + j) % 128 = j by omega, Nat.mul_comm (t.val % 8) 512]

include h0 h1 in
theorem block_5 (t : Fin cfg0.N) : lseOut (last m c t) = ((cfg0.win 5).blk t).view.read (Elt Ideal) (mat (R := 4096) (C := 1024) (lses x cum) : S4096x1024.Idx → EReal) := by
  refine ((congrArg lseOut (last_real h0 h1 t)).trans (lseOut_real (Nat.mod_lt _ (by decide)))).trans ?_
  refine Eq.trans ?_ (read_mat (R := 4096) (C := 1024) (lses x cum) (win0_5.rect t).emb (t.val % 8) (t.val / 8)
    (fun y => by rw [Pipeline.Window.rect_emb_val win0_5 t y 0 rfl, (idx_5 t).1]; rfl)
    (fun y => by rw [Pipeline.Window.rect_emb_val win0_5 t y 1 rfl, (idx_5 t).2]; rfl)).symm
  refine mat_congr fun r hr j hj => ?_
  unfold lses
  rw [show (t.val / 8 * 128 + j) / 128 = t.val / 8 by omega, Nat.mul_comm (t.val % 8) 512]

/-- Every place of a result is written. -/
theorem cover_4 (i : S4096x1024.Idx) : ∃ t : Fin cfg0.N, (cfg0.win 4).flush t = true ∧ i ∈ ((cfg0.win 4).blk t).view.set := by
  have i0 : (i 0 : Nat) < 4096 := (i 0).isLt
  have i1 : (i 1 : Nat) < 1024 := (i 1).isLt
  have hN : cfg0.N = 64 := rfl
  refine ⟨⟨8 * ((i 1 : Nat) / 128) + (i 0 : Nat) / 512, by omega⟩, flush0_4 _, ?_⟩
  generalize ht : (⟨8 * ((i 1 : Nat) / 128) + (i 0 : Nat) / 512, by omega⟩ : Fin cfg0.N) = t
  have hv : t.val = 8 * ((i 1 : Nat) / 128) + (i 0 : Nat) / 512 := by rw [← ht]
  show i ∈ ((View.whole main_v1_0).slice (win0_4.rect t)).set
  rw [View.set_slice_whole, Rect.mem_set_unit]
  intro a
  match a with
  | ⟨0, _⟩ => show win0_4.index t 0 * 512 ≤ (i 0 : Nat) ∧ (i 0 : Nat) < win0_4.index t 0 * 512 + win0_4.xsize (grid0.coords t) 0
              rw [(idx_4 t).1, (ext_4 t).1]; omega
  | ⟨1, _⟩ => show win0_4.index t 1 * 128 ≤ (i 1 : Nat) ∧ (i 1 : Nat) < win0_4.index t 1 * 128 + win0_4.xsize (grid0.coords t) 1
              rw [(idx_4 t).2, (ext_4 t).2]; omega

theorem cover_5 (i : S4096x1024.Idx) : ∃ t : Fin cfg0.N, (cfg0.win 5).flush t = true ∧ i ∈ ((cfg0.win 5).blk t).view.set := by
  have i0 : (i 0 : Nat) < 4096 := (i 0).isLt
  have i1 : (i 1 : Nat) < 1024 := (i 1).isLt
  have hN : cfg0.N = 64 := rfl
  refine ⟨⟨8 * ((i 1 : Nat) / 128) + (i 0 : Nat) / 512, by omega⟩, flush0_5 _, ?_⟩
  generalize ht : (⟨8 * ((i 1 : Nat) / 128) + (i 0 : Nat) / 512, by omega⟩ : Fin cfg0.N) = t
  have hv : t.val = 8 * ((i 1 : Nat) / 128) + (i 0 : Nat) / 512 := by rw [← ht]
  show i ∈ ((View.whole main_v1_1).slice (win0_5.rect t)).set
  rw [View.set_slice_whole, Rect.mem_set_unit]
  intro a
  match a with
  | ⟨0, _⟩ => show win0_5.index t 0 * 512 ≤ (i 0 : Nat) ∧ (i 0 : Nat) < win0_5.index t 0 * 512 + win0_5.xsize (grid0.coords t) 0
              rw [(idx_5 t).1, (ext_5 t).1]; omega
  | ⟨1, _⟩ => show win0_5.index t 1 * 128 ≤ (i 1 : Nat) ∧ (i 1 : Nat) < win0_5.index t 1 * 128 + win0_5.xsize (grid0.coords t) 1
              rw [(idx_5 t).2, (ext_5 t).2]; omega

include h0 h1 in
/-- What the launch leaves in its two results. -/
theorem ends {r : PUnit × MemSt nD τ sig (Elt Ideal)} (hr : Pipeline.FramePost cfgs (dats m) 0 (V m) r) :
    r.2.mem ((c.tc : Thread nD τ).loc main_v1_0) = (mat (outs x cum) : S4096x1024.Idx → EReal)
      ∧ r.2.mem ((c.tc : Thread nD τ).loc main_v1_1) = (mat (lses x cum) : S4096x1024.Idx → EReal) := by
  refine ⟨((hr c).1 4).trans ?_, ((hr c).1 5).trans ?_⟩
  · refine (dats m 0 c).arrAt_eq_of_cover 4 _ (fun t hf => ?_) cover_4
    show (cfg0.win 4).cut (grid0.coords t) ((dats m 0 c).after 4 t) = _
    rw [after0_4]
    exact block_4 h0 h1 t
  · refine (dats m 0 c).arrAt_eq_of_cover 5 _ (fun t hf => ?_) cover_5
    show (cfg0.win 5).cut (grid0.coords t) ((dats m 0 c).after 5 t) = _
    rw [after0_5]
    exact block_5 h0 h1 t

end Cert.KernelFwdIdeal.Fwd

end
-- ==== Proof.Fwd.Ref.lean ====
/-
  The forward reference when its arguments are real: the logarithm of each row's total, to the base two, and the causal softmax's product with the values.
-/
module

public import proofs.«01_k».proof.Proof.Ref.Ops
public import proofs.«01_k».proof.Proof.Fwd.Places
public import proofs.«01_k».proof.Proof.Gen.ReferenceFwdIdeal.Read

@[expose] public section

set_option maxRecDepth 16384

noncomputable section

namespace Cert.ReferenceFwdIdeal.Fwd

open Cert.ReferenceFwdIdeal Cert.ReferenceFwdIdeal.Gen Cert.ReferenceFwdIdeal.Read
open Cert.KernelIdeal.Attn (mat cube masked bare Given Head ce tot soft sc word_bot word_two word_scale select_masked max_masked exp_masked sum_last zero_apply
  thin_mat spread_cube keys_cube splat_cube mulf_cube addf_cube subf_cube divf_cube cube_congr mat_congr tot_pos soft_sub soft_add log_tot lift_rows flat_cube dot_cube
  hs_real hv_real hl_real eq_mat mat_ix2 div_real)
open Cert.KernelFwdIdeal.Fwd (headOf outs lses)
open Idealize.ShloMosaic Idealize.ShloMosaic.TcCoe Idealize.ShloMosaic.ValueIdx Idealize.ShloMosaic.LaneScatter
open scoped BigOperators

variable (x cum : ℕ → ℕ → ℝ)

/-- A head's logits, without and with the query's own cumulative sum. -/
def lk (h i j : ℕ) : ℝ := (headOf x cum h).lg i j
def lr (h i j : ℕ) : ℝ := lk x cum h i j + cum h i

theorem r16 : val_main_v16 (F := Ideal) (mat x) (mat cum) = cube (lk x cum) := hl_real x (fun _ _ => 0) cum

theorem r24 : val_main_v24 (F := Ideal) (mat x) (mat cum) = masked (lk x cum) := by
  have e := select_masked (lk x cum) (val_main_call0_v2 (F := Ideal)) (fun y => (broadcastInDim_apply _ _ _ y ix0 fun a => a.elim0).trans word_bot)
  rw [← r16 x cum] at e
  exact e

theorem r25 : ∃ M : ℕ → ℕ → ℝ, val_main_v25 (F := Ideal) (mat x) (mat cum) = mat M := by
  obtain ⟨M, hM⟩ := max_masked (lk x cum) (val_main_cst_1 (F := Ideal)) (fun _ => word_bot) reducesTo_S8x4096x4096_S8x4096_d2 (by decide) h_S_ (by decide) lift_rows
  rw [← r24 x cum] at hM
  exact ⟨M, hM⟩

/-- The exponentials of masked logits less their rows' numbers, and the rows' totals. -/
theorem exps (L : ℕ → ℕ → ℕ → ℝ) (M : ℕ → ℕ → ℝ) :
    Host.exp (F := Ideal) (φ := .f32) (subf (F := Ideal) (φ := .f32) (masked L : S8x4096x4096.Idx → EReal)
        (broadcastInDim S8x4096x4096 ![0, 1, 2] bcast_S8x4096x1_S8x4096x4096_0_1_2 (broadcastInDim S8x4096x1 ![0, 1] bcast_S8x4096_S8x4096x1_0_1 (mat M : S8x4096.Idx → EReal))))
      = cube fun h i j => ce (fun i j => L h i j - M h i) i j := by
  have e : broadcastInDim S8x4096x4096 ![0, 1, 2] bcast_S8x4096x1_S8x4096x4096_0_1_2 (broadcastInDim S8x4096x1 ![0, 1] bcast_S8x4096_S8x4096x1_0_1 (mat M : S8x4096.Idx → EReal))
      = cube fun h i _ => M h i := (congrArg (broadcastInDim S8x4096x4096 ![0, 1, 2] bcast_S8x4096x1_S8x4096x4096_0_1_2) (thin_mat M)).trans (spread_cube M)
  rw [e]
  exact exp_masked L M

theorem tots (L : ℕ → ℕ → ℕ → ℝ) (M : ℕ → ℕ → ℝ) (z : S_.Idx → EReal) (hz : ∀ i, z i = 0) :
    Host.reduceAdd (F := Ideal) (φ := .f32) (cube fun h i j => ce (fun i j => L h i j - M h i) i j : S8x4096x4096.Idx → EReal) z reducesTo_S8x4096x4096_S8x4096_d2 h_S_
      = mat fun h i => tot (fun i j => L h i j - M h i) i :=
  sum_last (φ := .f32) (fun h i j => ce (fun i j => L h i j - M h i) i j) z hz reducesTo_S8x4096x4096_S8x4096_d2 (by decide) h_S_ lift_rows

/-- The divisor: the logarithm of two. -/
theorem r34 (y : S8x4096.Idx) : val_main_v34 (F := Ideal) y = ((Real.log 2 : ℝ) : EReal) := by
  rw [val_main_v34_apply, val_main_v33_apply]
  show Ideal.log (Ideal.ofBits .f32 0x40000000#32) = _
  rw [word_two, Ideal.log_coe, if_neg (by norm_num)]

theorem r29 {M : ℕ → ℕ → ℝ} (hM : val_main_v25 (F := Ideal) (mat x) (mat cum) = mat M) :
    val_main_v29 (F := Ideal) (mat x) (mat cum) = cube fun h i j => ce (fun i j => lk x cum h i j - M h i) i j := by
  unfold val_main_v29 val_main_v28 val_main_v27 val_main_v26
  rw [r24, hM]
  exact exps _ M

theorem r30 {M : ℕ → ℕ → ℝ} (hM : val_main_v25 (F := Ideal) (mat x) (mat cum) = mat M) :
    val_main_v30 (F := Ideal) (mat x) (mat cum) = mat fun h i => tot (fun i j => lk x cum h i j - M h i) i := by
  unfold val_main_v30
  rw [r29 x cum hM]
  exact tots _ M _ fun i => zero_apply (s := S_) i

theorem log_ratio {m t l : ℝ} (ht : 0 < t) (hl : 0 < l) :
    FloatOps.hostDivf (F := Ideal) (φ := .f32) (FloatOps.addf (F := Ideal) (φ := .f32) (m : EReal) (FloatOps.hostUnary (F := Ideal) (φ := .f32) .log (t : EReal))) (l : EReal)
      = (((m + Real.log t) / l : ℝ) : EReal) := by
  show Ideal.div ((m : EReal) + Ideal.log (t : EReal)) (l : EReal) = _
  rw [Ideal.log_coe, if_neg (not_le.mpr ht), ← EReal.coe_add, div_real _ hl.ne']

theorem r35 : val_main_v35 (F := Ideal) (mat x) (mat cum) = mat fun h i => Real.log (tot (lk x cum h) i) / Real.log 2 := by
  obtain ⟨M, hM⟩ := r25 x cum
  refine eq_mat fun h i => ?_
  have ht := tot_pos (fun i j => lk x cum h.val i j - M h.val i) i.isLt
  rw [val_main_v35_apply, val_main_v32_apply, val_main_v31_apply, hM, r30 x cum hM, r34, mat_ix2, mat_ix2]
  refine (log_ratio ht (Real.log_pos (by norm_num))).trans ?_
  rw [log_tot _ _ i.isLt]

theorem r75 : val_main_v75 (F := Ideal) (mat x) (mat cum) = mat (lses x cum) := by
  have e : val_main_v38 (F := Ideal) (mat x) (mat cum) = cube fun i h _ => Real.log (tot (lk x cum h) i) / Real.log 2 := by
    unfold val_main_v38 val_main_v37 val_main_v36
    rw [r35]
    refine funext fun y => ?_
    refine (broadcastInDim_apply _ _ _ y (ix3 (⟨(y 0).val, (y 0).isLt⟩ : Fin 4096) (⟨(y 1).val, (y 1).isLt⟩ : Fin 8) (0 : Fin 1)) fun a => ?_).trans
      ((broadcastInDim_apply _ _ _ _ (ix2 (⟨(y 0).val, (y 0).isLt⟩ : Fin 4096) (⟨(y 1).val, (y 1).isLt⟩ : Fin 8)) fun a => ?_).trans
        ((transpose_apply _ _ _ _ (ix2 (⟨(y 1).val, (y 1).isLt⟩ : Fin 8) (⟨(y 0).val, (y 0).isLt⟩ : Fin 4096)) fun a => ?_).trans rfl))
    · match a with
      | ⟨0, _⟩ => rfl
      | ⟨1, _⟩ => rfl
      | ⟨2, _⟩ => rfl
    · match a with
      | ⟨0, _⟩ => rfl
      | ⟨1, _⟩ => rfl
    · match a with
      | ⟨0, _⟩ => rfl
      | ⟨1, _⟩ => rfl
  unfold val_main_v75
  rw [e]
  exact flat_cube _

theorem r49 : val_main_v49 (F := Ideal) (mat x) (mat cum) = cube (lr x cum) := by
  have e41 : val_main_v41 (F := Ideal) (mat x) = cube fun h i j => (headOf x cum h).s i j := hs_real x
  have e42 : val_main_v42 (F := Ideal) = cube fun _ _ _ => sc := splat_cube word_scale
  have e43 : val_main_v43 (F := Ideal) (mat x) = cube fun h i j => (headOf x cum h).s i j * sc := by
    unfold val_main_v43
    rw [e41, e42]
    exact mulf_cube _ _
  have e44 : val_main_v44 (F := Ideal) (mat cum) = cube fun h i _ => cum h i := thin_mat cum
  have e45 : val_main_v45 (F := Ideal) (mat cum) = cube fun h i _ => cum h i := by
    unfold val_main_v45
    rw [e44]
    exact spread_cube cum
  have e46 : val_main_v46 (F := Ideal) (mat x) (mat cum) = cube fun h i j => (headOf x cum h).s i j * sc + cum h i := by
    unfold val_main_v46
    rw [e43, e45]
    exact addf_cube _ _
  have e48 : val_main_v48 (F := Ideal) (mat cum) = cube fun h _ j => cum h j := keys_cube cum
  unfold val_main_v49
  rw [e46, e48]
  refine (subf_cube _ _).trans (cube_congr fun h _ i _ j _ => ?_)
  show _ = (headOf x cum h).s i j * sc - cum h j + cum h i
  ring

theorem r57 : val_main_v57 (F := Ideal) (mat x) (mat cum) = masked (lr x cum) := by
  have e := select_masked (lr x cum) (val_main_call1_v2 (F := Ideal)) (fun y => (broadcastInDim_apply _ _ _ y ix0 fun a => a.elim0).trans word_bot)
  rw [← r49 x cum] at e
  exact e

/-- The rows' maxima, at least minus infinity, are real. -/
theorem r60 : ∃ M : ℕ → ℕ → ℝ, val_main_v60 (F := Ideal) (mat x) (mat cum) = mat M := by
  obtain ⟨M, hM⟩ := max_masked (lr x cum) (val_main_cst_6 (F := Ideal)) (fun _ => word_bot) reducesTo_S8x4096x4096_S8x4096_d2 (by decide) h_S_ (by decide) lift_rows
  rw [← r57 x cum] at hM
  have e58 : val_main_v58 (F := Ideal) (mat x) (mat cum) = mat M := hM
  refine ⟨M, ?_⟩
  unfold val_main_v60
  rw [e58]
  funext y
  have eb : val_main_v59 (F := Ideal) y = ⊥ := (broadcastInDim_apply _ _ _ y ix0 fun a => a.elim0).trans word_bot
  show max (val_main_v59 (F := Ideal) y) (mat M y) = mat M y
  rw [eb, max_eq_right bot_le]

/-- The causal softmax: it sees neither the query's own cumulative sum nor the maximum. -/
theorem r68 : val_main_v68 (F := Ideal) (mat x) (mat cum) = cube fun h i j => soft (lk x cum h) i j := by
  obtain ⟨M, hM⟩ := r60 x cum
  have e64 : val_main_v64 (F := Ideal) (mat x) (mat cum) = cube fun h i j => ce (fun i j => lr x cum h i j - M h i) i j := by
    unfold val_main_v64 val_main_v63 val_main_v62 val_main_v61
    rw [r57, hM]
    exact exps _ M
  have e65 : val_main_v65 (F := Ideal) (mat x) (mat cum) = mat fun h i => tot (fun i j => lr x cum h i j - M h i) i := by
    unfold val_main_v65
    rw [e64]
    exact tots _ M _ fun i => zero_apply (s := S_) i
  have e67 : val_main_v67 (F := Ideal) (mat x) (mat cum) = cube fun h i _ => tot (fun i j => lr x cum h i j - M h i) i := by
    unfold val_main_v67 val_main_v66
    rw [e65]
    exact (congrArg (broadcastInDim S8x4096x4096 ![0, 1, 2] bcast_S8x4096x1_S8x4096x4096_0_1_2) (thin_mat _)).trans (spread_cube _)
  unfold val_main_v68
  rw [e64, e67]
  refine (divf_cube _ _ fun h _ i hi _ _ => (tot_pos _ hi).ne').trans (cube_congr fun h _ i _ j _ => ?_)
  exact (soft_sub _ (M h) i j).trans (soft_add (lk x cum h) (fun i => cum h i) i j)

theorem r74 : val_main_v74 (F := Ideal) (mat x) (mat cum) = mat (outs x cum) := by
  have e8 : val_main_v8 (F := Ideal) (mat x) = cube fun i h d => x i ((16 + h) * 128 + d) := hv_real x
  have e70 : val_main_v70 (F := Ideal) (mat x) (mat cum) = cube fun h i j => soft (lk x cum h) i j := r68 x cum
  have e71 : val_main_v71 (F := Ideal) (mat x) (mat cum) = cube fun h d i => ∑ j ∈ Finset.range 4096, x j ((16 + h) * 128 + d) * soft (lk x cum h) i j := by
    unfold val_main_v71
    rw [e8, e70]
    have hk := contrEquiv1_symm_val dot_S4096x8x128_S8x4096x4096_S8x128x4096_0_2_2_1_1_0 4096 rfl rfl
    refine dot_cube dot_S4096x8x128_S8x4096x4096_S8x128x4096_0_2_2_1_1_0 none (contrEquiv1 dot_S4096x8x128_S8x4096x4096_S8x128x4096_0_2_2_1_1_0 4096 rfl rfl) _ _
      (fun h d i j => x j ((16 + h) * 128 + d)) (fun h d i j => soft (lk x cum h) i j) (fun y k => ?_) fun y k => ?_
    · rw [← hk k]; rfl
    · rw [← hk k]; rfl
  have e73 : val_main_v73 (F := Ideal) (mat x) (mat cum) = cube fun i h d => ∑ j ∈ Finset.range 4096, x j ((16 + h) * 128 + d) * soft (lk x cum h) i j := by
    have e72 : val_main_v72 (F := Ideal) (mat x) (mat cum) = cube fun i h d => ∑ j ∈ Finset.range 4096, x j ((16 + h) * 128 + d) * soft (lk x cum h) i j := by
      unfold val_main_v72
      rw [e71]
      exact Cert.ReferenceIdeal.Attn.swap_last _
    exact e72
  unfold val_main_v74
  rw [e73]
  refine (flat_cube _).trans (mat_congr fun i _ C _ => ?_)
  refine Finset.sum_congr rfl fun j _ => ?_
  exact mul_comm _ _

end Cert.ReferenceFwdIdeal.Fwd

end
-- ==== Proof.Fwd.Claims.lean ====
/-
  The claims of the forward attention: the frames, what the precondition says of the arguments, and the equality of the results.
-/
module

public import proofs.«01_k».proof.Defs
public import proofs.«01_k».proof.Proof.Gen.KernelFwd
public import proofs.«01_k».proof.Proof.Gen.KernelFwdIdeal
public import proofs.«01_k».proof.Proof.Fwd.Run
public import proofs.«01_k».proof.Proof.Fwd.Places
public import proofs.«01_k».proof.Proof.Gen.ReferenceFwdIdeal
public import proofs.«01_k».proof.Proof.Gen.ReferenceFwdIdeal.Run
public import proofs.«01_k».proof.Proof.Gen.ReferenceFwdIdeal.Read
public import proofs.«01_k».proof.Proof.Fwd.Ref
public import proofs.«01_k».proof.Proof.Attn.Finite
public import proofs.«01_k».proof.Proof.Attn.Words
public import Idealize.ShloMosaic.Adequacy
public import Idealize.ShloMosaic.Init

@[expose] public section

noncomputable section

namespace Cert.Fwd

open Idealize.ShloMosaic Idealize.ShloMosaic.LaneScatter Idealize.ShloMosaic.ValueIdx Idealize.SL.Sem
open Cert.KernelIdeal.Attn (mat real_of_abs_lt mat_of_real)
open Cert.KernelFwdIdeal.Fwd (outs lses)
open Cert.Kernel.Attn (words)

/-- With the named constants read as their words the kernel and the idealized program have the same body. -/
theorem bodies [Cert.KernelFwd.Facts] [Cert.KernelFwdIdeal.Facts] :
    Cert.KernelFwd.defs₀ (F := Bits) = (letI := words; Cert.KernelFwdIdeal.defs₀ (F := Bits)) := by
  refine congrArg Defs.onTc (funext fun l => funext fun a => ?_)
  match l, a with
  | ⟨0, _⟩, (t, s) => rfl

theorem frame_fwd : Cert.quiescent_KernelFwd := fun m g _ => by
  letI := words
  have h := Cert.KernelFwdIdeal.Fwd.frame_run (F := Bits) m g
  have e : Cert.KernelFwd.defs (F := Bits) = Cert.KernelFwdIdeal.defs (F := Bits) := congrArg (Pipeline.defs Cert.KernelFwd.pcfgs) bodies
  rw [e]
  exact h

theorem frame_fwd_ideal : Cert.quiescent_KernelFwdIdeal := fun m g _ => Cert.KernelFwdIdeal.Fwd.frame_run (F := Ideal) m g

theorem frame_fwd_reference : Cert.quiescent_ReferenceFwdIdeal := fun m g _ =>
  (θ_run _ _ _).mono (fun r h => ⟨fun c => (h c).2.2, sem_eq_zero_of_no_sems (by decide) r.2⟩) (Cert.ReferenceFwdIdeal.Value.run (F := Ideal) m g)

/-- The two named constants are the numbers their bit patterns stand for. -/
theorem names_fwd : Cert.preserves_KernelFwd_KernelFwdIdeal :=
  ⟨IdealRules.named_const.statement Cert.KernelFwdIdeal.κ "scale_log2_e" .f32 0x3E0293EE#32 _ rfl,
    IdealRules.named_const.statement Cert.KernelFwdIdeal.κ "log2_e" .f32 0x3FB8AA3B#32 _ rfl⟩

theorem facts_finite_fwd : Cert.Pre_finite_fwd.Facts := ⟨by decide, by decide, by decide⟩

section
variable [Cert.Pre_finite_fwd.Facts]

theorem frame_fwd_ideal_finite : Cert.quiescent_KernelFwdIdeal_pre_finite_fwd := fun m g _ => frame_fwd_ideal m g trivial

theorem frame_fwd_reference_finite : Cert.quiescent_ReferenceFwdIdeal_pre_finite_fwd := fun m g _ => frame_fwd_reference m g trivial

/-- What the precondition says of the arguments. -/
theorem reals_fwd {m : (ℓ : Loc Cert.KernelFwdIdeal.nD Cert.KernelFwdIdeal.τ Cert.KernelFwdIdeal.sig) → Buf (Elt Ideal) ℓ}
    (hp : Cert.Pre_KernelFwdIdeal_finite_fwd m) (c : Dev Cert.KernelFwdIdeal.nD) :
    ∃ x cum : ℕ → ℕ → ℝ,
      m ((c.tc : Thread Cert.KernelFwdIdeal.nD Cert.KernelFwdIdeal.τ).loc Cert.KernelFwdIdeal.main_arg0) = (mat x : (Blk 4096 7168).Idx → EReal)
      ∧ m ((c.tc : Thread Cert.KernelFwdIdeal.nD Cert.KernelFwdIdeal.τ).loc Cert.KernelFwdIdeal.main_arg1) = (mat cum : (Blk 8 4096).Idx → EReal) := by
  obtain ⟨p0, p1⟩ := hp c
  obtain ⟨x, hx⟩ := mat_of_real (R := 4096) (C := 7168) (m ((c.tc : Thread Cert.KernelFwdIdeal.nD Cert.KernelFwdIdeal.τ).loc Cert.KernelFwdIdeal.main_arg0))
    fun y => real_of_abs_lt ((congrArg (Ideal.cmp .olt _) (broadcastInDim_apply _ _ _ y ix0 fun a => a.elim0).symm).trans (congrFun p0 y))
  obtain ⟨cum, hc⟩ := mat_of_real (R := 8) (C := 4096) (m ((c.tc : Thread Cert.KernelFwdIdeal.nD Cert.KernelFwdIdeal.τ).loc Cert.KernelFwdIdeal.main_arg1))
    fun y => real_of_abs_lt ((congrArg (Ideal.cmp .olt _) (broadcastInDim_apply _ _ _ y ix0 fun a => a.elim0).symm).trans (congrFun p1 y))
  exact ⟨x, cum, hx, hc⟩

/-- From real arguments both programs end with the same output and the same logarithms of the rows' totals. -/
theorem same_fwd : Cert.algebraic_KernelFwdIdeal_ReferenceFwdIdeal_pre_finite_fwd := fun m g m' g' hp hm => by
  choose x cum hr using fun c => reals_fwd hp c
  refine ⟨fun c => (mat (outs (x c) (cum c)) : Cert.KernelFwdIdeal.S4096x1024.Idx → EReal),
    fun c => (mat (lses (x c) (cum c)) : Cert.KernelFwdIdeal.S4096x1024.Idx → EReal), ?_, ?_⟩
  · refine (θ_run _ _ _).mono (fun r h c => ?_) (θ_run_and (Cert.KernelFwdIdeal.Fwd.run (F := Ideal) m g) (Cert.KernelFwdIdeal.Fwd.frame_run (F := Ideal) m g))
    obtain ⟨e0, e1⟩ := Cert.KernelFwdIdeal.Fwd.ends (hr c).1 (hr c).2 h.1.1
    exact ⟨e0, e1, h.2.1 c⟩
  · refine (θ_run _ _ _).mono (fun r h c => ?_) (Cert.ReferenceFwdIdeal.Value.run (F := Ideal) m' g')
    have a0 := (hm c).1.trans (hr c).1
    have a1 := (hm c).2.trans (hr c).2
    refine ⟨(h c).1.trans ?_, (h c).2.1.trans ?_, (h c).2.2⟩
    · rw [Cert.ReferenceFwdIdeal.Read.val_main_v74_eq, a0, a1]; exact Cert.ReferenceFwdIdeal.Fwd.r74 _ _
    · rw [Cert.ReferenceFwdIdeal.Read.val_main_v75_eq, a0, a1]; exact Cert.ReferenceFwdIdeal.Fwd.r75 _ _

end

end Cert.Fwd

end
-- ==== Proof.Adam.Out.lean ====
/-
  AdamW of the output weights: what the call leaves of the weights' change and of the two averages is at every entry what the reference computes.
-/
module

public import proofs.«01_k».proof.Defs
public import proofs.«01_k».proof.Proof.Gen.KernelAdamOut
public import proofs.«01_k».proof.Proof.Gen.KernelAdamOut.Frame
public import proofs.«01_k».proof.Proof.Gen.KernelAdamOutIdeal
public import proofs.«01_k».proof.Proof.Gen.KernelAdamOutIdeal.Frame
public import proofs.«01_k».proof.Proof.Gen.KernelAdamOutIdeal.Value
public import proofs.«01_k».proof.Proof.Gen.ReferenceAdamOutIdeal
public import proofs.«01_k».proof.Proof.Gen.ReferenceAdamOutIdeal.Run
public import proofs.«01_k».proof.Proof.Gen.ReferenceAdamOutIdeal.Read
public import Idealize.ShloMosaic.Adequacy
public import Idealize.ShloMosaic.Init

@[expose] public section

noncomputable section

namespace Cert.Adam

open Idealize.ShloMosaic Idealize.SL.Sem

theorem frame_adam_out : Cert.quiescent_KernelAdamOut := fun m g _ => Cert.KernelAdamOut.Gen.frame (F := Bits) m g

theorem frame_adam_out_ideal : Cert.quiescent_KernelAdamOutIdeal := fun m g _ => Cert.KernelAdamOutIdeal.Gen.frame (F := Ideal) m g

theorem frame_adam_out_reference : Cert.quiescent_ReferenceAdamOutIdeal := fun m g _ =>
  (θ_run _ _ _).mono (fun r h => ⟨fun c => (h c).2.2.2, sem_eq_zero_of_no_sems (by decide) r.2⟩) (Cert.ReferenceAdamOutIdeal.Value.run (F := Ideal) m g)

theorem same_adam_out : Cert.algebraic_KernelAdamOutIdeal_ReferenceAdamOutIdeal := fun m g m' g' _ hm =>
  ⟨_, _, _, Cert.KernelAdamOutIdeal.Value.run (F := Ideal) m g, (θ_run _ _ _).mono (fun r h c => by
    obtain ⟨a0, a1, a2, a3⟩ := hm c
    refine ⟨(h c).1.trans ?_, (h c).2.1.trans ?_, (h c).2.2.1.trans ?_, (h c).2.2.2⟩
    · rw [a0, a1, a2, a3]; exact funext fun _ => rfl
    · rw [a1, a2]; exact funext fun _ => rfl
    · rw [a1, a3]; exact funext fun _ => rfl) (Cert.ReferenceAdamOutIdeal.Value.run (F := Ideal) m' g')⟩

end Cert.Adam

end
-- ==== Proof.Adam.Entry.lean ====
/-
  One step of AdamW at one entry: the two averages of the gradient, and the change of the weight.
  The constants are the words both programs carry; the operations are those of the extended reals.
-/
module

public import proofs.«01_k».proof.Defs

@[expose] public section

noncomputable section

namespace Cert.Adam

open Idealize.ShloMosaic

/-- A constant of the step, given by its word. -/
abbrev const (w : BitVec 32) : Elt Ideal .f32 := Scalar.ofBits (F := Ideal) .f32 w

/-- The new average of the gradient: nine tenths of the old one and a tenth of the gradient. -/
def mean (g a : Elt Ideal .f32) : Elt Ideal .f32 :=
  FloatOps.addf (F := Ideal) (φ := .f32) (FloatOps.mulf (F := Ideal) (φ := .f32) (const 0x3F666666#32) a) (FloatOps.mulf (F := Ideal) (φ := .f32) (const 0x3DCCCCCD#32) g)

/-- The new average of the gradient's square. -/
def square (g b : Elt Ideal .f32) : Elt Ideal .f32 :=
  FloatOps.addf (F := Ideal) (φ := .f32) (FloatOps.mulf (F := Ideal) (φ := .f32) (const 0x3F7FBE77#32) b)
    (FloatOps.mulf (F := Ideal) (φ := .f32) (const 0x3A83126F#32) (FloatOps.mulf (F := Ideal) (φ := .f32) g g))

/-- The change of the weight: the two averages freed of their bias, the first over the root of the second, and the decay of the weight, times the rate. -/
def delta (w g a b : Elt Ideal .f32) : Elt Ideal .f32 :=
  FloatOps.mulf (F := Ideal) (φ := .f32) (const 0xBA83126F#32)
    (FloatOps.addf (F := Ideal) (φ := .f32)
      (FloatOps.divf (F := Ideal) (φ := .f32) (FloatOps.divf (F := Ideal) (φ := .f32) (mean g a) (const 0x3F26BD02#32))
        (FloatOps.addf (F := Ideal) (φ := .f32) (FloatOps.sqrt (F := Ideal) (φ := .f32) (FloatOps.divf (F := Ideal) (φ := .f32) (square g b) (const 0x3C231ACC#32))) (const 0x322BCC77#32)))
      (FloatOps.mulf (F := Ideal) (φ := .f32) (const 0x3C23D70A#32) w))

end Cert.Adam

end
-- ==== Proof.Adam.In.lean ====
/-
  AdamW of the input weights.
  The call works on the weights and the two averages turned so that the gradient's rows come first, and turns its results back: an entry of a result is the step of the same entry of the arguments.
-/
module

public import proofs.«01_k».proof.Defs
public import proofs.«01_k».proof.Proof.Gen.KernelAdamIn
public import proofs.«01_k».proof.Proof.Gen.KernelAdamIn.Frame
public import proofs.«01_k».proof.Proof.Gen.KernelAdamInIdeal
public import proofs.«01_k».proof.Proof.Gen.KernelAdamInIdeal.Frame
public import proofs.«01_k».proof.Proof.Gen.ReferenceAdamInIdeal
public import proofs.«01_k».proof.Proof.Gen.ReferenceAdamInIdeal.Run
public import proofs.«01_k».proof.Proof.Gen.ReferenceAdamInIdeal.Read
public import proofs.«01_k».proof.Proof.Adam.Entry
public import Idealize.ShloMosaic.Lib.Pipeline.Value
public import Idealize.ShloMosaic.Adequacy
public import Idealize.ShloMosaic.Init

@[expose] public section

noncomputable section

namespace Cert.KernelAdamInIdeal.Adam

open Cert.KernelAdamInIdeal Cert.KernelAdamInIdeal.Gen Idealize.ShloMosaic Idealize.ShloMosaic.TcCoe Idealize.SL.Sem
open Idealize.ShloMosaic.Pipeline (Dat)
open Cert.Adam (mean square delta)

/-! ## The blocks -/

theorem zero3 : (![0, 0, 0] : Fin 3 → Nat) = fun _ => 0 := funext fun a => by fin_cases a <;> rfl

theorem idx_4 : ∀ t : Fin grid0.N, win0_4.index t 0 = t.val ∧ win0_4.index t 1 = 0 ∧ win0_4.index t 2 = 0 := by decide +kernel

/-- Every row lies in the block of some step. -/
theorem place (i : S1794x4x2048.Idx) : ∃ t : Fin cfg0.N, ∀ a : Fin 3,
    win0_4.index t a * S46x4x2048.size a ≤ (i a).val ∧ (i a).val < win0_4.index t a * S46x4x2048.size a + S46x4x2048.size a := by
  have i0 : (i 0 : Nat) < 1794 := (i 0).isLt
  have i1 : (i 1 : Nat) < 4 := (i 1).isLt
  have i2 : (i 2 : Nat) < 2048 := (i 2).isLt
  have hN : cfg0.N = 39 := rfl
  refine ⟨⟨(i 0 : Nat) / 46, by omega⟩, fun a => ?_⟩
  generalize ht : (⟨(i 0 : Nat) / 46, by omega⟩ : Fin cfg0.N) = t
  have hv : t.val = (i 0 : Nat) / 46 := by rw [← ht]
  obtain ⟨e0, e1, e2⟩ := idx_4 t
  match a with
  | ⟨0, _⟩ => show win0_4.index t 0 * 46 ≤ (i 0 : Nat) ∧ (i 0 : Nat) < win0_4.index t 0 * 46 + 46; rw [e0]; omega
  | ⟨1, _⟩ => show win0_4.index t 1 * 4 ≤ (i 1 : Nat) ∧ (i 1 : Nat) < win0_4.index t 1 * 4 + 4; rw [e1]; omega
  | ⟨2, _⟩ => show win0_4.index t 2 * 2048 ≤ (i 2 : Nat) ∧ (i 2 : Nat) < win0_4.index t 2 * 2048 + 2048; rw [e2]; omega

theorem cover_4 (i : S1794x4x2048.Idx) : ∃ t : Fin cfg0.N, (cfg0.win 4).flush t = true ∧ i ∈ ((cfg0.win 4).blk t).view.set := by
  obtain ⟨t, h⟩ := place i
  refine ⟨t, flush0_4 t, ?_⟩
  show i ∈ ((View.whole main_v3_0).slice (win0_4.rect t)).set
  rw [View.set_slice_whole, Rect.mem_set_unit]
  exact h
theorem cover_5 (i : S1794x4x2048.Idx) : ∃ t : Fin cfg0.N, (cfg0.win 5).flush t = true ∧ i ∈ ((cfg0.win 5).blk t).view.set := by
  obtain ⟨t, h⟩ := place i
  refine ⟨t, flush0_5 t, ?_⟩
  show i ∈ ((View.whole main_v3_1).slice (win0_5.rect t)).set
  rw [View.set_slice_whole, Rect.mem_set_unit]
  exact h
theorem cover_6 (i : S1794x4x2048.Idx) : ∃ t : Fin cfg0.N, (cfg0.win 6).flush t = true ∧ i ∈ ((cfg0.win 6).blk t).view.set := by
  obtain ⟨t, h⟩ := place i
  refine ⟨t, flush0_6 t, ?_⟩
  show i ∈ ((View.whole main_v3_2).slice (win0_6.rect t)).set
  rw [View.set_slice_whole, Rect.mem_set_unit]
  exact h
theorem cover_7 (i : S1794x4x2048.Idx) : ∃ t : Fin cfg0.N, (cfg0.win 7).flush t = true ∧ i ∈ ((cfg0.win 7).blk t).view.set := by
  obtain ⟨t, h⟩ := place i
  refine ⟨t, flush0_7 t, ?_⟩
  show i ∈ ((View.whole main_v3_3).slice (win0_7.rect t)).set
  rw [View.set_slice_whole, Rect.mem_set_unit]
  exact h

/-! ## The body, entry by entry -/

theorem body_mean (g a : Vec Ideal S46x4x2048 .f32) : k0_pay1 g a = fun y => mean (g y) (a y) := by
  unfold k0_pay1
  rw [shapeCast_self]
  rfl
theorem body_square (g b : Vec Ideal S46x4x2048 .f32) : k0_pay2 g b = fun y => square (g y) (b y) := by
  unfold k0_pay2
  rw [shapeCast_self]
  rfl
theorem body_delta (w g a b : Vec Ideal S46x4x2048 .f32) : k0_pay3 g a b w = fun y => delta (w y) (g y) (a y) (b y) := by
  unfold k0_pay3
  rw [shapeCast_self, body_mean, body_square]
  rfl

variable (m : (ℓ : Loc nD τ sig) → Buf (Elt Ideal) ℓ) (c : Dev nD)

/-! ## The arrays after the call -/

theorem arr_4 : (dats m 0 c).arrAt 4 cfg0.N
    = (fun i => delta (V m c main_v0 i) (V m c main_arg1 i) (V m c main_v1 i) (V m c main_v2 i) : S1794x4x2048.Idx → Elt Ideal .f32) := by
  refine (dats m 0 c).arrAt_eq_of_cover 4 _ (fun t hf => ?_) cover_4
  show (cfg0.win 4).cut (grid0.coords t) ((dats m 0 c).after 4 t) = _
  rw [after0_4]
  unfold out0_4
  rw [View.canon_unit_zero zero3]
  simp only [View.ld_unit_zero (S := S46x4x2048) zero3]
  rw [body_delta]
  rfl
theorem arr_5 : (dats m 0 c).arrAt 5 cfg0.N
    = (fun i => mean (V m c main_arg1 i) (V m c main_v1 i) : S1794x4x2048.Idx → Elt Ideal .f32) := by
  refine (dats m 0 c).arrAt_eq_of_cover 5 _ (fun t hf => ?_) cover_5
  show (cfg0.win 5).cut (grid0.coords t) ((dats m 0 c).after 5 t) = _
  rw [after0_5]
  unfold out0_5
  rw [View.canon_unit_zero zero3]
  simp only [View.ld_unit_zero (S := S46x4x2048) zero3]
  rw [body_mean]
  rfl
theorem arr_6 : (dats m 0 c).arrAt 6 cfg0.N
    = (fun i => square (V m c main_arg1 i) (V m c main_v2 i) : S1794x4x2048.Idx → Elt Ideal .f32) := by
  refine (dats m 0 c).arrAt_eq_of_cover 6 _ (fun t hf => ?_) cover_6
  show (cfg0.win 6).cut (grid0.coords t) ((dats m 0 c).after 6 t) = _
  rw [after0_6]
  unfold out0_6
  rw [View.canon_unit_zero zero3]
  simp only [View.ld_unit_zero (S := S46x4x2048) zero3]
  rw [body_square]
  rfl
theorem arr_7 : (dats m 0 c).arrAt 7 cfg0.N = (V m c main_arg1 : S1794x4x2048.Idx → Elt Ideal .f32) := by
  refine (dats m 0 c).arrAt_eq_of_cover 7 _ (fun t hf => ?_) cover_7
  show (cfg0.win 7).cut (grid0.coords t) ((dats m 0 c).after 7 t) = _
  rw [after0_7]
  unfold out0_7
  rw [View.canon_unit_zero zero3]
  simp only [View.ld_unit_zero (S := S46x4x2048) zero3]
  rfl

/-! ## The turning before the call and after it -/

abbrev turned (x : S4x2048x1794.Idx → Elt Ideal .f32) : S1794x4x2048.Idx → Elt Ideal .f32 := transpose S1794x4x2048 [2, 0, 1] x transposes_S4x2048x1794_S1794x4x2048_2_0_1
abbrev back (x : S1794x4x2048.Idx → Elt Ideal .f32) : S4x2048x1794.Idx → Elt Ideal .f32 := transpose S4x2048x1794 [1, 2, 0] x transposes_S1794x4x2048_S4x2048x1794_1_2_0

/-- Turning back undoes the turning. -/
theorem turned_src (x : S4x2048x1794.Idx → Elt Ideal .f32) (j : S4x2048x1794.Idx) :
    turned x (transposes_S1794x4x2048_S4x2048x1794_1_2_0.src j) = x j := by
  refine congrArg x (funext fun a => Fin.ext ?_)
  match a with
  | ⟨0, _⟩ => rfl
  | ⟨1, _⟩ => rfl
  | ⟨2, _⟩ => rfl

theorem V_weight : V m c main_v0 = turned (m ((c : Thread nD τ).loc main_arg0)) := by
  simp only [V, V0, hostOps0, List.flatten_cons, List.flatten_nil, List.append_nil, List.cons_append, List.nil_append]
  after_results_simp
theorem V_mean : V m c main_v1 = turned (m ((c : Thread nD τ).loc main_arg2)) := by
  simp only [V, V0, hostOps0, List.flatten_cons, List.flatten_nil, List.append_nil, List.cons_append, List.nil_append]
  after_results_simp
theorem V_square : V m c main_v2 = turned (m ((c : Thread nD τ).loc main_arg3)) := by
  simp only [V, V0, hostOps0, List.flatten_cons, List.flatten_nil, List.append_nil, List.cons_append, List.nil_append]
  after_results_simp

/-- The call's arrays are distinct. -/
theorem arr_inj : Function.Injective (Pipeline.arrRef spec0) := by decide

theorem tail_4 : Pipeline.afterTail₀ cfgs (dats m) 0 (V0 m) [hostOps1] c main_v4 = back ((dats m 0 c).arrAt 4 cfg0.N) := by
  simp only [Pipeline.afterTail₀, hostOps1, List.flatten_cons, List.flatten_nil, List.append_nil, List.cons_append, List.nil_append]
  after_results_simp
  exact congrArg back (Pipeline.withArrays_arr spec0 arr_inj c (V0 m c) _ 4)
theorem tail_5 : Pipeline.afterTail₀ cfgs (dats m) 0 (V0 m) [hostOps1] c main_v5 = back ((dats m 0 c).arrAt 5 cfg0.N) := by
  simp only [Pipeline.afterTail₀, hostOps1, List.flatten_cons, List.flatten_nil, List.append_nil, List.cons_append, List.nil_append]
  after_results_simp
  exact congrArg back (Pipeline.withArrays_arr spec0 arr_inj c (V0 m c) _ 5)
theorem tail_6 : Pipeline.afterTail₀ cfgs (dats m) 0 (V0 m) [hostOps1] c main_v6 = back ((dats m 0 c).arrAt 6 cfg0.N) := by
  simp only [Pipeline.afterTail₀, hostOps1, List.flatten_cons, List.flatten_nil, List.append_nil, List.cons_append, List.nil_append]
  after_results_simp
  exact congrArg back (Pipeline.withArrays_arr spec0 arr_inj c (V0 m c) _ 6)
theorem tail_7 : Pipeline.afterTail₀ cfgs (dats m) 0 (V0 m) [hostOps1] c main_v7 = back ((dats m 0 c).arrAt 7 cfg0.N) := by
  simp only [Pipeline.afterTail₀, hostOps1, List.flatten_cons, List.flatten_nil, List.append_nil, List.cons_append, List.nil_append]
  after_results_simp
  exact congrArg back (Pipeline.withArrays_arr spec0 arr_inj c (V0 m c) _ 7)

/-! ## The results -/

/-- What the program leaves: the change, the two averages and the gradient, each turned back. -/
theorem ends {r : PUnit × MemSt nD τ sig (Elt Ideal)} (hr : Pipeline.FramePost cfgs (dats m) 0 (Pipeline.afterTail₀ cfgs (dats m) 0 (V0 m) [hostOps1]) r) :
    r.2.mem ((c.tc : Thread nD τ).loc main_v4)
        = (fun j => delta (m ((c : Thread nD τ).loc main_arg0) j) (back (m ((c : Thread nD τ).loc main_arg1)) j) (m ((c : Thread nD τ).loc main_arg2) j) (m ((c : Thread nD τ).loc main_arg3) j) : S4x2048x1794.Idx → Elt Ideal .f32)
      ∧ r.2.mem ((c.tc : Thread nD τ).loc main_v5)
        = (fun j => mean (back (m ((c : Thread nD τ).loc main_arg1)) j) (m ((c : Thread nD τ).loc main_arg2) j) : S4x2048x1794.Idx → Elt Ideal .f32)
      ∧ r.2.mem ((c.tc : Thread nD τ).loc main_v6)
        = (fun j => square (back (m ((c : Thread nD τ).loc main_arg1)) j) (m ((c : Thread nD τ).loc main_arg3) j) : S4x2048x1794.Idx → Elt Ideal .f32)
      ∧ r.2.mem ((c.tc : Thread nD τ).loc main_v7) = back (m ((c : Thread nD τ).loc main_arg1)) := by
  refine ⟨((hr c).2 main_v4 (Pipeline.mem_restRefs_of main_v4 (by decide) (by decide))).trans ((tail_4 m c).trans ?_),
    ((hr c).2 main_v5 (Pipeline.mem_restRefs_of main_v5 (by decide) (by decide))).trans ((tail_5 m c).trans ?_),
    ((hr c).2 main_v6 (Pipeline.mem_restRefs_of main_v6 (by decide) (by decide))).trans ((tail_6 m c).trans ?_),
    ((hr c).2 main_v7 (Pipeline.mem_restRefs_of main_v7 (by decide) (by decide))).trans ((tail_7 m c).trans ?_)⟩
  · rw [arr_4, V_weight, V_mean, V_square, V_main_arg1]
    exact funext fun j => congr (congr (congrFun (congrArg delta (turned_src _ j)) _) (turned_src _ j)) (turned_src _ j)
  · rw [arr_5, V_mean, V_main_arg1]
    exact funext fun j => congrArg (mean _) (turned_src _ j)
  · rw [arr_6, V_square, V_main_arg1]
    exact funext fun j => congrArg (square _) (turned_src _ j)
  · rw [arr_7, V_main_arg1]

end Cert.KernelAdamInIdeal.Adam

namespace Cert.Adam

open Idealize.ShloMosaic Idealize.ShloMosaic.TcCoe Idealize.SL.Sem
open Cert.KernelAdamInIdeal.Gen (unchanged run_main)

theorem frame_adam_in : Cert.quiescent_KernelAdamIn := fun m g _ => Cert.KernelAdamIn.Gen.frame (F := Bits) m g

theorem frame_adam_in_ideal : Cert.quiescent_KernelAdamInIdeal := fun m g _ => Cert.KernelAdamInIdeal.Gen.frame (F := Ideal) m g

theorem frame_adam_in_reference : Cert.quiescent_ReferenceAdamInIdeal := fun m g _ =>
  (θ_run _ _ _).mono (fun r h => ⟨fun c => (h c).2.2.2.2, sem_eq_zero_of_no_sems (by decide) r.2⟩) (Cert.ReferenceAdamInIdeal.Value.run (F := Ideal) m g)

theorem same_adam_in : Cert.algebraic_KernelAdamInIdeal_ReferenceAdamInIdeal := fun m g m' g' _ hm =>
  ⟨_, _, _, _, (θ_run _ _ _).mono (fun r h c =>
      have e := Cert.KernelAdamInIdeal.Adam.ends m c h.2
      ⟨e.1, e.2.1, e.2.2.1, e.2.2.2, h.1 c⟩) (θ_run_and (unchanged m g) (run_main (F := Ideal) m g)),
    (θ_run _ _ _).mono (fun r h c => by
      obtain ⟨a0, a1, a2, a3⟩ := hm c
      refine ⟨(h c).1.trans ?_, (h c).2.1.trans ?_, (h c).2.2.1.trans ?_, (h c).2.2.2.1.trans ?_, (h c).2.2.2.2⟩
      · rw [a0, a1, a2, a3]; exact funext fun _ => rfl
      · rw [a1, a2]; exact funext fun _ => rfl
      · rw [a1, a3]; exact funext fun _ => rfl
      · rw [a1]) (Cert.ReferenceAdamInIdeal.Value.run (F := Ideal) m' g')⟩

end Cert.Adam

end
-- ==== Proof.Adam.Rows.lean ====
/-
  Small arrays laid out as rows of 128, filled up with zeros, and read back.
  The entry with the number p in its array stands in row p / 128 at the place p % 128.
-/
module

public import Idealize.ShloMosaic.Lib.Pipeline.Value
public import Idealize.ShloMosaic.Lib.KernelVsHost
public import Idealize.ShloMosaic.Lib.Pointwise.Index

@[expose] public section

namespace Cert.Adam

open Idealize.ShloMosaic

variable {α : Type} {s : Shape}

/-- A list of `n` entries, and a table of `r` rows of 128. -/
abbrev line (n : ℕ) : Shape := ⟨1, ![n]⟩
abbrev table (r : ℕ) : Shape := ⟨2, ![r, 128]⟩
abbrev sheet (r : ℕ) : Shape := ⟨3, ![1, r, 128]⟩

/-- The number of an entry is less than the length of the line. -/
theorem number_lt {n : ℕ} (h : s.numel = (line n).numel) (k : s.Idx) : (s.rowMajor k).val < n := by
  have e : s.numel = n := by simpa [Shape.numel] using h
  exact lt_of_lt_of_eq (s.rowMajor k).isLt e

/-- The table that an array is laid out in holds its entry number p at row p / 128, place p % 128. -/
theorem laid_out {n N e r : ℕ} (x : s.Idx → α) {u : Shape} (z : u.Idx → α) (h1 : s.ShapeCasts (line n)) (h2 : (line n).Pads ![0] ![e] ![0] (line N)) (hu : 0 < u.numel)
    (h3 : (line N).ShapeCasts (table r)) (i : (table r).Idx) (k : s.Idx) (hk : (s.rowMajor k).val = (i 0).val * 128 + (i 1).val) :
    shapeCast (table r) (pad (line N) ![0] ![e] ![0] (shapeCast (line n) x h1) z h2 hu) h3 i = x k := by
  have hn : (s.rowMajor k).val < n := number_lt h1.symm k
  have hN : n ≤ N := by
    obtain ⟨_, hp⟩ := h2
    have := hp 0
    simp at this
    omega
  rw [shapeCast_apply _ h3 i (ix1 ⟨(s.rowMajor k).val, lt_of_lt_of_le hn hN⟩) (by rw [Shape.rowMajor_val_one, Shape.rowMajor_val_two]; exact hk),
    pad_apply_of_inside _ _ _ _ _ _ _ _ (ix1 ⟨(s.rowMajor k).val, hn⟩) (fun a => by match a with | ⟨0, _⟩ => simp [ix1]),
    shapeCast_apply _ h1 _ k (by rw [Shape.rowMajor_val_one]; rfl)]

/-- Entry number p of a table stands in row p / 128 at the place p % 128. -/
theorem strung {N r : ℕ} (Y : (table r).Idx → α) (h3 : (table r).ShapeCasts (line N)) (p : (line N).Idx) (i : (table r).Idx)
    (hr : (i 0).val = (p 0).val / 128) (hc : (i 1).val = (p 0).val % 128) : shapeCast (line N) Y h3 p = Y i :=
  shapeCast_apply _ h3 p i (by
    rw [Shape.rowMajor_val_two, Shape.rowMajor_val_one]
    show (i 0).val * 128 + (i 1).val = (p 0).val
    omega)

/-- Reading an array back from its table: the rows strung together and given the array's shape. -/
theorem read_back {n r : ℕ} (Y : (table r).Idx → α) (h3 : (table r).ShapeCasts (line n)) (h5 : (line n).ShapeCasts s) (k : s.Idx) (i : (table r).Idx)
    (hr : (i 0).val = (s.rowMajor k).val / 128) (hc : (i 1).val = (s.rowMajor k).val % 128) :
    shapeCast s (shapeCast (line n) Y h3) h5 k = Y i := by
  rw [shapeCast_apply _ h5 k (ix1 ⟨(s.rowMajor k).val, number_lt h5 k⟩) (by rw [Shape.rowMajor_val_one]; rfl)]
  exact strung Y h3 _ i hr hc

/-- The same where the zeros at the end are cut off first. -/
theorem read_back_cut {n N r : ℕ} (Y : (table r).Idx → α) (h3 : (table r).ShapeCasts (line N)) (h4 : (line N).Slices ![0] (line n)) (h5 : (line n).ShapeCasts s) (k : s.Idx)
    (i : (table r).Idx) (hr : (i 0).val = (s.rowMajor k).val / 128) (hc : (i 1).val = (s.rowMajor k).val % 128) :
    shapeCast s (extractStridedSlice (line n) ![0] (shapeCast (line N) Y h3) h4) h5 k = Y i := by
  rw [shapeCast_apply _ h5 k (ix1 ⟨(s.rowMajor k).val, number_lt h5 k⟩) (by rw [Shape.rowMajor_val_one]; rfl)]
  refine strung Y h3 _ i (hr.trans ?_) (hc.trans ?_)
  · show _ = (0 + (s.rowMajor k).val) / 128
    rw [Nat.zero_add]
  · show _ = (0 + (s.rowMajor k).val) % 128
    rw [Nat.zero_add]

/-- The rows from `off` on, of a table and of a table with an axis of length one before it. -/
theorem rows_from {r R off : ℕ} (X : (table R).Idx → α) (h1 : (table R).Slices ![off, 0] (table r)) (i : (table r).Idx) (q : (table R).Idx)
    (hr : (q 0).val = off + (i 0).val) (hc : (q 1).val = (i 1).val) : extractStridedSlice (table r) ![off, 0] X h1 i = X q := by
  unfold extractStridedSlice
  refine congrArg X (funext fun a => Fin.ext ?_)
  match a with
  | ⟨0, _⟩ => exact hr.symm
  | ⟨1, _⟩ => exact (Nat.zero_add _).trans hc.symm

theorem sheet_rows_from {r R off : ℕ} (X : (sheet R).Idx → α) (h1 : (sheet R).Slices ![0, off, 0] (sheet r)) (h2 : (sheet r).ShapeCasts (table r)) (i : (table r).Idx) (q : (sheet R).Idx)
    (hr : (q 1).val = off + (i 0).val) (hc : (q 2).val = (i 1).val) : shapeCast (table r) (extractStridedSlice (sheet r) ![0, off, 0] X h1) h2 i = X q := by
  rw [shapeCast_apply _ h2 _ (ix3 (0 : Fin 1) (i 0) (i 1)) (by
    rw [Shape.rowMajor_val_two, Shape.rowMajor_val_three]
    show (0 * r + (i 0).val) * 128 + (i 1).val = (i 0).val * 128 + (i 1).val
    rw [Nat.zero_mul, Nat.zero_add])]
  unfold extractStridedSlice
  refine congrArg X (funext fun a => Fin.ext ?_)
  match a with
  | ⟨0, _⟩ =>
    have h : (q 0 : ℕ) < 1 := (q 0).isLt
    show 0 + 0 = (q 0 : ℕ)
    omega
  | ⟨1, _⟩ => exact hr.symm
  | ⟨2, _⟩ => exact (Nat.zero_add _).trans hc.symm

/-- Tables one below the other: the table number `q`, with `off` rows above it, holds the rows from `off` on. -/
theorem band {r R off : ℕ} (xs : List ((t : Shape) × (t.Idx → α))) (h : Shape.Concatenates (xs.map (·.1)) (table R) 0) (hb : (table R).BroadcastsInDim (sheet R) ![1, 2]) (hR : R ≠ 1)
    (q : ℕ) (hq : q < xs.length) (y : (table r).Idx → α) (hx : xs[q] = ⟨table r, y⟩)
    (hpre : (((xs.take q).map (·.1)).map fun t => if h : t.rank = (table R).rank then t.size ((0 : Fin 2).cast h.symm) else 0).sum = off)
    (i : (sheet R).Idx) (j : (table r).Idx) (hr : off + (j 0).val = (i 1).val) (hc : (j 1).val = (i 2).val) :
    broadcastInDim (sheet R) ![1, 2] hb (concatenate (table R) 0 xs h) i = y j := by
  refine (broadcastInDim_apply (s := table R) (t := sheet R) _ hb _ i (ix2 (i 1) (i 2)) (fun a => by
    match a with
    | ⟨0, _⟩ => exact (if_neg hR).symm
    | ⟨1, _⟩ => exact (if_neg (by decide : ¬ (128 : ℕ) = 1)).symm)).trans ?_
  exact concatenate_apply_piece 0 xs h _ q hq (table r) y hx rfl off hpre j (fun b hb => by
    match b with
    | ⟨0, _⟩ => exact absurd rfl hb
    | ⟨1, _⟩ => exact hc) hr

/-! ## The same for eight arrays side by side -/

/-- Eight lines, and eight tables. -/
abbrev lines (n : ℕ) : Shape := ⟨2, ![8, n]⟩
abbrev tables (r : ℕ) : Shape := ⟨3, ![8, r, 128]⟩

/-- Table number d holds entry number p of array number d at row p / 128, place p % 128. -/
theorem each_laid_out {n N e r : ℕ} (x : s.Idx → α) {u : Shape} (z : u.Idx → α) (h1 : s.ShapeCasts (lines n)) (h2 : (lines n).Pads ![0, 0] ![0, e] ![0, 0] (lines N)) (hu : 0 < u.numel)
    (h3 : (lines N).ShapeCasts (tables r)) (i : (tables r).Idx) (k : s.Idx) (p : ℕ) (hp : p < n) (hi : (i 1).val * 128 + (i 2).val = p)
    (hk : (s.rowMajor k).val = (i 0).val * n + p) :
    shapeCast (tables r) (pad (lines N) ![0, 0] ![0, e] ![0, 0] (shapeCast (lines n) x h1) z h2 hu) h3 i = x k := by
  have hN : n ≤ N := by
    obtain ⟨_, hq⟩ := h2
    have := hq 1
    simp at this
    omega
  have hR : N = r * 128 := by
    have e1 : (lines N).numel = (tables r).numel := h3.symm
    have e2 : 8 * N = 8 * (r * 128) := by simpa [Shape.numel, Fin.prod_univ_succ] using e1
    omega
  refine (shapeCast_apply _ h3 i (ix2 (i 0 : Fin 8) (⟨p, lt_of_lt_of_le hp hN⟩ : Fin N)) (by
      rw [Shape.rowMajor_val_two, Shape.rowMajor_val_three]
      show (i 0).val * N + p = ((i 0).val * r + (i 1).val) * 128 + (i 2).val
      rw [hR, ← hi]
      ring)).trans ((pad_apply_of_inside (s := lines n) (t := lines N) _ _ _ _ z h2 hu _ (ix2 (i 0 : Fin 8) (⟨p, hp⟩ : Fin n)) (fun a => ?_)).trans
    (shapeCast_apply _ h1 _ k (by rw [Shape.rowMajor_val_two]; exact hk)))
  match a with
  | ⟨0, _⟩ => simp [ix2]
  | ⟨1, _⟩ => simp [ix2]

/-- Eight tables one below the other, each made of bands: row `d * R + off + q` is row q of the band `y` of table number d, where the bands above it have `off` rows. -/
theorem each_band {r R off T : ℕ} (xs : List ((t : Shape) × (t.Idx → α))) (h : Shape.Concatenates (xs.map (·.1)) (tables R) 1) (h8 : (tables R).ShapeCasts (table T))
    (q : ℕ) (hq : q < xs.length) (y : (tables r).Idx → α) (hx : xs[q] = ⟨tables r, y⟩)
    (hpre : (((xs.take q).map (·.1)).map fun t => if h : t.rank = (tables R).rank then t.size ((1 : Fin 3).cast h.symm) else 0).sum = off)
    (i : (table T).Idx) (d : Fin 8) (row : Fin R) (j : (tables r).Idx) (hj : (j 0).val = d.val) (hr : off + (j 1).val = row.val) (hc : (j 2).val = (i 1).val)
    (hi : (i 0).val = d.val * R + row.val) :
    shapeCast (table T) (concatenate (tables R) 1 xs h) h8 i = y j := by
  rw [shapeCast_apply _ h8 i (ix3 d row (i 1)) (by
    rw [Shape.rowMajor_val_two, Shape.rowMajor_val_three]
    show (d.val * R + row.val) * 128 + (i 1).val = (i 0).val * 128 + (i 1).val
    rw [hi])]
  exact concatenate_apply_piece 1 xs h _ q hq (tables r) y hx rfl off hpre j (fun b hb => by
    match b with
    | ⟨0, _⟩ => exact hj
    | ⟨1, _⟩ => exact absurd rfl hb
    | ⟨2, _⟩ => exact hc) hr

/-- Both together: the array `x` of eight parts of n entries is the band of R-row tables with `off` rows above it, and its part number d has entry number p in row `d * R + off + p / 128`, place p % 128. -/
theorem each_place {n N e r R off T : ℕ} (x : s.Idx → α) {u : Shape} (z : u.Idx → α) (h1 : s.ShapeCasts (lines n)) (h2 : (lines n).Pads ![0, 0] ![0, e] ![0, 0] (lines N)) (hu : 0 < u.numel)
    (h3 : (lines N).ShapeCasts (tables r)) (xs : List ((t : Shape) × (t.Idx → α))) (h : Shape.Concatenates (xs.map (·.1)) (tables R) 1) (h8 : (tables R).ShapeCasts (table T))
    (q : ℕ) (hq : q < xs.length) (hx : xs[q] = ⟨tables r, shapeCast (tables r) (pad (lines N) ![0, 0] ![0, e] ![0, 0] (shapeCast (lines n) x h1) z h2 hu) h3⟩)
    (hpre : (((xs.take q).map (·.1)).map fun t => if h : t.rank = (tables R).rank then t.size ((1 : Fin 3).cast h.symm) else 0).sum = off)
    (i : (table T).Idx) (d : Fin 8) (k : s.Idx) (p : ℕ) (hp : p < n) (hn : n ≤ r * 128) (hR : off + r ≤ R) (hr : (i 0).val = d.val * R + (off + p / 128)) (hc : (i 1).val = p % 128)
    (hk : (s.rowMajor k).val = d.val * n + p) :
    shapeCast (table T) (concatenate (tables R) 1 xs h) h8 i = x k := by
  have hq' : p / 128 < r := by omega
  exact (each_band xs h h8 q hq _ hx hpre i d ⟨off + p / 128, by omega⟩ (ix3 d (⟨p / 128, hq'⟩ : Fin r) (⟨p % 128, Nat.mod_lt _ (by decide)⟩ : Fin 128)) rfl rfl hc.symm hr).trans
    (each_laid_out x z h1 h2 hu h3 _ k p hp (Nat.div_add_mod' _ 128) hk)

end Cert.Adam
-- ==== Proof.Adam.Small.lean ====
/-
  AdamW of the six small weights.
  The call lays each of them out in rows of 128, one weight below the other, works on all rows at once, and reads each result back from its rows:
  an entry of a result is the step of the same entry of the arguments.
-/
module

public import proofs.«01_k».proof.Defs
public import proofs.«01_k».proof.Proof.Gen.KernelAdamSmall
public import proofs.«01_k».proof.Proof.Gen.KernelAdamSmall.Frame
public import proofs.«01_k».proof.Proof.Gen.KernelAdamSmallIdeal
public import proofs.«01_k».proof.Proof.Gen.KernelAdamSmallIdeal.Frame
public import proofs.«01_k».proof.Proof.Gen.ReferenceAdamSmallIdeal
public import proofs.«01_k».proof.Proof.Gen.ReferenceAdamSmallIdeal.Run
public import proofs.«01_k».proof.Proof.Gen.ReferenceAdamSmallIdeal.Read
public import proofs.«01_k».proof.Proof.Adam.Entry
public import proofs.«01_k».proof.Proof.Adam.Rows
public import Idealize.ShloMosaic.Lib.Pipeline.Value
public import Idealize.ShloMosaic.Adequacy
public import Idealize.ShloMosaic.Init

@[expose] public section

noncomputable section

namespace Cert.KernelAdamSmallIdeal.Adam

open Cert.KernelAdamSmallIdeal Cert.KernelAdamSmallIdeal.Gen Idealize.ShloMosaic Idealize.ShloMosaic.TcCoe Idealize.ShloMosaic.StableHlo Idealize.SL.Sem
open Cert.Adam (mean square delta number_lt laid_out read_back read_back_cut sheet_rows_from band)

/-- One entry of the small weights. -/
abbrev Val : Type := Elt Ideal .f32

/-! ## The rows -/

/-- What fills the rows up. -/
abbrev filler : S_.Idx → Val := sitofp (F := Ideal) .f32 (constantI S_ 32 0#32)

/-- The six arrays laid out in rows of 128, one below the other. -/
def packed (x0 : S4x8.Idx → Val) (x1 : S4x3x128.Idx → Val) (x2 : S4x4x128x128.Idx → Val) (x3 : S4x512.Idx → Val)
    (x4 x5 : S4x2048.Idx → Val) : S1x2216x128.Idx → Val :=
  broadcastInDim S1x2216x128 ![1, 2] bcast_S2216x128_S1x2216x128_1_2 (concatenate S2216x128 0
    [⟨S8x128, shapeCast S8x128 (pad S1024 ![0] ![992] ![0] (shapeCast S32 x0 shapeCasts_S4x8_S32) filler pads_S32_S1024_09920 h_S_) shapeCasts_S1024_S8x128⟩,
      ⟨S16x128, shapeCast S16x128 (pad S2048 ![0] ![512] ![0] (shapeCast S1536 x1 shapeCasts_S4x3x128_S1536) filler pads_S1536_S2048_05120 h_S_) shapeCasts_S2048_S16x128⟩,
      ⟨S2048x128, shapeCast S2048x128 (pad S262144 ![0] ![0] ![0] (shapeCast S262144 x2 shapeCasts_S4x4x128x128_S262144) filler pads_S262144_S262144_000 h_S_) shapeCasts_S262144_S2048x128⟩,
      ⟨S16x128, shapeCast S16x128 (pad S2048 ![0] ![0] ![0] (shapeCast S2048 x3 shapeCasts_S4x512_S2048) filler pads_S2048_S2048_000 h_S_) shapeCasts_S2048_S16x128⟩,
      ⟨S64x128, shapeCast S64x128 (pad S8192 ![0] ![0] ![0] (shapeCast S8192 x4 shapeCasts_S4x2048_S8192) filler pads_S8192_S8192_000 h_S_) shapeCasts_S8192_S64x128⟩,
      ⟨S64x128, shapeCast S64x128 (pad S8192 ![0] ![0] ![0] (shapeCast S8192 x5 shapeCasts_S4x2048_S8192) filler pads_S8192_S8192_000 h_S_) shapeCasts_S8192_S64x128⟩]
    concatenates_S8x128_S16x128_S2048x128_S16x128_S64x128_S64x128_S2216x128_d0)

/-! The six arrays read back from the rows. -/

def back_0 (X : S1x2216x128.Idx → Val) : S4x8.Idx → Val :=
  shapeCast S4x8 (extractStridedSlice S32 ![0] (shapeCast S1024 (shapeCast S8x128 (extractStridedSlice S1x8x128 ![0, 0, 0] X slices_S1x2216x128_S1x8x128_0_0_0) shapeCasts_S1x8x128_S8x128) shapeCasts_S8x128_S1024) slices_S1024_S32_0) shapeCasts_S32_S4x8
def back_1 (X : S1x2216x128.Idx → Val) : S4x3x128.Idx → Val :=
  shapeCast S4x3x128 (extractStridedSlice S1536 ![0] (shapeCast S2048 (shapeCast S16x128 (extractStridedSlice S1x16x128 ![0, 8, 0] X slices_S1x2216x128_S1x16x128_0_8_0) shapeCasts_S1x16x128_S16x128) shapeCasts_S16x128_S2048) slices_S2048_S1536_0) shapeCasts_S1536_S4x3x128
def back_2 (X : S1x2216x128.Idx → Val) : S4x4x128x128.Idx → Val :=
  shapeCast S4x4x128x128 (shapeCast S262144 (shapeCast S2048x128 (extractStridedSlice S1x2048x128 ![0, 24, 0] X slices_S1x2216x128_S1x2048x128_0_24_0) shapeCasts_S1x2048x128_S2048x128) shapeCasts_S2048x128_S262144) shapeCasts_S262144_S4x4x128x128
def back_3 (X : S1x2216x128.Idx → Val) : S4x512.Idx → Val :=
  shapeCast S4x512 (shapeCast S2048 (shapeCast S16x128 (extractStridedSlice S1x16x128 ![0, 2072, 0] X slices_S1x2216x128_S1x16x128_0_2072_0) shapeCasts_S1x16x128_S16x128) shapeCasts_S16x128_S2048) shapeCasts_S2048_S4x512
def back_4 (X : S1x2216x128.Idx → Val) : S4x2048.Idx → Val :=
  shapeCast S4x2048 (shapeCast S8192 (shapeCast S64x128 (extractStridedSlice S1x64x128 ![0, 2088, 0] X slices_S1x2216x128_S1x64x128_0_2088_0) shapeCasts_S1x64x128_S64x128) shapeCasts_S64x128_S8192) shapeCasts_S8192_S4x2048
def back_5 (X : S1x2216x128.Idx → Val) : S4x2048.Idx → Val :=
  shapeCast S4x2048 (shapeCast S8192 (shapeCast S64x128 (extractStridedSlice S1x64x128 ![0, 2152, 0] X slices_S1x2216x128_S1x64x128_0_2152_0) shapeCasts_S1x64x128_S64x128) shapeCasts_S64x128_S8192) shapeCasts_S8192_S4x2048

/-! An entry of each array has one place in the rows, at which it is laid out and from which it is read back. -/

theorem place_0 (j : S4x8.Idx) : ∃ i, (∀ X, back_0 X j = X i) ∧ ∀ x0 x1 x2 x3 x4 x5, packed x0 x1 x2 x3 x4 x5 i = x0 j := by
  have hn : (S4x8.rowMajor j).val < 32 := number_lt shapeCasts_S32_S4x8 j
  refine ⟨ix3 (0 : Fin 1) (⟨0 + (S4x8.rowMajor j).val / 128, by omega⟩ : Fin 2216) (⟨(S4x8.rowMajor j).val % 128, Nat.mod_lt _ (by decide)⟩ : Fin 128),
    fun X => (read_back_cut _ _ _ _ j (ix2 (⟨(S4x8.rowMajor j).val / 128, by omega⟩ : Fin 8) (⟨(S4x8.rowMajor j).val % 128, Nat.mod_lt _ (by decide)⟩ : Fin 128)) rfl rfl).trans (sheet_rows_from X _ _ _ _ rfl rfl), fun x0 x1 x2 x3 x4 x5 => ?_⟩
  refine (band (off := 0) _ _ _ (by decide) 0 (by exact (by decide : 0 < 6)) _ rfl rfl _
    (ix2 (⟨(S4x8.rowMajor j).val / 128, by omega⟩ : Fin 8) (⟨(S4x8.rowMajor j).val % 128, Nat.mod_lt _ (by decide)⟩ : Fin 128)) rfl rfl).trans ?_
  exact laid_out (n := 32) (N := 1024) (e := 992) x0 _ _ _ _ _ _ j (Nat.div_add_mod' _ 128).symm
theorem place_1 (j : S4x3x128.Idx) : ∃ i, (∀ X, back_1 X j = X i) ∧ ∀ x0 x1 x2 x3 x4 x5, packed x0 x1 x2 x3 x4 x5 i = x1 j := by
  have hn : (S4x3x128.rowMajor j).val < 1536 := number_lt shapeCasts_S1536_S4x3x128 j
  refine ⟨ix3 (0 : Fin 1) (⟨8 + (S4x3x128.rowMajor j).val / 128, by omega⟩ : Fin 2216) (⟨(S4x3x128.rowMajor j).val % 128, Nat.mod_lt _ (by decide)⟩ : Fin 128),
    fun X => (read_back_cut _ _ _ _ j (ix2 (⟨(S4x3x128.rowMajor j).val / 128, by omega⟩ : Fin 16) (⟨(S4x3x128.rowMajor j).val % 128, Nat.mod_lt _ (by decide)⟩ : Fin 128)) rfl rfl).trans (sheet_rows_from X _ _ _ _ rfl rfl), fun x0 x1 x2 x3 x4 x5 => ?_⟩
  refine (band (off := 8) _ _ _ (by decide) 1 (by exact (by decide : 1 < 6)) _ rfl rfl _
    (ix2 (⟨(S4x3x128.rowMajor j).val / 128, by omega⟩ : Fin 16) (⟨(S4x3x128.rowMajor j).val % 128, Nat.mod_lt _ (by decide)⟩ : Fin 128)) rfl rfl).trans ?_
  exact laid_out (n := 1536) (N := 2048) (e := 512) x1 _ _ _ _ _ _ j (Nat.div_add_mod' _ 128).symm
theorem place_2 (j : S4x4x128x128.Idx) : ∃ i, (∀ X, back_2 X j = X i) ∧ ∀ x0 x1 x2 x3 x4 x5, packed x0 x1 x2 x3 x4 x5 i = x2 j := by
  have hn : (S4x4x128x128.rowMajor j).val < 262144 := number_lt shapeCasts_S262144_S4x4x128x128 j
  refine ⟨ix3 (0 : Fin 1) (⟨24 + (S4x4x128x128.rowMajor j).val / 128, by omega⟩ : Fin 2216) (⟨(S4x4x128x128.rowMajor j).val % 128, Nat.mod_lt _ (by decide)⟩ : Fin 128),
    fun X => (read_back _ _ _ j (ix2 (⟨(S4x4x128x128.rowMajor j).val / 128, by omega⟩ : Fin 2048) (⟨(S4x4x128x128.rowMajor j).val % 128, Nat.mod_lt _ (by decide)⟩ : Fin 128)) rfl rfl).trans (sheet_rows_from X _ _ _ _ rfl rfl), fun x0 x1 x2 x3 x4 x5 => ?_⟩
  refine (band (off := 24) _ _ _ (by decide) 2 (by exact (by decide : 2 < 6)) _ rfl rfl _
    (ix2 (⟨(S4x4x128x128.rowMajor j).val / 128, by omega⟩ : Fin 2048) (⟨(S4x4x128x128.rowMajor j).val % 128, Nat.mod_lt _ (by decide)⟩ : Fin 128)) rfl rfl).trans ?_
  exact laid_out (n := 262144) (N := 262144) (e := 0) x2 _ _ _ _ _ _ j (Nat.div_add_mod' _ 128).symm
theorem place_3 (j : S4x512.Idx) : ∃ i, (∀ X, back_3 X j = X i) ∧ ∀ x0 x1 x2 x3 x4 x5, packed x0 x1 x2 x3 x4 x5 i = x3 j := by
  have hn : (S4x512.rowMajor j).val < 2048 := number_lt shapeCasts_S2048_S4x512 j
  refine ⟨ix3 (0 : Fin 1) (⟨2072 + (S4x512.rowMajor j).val / 128, by omega⟩ : Fin 2216) (⟨(S4x512.rowMajor j).val % 128, Nat.mod_lt _ (by decide)⟩ : Fin 128),
    fun X => (read_back _ _ _ j (ix2 (⟨(S4x512.rowMajor j).val / 128, by omega⟩ : Fin 16) (⟨(S4x512.rowMajor j).val % 128, Nat.mod_lt _ (by decide)⟩ : Fin 128)) rfl rfl).trans (sheet_rows_from X _ _ _ _ rfl rfl), fun x0 x1 x2 x3 x4 x5 => ?_⟩
  refine (band (off := 2072) _ _ _ (by decide) 3 (by exact (by decide : 3 < 6)) _ rfl rfl _
    (ix2 (⟨(S4x512.rowMajor j).val / 128, by omega⟩ : Fin 16) (⟨(S4x512.rowMajor j).val % 128, Nat.mod_lt _ (by decide)⟩ : Fin 128)) rfl rfl).trans ?_
  exact laid_out (n := 2048) (N := 2048) (e := 0) x3 _ _ _ _ _ _ j (Nat.div_add_mod' _ 128).symm
theorem place_4 (j : S4x2048.Idx) : ∃ i, (∀ X, back_4 X j = X i) ∧ ∀ x0 x1 x2 x3 x4 x5, packed x0 x1 x2 x3 x4 x5 i = x4 j := by
  have hn : (S4x2048.rowMajor j).val < 8192 := number_lt shapeCasts_S8192_S4x2048 j
  refine ⟨ix3 (0 : Fin 1) (⟨2088 + (S4x2048.rowMajor j).val / 128, by omega⟩ : Fin 2216) (⟨(S4x2048.rowMajor j).val % 128, Nat.mod_lt _ (by decide)⟩ : Fin 128),
    fun X => (read_back _ _ _ j (ix2 (⟨(S4x2048.rowMajor j).val / 128, by omega⟩ : Fin 64) (⟨(S4x2048.rowMajor j).val % 128, Nat.mod_lt _ (by decide)⟩ : Fin 128)) rfl rfl).trans (sheet_rows_from X _ _ _ _ rfl rfl), fun x0 x1 x2 x3 x4 x5 => ?_⟩
  refine (band (off := 2088) _ _ _ (by decide) 4 (by exact (by decide : 4 < 6)) _ rfl rfl _
    (ix2 (⟨(S4x2048.rowMajor j).val / 128, by omega⟩ : Fin 64) (⟨(S4x2048.rowMajor j).val % 128, Nat.mod_lt _ (by decide)⟩ : Fin 128)) rfl rfl).trans ?_
  exact laid_out (n := 8192) (N := 8192) (e := 0) x4 _ _ _ _ _ _ j (Nat.div_add_mod' _ 128).symm
theorem place_5 (j : S4x2048.Idx) : ∃ i, (∀ X, back_5 X j = X i) ∧ ∀ x0 x1 x2 x3 x4 x5, packed x0 x1 x2 x3 x4 x5 i = x5 j := by
  have hn : (S4x2048.rowMajor j).val < 8192 := number_lt shapeCasts_S8192_S4x2048 j
  refine ⟨ix3 (0 : Fin 1) (⟨2152 + (S4x2048.rowMajor j).val / 128, by omega⟩ : Fin 2216) (⟨(S4x2048.rowMajor j).val % 128, Nat.mod_lt _ (by decide)⟩ : Fin 128),
    fun X => (read_back _ _ _ j (ix2 (⟨(S4x2048.rowMajor j).val / 128, by omega⟩ : Fin 64) (⟨(S4x2048.rowMajor j).val % 128, Nat.mod_lt _ (by decide)⟩ : Fin 128)) rfl rfl).trans (sheet_rows_from X _ _ _ _ rfl rfl), fun x0 x1 x2 x3 x4 x5 => ?_⟩
  refine (band (off := 2152) _ _ _ (by decide) 5 (by exact (by decide : 5 < 6)) _ rfl rfl _
    (ix2 (⟨(S4x2048.rowMajor j).val / 128, by omega⟩ : Fin 64) (⟨(S4x2048.rowMajor j).val % 128, Nat.mod_lt _ (by decide)⟩ : Fin 128)) rfl rfl).trans ?_
  exact laid_out (n := 8192) (N := 8192) (e := 0) x5 _ _ _ _ _ _ j (Nat.div_add_mod' _ 128).symm

/-! ## The blocks -/

theorem zero3 : (![0, 0, 0] : Fin 3 → Nat) = fun _ => 0 := funext fun a => by fin_cases a <;> rfl

/-- The call's one step. -/
def first : Fin cfg0.N := ⟨0, by decide⟩

/-- The one block holds all rows. -/
theorem whole (t : Fin cfg0.N) (i : S1x2216x128.Idx) (a : Fin 3) :
    win0_4.index t a * S1x2216x128.size a ≤ (i a).val ∧ (i a).val < win0_4.index t a * S1x2216x128.size a + S1x2216x128.size a := by
  have h : ∀ t : Fin grid0.N, ∀ a, win0_4.index t a = 0 := by decide +kernel
  rw [h t a, Nat.zero_mul, Nat.zero_add]
  exact ⟨Nat.zero_le _, (i a).isLt⟩

theorem cover_4 (i : S1x2216x128.Idx) : ∃ t : Fin cfg0.N, (cfg0.win 4).flush t = true ∧ i ∈ ((cfg0.win 4).blk t).view.set := by
  refine ⟨first, flush0_4 _, ?_⟩
  show i ∈ ((View.whole main_v80_0).slice (win0_4.rect first)).set
  rw [View.set_slice_whole, Rect.mem_set_unit]
  exact whole _ i
theorem cover_5 (i : S1x2216x128.Idx) : ∃ t : Fin cfg0.N, (cfg0.win 5).flush t = true ∧ i ∈ ((cfg0.win 5).blk t).view.set := by
  refine ⟨first, flush0_5 _, ?_⟩
  show i ∈ ((View.whole main_v80_1).slice (win0_5.rect first)).set
  rw [View.set_slice_whole, Rect.mem_set_unit]
  exact whole _ i
theorem cover_6 (i : S1x2216x128.Idx) : ∃ t : Fin cfg0.N, (cfg0.win 6).flush t = true ∧ i ∈ ((cfg0.win 6).blk t).view.set := by
  refine ⟨first, flush0_6 _, ?_⟩
  show i ∈ ((View.whole main_v80_2).slice (win0_6.rect first)).set
  rw [View.set_slice_whole, Rect.mem_set_unit]
  exact whole _ i

/-! ## The body, entry by entry -/

theorem body_mean (g a : Vec Ideal S1x2216x128 .f32) : k0_pay2 g a = fun y => mean (g y) (a y) := by
  unfold k0_pay2 k0_pay1
  simp only [shapeCast_self]
  rfl
theorem body_square (g b : Vec Ideal S1x2216x128 .f32) : k0_pay3 g b = fun y => square (g y) (b y) := by
  unfold k0_pay3 k0_pay1
  simp only [shapeCast_self]
  rfl
theorem body_delta (w g a b : Vec Ideal S1x2216x128 .f32) : k0_pay4 g a b w = fun y => delta (w y) (g y) (a y) (b y) := by
  unfold k0_pay4
  rw [shapeCast_self, body_mean, body_square]
  rfl

variable (m : (ℓ : Loc nD τ sig) → Buf (Elt Ideal) ℓ) (c : Dev nD)

/-! ## The arrays before the call and after it -/

/-- The weights, in rows. -/
abbrev weights : S1x2216x128.Idx → Val :=
  packed (m ((c : Thread nD τ).loc main_arg0)) (m ((c : Thread nD τ).loc main_arg4)) (m ((c : Thread nD τ).loc main_arg8)) (m ((c : Thread nD τ).loc main_arg12)) (m ((c : Thread nD τ).loc main_arg16)) (m ((c : Thread nD τ).loc main_arg20))
/-- their gradients, in rows. -/
abbrev grads : S1x2216x128.Idx → Val :=
  packed (m ((c : Thread nD τ).loc main_arg1)) (m ((c : Thread nD τ).loc main_arg5)) (m ((c : Thread nD τ).loc main_arg9)) (m ((c : Thread nD τ).loc main_arg13)) (m ((c : Thread nD τ).loc main_arg17)) (m ((c : Thread nD τ).loc main_arg21))
/-- the averages of the gradients, in rows. -/
abbrev means : S1x2216x128.Idx → Val :=
  packed (m ((c : Thread nD τ).loc main_arg2)) (m ((c : Thread nD τ).loc main_arg6)) (m ((c : Thread nD τ).loc main_arg10)) (m ((c : Thread nD τ).loc main_arg14)) (m ((c : Thread nD τ).loc main_arg18)) (m ((c : Thread nD τ).loc main_arg22))
/-- and of their squares, in rows. -/
abbrev squares : S1x2216x128.Idx → Val :=
  packed (m ((c : Thread nD τ).loc main_arg3)) (m ((c : Thread nD τ).loc main_arg7)) (m ((c : Thread nD τ).loc main_arg11)) (m ((c : Thread nD τ).loc main_arg15)) (m ((c : Thread nD τ).loc main_arg19)) (m ((c : Thread nD τ).loc main_arg23))

set_option maxHeartbeats 4000000

theorem prepared : V m c main_v19 = weights m c ∧ V m c main_v39 = grads m c ∧ V m c main_v59 = means m c ∧ V m c main_v79 = squares m c := by
  refine ⟨?_, ?_, ?_, ?_⟩ <;>
    (simp only [V, V0, List.flatten_cons, List.flatten_nil, List.append_nil, List.cons_append, List.nil_append,
      TRef.nullary, TRef.unary, TRef.binary, TRef.toBuf, TRef.ofBuf, cast_eq]
     after_results_simp
     rfl)

theorem arr_4 : (dats m 0 c).arrAt 4 cfg0.N = fun i => delta (weights m c i) (grads m c i) (means m c i) (squares m c i) := by
  rw [← (prepared m c).1, ← (prepared m c).2.1, ← (prepared m c).2.2.1, ← (prepared m c).2.2.2]
  refine (dats m 0 c).arrAt_eq_of_cover 4 _ (fun t hf => ?_) cover_4
  show (cfg0.win 4).cut (grid0.coords t) ((dats m 0 c).after 4 t) = _
  rw [after0_4]
  unfold out0_4
  rw [View.canon_unit_zero zero3]
  simp only [View.ld_unit_zero (S := S1x2216x128) zero3]
  rw [body_delta]
  rfl
theorem arr_5 : (dats m 0 c).arrAt 5 cfg0.N = fun i => mean (grads m c i) (means m c i) := by
  rw [← (prepared m c).2.1, ← (prepared m c).2.2.1]
  refine (dats m 0 c).arrAt_eq_of_cover 5 _ (fun t hf => ?_) cover_5
  show (cfg0.win 5).cut (grid0.coords t) ((dats m 0 c).after 5 t) = _
  rw [after0_5]
  unfold out0_5
  rw [View.canon_unit_zero zero3]
  simp only [View.ld_unit_zero (S := S1x2216x128) zero3]
  rw [body_mean]
  rfl
theorem arr_6 : (dats m 0 c).arrAt 6 cfg0.N = fun i => square (grads m c i) (squares m c i) := by
  rw [← (prepared m c).2.1, ← (prepared m c).2.2.2]
  refine (dats m 0 c).arrAt_eq_of_cover 6 _ (fun t hf => ?_) cover_6
  show (cfg0.win 6).cut (grid0.coords t) ((dats m 0 c).after 6 t) = _
  rw [after0_6]
  unfold out0_6
  rw [View.canon_unit_zero zero3]
  simp only [View.ld_unit_zero (S := S1x2216x128) zero3]
  rw [body_square]
  rfl

/-! ## The results -/

/-- The call's arrays are distinct. -/
theorem arr_inj : Function.Injective (Pipeline.arrRef spec0) := by decide

/-- The buffers as the lines after the call leave them. -/
abbrev left := Pipeline.afterTail₀ cfgs (dats m) 0 (V0 m) [hostOps1, hostOps1_1, hostOps1_2, hostOps1_3, hostOps1_4, hostOps1_5, hostOps1_6, hostOps1_7, hostOps1_8, hostOps1_9, hostOps1_10, hostOps1_11, hostOps1_12] c

theorem tails :
    (left m c main_v88 = back_0 ((dats m 0 c).arrAt 4 cfg0.N) ∧ left m c main_v93 = back_0 ((dats m 0 c).arrAt 5 cfg0.N) ∧ left m c main_v98 = back_0 ((dats m 0 c).arrAt 6 cfg0.N))
      ∧ (left m c main_v106 = back_1 ((dats m 0 c).arrAt 4 cfg0.N) ∧ left m c main_v111 = back_1 ((dats m 0 c).arrAt 5 cfg0.N) ∧ left m c main_v116 = back_1 ((dats m 0 c).arrAt 6 cfg0.N))
      ∧ (left m c main_v123 = back_2 ((dats m 0 c).arrAt 4 cfg0.N) ∧ left m c main_v127 = back_2 ((dats m 0 c).arrAt 5 cfg0.N) ∧ left m c main_v131 = back_2 ((dats m 0 c).arrAt 6 cfg0.N))
      ∧ (left m c main_v138 = back_3 ((dats m 0 c).arrAt 4 cfg0.N) ∧ left m c main_v142 = back_3 ((dats m 0 c).arrAt 5 cfg0.N) ∧ left m c main_v146 = back_3 ((dats m 0 c).arrAt 6 cfg0.N))
      ∧ (left m c main_v153 = back_4 ((dats m 0 c).arrAt 4 cfg0.N) ∧ left m c main_v157 = back_4 ((dats m 0 c).arrAt 5 cfg0.N) ∧ left m c main_v161 = back_4 ((dats m 0 c).arrAt 6 cfg0.N))
      ∧ (left m c main_v168 = back_5 ((dats m 0 c).arrAt 4 cfg0.N) ∧ left m c main_v172 = back_5 ((dats m 0 c).arrAt 5 cfg0.N) ∧ left m c main_v176 = back_5 ((dats m 0 c).arrAt 6 cfg0.N)) := by
  have e := Pipeline.withArrays_arr spec0 arr_inj c (V0 m c) (fun w => (dats m 0 c).arrAt w cfg0.N)
  refine ⟨⟨?_, ?_, ?_⟩, ⟨?_, ?_, ?_⟩, ⟨?_, ?_, ?_⟩, ⟨?_, ?_, ?_⟩, ⟨?_, ?_, ?_⟩, ⟨?_, ?_, ?_⟩⟩ <;>
    (simp only [left, Pipeline.afterTail₀, List.flatten_cons, List.flatten_nil, List.append_nil, List.cons_append, List.nil_append,
      TRef.nullary, TRef.unary, TRef.binary, TRef.toBuf, TRef.ofBuf, cast_eq]
     after_results_simp)
  · exact congrArg back_0 (e 4)
  · exact congrArg back_0 (e 5)
  · exact congrArg back_0 (e 6)
  · exact congrArg back_1 (e 4)
  · exact congrArg back_1 (e 5)
  · exact congrArg back_1 (e 6)
  · exact congrArg back_2 (e 4)
  · exact congrArg back_2 (e 5)
  · exact congrArg back_2 (e 6)
  · exact congrArg back_3 (e 4)
  · exact congrArg back_3 (e 5)
  · exact congrArg back_3 (e 6)
  · exact congrArg back_4 (e 4)
  · exact congrArg back_4 (e 5)
  · exact congrArg back_4 (e 6)
  · exact congrArg back_5 (e 4)
  · exact congrArg back_5 (e 5)
  · exact congrArg back_5 (e 6)

/-- A step made on the rows and read back is the step made on the entry itself. -/
theorem step_of {s : Shape} {j : s.Idx} {back : (S1x2216x128.Idx → Val) → s.Idx → Val} {w g a b : Val}
    (h : ∃ i, (∀ X, back X j = X i) ∧ weights m c i = w ∧ grads m c i = g ∧ means m c i = a ∧ squares m c i = b) :
    back (fun i => delta (weights m c i) (grads m c i) (means m c i) (squares m c i)) j = delta w g a b
      ∧ back (fun i => mean (grads m c i) (means m c i)) j = mean g a
      ∧ back (fun i => square (grads m c i) (squares m c i)) j = square g b := by
  obtain ⟨i, hb, rfl, rfl, rfl, rfl⟩ := h
  exact ⟨hb _, hb _, hb _⟩

/-- So it is for every entry of a weight. -/
theorem ends {s : Shape} (back : (S1x2216x128.Idx → Val) → s.Idx → Val) {w g a b d p q : s.Idx → Val}
    (t : d = back ((dats m 0 c).arrAt 4 cfg0.N) ∧ p = back ((dats m 0 c).arrAt 5 cfg0.N) ∧ q = back ((dats m 0 c).arrAt 6 cfg0.N))
    (h : ∀ j, ∃ i, (∀ X, back X j = X i) ∧ weights m c i = w j ∧ grads m c i = g j ∧ means m c i = a j ∧ squares m c i = b j) :
    d = (fun j => delta (w j) (g j) (a j) (b j)) ∧ p = (fun j => mean (g j) (a j)) ∧ q = fun j => square (g j) (b j) := by
  rw [arr_4, arr_5, arr_6] at t
  exact ⟨t.1.trans (funext fun j => (step_of m c (h j)).1), t.2.1.trans (funext fun j => (step_of m c (h j)).2.1),
    t.2.2.trans (funext fun j => (step_of m c (h j)).2.2)⟩

end Cert.KernelAdamSmallIdeal.Adam

namespace Cert.Adam

open Idealize.ShloMosaic Idealize.ShloMosaic.TcCoe Idealize.SL.Sem
open Cert.KernelAdamSmallIdeal.Gen (unchanged run_main)
open Cert.KernelAdamSmallIdeal Cert.KernelAdamSmallIdeal.Adam

theorem frame_adam_small : Cert.quiescent_KernelAdamSmall := fun m g _ => Cert.KernelAdamSmall.Gen.frame (F := Bits) m g

theorem frame_adam_small_ideal : Cert.quiescent_KernelAdamSmallIdeal := fun m g _ => Cert.KernelAdamSmallIdeal.Gen.frame (F := Ideal) m g

theorem frame_adam_small_reference : Cert.quiescent_ReferenceAdamSmallIdeal := fun m g _ =>
  (θ_run _ _ _).mono (fun r h => ⟨fun c => (h c).2.2.2.2.2.2.2.2.2.2.2.2.2.2.2.2.2.2, sem_eq_zero_of_no_sems (by decide) r.2⟩) (Cert.ReferenceAdamSmallIdeal.Value.run (F := Ideal) m g)

set_option maxHeartbeats 4000000

theorem same_adam_small : Cert.algebraic_KernelAdamSmallIdeal_ReferenceAdamSmallIdeal := fun m g m' g' _ hm =>
  ⟨_, _, _, _, _, _, _, _, _, _, _, _, _, _, _, _, _, _, (θ_run _ _ _).mono (fun r h c =>
      have t := tails m c
      have e0 := ends m c (s := S4x8) back_0 t.1 fun j => (place_0 j).imp fun i h => ⟨h.1, h.2 _ _ _ _ _ _, h.2 _ _ _ _ _ _, h.2 _ _ _ _ _ _, h.2 _ _ _ _ _ _⟩
      have e1 := ends m c (s := S4x3x128) back_1 t.2.1 fun j => (place_1 j).imp fun i h => ⟨h.1, h.2 _ _ _ _ _ _, h.2 _ _ _ _ _ _, h.2 _ _ _ _ _ _, h.2 _ _ _ _ _ _⟩
      have e2 := ends m c (s := S4x4x128x128) back_2 t.2.2.1 fun j => (place_2 j).imp fun i h => ⟨h.1, h.2 _ _ _ _ _ _, h.2 _ _ _ _ _ _, h.2 _ _ _ _ _ _, h.2 _ _ _ _ _ _⟩
      have e3 := ends m c (s := S4x512) back_3 t.2.2.2.1 fun j => (place_3 j).imp fun i h => ⟨h.1, h.2 _ _ _ _ _ _, h.2 _ _ _ _ _ _, h.2 _ _ _ _ _ _, h.2 _ _ _ _ _ _⟩
      have e4 := ends m c (s := S4x2048) back_4 t.2.2.2.2.1 fun j => (place_4 j).imp fun i h => ⟨h.1, h.2 _ _ _ _ _ _, h.2 _ _ _ _ _ _, h.2 _ _ _ _ _ _, h.2 _ _ _ _ _ _⟩
      have e5 := ends m c (s := S4x2048) back_5 t.2.2.2.2.2 fun j => (place_5 j).imp fun i h => ⟨h.1, h.2 _ _ _ _ _ _, h.2 _ _ _ _ _ _, h.2 _ _ _ _ _ _, h.2 _ _ _ _ _ _⟩
      ⟨((h.2 c).2 main_v88 (Pipeline.mem_restRefs_of main_v88 (by decide) (by decide))).trans e0.1,
        ((h.2 c).2 main_v106 (Pipeline.mem_restRefs_of main_v106 (by decide) (by decide))).trans e1.1,
        ((h.2 c).2 main_v123 (Pipeline.mem_restRefs_of main_v123 (by decide) (by decide))).trans e2.1,
        ((h.2 c).2 main_v138 (Pipeline.mem_restRefs_of main_v138 (by decide) (by decide))).trans e3.1,
        ((h.2 c).2 main_v153 (Pipeline.mem_restRefs_of main_v153 (by decide) (by decide))).trans e4.1,
        ((h.2 c).2 main_v168 (Pipeline.mem_restRefs_of main_v168 (by decide) (by decide))).trans e5.1,
        ((h.2 c).2 main_v93 (Pipeline.mem_restRefs_of main_v93 (by decide) (by decide))).trans e0.2.1,
        ((h.2 c).2 main_v111 (Pipeline.mem_restRefs_of main_v111 (by decide) (by decide))).trans e1.2.1,
        ((h.2 c).2 main_v127 (Pipeline.mem_restRefs_of main_v127 (by decide) (by decide))).trans e2.2.1,
        ((h.2 c).2 main_v142 (Pipeline.mem_restRefs_of main_v142 (by decide) (by decide))).trans e3.2.1,
        ((h.2 c).2 main_v157 (Pipeline.mem_restRefs_of main_v157 (by decide) (by decide))).trans e4.2.1,
        ((h.2 c).2 main_v172 (Pipeline.mem_restRefs_of main_v172 (by decide) (by decide))).trans e5.2.1,
        ((h.2 c).2 main_v98 (Pipeline.mem_restRefs_of main_v98 (by decide) (by decide))).trans e0.2.2,
        ((h.2 c).2 main_v116 (Pipeline.mem_restRefs_of main_v116 (by decide) (by decide))).trans e1.2.2,
        ((h.2 c).2 main_v131 (Pipeline.mem_restRefs_of main_v131 (by decide) (by decide))).trans e2.2.2,
        ((h.2 c).2 main_v146 (Pipeline.mem_restRefs_of main_v146 (by decide) (by decide))).trans e3.2.2,
        ((h.2 c).2 main_v161 (Pipeline.mem_restRefs_of main_v161 (by decide) (by decide))).trans e4.2.2,
        ((h.2 c).2 main_v176 (Pipeline.mem_restRefs_of main_v176 (by decide) (by decide))).trans e5.2.2,
        h.1 c⟩) (θ_run_and (unchanged m g) (run_main (F := Ideal) m g)),
    (θ_run _ _ _).mono (fun r h c => by
      obtain ⟨a0, a1, a2, a3, a4, a5, a6, a7, a8, a9, a10, a11, a12, a13, a14, a15, a16, a17, a18, a19, a20, a21, a22, a23⟩ := hm c
      obtain ⟨r0, r1, r2, r3, r4, r5, r6, r7, r8, r9, r10, r11, r12, r13, r14, r15, r16, r17, hrest⟩ := h c
      refine ⟨r0.trans ?_, r1.trans ?_, r2.trans ?_, r3.trans ?_, r4.trans ?_, r5.trans ?_, r6.trans ?_, r7.trans ?_, r8.trans ?_, r9.trans ?_, r10.trans ?_, r11.trans ?_, r12.trans ?_, r13.trans ?_, r14.trans ?_, r15.trans ?_, r16.trans ?_, r17.trans ?_, hrest⟩
      all_goals
        simp only [← a0, ← a1, ← a2, ← a3, ← a4, ← a5, ← a6, ← a7, ← a8, ← a9, ← a10, ← a11, ← a12, ← a13, ← a14, ← a15, ← a16, ← a17, ← a18, ← a19, ← a20, ← a21, ← a22, ← a23]
        exact funext fun _ => rfl) (Cert.ReferenceAdamSmallIdeal.Value.run (F := Ideal) m' g')⟩

end Cert.Adam

end
-- ==== Proof.Sums.Small.lean ====
/-
  The sums over the eight devices of their own parts of the loss and of the small weights' gradients.
  Each device's parts are laid out in rows of 128, one part below the other, and the eight devices' rows stand one below the other;
  the call adds the eight, and each sum is read back from its rows.
-/
module

public import proofs.«01_k».proof.Defs
public import proofs.«01_k».proof.Proof.Gen.KernelSums
public import proofs.«01_k».proof.Proof.Gen.KernelSums.Frame
public import proofs.«01_k».proof.Proof.Gen.KernelSumsIdeal
public import proofs.«01_k».proof.Proof.Gen.KernelSumsIdeal.Frame
public import proofs.«01_k».proof.Proof.Gen.ReferenceSumsIdeal
public import proofs.«01_k».proof.Proof.Gen.ReferenceSumsIdeal.Run
public import proofs.«01_k».proof.Proof.Gen.ReferenceSumsIdeal.Read
public import proofs.«01_k».proof.Proof.Adam.Rows
public import Idealize.ShloMosaic.Lib.Pipeline.Value
public import Idealize.ShloMosaic.Lib.Pipeline.ValueKit.Tiles
public import Idealize.ShloMosaic.Adequacy
public import Idealize.ShloMosaic.Init

@[expose] public section

noncomputable section

namespace Cert.KernelSumsIdeal.Sums

open Cert.KernelSumsIdeal Cert.KernelSumsIdeal.Gen Idealize.ShloMosaic Idealize.ShloMosaic.TcCoe Idealize.ShloMosaic.StableHlo Idealize.SL.Sem
open Cert.Adam (number_lt read_back read_back_cut rows_from each_place)
open Cert.ReferenceSumsIdeal.Read (idx_main_v0 idx_main_v7 idx_main_v8 idx_main_v9 idx_main_v10 idx_main_v11 idx_main_v12)

/-- One entry. -/
abbrev Val : Type := Elt Ideal .f32

/-! ## The rows -/

/-- What fills the rows up. -/
abbrev filler : S_.Idx → Val := sitofp (F := Ideal) .f32 (constantI S_ 32 0#32)

/-- The eight devices' parts in rows of 128: each device's parts one below the other, and the devices one below the other. -/
def packed (x1 : S8x4x4x128x128.Idx → Val) (x2 : S8x4x3x512.Idx → Val) (x3 : S8x4x512.Idx → Val) (x4 : S8x4x2048.Idx → Val) (x5 : S8x4x2048.Idx → Val) (x6 : S8x4x8.Idx → Val) (x7 : S8.Idx → Val) (x8 : S8x4x8x2048.Idx → Val) :
    S22144x128.Idx → Val :=
  shapeCast S22144x128 (concatenate S8x2768x128 1
    [⟨S8x2048x128, shapeCast S8x2048x128 (pad S8x262144 ![0, 0] ![0, 0] ![0, 0] (shapeCast S8x262144 x1 shapeCasts_S8x4x4x128x128_S8x262144) filler pads_S8x262144_S8x262144_000_000 h_S_) shapeCasts_S8x262144_S8x2048x128⟩,
      ⟨S8x48x128, shapeCast S8x48x128 (pad S8x6144 ![0, 0] ![0, 0] ![0, 0] (shapeCast S8x6144 x2 shapeCasts_S8x4x3x512_S8x6144) filler pads_S8x6144_S8x6144_000_000 h_S_) shapeCasts_S8x6144_S8x48x128⟩,
      ⟨S8x16x128, shapeCast S8x16x128 (pad S8x2048 ![0, 0] ![0, 0] ![0, 0] (shapeCast S8x2048 x3 shapeCasts_S8x4x512_S8x2048) filler pads_S8x2048_S8x2048_000_000 h_S_) shapeCasts_S8x2048_S8x16x128⟩,
      ⟨S8x64x128, shapeCast S8x64x128 (pad S8x8192 ![0, 0] ![0, 0] ![0, 0] (shapeCast S8x8192 x4 shapeCasts_S8x4x2048_S8x8192) filler pads_S8x8192_S8x8192_000_000 h_S_) shapeCasts_S8x8192_S8x64x128⟩,
      ⟨S8x64x128, shapeCast S8x64x128 (pad S8x8192 ![0, 0] ![0, 0] ![0, 0] (shapeCast S8x8192 x5 shapeCasts_S8x4x2048_S8x8192) filler pads_S8x8192_S8x8192_000_000 h_S_) shapeCasts_S8x8192_S8x64x128⟩,
      ⟨S8x8x128, shapeCast S8x8x128 (pad S8x1024 ![0, 0] ![0, 992] ![0, 0] (shapeCast S8x32 x6 shapeCasts_S8x4x8_S8x32) filler pads_S8x32_S8x1024_000_09920 h_S_) shapeCasts_S8x1024_S8x8x128⟩,
      ⟨S8x8x128, shapeCast S8x8x128 (pad S8x1024 ![0, 0] ![0, 1023] ![0, 0] (shapeCast S8x1 x7 shapeCasts_S8_S8x1) filler pads_S8x1_S8x1024_000_010230 h_S_) shapeCasts_S8x1024_S8x8x128⟩,
      ⟨S8x512x128, shapeCast S8x512x128 (pad S8x65536 ![0, 0] ![0, 0] ![0, 0] (shapeCast S8x65536 x8 shapeCasts_S8x4x8x2048_S8x65536) filler pads_S8x65536_S8x65536_000_000 h_S_) shapeCasts_S8x65536_S8x512x128⟩]
    concatenates_S8x2048x128_S8x48x128_S8x16x128_S8x64x128_S8x64x128_S8x8x128_S8x8x128_S8x512x128_S8x2768x128_d1) shapeCasts_S8x2768x128_S22144x128

/-! The sums read back from the rows. -/

def back_1 (X : S2768x128.Idx → Val) : S4x4x128x128.Idx → Val :=
  shapeCast S4x4x128x128 (shapeCast S262144 (extractStridedSlice S2048x128 ![0, 0] X slices_S2768x128_S2048x128_0_0) shapeCasts_S2048x128_S262144) shapeCasts_S262144_S4x4x128x128
def back_2 (X : S2768x128.Idx → Val) : S4x3x512.Idx → Val :=
  shapeCast S4x3x512 (shapeCast S6144 (extractStridedSlice S48x128 ![2048, 0] X slices_S2768x128_S48x128_2048_0) shapeCasts_S48x128_S6144) shapeCasts_S6144_S4x3x512
def back_3 (X : S2768x128.Idx → Val) : S4x512.Idx → Val :=
  shapeCast S4x512 (shapeCast S2048 (extractStridedSlice S16x128 ![2096, 0] X slices_S2768x128_S16x128_2096_0) shapeCasts_S16x128_S2048) shapeCasts_S2048_S4x512
def back_4 (X : S2768x128.Idx → Val) : S4x2048.Idx → Val :=
  shapeCast S4x2048 (shapeCast S8192 (extractStridedSlice S64x128 ![2112, 0] X slices_S2768x128_S64x128_2112_0) shapeCasts_S64x128_S8192) shapeCasts_S8192_S4x2048
def back_5 (X : S2768x128.Idx → Val) : S4x2048.Idx → Val :=
  shapeCast S4x2048 (shapeCast S8192 (extractStridedSlice S64x128 ![2176, 0] X slices_S2768x128_S64x128_2176_0) shapeCasts_S64x128_S8192) shapeCasts_S8192_S4x2048
def back_6 (X : S2768x128.Idx → Val) : S4x8.Idx → Val :=
  shapeCast S4x8 (extractStridedSlice S32 ![0] (shapeCast S1024 (extractStridedSlice S8x128 ![2240, 0] X slices_S2768x128_S8x128_2240_0) shapeCasts_S8x128_S1024) slices_S1024_S32_0) shapeCasts_S32_S4x8
def back_7 (X : S2768x128.Idx → Val) : S_.Idx → Val :=
  shapeCast S_ (extractStridedSlice S1 ![0] (shapeCast S1024 (extractStridedSlice S8x128 ![2248, 0] X slices_S2768x128_S8x128_2248_0) shapeCasts_S8x128_S1024) slices_S1024_S1_0) shapeCasts_S1_S_
def back_8 (X : S2768x128.Idx → Val) : S4x8x2048.Idx → Val :=
  shapeCast S4x8x2048 (shapeCast S65536 (extractStridedSlice S512x128 ![2256, 0] X slices_S2768x128_S512x128_2256_0) shapeCasts_S512x128_S65536) shapeCasts_S65536_S4x8x2048

/-- Row i of device d, in the rows of all devices. -/
def row (d : Fin 8) (i : S2768x128.Idx) : S22144x128.Idx :=
  ix2 (⟨d.val * 2768 + (i 0).val, by
    have h : (i 0).val < 2768 := (i 0).isLt
    have := d.isLt
    omega⟩ : Fin 22144) (i 1)

/-- The sum over the devices. -/
def total (G : S22144x128.Idx → Val) (i : S2768x128.Idx) : Val := ∑ d : Fin 8, (G (row d i) : EReal)

/-! The sums over the devices, part by part. -/

def over_1 (x : S8x4x4x128x128.Idx → Val) : S4x4x128x128.Idx → Val := fun j => ∑ d : Fin 8, (x (idx_main_v8 j d) : EReal)
def over_2 (x : S8x4x3x512.Idx → Val) : S4x3x512.Idx → Val := fun j => ∑ d : Fin 8, (x (idx_main_v0 j d) : EReal)
def over_3 (x : S8x4x512.Idx → Val) : S4x512.Idx → Val := fun j => ∑ d : Fin 8, (x (idx_main_v9 j d) : EReal)
def over_4 (x : S8x4x2048.Idx → Val) : S4x2048.Idx → Val := fun j => ∑ d : Fin 8, (x (idx_main_v10 j d) : EReal)
def over_5 (x : S8x4x2048.Idx → Val) : S4x2048.Idx → Val := fun j => ∑ d : Fin 8, (x (idx_main_v11 j d) : EReal)
def over_6 (x : S8x4x8.Idx → Val) : S4x8.Idx → Val := fun j => ∑ d : Fin 8, (x (idx_main_v7 j d) : EReal)
def over_7 (x : S8.Idx → Val) : S_.Idx → Val := fun _ => ∑ d : Fin 8, (x (ix1 d : S8.Idx) : EReal)
def over_8 (x : S8x4x8x2048.Idx → Val) : S4x8x2048.Idx → Val := fun j => ∑ d : Fin 8, (x (idx_main_v12 j d) : EReal)

/-! An entry of each part has one place in the rows, the same on each device, at which it is laid out and from which its sum is read back. -/

theorem place_1 (j : S4x4x128x128.Idx) : ∃ i, (∀ X, back_1 X j = X i) ∧ ∀ d x1 x2 x3 x4 x5 x6 x7 x8, packed x1 x2 x3 x4 x5 x6 x7 x8 (row d i) = x1 (idx_main_v8 j d) := by
  have hn : (S4x4x128x128.rowMajor j).val < 262144 := number_lt shapeCasts_S262144_S4x4x128x128 j
  refine ⟨ix2 (⟨0 + (S4x4x128x128.rowMajor j).val / 128, by omega⟩ : Fin 2768) (⟨(S4x4x128x128.rowMajor j).val % 128, Nat.mod_lt _ (by decide)⟩ : Fin 128),
    fun X => (read_back _ _ _ j (ix2 (⟨(S4x4x128x128.rowMajor j).val / 128, by omega⟩ : Fin 2048) (⟨(S4x4x128x128.rowMajor j).val % 128, Nat.mod_lt _ (by decide)⟩ : Fin 128)) rfl rfl).trans (rows_from X _ _ _ rfl rfl), fun d x1 x2 x3 x4 x5 x6 x7 x8 => ?_⟩
  refine each_place (n := 262144) (N := 262144) (e := 0) (off := 0) x1 _ _ _ _ _ _ _ _ 0 (by exact (by decide : 0 < 8)) rfl rfl _ d _ (S4x4x128x128.rowMajor j).val hn (by decide) (by decide) rfl rfl ?_
  rw [Shape.rowMajor_val_five, Shape.rowMajor_val_four]
  show ((((d.val * 4 + (j 0).val) * 4 + (j 1).val) * 128 + (j 2).val) * 128 + (j 3).val) = d.val * 262144 + ((((j 0).val * 4 + (j 1).val) * 128 + (j 2).val) * 128 + (j 3).val)
  omega
theorem place_2 (j : S4x3x512.Idx) : ∃ i, (∀ X, back_2 X j = X i) ∧ ∀ d x1 x2 x3 x4 x5 x6 x7 x8, packed x1 x2 x3 x4 x5 x6 x7 x8 (row d i) = x2 (idx_main_v0 j d) := by
  have hn : (S4x3x512.rowMajor j).val < 6144 := number_lt shapeCasts_S6144_S4x3x512 j
  refine ⟨ix2 (⟨2048 + (S4x3x512.rowMajor j).val / 128, by omega⟩ : Fin 2768) (⟨(S4x3x512.rowMajor j).val % 128, Nat.mod_lt _ (by decide)⟩ : Fin 128),
    fun X => (read_back _ _ _ j (ix2 (⟨(S4x3x512.rowMajor j).val / 128, by omega⟩ : Fin 48) (⟨(S4x3x512.rowMajor j).val % 128, Nat.mod_lt _ (by decide)⟩ : Fin 128)) rfl rfl).trans (rows_from X _ _ _ rfl rfl), fun d x1 x2 x3 x4 x5 x6 x7 x8 => ?_⟩
  refine each_place (n := 6144) (N := 6144) (e := 0) (off := 2048) x2 _ _ _ _ _ _ _ _ 1 (by exact (by decide : 1 < 8)) rfl rfl _ d _ (S4x3x512.rowMajor j).val hn (by decide) (by decide) rfl rfl ?_
  rw [Shape.rowMajor_val_four, Shape.rowMajor_val_three]
  show (((d.val * 4 + (j 0).val) * 3 + (j 1).val) * 512 + (j 2).val) = d.val * 6144 + (((j 0).val * 3 + (j 1).val) * 512 + (j 2).val)
  omega
theorem place_3 (j : S4x512.Idx) : ∃ i, (∀ X, back_3 X j = X i) ∧ ∀ d x1 x2 x3 x4 x5 x6 x7 x8, packed x1 x2 x3 x4 x5 x6 x7 x8 (row d i) = x3 (idx_main_v9 j d) := by
  have hn : (S4x512.rowMajor j).val < 2048 := number_lt shapeCasts_S2048_S4x512 j
  refine ⟨ix2 (⟨2096 + (S4x512.rowMajor j).val / 128, by omega⟩ : Fin 2768) (⟨(S4x512.rowMajor j).val % 128, Nat.mod_lt _ (by decide)⟩ : Fin 128),
    fun X => (read_back _ _ _ j (ix2 (⟨(S4x512.rowMajor j).val / 128, by omega⟩ : Fin 16) (⟨(S4x512.rowMajor j).val % 128, Nat.mod_lt _ (by decide)⟩ : Fin 128)) rfl rfl).trans (rows_from X _ _ _ rfl rfl), fun d x1 x2 x3 x4 x5 x6 x7 x8 => ?_⟩
  refine each_place (n := 2048) (N := 2048) (e := 0) (off := 2096) x3 _ _ _ _ _ _ _ _ 2 (by exact (by decide : 2 < 8)) rfl rfl _ d _ (S4x512.rowMajor j).val hn (by decide) (by decide) rfl rfl ?_
  rw [Shape.rowMajor_val_three, Shape.rowMajor_val_two]
  show ((d.val * 4 + (j 0).val) * 512 + (j 1).val) = d.val * 2048 + ((j 0).val * 512 + (j 1).val)
  omega
theorem place_4 (j : S4x2048.Idx) : ∃ i, (∀ X, back_4 X j = X i) ∧ ∀ d x1 x2 x3 x4 x5 x6 x7 x8, packed x1 x2 x3 x4 x5 x6 x7 x8 (row d i) = x4 (idx_main_v10 j d) := by
  have hn : (S4x2048.rowMajor j).val < 8192 := number_lt shapeCasts_S8192_S4x2048 j
  refine ⟨ix2 (⟨2112 + (S4x2048.rowMajor j).val / 128, by omega⟩ : Fin 2768) (⟨(S4x2048.rowMajor j).val % 128, Nat.mod_lt _ (by decide)⟩ : Fin 128),
    fun X => (read_back _ _ _ j (ix2 (⟨(S4x2048.rowMajor j).val / 128, by omega⟩ : Fin 64) (⟨(S4x2048.rowMajor j).val % 128, Nat.mod_lt _ (by decide)⟩ : Fin 128)) rfl rfl).trans (rows_from X _ _ _ rfl rfl), fun d x1 x2 x3 x4 x5 x6 x7 x8 => ?_⟩
  refine each_place (n := 8192) (N := 8192) (e := 0) (off := 2112) x4 _ _ _ _ _ _ _ _ 3 (by exact (by decide : 3 < 8)) rfl rfl _ d _ (S4x2048.rowMajor j).val hn (by decide) (by decide) rfl rfl ?_
  rw [Shape.rowMajor_val_three, Shape.rowMajor_val_two]
  show ((d.val * 4 + (j 0).val) * 2048 + (j 1).val) = d.val * 8192 + ((j 0).val * 2048 + (j 1).val)
  omega
theorem place_5 (j : S4x2048.Idx) : ∃ i, (∀ X, back_5 X j = X i) ∧ ∀ d x1 x2 x3 x4 x5 x6 x7 x8, packed x1 x2 x3 x4 x5 x6 x7 x8 (row d i) = x5 (idx_main_v11 j d) := by
  have hn : (S4x2048.rowMajor j).val < 8192 := number_lt shapeCasts_S8192_S4x2048 j
  refine ⟨ix2 (⟨2176 + (S4x2048.rowMajor j).val / 128, by omega⟩ : Fin 2768) (⟨(S4x2048.rowMajor j).val % 128, Nat.mod_lt _ (by decide)⟩ : Fin 128),
    fun X => (read_back _ _ _ j (ix2 (⟨(S4x2048.rowMajor j).val / 128, by omega⟩ : Fin 64) (⟨(S4x2048.rowMajor j).val % 128, Nat.mod_lt _ (by decide)⟩ : Fin 128)) rfl rfl).trans (rows_from X _ _ _ rfl rfl), fun d x1 x2 x3 x4 x5 x6 x7 x8 => ?_⟩
  refine each_place (n := 8192) (N := 8192) (e := 0) (off := 2176) x5 _ _ _ _ _ _ _ _ 4 (by exact (by decide : 4 < 8)) rfl rfl _ d _ (S4x2048.rowMajor j).val hn (by decide) (by decide) rfl rfl ?_
  rw [Shape.rowMajor_val_three, Shape.rowMajor_val_two]
  show ((d.val * 4 + (j 0).val) * 2048 + (j 1).val) = d.val * 8192 + ((j 0).val * 2048 + (j 1).val)
  omega
theorem place_6 (j : S4x8.Idx) : ∃ i, (∀ X, back_6 X j = X i) ∧ ∀ d x1 x2 x3 x4 x5 x6 x7 x8, packed x1 x2 x3 x4 x5 x6 x7 x8 (row d i) = x6 (idx_main_v7 j d) := by
  have hn : (S4x8.rowMajor j).val < 32 := number_lt shapeCasts_S32_S4x8 j
  refine ⟨ix2 (⟨2240 + (S4x8.rowMajor j).val / 128, by omega⟩ : Fin 2768) (⟨(S4x8.rowMajor j).val % 128, Nat.mod_lt _ (by decide)⟩ : Fin 128),
    fun X => (read_back_cut _ _ _ _ j (ix2 (⟨(S4x8.rowMajor j).val / 128, by omega⟩ : Fin 8) (⟨(S4x8.rowMajor j).val % 128, Nat.mod_lt _ (by decide)⟩ : Fin 128)) rfl rfl).trans (rows_from X _ _ _ rfl rfl), fun d x1 x2 x3 x4 x5 x6 x7 x8 => ?_⟩
  refine each_place (n := 32) (N := 1024) (e := 992) (off := 2240) x6 _ _ _ _ _ _ _ _ 5 (by exact (by decide : 5 < 8)) rfl rfl _ d _ (S4x8.rowMajor j).val hn (by decide) (by decide) rfl rfl ?_
  rw [Shape.rowMajor_val_three, Shape.rowMajor_val_two]
  show ((d.val * 4 + (j 0).val) * 8 + (j 1).val) = d.val * 32 + ((j 0).val * 8 + (j 1).val)
  omega
theorem place_7 (j : S_.Idx) : ∃ i, (∀ X, back_7 X j = X i) ∧ ∀ d x1 x2 x3 x4 x5 x6 x7 x8, packed x1 x2 x3 x4 x5 x6 x7 x8 (row d i) = x7 (ix1 d : S8.Idx) := by
  have hn : (S_.rowMajor j).val < 1 := number_lt shapeCasts_S1_S_ j
  refine ⟨ix2 (⟨2248 + (S_.rowMajor j).val / 128, by omega⟩ : Fin 2768) (⟨(S_.rowMajor j).val % 128, Nat.mod_lt _ (by decide)⟩ : Fin 128),
    fun X => (read_back_cut _ _ _ _ j (ix2 (⟨(S_.rowMajor j).val / 128, by omega⟩ : Fin 8) (⟨(S_.rowMajor j).val % 128, Nat.mod_lt _ (by decide)⟩ : Fin 128)) rfl rfl).trans (rows_from X _ _ _ rfl rfl), fun d x1 x2 x3 x4 x5 x6 x7 x8 => ?_⟩
  refine each_place (n := 1) (N := 1024) (e := 1023) (off := 2248) x7 _ _ _ _ _ _ _ _ 6 (by exact (by decide : 6 < 8)) rfl rfl _ d _ (S_.rowMajor j).val hn (by decide) (by decide) rfl rfl ?_
  rw [Shape.rowMajor_val_one]
  show d.val = d.val * 1 + (S_.rowMajor j).val
  omega
theorem place_8 (j : S4x8x2048.Idx) : ∃ i, (∀ X, back_8 X j = X i) ∧ ∀ d x1 x2 x3 x4 x5 x6 x7 x8, packed x1 x2 x3 x4 x5 x6 x7 x8 (row d i) = x8 (idx_main_v12 j d) := by
  have hn : (S4x8x2048.rowMajor j).val < 65536 := number_lt shapeCasts_S65536_S4x8x2048 j
  refine ⟨ix2 (⟨2256 + (S4x8x2048.rowMajor j).val / 128, by omega⟩ : Fin 2768) (⟨(S4x8x2048.rowMajor j).val % 128, Nat.mod_lt _ (by decide)⟩ : Fin 128),
    fun X => (read_back _ _ _ j (ix2 (⟨(S4x8x2048.rowMajor j).val / 128, by omega⟩ : Fin 512) (⟨(S4x8x2048.rowMajor j).val % 128, Nat.mod_lt _ (by decide)⟩ : Fin 128)) rfl rfl).trans (rows_from X _ _ _ rfl rfl), fun d x1 x2 x3 x4 x5 x6 x7 x8 => ?_⟩
  refine each_place (n := 65536) (N := 65536) (e := 0) (off := 2256) x8 _ _ _ _ _ _ _ _ 7 (by exact (by decide : 7 < 8)) rfl rfl _ d _ (S4x8x2048.rowMajor j).val hn (by decide) (by decide) rfl rfl ?_
  rw [Shape.rowMajor_val_four, Shape.rowMajor_val_three]
  show (((d.val * 4 + (j 0).val) * 8 + (j 1).val) * 2048 + (j 2).val) = d.val * 65536 + (((j 0).val * 8 + (j 1).val) * 2048 + (j 2).val)
  omega

/-! ## The blocks -/

theorem zero2 : (![0, 0] : Fin 2 → Nat) = fun _ => 0 := funext fun a => by fin_cases a <;> rfl

/-- The call's one step. -/
def first : Fin cfg0.N := ⟨0, by decide⟩

/-- The one block holds all rows. -/
theorem cover_1 (i : S2768x128.Idx) : ∃ t : Fin cfg0.N, (cfg0.win 1).flush t = true ∧ i ∈ ((cfg0.win 1).blk t).view.set := by
  refine ⟨first, flush0_1 _, ?_⟩
  show i ∈ ((View.whole main_v26).slice (win0_1.rect first)).set
  rw [View.set_slice_whole, Rect.mem_set_unit]
  intro a
  show 0 * S2768x128.size a ≤ (i a).val ∧ (i a).val < 0 * S2768x128.size a + S2768x128.size a
  rw [Nat.zero_mul, Nat.zero_add]
  exact ⟨Nat.zero_le _, (i a).isLt⟩

/-- So what a block reads is the array itself. -/
theorem block_0 (G : S22144x128.Idx → Val) (t : Fin cfg0.N) : ((cfg0.win 0).blk t).view.read (Elt Ideal) G = G :=
  funext fun i => congrArg G (funext fun a => Fin.ext ((Rect.idx_unit_val _ _ _ i a).trans (by
    show 0 * S22144x128.size a + (i a).val = (i a).val
    rw [Nat.zero_mul, Nat.zero_add])))
theorem block_1 (G : S2768x128.Idx → Val) (t : Fin cfg0.N) : ((cfg0.win 1).blk t).view.read (Elt Ideal) G = G :=
  funext fun i => congrArg G (funext fun a => Fin.ext ((Rect.idx_unit_val _ _ _ i a).trans (by
    show 0 * S2768x128.size a + (i a).val = (i a).val
    rw [Nat.zero_mul, Nat.zero_add])))

/-! ## The body, entry by entry -/

/-- What the call reads from row 2768 d on are the rows of device d. -/
theorem load_of (G : Vec Ideal S22144x128 .f32) (off : ℕ) (inb) (d : Fin 8) (h : off = d.val * 2768) (i : S2768x128.Idx) :
    View.ld G (Rect.unit (s := S22144x128) ![off, 0] S2768x128.size inb) i = G (row d i) :=
  View.ld_unit_apply_of G _ _ inb i (row d i) fun a => by
    subst h
    match a with
    | ⟨0, _⟩ => rfl
    | ⟨1, _⟩ => exact (Nat.zero_add _).symm

theorem body_total (G : Vec Ideal S22144x128 .f32) : out0_1 G = total G := by
  unfold out0_1
  rw [View.canon_unit_zero zero2]
  unfold k0_pay1
  simp only [shapeCast_self]
  funext i
  unfold total
  rw [Fin.sum_univ_eight, ← load_of G 0 inb_S22144x128_S2768x128_0_0 0 rfl i, ← load_of G 2768 inb_S22144x128_S2768x128_2768_0 1 rfl i,
    ← load_of G 5536 inb_S22144x128_S2768x128_5536_0 2 rfl i, ← load_of G 8304 inb_S22144x128_S2768x128_8304_0 3 rfl i,
    ← load_of G 11072 inb_S22144x128_S2768x128_11072_0 4 rfl i, ← load_of G 13840 inb_S22144x128_S2768x128_13840_0 5 rfl i,
    ← load_of G 16608 inb_S22144x128_S2768x128_16608_0 6 rfl i, ← load_of G 19376 inb_S22144x128_S2768x128_19376_0 7 rfl i]
  rfl

variable (m : (ℓ : Loc nD τ sig) → Buf (Elt Ideal) ℓ) (c : Dev nD)

/-! ## The arrays before the call and after it -/

/-- The eight devices' parts, in rows. -/
abbrev parts : S22144x128.Idx → Val :=
  packed (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

set_option maxHeartbeats 4000000

theorem V_parts : V m c main_v25 = parts m c := by
  simp only [V, V0, List.flatten_cons, List.flatten_nil, List.append_nil, List.cons_append, List.nil_append,
    TRef.nullary, TRef.unary, TRef.binary, TRef.toBuf, TRef.ofBuf, cast_eq]
  after_results_simp
  rfl

theorem arr_1 : (dats m 0 c).arrAt 1 cfg0.N = total (parts m c) := by
  rw [← V_parts]
  refine (dats m 0 c).arrAt_eq_of_cover 1 _ (fun t hf => ?_) cover_1
  show (cfg0.win 1).cut (grid0.coords t) ((dats m 0 c).after 1 t) = _
  have e : iblk m c 0 t = V m c main_v25 := block_0 _ t
  rw [after0_1, body_total, e]
  exact (block_1 (total (V m c main_v25)) t).symm

/-! ## The results -/

/-- The call's arrays are distinct. -/
theorem arr_inj : Function.Injective (Pipeline.arrRef spec0) := by decide

/-- The buffers as the lines after the call leave them. -/
abbrev left := Pipeline.afterTail₀ cfgs (dats m) 0 (V0 m) [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16] c

/-- A device's own channels of the convolution's weights. -/
def own (n : S_.Idx → BitVec 32) (x : S4x3x512.Idx → Val) : S4x3x128.Idx → Val :=
  Host.dynamicSlice S4x3x128 x (fun k => (((![constantI S_ 32 0#32, constantI S_ 32 0#32,
    select (cmpi .slt (muli n (constantI S_ 32 128#32)) (constantI S_ 32 0#32)) (addi (muli n (constantI S_ 32 128#32)) (constantI S_ 32 512#32)) (muli n (constantI S_ 32 128#32))] :
    Fin 3 → S_.Idx → BitVec 32) k (Shape.Idx.first h_S_)).toInt)) sliceFits_S4x3x512_S4x3x128

theorem tails : left m c main_v34 = back_1 ((dats m 0 c).arrAt 1 cfg0.N)
    ∧ left m c main_v50 = back_3 ((dats m 0 c).arrAt 1 cfg0.N)
    ∧ left m c main_v58 = back_4 ((dats m 0 c).arrAt 1 cfg0.N)
    ∧ left m c main_v66 = back_5 ((dats m 0 c).arrAt 1 cfg0.N)
    ∧ left m c main_v75 = back_6 ((dats m 0 c).arrAt 1 cfg0.N)
    ∧ left m c main_v84 = back_7 ((dats m 0 c).arrAt 1 cfg0.N)
    ∧ left m c main_v92 = back_8 ((dats m 0 c).arrAt 1 cfg0.N) := by
  have e := Pipeline.withArrays_arr spec0 arr_inj c (V0 m c) (fun w => (dats m 0 c).arrAt w cfg0.N) 1
  refine ⟨?_, ?_, ?_, ?_, ?_, ?_, ?_⟩ <;>
    (simp only [left, Pipeline.afterTail₀, List.flatten_cons, List.flatten_nil, List.append_nil, List.cons_append, List.nil_append,
      TRef.nullary, TRef.unary, TRef.binary, TRef.toBuf, TRef.ofBuf, cast_eq]
     after_results_simp)
  · exact congrArg back_1 e
  · exact congrArg back_3 e
  · exact congrArg back_4 e
  · exact congrArg back_5 e
  · exact congrArg back_6 e
  · exact congrArg back_7 e
  · exact congrArg back_8 e
theorem tail_own : left m c main_v97 = own (m ((c : Thread nD τ).loc main_arg0)) (back_2 ((dats m 0 c).arrAt 1 cfg0.N)) := by
  have h0 := (Pipeline.withArrays_of_ne spec0 c (V0 m c) (fun w => (dats m 0 c).arrAt w cfg0.N) main_arg0 (by exact (by decide : ∀ w, Pipeline.arrRef spec0 w ≠ main_arg0))).trans (V_main_arg0 m c)
  have h1 := congrArg back_2 (Pipeline.withArrays_arr spec0 arr_inj c (V0 m c) (fun w => (dats m 0 c).arrAt w cfg0.N) 1)
  simp only [left, Pipeline.afterTail₀, List.flatten_cons, List.flatten_nil, List.append_nil, List.cons_append, List.nil_append,
    TRef.nullary, TRef.unary, TRef.binary, TRef.toBuf, TRef.ofBuf, cast_eq]
  after_results_simp
  rw [← h0, ← h1]
  unfold own
  congr 1
  funext k
  fin_cases k <;>
    (try simp only [Matrix.cons_val_zero', Matrix.cons_val_succ', Fin.zero_eta, Fin.mk_one, Matrix.cons_val_zero, Matrix.cons_val_one, Matrix.head_cons]) <;>
    (try after_results_simp) <;> rfl

/-- A sum made on the rows and read back is the sum of the entry itself. -/
theorem total_of {s : Shape} {j : s.Idx} {back : (S2768x128.Idx → Val) → s.Idx → Val} {x : Fin 8 → Val}
    (h : ∃ i, (∀ X, back X j = X i) ∧ ∀ d, parts m c (row d i) = x d) : back (total (parts m c)) j = ∑ d, (x d : EReal) := by
  obtain ⟨i, hb, hx⟩ := h
  rw [hb]
  exact Finset.sum_congr rfl fun d _ => hx d

theorem sum_1 : back_1 (total (parts m c)) = over_1 (m ((c : Thread nD τ).loc main_arg1)) :=
  funext fun j => total_of m c ((place_1 j).imp fun i h => ⟨h.1, fun d => h.2 d _ _ _ _ _ _ _ _⟩)
theorem sum_2 : back_2 (total (parts m c)) = over_2 (m ((c : Thread nD τ).loc main_arg2)) :=
  funext fun j => total_of m c ((place_2 j).imp fun i h => ⟨h.1, fun d => h.2 d _ _ _ _ _ _ _ _⟩)
theorem sum_3 : back_3 (total (parts m c)) = over_3 (m ((c : Thread nD τ).loc main_arg3)) :=
  funext fun j => total_of m c ((place_3 j).imp fun i h => ⟨h.1, fun d => h.2 d _ _ _ _ _ _ _ _⟩)
theorem sum_4 : back_4 (total (parts m c)) = over_4 (m ((c : Thread nD τ).loc main_arg4)) :=
  funext fun j => total_of m c ((place_4 j).imp fun i h => ⟨h.1, fun d => h.2 d _ _ _ _ _ _ _ _⟩)
theorem sum_5 : back_5 (total (parts m c)) = over_5 (m ((c : Thread nD τ).loc main_arg5)) :=
  funext fun j => total_of m c ((place_5 j).imp fun i h => ⟨h.1, fun d => h.2 d _ _ _ _ _ _ _ _⟩)
theorem sum_6 : back_6 (total (parts m c)) = over_6 (m ((c : Thread nD τ).loc main_arg6)) :=
  funext fun j => total_of m c ((place_6 j).imp fun i h => ⟨h.1, fun d => h.2 d _ _ _ _ _ _ _ _⟩)
theorem sum_7 : back_7 (total (parts m c)) = over_7 (m ((c : Thread nD τ).loc main_arg7)) :=
  funext fun j => total_of m c ((place_7 j).imp fun i h => ⟨h.1, fun d => h.2 d _ _ _ _ _ _ _ _⟩)
theorem sum_8 : back_8 (total (parts m c)) = over_8 (m ((c : Thread nD τ).loc main_arg8)) :=
  funext fun j => total_of m c ((place_8 j).imp fun i h => ⟨h.1, fun d => h.2 d _ _ _ _ _ _ _ _⟩)

/-! ## The reference's sums -/

section Reference
open Cert.ReferenceSumsIdeal.Read

/-- The sum begins at zero. -/
theorem begun (x : EReal) : Scalar.ofBits (F := Ideal) .f32 0x00000000#32 + x = x := (congrArg (· + x) Ideal.ofBits_zero_f32).trans (zero_add x)

theorem plain_1 (x : S8x4x4x128x128.Idx → Val) : val_main_v8 (F := Ideal) x = over_1 x :=
  funext fun j => (val_main_v8_apply x j).trans (begun _)
theorem plain_2 (x : S8x4x3x512.Idx → Val) : val_main_v0 (F := Ideal) x = over_2 x :=
  funext fun j => (val_main_v0_apply x j).trans (begun _)
theorem plain_3 (x : S8x4x512.Idx → Val) : val_main_v9 (F := Ideal) x = over_3 x :=
  funext fun j => (val_main_v9_apply x j).trans (begun _)
theorem plain_4 (x : S8x4x2048.Idx → Val) : val_main_v10 (F := Ideal) x = over_4 x :=
  funext fun j => (val_main_v10_apply x j).trans (begun _)
theorem plain_5 (x : S8x4x2048.Idx → Val) : val_main_v11 (F := Ideal) x = over_5 x :=
  funext fun j => (val_main_v11_apply x j).trans (begun _)
theorem plain_6 (x : S8x4x8.Idx → Val) : val_main_v7 (F := Ideal) x = over_6 x :=
  funext fun j => (val_main_v7_apply x j).trans (begun _)
theorem over_eight (x : S8.Idx → Val) : (∑ j : S8.Idx, (x j : EReal)) = ∑ d : Fin 8, (x (ix1 d) : EReal) :=
  (Equiv.sum_comp (⟨fun d => ix1 d, fun j => j 0, fun _ => rfl, fun j => funext fun a => by match a with | ⟨0, _⟩ => rfl⟩ : Fin 8 ≃ S8.Idx) fun j => (x j : EReal)).symm
theorem plain_7 (x : S8.Idx → Val) : val_main_v6 (F := Ideal) x = over_7 x :=
  funext fun j => (val_main_v6_apply x j).trans ((begun _).trans (over_eight x))
theorem plain_8 (x : S8x4x8x2048.Idx → Val) : val_main_v12 (F := Ideal) x = over_8 x :=
  funext fun j => (val_main_v12_apply x j).trans (begun _)

end Reference

end Cert.KernelSumsIdeal.Sums

namespace Cert.Sums

open Idealize.ShloMosaic Idealize.ShloMosaic.TcCoe Idealize.SL.Sem
open Cert.KernelSumsIdeal Cert.KernelSumsIdeal.Gen Cert.KernelSumsIdeal.Sums

theorem frame_sums : Cert.quiescent_KernelSums := fun m g _ => Cert.KernelSums.Gen.frame (F := Bits) m g

theorem frame_sums_ideal : Cert.quiescent_KernelSumsIdeal := fun m g _ => Cert.KernelSumsIdeal.Gen.frame (F := Ideal) m g

theorem frame_sums_reference : Cert.quiescent_ReferenceSumsIdeal := fun m g _ =>
  (θ_run _ _ _).mono (fun r h => ⟨fun c => (h c).2.2.2.2.2.2.2.2, sem_eq_zero_of_no_sems (by decide) r.2⟩) (Cert.ReferenceSumsIdeal.Value.run (F := Ideal) m g)

set_option maxHeartbeats 4000000

theorem same_sums : Cert.algebraic_KernelSumsIdeal_ReferenceSumsIdeal := fun m g m' g' _ hm =>
  ⟨_, _, _, _, _, _, _, _, (θ_run _ _ _).mono (fun r h c =>
      have t := tails m c
      ⟨((h.2 c).2 main_v84 (Pipeline.mem_restRefs_of main_v84 (by decide) (by decide))).trans ((t.2.2.2.2.2.1).trans ((congrArg back_7 (arr_1 m c)).trans (sum_7 m c))),
        ((h.2 c).2 main_v75 (Pipeline.mem_restRefs_of main_v75 (by decide) (by decide))).trans ((t.2.2.2.2.1).trans ((congrArg back_6 (arr_1 m c)).trans (sum_6 m c))),
        ((h.2 c).2 main_v97 (Pipeline.mem_restRefs_of main_v97 (by decide) (by decide))).trans ((tail_own m c).trans (congrArg (own _) ((congrArg back_2 (arr_1 m c)).trans (sum_2 m c)))),
        ((h.2 c).2 main_v34 (Pipeline.mem_restRefs_of main_v34 (by decide) (by decide))).trans ((t.1).trans ((congrArg back_1 (arr_1 m c)).trans (sum_1 m c))),
        ((h.2 c).2 main_v50 (Pipeline.mem_restRefs_of main_v50 (by decide) (by decide))).trans ((t.2.1).trans ((congrArg back_3 (arr_1 m c)).trans (sum_3 m c))),
        ((h.2 c).2 main_v58 (Pipeline.mem_restRefs_of main_v58 (by decide) (by decide))).trans ((t.2.2.1).trans ((congrArg back_4 (arr_1 m c)).trans (sum_4 m c))),
        ((h.2 c).2 main_v66 (Pipeline.mem_restRefs_of main_v66 (by decide) (by decide))).trans ((t.2.2.2.1).trans ((congrArg back_5 (arr_1 m c)).trans (sum_5 m c))),
        ((h.2 c).2 main_v92 (Pipeline.mem_restRefs_of main_v92 (by decide) (by decide))).trans ((t.2.2.2.2.2.2).trans ((congrArg back_8 (arr_1 m c)).trans (sum_8 m c))),
        h.1 c⟩) (θ_run_and (unchanged m g) (run_main (F := Ideal) m g)),
    (θ_run _ _ _).mono (fun r h c => by
      obtain ⟨a0, a1, a2, a3, a4, a5, a6, a7, a8⟩ := hm c
      obtain ⟨r0, r1, r2, r3, r4, r5, r6, r7, hrest⟩ := h c
      refine ⟨r0.trans ?_, r1.trans ?_, r2.trans ?_, r3.trans ?_, r4.trans ?_, r5.trans ?_, r6.trans ?_, r7.trans ?_, hrest⟩
      · rw [← a7]; exact plain_7 _
      · rw [← a6]; exact plain_6 _
      · rw [← a0, ← a2]; exact congrArg (own _) (plain_2 _)
      · rw [← a1]; exact plain_1 _
      · rw [← a3]; exact plain_3 _
      · rw [← a4]; exact plain_4 _
      · rw [← a5]; exact plain_5 _
      · rw [← a8]; exact plain_8 _) (Cert.ReferenceSumsIdeal.Value.run (F := Ideal) m' g')⟩

end Cert.Sums

end
-- ==== Proof.Sums.Loss.lean ====
/-
  A device's own part of the loss, and its gradient: 256 rows at each of 16 grid points.
  A point writes the gradient of its own rows, and adds half the sum of its rows' mean squares to a block that stays in place.
  Half of a sum of terms none of which is negative is the sum of their halves, so what stands there in the end is half the sum over all rows.
-/
module

public import proofs.«01_k».proof.Defs
public import proofs.«01_k».proof.Proof.Gen.KernelLoss
public import proofs.«01_k».proof.Proof.Gen.KernelLoss.Frame
public import proofs.«01_k».proof.Proof.Gen.KernelLossIdeal
public import proofs.«01_k».proof.Proof.Gen.KernelLossIdeal.Frame
public import proofs.«01_k».proof.Proof.Gen.ReferenceLossIdeal
public import proofs.«01_k».proof.Proof.Gen.ReferenceLossIdeal.Run
public import proofs.«01_k».proof.Proof.Gen.ReferenceLossIdeal.Read
public import proofs.«01_k».proof.Proof.Prod.Entries
public import proofs.«01_k».proof.Proof.Norm.LnRef
public import Idealize.ShloMosaic.Lib.Pipeline.ValueKit.Tiles
public import Idealize.ShloMosaic.Lib.VecWindow
public import Idealize.ShloMosaic.Adequacy
public import Idealize.ShloMosaic.Init

@[expose] public section

set_option maxRecDepth 16384

noncomputable section

namespace Cert.KernelLossIdeal.Loss

open Cert.KernelLossIdeal Cert.KernelLossIdeal.Gen
open Idealize.ShloMosaic Idealize.ShloMosaic.TcCoe Idealize.ShloMosaic.ValueIdx Idealize.ShloMosaic.StableHlo Idealize.SL.Sem
open Cert.Prod (entry eq_entry no_offset)
open Cert.Norm (len len_eq two two_eq sums)
open Cert.KernelLnIdeal.Norm (from_zero add_block)
open scoped BigOperators

/-! ## The mathematics -/

/-- The word of one half. -/
abbrev half : EReal := Scalar.ofBits (F := Ideal) .f32 0x3F000000#32

theorem half_eq : half = ((1 / 2 : ℝ) : EReal) := by
  show Ideal.ofBits .f32 0x3F000000#32 = _
  simp [Ideal.ofBits, Ideal.ieee, -EReal.coe_mul]; norm_num

theorem one_eq : (Scalar.ofBits (F := Ideal) .f32 0x3F800000#32 : EReal) = ((1 : ℝ) : EReal) := by
  show Ideal.ofBits .f32 0x3F800000#32 = _
  simp [Ideal.ofBits, Ideal.ieee, -EReal.coe_mul]; norm_num

theorem div_len (x : EReal) : Ideal.div x len = x * ((1 / 2048 : ℝ) : EReal) := by rw [len_eq, Ideal.div_coe (by norm_num)]

/-- The gradient of half a mean square, with its factors gathered. -/
theorem grad_eq (x : EReal) : Ideal.div x len = Ideal.div (half * Scalar.ofBits (F := Ideal) .f32 0x3F800000#32) len * (two * x) := by
  rw [div_len, div_len, half_eq, one_eq, two_eq, ← mul_assoc, ← EReal.coe_mul, ← EReal.coe_mul, ← EReal.coe_mul, mul_comm]
  norm_num

/-- The mean square of row `i` of the difference. -/
def term (Y T : S4096x2048.Idx → EReal) (i : ℕ) : EReal := Ideal.div (∑ k : Fin 2048, (entry Y i k.val - entry T i k.val) * (entry Y i k.val - entry T i k.val)) len

theorem square_nonneg (x : EReal) : 0 ≤ x * x := by
  rcases le_total 0 x with h | h
  · exact mul_nonneg h h
  · exact EReal.mul_nonneg_iff.mpr (Or.inr ⟨h, h⟩)

theorem term_nonneg (Y T : S4096x2048.Idx → EReal) (i : ℕ) : 0 ≤ term Y T i := by
  rw [term, div_len]
  exact mul_nonneg (Finset.sum_nonneg fun k _ => square_nonneg _) (by exact_mod_cast (by norm_num : (0 : ℝ) ≤ 1 / 2048))

/-- Half the sum of the first `n` blocks' rows. -/
def total (Y T : S4096x2048.Idx → EReal) (n : ℕ) : EReal := half * ∑ p ∈ Finset.range (256 * n), term Y T p

theorem total_next (Y T : S4096x2048.Idx → EReal) (n : ℕ) : total Y T n + half * ∑ r : Fin 256, term Y T (256 * n + r.val) = total Y T (n + 1) := by
  rw [total, total, ← add_block, EReal.left_distrib_of_nonneg (Finset.sum_nonneg fun p _ => term_nonneg Y T p) (Finset.sum_nonneg fun r _ => term_nonneg Y T _)]

/-! ## What a point leaves -/

section Body
variable {F : FTy → Type} [FloatOps F]

theorem load_x (a : Memref sig .tc .vmem S256x2048 .f32) (h : a.IsWhole) (x : Vec F S256x2048 .f32) :
    View.readAt (Elt F) a.view (Rect.unit (s := S256x2048) ![0, 0] S256x2048.size inb_S256x2048_S256x2048_0_0).toLoadRect (h.unread x) = x := by
  rw [View.readAt_eq_ld, h.read_unread]
  exact View.ld_unit_zero (S := S256x2048) no_offset _ _

variable (c : Dev nD) (i : grid0.Coords) (a1 : Memref sig .tc .vmem S256x2048 .f32) (h1 : a1.IsWhole) (a2 : Memref sig .tc .vmem S256x2048 .f32) (h2 : a2.IsWhole)
  (a3 : Memref sig .tc .vmem S256x2048 .f32) (h3 : a3.IsWhole) (a4 : Memref sig .tc .vmem S8x128 .f32) (h4 : a4.IsWhole) (x y : Vec F S256x2048 .f32) (s : Vec F S8x128 .f32)

theorem first2 (hc : cond0_0 i) : out0_A_2 c i a1 h1 a2 h2 a3 h3 a4 h4 hc x y = k0_pay3 x y := by
  unfold out0_A_2
  rw [View.read_writes_eq_canon _ _ _ (cover0_A_2 c i a1 h1 a2 h2 a3 h3 a4 h4 hc x y)]
  unfold kernelRun0_A
  dsimp only
  rw [View.canon_unit_zero no_offset]
  rw [load_x a1 h1 x, load_x a2 h2 y]

theorem later2 (hc : ¬cond0_0 i) : out0_B_2 c i a1 h1 a2 h2 a3 h3 a4 h4 hc x y s = k0_pay3 x y := by
  unfold out0_B_2
  rw [View.read_writes_eq_canon _ _ _ (cover0_B_2 c i a1 h1 a2 h2 a3 h3 a4 h4 hc x y s)]
  unfold kernelRun0_B
  dsimp only
  rw [View.canon_unit_zero no_offset]
  rw [load_x a1 h1 x, load_x a2 h2 y]

theorem first3 (hc : cond0_0 i) : out0_A_3 c i a1 h1 a2 h2 a3 h3 a4 h4 hc x y = k0_pay4 x y k0_pay1 := by
  unfold out0_A_3
  rw [View.read_writes_eq_canon _ _ _ (cover0_A_3 c i a1 h1 a2 h2 a3 h3 a4 h4 hc x y)]
  unfold kernelRun0_A
  dsimp only
  rw [View.canon_cons_unit_zero no_offset]
  rw [load_x a1 h1 x, load_x a2 h2 y]
  exact congrArg (k0_pay4 x y) (View.readCov_full _ _ _ _ _)

theorem later3 (hc : ¬cond0_0 i) : out0_B_3 c i a1 h1 a2 h2 a3 h3 a4 h4 hc x y s = k0_pay4 x y s := by
  unfold out0_B_3
  rw [View.read_writes_eq_canon _ _ _ (cover0_B_3 c i a1 h1 a2 h2 a3 h3 a4 h4 hc x y s)]
  unfold kernelRun0_B
  dsimp only
  rw [View.canon_unit_zero no_offset]
  rw [load_x a1 h1 x, load_x a2 h2 y, View.readAt_eq_ld, h4.read_unread]
  exact congrArg (k0_pay4 x y) (View.ld_unit_zero (S := S8x128) no_offset _ _)

end Body

/-- The mean squares of a block's rows, summed. -/
theorem block_sum (v : FVec Ideal S256x2048 .f32) (h h' h₁ h₂) (j : S1.Idx) :
    multiReduction .add [1, 2] S1 (shapeCast S1x256x1 (divf (shapeCast S256x1 (multiReduction .add [1] S256 v 0x00000000#32 h (.inl rfl) rfl) h') (broadcast S256x1 (Scalar.ofBits .f32 0x45000000#32))) h₁)
      0x00000000#32 h₂ (.inl rfl) rfl j = ∑ r : Fin 256, Ideal.div (∑ k : Fin 2048, v (ix2 r k)) len := by
  refine (Ideal.multiReduction_add_total _ _ h₂ (by decide) (.inl rfl) rfl j).trans ?_
  refine (Equiv.sum_comp (⟨fun r => ix3 0 r 0, fun i => i 1, fun _ => rfl, fun i => funext fun a => by
    match a with
    | ⟨0, _⟩ => exact Subsingleton.elim (α := Fin 1) _ _
    | ⟨1, _⟩ => rfl
    | ⟨2, _⟩ => exact Subsingleton.elim (α := Fin 1) _ _⟩ : Fin 256 ≃ S1x256x1.Idx) _).symm.trans (Finset.sum_congr rfl fun r _ => ?_)
  refine (shapeCast_apply _ h₁ (ix3 0 r 0) (ix2 r 0) (by rw [Shape.rowMajor_val_two, Shape.rowMajor_val_three]; show r.val * 1 + 0 = (0 * 256 + r.val) * 1 + 0; omega)).trans ?_
  exact congrArg (Ideal.div · len) (sums v h h' r)

theorem pay4_apply (x y : Vec Ideal S256x2048 .f32) (s : Vec Ideal S8x128 .f32) (i : S8x128.Idx) :
    (k0_pay4 (F := Ideal) x y s i : EReal) = s i + half * ∑ r : Fin 256, Ideal.div (∑ k : Fin 2048, (x (ix2 r k) - y (ix2 r k)) * (x (ix2 r k) - y (ix2 r k))) len := by
  unfold k0_pay4
  exact congrArg₂ (· + ·) (congrFun (shapeCast_self s _) _) (congrArg (half * ·) (block_sum _ _ _ _ _ _))

variable (m : (ℓ : Loc nD τ sig) → Buf (Elt Ideal) ℓ) (c : Dev nD)

/-- The last layer's output, and the target. -/
abbrev argY : S4096x2048.Idx → EReal := m ((c.tc : Thread nD τ).loc main_arg0)
abbrev argT : S4096x2048.Idx → EReal := m ((c.tc : Thread nD τ).loc main_arg1)

theorem places : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0 :=
  (by decide +kernel : ∀ t : Fin grid0.N, _)

theorem writes_back : ∀ t : Fin cfg0.N, (cfg0.win 2).flush t = true ∧ ((cfg0.win 3).flush t = true ↔ t.val = 15) :=
  (by decide +kernel : ∀ t : Fin grid0.N, win0_2.flush t = true ∧ (win0_3.flush t = true ↔ t.val = 15))

theorem block_y (t : Fin cfg0.N) (r : Fin 256) (k : Fin 2048) : iblk m c 0 t (ix2 r k : S256x2048.Idx) = entry (argY m c) (256 * t.val + r.val) k.val := by
  obtain ⟨e0, e1, -⟩ := places t
  refine eq_entry (argY m c) (((cfg0.win 0).blk t).view.emb (ix2 r k : S256x2048.Idx)) _ _ ?_ ?_
  · show win0_0.index t (0 : Fin 2) * 256 + 1 * r.val = _; omega
  · show win0_0.index t (1 : Fin 2) * 2048 + 1 * k.val = _; omega

theorem block_t (t : Fin cfg0.N) (r : Fin 256) (k : Fin 2048) : iblk m c 1 t (ix2 r k : S256x2048.Idx) = entry (argT m c) (256 * t.val + r.val) k.val := by
  obtain ⟨-, -, e0, e1, -⟩ := places t
  refine eq_entry (argT m c) (((cfg0.win 1).blk t).view.emb (ix2 r k : S256x2048.Idx)) _ _ ?_ ?_
  · show win0_1.index t (0 : Fin 2) * 256 + 1 * r.val = _; omega
  · show win0_1.index t (1 : Fin 2) * 2048 + 1 * k.val = _; omega

theorem outs2 (t : Fin cfg0.N) : (outsAt0 m c t.val t.isLt).1 = k0_pay3 (iblk m c 0 t) (iblk m c 1 t) := by
  by_cases h : t.val % 16 = 0
  · rw [outsAt0_A m c t h]; dsimp only; rw [first2]
  · rw [outsAt0_B m c t h]; dsimp only; rw [later2]

theorem next_eq (t : Fin cfg0.N) (s : Vec Ideal S8x128 .f32) (hs : ∀ i, (s i : EReal) = total (argY m c) (argT m c) t.val) (i : S8x128.Idx) :
    (k0_pay4 (iblk m c 0 t) (iblk m c 1 t) s i : EReal) = total (argY m c) (argT m c) (t.val + 1) := by
  refine (pay4_apply _ _ s i).trans (Eq.trans ?_ (total_next _ _ t.val))
  refine congrArg₂ (· + ·) (hs i) (congrArg (half * ·) (Finset.sum_congr rfl fun r _ => congrArg (Ideal.div · len) (Finset.sum_congr rfl fun k _ => ?_)))
  exact congrArg₂ (fun a b : EReal => (a - b) * (a - b)) (block_y m c t r k) (block_t m c t r k)

/-- Every entry of the block that stays in place is the loss of the rows met so far. -/
theorem outs3 (n : ℕ) (hn : n < cfg0.N) (i : S8x128.Idx) : ((outsAt0 m c n hn).2 i : EReal) = total (argY m c) (argT m c) (n + 1) := by
  induction n generalizing i with
  | zero =>
    rw [outsAt0_A m c ⟨0, hn⟩ rfl]; dsimp only; rw [first3]
    refine next_eq m c ⟨0, hn⟩ _ (fun j => ?_) i
    rw [total, show 256 * 0 = 0 from rfl, Finset.range_zero, Finset.sum_empty, mul_zero]
    exact Ideal.ofBits_zero_f32
  | succ n ih =>
    have hN : cfg0.N = 16 := N_0
    rw [outsAt0_B m c ⟨n + 1, hn⟩ (by dsimp only; omega)]
    dsimp only
    rw [later3]
    exact next_eq m c ⟨n + 1, hn⟩ _ (ih (Nat.lt_of_succ_lt hn)) i

/-! ## What the kernel leaves -/

/-- The gradient. -/
def grad (Y T : S4096x2048.Idx → EReal) (i : S4096x2048.Idx) : EReal := Ideal.div (Y i - T i) len

theorem result2 : ((dats m 0 c).arrAt 2 cfg0.N : S4096x2048.Idx → EReal) = grad (argY m c) (argT m c) := by
  have hN : cfg0.N = 16 := N_0
  refine (dats m 0 c).arrAt_eq_of_cover 2 _ (fun t _ => ?_) fun (i : S4096x2048.Idx) => ?_
  · obtain ⟨a0, a1, b0, b1, e0, e1, -⟩ := places t
    show (cfg0.win 2).cut (grid0.coords t) ((dats m 0 c).after 2 t) = _
    rw [after0_2, outs2]
    funext j
    refine congrArg₂ (fun a b : EReal => Ideal.div (a - b) len) (congrArg (argY m c) ?_) (congrArg (argT m c) ?_)
    · funext a; apply Fin.ext
      match a with
      | ⟨0, _⟩ => show win0_0.index t (0 : Fin 2) * 256 + 1 * (j 0).val = win0_2.index t (0 : Fin 2) * 256 + 1 * (j 0).val; omega
      | ⟨1, _⟩ => show win0_0.index t (1 : Fin 2) * 2048 + 1 * (j 1).val = win0_2.index t (1 : Fin 2) * 2048 + 1 * (j 1).val; omega
    · funext a; apply Fin.ext
      match a with
      | ⟨0, _⟩ => show win0_1.index t (0 : Fin 2) * 256 + 1 * (j 0).val = win0_2.index t (0 : Fin 2) * 256 + 1 * (j 0).val; omega
      | ⟨1, _⟩ => show win0_1.index t (1 : Fin 2) * 2048 + 1 * (j 1).val = win0_2.index t (1 : Fin 2) * 2048 + 1 * (j 1).val; omega
  · have hi0 : (i 0).val < 4096 := (i 0).isLt
    have hi1 : (i 1).val < 2048 := (i 1).isLt
    obtain ⟨t, ht⟩ : ∃ t : Fin cfg0.N, t.val = (i 0).val / 256 := ⟨⟨_, by rw [hN]; omega⟩, rfl⟩
    refine ⟨t, (writes_back t).1, ?_⟩
    obtain ⟨-, -, -, -, e0, e1, -⟩ := places t
    show i ∈ ((View.whole main_v0_0).slice (win0_2.rect t)).set
    rw [View.set_slice_whole, Rect.mem_set_unit]
    intro a
    match a with
    | ⟨0, _⟩ => show win0_2.index t (0 : Fin 2) * 256 ≤ (i 0).val ∧ (i 0).val < win0_2.index t (0 : Fin 2) * 256 + 256; omega
    | ⟨1, _⟩ => show win0_2.index t (1 : Fin 2) * 2048 ≤ (i 1).val ∧ (i 1).val < win0_2.index t (1 : Fin 2) * 2048 + 2048; omega

/-- The block of the loss, written back once, after the last point. -/
theorem result3 : ((dats m 0 c).arrAt 3 cfg0.N : S8x128.Idx → EReal) = fun _ => total (argY m c) (argT m c) 16 := by
  have hN : cfg0.N = 16 := N_0
  refine (dats m 0 c).arrAt_eq_of_cover 3 _ (fun t hf => ?_) fun (i : S8x128.Idx) => ?_
  · have ht := (writes_back t).2.mp hf
    show (cfg0.win 3).cut (grid0.coords t) ((dats m 0 c).after 3 t) = _
    rw [after0_3]
    funext j
    refine (outs3 m c t.val t.isLt j).trans ?_
    rw [ht]; rfl
  · obtain ⟨t, ht⟩ : ∃ t : Fin cfg0.N, t.val = 15 := ⟨⟨15, by rw [hN]; decide⟩, rfl⟩
    refine ⟨t, (writes_back t).2.mpr ht, ?_⟩
    obtain ⟨-, -, -, -, -, -, e0, e1⟩ := places t
    have hi0 : (i 0).val < 8 := (i 0).isLt
    have hi1 : (i 1).val < 128 := (i 1).isLt
    show i ∈ ((View.whole main_v0_1).slice (win0_3.rect t)).set
    rw [View.set_slice_whole, Rect.mem_set_unit]
    intro a
    match a with
    | ⟨0, _⟩ => show win0_3.index t (0 : Fin 2) * 8 ≤ (i 0).val ∧ (i 0).val < win0_3.index t (0 : Fin 2) * 8 + 8; omega
    | ⟨1, _⟩ => show win0_3.index t (1 : Fin 2) * 128 ≤ (i 1).val ∧ (i 1).val < win0_3.index t (1 : Fin 2) * 128 + 128; omega

/-- The loss is read from the block's first entry. -/
def corner (X : S8x128.Idx → EReal) : S_.Idx → EReal := shapeCast S_ (extractStridedSlice S1x1 ![0, 0] X slices_S8x128_S1x1_0_0) shapeCasts_S1x1_S_

theorem tail_loss : Pipeline.afterTail₀ cfgs (dats m) 0 (V0 m) [hostOps1] c main_v2 = corner ((dats m 0 c).arrAt 3 cfg0.N) := by
  simp only [Pipeline.afterTail₀, List.flatten_cons, List.flatten_nil, List.append_nil, List.cons_append, List.nil_append,
    TRef.nullary, TRef.unary, TRef.binary, TRef.toBuf, TRef.ofBuf, cast_eq]
  after_results_simp
  exact congrArg corner (Pipeline.withArrays_arr spec0 (by decide) c (V0 m c) _ 3)

/-! ## The reference -/

section Reference
open Cert.ReferenceLossIdeal.Read

theorem ref_loss (Y T : S4096x2048.Idx → EReal) (j : S_.Idx) : val_main_v8 (F := Ideal) Y T j = total Y T 16 := by
  rw [val_main_v8_apply, val_main_v7_apply]
  refine congrArg (half * ·) ((from_zero _).trans ?_)
  rw [show 256 * 16 = 4096 from rfl, Finset.sum_range]
  refine (Equiv.sum_comp (⟨fun d => ix1 d, fun j => j 0, fun _ => rfl, fun j => funext fun a => by match a with | ⟨0, _⟩ => rfl⟩ : Fin 4096 ≃ Cert.ReferenceLossIdeal.S4096.Idx) _).symm.trans
    (Finset.sum_congr rfl fun p _ => ?_)
  rw [val_main_v6_apply, val_main_v4_apply, val_main_v5_apply]
  refine congrArg (Ideal.div · len) ((from_zero _).trans (Finset.sum_congr rfl fun k _ => ?_))
  exact congrArg₂ (fun a b : EReal => (a - b) * (a - b)) (eq_entry Y _ _ _ rfl rfl) (eq_entry T _ _ _ rfl rfl)

theorem ref_grad (Y T : S4096x2048.Idx → EReal) (i : S4096x2048.Idx) : val_main_v14 (F := Ideal) Y T i = grad Y T i := by
  rw [val_main_v14_apply, val_main_v13_apply, val_main_v12_apply, val_main_v10_apply, val_main_v11_apply, val_main_v3_apply, val_main_v2_apply]
  exact (grad_eq (Y i - T i)).symm

end Reference

end Cert.KernelLossIdeal.Loss

namespace Cert.Loss

open Idealize.ShloMosaic Idealize.ShloMosaic.TcCoe Idealize.SL.Sem
open Cert.KernelLossIdeal Cert.KernelLossIdeal.Gen Cert.KernelLossIdeal.Loss

theorem frame_loss : Cert.quiescent_KernelLoss := fun m g _ => Cert.KernelLoss.Gen.frame (F := Bits) m g

theorem frame_loss_ideal : Cert.quiescent_KernelLossIdeal := fun m g _ => Cert.KernelLossIdeal.Gen.frame (F := Ideal) m g

theorem frame_loss_reference : Cert.quiescent_ReferenceLossIdeal := fun m g _ =>
  (θ_run _ _ _).mono (fun r h => ⟨fun c => (h c).2.2, sem_eq_zero_of_no_sems (by decide) r.2⟩) (Cert.ReferenceLossIdeal.Value.run (F := Ideal) m g)

/-- Both programs end with the same loss and the same gradient. -/
theorem same_loss : Cert.algebraic_KernelLossIdeal_ReferenceLossIdeal := fun m g m' g' _ hm =>
  ⟨fun c => (fun _ => total (argY m c) (argT m c) 16 : S_.Idx → EReal), fun c => grad (argY m c) (argT m c), (θ_run _ _ _).mono (fun r h c =>
      ⟨((h.2 c).2 main_v2 (Pipeline.mem_restRefs_of main_v2 (by decide) (by decide))).trans ((tail_loss m c).trans (congrArg corner (result3 m c))),
        ((h.2 c).1 2).trans (result2 m c), h.1 c⟩) (θ_run_and (unchanged m g) (run_main (F := Ideal) m g)),
    (θ_run _ _ _).mono (fun r h c => by
      obtain ⟨a0, a1⟩ := hm c
      obtain ⟨r0, r1, hrest⟩ := h c
      refine ⟨r0.trans ?_, r1.trans ?_, hrest⟩
      · rw [a0, a1]; exact funext (ref_loss (argY m c) (argT m c))
      · rw [a0, a1]; exact funext (ref_grad (argY m c) (argT m c))) (Cert.ReferenceLossIdeal.Value.run (F := Ideal) m' g')⟩

end Cert.Loss

end
-- ==== Proof.lean ====
/-
  The proof of `Cert.Claim`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Attn.Run
public import proofs.«01_k».proof.Proof.Attn.Ends
public import proofs.«01_k».proof.Proof.Attn.Prepared
public import proofs.«01_k».proof.Proof.Attn.Finite
public import proofs.«01_k».proof.Proof.Ref.Results
public import proofs.«01_k».proof.Proof.Attn.Words
public import proofs.«01_k».proof.Proof.Prod.Claims
public import proofs.«01_k».proof.Proof.Norm.Claims
public import proofs.«01_k».proof.Proof.Norm.LnClaims
public import proofs.«01_k».proof.Proof.Fwd.Claims
public import proofs.«01_k».proof.Proof.Adam.Out
public import proofs.«01_k».proof.Proof.Adam.In
public import proofs.«01_k».proof.Proof.Adam.Small
public import proofs.«01_k».proof.Proof.Sums.Small
public import proofs.«01_k».proof.Proof.Sums.Loss
public import Idealize.ShloMosaic.Adequacy
public import Idealize.ShloMosaic.Init

@[expose] public section

noncomputable section

namespace Cert.Proof

open Idealize.ShloMosaic Idealize.SL.Sem
open Cert.KernelIdeal.Attn (mat full rows88)

theorem frame_ideal : Cert.quiescent_KernelIdeal := fun m g _ =>
  (θ_run _ _ _).mono (fun _ h => ⟨fun c => Cert.KernelIdeal.Attn.args_kept h.1 c, h.2⟩) (Cert.KernelIdeal.Attn.run (F := Ideal) m g)

theorem frame_reference : Cert.quiescent_ReferenceIdeal := fun m g _ =>
  (θ_run _ _ _).mono (fun r h => ⟨fun c => ⟨(h c).2.2.2.2.2.1, (h c).2.2.2.2.2.2.1, (h c).2.2.2.2.2.2.2⟩, sem_eq_zero_of_no_sems (by decide) r.2⟩)
    (Cert.ReferenceIdeal.Value.run (F := Ideal) m g)

theorem names : Cert.preserves_Kernel_KernelIdeal :=
  ⟨IdealRules.named_const.statement Cert.KernelIdeal.κ "log2_e" .f32 0x3FB8AA3B#32 _ rfl,
    IdealRules.named_const.statement Cert.KernelIdeal.κ "scale_log2_e" .f32 0x3E0293EE#32 _ rfl⟩

theorem facts_finite : Cert.Pre_finite.Facts := ⟨by decide, by decide, by decide, by decide⟩

section
variable [Cert.Pre_finite.Facts]

theorem frame_ideal_finite : Cert.quiescent_KernelIdeal_pre_finite := fun m g _ => frame_ideal m g trivial

theorem frame_reference_finite : Cert.quiescent_ReferenceIdeal_pre_finite := fun m g _ => frame_reference m g trivial

/-- From real arguments both programs end with the same five results. -/
theorem same_results : Cert.algebraic_KernelIdeal_ReferenceIdeal_pre_finite := fun m g m' g' hp hm => by
  choose x o cum hr using fun c => Cert.KernelIdeal.Attn.reals_of_pre hp c
  refine ⟨fun c => (mat (full (x c) (o c) (cum c)).dq : Cert.KernelIdeal.S4096x1024.Idx → EReal),
    fun c => (mat (full (x c) (o c) (cum c)).dk : Cert.KernelIdeal.S4096x1024.Idx → EReal),
    fun c => (mat (full (x c) (o c) (cum c)).dv : Cert.KernelIdeal.S4096x1024.Idx → EReal),
    fun c => rows88 (full (x c) (o c) (cum c)).row, fun c => rows88 (full (x c) (o c) (cum c)).col, ?_, ?_⟩
  · refine (θ_run _ _ _).mono (fun r h c => ?_) (Cert.KernelIdeal.Attn.run (F := Ideal) m g)
    obtain ⟨h0, h1, h2⟩ := hr c
    obtain ⟨e0, e1, e2, e3, e4⟩ := Cert.KernelIdeal.Attn.ends (Cert.KernelIdeal.Attn.finds (x c) (o c) (cum c) h0 h1 h2) h.1
    exact ⟨e0, e1, e2, e3, e4, Cert.KernelIdeal.Attn.args_kept h.1 c⟩
  · refine (θ_run _ _ _).mono (fun r h c => ?_) (Cert.ReferenceIdeal.Value.run (F := Ideal) m' g')
    obtain ⟨h0, h1, h2⟩ := hr c
    obtain ⟨k0, k1, k2⟩ := hm c
    have a0 := k0.trans h0
    have a1 := k1.trans h1
    have a2 := k2.trans h2
    obtain ⟨e0, e1, e2, e3, e4, kept⟩ := h c
    refine ⟨e0.trans ?_, e1.trans ?_, e2.trans ?_, e3.trans ?_, e4.trans ?_, kept⟩
    · rw [Cert.ReferenceIdeal.Read.val_main_v98_eq, a0, a1, a2]; exact Cert.ReferenceIdeal.Attn.r98 _ _ _
    · rw [Cert.ReferenceIdeal.Read.val_main_v100_eq, a0, a1, a2]; exact Cert.ReferenceIdeal.Attn.r100 _ _ _
    · rw [Cert.ReferenceIdeal.Read.val_main_v102_eq, a0, a1, a2]; exact Cert.ReferenceIdeal.Attn.r102 _ _ _
    · rw [Cert.ReferenceIdeal.Read.val_main_v104_eq, a0, a1, a2]; exact Cert.ReferenceIdeal.Attn.r104 _ _ _
    · rw [Cert.ReferenceIdeal.Read.val_main_v107_eq, a0, a1, a2]; exact Cert.ReferenceIdeal.Attn.r107 _ _ _

end

open Cert.Prod Cert.Norm Cert.Fwd Cert.Adam Cert.Sums Cert.Loss in
theorem claim : Cert.Claim :=
  ⟨Cert.Kernel.Gen.facts, Cert.KernelIdeal.Gen.facts, Cert.ReferenceIdeal.Gen.facts,
    Cert.KernelDx.Gen.facts, Cert.KernelDxIdeal.Gen.facts, Cert.ReferenceDxIdeal.Gen.facts,
    Cert.KernelDw.Gen.facts, Cert.KernelDwIdeal.Gen.facts, Cert.ReferenceDwIdeal.Gen.facts,
    Cert.KernelDy.Gen.facts, Cert.KernelDyIdeal.Gen.facts, Cert.ReferenceDyIdeal.Gen.facts,
    Cert.KernelDwo.Gen.facts, Cert.KernelDwoIdeal.Gen.facts, Cert.ReferenceDwoIdeal.Gen.facts,
    Cert.KernelDwf.Gen.facts, Cert.KernelDwfIdeal.Gen.facts, Cert.ReferenceDwfIdeal.Gen.facts,
    Cert.KernelMain.Gen.facts, Cert.KernelMainIdeal.Gen.facts, Cert.ReferenceMainIdeal.Gen.facts,
    Cert.KernelFg.Gen.facts, Cert.KernelFgIdeal.Gen.facts, Cert.ReferenceFgIdeal.Gen.facts,
    Cert.KernelOut.Gen.facts, Cert.KernelOutIdeal.Gen.facts, Cert.ReferenceOutIdeal.Gen.facts,
    Cert.KernelLn.Gen.facts, Cert.KernelLnIdeal.Gen.facts, Cert.ReferenceLnIdeal.Gen.facts,
    Cert.KernelFwd.Gen.facts, Cert.KernelFwdIdeal.Gen.facts, Cert.ReferenceFwdIdeal.Gen.facts,
    Cert.KernelAdamOut.Gen.facts, Cert.KernelAdamOutIdeal.Gen.facts, Cert.ReferenceAdamOutIdeal.Gen.facts,
    Cert.KernelAdamIn.Gen.facts, Cert.KernelAdamInIdeal.Gen.facts, Cert.ReferenceAdamInIdeal.Gen.facts,
    Cert.KernelAdamSmall.Gen.facts, Cert.KernelAdamSmallIdeal.Gen.facts, Cert.ReferenceAdamSmallIdeal.Gen.facts,
    Cert.KernelSums.Gen.facts, Cert.KernelSumsIdeal.Gen.facts, Cert.ReferenceSumsIdeal.Gen.facts,
    Cert.KernelLoss.Gen.facts, Cert.KernelLossIdeal.Gen.facts, Cert.ReferenceLossIdeal.Gen.facts,
    facts_finite, facts_finite_ln, facts_finite_fwd,
    Cert.Kernel.Attn.frame_kernel, frame_ideal, @frame_ideal_finite facts_finite, frame_reference, @frame_reference_finite facts_finite,
    frame_dx, frame_dx_ideal, frame_dx_reference,
    frame_dw, frame_dw_ideal, frame_dw_reference,
    frame_dy, frame_dy_ideal, frame_dy_reference,
    frame_dwo, frame_dwo_ideal, frame_dwo_reference,
    frame_dwf, frame_dwf_ideal, frame_dwf_reference,
    frame_main, frame_main_ideal, frame_main_reference,
    frame_fg, frame_fg_ideal, frame_fg_reference,
    frame_out, frame_out_ideal, frame_out_reference,
    frame_ln, frame_ln_ideal, @frame_ln_ideal_finite facts_finite_ln, frame_ln_reference, @frame_ln_reference_finite facts_finite_ln,
    frame_fwd, frame_fwd_ideal, @frame_fwd_ideal_finite facts_finite_fwd, frame_fwd_reference, @frame_fwd_reference_finite facts_finite_fwd,
    frame_adam_out, frame_adam_out_ideal, frame_adam_out_reference,
    frame_adam_in, frame_adam_in_ideal, frame_adam_in_reference,
    frame_adam_small, frame_adam_small_ideal, frame_adam_small_reference,
    frame_sums, frame_sums_ideal, frame_sums_reference,
    frame_loss, frame_loss_ideal, frame_loss_reference,
    names, @same_results facts_finite, trivial, same_dx, trivial, same_dw, trivial, same_dy, trivial, same_dwo, trivial, same_dwf, trivial, same_main, trivial, same_fg, trivial, same_out,
    trivial, @same_ln facts_finite_ln, names_fwd, @same_fwd facts_finite_fwd, trivial, same_adam_out, trivial, same_adam_in, trivial, same_adam_small, trivial, same_sums, trivial, same_loss⟩

end Cert.Proof

end
